-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_ConvInDw (m : (ℓ : Loc Cert.ConvInDw.nD Cert.ConvInDw.τ Cert.ConvInDw.sig) → Buf (Elt Bits) ℓ) : Prop :=
  True

def Pre_ConvInDwIdeal (m : (ℓ : Loc Cert.ConvInDwIdeal.nD Cert.ConvInDwIdeal.τ Cert.ConvInDwIdeal.sig) → Buf (Elt Ideal) ℓ) : Prop :=
  True

def Pre_ConvInDwReferenceIdeal (m : (ℓ : Loc Cert.ConvInDwReferenceIdeal.nD Cert.ConvInDwReferenceIdeal.τ Cert.ConvInDwReferenceIdeal.sig) → Buf (Elt Ideal) ℓ) : Prop :=
  True

def Pre_ConvInDx (m : (ℓ : Loc Cert.ConvInDx.nD Cert.ConvInDx.τ Cert.ConvInDx.sig) → Buf (Elt Bits) ℓ) : Prop :=
  True

def Pre_ConvInDxIdeal (m : (ℓ : Loc Cert.ConvInDxIdeal.nD Cert.ConvInDxIdeal.τ Cert.ConvInDxIdeal.sig) → Buf (Elt Ideal) ℓ) : Prop :=
  True

def Pre_ConvInDxReferenceIdeal (m : (ℓ : Loc Cert.ConvInDxReferenceIdeal.nD Cert.ConvInDxReferenceIdeal.τ Cert.ConvInDxReferenceIdeal.sig) → Buf (Elt Ideal) ℓ) : Prop :=
  True

def Pre_FoxInDx (m : (ℓ : Loc Cert.FoxInDx.nD Cert.FoxInDx.τ Cert.FoxInDx.sig) → Buf (Elt Bits) ℓ) : Prop :=
  True

def Pre_FoxInDxIdeal (m : (ℓ : Loc Cert.FoxInDxIdeal.nD Cert.FoxInDxIdeal.τ Cert.FoxInDxIdeal.sig) → Buf (Elt Ideal) ℓ) : Prop :=
  True

def Pre_FoxInDxReferenceIdeal (m : (ℓ : Loc Cert.FoxInDxReferenceIdeal.nD Cert.FoxInDxReferenceIdeal.τ Cert.FoxInDxReferenceIdeal.sig) → Buf (Elt Ideal) ℓ) : Prop :=
  True

def Pre_FoxIn (m : (ℓ : Loc Cert.FoxIn.nD Cert.FoxIn.τ Cert.FoxIn.sig) → Buf (Elt Bits) ℓ) : Prop :=
  True

def Pre_FoxInIdeal (m : (ℓ : Loc Cert.FoxInIdeal.nD Cert.FoxInIdeal.τ Cert.FoxInIdeal.sig) → Buf (Elt Ideal) ℓ) : Prop :=
  True

def Pre_FoxInReferenceIdeal (m : (ℓ : Loc Cert.FoxInReferenceIdeal.nD Cert.FoxInReferenceIdeal.τ Cert.FoxInReferenceIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInReferenceIdeal (m : (ℓ : Loc Cert.ConvInReferenceIdeal.nD Cert.ConvInReferenceIdeal.τ Cert.ConvInReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_FoxInDw (m : (ℓ : Loc Cert.FoxInDw.nD Cert.FoxInDw.τ Cert.FoxInDw.sig) → Buf (Elt Bits) ℓ) : Prop :=
  True

def Pre_FoxInDwIdeal (m : (ℓ : Loc Cert.FoxInDwIdeal.nD Cert.FoxInDwIdeal.τ Cert.FoxInDwIdeal.sig) → Buf (Elt Ideal) ℓ) : Prop :=
  True

def Pre_FoxInDwReferenceIdeal (m : (ℓ : Loc Cert.FoxInDwReferenceIdeal.nD Cert.FoxInDwReferenceIdeal.τ Cert.FoxInDwReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdReferenceIdeal (m : (ℓ : Loc Cert.ConvBwdReferenceIdeal.nD Cert.ConvBwdReferenceIdeal.τ Cert.ConvBwdReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdReferenceIdeal (m : (ℓ : Loc Cert.NormBwdReferenceIdeal.nD Cert.NormBwdReferenceIdeal.τ Cert.NormBwdReferenceIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdReferenceIdeal (m : (ℓ : Loc Cert.LossBwdReferenceIdeal.nD Cert.LossBwdReferenceIdeal.τ Cert.LossBwdReferenceIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwReferenceIdeal (m : (ℓ : Loc Cert.GateDwReferenceIdeal.nD Cert.GateDwReferenceIdeal.τ Cert.GateDwReferenceIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxReferenceIdeal (m : (ℓ : Loc Cert.GateDxReferenceIdeal.nD Cert.GateDxReferenceIdeal.τ Cert.GateDxReferenceIdeal.sig) → Buf (Elt Ideal) ℓ) : Prop :=
  True

def Pre_NormBwdFirst (m : (ℓ : Loc Cert.NormBwdFirst.nD Cert.NormBwdFirst.τ Cert.NormBwdFirst.sig) → Buf (Elt Bits) ℓ) : Prop :=
  True

def Pre_NormBwdFirstIdeal (m : (ℓ : Loc Cert.NormBwdFirstIdeal.nD Cert.NormBwdFirstIdeal.τ Cert.NormBwdFirstIdeal.sig) → Buf (Elt Ideal) ℓ) : Prop :=
  True

def Pre_NormBwdFirstReferenceIdeal (m : (ℓ : Loc Cert.NormBwdFirstReferenceIdeal.nD Cert.NormBwdFirstReferenceIdeal.τ Cert.NormBwdFirstReferenceIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallReferenceIdeal (m : (ℓ : Loc Cert.AdamwSmallReferenceIdeal.nD Cert.AdamwSmallReferenceIdeal.τ Cert.AdamwSmallReferenceIdeal.sig) → Buf (Elt Ideal) ℓ) : Prop :=
  True

def Pre_LossSum (m : (ℓ : Loc Cert.LossSum.nD Cert.LossSum.τ Cert.LossSum.sig) → Buf (Elt Bits) ℓ) : Prop :=
  True

def Pre_LossSumIdeal (m : (ℓ : Loc Cert.LossSumIdeal.nD Cert.LossSumIdeal.τ Cert.LossSumIdeal.sig) → Buf (Elt Ideal) ℓ) : Prop :=
  True

def Pre_LossSumReferenceIdeal (m : (ℓ : Loc Cert.LossSumReferenceIdeal.nD Cert.LossSumReferenceIdeal.τ Cert.LossSumReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_ConvInDw [hConvInDw : Cert.ConvInDw.Facts] : Prop :=
  ∀ (m : (ℓ : Loc Cert.ConvInDw.nD Cert.ConvInDw.τ Cert.ConvInDw.sig) → Buf (Elt Bits) ℓ) (g : Dev Cert.ConvInDw.nD → PrngReg), Pre_ConvInDw m →
    θ_run (Cert.ConvInDw.defs (F := Bits)) (onTc (τ := Cert.ConvInDw.τ) (Cert.ConvInDw.main (F := Bits))) ⟨m, fun _ => 0, g⟩ (fun r => (∀ c : Dev Cert.ConvInDw.nD,
      r.2.mem ((c.tc : Thread Cert.ConvInDw.nD Cert.ConvInDw.τ).loc Cert.ConvInDw.main_arg0) = m ((c.tc : Thread Cert.ConvInDw.nD Cert.ConvInDw.τ).loc Cert.ConvInDw.main_arg0)
      ∧ r.2.mem ((c.tc : Thread Cert.ConvInDw.nD Cert.ConvInDw.τ).loc Cert.ConvInDw.main_arg1) = m ((c.tc : Thread Cert.ConvInDw.nD Cert.ConvInDw.τ).loc Cert.ConvInDw.main_arg1))
      ∧ r.2.sem = fun _ => 0)

def quiescent_ConvInDwIdeal [hConvInDwIdeal : Cert.ConvInDwIdeal.Facts] : Prop :=
  ∀ (m : (ℓ : Loc Cert.ConvInDwIdeal.nD Cert.ConvInDwIdeal.τ Cert.ConvInDwIdeal.sig) → Buf (Elt Ideal) ℓ) (g : Dev Cert.ConvInDwIdeal.nD → PrngReg), Pre_ConvInDwIdeal m →
    θ_run (Cert.ConvInDwIdeal.defs (F := Ideal)) (onTc (τ := Cert.ConvInDwIdeal.τ) (Cert.ConvInDwIdeal.main (F := Ideal))) ⟨m, fun _ => 0, g⟩ (fun r => (∀ c : Dev Cert.ConvInDwIdeal.nD,
      r.2.mem ((c.tc : Thread Cert.ConvInDwIdeal.nD Cert.ConvInDwIdeal.τ).loc Cert.ConvInDwIdeal.main_arg0) = m ((c.tc : Thread Cert.ConvInDwIdeal.nD Cert.ConvInDwIdeal.τ).loc Cert.ConvInDwIdeal.main_arg0)
      ∧ r.2.mem ((c.tc : Thread Cert.ConvInDwIdeal.nD Cert.ConvInDwIdeal.τ).loc Cert.ConvInDwIdeal.main_arg1) = m ((c.tc : Thread Cert.ConvInDwIdeal.nD Cert.ConvInDwIdeal.τ).loc Cert.ConvInDwIdeal.main_arg1))
      ∧ r.2.sem = fun _ => 0)

def quiescent_ConvInDwReferenceIdeal [hConvInDwReferenceIdeal : Cert.ConvInDwReferenceIdeal.Facts] : Prop :=
  ∀ (m : (ℓ : Loc Cert.ConvInDwReferenceIdeal.nD Cert.ConvInDwReferenceIdeal.τ Cert.ConvInDwReferenceIdeal.sig) → Buf (Elt Ideal) ℓ) (g : Dev Cert.ConvInDwReferenceIdeal.nD → PrngReg), Pre_ConvInDwReferenceIdeal m →
    θ_run (Cert.ConvInDwReferenceIdeal.defs (F := Ideal)) (onTc (τ := Cert.ConvInDwReferenceIdeal.τ) (Cert.ConvInDwReferenceIdeal.main (F := Ideal))) ⟨m, fun _ => 0, g⟩ (fun r => (∀ c : Dev Cert.ConvInDwReferenceIdeal.nD,
      r.2.mem ((c.tc : Thread Cert.ConvInDwReferenceIdeal.nD Cert.ConvInDwReferenceIdeal.τ).loc Cert.ConvInDwReferenceIdeal.main_arg0) = m ((c.tc : Thread Cert.ConvInDwReferenceIdeal.nD Cert.ConvInDwReferenceIdeal.τ).loc Cert.ConvInDwReferenceIdeal.main_arg0)
      ∧ r.2.mem ((c.tc : Thread Cert.ConvInDwReferenceIdeal.nD Cert.ConvInDwReferenceIdeal.τ).loc Cert.ConvInDwReferenceIdeal.main_arg1) = m ((c.tc : Thread Cert.ConvInDwReferenceIdeal.nD Cert.ConvInDwReferenceIdeal.τ).loc Cert.ConvInDwReferenceIdeal.main_arg1))
      ∧ r.2.sem = fun _ => 0)

def quiescent_ConvInDx [hConvInDx : Cert.ConvInDx.Facts] : Prop :=
  ∀ (m : (ℓ : Loc Cert.ConvInDx.nD Cert.ConvInDx.τ Cert.ConvInDx.sig) → Buf (Elt Bits) ℓ) (g : Dev Cert.ConvInDx.nD → PrngReg), Pre_ConvInDx m →
    θ_run (Cert.ConvInDx.defs (F := Bits)) (onTc (τ := Cert.ConvInDx.τ) (Cert.ConvInDx.main (F := Bits))) ⟨m, fun _ => 0, g⟩ (fun r => (∀ c : Dev Cert.ConvInDx.nD,
      r.2.mem ((c.tc : Thread Cert.ConvInDx.nD Cert.ConvInDx.τ).loc Cert.ConvInDx.main_arg0) = m ((c.tc : Thread Cert.ConvInDx.nD Cert.ConvInDx.τ).loc Cert.ConvInDx.main_arg0)
      ∧ r.2.mem ((c.tc : Thread Cert.ConvInDx.nD Cert.ConvInDx.τ).loc Cert.ConvInDx.main_arg1) = m ((c.tc : Thread Cert.ConvInDx.nD Cert.ConvInDx.τ).loc Cert.ConvInDx.main_arg1))
      ∧ r.2.sem = fun _ => 0)

def quiescent_ConvInDxIdeal [hConvInDxIdeal : Cert.ConvInDxIdeal.Facts] : Prop :=
  ∀ (m : (ℓ : Loc Cert.ConvInDxIdeal.nD Cert.ConvInDxIdeal.τ Cert.ConvInDxIdeal.sig) → Buf (Elt Ideal) ℓ) (g : Dev Cert.ConvInDxIdeal.nD → PrngReg), Pre_ConvInDxIdeal m →
    θ_run (Cert.ConvInDxIdeal.defs (F := Ideal)) (onTc (τ := Cert.ConvInDxIdeal.τ) (Cert.ConvInDxIdeal.main (F := Ideal))) ⟨m, fun _ => 0, g⟩ (fun r => (∀ c : Dev Cert.ConvInDxIdeal.nD,
      r.2.mem ((c.tc : Thread Cert.ConvInDxIdeal.nD Cert.ConvInDxIdeal.τ).loc Cert.ConvInDxIdeal.main_arg0) = m ((c.tc : Thread Cert.ConvInDxIdeal.nD Cert.ConvInDxIdeal.τ).loc Cert.ConvInDxIdeal.main_arg0)
      ∧ r.2.mem ((c.tc : Thread Cert.ConvInDxIdeal.nD Cert.ConvInDxIdeal.τ).loc Cert.ConvInDxIdeal.main_arg1) = m ((c.tc : Thread Cert.ConvInDxIdeal.nD Cert.ConvInDxIdeal.τ).loc Cert.ConvInDxIdeal.main_arg1))
      ∧ r.2.sem = fun _ => 0)

def quiescent_ConvInDxReferenceIdeal [hConvInDxReferenceIdeal : Cert.ConvInDxReferenceIdeal.Facts] : Prop :=
  ∀ (m : (ℓ : Loc Cert.ConvInDxReferenceIdeal.nD Cert.ConvInDxReferenceIdeal.τ Cert.ConvInDxReferenceIdeal.sig) → Buf (Elt Ideal) ℓ) (g : Dev Cert.ConvInDxReferenceIdeal.nD → PrngReg), Pre_ConvInDxReferenceIdeal m →
    θ_run (Cert.ConvInDxReferenceIdeal.defs (F := Ideal)) (onTc (τ := Cert.ConvInDxReferenceIdeal.τ) (Cert.ConvInDxReferenceIdeal.main (F := Ideal))) ⟨m, fun _ => 0, g⟩ (fun r => (∀ c : Dev Cert.ConvInDxReferenceIdeal.nD,
      r.2.mem ((c.tc : Thread Cert.ConvInDxReferenceIdeal.nD Cert.ConvInDxReferenceIdeal.τ).loc Cert.ConvInDxReferenceIdeal.main_arg0) = m ((c.tc : Thread Cert.ConvInDxReferenceIdeal.nD Cert.ConvInDxReferenceIdeal.τ).loc Cert.ConvInDxReferenceIdeal.main_arg0)
      ∧ r.2.mem ((c.tc : Thread Cert.ConvInDxReferenceIdeal.nD Cert.ConvInDxReferenceIdeal.τ).loc Cert.ConvInDxReferenceIdeal.main_arg1) = m ((c.tc : Thread Cert.ConvInDxReferenceIdeal.nD Cert.ConvInDxReferenceIdeal.τ).loc Cert.ConvInDxReferenceIdeal.main_arg1))
      ∧ r.2.sem = fun _ => 0)

def quiescent_FoxInDx [hFoxInDx : Cert.FoxInDx.Facts] : Prop :=
  ∀ (m : (ℓ : Loc Cert.FoxInDx.nD Cert.FoxInDx.τ Cert.FoxInDx.sig) → Buf (Elt Bits) ℓ) (g : Dev Cert.FoxInDx.nD → PrngReg), Pre_FoxInDx m →
    θ_run (Cert.FoxInDx.defs (F := Bits)) (onTc (τ := Cert.FoxInDx.τ) (Cert.FoxInDx.main (F := Bits))) ⟨m, fun _ => 0, g⟩ (fun r => (∀ c : Dev Cert.FoxInDx.nD,
      r.2.mem ((c.tc : Thread Cert.FoxInDx.nD Cert.FoxInDx.τ).loc Cert.FoxInDx.main_arg0) = m ((c.tc : Thread Cert.FoxInDx.nD Cert.FoxInDx.τ).loc Cert.FoxInDx.main_arg0)
      ∧ r.2.mem ((c.tc : Thread Cert.FoxInDx.nD Cert.FoxInDx.τ).loc Cert.FoxInDx.main_arg1) = m ((c.tc : Thread Cert.FoxInDx.nD Cert.FoxInDx.τ).loc Cert.FoxInDx.main_arg1)
      ∧ r.2.mem ((c.tc : Thread Cert.FoxInDx.nD Cert.FoxInDx.τ).loc Cert.FoxInDx.main_arg2) = m ((c.tc : Thread Cert.FoxInDx.nD Cert.FoxInDx.τ).loc Cert.FoxInDx.main_arg2))
      ∧ r.2.sem = fun _ => 0)

def quiescent_FoxInDxIdeal [hFoxInDxIdeal : Cert.FoxInDxIdeal.Facts] : Prop :=
  ∀ (m : (ℓ : Loc Cert.FoxInDxIdeal.nD Cert.FoxInDxIdeal.τ Cert.FoxInDxIdeal.sig) → Buf (Elt Ideal) ℓ) (g : Dev Cert.FoxInDxIdeal.nD → PrngReg), Pre_FoxInDxIdeal m →
    θ_run (Cert.FoxInDxIdeal.defs (F := Ideal)) (onTc (τ := Cert.FoxInDxIdeal.τ) (Cert.FoxInDxIdeal.main (F := Ideal))) ⟨m, fun _ => 0, g⟩ (fun r => (∀ c : Dev Cert.FoxInDxIdeal.nD,
      r.2.mem ((c.tc : Thread Cert.FoxInDxIdeal.nD Cert.FoxInDxIdeal.τ).loc Cert.FoxInDxIdeal.main_arg0) = m ((c.tc : Thread Cert.FoxInDxIdeal.nD Cert.FoxInDxIdeal.τ).loc Cert.FoxInDxIdeal.main_arg0)
      ∧ r.2.mem ((c.tc : Thread Cert.FoxInDxIdeal.nD Cert.FoxInDxIdeal.τ).loc Cert.FoxInDxIdeal.main_arg1) = m ((c.tc : Thread Cert.FoxInDxIdeal.nD Cert.FoxInDxIdeal.τ).loc Cert.FoxInDxIdeal.main_arg1)
      ∧ r.2.mem ((c.tc : Thread Cert.FoxInDxIdeal.nD Cert.FoxInDxIdeal.τ).loc Cert.FoxInDxIdeal.main_arg2) = m ((c.tc : Thread Cert.FoxInDxIdeal.nD Cert.FoxInDxIdeal.τ).loc Cert.FoxInDxIdeal.main_arg2))
      ∧ r.2.sem = fun _ => 0)

def quiescent_FoxInDxReferenceIdeal [hFoxInDxReferenceIdeal : Cert.FoxInDxReferenceIdeal.Facts] : Prop :=
  ∀ (m : (ℓ : Loc Cert.FoxInDxReferenceIdeal.nD Cert.FoxInDxReferenceIdeal.τ Cert.FoxInDxReferenceIdeal.sig) → Buf (Elt Ideal) ℓ) (g : Dev Cert.FoxInDxReferenceIdeal.nD → PrngReg), Pre_FoxInDxReferenceIdeal m →
    θ_run (Cert.FoxInDxReferenceIdeal.defs (F := Ideal)) (onTc (τ := Cert.FoxInDxReferenceIdeal.τ) (Cert.FoxInDxReferenceIdeal.main (F := Ideal))) ⟨m, fun _ => 0, g⟩ (fun r => (∀ c : Dev Cert.FoxInDxReferenceIdeal.nD,
      r.2.mem ((c.tc : Thread Cert.FoxInDxReferenceIdeal.nD Cert.FoxInDxReferenceIdeal.τ).loc Cert.FoxInDxReferenceIdeal.main_arg0) = m ((c.tc : Thread Cert.FoxInDxReferenceIdeal.nD Cert.FoxInDxReferenceIdeal.τ).loc Cert.FoxInDxReferenceIdeal.main_arg0)
      ∧ r.2.mem ((c.tc : Thread Cert.FoxInDxReferenceIdeal.nD Cert.FoxInDxReferenceIdeal.τ).loc Cert.FoxInDxReferenceIdeal.main_arg1) = m ((c.tc : Thread Cert.FoxInDxReferenceIdeal.nD Cert.FoxInDxReferenceIdeal.τ).loc Cert.FoxInDxReferenceIdeal.main_arg1)
      ∧ r.2.mem ((c.tc : Thread Cert.FoxInDxReferenceIdeal.nD Cert.FoxInDxReferenceIdeal.τ).loc Cert.FoxInDxReferenceIdeal.main_arg2) = m ((c.tc : Thread Cert.FoxInDxReferenceIdeal.nD Cert.FoxInDxReferenceIdeal.τ).loc Cert.FoxInDxReferenceIdeal.main_arg2))
      ∧ r.2.sem = fun _ => 0)

def quiescent_FoxIn [hFoxIn : Cert.FoxIn.Facts] : Prop :=
  ∀ (m : (ℓ : Loc Cert.FoxIn.nD Cert.FoxIn.τ Cert.FoxIn.sig) → Buf (Elt Bits) ℓ) (g : Dev Cert.FoxIn.nD → PrngReg), Pre_FoxIn m →
    θ_run (Cert.FoxIn.defs (F := Bits)) (onTc (τ := Cert.FoxIn.τ) (Cert.FoxIn.main (F := Bits))) ⟨m, fun _ => 0, g⟩ (fun r => (∀ c : Dev Cert.FoxIn.nD,
      r.2.mem ((c.tc : Thread Cert.FoxIn.nD Cert.FoxIn.τ).loc Cert.FoxIn.main_arg0) = m ((c.tc : Thread Cert.FoxIn.nD Cert.FoxIn.τ).loc Cert.FoxIn.main_arg0)
      ∧ r.2.mem ((c.tc : Thread Cert.FoxIn.nD Cert.FoxIn.τ).loc Cert.FoxIn.main_arg1) = m ((c.tc : Thread Cert.FoxIn.nD Cert.FoxIn.τ).loc Cert.FoxIn.main_arg1))
      ∧ r.2.sem = fun _ => 0)

def quiescent_FoxInIdeal [hFoxInIdeal : Cert.FoxInIdeal.Facts] : Prop :=
  ∀ (m : (ℓ : Loc Cert.FoxInIdeal.nD Cert.FoxInIdeal.τ Cert.FoxInIdeal.sig) → Buf (Elt Ideal) ℓ) (g : Dev Cert.FoxInIdeal.nD → PrngReg), Pre_FoxInIdeal m →
    θ_run (Cert.FoxInIdeal.defs (F := Ideal)) (onTc (τ := Cert.FoxInIdeal.τ) (Cert.FoxInIdeal.main (F := Ideal))) ⟨m, fun _ => 0, g⟩ (fun r => (∀ c : Dev Cert.FoxInIdeal.nD,
      r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
      ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1))
      ∧ r.2.sem = fun _ => 0)

def quiescent_FoxInReferenceIdeal [hFoxInReferenceIdeal : Cert.FoxInReferenceIdeal.Facts] : Prop :=
  ∀ (m : (ℓ : Loc Cert.FoxInReferenceIdeal.nD Cert.FoxInReferenceIdeal.τ Cert.FoxInReferenceIdeal.sig) → Buf (Elt Ideal) ℓ) (g : Dev Cert.FoxInReferenceIdeal.nD → PrngReg), Pre_FoxInReferenceIdeal m →
    θ_run (Cert.FoxInReferenceIdeal.defs (F := Ideal)) (onTc (τ := Cert.FoxInReferenceIdeal.τ) (Cert.FoxInReferenceIdeal.main (F := Ideal))) ⟨m, fun _ => 0, g⟩ (fun r => (∀ c : Dev Cert.FoxInReferenceIdeal.nD,
      r.2.mem ((c.tc : Thread Cert.FoxInReferenceIdeal.nD Cert.FoxInReferenceIdeal.τ).loc Cert.FoxInReferenceIdeal.main_arg0) = m ((c.tc : Thread Cert.FoxInReferenceIdeal.nD Cert.FoxInReferenceIdeal.τ).loc Cert.FoxInReferenceIdeal.main_arg0)
      ∧ r.2.mem ((c.tc : Thread Cert.FoxInReferenceIdeal.nD Cert.FoxInReferenceIdeal.τ).loc Cert.FoxInReferenceIdeal.main_arg1) = m ((c.tc : Thread Cert.FoxInReferenceIdeal.nD Cert.FoxInReferenceIdeal.τ).loc Cert.FoxInReferenceIdeal.main_arg1))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ r.2.sem = fun _ => 0)

def quiescent_ConvInReferenceIdeal [hConvInReferenceIdeal : Cert.ConvInReferenceIdeal.Facts] : Prop :=
  ∀ (m : (ℓ : Loc Cert.ConvInReferenceIdeal.nD Cert.ConvInReferenceIdeal.τ Cert.ConvInReferenceIdeal.sig) → Buf (Elt Ideal) ℓ) (g : Dev Cert.ConvInReferenceIdeal.nD → PrngReg), Pre_ConvInReferenceIdeal m →
    θ_run (Cert.ConvInReferenceIdeal.defs (F := Ideal)) (onTc (τ := Cert.ConvInReferenceIdeal.τ) (Cert.ConvInReferenceIdeal.main (F := Ideal))) ⟨m, fun _ => 0, g⟩ (fun r => (∀ c : Dev Cert.ConvInReferenceIdeal.nD,
      r.2.mem ((c.tc : Thread Cert.ConvInReferenceIdeal.nD Cert.ConvInReferenceIdeal.τ).loc Cert.ConvInReferenceIdeal.main_arg0) = m ((c.tc : Thread Cert.ConvInReferenceIdeal.nD Cert.ConvInReferenceIdeal.τ).loc Cert.ConvInReferenceIdeal.main_arg0)
      ∧ r.2.mem ((c.tc : Thread Cert.ConvInReferenceIdeal.nD Cert.ConvInReferenceIdeal.τ).loc Cert.ConvInReferenceIdeal.main_arg1) = m ((c.tc : Thread Cert.ConvInReferenceIdeal.nD Cert.ConvInReferenceIdeal.τ).loc Cert.ConvInReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_FoxInDw [hFoxInDw : Cert.FoxInDw.Facts] : Prop :=
  ∀ (m : (ℓ : Loc Cert.FoxInDw.nD Cert.FoxInDw.τ Cert.FoxInDw.sig) → Buf (Elt Bits) ℓ) (g : Dev Cert.FoxInDw.nD → PrngReg), Pre_FoxInDw m →
    θ_run (Cert.FoxInDw.defs (F := Bits)) (onTc (τ := Cert.FoxInDw.τ) (Cert.FoxInDw.main (F := Bits))) ⟨m, fun _ => 0, g⟩ (fun r => (∀ c : Dev Cert.FoxInDw.nD,
      r.2.mem ((c.tc : Thread Cert.FoxInDw.nD Cert.FoxInDw.τ).loc Cert.FoxInDw.main_arg0) = m ((c.tc : Thread Cert.FoxInDw.nD Cert.FoxInDw.τ).loc Cert.FoxInDw.main_arg0)
      ∧ r.2.mem ((c.tc : Thread Cert.FoxInDw.nD Cert.FoxInDw.τ).loc Cert.FoxInDw.main_arg1) = m ((c.tc : Thread Cert.FoxInDw.nD Cert.FoxInDw.τ).loc Cert.FoxInDw.main_arg1))
      ∧ r.2.sem = fun _ => 0)

def quiescent_FoxInDwIdeal [hFoxInDwIdeal : Cert.FoxInDwIdeal.Facts] : Prop :=
  ∀ (m : (ℓ : Loc Cert.FoxInDwIdeal.nD Cert.FoxInDwIdeal.τ Cert.FoxInDwIdeal.sig) → Buf (Elt Ideal) ℓ) (g : Dev Cert.FoxInDwIdeal.nD → PrngReg), Pre_FoxInDwIdeal m →
    θ_run (Cert.FoxInDwIdeal.defs (F := Ideal)) (onTc (τ := Cert.FoxInDwIdeal.τ) (Cert.FoxInDwIdeal.main (F := Ideal))) ⟨m, fun _ => 0, g⟩ (fun r => (∀ c : Dev Cert.FoxInDwIdeal.nD,
      r.2.mem ((c.tc : Thread Cert.FoxInDwIdeal.nD Cert.FoxInDwIdeal.τ).loc Cert.FoxInDwIdeal.main_arg0) = m ((c.tc : Thread Cert.FoxInDwIdeal.nD Cert.FoxInDwIdeal.τ).loc Cert.FoxInDwIdeal.main_arg0)
      ∧ r.2.mem ((c.tc : Thread Cert.FoxInDwIdeal.nD Cert.FoxInDwIdeal.τ).loc Cert.FoxInDwIdeal.main_arg1) = m ((c.tc : Thread Cert.FoxInDwIdeal.nD Cert.FoxInDwIdeal.τ).loc Cert.FoxInDwIdeal.main_arg1))
      ∧ r.2.sem = fun _ => 0)

def quiescent_FoxInDwReferenceIdeal [hFoxInDwReferenceIdeal : Cert.FoxInDwReferenceIdeal.Facts] : Prop :=
  ∀ (m : (ℓ : Loc Cert.FoxInDwReferenceIdeal.nD Cert.FoxInDwReferenceIdeal.τ Cert.FoxInDwReferenceIdeal.sig) → Buf (Elt Ideal) ℓ) (g : Dev Cert.FoxInDwReferenceIdeal.nD → PrngReg), Pre_FoxInDwReferenceIdeal m →
    θ_run (Cert.FoxInDwReferenceIdeal.defs (F := Ideal)) (onTc (τ := Cert.FoxInDwReferenceIdeal.τ) (Cert.FoxInDwReferenceIdeal.main (F := Ideal))) ⟨m, fun _ => 0, g⟩ (fun r => (∀ c : Dev Cert.FoxInDwReferenceIdeal.nD,
      r.2.mem ((c.tc : Thread Cert.FoxInDwReferenceIdeal.nD Cert.FoxInDwReferenceIdeal.τ).loc Cert.FoxInDwReferenceIdeal.main_arg0) = m ((c.tc : Thread Cert.FoxInDwReferenceIdeal.nD Cert.FoxInDwReferenceIdeal.τ).loc Cert.FoxInDwReferenceIdeal.main_arg0)
      ∧ r.2.mem ((c.tc : Thread Cert.FoxInDwReferenceIdeal.nD Cert.FoxInDwReferenceIdeal.τ).loc Cert.FoxInDwReferenceIdeal.main_arg1) = m ((c.tc : Thread Cert.FoxInDwReferenceIdeal.nD Cert.FoxInDwReferenceIdeal.τ).loc Cert.FoxInDwReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdReferenceIdeal [hConvBwdReferenceIdeal : Cert.ConvBwdReferenceIdeal.Facts] : Prop :=
  ∀ (m : (ℓ : Loc Cert.ConvBwdReferenceIdeal.nD Cert.ConvBwdReferenceIdeal.τ Cert.ConvBwdReferenceIdeal.sig) → Buf (Elt Ideal) ℓ) (g : Dev Cert.ConvBwdReferenceIdeal.nD → PrngReg), Pre_ConvBwdReferenceIdeal m →
    θ_run (Cert.ConvBwdReferenceIdeal.defs (F := Ideal)) (onTc (τ := Cert.ConvBwdReferenceIdeal.τ) (Cert.ConvBwdReferenceIdeal.main (F := Ideal))) ⟨m, fun _ => 0, g⟩ (fun r => (∀ c : Dev Cert.ConvBwdReferenceIdeal.nD,
      r.2.mem ((c.tc : Thread Cert.ConvBwdReferenceIdeal.nD Cert.ConvBwdReferenceIdeal.τ).loc Cert.ConvBwdReferenceIdeal.main_arg0) = m ((c.tc : Thread Cert.ConvBwdReferenceIdeal.nD Cert.ConvBwdReferenceIdeal.τ).loc Cert.ConvBwdReferenceIdeal.main_arg0)
      ∧ r.2.mem ((c.tc : Thread Cert.ConvBwdReferenceIdeal.nD Cert.ConvBwdReferenceIdeal.τ).loc Cert.ConvBwdReferenceIdeal.main_arg1) = m ((c.tc : Thread Cert.ConvBwdReferenceIdeal.nD Cert.ConvBwdReferenceIdeal.τ).loc Cert.ConvBwdReferenceIdeal.main_arg1)
      ∧ r.2.mem ((c.tc : Thread Cert.ConvBwdReferenceIdeal.nD Cert.ConvBwdReferenceIdeal.τ).loc Cert.ConvBwdReferenceIdeal.main_arg2) = m ((c.tc : Thread Cert.ConvBwdReferenceIdeal.nD Cert.ConvBwdReferenceIdeal.τ).loc Cert.ConvBwdReferenceIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5)
      ∧ r.2.mem ((c.tc : Thread Cert.NormBwd.nD Cert.NormBwd.τ).loc Cert.NormBwd.main_arg6) = m ((c.tc : Thread Cert.NormBwd.nD Cert.NormBwd.τ).loc Cert.NormBwd.main_arg6))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3)
      ∧ r.2.mem ((c.tc : Thread Cert.NormBwdReferenceIdeal.nD Cert.NormBwdReferenceIdeal.τ).loc Cert.NormBwdReferenceIdeal.main_arg4) = m ((c.tc : Thread Cert.NormBwdReferenceIdeal.nD Cert.NormBwdReferenceIdeal.τ).loc Cert.NormBwdReferenceIdeal.main_arg4)
      ∧ r.2.mem ((c.tc : Thread Cert.NormBwdReferenceIdeal.nD Cert.NormBwdReferenceIdeal.τ).loc Cert.NormBwdReferenceIdeal.main_arg5) = m ((c.tc : Thread Cert.NormBwdReferenceIdeal.nD Cert.NormBwdReferenceIdeal.τ).loc Cert.NormBwdReferenceIdeal.main_arg5)
      ∧ r.2.mem ((c.tc : Thread Cert.NormBwdReferenceIdeal.nD Cert.NormBwdReferenceIdeal.τ).loc Cert.NormBwdReferenceIdeal.main_arg6) = m ((c.tc : Thread Cert.NormBwdReferenceIdeal.nD Cert.NormBwdReferenceIdeal.τ).loc Cert.NormBwdReferenceIdeal.main_arg6))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3))
      ∧ r.2.sem = fun _ => 0)

def quiescent_LossBwdReferenceIdeal [hLossBwdReferenceIdeal : Cert.LossBwdReferenceIdeal.Facts] : Prop :=
  ∀ (m : (ℓ : Loc Cert.LossBwdReferenceIdeal.nD Cert.LossBwdReferenceIdeal.τ Cert.LossBwdReferenceIdeal.sig) → Buf (Elt Ideal) ℓ) (g : Dev Cert.LossBwdReferenceIdeal.nD → PrngReg), Pre_LossBwdReferenceIdeal m →
    θ_run (Cert.LossBwdReferenceIdeal.defs (F := Ideal)) (onTc (τ := Cert.LossBwdReferenceIdeal.τ) (Cert.LossBwdReferenceIdeal.main (F := Ideal))) ⟨m, fun _ => 0, g⟩ (fun r => (∀ c : Dev Cert.LossBwdReferenceIdeal.nD,
      r.2.mem ((c.tc : Thread Cert.LossBwdReferenceIdeal.nD Cert.LossBwdReferenceIdeal.τ).loc Cert.LossBwdReferenceIdeal.main_arg0) = m ((c.tc : Thread Cert.LossBwdReferenceIdeal.nD Cert.LossBwdReferenceIdeal.τ).loc Cert.LossBwdReferenceIdeal.main_arg0)
      ∧ r.2.mem ((c.tc : Thread Cert.LossBwdReferenceIdeal.nD Cert.LossBwdReferenceIdeal.τ).loc Cert.LossBwdReferenceIdeal.main_arg1) = m ((c.tc : Thread Cert.LossBwdReferenceIdeal.nD Cert.LossBwdReferenceIdeal.τ).loc Cert.LossBwdReferenceIdeal.main_arg1)
      ∧ r.2.mem ((c.tc : Thread Cert.LossBwdReferenceIdeal.nD Cert.LossBwdReferenceIdeal.τ).loc Cert.LossBwdReferenceIdeal.main_arg2) = m ((c.tc : Thread Cert.LossBwdReferenceIdeal.nD Cert.LossBwdReferenceIdeal.τ).loc Cert.LossBwdReferenceIdeal.main_arg2)
      ∧ r.2.mem ((c.tc : Thread Cert.LossBwdReferenceIdeal.nD Cert.LossBwdReferenceIdeal.τ).loc Cert.LossBwdReferenceIdeal.main_arg3) = m ((c.tc : Thread Cert.LossBwdReferenceIdeal.nD Cert.LossBwdReferenceIdeal.τ).loc Cert.LossBwdReferenceIdeal.main_arg3))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwReferenceIdeal [hGateDwReferenceIdeal : Cert.GateDwReferenceIdeal.Facts] : Prop :=
  ∀ (m : (ℓ : Loc Cert.GateDwReferenceIdeal.nD Cert.GateDwReferenceIdeal.τ Cert.GateDwReferenceIdeal.sig) → Buf (Elt Ideal) ℓ) (g : Dev Cert.GateDwReferenceIdeal.nD → PrngReg), Pre_GateDwReferenceIdeal m →
    θ_run (Cert.GateDwReferenceIdeal.defs (F := Ideal)) (onTc (τ := Cert.GateDwReferenceIdeal.τ) (Cert.GateDwReferenceIdeal.main (F := Ideal))) ⟨m, fun _ => 0, g⟩ (fun r => (∀ c : Dev Cert.GateDwReferenceIdeal.nD,
      r.2.mem ((c.tc : Thread Cert.GateDwReferenceIdeal.nD Cert.GateDwReferenceIdeal.τ).loc Cert.GateDwReferenceIdeal.main_arg0) = m ((c.tc : Thread Cert.GateDwReferenceIdeal.nD Cert.GateDwReferenceIdeal.τ).loc Cert.GateDwReferenceIdeal.main_arg0)
      ∧ r.2.mem ((c.tc : Thread Cert.GateDwReferenceIdeal.nD Cert.GateDwReferenceIdeal.τ).loc Cert.GateDwReferenceIdeal.main_arg1) = m ((c.tc : Thread Cert.GateDwReferenceIdeal.nD Cert.GateDwReferenceIdeal.τ).loc Cert.GateDwReferenceIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxReferenceIdeal [hGateDxReferenceIdeal : Cert.GateDxReferenceIdeal.Facts] : Prop :=
  ∀ (m : (ℓ : Loc Cert.GateDxReferenceIdeal.nD Cert.GateDxReferenceIdeal.τ Cert.GateDxReferenceIdeal.sig) → Buf (Elt Ideal) ℓ) (g : Dev Cert.GateDxReferenceIdeal.nD → PrngReg), Pre_GateDxReferenceIdeal m →
    θ_run (Cert.GateDxReferenceIdeal.defs (F := Ideal)) (onTc (τ := Cert.GateDxReferenceIdeal.τ) (Cert.GateDxReferenceIdeal.main (F := Ideal))) ⟨m, fun _ => 0, g⟩ (fun r => (∀ c : Dev Cert.GateDxReferenceIdeal.nD,
      r.2.mem ((c.tc : Thread Cert.GateDxReferenceIdeal.nD Cert.GateDxReferenceIdeal.τ).loc Cert.GateDxReferenceIdeal.main_arg0) = m ((c.tc : Thread Cert.GateDxReferenceIdeal.nD Cert.GateDxReferenceIdeal.τ).loc Cert.GateDxReferenceIdeal.main_arg0)
      ∧ r.2.mem ((c.tc : Thread Cert.GateDxReferenceIdeal.nD Cert.GateDxReferenceIdeal.τ).loc Cert.GateDxReferenceIdeal.main_arg1) = m ((c.tc : Thread Cert.GateDxReferenceIdeal.nD Cert.GateDxReferenceIdeal.τ).loc Cert.GateDxReferenceIdeal.main_arg1))
      ∧ r.2.sem = fun _ => 0)

def quiescent_NormBwdFirst [hNormBwdFirst : Cert.NormBwdFirst.Facts] : Prop :=
  ∀ (m : (ℓ : Loc Cert.NormBwdFirst.nD Cert.NormBwdFirst.τ Cert.NormBwdFirst.sig) → Buf (Elt Bits) ℓ) (g : Dev Cert.NormBwdFirst.nD → PrngReg), Pre_NormBwdFirst m →
    θ_run (Cert.NormBwdFirst.defs (F := Bits)) (onTc (τ := Cert.NormBwdFirst.τ) (Cert.NormBwdFirst.main (F := Bits))) ⟨m, fun _ => 0, g⟩ (fun r => (∀ c : Dev Cert.NormBwdFirst.nD,
      r.2.mem ((c.tc : Thread Cert.NormBwdFirst.nD Cert.NormBwdFirst.τ).loc Cert.NormBwdFirst.main_arg0) = m ((c.tc : Thread Cert.NormBwdFirst.nD Cert.NormBwdFirst.τ).loc Cert.NormBwdFirst.main_arg0)
      ∧ r.2.mem ((c.tc : Thread Cert.NormBwdFirst.nD Cert.NormBwdFirst.τ).loc Cert.NormBwdFirst.main_arg1) = m ((c.tc : Thread Cert.NormBwdFirst.nD Cert.NormBwdFirst.τ).loc Cert.NormBwdFirst.main_arg1)
      ∧ r.2.mem ((c.tc : Thread Cert.NormBwdFirst.nD Cert.NormBwdFirst.τ).loc Cert.NormBwdFirst.main_arg2) = m ((c.tc : Thread Cert.NormBwdFirst.nD Cert.NormBwdFirst.τ).loc Cert.NormBwdFirst.main_arg2)
      ∧ r.2.mem ((c.tc : Thread Cert.NormBwdFirst.nD Cert.NormBwdFirst.τ).loc Cert.NormBwdFirst.main_arg3) = m ((c.tc : Thread Cert.NormBwdFirst.nD Cert.NormBwdFirst.τ).loc Cert.NormBwdFirst.main_arg3)
      ∧ r.2.mem ((c.tc : Thread Cert.NormBwdFirst.nD Cert.NormBwdFirst.τ).loc Cert.NormBwdFirst.main_arg4) = m ((c.tc : Thread Cert.NormBwdFirst.nD Cert.NormBwdFirst.τ).loc Cert.NormBwdFirst.main_arg4)
      ∧ r.2.mem ((c.tc : Thread Cert.NormBwdFirst.nD Cert.NormBwdFirst.τ).loc Cert.NormBwdFirst.main_arg5) = m ((c.tc : Thread Cert.NormBwdFirst.nD Cert.NormBwdFirst.τ).loc Cert.NormBwdFirst.main_arg5))
      ∧ r.2.sem = fun _ => 0)

def quiescent_NormBwdFirstIdeal [hNormBwdFirstIdeal : Cert.NormBwdFirstIdeal.Facts] : Prop :=
  ∀ (m : (ℓ : Loc Cert.NormBwdFirstIdeal.nD Cert.NormBwdFirstIdeal.τ Cert.NormBwdFirstIdeal.sig) → Buf (Elt Ideal) ℓ) (g : Dev Cert.NormBwdFirstIdeal.nD → PrngReg), Pre_NormBwdFirstIdeal m →
    θ_run (Cert.NormBwdFirstIdeal.defs (F := Ideal)) (onTc (τ := Cert.NormBwdFirstIdeal.τ) (Cert.NormBwdFirstIdeal.main (F := Ideal))) ⟨m, fun _ => 0, g⟩ (fun r => (∀ c : Dev Cert.NormBwdFirstIdeal.nD,
      r.2.mem ((c.tc : Thread Cert.NormBwdFirstIdeal.nD Cert.NormBwdFirstIdeal.τ).loc Cert.NormBwdFirstIdeal.main_arg0) = m ((c.tc : Thread Cert.NormBwdFirstIdeal.nD Cert.NormBwdFirstIdeal.τ).loc Cert.NormBwdFirstIdeal.main_arg0)
      ∧ r.2.mem ((c.tc : Thread Cert.NormBwdFirstIdeal.nD Cert.NormBwdFirstIdeal.τ).loc Cert.NormBwdFirstIdeal.main_arg1) = m ((c.tc : Thread Cert.NormBwdFirstIdeal.nD Cert.NormBwdFirstIdeal.τ).loc Cert.NormBwdFirstIdeal.main_arg1)
      ∧ r.2.mem ((c.tc : Thread Cert.NormBwdFirstIdeal.nD Cert.NormBwdFirstIdeal.τ).loc Cert.NormBwdFirstIdeal.main_arg2) = m ((c.tc : Thread Cert.NormBwdFirstIdeal.nD Cert.NormBwdFirstIdeal.τ).loc Cert.NormBwdFirstIdeal.main_arg2)
      ∧ r.2.mem ((c.tc : Thread Cert.NormBwdFirstIdeal.nD Cert.NormBwdFirstIdeal.τ).loc Cert.NormBwdFirstIdeal.main_arg3) = m ((c.tc : Thread Cert.NormBwdFirstIdeal.nD Cert.NormBwdFirstIdeal.τ).loc Cert.NormBwdFirstIdeal.main_arg3)
      ∧ r.2.mem ((c.tc : Thread Cert.NormBwdFirstIdeal.nD Cert.NormBwdFirstIdeal.τ).loc Cert.NormBwdFirstIdeal.main_arg4) = m ((c.tc : Thread Cert.NormBwdFirstIdeal.nD Cert.NormBwdFirstIdeal.τ).loc Cert.NormBwdFirstIdeal.main_arg4)
      ∧ r.2.mem ((c.tc : Thread Cert.NormBwdFirstIdeal.nD Cert.NormBwdFirstIdeal.τ).loc Cert.NormBwdFirstIdeal.main_arg5) = m ((c.tc : Thread Cert.NormBwdFirstIdeal.nD Cert.NormBwdFirstIdeal.τ).loc Cert.NormBwdFirstIdeal.main_arg5))
      ∧ r.2.sem = fun _ => 0)

def quiescent_NormBwdFirstReferenceIdeal [hNormBwdFirstReferenceIdeal : Cert.NormBwdFirstReferenceIdeal.Facts] : Prop :=
  ∀ (m : (ℓ : Loc Cert.NormBwdFirstReferenceIdeal.nD Cert.NormBwdFirstReferenceIdeal.τ Cert.NormBwdFirstReferenceIdeal.sig) → Buf (Elt Ideal) ℓ) (g : Dev Cert.NormBwdFirstReferenceIdeal.nD → PrngReg), Pre_NormBwdFirstReferenceIdeal m →
    θ_run (Cert.NormBwdFirstReferenceIdeal.defs (F := Ideal)) (onTc (τ := Cert.NormBwdFirstReferenceIdeal.τ) (Cert.NormBwdFirstReferenceIdeal.main (F := Ideal))) ⟨m, fun _ => 0, g⟩ (fun r => (∀ c : Dev Cert.NormBwdFirstReferenceIdeal.nD,
      r.2.mem ((c.tc : Thread Cert.NormBwdFirstReferenceIdeal.nD Cert.NormBwdFirstReferenceIdeal.τ).loc Cert.NormBwdFirstReferenceIdeal.main_arg0) = m ((c.tc : Thread Cert.NormBwdFirstReferenceIdeal.nD Cert.NormBwdFirstReferenceIdeal.τ).loc Cert.NormBwdFirstReferenceIdeal.main_arg0)
      ∧ r.2.mem ((c.tc : Thread Cert.NormBwdFirstReferenceIdeal.nD Cert.NormBwdFirstReferenceIdeal.τ).loc Cert.NormBwdFirstReferenceIdeal.main_arg1) = m ((c.tc : Thread Cert.NormBwdFirstReferenceIdeal.nD Cert.NormBwdFirstReferenceIdeal.τ).loc Cert.NormBwdFirstReferenceIdeal.main_arg1)
      ∧ r.2.mem ((c.tc : Thread Cert.NormBwdFirstReferenceIdeal.nD Cert.NormBwdFirstReferenceIdeal.τ).loc Cert.NormBwdFirstReferenceIdeal.main_arg2) = m ((c.tc : Thread Cert.NormBwdFirstReferenceIdeal.nD Cert.NormBwdFirstReferenceIdeal.τ).loc Cert.NormBwdFirstReferenceIdeal.main_arg2)
      ∧ r.2.mem ((c.tc : Thread Cert.NormBwdFirstReferenceIdeal.nD Cert.NormBwdFirstReferenceIdeal.τ).loc Cert.NormBwdFirstReferenceIdeal.main_arg3) = m ((c.tc : Thread Cert.NormBwdFirstReferenceIdeal.nD Cert.NormBwdFirstReferenceIdeal.τ).loc Cert.NormBwdFirstReferenceIdeal.main_arg3)
      ∧ r.2.mem ((c.tc : Thread Cert.NormBwdFirstReferenceIdeal.nD Cert.NormBwdFirstReferenceIdeal.τ).loc Cert.NormBwdFirstReferenceIdeal.main_arg4) = m ((c.tc : Thread Cert.NormBwdFirstReferenceIdeal.nD Cert.NormBwdFirstReferenceIdeal.τ).loc Cert.NormBwdFirstReferenceIdeal.main_arg4)
      ∧ r.2.mem ((c.tc : Thread Cert.NormBwdFirstReferenceIdeal.nD Cert.NormBwdFirstReferenceIdeal.τ).loc Cert.NormBwdFirstReferenceIdeal.main_arg5) = m ((c.tc : Thread Cert.NormBwdFirstReferenceIdeal.nD Cert.NormBwdFirstReferenceIdeal.τ).loc Cert.NormBwdFirstReferenceIdeal.main_arg5))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallReferenceIdeal [hAdamwSmallReferenceIdeal : Cert.AdamwSmallReferenceIdeal.Facts] : Prop :=
  ∀ (m : (ℓ : Loc Cert.AdamwSmallReferenceIdeal.nD Cert.AdamwSmallReferenceIdeal.τ Cert.AdamwSmallReferenceIdeal.sig) → Buf (Elt Ideal) ℓ) (g : Dev Cert.AdamwSmallReferenceIdeal.nD → PrngReg), Pre_AdamwSmallReferenceIdeal m →
    θ_run (Cert.AdamwSmallReferenceIdeal.defs (F := Ideal)) (onTc (τ := Cert.AdamwSmallReferenceIdeal.τ) (Cert.AdamwSmallReferenceIdeal.main (F := Ideal))) ⟨m, fun _ => 0, g⟩ (fun r => (∀ c : Dev Cert.AdamwSmallReferenceIdeal.nD,
      r.2.mem ((c.tc : Thread Cert.AdamwSmallReferenceIdeal.nD Cert.AdamwSmallReferenceIdeal.τ).loc Cert.AdamwSmallReferenceIdeal.main_arg0) = m ((c.tc : Thread Cert.AdamwSmallReferenceIdeal.nD Cert.AdamwSmallReferenceIdeal.τ).loc Cert.AdamwSmallReferenceIdeal.main_arg0)
      ∧ r.2.mem ((c.tc : Thread Cert.AdamwSmallReferenceIdeal.nD Cert.AdamwSmallReferenceIdeal.τ).loc Cert.AdamwSmallReferenceIdeal.main_arg1) = m ((c.tc : Thread Cert.AdamwSmallReferenceIdeal.nD Cert.AdamwSmallReferenceIdeal.τ).loc Cert.AdamwSmallReferenceIdeal.main_arg1)
      ∧ r.2.mem ((c.tc : Thread Cert.AdamwSmallReferenceIdeal.nD Cert.AdamwSmallReferenceIdeal.τ).loc Cert.AdamwSmallReferenceIdeal.main_arg2) = m ((c.tc : Thread Cert.AdamwSmallReferenceIdeal.nD Cert.AdamwSmallReferenceIdeal.τ).loc Cert.AdamwSmallReferenceIdeal.main_arg2)
      ∧ r.2.mem ((c.tc : Thread Cert.AdamwSmallReferenceIdeal.nD Cert.AdamwSmallReferenceIdeal.τ).loc Cert.AdamwSmallReferenceIdeal.main_arg3) = m ((c.tc : Thread Cert.AdamwSmallReferenceIdeal.nD Cert.AdamwSmallReferenceIdeal.τ).loc Cert.AdamwSmallReferenceIdeal.main_arg3))
      ∧ r.2.sem = fun _ => 0)

def quiescent_LossSum [hLossSum : Cert.LossSum.Facts] : Prop :=
  ∀ (m : (ℓ : Loc Cert.LossSum.nD Cert.LossSum.τ Cert.LossSum.sig) → Buf (Elt Bits) ℓ) (g : Dev Cert.LossSum.nD → PrngReg), Pre_LossSum m →
    θ_run (Cert.LossSum.defs (F := Bits)) (onTc (τ := Cert.LossSum.τ) (Cert.LossSum.main (F := Bits))) ⟨m, fun _ => 0, g⟩ (fun r => (∀ c : Dev Cert.LossSum.nD,
      r.2.mem ((c.tc : Thread Cert.LossSum.nD Cert.LossSum.τ).loc Cert.LossSum.main_arg0) = m ((c.tc : Thread Cert.LossSum.nD Cert.LossSum.τ).loc Cert.LossSum.main_arg0))
      ∧ r.2.sem = fun _ => 0)

def quiescent_LossSumIdeal [hLossSumIdeal : Cert.LossSumIdeal.Facts] : Prop :=
  ∀ (m : (ℓ : Loc Cert.LossSumIdeal.nD Cert.LossSumIdeal.τ Cert.LossSumIdeal.sig) → Buf (Elt Ideal) ℓ) (g : Dev Cert.LossSumIdeal.nD → PrngReg), Pre_LossSumIdeal m →
    θ_run (Cert.LossSumIdeal.defs (F := Ideal)) (onTc (τ := Cert.LossSumIdeal.τ) (Cert.LossSumIdeal.main (F := Ideal))) ⟨m, fun _ => 0, g⟩ (fun r => (∀ c : Dev Cert.LossSumIdeal.nD,
      r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ r.2.sem = fun _ => 0)

def quiescent_LossSumReferenceIdeal [hLossSumReferenceIdeal : Cert.LossSumReferenceIdeal.Facts] : Prop :=
  ∀ (m : (ℓ : Loc Cert.LossSumReferenceIdeal.nD Cert.LossSumReferenceIdeal.τ Cert.LossSumReferenceIdeal.sig) → Buf (Elt Ideal) ℓ) (g : Dev Cert.LossSumReferenceIdeal.nD → PrngReg), Pre_LossSumReferenceIdeal m →
    θ_run (Cert.LossSumReferenceIdeal.defs (F := Ideal)) (onTc (τ := Cert.LossSumReferenceIdeal.τ) (Cert.LossSumReferenceIdeal.main (F := Ideal))) ⟨m, fun _ => 0, g⟩ (fun r => (∀ c : Dev Cert.LossSumReferenceIdeal.nD,
      r.2.mem ((c.tc : Thread Cert.LossSumReferenceIdeal.nD Cert.LossSumReferenceIdeal.τ).loc Cert.LossSumReferenceIdeal.main_arg0) = m ((c.tc : Thread Cert.LossSumReferenceIdeal.nD Cert.LossSumReferenceIdeal.τ).loc Cert.LossSumReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)
      ∧ m' ((c.tc : Thread Cert.DownDxReferenceIdeal.nD Cert.DownDxReferenceIdeal.τ).loc Cert.DownDxReferenceIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v15) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v4)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v4) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v8) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v5) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v8) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_v6) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v5) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v6) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_ConvInDw_ConvInDwIdeal : Prop :=
  True

def algebraic_ConvInDwIdeal_ConvInDwReferenceIdeal [hConvInDwIdeal : Cert.ConvInDwIdeal.Facts] [hConvInDwReferenceIdeal : Cert.ConvInDwReferenceIdeal.Facts] : Prop :=
  ∀ (m : (ℓ : Loc Cert.ConvInDwIdeal.nD Cert.ConvInDwIdeal.τ Cert.ConvInDwIdeal.sig) → Buf (Elt Ideal) ℓ) (g : Dev Cert.ConvInDwIdeal.nD → PrngReg)
    (m' : (ℓ : Loc Cert.ConvInDwReferenceIdeal.nD Cert.ConvInDwReferenceIdeal.τ Cert.ConvInDwReferenceIdeal.sig) → Buf (Elt Ideal) ℓ) (g' : Dev Cert.ConvInDwReferenceIdeal.nD → PrngReg), Pre_ConvInDwIdeal m →
    (∀ c : Dev Cert.ConvInDwIdeal.nD,
      m' ((c.tc : Thread Cert.ConvInDwReferenceIdeal.nD Cert.ConvInDwReferenceIdeal.τ).loc Cert.ConvInDwReferenceIdeal.main_arg0) = m ((c.tc : Thread Cert.ConvInDwIdeal.nD Cert.ConvInDwIdeal.τ).loc Cert.ConvInDwIdeal.main_arg0)
      ∧ m' ((c.tc : Thread Cert.ConvInDwReferenceIdeal.nD Cert.ConvInDwReferenceIdeal.τ).loc Cert.ConvInDwReferenceIdeal.main_arg1) = m ((c.tc : Thread Cert.ConvInDwIdeal.nD Cert.ConvInDwIdeal.τ).loc Cert.ConvInDwIdeal.main_arg1)) →
    ∃ (v0 : (c : Dev Cert.ConvInDwIdeal.nD) → Buf (Elt Ideal) ((c.tc : Thread Cert.ConvInDwIdeal.nD Cert.ConvInDwIdeal.τ).loc Cert.ConvInDwIdeal.main_v0)),
      θ_run (Cert.ConvInDwIdeal.defs (F := Ideal)) (onTc (τ := Cert.ConvInDwIdeal.τ) (Cert.ConvInDwIdeal.main (F := Ideal))) ⟨m, fun _ => 0, g⟩ (fun r => ∀ c : Dev Cert.ConvInDwIdeal.nD,
          r.2.mem ((c.tc : Thread Cert.ConvInDwIdeal.nD Cert.ConvInDwIdeal.τ).loc Cert.ConvInDwIdeal.main_v0) = v0 c
          ∧ r.2.mem ((c.tc : Thread Cert.ConvInDwIdeal.nD Cert.ConvInDwIdeal.τ).loc Cert.ConvInDwIdeal.main_arg0) = m ((c.tc : Thread Cert.ConvInDwIdeal.nD Cert.ConvInDwIdeal.τ).loc Cert.ConvInDwIdeal.main_arg0)
          ∧ r.2.mem ((c.tc : Thread Cert.ConvInDwIdeal.nD Cert.ConvInDwIdeal.τ).loc Cert.ConvInDwIdeal.main_arg1) = m ((c.tc : Thread Cert.ConvInDwIdeal.nD Cert.ConvInDwIdeal.τ).loc Cert.ConvInDwIdeal.main_arg1))
      ∧ θ_run (Cert.ConvInDwReferenceIdeal.defs (F := Ideal)) (onTc (τ := Cert.ConvInDwReferenceIdeal.τ) (Cert.ConvInDwReferenceIdeal.main (F := Ideal))) ⟨m', fun _ => 0, g'⟩ (fun r => ∀ c : Dev Cert.ConvInDwReferenceIdeal.nD,
          r.2.mem ((c.tc : Thread Cert.ConvInDwReferenceIdeal.nD Cert.ConvInDwReferenceIdeal.τ).loc Cert.ConvInDwReferenceIdeal.main_v15) = v0 c
          ∧ r.2.mem ((c.tc : Thread Cert.ConvInDwReferenceIdeal.nD Cert.ConvInDwReferenceIdeal.τ).loc Cert.ConvInDwReferenceIdeal.main_arg0) = m' ((c.tc : Thread Cert.ConvInDwReferenceIdeal.nD Cert.ConvInDwReferenceIdeal.τ).loc Cert.ConvInDwReferenceIdeal.main_arg0)
          ∧ r.2.mem ((c.tc : Thread Cert.ConvInDwReferenceIdeal.nD Cert.ConvInDwReferenceIdeal.τ).loc Cert.ConvInDwReferenceIdeal.main_arg1) = m' ((c.tc : Thread Cert.ConvInDwReferenceIdeal.nD Cert.ConvInDwReferenceIdeal.τ).loc Cert.ConvInDwReferenceIdeal.main_arg1))

def preserves_ConvInDx_ConvInDxIdeal : Prop :=
  True

def algebraic_ConvInDxIdeal_ConvInDxReferenceIdeal [hConvInDxIdeal : Cert.ConvInDxIdeal.Facts] [hConvInDxReferenceIdeal : Cert.ConvInDxReferenceIdeal.Facts] : Prop :=
  ∀ (m : (ℓ : Loc Cert.ConvInDxIdeal.nD Cert.ConvInDxIdeal.τ Cert.ConvInDxIdeal.sig) → Buf (Elt Ideal) ℓ) (g : Dev Cert.ConvInDxIdeal.nD → PrngReg)
    (m' : (ℓ : Loc Cert.ConvInDxReferenceIdeal.nD Cert.ConvInDxReferenceIdeal.τ Cert.ConvInDxReferenceIdeal.sig) → Buf (Elt Ideal) ℓ) (g' : Dev Cert.ConvInDxReferenceIdeal.nD → PrngReg), Pre_ConvInDxIdeal m →
    (∀ c : Dev Cert.ConvInDxIdeal.nD,
      m' ((c.tc : Thread Cert.ConvInDxReferenceIdeal.nD Cert.ConvInDxReferenceIdeal.τ).loc Cert.ConvInDxReferenceIdeal.main_arg0) = m ((c.tc : Thread Cert.ConvInDxIdeal.nD Cert.ConvInDxIdeal.τ).loc Cert.ConvInDxIdeal.main_arg0)
      ∧ m' ((c.tc : Thread Cert.ConvInDxReferenceIdeal.nD Cert.ConvInDxReferenceIdeal.τ).loc Cert.ConvInDxReferenceIdeal.main_arg1) = m ((c.tc : Thread Cert.ConvInDxIdeal.nD Cert.ConvInDxIdeal.τ).loc Cert.ConvInDxIdeal.main_arg1)) →
    ∃ (v0 : (c : Dev Cert.ConvInDxIdeal.nD) → Buf (Elt Ideal) ((c.tc : Thread Cert.ConvInDxIdeal.nD Cert.ConvInDxIdeal.τ).loc Cert.ConvInDxIdeal.main_v0)),
      θ_run (Cert.ConvInDxIdeal.defs (F := Ideal)) (onTc (τ := Cert.ConvInDxIdeal.τ) (Cert.ConvInDxIdeal.main (F := Ideal))) ⟨m, fun _ => 0, g⟩ (fun r => ∀ c : Dev Cert.ConvInDxIdeal.nD,
          r.2.mem ((c.tc : Thread Cert.ConvInDxIdeal.nD Cert.ConvInDxIdeal.τ).loc Cert.ConvInDxIdeal.main_v0) = v0 c
          ∧ r.2.mem ((c.tc : Thread Cert.ConvInDxIdeal.nD Cert.ConvInDxIdeal.τ).loc Cert.ConvInDxIdeal.main_arg0) = m ((c.tc : Thread Cert.ConvInDxIdeal.nD Cert.ConvInDxIdeal.τ).loc Cert.ConvInDxIdeal.main_arg0)
          ∧ r.2.mem ((c.tc : Thread Cert.ConvInDxIdeal.nD Cert.ConvInDxIdeal.τ).loc Cert.ConvInDxIdeal.main_arg1) = m ((c.tc : Thread Cert.ConvInDxIdeal.nD Cert.ConvInDxIdeal.τ).loc Cert.ConvInDxIdeal.main_arg1))
      ∧ θ_run (Cert.ConvInDxReferenceIdeal.defs (F := Ideal)) (onTc (τ := Cert.ConvInDxReferenceIdeal.τ) (Cert.ConvInDxReferenceIdeal.main (F := Ideal))) ⟨m', fun _ => 0, g'⟩ (fun r => ∀ c : Dev Cert.ConvInDxReferenceIdeal.nD,
          r.2.mem ((c.tc : Thread Cert.ConvInDxReferenceIdeal.nD Cert.ConvInDxReferenceIdeal.τ).loc Cert.ConvInDxReferenceIdeal.main_v12) = v0 c
          ∧ r.2.mem ((c.tc : Thread Cert.ConvInDxReferenceIdeal.nD Cert.ConvInDxReferenceIdeal.τ).loc Cert.ConvInDxReferenceIdeal.main_arg0) = m' ((c.tc : Thread Cert.ConvInDxReferenceIdeal.nD Cert.ConvInDxReferenceIdeal.τ).loc Cert.ConvInDxReferenceIdeal.main_arg0)
          ∧ r.2.mem ((c.tc : Thread Cert.ConvInDxReferenceIdeal.nD Cert.ConvInDxReferenceIdeal.τ).loc Cert.ConvInDxReferenceIdeal.main_arg1) = m' ((c.tc : Thread Cert.ConvInDxReferenceIdeal.nD Cert.ConvInDxReferenceIdeal.τ).loc Cert.ConvInDxReferenceIdeal.main_arg1))

def preserves_FoxInDx_FoxInDxIdeal : Prop :=
  True

def algebraic_FoxInDxIdeal_FoxInDxReferenceIdeal [hFoxInDxIdeal : Cert.FoxInDxIdeal.Facts] [hFoxInDxReferenceIdeal : Cert.FoxInDxReferenceIdeal.Facts] : Prop :=
  ∀ (m : (ℓ : Loc Cert.FoxInDxIdeal.nD Cert.FoxInDxIdeal.τ Cert.FoxInDxIdeal.sig) → Buf (Elt Ideal) ℓ) (g : Dev Cert.FoxInDxIdeal.nD → PrngReg)
    (m' : (ℓ : Loc Cert.FoxInDxReferenceIdeal.nD Cert.FoxInDxReferenceIdeal.τ Cert.FoxInDxReferenceIdeal.sig) → Buf (Elt Ideal) ℓ) (g' : Dev Cert.FoxInDxReferenceIdeal.nD → PrngReg), Pre_FoxInDxIdeal m →
    (∀ c : Dev Cert.FoxInDxIdeal.nD,
      m' ((c.tc : Thread Cert.FoxInDxReferenceIdeal.nD Cert.FoxInDxReferenceIdeal.τ).loc Cert.FoxInDxReferenceIdeal.main_arg0) = m ((c.tc : Thread Cert.FoxInDxIdeal.nD Cert.FoxInDxIdeal.τ).loc Cert.FoxInDxIdeal.main_arg0)
      ∧ m' ((c.tc : Thread Cert.FoxInDxReferenceIdeal.nD Cert.FoxInDxReferenceIdeal.τ).loc Cert.FoxInDxReferenceIdeal.main_arg1) = m ((c.tc : Thread Cert.FoxInDxIdeal.nD Cert.FoxInDxIdeal.τ).loc Cert.FoxInDxIdeal.main_arg1)
      ∧ m' ((c.tc : Thread Cert.FoxInDxReferenceIdeal.nD Cert.FoxInDxReferenceIdeal.τ).loc Cert.FoxInDxReferenceIdeal.main_arg2) = m ((c.tc : Thread Cert.FoxInDxIdeal.nD Cert.FoxInDxIdeal.τ).loc Cert.FoxInDxIdeal.main_arg2)) →
    ∃ (v0 : (c : Dev Cert.FoxInDxIdeal.nD) → Buf (Elt Ideal) ((c.tc : Thread Cert.FoxInDxIdeal.nD Cert.FoxInDxIdeal.τ).loc Cert.FoxInDxIdeal.main_v0)),
      θ_run (Cert.FoxInDxIdeal.defs (F := Ideal)) (onTc (τ := Cert.FoxInDxIdeal.τ) (Cert.FoxInDxIdeal.main (F := Ideal))) ⟨m, fun _ => 0, g⟩ (fun r => ∀ c : Dev Cert.FoxInDxIdeal.nD,
          r.2.mem ((c.tc : Thread Cert.FoxInDxIdeal.nD Cert.FoxInDxIdeal.τ).loc Cert.FoxInDxIdeal.main_v0) = v0 c
          ∧ r.2.mem ((c.tc : Thread Cert.FoxInDxIdeal.nD Cert.FoxInDxIdeal.τ).loc Cert.FoxInDxIdeal.main_arg0) = m ((c.tc : Thread Cert.FoxInDxIdeal.nD Cert.FoxInDxIdeal.τ).loc Cert.FoxInDxIdeal.main_arg0)
          ∧ r.2.mem ((c.tc : Thread Cert.FoxInDxIdeal.nD Cert.FoxInDxIdeal.τ).loc Cert.FoxInDxIdeal.main_arg1) = m ((c.tc : Thread Cert.FoxInDxIdeal.nD Cert.FoxInDxIdeal.τ).loc Cert.FoxInDxIdeal.main_arg1)
          ∧ r.2.mem ((c.tc : Thread Cert.FoxInDxIdeal.nD Cert.FoxInDxIdeal.τ).loc Cert.FoxInDxIdeal.main_arg2) = m ((c.tc : Thread Cert.FoxInDxIdeal.nD Cert.FoxInDxIdeal.τ).loc Cert.FoxInDxIdeal.main_arg2))
      ∧ θ_run (Cert.FoxInDxReferenceIdeal.defs (F := Ideal)) (onTc (τ := Cert.FoxInDxReferenceIdeal.τ) (Cert.FoxInDxReferenceIdeal.main (F := Ideal))) ⟨m', fun _ => 0, g'⟩ (fun r => ∀ c : Dev Cert.FoxInDxReferenceIdeal.nD,
          r.2.mem ((c.tc : Thread Cert.FoxInDxReferenceIdeal.nD Cert.FoxInDxReferenceIdeal.τ).loc Cert.FoxInDxReferenceIdeal.main_v15) = v0 c
          ∧ r.2.mem ((c.tc : Thread Cert.FoxInDxReferenceIdeal.nD Cert.FoxInDxReferenceIdeal.τ).loc Cert.FoxInDxReferenceIdeal.main_arg0) = m' ((c.tc : Thread Cert.FoxInDxReferenceIdeal.nD Cert.FoxInDxReferenceIdeal.τ).loc Cert.FoxInDxReferenceIdeal.main_arg0)
          ∧ r.2.mem ((c.tc : Thread Cert.FoxInDxReferenceIdeal.nD Cert.FoxInDxReferenceIdeal.τ).loc Cert.FoxInDxReferenceIdeal.main_arg1) = m' ((c.tc : Thread Cert.FoxInDxReferenceIdeal.nD Cert.FoxInDxReferenceIdeal.τ).loc Cert.FoxInDxReferenceIdeal.main_arg1)
          ∧ r.2.mem ((c.tc : Thread Cert.FoxInDxReferenceIdeal.nD Cert.FoxInDxReferenceIdeal.τ).loc Cert.FoxInDxReferenceIdeal.main_arg2) = m' ((c.tc : Thread Cert.FoxInDxReferenceIdeal.nD Cert.FoxInDxReferenceIdeal.τ).loc Cert.FoxInDxReferenceIdeal.main_arg2))

def preserves_FoxIn_FoxInIdeal : Prop :=
  True

def algebraic_FoxInIdeal_FoxInReferenceIdeal [hFoxInIdeal : Cert.FoxInIdeal.Facts] [hFoxInReferenceIdeal : Cert.FoxInReferenceIdeal.Facts] : Prop :=
  ∀ (m : (ℓ : Loc Cert.FoxInIdeal.nD Cert.FoxInIdeal.τ Cert.FoxInIdeal.sig) → Buf (Elt Ideal) ℓ) (g : Dev Cert.FoxInIdeal.nD → PrngReg)
    (m' : (ℓ : Loc Cert.FoxInReferenceIdeal.nD Cert.FoxInReferenceIdeal.τ Cert.FoxInReferenceIdeal.sig) → Buf (Elt Ideal) ℓ) (g' : Dev Cert.FoxInReferenceIdeal.nD → PrngReg), Pre_FoxInIdeal m →
    (∀ c : Dev Cert.FoxInIdeal.nD,
      m' ((c.tc : Thread Cert.FoxInReferenceIdeal.nD Cert.FoxInReferenceIdeal.τ).loc Cert.FoxInReferenceIdeal.main_arg0) = m ((c.tc : Thread Cert.FoxInIdeal.nD Cert.FoxInIdeal.τ).loc Cert.FoxInIdeal.main_arg0)
      ∧ m' ((c.tc : Thread Cert.FoxInReferenceIdeal.nD Cert.FoxInReferenceIdeal.τ).loc Cert.FoxInReferenceIdeal.main_arg1) = m ((c.tc : Thread Cert.FoxInIdeal.nD Cert.FoxInIdeal.τ).loc Cert.FoxInIdeal.main_arg1)) →
    ∃ (v0 : (c : Dev Cert.FoxInIdeal.nD) → Buf (Elt Ideal) ((c.tc : Thread Cert.FoxInIdeal.nD Cert.FoxInIdeal.τ).loc Cert.FoxInIdeal.main_v0)),
      θ_run (Cert.FoxInIdeal.defs (F := Ideal)) (onTc (τ := Cert.FoxInIdeal.τ) (Cert.FoxInIdeal.main (F := Ideal))) ⟨m, fun _ => 0, g⟩ (fun r => ∀ c : Dev Cert.FoxInIdeal.nD,
          r.2.mem ((c.tc : Thread Cert.FoxInIdeal.nD Cert.FoxInIdeal.τ).loc Cert.FoxInIdeal.main_v0) = v0 c
          ∧ r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
          ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1))
      ∧ θ_run (Cert.FoxInReferenceIdeal.defs (F := Ideal)) (onTc (τ := Cert.FoxInReferenceIdeal.τ) (Cert.FoxInReferenceIdeal.main (F := Ideal))) ⟨m', fun _ => 0, g'⟩ (fun r => ∀ c : Dev Cert.FoxInReferenceIdeal.nD,
          r.2.mem ((c.tc : Thread Cert.FoxInReferenceIdeal.nD Cert.FoxInReferenceIdeal.τ).loc Cert.FoxInReferenceIdeal.main_v5) = v0 c
          ∧ r.2.mem ((c.tc : Thread Cert.FoxInReferenceIdeal.nD Cert.FoxInReferenceIdeal.τ).loc Cert.FoxInReferenceIdeal.main_arg0) = m' ((c.tc : Thread Cert.FoxInReferenceIdeal.nD Cert.FoxInReferenceIdeal.τ).loc Cert.FoxInReferenceIdeal.main_arg0)
          ∧ r.2.mem ((c.tc : Thread Cert.FoxInReferenceIdeal.nD Cert.FoxInReferenceIdeal.τ).loc Cert.FoxInReferenceIdeal.main_arg1) = m' ((c.tc : Thread Cert.FoxInReferenceIdeal.nD Cert.FoxInReferenceIdeal.τ).loc Cert.FoxInReferenceIdeal.main_arg1))

def preserves_ConvIn_ConvInIdeal : Prop :=
  True

def algebraic_ConvInIdeal_ConvInReferenceIdeal [hConvInIdeal : Cert.ConvInIdeal.Facts] [hConvInReferenceIdeal : Cert.ConvInReferenceIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInReferenceIdeal.nD Cert.ConvInReferenceIdeal.τ Cert.ConvInReferenceIdeal.sig) → Buf (Elt Ideal) ℓ) (g' : Dev Cert.ConvInReferenceIdeal.nD → PrngReg), Pre_ConvInIdeal m →
    (∀ c : Dev Cert.ConvInIdeal.nD,
      m' ((c.tc : Thread Cert.ConvInReferenceIdeal.nD Cert.ConvInReferenceIdeal.τ).loc Cert.ConvInReferenceIdeal.main_arg0) = m ((c.tc : Thread Cert.ConvInIdeal.nD Cert.ConvInIdeal.τ).loc Cert.ConvInIdeal.main_arg0)
      ∧ m' ((c.tc : Thread Cert.ConvInReferenceIdeal.nD Cert.ConvInReferenceIdeal.τ).loc Cert.ConvInReferenceIdeal.main_arg1) = m ((c.tc : Thread Cert.ConvInIdeal.nD Cert.ConvInIdeal.τ).loc Cert.ConvInIdeal.main_arg1)) →
    ∃ (v0 : (c : Dev Cert.ConvInIdeal.nD) → Buf (Elt Ideal) ((c.tc : Thread Cert.ConvInIdeal.nD Cert.ConvInIdeal.τ).loc Cert.ConvInIdeal.main_v2)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v2) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ θ_run (Cert.ConvInReferenceIdeal.defs (F := Ideal)) (onTc (τ := Cert.ConvInReferenceIdeal.τ) (Cert.ConvInReferenceIdeal.main (F := Ideal))) ⟨m', fun _ => 0, g'⟩ (fun r => ∀ c : Dev Cert.ConvInReferenceIdeal.nD,
          r.2.mem ((c.tc : Thread Cert.ConvInReferenceIdeal.nD Cert.ConvInReferenceIdeal.τ).loc Cert.ConvInReferenceIdeal.main_v3) = v0 c
          ∧ r.2.mem ((c.tc : Thread Cert.ConvInReferenceIdeal.nD Cert.ConvInReferenceIdeal.τ).loc Cert.ConvInReferenceIdeal.main_arg0) = m' ((c.tc : Thread Cert.ConvInReferenceIdeal.nD Cert.ConvInReferenceIdeal.τ).loc Cert.ConvInReferenceIdeal.main_arg0)
          ∧ r.2.mem ((c.tc : Thread Cert.ConvInReferenceIdeal.nD Cert.ConvInReferenceIdeal.τ).loc Cert.ConvInReferenceIdeal.main_arg1) = m' ((c.tc : Thread Cert.ConvInReferenceIdeal.nD Cert.ConvInReferenceIdeal.τ).loc Cert.ConvInReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_v6) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_FoxInDw_FoxInDwIdeal : Prop :=
  True

def algebraic_FoxInDwIdeal_FoxInDwReferenceIdeal [hFoxInDwIdeal : Cert.FoxInDwIdeal.Facts] [hFoxInDwReferenceIdeal : Cert.FoxInDwReferenceIdeal.Facts] : Prop :=
  ∀ (m : (ℓ : Loc Cert.FoxInDwIdeal.nD Cert.FoxInDwIdeal.τ Cert.FoxInDwIdeal.sig) → Buf (Elt Ideal) ℓ) (g : Dev Cert.FoxInDwIdeal.nD → PrngReg)
    (m' : (ℓ : Loc Cert.FoxInDwReferenceIdeal.nD Cert.FoxInDwReferenceIdeal.τ Cert.FoxInDwReferenceIdeal.sig) → Buf (Elt Ideal) ℓ) (g' : Dev Cert.FoxInDwReferenceIdeal.nD → PrngReg), Pre_FoxInDwIdeal m →
    (∀ c : Dev Cert.FoxInDwIdeal.nD,
      m' ((c.tc : Thread Cert.FoxInDwReferenceIdeal.nD Cert.FoxInDwReferenceIdeal.τ).loc Cert.FoxInDwReferenceIdeal.main_arg0) = m ((c.tc : Thread Cert.FoxInDwIdeal.nD Cert.FoxInDwIdeal.τ).loc Cert.FoxInDwIdeal.main_arg0)
      ∧ m' ((c.tc : Thread Cert.FoxInDwReferenceIdeal.nD Cert.FoxInDwReferenceIdeal.τ).loc Cert.FoxInDwReferenceIdeal.main_arg1) = m ((c.tc : Thread Cert.FoxInDwIdeal.nD Cert.FoxInDwIdeal.τ).loc Cert.FoxInDwIdeal.main_arg1)) →
    ∃ (v0 : (c : Dev Cert.FoxInDwIdeal.nD) → Buf (Elt Ideal) ((c.tc : Thread Cert.FoxInDwIdeal.nD Cert.FoxInDwIdeal.τ).loc Cert.FoxInDwIdeal.main_v1)),
      θ_run (Cert.FoxInDwIdeal.defs (F := Ideal)) (onTc (τ := Cert.FoxInDwIdeal.τ) (Cert.FoxInDwIdeal.main (F := Ideal))) ⟨m, fun _ => 0, g⟩ (fun r => ∀ c : Dev Cert.FoxInDwIdeal.nD,
          r.2.mem ((c.tc : Thread Cert.FoxInDwIdeal.nD Cert.FoxInDwIdeal.τ).loc Cert.FoxInDwIdeal.main_v1) = v0 c
          ∧ r.2.mem ((c.tc : Thread Cert.FoxInDwIdeal.nD Cert.FoxInDwIdeal.τ).loc Cert.FoxInDwIdeal.main_arg0) = m ((c.tc : Thread Cert.FoxInDwIdeal.nD Cert.FoxInDwIdeal.τ).loc Cert.FoxInDwIdeal.main_arg0)
          ∧ r.2.mem ((c.tc : Thread Cert.FoxInDwIdeal.nD Cert.FoxInDwIdeal.τ).loc Cert.FoxInDwIdeal.main_arg1) = m ((c.tc : Thread Cert.FoxInDwIdeal.nD Cert.FoxInDwIdeal.τ).loc Cert.FoxInDwIdeal.main_arg1))
      ∧ θ_run (Cert.FoxInDwReferenceIdeal.defs (F := Ideal)) (onTc (τ := Cert.FoxInDwReferenceIdeal.τ) (Cert.FoxInDwReferenceIdeal.main (F := Ideal))) ⟨m', fun _ => 0, g'⟩ (fun r => ∀ c : Dev Cert.FoxInDwReferenceIdeal.nD,
          r.2.mem ((c.tc : Thread Cert.FoxInDwReferenceIdeal.nD Cert.FoxInDwReferenceIdeal.τ).loc Cert.FoxInDwReferenceIdeal.main_v14) = v0 c
          ∧ r.2.mem ((c.tc : Thread Cert.FoxInDwReferenceIdeal.nD Cert.FoxInDwReferenceIdeal.τ).loc Cert.FoxInDwReferenceIdeal.main_arg0) = m' ((c.tc : Thread Cert.FoxInDwReferenceIdeal.nD Cert.FoxInDwReferenceIdeal.τ).loc Cert.FoxInDwReferenceIdeal.main_arg0)
          ∧ r.2.mem ((c.tc : Thread Cert.FoxInDwReferenceIdeal.nD Cert.FoxInDwReferenceIdeal.τ).loc Cert.FoxInDwReferenceIdeal.main_arg1) = m' ((c.tc : Thread Cert.FoxInDwReferenceIdeal.nD Cert.FoxInDwReferenceIdeal.τ).loc Cert.FoxInDwReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)
      ∧ m' ((c.tc : Thread Cert.OutReferenceIdeal.nD Cert.OutReferenceIdeal.τ).loc Cert.OutReferenceIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)) (v2 : (c : Dev Cert.OutIdeal.nD) → Buf (Elt Ideal) ((c.tc : Thread Cert.OutIdeal.nD Cert.OutIdeal.τ).loc Cert.OutIdeal.main_v0_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_v0_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v5) = v0 c
          ∧ r.2.mem ((c.tc : Thread Cert.OutReferenceIdeal.nD Cert.OutReferenceIdeal.τ).loc Cert.OutReferenceIdeal.main_v6) = v1 c
          ∧ r.2.mem ((c.tc : Thread Cert.OutReferenceIdeal.nD Cert.OutReferenceIdeal.τ).loc Cert.OutReferenceIdeal.main_v25) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v18) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_ConvFwd_ConvFwdIdeal : Prop :=
  True

def algebraic_ConvFwdIdeal_ConvFwdReferenceIdeal [hConvFwdIdeal : Cert.ConvFwdIdeal.Facts] [hConvFwdReferenceIdeal : Cert.ConvFwdReferenceIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdIdeal m →
    (∀ c : Dev Cert.ConvFwdIdeal.nD,
      m' ((c.tc : Thread Cert.ConvFwdReferenceIdeal.nD Cert.ConvFwdReferenceIdeal.τ).loc Cert.ConvFwdReferenceIdeal.main_arg0) = m ((c.tc : Thread Cert.ConvFwdIdeal.nD Cert.ConvFwdIdeal.τ).loc Cert.ConvFwdIdeal.main_arg0)
      ∧ m' ((c.tc : Thread Cert.ConvFwdReferenceIdeal.nD Cert.ConvFwdReferenceIdeal.τ).loc Cert.ConvFwdReferenceIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v30) = v0 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1))

def preserves_ConvBwd_ConvBwdIdeal : Prop :=
  True

def algebraic_ConvBwdIdeal_ConvBwdReferenceIdeal [hConvBwdIdeal : Cert.ConvBwdIdeal.Facts] [hConvBwdReferenceIdeal : Cert.ConvBwdReferenceIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdReferenceIdeal.nD Cert.ConvBwdReferenceIdeal.τ Cert.ConvBwdReferenceIdeal.sig) → Buf (Elt Ideal) ℓ) (g' : Dev Cert.ConvBwdReferenceIdeal.nD → PrngReg), Pre_ConvBwdIdeal m →
    (∀ c : Dev Cert.ConvBwdIdeal.nD,
      m' ((c.tc : Thread Cert.ConvBwdReferenceIdeal.nD Cert.ConvBwdReferenceIdeal.τ).loc Cert.ConvBwdReferenceIdeal.main_arg0) = m ((c.tc : Thread Cert.ConvBwdIdeal.nD Cert.ConvBwdIdeal.τ).loc Cert.ConvBwdIdeal.main_arg0)
      ∧ m' ((c.tc : Thread Cert.ConvBwdReferenceIdeal.nD Cert.ConvBwdReferenceIdeal.τ).loc Cert.ConvBwdReferenceIdeal.main_arg1) = m ((c.tc : Thread Cert.ConvBwdIdeal.nD Cert.ConvBwdIdeal.τ).loc Cert.ConvBwdIdeal.main_arg1)
      ∧ m' ((c.tc : Thread Cert.ConvBwdReferenceIdeal.nD Cert.ConvBwdReferenceIdeal.τ).loc Cert.ConvBwdReferenceIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdReferenceIdeal.defs (F := Ideal)) (onTc (τ := Cert.ConvBwdReferenceIdeal.τ) (Cert.ConvBwdReferenceIdeal.main (F := Ideal))) ⟨m', fun _ => 0, g'⟩ (fun r => ∀ c : Dev Cert.ConvBwdReferenceIdeal.nD,
          r.2.mem ((c.tc : Thread Cert.ConvBwdReferenceIdeal.nD Cert.ConvBwdReferenceIdeal.τ).loc Cert.ConvBwdReferenceIdeal.main_v77) = v0 c
          ∧ r.2.mem ((c.tc : Thread Cert.ConvBwdReferenceIdeal.nD Cert.ConvBwdReferenceIdeal.τ).loc Cert.ConvBwdReferenceIdeal.main_v78) = v1 c
          ∧ r.2.mem ((c.tc : Thread Cert.ConvBwdReferenceIdeal.nD Cert.ConvBwdReferenceIdeal.τ).loc Cert.ConvBwdReferenceIdeal.main_arg0) = m' ((c.tc : Thread Cert.ConvBwdReferenceIdeal.nD Cert.ConvBwdReferenceIdeal.τ).loc Cert.ConvBwdReferenceIdeal.main_arg0)
          ∧ r.2.mem ((c.tc : Thread Cert.ConvBwdReferenceIdeal.nD Cert.ConvBwdReferenceIdeal.τ).loc Cert.ConvBwdReferenceIdeal.main_arg1) = m' ((c.tc : Thread Cert.ConvBwdReferenceIdeal.nD Cert.ConvBwdReferenceIdeal.τ).loc Cert.ConvBwdReferenceIdeal.main_arg1)
          ∧ r.2.mem ((c.tc : Thread Cert.ConvBwdReferenceIdeal.nD Cert.ConvBwdReferenceIdeal.τ).loc Cert.ConvBwdReferenceIdeal.main_arg2) = m' ((c.tc : Thread Cert.ConvBwdReferenceIdeal.nD Cert.ConvBwdReferenceIdeal.τ).loc Cert.ConvBwdReferenceIdeal.main_arg2))

def preserves_NormBwd_NormBwdIdeal : Prop :=
  True

def algebraic_NormBwdIdeal_NormBwdReferenceIdeal [hNormBwdIdeal : Cert.NormBwdIdeal.Facts] [hNormBwdReferenceIdeal : Cert.NormBwdReferenceIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)
      ∧ m' ((c.tc : Thread Cert.NormBwdReferenceIdeal.nD Cert.NormBwdReferenceIdeal.τ).loc Cert.NormBwdReferenceIdeal.main_arg4) = m ((c.tc : Thread Cert.NormBwdIdeal.nD Cert.NormBwdIdeal.τ).loc Cert.NormBwdIdeal.main_arg4)
      ∧ m' ((c.tc : Thread Cert.NormBwdReferenceIdeal.nD Cert.NormBwdReferenceIdeal.τ).loc Cert.NormBwdReferenceIdeal.main_arg5) = m ((c.tc : Thread Cert.NormBwdIdeal.nD Cert.NormBwdIdeal.τ).loc Cert.NormBwdIdeal.main_arg5)
      ∧ m' ((c.tc : Thread Cert.NormBwdReferenceIdeal.nD Cert.NormBwdReferenceIdeal.τ).loc Cert.NormBwdReferenceIdeal.main_arg6) = m ((c.tc : Thread Cert.NormBwdIdeal.nD Cert.NormBwdIdeal.τ).loc Cert.NormBwdIdeal.main_arg6)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
          ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v57) = v0 c
          ∧ r.2.mem ((c.tc : Thread Cert.NormBwdReferenceIdeal.nD Cert.NormBwdReferenceIdeal.τ).loc Cert.NormBwdReferenceIdeal.main_v63) = v1 c
          ∧ r.2.mem ((c.tc : Thread Cert.NormBwdReferenceIdeal.nD Cert.NormBwdReferenceIdeal.τ).loc Cert.NormBwdReferenceIdeal.main_v65) = v2 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3)
          ∧ r.2.mem ((c.tc : Thread Cert.NormBwdReferenceIdeal.nD Cert.NormBwdReferenceIdeal.τ).loc Cert.NormBwdReferenceIdeal.main_arg4) = m' ((c.tc : Thread Cert.NormBwdReferenceIdeal.nD Cert.NormBwdReferenceIdeal.τ).loc Cert.NormBwdReferenceIdeal.main_arg4)
          ∧ r.2.mem ((c.tc : Thread Cert.NormBwdReferenceIdeal.nD Cert.NormBwdReferenceIdeal.τ).loc Cert.NormBwdReferenceIdeal.main_arg5) = m' ((c.tc : Thread Cert.NormBwdReferenceIdeal.nD Cert.NormBwdReferenceIdeal.τ).loc Cert.NormBwdReferenceIdeal.main_arg5)
          ∧ r.2.mem ((c.tc : Thread Cert.NormBwdReferenceIdeal.nD Cert.NormBwdReferenceIdeal.τ).loc Cert.NormBwdReferenceIdeal.main_arg6) = m' ((c.tc : Thread Cert.NormBwdReferenceIdeal.nD Cert.NormBwdReferenceIdeal.τ).loc Cert.NormBwdReferenceIdeal.main_arg6))

def preserves_LossBwd_LossBwdIdeal : Prop :=
  True

def algebraic_LossBwdIdeal_LossBwdReferenceIdeal [hLossBwdIdeal : Cert.LossBwdIdeal.Facts] [hLossBwdReferenceIdeal : Cert.LossBwdReferenceIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdReferenceIdeal.nD Cert.LossBwdReferenceIdeal.τ Cert.LossBwdReferenceIdeal.sig) → Buf (Elt Ideal) ℓ) (g' : Dev Cert.LossBwdReferenceIdeal.nD → PrngReg), Pre_LossBwdIdeal m →
    (∀ c : Dev Cert.LossBwdIdeal.nD,
      m' ((c.tc : Thread Cert.LossBwdReferenceIdeal.nD Cert.LossBwdReferenceIdeal.τ).loc Cert.LossBwdReferenceIdeal.main_arg0) = m ((c.tc : Thread Cert.LossBwdIdeal.nD Cert.LossBwdIdeal.τ).loc Cert.LossBwdIdeal.main_arg0)
      ∧ m' ((c.tc : Thread Cert.LossBwdReferenceIdeal.nD Cert.LossBwdReferenceIdeal.τ).loc Cert.LossBwdReferenceIdeal.main_arg1) = m ((c.tc : Thread Cert.LossBwdIdeal.nD Cert.LossBwdIdeal.τ).loc Cert.LossBwdIdeal.main_arg1)
      ∧ m' ((c.tc : Thread Cert.LossBwdReferenceIdeal.nD Cert.LossBwdReferenceIdeal.τ).loc Cert.LossBwdReferenceIdeal.main_arg2) = m ((c.tc : Thread Cert.LossBwdIdeal.nD Cert.LossBwdIdeal.τ).loc Cert.LossBwdIdeal.main_arg2)
      ∧ m' ((c.tc : Thread Cert.LossBwdReferenceIdeal.nD Cert.LossBwdReferenceIdeal.τ).loc Cert.LossBwdReferenceIdeal.main_arg3) = m ((c.tc : Thread Cert.LossBwdIdeal.nD Cert.LossBwdIdeal.τ).loc Cert.LossBwdIdeal.main_arg3)) →
    ∃ (v0 : (c : Dev Cert.LossBwdIdeal.nD) → Buf (Elt Ideal) ((c.tc : Thread Cert.LossBwdIdeal.nD Cert.LossBwdIdeal.τ).loc Cert.LossBwdIdeal.main_v0_0)) (v1 : (c : Dev Cert.LossBwdIdeal.nD) → Buf (Elt Ideal) ((c.tc : Thread Cert.LossBwdIdeal.nD Cert.LossBwdIdeal.τ).loc Cert.LossBwdIdeal.main_v0_1)) (v2 : (c : Dev Cert.LossBwdIdeal.nD) → Buf (Elt Ideal) ((c.tc : Thread Cert.LossBwdIdeal.nD Cert.LossBwdIdeal.τ).loc Cert.LossBwdIdeal.main_v0_2)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v0_0) = v0 c
          ∧ r.2.mem ((c.tc : Thread Cert.LossBwdIdeal.nD Cert.LossBwdIdeal.τ).loc Cert.LossBwdIdeal.main_v0_1) = v1 c
          ∧ r.2.mem ((c.tc : Thread Cert.LossBwdIdeal.nD Cert.LossBwdIdeal.τ).loc Cert.LossBwdIdeal.main_v0_2) = v2 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3))
      ∧ θ_run (Cert.LossBwdReferenceIdeal.defs (F := Ideal)) (onTc (τ := Cert.LossBwdReferenceIdeal.τ) (Cert.LossBwdReferenceIdeal.main (F := Ideal))) ⟨m', fun _ => 0, g'⟩ (fun r => ∀ c : Dev Cert.LossBwdReferenceIdeal.nD,
          r.2.mem ((c.tc : Thread Cert.LossBwdReferenceIdeal.nD Cert.LossBwdReferenceIdeal.τ).loc Cert.LossBwdReferenceIdeal.main_v48) = v0 c
          ∧ r.2.mem ((c.tc : Thread Cert.LossBwdReferenceIdeal.nD Cert.LossBwdReferenceIdeal.τ).loc Cert.LossBwdReferenceIdeal.main_v54) = v1 c
          ∧ r.2.mem ((c.tc : Thread Cert.LossBwdReferenceIdeal.nD Cert.LossBwdReferenceIdeal.τ).loc Cert.LossBwdReferenceIdeal.main_v57) = v2 c
          ∧ r.2.mem ((c.tc : Thread Cert.LossBwdReferenceIdeal.nD Cert.LossBwdReferenceIdeal.τ).loc Cert.LossBwdReferenceIdeal.main_arg0) = m' ((c.tc : Thread Cert.LossBwdReferenceIdeal.nD Cert.LossBwdReferenceIdeal.τ).loc Cert.LossBwdReferenceIdeal.main_arg0)
          ∧ r.2.mem ((c.tc : Thread Cert.LossBwdReferenceIdeal.nD Cert.LossBwdReferenceIdeal.τ).loc Cert.LossBwdReferenceIdeal.main_arg1) = m' ((c.tc : Thread Cert.LossBwdReferenceIdeal.nD Cert.LossBwdReferenceIdeal.τ).loc Cert.LossBwdReferenceIdeal.main_arg1)
          ∧ r.2.mem ((c.tc : Thread Cert.LossBwdReferenceIdeal.nD Cert.LossBwdReferenceIdeal.τ).loc Cert.LossBwdReferenceIdeal.main_arg2) = m' ((c.tc : Thread Cert.LossBwdReferenceIdeal.nD Cert.LossBwdReferenceIdeal.τ).loc Cert.LossBwdReferenceIdeal.main_arg2)
          ∧ r.2.mem ((c.tc : Thread Cert.LossBwdReferenceIdeal.nD Cert.LossBwdReferenceIdeal.τ).loc Cert.LossBwdReferenceIdeal.main_arg3) = m' ((c.tc : Thread Cert.LossBwdReferenceIdeal.nD Cert.LossBwdReferenceIdeal.τ).loc Cert.LossBwdReferenceIdeal.main_arg3))

def preserves_GateDw_GateDwIdeal : Prop :=
  True

def algebraic_GateDwIdeal_GateDwReferenceIdeal [hGateDwIdeal : Cert.GateDwIdeal.Facts] [hGateDwReferenceIdeal : Cert.GateDwReferenceIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwReferenceIdeal.nD Cert.GateDwReferenceIdeal.τ Cert.GateDwReferenceIdeal.sig) → Buf (Elt Ideal) ℓ) (g' : Dev Cert.GateDwReferenceIdeal.nD → PrngReg), Pre_GateDwIdeal m →
    (∀ c : Dev Cert.GateDwIdeal.nD,
      m' ((c.tc : Thread Cert.GateDwReferenceIdeal.nD Cert.GateDwReferenceIdeal.τ).loc Cert.GateDwReferenceIdeal.main_arg0) = m ((c.tc : Thread Cert.GateDwIdeal.nD Cert.GateDwIdeal.τ).loc Cert.GateDwIdeal.main_arg0)
      ∧ m' ((c.tc : Thread Cert.GateDwReferenceIdeal.nD Cert.GateDwReferenceIdeal.τ).loc Cert.GateDwReferenceIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwReferenceIdeal.defs (F := Ideal)) (onTc (τ := Cert.GateDwReferenceIdeal.τ) (Cert.GateDwReferenceIdeal.main (F := Ideal))) ⟨m', fun _ => 0, g'⟩ (fun r => ∀ c : Dev Cert.GateDwReferenceIdeal.nD,
          r.2.mem ((c.tc : Thread Cert.GateDwReferenceIdeal.nD Cert.GateDwReferenceIdeal.τ).loc Cert.GateDwReferenceIdeal.main_v8) = v0 c
          ∧ r.2.mem ((c.tc : Thread Cert.GateDwReferenceIdeal.nD Cert.GateDwReferenceIdeal.τ).loc Cert.GateDwReferenceIdeal.main_arg0) = m' ((c.tc : Thread Cert.GateDwReferenceIdeal.nD Cert.GateDwReferenceIdeal.τ).loc Cert.GateDwReferenceIdeal.main_arg0)
          ∧ r.2.mem ((c.tc : Thread Cert.GateDwReferenceIdeal.nD Cert.GateDwReferenceIdeal.τ).loc Cert.GateDwReferenceIdeal.main_arg1) = m' ((c.tc : Thread Cert.GateDwReferenceIdeal.nD Cert.GateDwReferenceIdeal.τ).loc Cert.GateDwReferenceIdeal.main_arg1))

def preserves_GateDx_GateDxIdeal : Prop :=
  True

def algebraic_GateDxIdeal_GateDxReferenceIdeal [hGateDxIdeal : Cert.GateDxIdeal.Facts] [hGateDxReferenceIdeal : Cert.GateDxReferenceIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxReferenceIdeal.nD Cert.GateDxReferenceIdeal.τ Cert.GateDxReferenceIdeal.sig) → Buf (Elt Ideal) ℓ) (g' : Dev Cert.GateDxReferenceIdeal.nD → PrngReg), Pre_GateDxIdeal m →
    (∀ c : Dev Cert.GateDxIdeal.nD,
      m' ((c.tc : Thread Cert.GateDxReferenceIdeal.nD Cert.GateDxReferenceIdeal.τ).loc Cert.GateDxReferenceIdeal.main_arg0) = m ((c.tc : Thread Cert.GateDxIdeal.nD Cert.GateDxIdeal.τ).loc Cert.GateDxIdeal.main_arg0)
      ∧ m' ((c.tc : Thread Cert.GateDxReferenceIdeal.nD Cert.GateDxReferenceIdeal.τ).loc Cert.GateDxReferenceIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxReferenceIdeal.defs (F := Ideal)) (onTc (τ := Cert.GateDxReferenceIdeal.τ) (Cert.GateDxReferenceIdeal.main (F := Ideal))) ⟨m', fun _ => 0, g'⟩ (fun r => ∀ c : Dev Cert.GateDxReferenceIdeal.nD,
          r.2.mem ((c.tc : Thread Cert.GateDxReferenceIdeal.nD Cert.GateDxReferenceIdeal.τ).loc Cert.GateDxReferenceIdeal.main_v5) = v0 c
          ∧ r.2.mem ((c.tc : Thread Cert.GateDxReferenceIdeal.nD Cert.GateDxReferenceIdeal.τ).loc Cert.GateDxReferenceIdeal.main_arg0) = m' ((c.tc : Thread Cert.GateDxReferenceIdeal.nD Cert.GateDxReferenceIdeal.τ).loc Cert.GateDxReferenceIdeal.main_arg0)
          ∧ r.2.mem ((c.tc : Thread Cert.GateDxReferenceIdeal.nD Cert.GateDxReferenceIdeal.τ).loc Cert.GateDxReferenceIdeal.main_arg1) = m' ((c.tc : Thread Cert.GateDxReferenceIdeal.nD Cert.GateDxReferenceIdeal.τ).loc Cert.GateDxReferenceIdeal.main_arg1))

def preserves_NormBwdFirst_NormBwdFirstIdeal : Prop :=
  True

def algebraic_NormBwdFirstIdeal_NormBwdFirstReferenceIdeal [hNormBwdFirstIdeal : Cert.NormBwdFirstIdeal.Facts] [hNormBwdFirstReferenceIdeal : Cert.NormBwdFirstReferenceIdeal.Facts] : Prop :=
  ∀ (m : (ℓ : Loc Cert.NormBwdFirstIdeal.nD Cert.NormBwdFirstIdeal.τ Cert.NormBwdFirstIdeal.sig) → Buf (Elt Ideal) ℓ) (g : Dev Cert.NormBwdFirstIdeal.nD → PrngReg)
    (m' : (ℓ : Loc Cert.NormBwdFirstReferenceIdeal.nD Cert.NormBwdFirstReferenceIdeal.τ Cert.NormBwdFirstReferenceIdeal.sig) → Buf (Elt Ideal) ℓ) (g' : Dev Cert.NormBwdFirstReferenceIdeal.nD → PrngReg), Pre_NormBwdFirstIdeal m →
    (∀ c : Dev Cert.NormBwdFirstIdeal.nD,
      m' ((c.tc : Thread Cert.NormBwdFirstReferenceIdeal.nD Cert.NormBwdFirstReferenceIdeal.τ).loc Cert.NormBwdFirstReferenceIdeal.main_arg0) = m ((c.tc : Thread Cert.NormBwdFirstIdeal.nD Cert.NormBwdFirstIdeal.τ).loc Cert.NormBwdFirstIdeal.main_arg0)
      ∧ m' ((c.tc : Thread Cert.NormBwdFirstReferenceIdeal.nD Cert.NormBwdFirstReferenceIdeal.τ).loc Cert.NormBwdFirstReferenceIdeal.main_arg1) = m ((c.tc : Thread Cert.NormBwdFirstIdeal.nD Cert.NormBwdFirstIdeal.τ).loc Cert.NormBwdFirstIdeal.main_arg1)
      ∧ m' ((c.tc : Thread Cert.NormBwdFirstReferenceIdeal.nD Cert.NormBwdFirstReferenceIdeal.τ).loc Cert.NormBwdFirstReferenceIdeal.main_arg2) = m ((c.tc : Thread Cert.NormBwdFirstIdeal.nD Cert.NormBwdFirstIdeal.τ).loc Cert.NormBwdFirstIdeal.main_arg2)
      ∧ m' ((c.tc : Thread Cert.NormBwdFirstReferenceIdeal.nD Cert.NormBwdFirstReferenceIdeal.τ).loc Cert.NormBwdFirstReferenceIdeal.main_arg3) = m ((c.tc : Thread Cert.NormBwdFirstIdeal.nD Cert.NormBwdFirstIdeal.τ).loc Cert.NormBwdFirstIdeal.main_arg3)
      ∧ m' ((c.tc : Thread Cert.NormBwdFirstReferenceIdeal.nD Cert.NormBwdFirstReferenceIdeal.τ).loc Cert.NormBwdFirstReferenceIdeal.main_arg4) = m ((c.tc : Thread Cert.NormBwdFirstIdeal.nD Cert.NormBwdFirstIdeal.τ).loc Cert.NormBwdFirstIdeal.main_arg4)
      ∧ m' ((c.tc : Thread Cert.NormBwdFirstReferenceIdeal.nD Cert.NormBwdFirstReferenceIdeal.τ).loc Cert.NormBwdFirstReferenceIdeal.main_arg5) = m ((c.tc : Thread Cert.NormBwdFirstIdeal.nD Cert.NormBwdFirstIdeal.τ).loc Cert.NormBwdFirstIdeal.main_arg5)) →
    ∃ (v0 : (c : Dev Cert.NormBwdFirstIdeal.nD) → Buf (Elt Ideal) ((c.tc : Thread Cert.NormBwdFirstIdeal.nD Cert.NormBwdFirstIdeal.τ).loc Cert.NormBwdFirstIdeal.main_v0_0)) (v1 : (c : Dev Cert.NormBwdFirstIdeal.nD) → Buf (Elt Ideal) ((c.tc : Thread Cert.NormBwdFirstIdeal.nD Cert.NormBwdFirstIdeal.τ).loc Cert.NormBwdFirstIdeal.main_v0_1)),
      θ_run (Cert.NormBwdFirstIdeal.defs (F := Ideal)) (onTc (τ := Cert.NormBwdFirstIdeal.τ) (Cert.NormBwdFirstIdeal.main (F := Ideal))) ⟨m, fun _ => 0, g⟩ (fun r => ∀ c : Dev Cert.NormBwdFirstIdeal.nD,
          r.2.mem ((c.tc : Thread Cert.NormBwdFirstIdeal.nD Cert.NormBwdFirstIdeal.τ).loc Cert.NormBwdFirstIdeal.main_v0_0) = v0 c
          ∧ r.2.mem ((c.tc : Thread Cert.NormBwdFirstIdeal.nD Cert.NormBwdFirstIdeal.τ).loc Cert.NormBwdFirstIdeal.main_v0_1) = v1 c
          ∧ r.2.mem ((c.tc : Thread Cert.NormBwdFirstIdeal.nD Cert.NormBwdFirstIdeal.τ).loc Cert.NormBwdFirstIdeal.main_arg0) = m ((c.tc : Thread Cert.NormBwdFirstIdeal.nD Cert.NormBwdFirstIdeal.τ).loc Cert.NormBwdFirstIdeal.main_arg0)
          ∧ r.2.mem ((c.tc : Thread Cert.NormBwdFirstIdeal.nD Cert.NormBwdFirstIdeal.τ).loc Cert.NormBwdFirstIdeal.main_arg1) = m ((c.tc : Thread Cert.NormBwdFirstIdeal.nD Cert.NormBwdFirstIdeal.τ).loc Cert.NormBwdFirstIdeal.main_arg1)
          ∧ r.2.mem ((c.tc : Thread Cert.NormBwdFirstIdeal.nD Cert.NormBwdFirstIdeal.τ).loc Cert.NormBwdFirstIdeal.main_arg2) = m ((c.tc : Thread Cert.NormBwdFirstIdeal.nD Cert.NormBwdFirstIdeal.τ).loc Cert.NormBwdFirstIdeal.main_arg2)
          ∧ r.2.mem ((c.tc : Thread Cert.NormBwdFirstIdeal.nD Cert.NormBwdFirstIdeal.τ).loc Cert.NormBwdFirstIdeal.main_arg3) = m ((c.tc : Thread Cert.NormBwdFirstIdeal.nD Cert.NormBwdFirstIdeal.τ).loc Cert.NormBwdFirstIdeal.main_arg3)
          ∧ r.2.mem ((c.tc : Thread Cert.NormBwdFirstIdeal.nD Cert.NormBwdFirstIdeal.τ).loc Cert.NormBwdFirstIdeal.main_arg4) = m ((c.tc : Thread Cert.NormBwdFirstIdeal.nD Cert.NormBwdFirstIdeal.τ).loc Cert.NormBwdFirstIdeal.main_arg4)
          ∧ r.2.mem ((c.tc : Thread Cert.NormBwdFirstIdeal.nD Cert.NormBwdFirstIdeal.τ).loc Cert.NormBwdFirstIdeal.main_arg5) = m ((c.tc : Thread Cert.NormBwdFirstIdeal.nD Cert.NormBwdFirstIdeal.τ).loc Cert.NormBwdFirstIdeal.main_arg5))
      ∧ θ_run (Cert.NormBwdFirstReferenceIdeal.defs (F := Ideal)) (onTc (τ := Cert.NormBwdFirstReferenceIdeal.τ) (Cert.NormBwdFirstReferenceIdeal.main (F := Ideal))) ⟨m', fun _ => 0, g'⟩ (fun r => ∀ c : Dev Cert.NormBwdFirstReferenceIdeal.nD,
          r.2.mem ((c.tc : Thread Cert.NormBwdFirstReferenceIdeal.nD Cert.NormBwdFirstReferenceIdeal.τ).loc Cert.NormBwdFirstReferenceIdeal.main_v57) = v0 c
          ∧ r.2.mem ((c.tc : Thread Cert.NormBwdFirstReferenceIdeal.nD Cert.NormBwdFirstReferenceIdeal.τ).loc Cert.NormBwdFirstReferenceIdeal.main_v59) = v1 c
          ∧ r.2.mem ((c.tc : Thread Cert.NormBwdFirstReferenceIdeal.nD Cert.NormBwdFirstReferenceIdeal.τ).loc Cert.NormBwdFirstReferenceIdeal.main_arg0) = m' ((c.tc : Thread Cert.NormBwdFirstReferenceIdeal.nD Cert.NormBwdFirstReferenceIdeal.τ).loc Cert.NormBwdFirstReferenceIdeal.main_arg0)
          ∧ r.2.mem ((c.tc : Thread Cert.NormBwdFirstReferenceIdeal.nD Cert.NormBwdFirstReferenceIdeal.τ).loc Cert.NormBwdFirstReferenceIdeal.main_arg1) = m' ((c.tc : Thread Cert.NormBwdFirstReferenceIdeal.nD Cert.NormBwdFirstReferenceIdeal.τ).loc Cert.NormBwdFirstReferenceIdeal.main_arg1)
          ∧ r.2.mem ((c.tc : Thread Cert.NormBwdFirstReferenceIdeal.nD Cert.NormBwdFirstReferenceIdeal.τ).loc Cert.NormBwdFirstReferenceIdeal.main_arg2) = m' ((c.tc : Thread Cert.NormBwdFirstReferenceIdeal.nD Cert.NormBwdFirstReferenceIdeal.τ).loc Cert.NormBwdFirstReferenceIdeal.main_arg2)
          ∧ r.2.mem ((c.tc : Thread Cert.NormBwdFirstReferenceIdeal.nD Cert.NormBwdFirstReferenceIdeal.τ).loc Cert.NormBwdFirstReferenceIdeal.main_arg3) = m' ((c.tc : Thread Cert.NormBwdFirstReferenceIdeal.nD Cert.NormBwdFirstReferenceIdeal.τ).loc Cert.NormBwdFirstReferenceIdeal.main_arg3)
          ∧ r.2.mem ((c.tc : Thread Cert.NormBwdFirstReferenceIdeal.nD Cert.NormBwdFirstReferenceIdeal.τ).loc Cert.NormBwdFirstReferenceIdeal.main_arg4) = m' ((c.tc : Thread Cert.NormBwdFirstReferenceIdeal.nD Cert.NormBwdFirstReferenceIdeal.τ).loc Cert.NormBwdFirstReferenceIdeal.main_arg4)
          ∧ r.2.mem ((c.tc : Thread Cert.NormBwdFirstReferenceIdeal.nD Cert.NormBwdFirstReferenceIdeal.τ).loc Cert.NormBwdFirstReferenceIdeal.main_arg5) = m' ((c.tc : Thread Cert.NormBwdFirstReferenceIdeal.nD Cert.NormBwdFirstReferenceIdeal.τ).loc Cert.NormBwdFirstReferenceIdeal.main_arg5))

def preserves_AdamwSmall_AdamwSmallIdeal : Prop :=
  True

def algebraic_AdamwSmallIdeal_AdamwSmallReferenceIdeal [hAdamwSmallIdeal : Cert.AdamwSmallIdeal.Facts] [hAdamwSmallReferenceIdeal : Cert.AdamwSmallReferenceIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallReferenceIdeal.nD Cert.AdamwSmallReferenceIdeal.τ Cert.AdamwSmallReferenceIdeal.sig) → Buf (Elt Ideal) ℓ) (g' : Dev Cert.AdamwSmallReferenceIdeal.nD → PrngReg), Pre_AdamwSmallIdeal m →
    (∀ c : Dev Cert.AdamwSmallIdeal.nD,
      m' ((c.tc : Thread Cert.AdamwSmallReferenceIdeal.nD Cert.AdamwSmallReferenceIdeal.τ).loc Cert.AdamwSmallReferenceIdeal.main_arg0) = m ((c.tc : Thread Cert.AdamwSmallIdeal.nD Cert.AdamwSmallIdeal.τ).loc Cert.AdamwSmallIdeal.main_arg0)
      ∧ m' ((c.tc : Thread Cert.AdamwSmallReferenceIdeal.nD Cert.AdamwSmallReferenceIdeal.τ).loc Cert.AdamwSmallReferenceIdeal.main_arg1) = m ((c.tc : Thread Cert.AdamwSmallIdeal.nD Cert.AdamwSmallIdeal.τ).loc Cert.AdamwSmallIdeal.main_arg1)
      ∧ m' ((c.tc : Thread Cert.AdamwSmallReferenceIdeal.nD Cert.AdamwSmallReferenceIdeal.τ).loc Cert.AdamwSmallReferenceIdeal.main_arg2) = m ((c.tc : Thread Cert.AdamwSmallIdeal.nD Cert.AdamwSmallIdeal.τ).loc Cert.AdamwSmallIdeal.main_arg2)
      ∧ m' ((c.tc : Thread Cert.AdamwSmallReferenceIdeal.nD Cert.AdamwSmallReferenceIdeal.τ).loc Cert.AdamwSmallReferenceIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)) (v3 : (c : Dev Cert.AdamwSmallIdeal.nD) → Buf (Elt Ideal) ((c.tc : Thread Cert.AdamwSmallIdeal.nD Cert.AdamwSmallIdeal.τ).loc Cert.AdamwSmallIdeal.main_v0_3)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_v0_3) = v3 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallReferenceIdeal.defs (F := Ideal)) (onTc (τ := Cert.AdamwSmallReferenceIdeal.τ) (Cert.AdamwSmallReferenceIdeal.main (F := Ideal))) ⟨m', fun _ => 0, g'⟩ (fun r => ∀ c : Dev Cert.AdamwSmallReferenceIdeal.nD,
          r.2.mem ((c.tc : Thread Cert.AdamwSmallReferenceIdeal.nD Cert.AdamwSmallReferenceIdeal.τ).loc Cert.AdamwSmallReferenceIdeal.main_v6) = v0 c
          ∧ r.2.mem ((c.tc : Thread Cert.AdamwSmallReferenceIdeal.nD Cert.AdamwSmallReferenceIdeal.τ).loc Cert.AdamwSmallReferenceIdeal.main_v30) = v1 c
          ∧ r.2.mem ((c.tc : Thread Cert.AdamwSmallReferenceIdeal.nD Cert.AdamwSmallReferenceIdeal.τ).loc Cert.AdamwSmallReferenceIdeal.main_v11) = v2 c
          ∧ r.2.mem ((c.tc : Thread Cert.AdamwSmallReferenceIdeal.nD Cert.AdamwSmallReferenceIdeal.τ).loc Cert.AdamwSmallReferenceIdeal.main_v17) = v3 c
          ∧ r.2.mem ((c.tc : Thread Cert.AdamwSmallReferenceIdeal.nD Cert.AdamwSmallReferenceIdeal.τ).loc Cert.AdamwSmallReferenceIdeal.main_arg0) = m' ((c.tc : Thread Cert.AdamwSmallReferenceIdeal.nD Cert.AdamwSmallReferenceIdeal.τ).loc Cert.AdamwSmallReferenceIdeal.main_arg0)
          ∧ r.2.mem ((c.tc : Thread Cert.AdamwSmallReferenceIdeal.nD Cert.AdamwSmallReferenceIdeal.τ).loc Cert.AdamwSmallReferenceIdeal.main_arg1) = m' ((c.tc : Thread Cert.AdamwSmallReferenceIdeal.nD Cert.AdamwSmallReferenceIdeal.τ).loc Cert.AdamwSmallReferenceIdeal.main_arg1)
          ∧ r.2.mem ((c.tc : Thread Cert.AdamwSmallReferenceIdeal.nD Cert.AdamwSmallReferenceIdeal.τ).loc Cert.AdamwSmallReferenceIdeal.main_arg2) = m' ((c.tc : Thread Cert.AdamwSmallReferenceIdeal.nD Cert.AdamwSmallReferenceIdeal.τ).loc Cert.AdamwSmallReferenceIdeal.main_arg2)
          ∧ r.2.mem ((c.tc : Thread Cert.AdamwSmallReferenceIdeal.nD Cert.AdamwSmallReferenceIdeal.τ).loc Cert.AdamwSmallReferenceIdeal.main_arg3) = m' ((c.tc : Thread Cert.AdamwSmallReferenceIdeal.nD Cert.AdamwSmallReferenceIdeal.τ).loc Cert.AdamwSmallReferenceIdeal.main_arg3))

def preserves_LossSum_LossSumIdeal : Prop :=
  True

def algebraic_LossSumIdeal_LossSumReferenceIdeal [hLossSumIdeal : Cert.LossSumIdeal.Facts] [hLossSumReferenceIdeal : Cert.LossSumReferenceIdeal.Facts] : Prop :=
  ∀ (m : (ℓ : Loc Cert.LossSumIdeal.nD Cert.LossSumIdeal.τ Cert.LossSumIdeal.sig) → Buf (Elt Ideal) ℓ) (g : Dev Cert.LossSumIdeal.nD → PrngReg)
    (m' : (ℓ : Loc Cert.LossSumReferenceIdeal.nD Cert.LossSumReferenceIdeal.τ Cert.LossSumReferenceIdeal.sig) → Buf (Elt Ideal) ℓ) (g' : Dev Cert.LossSumReferenceIdeal.nD → PrngReg), Pre_LossSumIdeal m →
    (∀ c : Dev Cert.LossSumIdeal.nD,
      m' ((c.tc : Thread Cert.LossSumReferenceIdeal.nD Cert.LossSumReferenceIdeal.τ).loc Cert.LossSumReferenceIdeal.main_arg0) = m ((c.tc : Thread Cert.LossSumIdeal.nD Cert.LossSumIdeal.τ).loc Cert.LossSumIdeal.main_arg0)) →
    ∃ (v0 : (c : Dev Cert.LossSumIdeal.nD) → Buf (Elt Ideal) ((c.tc : Thread Cert.LossSumIdeal.nD Cert.LossSumIdeal.τ).loc Cert.LossSumIdeal.main_v0)),
      θ_run (Cert.LossSumIdeal.defs (F := Ideal)) (onTc (τ := Cert.LossSumIdeal.τ) (Cert.LossSumIdeal.main (F := Ideal))) ⟨m, fun _ => 0, g⟩ (fun r => ∀ c : Dev Cert.LossSumIdeal.nD,
          r.2.mem ((c.tc : Thread Cert.LossSumIdeal.nD Cert.LossSumIdeal.τ).loc Cert.LossSumIdeal.main_v0) = v0 c
          ∧ r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ θ_run (Cert.LossSumReferenceIdeal.defs (F := Ideal)) (onTc (τ := Cert.LossSumReferenceIdeal.τ) (Cert.LossSumReferenceIdeal.main (F := Ideal))) ⟨m', fun _ => 0, g'⟩ (fun r => ∀ c : Dev Cert.LossSumReferenceIdeal.nD,
          r.2.mem ((c.tc : Thread Cert.LossSumReferenceIdeal.nD Cert.LossSumReferenceIdeal.τ).loc Cert.LossSumReferenceIdeal.main_v3) = v0 c
          ∧ r.2.mem ((c.tc : Thread Cert.LossSumReferenceIdeal.nD Cert.LossSumReferenceIdeal.τ).loc Cert.LossSumReferenceIdeal.main_arg0) = m' ((c.tc : Thread Cert.LossSumReferenceIdeal.nD Cert.LossSumReferenceIdeal.τ).loc Cert.LossSumReferenceIdeal.main_arg0))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hUpDx : Cert.UpDx.Facts) (hUpDxIdeal : Cert.UpDxIdeal.Facts) (hUpDxReferenceIdeal : Cert.UpDxReferenceIdeal.Facts) (hUpDw : Cert.UpDw.Facts) (hUpDwIdeal : Cert.UpDwIdeal.Facts) (hUpDwReferenceIdeal : Cert.UpDwReferenceIdeal.Facts) (hUp : Cert.Up.Facts) (hUpIdeal : Cert.UpIdeal.Facts) (hUpReferenceIdeal : Cert.UpReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hConvInDw : Cert.ConvInDw.Facts) (hConvInDwIdeal : Cert.ConvInDwIdeal.Facts) (hConvInDwReferenceIdeal : Cert.ConvInDwReferenceIdeal.Facts) (hConvInDx : Cert.ConvInDx.Facts) (hConvInDxIdeal : Cert.ConvInDxIdeal.Facts) (hConvInDxReferenceIdeal : Cert.ConvInDxReferenceIdeal.Facts) (hFoxInDx : Cert.FoxInDx.Facts) (hFoxInDxIdeal : Cert.FoxInDxIdeal.Facts) (hFoxInDxReferenceIdeal : Cert.FoxInDxReferenceIdeal.Facts) (hFoxIn : Cert.FoxIn.Facts) (hFoxInIdeal : Cert.FoxInIdeal.Facts) (hFoxInReferenceIdeal : Cert.FoxInReferenceIdeal.Facts) (hConvIn : Cert.ConvIn.Facts) (hConvInIdeal : Cert.ConvInIdeal.Facts) (hConvInReferenceIdeal : Cert.ConvInReferenceIdeal.Facts) (hDown : Cert.Down.Facts) (hDownIdeal : Cert.DownIdeal.Facts) (hDownReferenceIdeal : Cert.DownReferenceIdeal.Facts) (hFoxInDw : Cert.FoxInDw.Facts) (hFoxInDwIdeal : Cert.FoxInDwIdeal.Facts) (hFoxInDwReferenceIdeal : Cert.FoxInDwReferenceIdeal.Facts) (hOut : Cert.Out.Facts) (hOutIdeal : Cert.OutIdeal.Facts) (hOutReferenceIdeal : Cert.OutReferenceIdeal.Facts) (hNorm : Cert.Norm.Facts) (hNormIdeal : Cert.NormIdeal.Facts) (hNormReferenceIdeal : Cert.NormReferenceIdeal.Facts) (hConvFwd : Cert.ConvFwd.Facts) (hConvFwdIdeal : Cert.ConvFwdIdeal.Facts) (hConvFwdReferenceIdeal : Cert.ConvFwdReferenceIdeal.Facts) (hConvBwd : Cert.ConvBwd.Facts) (hConvBwdIdeal : Cert.ConvBwdIdeal.Facts) (hConvBwdReferenceIdeal : Cert.ConvBwdReferenceIdeal.Facts) (hNormBwd : Cert.NormBwd.Facts) (hNormBwdIdeal : Cert.NormBwdIdeal.Facts) (hNormBwdReferenceIdeal : Cert.NormBwdReferenceIdeal.Facts) (hLossBwd : Cert.LossBwd.Facts) (hLossBwdIdeal : Cert.LossBwdIdeal.Facts) (hLossBwdReferenceIdeal : Cert.LossBwdReferenceIdeal.Facts) (hGateDw : Cert.GateDw.Facts) (hGateDwIdeal : Cert.GateDwIdeal.Facts) (hGateDwReferenceIdeal : Cert.GateDwReferenceIdeal.Facts) (hGateDx : Cert.GateDx.Facts) (hGateDxIdeal : Cert.GateDxIdeal.Facts) (hGateDxReferenceIdeal : Cert.GateDxReferenceIdeal.Facts) (hNormBwdFirst : Cert.NormBwdFirst.Facts) (hNormBwdFirstIdeal : Cert.NormBwdFirstIdeal.Facts) (hNormBwdFirstReferenceIdeal : Cert.NormBwdFirstReferenceIdeal.Facts) (hAdamwSmall : Cert.AdamwSmall.Facts) (hAdamwSmallIdeal : Cert.AdamwSmallIdeal.Facts) (hAdamwSmallReferenceIdeal : Cert.AdamwSmallReferenceIdeal.Facts) (hLossSum : Cert.LossSum.Facts) (hLossSumIdeal : Cert.LossSumIdeal.Facts) (hLossSumReferenceIdeal : Cert.LossSumReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_Up (hUp := hUp)
    ∧ quiescent_UpIdeal (hUpIdeal := hUpIdeal)
    ∧ quiescent_UpReferenceIdeal (hUpReferenceIdeal := hUpReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_ConvInDw (hConvInDw := hConvInDw)
    ∧ quiescent_ConvInDwIdeal (hConvInDwIdeal := hConvInDwIdeal)
    ∧ quiescent_ConvInDwReferenceIdeal (hConvInDwReferenceIdeal := hConvInDwReferenceIdeal)
    ∧ quiescent_ConvInDx (hConvInDx := hConvInDx)
    ∧ quiescent_ConvInDxIdeal (hConvInDxIdeal := hConvInDxIdeal)
    ∧ quiescent_ConvInDxReferenceIdeal (hConvInDxReferenceIdeal := hConvInDxReferenceIdeal)
    ∧ quiescent_FoxInDx (hFoxInDx := hFoxInDx)
    ∧ quiescent_FoxInDxIdeal (hFoxInDxIdeal := hFoxInDxIdeal)
    ∧ quiescent_FoxInDxReferenceIdeal (hFoxInDxReferenceIdeal := hFoxInDxReferenceIdeal)
    ∧ quiescent_FoxIn (hFoxIn := hFoxIn)
    ∧ quiescent_FoxInIdeal (hFoxInIdeal := hFoxInIdeal)
    ∧ quiescent_FoxInReferenceIdeal (hFoxInReferenceIdeal := hFoxInReferenceIdeal)
    ∧ quiescent_ConvIn (hConvIn := hConvIn)
    ∧ quiescent_ConvInIdeal (hConvInIdeal := hConvInIdeal)
    ∧ quiescent_ConvInReferenceIdeal (hConvInReferenceIdeal := hConvInReferenceIdeal)
    ∧ quiescent_Down (hDown := hDown)
    ∧ quiescent_DownIdeal (hDownIdeal := hDownIdeal)
    ∧ quiescent_DownReferenceIdeal (hDownReferenceIdeal := hDownReferenceIdeal)
    ∧ quiescent_FoxInDw (hFoxInDw := hFoxInDw)
    ∧ quiescent_FoxInDwIdeal (hFoxInDwIdeal := hFoxInDwIdeal)
    ∧ quiescent_FoxInDwReferenceIdeal (hFoxInDwReferenceIdeal := hFoxInDwReferenceIdeal)
    ∧ quiescent_Out (hOut := hOut)
    ∧ quiescent_OutIdeal (hOutIdeal := hOutIdeal)
    ∧ quiescent_OutReferenceIdeal (hOutReferenceIdeal := hOutReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_ConvFwd (hConvFwd := hConvFwd)
    ∧ quiescent_ConvFwdIdeal (hConvFwdIdeal := hConvFwdIdeal)
    ∧ quiescent_ConvFwdReferenceIdeal (hConvFwdReferenceIdeal := hConvFwdReferenceIdeal)
    ∧ quiescent_ConvBwd (hConvBwd := hConvBwd)
    ∧ quiescent_ConvBwdIdeal (hConvBwdIdeal := hConvBwdIdeal)
    ∧ quiescent_ConvBwdReferenceIdeal (hConvBwdReferenceIdeal := hConvBwdReferenceIdeal)
    ∧ quiescent_NormBwd (hNormBwd := hNormBwd)
    ∧ quiescent_NormBwdIdeal (hNormBwdIdeal := hNormBwdIdeal)
    ∧ quiescent_NormBwdReferenceIdeal (hNormBwdReferenceIdeal := hNormBwdReferenceIdeal)
    ∧ quiescent_LossBwd (hLossBwd := hLossBwd)
    ∧ quiescent_LossBwdIdeal (hLossBwdIdeal := hLossBwdIdeal)
    ∧ quiescent_LossBwdReferenceIdeal (hLossBwdReferenceIdeal := hLossBwdReferenceIdeal)
    ∧ quiescent_GateDw (hGateDw := hGateDw)
    ∧ quiescent_GateDwIdeal (hGateDwIdeal := hGateDwIdeal)
    ∧ quiescent_GateDwReferenceIdeal (hGateDwReferenceIdeal := hGateDwReferenceIdeal)
    ∧ quiescent_GateDx (hGateDx := hGateDx)
    ∧ quiescent_GateDxIdeal (hGateDxIdeal := hGateDxIdeal)
    ∧ quiescent_GateDxReferenceIdeal (hGateDxReferenceIdeal := hGateDxReferenceIdeal)
    ∧ quiescent_NormBwdFirst (hNormBwdFirst := hNormBwdFirst)
    ∧ quiescent_NormBwdFirstIdeal (hNormBwdFirstIdeal := hNormBwdFirstIdeal)
    ∧ quiescent_NormBwdFirstReferenceIdeal (hNormBwdFirstReferenceIdeal := hNormBwdFirstReferenceIdeal)
    ∧ quiescent_AdamwSmall (hAdamwSmall := hAdamwSmall)
    ∧ quiescent_AdamwSmallIdeal (hAdamwSmallIdeal := hAdamwSmallIdeal)
    ∧ quiescent_AdamwSmallReferenceIdeal (hAdamwSmallReferenceIdeal := hAdamwSmallReferenceIdeal)
    ∧ quiescent_LossSum (hLossSum := hLossSum)
    ∧ quiescent_LossSumIdeal (hLossSumIdeal := hLossSumIdeal)
    ∧ quiescent_LossSumReferenceIdeal (hLossSumReferenceIdeal := hLossSumReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_UpDw_UpDwIdeal
    ∧ algebraic_UpDwIdeal_UpDwReferenceIdeal (hUpDwIdeal := hUpDwIdeal) (hUpDwReferenceIdeal := hUpDwReferenceIdeal)
    ∧ preserves_Up_UpIdeal
    ∧ algebraic_UpIdeal_UpReferenceIdeal (hUpIdeal := hUpIdeal) (hUpReferenceIdeal := hUpReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_ConvInDw_ConvInDwIdeal
    ∧ algebraic_ConvInDwIdeal_ConvInDwReferenceIdeal (hConvInDwIdeal := hConvInDwIdeal) (hConvInDwReferenceIdeal := hConvInDwReferenceIdeal)
    ∧ preserves_ConvInDx_ConvInDxIdeal
    ∧ algebraic_ConvInDxIdeal_ConvInDxReferenceIdeal (hConvInDxIdeal := hConvInDxIdeal) (hConvInDxReferenceIdeal := hConvInDxReferenceIdeal)
    ∧ preserves_FoxInDx_FoxInDxIdeal
    ∧ algebraic_FoxInDxIdeal_FoxInDxReferenceIdeal (hFoxInDxIdeal := hFoxInDxIdeal) (hFoxInDxReferenceIdeal := hFoxInDxReferenceIdeal)
    ∧ preserves_FoxIn_FoxInIdeal
    ∧ algebraic_FoxInIdeal_FoxInReferenceIdeal (hFoxInIdeal := hFoxInIdeal) (hFoxInReferenceIdeal := hFoxInReferenceIdeal)
    ∧ preserves_ConvIn_ConvInIdeal
    ∧ algebraic_ConvInIdeal_ConvInReferenceIdeal (hConvInIdeal := hConvInIdeal) (hConvInReferenceIdeal := hConvInReferenceIdeal)
    ∧ preserves_Down_DownIdeal
    ∧ algebraic_DownIdeal_DownReferenceIdeal (hDownIdeal := hDownIdeal) (hDownReferenceIdeal := hDownReferenceIdeal)
    ∧ preserves_FoxInDw_FoxInDwIdeal
    ∧ algebraic_FoxInDwIdeal_FoxInDwReferenceIdeal (hFoxInDwIdeal := hFoxInDwIdeal) (hFoxInDwReferenceIdeal := hFoxInDwReferenceIdeal)
    ∧ preserves_Out_OutIdeal
    ∧ algebraic_OutIdeal_OutReferenceIdeal (hOutIdeal := hOutIdeal) (hOutReferenceIdeal := hOutReferenceIdeal)
    ∧ preserves_Norm_NormIdeal
    ∧ algebraic_NormIdeal_NormReferenceIdeal (hNormIdeal := hNormIdeal) (hNormReferenceIdeal := hNormReferenceIdeal)
    ∧ preserves_ConvFwd_ConvFwdIdeal
    ∧ algebraic_ConvFwdIdeal_ConvFwdReferenceIdeal (hConvFwdIdeal := hConvFwdIdeal) (hConvFwdReferenceIdeal := hConvFwdReferenceIdeal)
    ∧ preserves_ConvBwd_ConvBwdIdeal
    ∧ algebraic_ConvBwdIdeal_ConvBwdReferenceIdeal (hConvBwdIdeal := hConvBwdIdeal) (hConvBwdReferenceIdeal := hConvBwdReferenceIdeal)
    ∧ preserves_NormBwd_NormBwdIdeal
    ∧ algebraic_NormBwdIdeal_NormBwdReferenceIdeal (hNormBwdIdeal := hNormBwdIdeal) (hNormBwdReferenceIdeal := hNormBwdReferenceIdeal)
    ∧ preserves_LossBwd_LossBwdIdeal
    ∧ algebraic_LossBwdIdeal_LossBwdReferenceIdeal (hLossBwdIdeal := hLossBwdIdeal) (hLossBwdReferenceIdeal := hLossBwdReferenceIdeal)
    ∧ preserves_GateDw_GateDwIdeal
    ∧ algebraic_GateDwIdeal_GateDwReferenceIdeal (hGateDwIdeal := hGateDwIdeal) (hGateDwReferenceIdeal := hGateDwReferenceIdeal)
    ∧ preserves_GateDx_GateDxIdeal
    ∧ algebraic_GateDxIdeal_GateDxReferenceIdeal (hGateDxIdeal := hGateDxIdeal) (hGateDxReferenceIdeal := hGateDxReferenceIdeal)
    ∧ preserves_NormBwdFirst_NormBwdFirstIdeal
    ∧ algebraic_NormBwdFirstIdeal_NormBwdFirstReferenceIdeal (hNormBwdFirstIdeal := hNormBwdFirstIdeal) (hNormBwdFirstReferenceIdeal := hNormBwdFirstReferenceIdeal)
    ∧ preserves_AdamwSmall_AdamwSmallIdeal
    ∧ algebraic_AdamwSmallIdeal_AdamwSmallReferenceIdeal (hAdamwSmallIdeal := hAdamwSmallIdeal) (hAdamwSmallReferenceIdeal := hAdamwSmallReferenceIdeal)
    ∧ preserves_LossSum_LossSumIdeal
    ∧ algebraic_LossSumIdeal_LossSumReferenceIdeal (hLossSumIdeal := hLossSumIdeal) (hLossSumReferenceIdeal := hLossSumReferenceIdeal)
-- ==== Pre_finite.lean ====
abbrev S4096x6144 : Shape := ⟨2, ![4096, 6144]⟩
abbrev S4096x16 : Shape := ⟨2, ![4096, 16]⟩
abbrev S4096x2048 : Shape := ⟨2, ![4096, 2048]⟩
abbrev S_ : Shape := ⟨0, ![]⟩
abbrev S1 : Shape := ⟨1, ![1]⟩
abbrev S3 : Shape := ⟨1, ![3]⟩

class Facts : Prop where
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1 : S_.BroadcastsInDim S1 (![] : Fin 0 → Fin S1.rank)
  concatenates_S1_S1_S1_S3_d0 : Shape.Concatenates [S1, S1, S1] S3 0

variable [Facts]

def fn {F : FTy → Type} [FloatOps F] (main_arg0 : FVec F S4096x6144 .bf16) (main_arg1 : FVec F S4096x16 .f32) (main_arg2 : FVec F S4096x2048 .bf16) : IVec S3 1 :=
  let main_v0 : FVec F S4096x6144 .bf16 := Host.absf main_arg0
  let main_cst : FVec F S_ .bf16 := constant S_ .bf16 0x7F80#16
  let main_v1 : FVec F S4096x6144 .bf16 := broadcastInDim S4096x6144 ![] bcast_S_S4096x6144 main_cst
  let main_v2 : IVec S4096x6144 1 := cmpf .olt main_v0 main_v1
  let main_c : IVec S_ 1 := constantI S_ 1 1#1
  let main_v3 : IVec S_ 1 := (fun x v => Host.reduce IntOp.andi x v reducesTo_S4096x6144_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : FVec F S4096x2048 .bf16 := Host.absf main_arg2
  let main_cst_2 : FVec F S_ .bf16 := constant S_ .bf16 0x7F80#16
  let main_v9 : FVec F S4096x2048 .bf16 := broadcastInDim S4096x2048 ![] bcast_S_S4096x2048 main_cst_2
  let main_v10 : IVec S4096x2048 1 := cmpf .olt main_v8 main_v9
  let main_c_3 : IVec S_ 1 := constantI S_ 1 1#1
  let main_v11 : IVec S_ 1 := (fun x v => Host.reduce IntOp.andi x v reducesTo_S4096x2048_S_d0_1 h_S_) main_v10 main_c_3
  let main_v12 : IVec S1 1 := broadcastInDim S1 ![] bcast_S_S1 main_v3
  let main_v13 : IVec S1 1 := broadcastInDim S1 ![] bcast_S_S1 main_v7
  let main_v14 : IVec S1 1 := broadcastInDim S1 ![] bcast_S_S1 main_v11
  let main_v15 : IVec S3 1 := concatenate S3 0 [⟨S1, main_v12⟩, ⟨S1, main_v13⟩, ⟨S1, main_v14⟩] concatenates_S1_S1_S1_S3_d0
  main_v15
-- ==== Kernel.lean ====
abbrev S4096x6144 : Shape := ⟨2, ![4096, 6144]⟩
abbrev S4096x16 : Shape := ⟨2, ![4096, 16]⟩
abbrev S4096x2048 : Shape := ⟨2, ![4096, 2048]⟩
abbrev S4096x16x128 : Shape := ⟨3, ![4096, 16, 128]⟩
abbrev S16x4096x128 : Shape := ⟨3, ![16, 4096, 128]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x128 : Shape := ⟨2, ![4096, 128]⟩
abbrev S16x4x1024 : Shape := ⟨3, ![16, 4, 1024]⟩
abbrev S4x16x1024 : Shape := ⟨3, ![4, 16, 1024]⟩
abbrev S3x4096x2048 : Shape := ⟨3, ![3, 4096, 2048]⟩
abbrev S3x4096x128 : Shape := ⟨3, ![3, 4096, 128]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩
abbrev S1x1x1024 : Shape := ⟨3, ![1, 1, 1024]⟩
abbrev S1x1024 : Shape := ⟨2, ![1, 1024]⟩
abbrev S512x128 : Shape := ⟨2, ![512, 128]⟩
abbrev S1x512 : Shape := ⟨2, ![1, 512]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1024x1024 : Shape := ⟨2, ![1024, 1024]⟩
abbrev S1x1024x128 : Shape := ⟨3, ![1, 1024, 128]⟩

abbrev nBuf : Space → Nat
  | .hbm => 68
  | .vmem => 20
  | .smem => 0
  | _ => 0

abbrev bufTy : (tb : Table) → Fin (tcTables nBuf tb) → BufTy
  | .hbm, ⟨0, _⟩ => ⟨S4096x6144, .bf16⟩
  | .hbm, ⟨1, _⟩ => ⟨S4096x16, .f32⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .f32⟩
  | .hbm, ⟨7, _⟩ => ⟨S4096x16x128, .f32⟩
  | .hbm, ⟨8, _⟩ => ⟨S16x4096x128, .f32⟩
  | .hbm, ⟨9, _⟩ => ⟨S4096x2048, .f32⟩
  | .hbm, ⟨10, _⟩ => ⟨S4096x16x128, .f32⟩
  | .hbm, ⟨11, _⟩ => ⟨S16x4096x128, .f32⟩
  | .hbm, ⟨12, _⟩ => ⟨S4096x2048, .f32⟩
  | .hbm, ⟨13, _⟩ => ⟨S4096x16x128, .f32⟩
  | .hbm, ⟨14, _⟩ => ⟨S16x4096x128, .f32⟩
  | .hbm, ⟨15, _⟩ => ⟨S_, .f32⟩
  | .hbm, ⟨16, _⟩ => ⟨S16x4096, .f32⟩
  | .hbm, ⟨17, _⟩ => ⟨S16x4096, .f32⟩
  | .hbm, ⟨18, _⟩ => ⟨S16x4096x4096, .f32⟩
  | .hbm, ⟨19, _⟩ => ⟨S_, .f32⟩
  | .hbm, ⟨20, _⟩ => ⟨S16x4096x4096, .f32⟩
  | .hbm, ⟨21, _⟩ => ⟨S16x4096x4096, .f32⟩
  | .hbm, ⟨22, _⟩ => ⟨S16x4096x1, .f32⟩
  | .hbm, ⟨23, _⟩ => ⟨S16x4096x4096, .f32⟩
  | .hbm, ⟨24, _⟩ => ⟨S16x4096x4096, .f32⟩
  | .hbm, ⟨25, _⟩ => ⟨S16x1x4096, .f32⟩
  | .hbm, ⟨26, _⟩ => ⟨S16x4096x4096, .f32⟩
  | .hbm, ⟨27, _⟩ => ⟨S16x4096x4096, .f32⟩
  | .hbm, ⟨28, _⟩ => ⟨S4096, .i32⟩
  | .hbm, ⟨29, _⟩ => ⟨S1x4096, .i32⟩
  | .hbm, ⟨30, _⟩ => ⟨S4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S16x4096x4096, .i1⟩
  | .hbm, ⟨38, _⟩ => ⟨S16x4096x4096, .f32⟩
  | .hbm, ⟨39, _⟩ => ⟨S16x4096x4096, .f32⟩
  | .hbm, ⟨40, _⟩ => ⟨S_, .f32⟩
  | .hbm, ⟨41, _⟩ => ⟨S16x4096, .f32⟩
  | .hbm, ⟨42, _⟩ => ⟨S16x4096x1, .f32⟩
  | .hbm, ⟨43, _⟩ => ⟨S16x4096x4096, .f32⟩
  | .hbm, ⟨44, _⟩ => ⟨S16x4096x4096, .f32⟩
  | .hbm, ⟨45, _⟩ => ⟨S16x4096x4096, .f32⟩
  | .hbm, ⟨46, _⟩ => ⟨S_, .f32⟩
  | .hbm, ⟨47, _⟩ => ⟨S16x4096, .f32⟩
  | .hbm, ⟨48, _⟩ => ⟨S16x4096x1, .f32⟩
  | .hbm, ⟨49, _⟩ => ⟨S16x4096x4096, .f32⟩
  | .hbm, ⟨50, _⟩ => ⟨S16x4096x4096, .f32⟩
  | .hbm, ⟨51, _⟩ => ⟨S16x4096x128, .f32⟩
  | .hbm, ⟨52, _⟩ => ⟨S4096x16x128, .f32⟩
  | .hbm, ⟨53, _⟩ => ⟨S4096x2048, .f32⟩
  | .hbm, ⟨54, _⟩ => ⟨S4096x2048, .bf16⟩
  | .hbm, ⟨55, _⟩ => ⟨S16x4096x1, .f32⟩
  | .hbm, ⟨56, _⟩ => ⟨S16x4096x1, .f32⟩
  | .hbm, ⟨57, _⟩ => ⟨S16x4096, .f32⟩
  | .hbm, ⟨58, _⟩ => ⟨S4096x16, .f32⟩
  | .hbm, ⟨59, _⟩ => ⟨S_, .i32⟩
  | .hbm, ⟨60, _⟩ => ⟨S_, .f32⟩
  | .hbm, ⟨61, _⟩ => ⟨S4096x128, .f32⟩
  | .hbm, ⟨62, _⟩ => ⟨S16x4096, .f32⟩
  | .hbm, ⟨63, _⟩ => ⟨S16x4x1024, .f32⟩
  | .hbm, ⟨64, _⟩ => ⟨S4x16x1024, .f32⟩
  | .hbm, ⟨65, _⟩ => ⟨S3x4096x2048, .bf16⟩
  | .hbm, ⟨66, _⟩ => ⟨S4096x128, .f32⟩
  | .hbm, ⟨67, _⟩ => ⟨S4x16x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S4x16x1024, .f32⟩
  | .local _ .vmem, ⟨11, _⟩ => ⟨S4096x128, .f32⟩
  | .local _ .vmem, ⟨12, _⟩ => ⟨S3x4096x128, .bf16⟩
  | .local _ .vmem, ⟨13, _⟩ => ⟨S3x4096x128, .bf16⟩
  | .local _ .vmem, ⟨14, _⟩ => ⟨S4096x128, .f32⟩
  | .local _ .vmem, ⟨15, _⟩ => ⟨S4x16x1024, .f32⟩
  | .local _ .vmem, ⟨16, _⟩ => ⟨S4096x128, .f32⟩
  | .local _ .vmem, ⟨17, _⟩ => ⟨S4096x1, .f32⟩
  | .local _ .vmem, ⟨18, _⟩ => ⟨S4096x1, .f32⟩
  | .local _ .vmem, ⟨19, _⟩ => ⟨S4096x1, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c : Ref sig .tc := ⟨.hbm, 59, rfl⟩
abbrev main_call1_v0 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52_0 : Ref sig .tc := ⟨.hbm, 65, rfl⟩
abbrev main_v52_1 : Ref sig .tc := ⟨.hbm, 66, rfl⟩
abbrev main_v52_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_5 : BitVec 32 := 0#32
  let c4_i32 : BitVec 32 := 4#32
  let v14 : BitVec 32 := Scalar.addi c0_i32_5 c4_i32
  let c1_i32 : BitVec 32 := 1#32
  ⟨c0_i32_5, v14, c1_i32⟩
def k0_mult1 (k0_t1 : Fin k0_t1_loop.trips) : BitVec 32 :=
  let c0_i32_5 : BitVec 32 := 0#32
  let c1_i32 : BitVec 32 := 1#32
  let arg15 : BitVec 32 := Scf.iv c0_i32_5 c1_i32 k0_t1
  let c1024_i32 : BitVec 32 := 1024#32
  let v17 : BitVec 32 := Scalar.muli arg15 c1024_i32
  v17
def k0_off1 (k0_t1 : Fin k0_t1_loop.trips) : Fin 2 → Nat :=
  let c0_i32_5 : BitVec 32 := 0#32
  let c1_i32 : BitVec 32 := 1#32
  let arg15 : BitVec 32 := Scf.iv c0_i32_5 c1_i32 k0_t1
  let c1024_i32 : BitVec 32 := 1024#32
  let v17 : BitVec 32 := Scalar.muli arg15 c1024_i32
  let v18 : BitVec 32 := v17
  let v19 : Index := Scalar.indexCast v18
  let c0_15 : Index := 0#32
  ![v19.toNat, 0]
def k0_off2 (k0_t1 : Fin k0_t1_loop.trips) : Fin 2 → Nat :=
  let c0_i32_5 : BitVec 32 := 0#32
  let c1_i32 : BitVec 32 := 1#32
  let arg15 : BitVec 32 := Scf.iv c0_i32_5 c1_i32 k0_t1
  let c1024_i32 : BitVec 32 := 1024#32
  let v17 : BitVec 32 := Scalar.muli arg15 c1024_i32
  let v18 : BitVec 32 := v17
  let v28 : Index := Scalar.indexCast v18
  let c0_18 : Index := 0#32
  ![v28.toNat, 0]
@[reducible] def k0_t2_loop : Scf.Loop 32 :=
  let c0_i32_7 : BitVec 32 := 0#32
  let c4_i32_8 : BitVec 32 := 4#32
  let v15 : BitVec 32 := Scalar.addi c0_i32_7 c4_i32_8
  let c1_i32_9 : BitVec 32 := 1#32
  ⟨c0_i32_7, v15, c1_i32_9⟩
def k0_mult2 (k0_t2 : Fin k0_t2_loop.trips) : BitVec 32 :=
  let c0_i32_7 : BitVec 32 := 0#32
  let c1_i32_9 : BitVec 32 := 1#32
  let arg15 : BitVec 32 := Scf.iv c0_i32_7 c1_i32_9 k0_t2
  let c1024_i32 : BitVec 32 := 1024#32
  let v17 : BitVec 32 := Scalar.muli arg15 c1024_i32
  v17
def k0_off3 (k0_t2 : Fin k0_t2_loop.trips) : Fin 2 → Nat :=
  let c0_i32_7 : BitVec 32 := 0#32
  let c1_i32_9 : BitVec 32 := 1#32
  let arg15 : BitVec 32 := Scf.iv c0_i32_7 c1_i32_9 k0_t2
  let c1024_i32 : BitVec 32 := 1024#32
  let v17 : BitVec 32 := Scalar.muli arg15 c1024_i32
  let v18 : BitVec 32 := v17
  let v19 : Index := Scalar.indexCast v18
  let c0_15 : Index := 0#32
  ![v19.toNat, 0]
def k0_off4 (i : grid0.Coords) (k0_t2 : Fin k0_t2_loop.trips) : Fin 3 → Nat :=
  let c0_i32_7 : BitVec 32 := 0#32
  let c1_i32_9 : BitVec 32 := 1#32
  let arg15 : BitVec 32 := Scf.iv c0_i32_7 c1_i32_9 k0_t2
  let v23 : Index := Scalar.indexCast arg15
  let arg0 : BitVec 32 := BitVec.ofNat 32 (i 0).val
  let v24 : Index := Scalar.indexCast arg0
  let c0_17 : Index := 0#32
  ![v23.toNat, v24.toNat, 0]
def k0_mult3 (k0_t2 : Fin k0_t2_loop.trips) : BitVec 32 :=
  let c0_i32_7 : BitVec 32 := 0#32
  let c1_i32_9 : BitVec 32 := 1#32
  let arg15 : BitVec 32 := Scf.iv c0_i32_7 c1_i32_9 k0_t2
  let c1024_i32_18 : BitVec 32 := 1024#32
  let v27 : BitVec 32 := Scalar.muli arg15 c1024_i32_18
  let c0_i32_19 : BitVec 32 := 0#32
  let v28 : BitVec 32 := Scalar.addi v27 c0_i32_19
  v28
def k0_off5 (k0_t2 : Fin k0_t2_loop.trips) : Fin 2 → Nat :=
  let c0_i32_7 : BitVec 32 := 0#32
  let c1_i32_9 : BitVec 32 := 1#32
  let arg15 : BitVec 32 := Scf.iv c0_i32_7 c1_i32_9 k0_t2
  let c1024_i32_18 : BitVec 32 := 1024#32
  let v27 : BitVec 32 := Scalar.muli arg15 c1024_i32_18
  let c0_i32_19 : BitVec 32 := 0#32
  let v28 : BitVec 32 := Scalar.addi v27 c0_i32_19
  let v29 : BitVec 32 := v28
  let v33 : Index := Scalar.indexCast v29
  let c0_20 : Index := 0#32
  ![v33.toNat, 0]
def k0_off6 (k0_t2 : Fin k0_t2_loop.trips) : Fin 2 → Nat :=
  let c0_i32_7 : BitVec 32 := 0#32
  let c1_i32_9 : BitVec 32 := 1#32
  let arg15 : BitVec 32 := Scf.iv c0_i32_7 c1_i32_9 k0_t2
  let c1024_i32_18 : BitVec 32 := 1024#32
  let v27 : BitVec 32 := Scalar.muli arg15 c1024_i32_18
  let c0_i32_19 : BitVec 32 := 0#32
  let v28 : BitVec 32 := Scalar.addi v27 c0_i32_19
  let v29 : BitVec 32 := v28
  let v42 : Index := Scalar.indexCast v29
  let c0_24 : Index := 0#32
  ![v42.toNat, 0]
def k0_mult4 (k0_t2 : Fin k0_t2_loop.trips) : BitVec 32 :=
  let c0_i32_7 : BitVec 32 := 0#32
  let c1_i32_9 : BitVec 32 := 1#32
  let arg15 : BitVec 32 := Scf.iv c0_i32_7 c1_i32_9 k0_t2
  let c1024_i32_37 : BitVec 32 := 1024#32
  let v81 : BitVec 32 := Scalar.muli arg15 c1024_i32_37
  let c512_i32 : BitVec 32 := 512#32
  let v82 : BitVec 32 := Scalar.addi v81 c512_i32
  v82
def k0_off7 (k0_t2 : Fin k0_t2_loop.trips) : Fin 2 → Nat :=
  let c0_i32_7 : BitVec 32 := 0#32
  let c1_i32_9 : BitVec 32 := 1#32
  let arg15 : BitVec 32 := Scf.iv c0_i32_7 c1_i32_9 k0_t2
  let c1024_i32_37 : BitVec 32 := 1024#32
  let v81 : BitVec 32 := Scalar.muli arg15 c1024_i32_37
  let c512_i32 : BitVec 32 := 512#32
  let v82 : BitVec 32 := Scalar.addi v81 c512_i32
  let v83 : BitVec 32 := v82
  let v87 : Index := Scalar.indexCast v83
  let c0_38 : Index := 0#32
  ![v87.toNat, 0]
def k0_off8 (k0_t2 : Fin k0_t2_loop.trips) : Fin 2 → Nat :=
  let c0_i32_7 : BitVec 32 := 0#32
  let c1_i32_9 : BitVec 32 := 1#32
  let arg15 : BitVec 32 := Scf.iv c0_i32_7 c1_i32_9 k0_t2
  let c1024_i32_37 : BitVec 32 := 1024#32
  let v81 : BitVec 32 := Scalar.muli arg15 c1024_i32_37
  let c512_i32 : BitVec 32 := 512#32
  let v82 : BitVec 32 := Scalar.addi v81 c512_i32
  let v83 : BitVec 32 := v82
  let v96 : Index := Scalar.indexCast v83
  let c0_42 : Index := 0#32
  ![v96.toNat, 0]
@[reducible] def k0_t3_loop (k0_t2 : Fin k0_t2_loop.trips) : Scf.Loop 32 :=
  let c0_i32_7 : BitVec 32 := 0#32
  let c1_i32_9 : BitVec 32 := 1#32
  let arg15 : BitVec 32 := Scf.iv c0_i32_7 c1_i32_9 k0_t2
  let c1_i32_55 : BitVec 32 := 1#32
  let v138 : BitVec 32 := Scalar.addi arg15 c1_i32_55
  let c4_i32_56 : BitVec 32 := 4#32
  let v139 : BitVec 32 := Scalar.subi c4_i32_56 v138
  let c1_i32_57 : BitVec 32 := 1#32
  let v141 : BitVec 32 := Scalar.divsi v139 c1_i32_57
  let v142 : BitVec 32 := Scalar.muli v141 c1_i32_57
  let v143 : BitVec 32 := Scalar.addi v138 v142
  let c1_i32_58 : BitVec 32 := 1#32
  ⟨v138, v143, c1_i32_58⟩
def k0_mult5 (k0_t2 : Fin k0_t2_loop.trips) (k0_t3 : Fin (k0_t3_loop k0_t2).trips) : BitVec 32 :=
  let c0_i32_7 : BitVec 32 := 0#32
  let c1_i32_9 : BitVec 32 := 1#32
  let arg15 : BitVec 32 := Scf.iv c0_i32_7 c1_i32_9 k0_t2
  let c1_i32_55 : BitVec 32 := 1#32
  let v138 : BitVec 32 := Scalar.addi arg15 c1_i32_55
  let c1_i32_58 : BitVec 32 := 1#32
  let arg16 : BitVec 32 := Scf.iv v138 c1_i32_58 k0_t3
  let c1024_i32_64 : BitVec 32 := 1024#32
  let v163 : BitVec 32 := Scalar.muli arg16 c1024_i32_64
  v163
def k0_off9 (k0_t2 : Fin k0_t2_loop.trips) (k0_t3 : Fin (k0_t3_loop k0_t2).trips) : Fin 2 → Nat :=
  let c0_i32_7 : BitVec 32 := 0#32
  let c1_i32_9 : BitVec 32 := 1#32
  let arg15 : BitVec 32 := Scf.iv c0_i32_7 c1_i32_9 k0_t2
  let c1_i32_55 : BitVec 32 := 1#32
  let v138 : BitVec 32 := Scalar.addi arg15 c1_i32_55
  let c1_i32_58 : BitVec 32 := 1#32
  let arg16 : BitVec 32 := Scf.iv v138 c1_i32_58 k0_t3
  let c1024_i32_64 : BitVec 32 := 1024#32
  let v163 : BitVec 32 := Scalar.muli arg16 c1024_i32_64
  let v164 : BitVec 32 := v163
  let v165 : Index := Scalar.indexCast v164
  let c0_65 : Index := 0#32
  ![v165.toNat, 0]
def k0_off10 (k0_t2 : Fin k0_t2_loop.trips) (k0_t3 : Fin (k0_t3_loop k0_t2).trips) : Fin 2 → Nat :=
  let c0_i32_7 : BitVec 32 := 0#32
  let c1_i32_9 : BitVec 32 := 1#32
  let arg15 : BitVec 32 := Scf.iv c0_i32_7 c1_i32_9 k0_t2
  let c1_i32_55 : BitVec 32 := 1#32
  let v138 : BitVec 32 := Scalar.addi arg15 c1_i32_55
  let c1_i32_58 : BitVec 32 := 1#32
  let arg16 : BitVec 32 := Scf.iv v138 c1_i32_58 k0_t3
  let c1024_i32_64 : BitVec 32 := 1024#32
  let v163 : BitVec 32 := Scalar.muli arg16 c1024_i32_64
  let v164 : BitVec 32 := v163
  let v174 : Index := Scalar.indexCast v164
  let c0_69 : Index := 0#32
  ![v174.toNat, 0]
@[reducible] def k0_t4_loop (k0_t2 : Fin k0_t2_loop.trips) : Scf.Loop 32 :=
  let c0_i32_7 : BitVec 32 := 0#32
  let c1_i32_9 : BitVec 32 := 1#32
  let arg15 : BitVec 32 := Scf.iv c0_i32_7 c1_i32_9 k0_t2
  let c1_i32_55 : BitVec 32 := 1#32
  let v138 : BitVec 32 := Scalar.addi arg15 c1_i32_55
  let c4_i32_56 : BitVec 32 := 4#32
  let v139 : BitVec 32 := Scalar.subi c4_i32_56 v138
  let c1_i32_57 : BitVec 32 := 1#32
  let v141 : BitVec 32 := Scalar.divsi v139 c1_i32_57
  let v142 : BitVec 32 := Scalar.muli v141 c1_i32_57
  let v143 : BitVec 32 := Scalar.addi v138 v142
  let v140 : BitVec 32 := Scalar.addi v138 v139
  let c1_i32_59 : BitVec 32 := 1#32
  ⟨v143, v140, c1_i32_59⟩
def k0_mult6 (k0_t2 : Fin k0_t2_loop.trips) (k0_t4 : Fin (k0_t4_loop k0_t2).trips) : BitVec 32 :=
  let c0_i32_7 : BitVec 32 := 0#32
  let c1_i32_9 : BitVec 32 := 1#32
  let arg15 : BitVec 32 := Scf.iv c0_i32_7 c1_i32_9 k0_t2
  let c1_i32_55 : BitVec 32 := 1#32
  let v138 : BitVec 32 := Scalar.addi arg15 c1_i32_55
  let c4_i32_56 : BitVec 32 := 4#32
  let v139 : BitVec 32 := Scalar.subi c4_i32_56 v138
  let c1_i32_57 : BitVec 32 := 1#32
  let v141 : BitVec 32 := Scalar.divsi v139 c1_i32_57
  let v142 : BitVec 32 := Scalar.muli v141 c1_i32_57
  let v143 : BitVec 32 := Scalar.addi v138 v142
  let c1_i32_59 : BitVec 32 := 1#32
  let arg16 : BitVec 32 := Scf.iv v143 c1_i32_59 k0_t4
  let c1024_i32_64 : BitVec 32 := 1024#32
  let v163 : BitVec 32 := Scalar.muli arg16 c1024_i32_64
  v163
def k0_off11 (k0_t2 : Fin k0_t2_loop.trips) (k0_t4 : Fin (k0_t4_loop k0_t2).trips) : Fin 2 → Nat :=
  let c0_i32_7 : BitVec 32 := 0#32
  let c1_i32_9 : BitVec 32 := 1#32
  let arg15 : BitVec 32 := Scf.iv c0_i32_7 c1_i32_9 k0_t2
  let c1_i32_55 : BitVec 32 := 1#32
  let v138 : BitVec 32 := Scalar.addi arg15 c1_i32_55
  let c4_i32_56 : BitVec 32 := 4#32
  let v139 : BitVec 32 := Scalar.subi c4_i32_56 v138
  let c1_i32_57 : BitVec 32 := 1#32
  let v141 : BitVec 32 := Scalar.divsi v139 c1_i32_57
  let v142 : BitVec 32 := Scalar.muli v141 c1_i32_57
  let v143 : BitVec 32 := Scalar.addi v138 v142
  let c1_i32_59 : BitVec 32 := 1#32
  let arg16 : BitVec 32 := Scf.iv v143 c1_i32_59 k0_t4
  let c1024_i32_64 : BitVec 32 := 1024#32
  let v163 : BitVec 32 := Scalar.muli arg16 c1024_i32_64
  let v164 : BitVec 32 := v163
  let v165 : Index := Scalar.indexCast v164
  let c0_65 : Index := 0#32
  ![v165.toNat, 0]
def k0_off12 (k0_t2 : Fin k0_t2_loop.trips) (k0_t4 : Fin (k0_t4_loop k0_t2).trips) : Fin 2 → Nat :=
  let c0_i32_7 : BitVec 32 := 0#32
  let c1_i32_9 : BitVec 32 := 1#32
  let arg15 : BitVec 32 := Scf.iv c0_i32_7 c1_i32_9 k0_t2
  let c1_i32_55 : BitVec 32 := 1#32
  let v138 : BitVec 32 := Scalar.addi arg15 c1_i32_55
  let c4_i32_56 : BitVec 32 := 4#32
  let v139 : BitVec 32 := Scalar.subi c4_i32_56 v138
  let c1_i32_57 : BitVec 32 := 1#32
  let v141 : BitVec 32 := Scalar.divsi v139 c1_i32_57
  let v142 : BitVec 32 := Scalar.muli v141 c1_i32_57
  let v143 : BitVec 32 := Scalar.addi v138 v142
  let c1_i32_59 : BitVec 32 := 1#32
  let arg16 : BitVec 32 := Scf.iv v143 c1_i32_59 k0_t4
  let c1024_i32_64 : BitVec 32 := 1024#32
  let v163 : BitVec 32 := Scalar.muli arg16 c1024_i32_64
  let v164 : BitVec 32 := v163
  let v174 : Index := Scalar.indexCast v164
  let c0_69 : Index := 0#32
  ![v174.toNat, 0]
def k0_off13 (k0_t2 : Fin k0_t2_loop.trips) : Fin 3 → Nat :=
  let c1 : Index := 1#32
  let c0_i32_7 : BitVec 32 := 0#32
  let c1_i32_9 : BitVec 32 := 1#32
  let arg15 : BitVec 32 := Scf.iv c0_i32_7 c1_i32_9 k0_t2
  let c1024_i32 : BitVec 32 := 1024#32
  let v17 : BitVec 32 := Scalar.muli arg15 c1024_i32
  let v18 : BitVec 32 := v17
  let v149 : Index := Scalar.indexCast v18
  let c0_61 : Index := 0#32
  ![1, v149.toNat, 0]
def k0_off14 (k0_t2 : Fin k0_t2_loop.trips) : Fin 3 → Nat :=
  let c2 : Index := 2#32
  let c0_i32_7 : BitVec 32 := 0#32
  let c1_i32_9 : BitVec 32 := 1#32
  let arg15 : BitVec 32 := Scf.iv c0_i32_7 c1_i32_9 k0_t2
  let c1024_i32 : BitVec 32 := 1024#32
  let v17 : BitVec 32 := Scalar.muli arg15 c1024_i32
  let v18 : BitVec 32 := v17
  let v154 : Index := Scalar.indexCast v18
  let c0_62 : Index := 0#32
  ![2, v154.toNat, 0]
@[reducible] def k0_t5_loop : Scf.Loop 32 :=
  let c0_i32_11 : BitVec 32 := 0#32
  let c4_i32_12 : BitVec 32 := 4#32
  let v16 : BitVec 32 := Scalar.addi c0_i32_11 c4_i32_12
  let c1_i32_13 : BitVec 32 := 1#32
  ⟨c0_i32_11, v16, c1_i32_13⟩
def k0_mult7 (k0_t5 : Fin k0_t5_loop.trips) : BitVec 32 :=
  let c0_i32_11 : BitVec 32 := 0#32
  let c1_i32_13 : BitVec 32 := 1#32
  let arg15 : BitVec 32 := Scf.iv c0_i32_11 c1_i32_13 k0_t5
  let c1024_i32 : BitVec 32 := 1024#32
  let v17 : BitVec 32 := Scalar.muli arg15 c1024_i32
  v17
def k0_off15 (k0_t5 : Fin k0_t5_loop.trips) : Fin 2 → Nat :=
  let c0_i32_11 : BitVec 32 := 0#32
  let c1_i32_13 : BitVec 32 := 1#32
  let arg15 : BitVec 32 := Scf.iv c0_i32_11 c1_i32_13 k0_t5
  let c1024_i32 : BitVec 32 := 1024#32
  let v17 : BitVec 32 := Scalar.muli arg15 c1024_i32
  let v18 : BitVec 32 := v17
  let v19 : Index := Scalar.indexCast v18
  let c0_15 : Index := 0#32
  ![v19.toNat, 0]
def k0_off16 (k0_t5 : Fin k0_t5_loop.trips) : Fin 3 → Nat :=
  let c0_17 : Index := 0#32
  let c0_i32_11 : BitVec 32 := 0#32
  let c1_i32_13 : BitVec 32 := 1#32
  let arg15 : BitVec 32 := Scf.iv c0_i32_11 c1_i32_13 k0_t5
  let c1024_i32 : BitVec 32 := 1024#32
  let v17 : BitVec 32 := Scalar.muli arg15 c1024_i32
  let v18 : BitVec 32 := v17
  let v24 : Index := Scalar.indexCast v18
  let c0_18 : Index := 0#32
  ![0, v24.toNat, 0]
def k0_off17 (k0_t5 : Fin k0_t5_loop.trips) : Fin 2 → Nat :=
  let c0_i32_11 : BitVec 32 := 0#32
  let c1_i32_13 : BitVec 32 := 1#32
  let arg15 : BitVec 32 := Scf.iv c0_i32_11 c1_i32_13 k0_t5
  let c1024_i32 : BitVec 32 := 1024#32
  let v17 : BitVec 32 := Scalar.muli arg15 c1024_i32
  let v18 : BitVec 32 := v17
  let v28 : Index := Scalar.indexCast v18
  let c0_19 : Index := 0#32
  ![v28.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x6144 : Shape := ⟨2, ![4096, 6144]⟩
abbrev S4096x16 : Shape := ⟨2, ![4096, 16]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096 : Shape := ⟨2, ![16, 4096]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S1x4096x2048 : Shape := ⟨3, ![1, 4096, 2048]⟩
abbrev S3x4096x2048 : Shape := ⟨3, ![3, 4096, 2048]⟩
abbrev S4096x128 : Shape := ⟨2, ![4096, 128]⟩
abbrev S16x4x1024 : Shape := ⟨3, ![16, 4, 1024]⟩
abbrev S4x16x1024 : Shape := ⟨3, ![4, 16, 1024]⟩

abbrev nBuf : Space → Nat
  | .hbm => 137
  | .vmem => 0
  | .smem => 0
  | _ => 0

abbrev hbmTy0_0 (i : Nat) : BufTy := match i % 128 with
  | 0 => ⟨S4096x6144, .bf16⟩
  | 1 => ⟨S4096x16, .f32⟩
  | 2 => ⟨S4096x2048, .bf16⟩
  | 3 => ⟨S4096x2048, .bf16⟩
  | 4 => ⟨S4096x2048, .bf16⟩
  | 5 => ⟨S4096x2048, .bf16⟩
  | 6 => ⟨S4096x2048, .f32⟩
  | 7 => ⟨S4096x16x128, .f32⟩
  | 8 => ⟨S16x4096x128, .f32⟩
  | 9 => ⟨S4096x2048, .f32⟩
  | 10 => ⟨S4096x16x128, .f32⟩
  | 11 => ⟨S16x4096x128, .f32⟩
  | 12 => ⟨S4096x2048, .f32⟩
  | 13 => ⟨S4096x16x128, .f32⟩
  | 14 => ⟨S16x4096x128, .f32⟩
  | 15 => ⟨S4096x2048, .f32⟩
  | 16 => ⟨S4096x16x128, .f32⟩
  | 17 => ⟨S16x4096x128, .f32⟩
  | 18 => ⟨S16x4096, .f32⟩
  | 19 => ⟨S16x4096, .f32⟩
  | 20 => ⟨S16x4096x4096, .f32⟩
  | 21 => ⟨S_, .f32⟩
  | 22 => ⟨S16x4096x4096, .f32⟩
  | 23 => ⟨S16x4096x4096, .f32⟩
  | 24 => ⟨S16x4096x1, .f32⟩
  | 25 => ⟨S16x4096x4096, .f32⟩
  | 26 => ⟨S16x4096x4096, .f32⟩
  | 27 => ⟨S16x1x4096, .f32⟩
  | 28 => ⟨S16x4096x4096, .f32⟩
  | 29 => ⟨S16x4096x4096, .f32⟩
  | 30 => ⟨S4096, .i32⟩
  | 31 => ⟨S1x4096, .i32⟩
  | 32 => ⟨S4096, .i32⟩
  | 33 => ⟨S4096x1, .i32⟩
  | 34 => ⟨S4096x4096, .i32⟩
  | 35 => ⟨S4096x4096, .i32⟩
  | 36 => ⟨S4096x4096, .i1⟩
  | 37 => ⟨S_, .f32⟩
  | 38 => ⟨S_, .f32⟩
  | 39 => ⟨S16x4096x4096, .i1⟩
  | 40 => ⟨S16x4096x4096, .f32⟩
  | 41 => ⟨S16x4096x4096, .f32⟩
  | 42 => ⟨S_, .f32⟩
  | 43 => ⟨S16x4096x4096, .f32⟩
  | 44 => ⟨S_, .f32⟩
  | 45 => ⟨S16x4096, .f32⟩
  | 46 => ⟨S16x4096x1, .f32⟩
  | 47 => ⟨S16x4096x4096, .f32⟩
  | 48 => ⟨S16x4096x4096, .i1⟩
  | 49 => ⟨S16x4096x4096, .f32⟩
  | 50 => ⟨S_, .f32⟩
  | 51 => ⟨S16x4096, .f32⟩
  | 52 => ⟨S_, .f32⟩
  | 53 => ⟨S16x4096, .f32⟩
  | 54 => ⟨S16x4096, .f32⟩
  | 55 => ⟨S_, .f32⟩
  | 56 => ⟨S16x4096, .f32⟩
  | 57 => ⟨S16x4096, .i1⟩
  | 58 => ⟨S_, .f32⟩
  | 59 => ⟨S16x4096, .f32⟩
  | 60 => ⟨S16x4096, .i1⟩
  | 61 => ⟨S_, .f32⟩
  | 62 => ⟨S16x4096, .f32⟩
  | 63 => ⟨S_, .f32⟩
  | 64 => ⟨S16x4096, .f32⟩
  | 65 => ⟨S_, .f32⟩
  | 66 => ⟨S16x4096, .f32⟩
  | 67 => ⟨S16x4096, .f32⟩
  | 68 => ⟨S16x4096, .f32⟩
  | 69 => ⟨S16x4096x1, .f32⟩
  | 70 => ⟨S16x4096x4096, .f32⟩
  | 71 => ⟨S16x4096x4096, .f32⟩
  | 72 => ⟨S16x4096x4096, .f32⟩
  | 73 => ⟨S_, .f32⟩
  | 74 => ⟨S16x4096, .f32⟩
  | 75 => ⟨S16x4096x1, .f32⟩
  | 76 => ⟨S16x4096x4096, .f32⟩
  | 77 => ⟨S16x4096x4096, .f32⟩
  | 78 => ⟨S16x4096x1, .f32⟩
  | 79 => ⟨S_, .f32⟩
  | 80 => ⟨S16x4096x1, .f32⟩
  | 81 => ⟨S16x4096x1, .f32⟩
  | 82 => ⟨S16x4096x128, .f32⟩
  | 83 => ⟨S16x128x4096, .f32⟩
  | 84 => ⟨S16x4096x128, .f32⟩
  | 85 => ⟨S16x4096x4096, .f32⟩
  | 86 => ⟨S16x4096x4096, .f32⟩
  | 87 => ⟨S16x4096x4096, .f32⟩
  | 88 => ⟨S16x4096x4096, .f32⟩
  | 89 => ⟨S_, .f32⟩
  | 90 => ⟨S16x4096, .f32⟩
  | 91 => ⟨S16x4096x1, .f32⟩
  | 92 => ⟨S16x4096x1, .f32⟩
  | 93 => ⟨S16x4096x4096, .f32⟩
  | 94 => ⟨S16x4096x4096, .f32⟩
  | 95 => ⟨S_, .f32⟩
  | 96 => ⟨S16x4096, .f32⟩
  | 97 => ⟨S16x4096x4096, .f32⟩
  | 98 => ⟨S16x4096x4096, .f32⟩
  | 99 => ⟨S16x4096x4096, .f32⟩
  | 100 => ⟨S_, .f32⟩
  | 101 => ⟨S16x4096x4096, .f32⟩
  | 102 => ⟨S16x4096x4096, .f32⟩
  | 103 => ⟨S16x4096x4096, .f32⟩
  | 104 => ⟨S_, .f32⟩
  | 105 => ⟨S16x4096, .f32⟩
  | 106 => ⟨S16x1x4096, .f32⟩
  | 107 => ⟨S_, .f32⟩
  | 108 => ⟨S16x4096, .f32⟩
  | 109 => ⟨S_, .f32⟩
  | 110 => ⟨S16x4096, .f32⟩
  | 111 => ⟨S16x4096x1, .f32⟩
  | 112 => ⟨S_, .f32⟩
  | 113 => ⟨S16x4096, .f32⟩
  | 114 => ⟨S_, .f32⟩
  | 115 => ⟨S16x4096x4096, .f32⟩
  | 116 => ⟨S16x4096x4096, .f32⟩
  | 117 => ⟨S16x4096x128, .f32⟩
  | 118 => ⟨S16x4096x128, .f32⟩
  | 119 => ⟨S4096x16x128, .f32⟩
  | 120 => ⟨S4096x2048, .f32⟩
  | 121 => ⟨S4096x16x128, .f32⟩
  | 122 => ⟨S4096x2048, .f32⟩
  | 123 => ⟨S4096x16x128, .f32⟩
  | 124 => ⟨S4096x2048, .f32⟩
  | 125 => ⟨S1x4096x2048, .f32⟩
  | 126 => ⟨S1x4096x2048, .f32⟩
  | 127 => ⟨S1x4096x2048, .f32⟩
  | _ => ⟨S4096x6144, .bf16⟩

abbrev hbmTy0_1 (i : Nat) : BufTy := match i % 128 with
  | 0 => ⟨S3x4096x2048, .f32⟩
  | 1 => ⟨S3x4096x2048, .bf16⟩
  | 2 => ⟨S4096x16, .f32⟩
  | 3 => ⟨S_, .i32⟩
  | 4 => ⟨S_, .f32⟩
  | 5 => ⟨S4096x128, .f32⟩
  | 6 => ⟨S16x4x1024, .f32⟩
  | 7 => ⟨S4x16x1024, .f32⟩
  | 8 => ⟨S4x16x1024, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_0 : Ref sig .tc := ⟨.hbm, 37, rfl⟩
abbrev main_call0_v0 : Ref sig .tc := ⟨.hbm, 38, rfl⟩
abbrev main_v33_1 : Ref sig .tc := ⟨.hbm, 39, rfl⟩
abbrev main_call0_v2 : Ref sig .tc := ⟨.hbm, 40, rfl⟩
abbrev main_v33_0 : Ref sig .tc := ⟨.hbm, 41, rfl⟩
abbrev main_call0_cst : Ref sig .tc := ⟨.hbm, 42, rfl⟩
abbrev main_v33_2 : Ref sig .tc := ⟨.hbm, 43, rfl⟩
abbrev main_cst_1 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_cst : Ref sig .tc := ⟨.hbm, 100, rfl⟩
abbrev main_call1_v0 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_c : Ref sig .tc := ⟨.hbm, 131, rfl⟩
abbrev main_call2_v0 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩

abbrev nD : Nat := 1
abbrev τ : Topo := Topo.v7x

variable {F : FTy → Type} [FloatOps F]
-- ==== DownDx.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxReferenceIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .i1⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DownDw.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 14
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S4096x2048, .f32⟩
  | .hbm, ⟨11, _⟩ => ⟨S2048x8192, .f32⟩
  | .hbm, ⟨12, _⟩ => ⟨S8192x2048, .f32⟩
  | .hbm, ⟨13, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== UpDx.lean ====
abbrev S4096x8192 : Shape := ⟨2, ![4096, 8192]⟩
abbrev S2048x8192 : Shape := ⟨2, ![2048, 8192]⟩
abbrev S4096x2048 : Shape := ⟨2, ![4096, 2048]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | .hbm, ⟨8, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDw.lean ====
abbrev S4096x2048 : Shape := ⟨2, ![4096, 2048]⟩
abbrev S4096x8192 : Shape := ⟨2, ![4096, 8192]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x4x2048, .bf16⟩
  | .hbm, ⟨11, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Up.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S2048x8x1024, .bf16⟩
  | .hbm, ⟨3, _⟩ => ⟨S8x2048x1024, .bf16⟩
  | .hbm, ⟨4, _⟩ => ⟨S4096x8192, .bf16⟩
  | .hbm, ⟨5, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpReferenceIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OutDx.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvInDw.lean ====
abbrev S4096x2048 : Shape := ⟨2, ![4096, 2048]⟩
abbrev S3x4096x2048 : Shape := ⟨3, ![3, 4096, 2048]⟩
abbrev S4x2048x1536 : Shape := ⟨3, ![4, 2048, 1536]⟩
abbrev S4096x1024 : Shape := ⟨2, ![4096, 1024]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S4x2048x1536, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .bf16⟩
  | .local _ .vmem, ⟨5, _⟩ => ⟨S1x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInDwReferenceIdeal.lean ====
abbrev S4096x2048 : Shape := ⟨2, ![4096, 2048]⟩
abbrev S3x4096x2048 : Shape := ⟨3, ![3, 4096, 2048]⟩
abbrev S1x4096x2048 : Shape := ⟨3, ![1, 4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S2048x4x1536 : Shape := ⟨3, ![2048, 4, 1536]⟩
abbrev S4x2048x1536 : Shape := ⟨3, ![4, 2048, 1536]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S4096x2048, .f32⟩
  | .hbm, ⟨3, _⟩ => ⟨S1x4096x2048, .bf16⟩
  | .hbm, ⟨4, _⟩ => ⟨S4096x2048, .bf16⟩
  | .hbm, ⟨5, _⟩ => ⟨S1x4096x2048, .bf16⟩
  | .hbm, ⟨6, _⟩ => ⟨S4096x2048, .bf16⟩
  | .hbm, ⟨7, _⟩ => ⟨S1x4096x2048, .bf16⟩
  | .hbm, ⟨8, _⟩ => ⟨S4096x2048, .bf16⟩
  | .hbm, ⟨9, _⟩ => ⟨S4096x6144, .bf16⟩
  | .hbm, ⟨10, _⟩ => ⟨S4096x6144, .f32⟩
  | .hbm, ⟨11, _⟩ => ⟨S_, .f32⟩
  | .hbm, ⟨12, _⟩ => ⟨S2048x6144, .f32⟩
  | .hbm, ⟨13, _⟩ => ⟨S4096x6144, .f32⟩
  | .hbm, ⟨14, _⟩ => ⟨S6144x2048, .f32⟩
  | .hbm, ⟨15, _⟩ => ⟨S2048x6144, .f32⟩
  | .hbm, ⟨16, _⟩ => ⟨S2048x4x1536, .f32⟩
  | .hbm, ⟨17, _⟩ => ⟨S4x2048x1536, .f32⟩
  | .hbm, ⟨18, _⟩ => ⟨S4x2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== ConvInDx.lean ====
abbrev S2048x6144 : Shape := ⟨2, ![2048, 6144]⟩
abbrev S3x4096x2048 : Shape := ⟨3, ![3, 4096, 2048]⟩
abbrev S4096x2048 : Shape := ⟨2, ![4096, 2048]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S3x4096x2048, .bf16⟩
  | .hbm, ⟨2, _⟩ => ⟨S4096x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInDxReferenceIdeal.lean ====
abbrev S2048x6144 : Shape := ⟨2, ![2048, 6144]⟩
abbrev S3x4096x2048 : Shape := ⟨3, ![3, 4096, 2048]⟩
abbrev S1x4096x2048 : Shape := ⟨3, ![1, 4096, 2048]⟩
abbrev S4096x2048 : Shape := ⟨2, ![4096, 2048]⟩
abbrev S4096x6144 : Shape := ⟨2, ![4096, 6144]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S3x4096x2048, .bf16⟩
  | .hbm, ⟨2, _⟩ => ⟨S2048x6144, .f32⟩
  | .hbm, ⟨3, _⟩ => ⟨S1x4096x2048, .bf16⟩
  | .hbm, ⟨4, _⟩ => ⟨S4096x2048, .bf16⟩
  | .hbm, ⟨5, _⟩ => ⟨S1x4096x2048, .bf16⟩
  | .hbm, ⟨6, _⟩ => ⟨S4096x2048, .bf16⟩
  | .hbm, ⟨7, _⟩ => ⟨S1x4096x2048, .bf16⟩
  | .hbm, ⟨8, _⟩ => ⟨S4096x2048, .bf16⟩
  | .hbm, ⟨9, _⟩ => ⟨S4096x6144, .bf16⟩
  | .hbm, ⟨10, _⟩ => ⟨S4096x6144, .f32⟩
  | .hbm, ⟨11, _⟩ => ⟨S_, .f32⟩
  | .hbm, ⟨12, _⟩ => ⟨S4096x2048, .f32⟩
  | .hbm, ⟨13, _⟩ => ⟨S4096x6144, .f32⟩
  | .hbm, ⟨14, _⟩ => ⟨S4096x2048, .f32⟩
  | .hbm, ⟨15, _⟩ => ⟨S4096x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== FoxInDx.lean ====
abbrev S6160x2048 : Shape := ⟨2, ![6160, 2048]⟩
abbrev S3x4096x2048 : Shape := ⟨3, ![3, 4096, 2048]⟩
abbrev S4096x2048 : Shape := ⟨2, ![4096, 2048]⟩
abbrev S1x1024x2048 : Shape := ⟨3, ![1, 1024, 2048]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 4
  | .vmem => 9
  | .smem => 0
  | _ => 0

abbrev bufTy : (tb : Table) → Fin (tcTables nBuf tb) → BufTy
  | .hbm, ⟨0, _⟩ => ⟨S6160x2048, .bf16⟩
  | .hbm, ⟨1, _⟩ => ⟨S3x4096x2048, .bf16⟩
  | .hbm, ⟨2, _⟩ => ⟨S4096x2048, .f32⟩
  | .hbm, ⟨3, _⟩ => ⟨S4096x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S6160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FoxInDxReferenceIdeal.lean ====
abbrev S6160x2048 : Shape := ⟨2, ![6160, 2048]⟩
abbrev S3x4096x2048 : Shape := ⟨3, ![3, 4096, 2048]⟩
abbrev S4096x2048 : Shape := ⟨2, ![4096, 2048]⟩
abbrev S2048x6160 : Shape := ⟨2, ![2048, 6160]⟩
abbrev S2048x6144 : Shape := ⟨2, ![2048, 6144]⟩
abbrev S1x4096x2048 : Shape := ⟨3, ![1, 4096, 2048]⟩
abbrev S4096x6144 : Shape := ⟨2, ![4096, 6144]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S6160x2048, .bf16⟩
  | .hbm, ⟨1, _⟩ => ⟨S3x4096x2048, .bf16⟩
  | .hbm, ⟨2, _⟩ => ⟨S4096x2048, .f32⟩
  | .hbm, ⟨3, _⟩ => ⟨S6160x2048, .f32⟩
  | .hbm, ⟨4, _⟩ => ⟨S2048x6160, .f32⟩
  | .hbm, ⟨5, _⟩ => ⟨S2048x6144, .f32⟩
  | .hbm, ⟨6, _⟩ => ⟨S1x4096x2048, .bf16⟩
  | .hbm, ⟨7, _⟩ => ⟨S4096x2048, .bf16⟩
  | .hbm, ⟨8, _⟩ => ⟨S1x4096x2048, .bf16⟩
  | .hbm, ⟨9, _⟩ => ⟨S4096x2048, .bf16⟩
  | .hbm, ⟨10, _⟩ => ⟨S1x4096x2048, .bf16⟩
  | .hbm, ⟨11, _⟩ => ⟨S4096x2048, .bf16⟩
  | .hbm, ⟨12, _⟩ => ⟨S4096x6144, .bf16⟩
  | .hbm, ⟨13, _⟩ => ⟨S4096x6144, .f32⟩
  | .hbm, ⟨14, _⟩ => ⟨S_, .f32⟩
  | .hbm, ⟨15, _⟩ => ⟨S4096x2048, .f32⟩
  | .hbm, ⟨16, _⟩ => ⟨S4096x6144, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S6160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== FoxIn.lean ====
abbrev S4096x2048 : Shape := ⟨2, ![4096, 2048]⟩
abbrev S6160x2048 : Shape := ⟨2, ![6160, 2048]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S6160x2048, .bf16⟩
  | .hbm, ⟨2, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxInReferenceIdeal.lean ====
abbrev S4096x2048 : Shape := ⟨2, ![4096, 2048]⟩
abbrev S6160x2048 : Shape := ⟨2, ![6160, 2048]⟩
abbrev S2048x6160 : Shape := ⟨2, ![2048, 6160]⟩
abbrev S4096x6160 : Shape := ⟨2, ![4096, 6160]⟩
abbrev S4096x6144 : Shape := ⟨2, ![4096, 6144]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6160x2048, .bf16⟩
  | .hbm, ⟨2, _⟩ => ⟨S4096x2048, .f32⟩
  | .hbm, ⟨3, _⟩ => ⟨S6160x2048, .f32⟩
  | .hbm, ⟨4, _⟩ => ⟨S2048x6160, .f32⟩
  | .hbm, ⟨5, _⟩ => ⟨S4096x6160, .f32⟩
  | .hbm, ⟨6, _⟩ => ⟨S4096x6144, .f32⟩
  | .hbm, ⟨7, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ConvIn.lean ====
abbrev S4096x2048 : Shape := ⟨2, ![4096, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S4096x6144 : Shape := ⟨2, ![4096, 6144]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S2048x8x768, .bf16⟩
  | .hbm, ⟨3, _⟩ => ⟨S8x2048x768, .bf16⟩
  | .hbm, ⟨4, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .bf16⟩
  | .local _ .vmem, ⟨5, _⟩ => ⟨S1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInReferenceIdeal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownReferenceIdeal.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S1x2048, .f32⟩
  | .hbm, ⟨4, _⟩ => ⟨S4096x8192, .f32⟩
  | .hbm, ⟨5, _⟩ => ⟨S8192x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FoxInDw.lean ====
abbrev S4096x2048 : Shape := ⟨2, ![4096, 2048]⟩
abbrev S3x4096x2048 : Shape := ⟨3, ![3, 4096, 2048]⟩
abbrev S6160x2048 : Shape := ⟨2, ![6160, 2048]⟩
abbrev S1x4096x1024 : Shape := ⟨3, ![1, 4096, 1024]⟩
abbrev S4096x1024 : Shape := ⟨2, ![4096, 1024]⟩
abbrev S1024x1024 : Shape := ⟨2, ![1024, 1024]⟩
abbrev S6144x2048 : Shape := ⟨2, ![6144, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S6160x2048, .bf16⟩
  | .hbm, ⟨3, _⟩ => ⟨S6144x2048, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxInDwReferenceIdeal.lean ====
abbrev S4096x2048 : Shape := ⟨2, ![4096, 2048]⟩
abbrev S3x4096x2048 : Shape := ⟨3, ![3, 4096, 2048]⟩
abbrev S1x4096x2048 : Shape := ⟨3, ![1, 4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S4096x2048, .f32⟩
  | .hbm, ⟨3, _⟩ => ⟨S1x4096x2048, .bf16⟩
  | .hbm, ⟨4, _⟩ => ⟨S4096x2048, .bf16⟩
  | .hbm, ⟨5, _⟩ => ⟨S1x4096x2048, .bf16⟩
  | .hbm, ⟨6, _⟩ => ⟨S4096x2048, .bf16⟩
  | .hbm, ⟨7, _⟩ => ⟨S1x4096x2048, .bf16⟩
  | .hbm, ⟨8, _⟩ => ⟨S4096x2048, .bf16⟩
  | .hbm, ⟨9, _⟩ => ⟨S4096x6144, .bf16⟩
  | .hbm, ⟨10, _⟩ => ⟨S4096x6144, .f32⟩
  | .hbm, ⟨11, _⟩ => ⟨S_, .f32⟩
  | .hbm, ⟨12, _⟩ => ⟨S2048x6144, .f32⟩
  | .hbm, ⟨13, _⟩ => ⟨S4096x6144, .f32⟩
  | .hbm, ⟨14, _⟩ => ⟨S6144x2048, .f32⟩
  | .hbm, ⟨15, _⟩ => ⟨S2048x6144, .f32⟩
  | .hbm, ⟨16, _⟩ => ⟨S6144x2048, .f32⟩
  | .hbm, ⟨17, _⟩ => ⟨S6144x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== OutReferenceIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S2048x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .bf16⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== ConvFwd.lean ====
abbrev S4096x6144 : Shape := ⟨2, ![4096, 6144]⟩
abbrev S3x2048 : Shape := ⟨2, ![3, 2048]⟩
abbrev S4096x2048 : Shape := ⟨2, ![4096, 2048]⟩
abbrev S4096x128 : Shape := ⟨2, ![4096, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdReferenceIdeal.lean ====
abbrev S4096x6144 : Shape := ⟨2, ![4096, 6144]⟩
abbrev S3x2048 : Shape := ⟨2, ![3, 2048]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x6144, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S2x2048, .f32⟩
  | .hbm, ⟨9, _⟩ => ⟨S4098x2048, .f32⟩
  | .hbm, ⟨10, _⟩ => ⟨S1x2048, .f32⟩
  | .hbm, ⟨11, _⟩ => ⟨S2048, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== ConvBwd.lean ====
abbrev S4096x6144 : Shape := ⟨2, ![4096, 6144]⟩
abbrev S3x2048 : Shape := ⟨2, ![3, 2048]⟩
abbrev S4096x2048 : Shape := ⟨2, ![4096, 2048]⟩
abbrev S3x4096x2048 : Shape := ⟨3, ![3, 4096, 2048]⟩
abbrev S8x2048 : Shape := ⟨2, ![8, 2048]⟩
abbrev S4096x128 : Shape := ⟨2, ![4096, 128]⟩
abbrev S3x128 : Shape := ⟨2, ![3, 128]⟩
abbrev S3x4096x128 : Shape := ⟨3, ![3, 4096, 128]⟩
abbrev S8x128 : Shape := ⟨2, ![8, 128]⟩
abbrev S1x128 : Shape := ⟨2, ![1, 128]⟩
abbrev S1x4096x128 : Shape := ⟨3, ![1, 4096, 128]⟩
abbrev S128 : Shape := ⟨1, ![128]⟩

abbrev nBuf : Space → Nat
  | .hbm => 5
  | .vmem => 14
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x2048, .bf16⟩
  | .hbm, ⟨3, _⟩ => ⟨S3x4096x2048, .bf16⟩
  | .hbm, ⟨4, _⟩ => ⟨S8x2048, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | .local _ .vmem, ⟨10, _⟩ => ⟨S3x4096x128, .bf16⟩
  | .local _ .vmem, ⟨11, _⟩ => ⟨S3x4096x128, .bf16⟩
  | .local _ .vmem, ⟨12, _⟩ => ⟨S8x128, .f32⟩
  | .local _ .vmem, ⟨13, _⟩ => ⟨S8x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvBwdReferenceIdeal.lean ====
abbrev S4096x6144 : Shape := ⟨2, ![4096, 6144]⟩
abbrev S3x2048 : Shape := ⟨2, ![3, 2048]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩
abbrev S1x4096x2048 : Shape := ⟨3, ![1, 4096, 2048]⟩
abbrev S3x4096x2048 : Shape := ⟨3, ![3, 4096, 2048]⟩
abbrev S8x2048 : Shape := ⟨2, ![8, 2048]⟩

abbrev nBuf : Space → Nat
  | .hbm => 99
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x2048, .bf16⟩
  | .hbm, ⟨3, _⟩ => ⟨S4096x6144, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S2x2048, .f32⟩
  | .hbm, ⟨10, _⟩ => ⟨S4098x2048, .f32⟩
  | .hbm, ⟨11, _⟩ => ⟨S_, .f32⟩
  | .hbm, ⟨12, _⟩ => ⟨S2x2048, .f32⟩
  | .hbm, ⟨13, _⟩ => ⟨S1x2048, .f32⟩
  | .hbm, ⟨14, _⟩ => ⟨S2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S4098x2048, .f32⟩
  | .hbm, ⟨50, _⟩ => ⟨S1x2048, .f32⟩
  | .hbm, ⟨51, _⟩ => ⟨S_, .f32⟩
  | .hbm, ⟨52, _⟩ => ⟨S3x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S_, .f32⟩
  | .hbm, ⟨60, _⟩ => ⟨S2048, .f32⟩
  | .hbm, ⟨61, _⟩ => ⟨S_, .f32⟩
  | .hbm, ⟨62, _⟩ => ⟨S4098x2048, .f32⟩
  | .hbm, ⟨63, _⟩ => ⟨S4098x2048, .f32⟩
  | .hbm, ⟨64, _⟩ => ⟨S1x2048, .f32⟩
  | .hbm, ⟨65, _⟩ => ⟨S_, .f32⟩
  | .hbm, ⟨66, _⟩ => ⟨S3x2048, .f32⟩
  | .hbm, ⟨67, _⟩ => ⟨S3x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S_, .f32⟩
  | .hbm, ⟨75, _⟩ => ⟨S2048, .f32⟩
  | .hbm, ⟨76, _⟩ => ⟨S_, .f32⟩
  | .hbm, ⟨77, _⟩ => ⟨S4098x2048, .f32⟩
  | .hbm, ⟨78, _⟩ => ⟨S4098x2048, .f32⟩
  | .hbm, ⟨79, _⟩ => ⟨S1x2048, .f32⟩
  | .hbm, ⟨80, _⟩ => ⟨S_, .f32⟩
  | .hbm, ⟨81, _⟩ => ⟨S3x2048, .f32⟩
  | .hbm, ⟨82, _⟩ => ⟨S3x2048, .f32⟩
  | .hbm, ⟨83, _⟩ => ⟨S2x2048, .f32⟩
  | .hbm, ⟨84, _⟩ => ⟨S4096x2048, .f32⟩
  | .hbm, ⟨85, _⟩ => ⟨S4096x2048, .f32⟩
  | .hbm, ⟨86, _⟩ => ⟨S4096x2048, .f32⟩
  | .hbm, ⟨87, _⟩ => ⟨S4096x6144, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S1x4096x2048, .f32⟩
  | .hbm, ⟨92, _⟩ => ⟨S1x4096x2048, .f32⟩
  | .hbm, ⟨93, _⟩ => ⟨S1x4096x2048, .f32⟩
  | .hbm, ⟨94, _⟩ => ⟨S3x4096x2048, .f32⟩
  | .hbm, ⟨95, _⟩ => ⟨S3x4096x2048, .bf16⟩
  | .hbm, ⟨96, _⟩ => ⟨S_, .i32⟩
  | .hbm, ⟨97, _⟩ => ⟨S_, .f32⟩
  | .hbm, ⟨98, _⟩ => ⟨S8x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_c : Ref sig .tc := ⟨.hbm, 96, rfl⟩
abbrev main_call0_v0 : Ref sig .tc := ⟨.hbm, 97, rfl⟩
abbrev main_v78 : Ref sig .tc := ⟨.hbm, 98, rfl⟩

abbrev nD : Nat := 1
abbrev τ : Topo := Topo.v7x

variable {F : FTy → Type} [FloatOps F]
-- ==== NormBwd.lean ====
abbrev S4096x2048 : Shape := ⟨2, ![4096, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S4x2048 : Shape := ⟨2, ![4, 2048]⟩
abbrev S8x2048 : Shape := ⟨2, ![8, 2048]⟩

abbrev nBuf : Space → Nat
  | .hbm => 88
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S_, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S4096x2048, .bf16⟩
  | .hbm, ⟨85, _⟩ => ⟨S_, .f32⟩
  | .hbm, ⟨86, _⟩ => ⟨S4x2048, .f32⟩
  | .hbm, ⟨87, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== LossBwd.lean ====
abbrev S4096x2048 : Shape := ⟨2, ![4096, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossBwdReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S6x2048 : Shape := ⟨2, ![6, 2048]⟩
abbrev S8x2048 : Shape := ⟨2, ![8, 2048]⟩

abbrev nBuf : Space → Nat
  | .hbm => 80
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x2048, .f32⟩
  | .hbm, ⟨57, _⟩ => ⟨S4096x2048, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .bf16⟩
  | .hbm, ⟨76, _⟩ => ⟨S1x2048, .f32⟩
  | .hbm, ⟨77, _⟩ => ⟨S_, .f32⟩
  | .hbm, ⟨78, _⟩ => ⟨S6x2048, .f32⟩
  | .hbm, ⟨79, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_cst_8 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_cst_10 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_11 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_13 : Ref sig .tc := ⟨.hbm, 59, rfl⟩
abbrev main_v41 : Ref sig .tc := ⟨.hbm, 60, rfl⟩
abbrev main_v42 : Ref sig .tc := ⟨.hbm, 61, rfl⟩
abbrev main_cst_14 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_15 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_16 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== GateDw.lean ====
abbrev S4096x128 : Shape := ⟨2, ![4096, 128]⟩
abbrev S4096x2048 : Shape := ⟨2, ![4096, 2048]⟩
abbrev S128x2048 : Shape := ⟨2, ![128, 2048]⟩
abbrev S4096x1024 : Shape := ⟨2, ![4096, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S128x2048, .bf16⟩
  | .local _ .vmem, ⟨0, _⟩ => ⟨S4096x128, .bf16⟩
  | .local _ .vmem, ⟨1, _⟩ => ⟨S4096x1024, .bf16⟩
  | .local _ .vmem, ⟨2, _⟩ => ⟨S4096x1024, .bf16⟩
  | .local _ .vmem, ⟨3, _⟩ => ⟨S128x1024, .bf16⟩
  | .local _ .vmem, ⟨4, _⟩ => ⟨S128x1024, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwReferenceIdeal.lean ====
abbrev S4096x128 : Shape := ⟨2, ![4096, 128]⟩
abbrev S4096x2048 : Shape := ⟨2, ![4096, 2048]⟩
abbrev S_ : Shape := ⟨0, ![]⟩
abbrev S128x2048 : Shape := ⟨2, ![128, 2048]⟩
abbrev S2048x128 : Shape := ⟨2, ![2048, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S_, .f32⟩
  | .hbm, ⟨3, _⟩ => ⟨S128x2048, .f32⟩
  | .hbm, ⟨4, _⟩ => ⟨S4096x2048, .f32⟩
  | .hbm, ⟨5, _⟩ => ⟨S2048x128, .f32⟩
  | .hbm, ⟨6, _⟩ => ⟨S4096x128, .f32⟩
  | .hbm, ⟨7, _⟩ => ⟨S4096x128, .f32⟩
  | .hbm, ⟨8, _⟩ => ⟨S128x2048, .f32⟩
  | .hbm, ⟨9, _⟩ => ⟨S2048x128, .f32⟩
  | .hbm, ⟨10, _⟩ => ⟨S128x2048, .f32⟩
  | .hbm, ⟨11, _⟩ => ⟨S128x2048, .bf16⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateDx.lean ====
abbrev S4096x128 : Shape := ⟨2, ![4096, 128]⟩
abbrev S128x2048 : Shape := ⟨2, ![128, 2048]⟩
abbrev S4096x2048 : Shape := ⟨2, ![4096, 2048]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDxReferenceIdeal.lean ====
abbrev S4096x128 : Shape := ⟨2, ![4096, 128]⟩
abbrev S128x2048 : Shape := ⟨2, ![128, 2048]⟩
abbrev S_ : Shape := ⟨0, ![]⟩
abbrev S4096x2048 : Shape := ⟨2, ![4096, 2048]⟩
abbrev S2048x128 : Shape := ⟨2, ![2048, 128]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S_, .f32⟩
  | .hbm, ⟨3, _⟩ => ⟨S4096x2048, .f32⟩
  | .hbm, ⟨4, _⟩ => ⟨S128x2048, .f32⟩
  | .hbm, ⟨5, _⟩ => ⟨S2048x128, .f32⟩
  | .hbm, ⟨6, _⟩ => ⟨S4096x128, .f32⟩
  | .hbm, ⟨7, _⟩ => ⟨S4096x128, .f32⟩
  | .hbm, ⟨8, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== NormBwdFirst.lean ====
abbrev S4096x2048 : Shape := ⟨2, ![4096, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormBwdFirstReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S4x2048 : Shape := ⟨2, ![4, 2048]⟩
abbrev S8x2048 : Shape := ⟨2, ![8, 2048]⟩

abbrev nBuf : Space → Nat
  | .hbm => 80
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S4x2048, .f32⟩
  | .hbm, ⟨79, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== AdamwSmall.lean ====
abbrev S24x2048 : Shape := ⟨2, ![24, 2048]⟩
abbrev S8x24x2048 : Shape := ⟨3, ![8, 24, 2048]⟩
abbrev S1x1x2048 : Shape := ⟨3, ![1, 1, 2048]⟩
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S24x2048, .f32⟩
  | .hbm, ⟨1, _⟩ => ⟨S24x2048, .f32⟩
  | .hbm, ⟨2, _⟩ => ⟨S24x2048, .f32⟩
  | .hbm, ⟨3, _⟩ => ⟨S8x24x2048, .f32⟩
  | .hbm, ⟨4, _⟩ => ⟨S24x2048, .f32⟩
  | .hbm, ⟨5, _⟩ => ⟨S24x2048, .f32⟩
  | .hbm, ⟨6, _⟩ => ⟨S24x2048, .f32⟩
  | .hbm, ⟨7, _⟩ => ⟨S24x2048, .f32⟩
  | .local _ .vmem, ⟨0, _⟩ => ⟨S24x2048, .f32⟩
  | .local _ .vmem, ⟨1, _⟩ => ⟨S24x2048, .f32⟩
  | .local _ .vmem, ⟨2, _⟩ => ⟨S24x2048, .f32⟩
  | .local _ .vmem, ⟨3, _⟩ => ⟨S8x24x2048, .f32⟩
  | .local _ .vmem, ⟨4, _⟩ => ⟨S24x2048, .f32⟩
  | .local _ .vmem, ⟨5, _⟩ => ⟨S24x2048, .f32⟩
  | .local _ .vmem, ⟨6, _⟩ => ⟨S24x2048, .f32⟩
  | .local _ .vmem, ⟨7, _⟩ => ⟨S24x2048, .f32⟩
  | _, _ => ⟨S24x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x24x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdamwSmallReferenceIdeal.lean ====
abbrev S24x2048 : Shape := ⟨2, ![24, 2048]⟩
abbrev S8x24x2048 : Shape := ⟨3, ![8, 24, 2048]⟩
abbrev S_ : Shape := ⟨0, ![]⟩
abbrev S5x2048 : Shape := ⟨2, ![5, 2048]⟩
abbrev S1x2048 : Shape := ⟨2, ![1, 2048]⟩
abbrev S12x2048 : Shape := ⟨2, ![12, 2048]⟩
abbrev S6x2048 : Shape := ⟨2, ![6, 2048]⟩

abbrev nBuf : Space → Nat
  | .hbm => 45
  | .vmem => 0
  | .smem => 0
  | _ => 0

abbrev bufTy : (tb : Table) → Fin (tcTables nBuf tb) → BufTy
  | .hbm, ⟨0, _⟩ => ⟨S24x2048, .f32⟩
  | .hbm, ⟨1, _⟩ => ⟨S24x2048, .f32⟩
  | .hbm, ⟨2, _⟩ => ⟨S24x2048, .f32⟩
  | .hbm, ⟨3, _⟩ => ⟨S8x24x2048, .f32⟩
  | .hbm, ⟨4, _⟩ => ⟨S_, .f32⟩
  | .hbm, ⟨5, _⟩ => ⟨S24x2048, .f32⟩
  | .hbm, ⟨6, _⟩ => ⟨S5x2048, .f32⟩
  | .hbm, ⟨7, _⟩ => ⟨S1x2048, .f32⟩
  | .hbm, ⟨8, _⟩ => ⟨S12x2048, .f32⟩
  | .hbm, ⟨9, _⟩ => ⟨S1x2048, .f32⟩
  | .hbm, ⟨10, _⟩ => ⟨S6x2048, .f32⟩
  | .hbm, ⟨11, _⟩ => ⟨S24x2048, .f32⟩
  | .hbm, ⟨12, _⟩ => ⟨S_, .f32⟩
  | .hbm, ⟨13, _⟩ => ⟨S24x2048, .f32⟩
  | .hbm, ⟨14, _⟩ => ⟨S24x2048, .f32⟩
  | .hbm, ⟨15, _⟩ => ⟨S_, .f32⟩
  | .hbm, ⟨16, _⟩ => ⟨S24x2048, .f32⟩
  | .hbm, ⟨17, _⟩ => ⟨S24x2048, .f32⟩
  | .hbm, ⟨18, _⟩ => ⟨S24x2048, .f32⟩
  | .hbm, ⟨19, _⟩ => ⟨S_, .f32⟩
  | .hbm, ⟨20, _⟩ => ⟨S24x2048, .f32⟩
  | .hbm, ⟨21, _⟩ => ⟨S24x2048, .f32⟩
  | .hbm, ⟨22, _⟩ => ⟨S24x2048, .f32⟩
  | .hbm, ⟨23, _⟩ => ⟨S_, .f32⟩
  | .hbm, ⟨24, _⟩ => ⟨S24x2048, .f32⟩
  | .hbm, ⟨25, _⟩ => ⟨S24x2048, .f32⟩
  | .hbm, ⟨26, _⟩ => ⟨S24x2048, .f32⟩
  | .hbm, ⟨27, _⟩ => ⟨S_, .f32⟩
  | .hbm, ⟨28, _⟩ => ⟨S24x2048, .f32⟩
  | .hbm, ⟨29, _⟩ => ⟨S24x2048, .f32⟩
  | .hbm, ⟨30, _⟩ => ⟨S_, .f32⟩
  | .hbm, ⟨31, _⟩ => ⟨S24x2048, .f32⟩
  | .hbm, ⟨32, _⟩ => ⟨S24x2048, .f32⟩
  | .hbm, ⟨33, _⟩ => ⟨S24x2048, .f32⟩
  | .hbm, ⟨34, _⟩ => ⟨S_, .f32⟩
  | .hbm, ⟨35, _⟩ => ⟨S24x2048, .f32⟩
  | .hbm, ⟨36, _⟩ => ⟨S24x2048, .f32⟩
  | .hbm, ⟨37, _⟩ => ⟨S24x2048, .f32⟩
  | .hbm, ⟨38, _⟩ => ⟨S_, .f32⟩
  | .hbm, ⟨39, _⟩ => ⟨S24x2048, .f32⟩
  | .hbm, ⟨40, _⟩ => ⟨S24x2048, .f32⟩
  | .hbm, ⟨41, _⟩ => ⟨S24x2048, .f32⟩
  | .hbm, ⟨42, _⟩ => ⟨S_, .f32⟩
  | .hbm, ⟨43, _⟩ => ⟨S24x2048, .f32⟩
  | .hbm, ⟨44, _⟩ => ⟨S24x2048, .f32⟩
  | _, _ => ⟨S24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== LossSum.lean ====
abbrev S8x24x2048 : Shape := ⟨3, ![8, 24, 2048]⟩
abbrev S8x2048 : Shape := ⟨2, ![8, 2048]⟩
abbrev S1x1x2048 : Shape := ⟨3, ![1, 1, 2048]⟩
abbrev S1x2048 : Shape := ⟨2, ![1, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x24x2048, .f32⟩
  | .hbm, ⟨1, _⟩ => ⟨S8x2048, .f32⟩
  | .local _ .vmem, ⟨0, _⟩ => ⟨S8x24x2048, .f32⟩
  | .local _ .vmem, ⟨1, _⟩ => ⟨S8x2048, .f32⟩
  | _, _ => ⟨S8x24x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LossSumReferenceIdeal.lean ====
abbrev S8x24x2048 : Shape := ⟨3, ![8, 24, 2048]⟩
abbrev S8x1x2048 : Shape := ⟨3, ![8, 1, 2048]⟩
abbrev S8x2048 : Shape := ⟨2, ![8, 2048]⟩
abbrev S_ : Shape := ⟨0, ![]⟩
abbrev S2048 : Shape := ⟨1, ![2048]⟩

abbrev nBuf : Space → Nat
  | .hbm => 6
  | .vmem => 0
  | .smem => 0
  | _ => 0

abbrev bufTy : (tb : Table) → Fin (tcTables nBuf tb) → BufTy
  | .hbm, ⟨0, _⟩ => ⟨S8x24x2048, .f32⟩
  | .hbm, ⟨1, _⟩ => ⟨S8x1x2048, .f32⟩
  | .hbm, ⟨2, _⟩ => ⟨S8x2048, .f32⟩
  | .hbm, ⟨3, _⟩ => ⟨S_, .f32⟩
  | .hbm, ⟨4, _⟩ => ⟨S2048, .f32⟩
  | .hbm, ⟨5, _⟩ => ⟨S8x2048, .f32⟩
  | _, _ => ⟨S8x24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Model.lean ====
/-
  WHAT ONE BODY COMPUTES, with no memory in it. A body of the attention backward works on one head: its blocks of q, k,
  v and of the output's gradient, the column of the log-sum-exps, the column of the row sums of (gradient × output), and
  the cumulative log gates of the keys. It goes over four column tiles of 1024 keys; in each it takes the diagonal
  tile's two strips, then the row tiles below the diagonal, adding into the accumulator of q's gradient and into the
  column of the query gates' gradient, and carrying the sums of k's, v's and the key gates' gradients. Everything here
  is a function of the blocks' values: windows (`VecWindow.window`), the body's payloads, and puts (`VecWindow.put`).
-/
module

public import proofs.«01_k».proof.Proof.Gen.KernelIdeal.Frame
public import proofs.«01_k».proof.Proof.Gen.KernelIdeal.Loops
public import Idealize.ShloMosaic.Lib.VecWindow

@[expose] public section

noncomputable section

namespace Cert.Proof.AttnBwd

open Cert.KernelIdeal Cert.KernelIdeal.Gen
open Idealize.ShloMosaic

variable {F : FTy → Type} [FloatOps F]

section Iter
variable {α : Type}

/-- A step for every trip of a counted loop, taken `n` times. -/
def iter {T : ℕ} (s : Fin T → α → α) (a : α) : ℕ → α
  | 0 => a
  | n + 1 => if h : n < T then s ⟨n, h⟩ (iter s a n) else iter s a n

theorem iter_succ {T : ℕ} (s : Fin T → α → α) (a : α) (k : Fin T) : iter s a (k.val + 1) = s k (iter s a k.val) := by
  show (if h : k.val < T then s ⟨k.val, h⟩ (iter s a k.val) else _) = _
  rw [dif_pos k.isLt]

theorem iter_past {T : ℕ} (s : Fin T → α → α) (a : α) {n : ℕ} (h : ¬ n < T) : iter s a (n + 1) = iter s a n := by
  show (if h : n < T then s ⟨n, h⟩ (iter s a n) else _) = _
  rw [dif_neg h]

end Iter

/-- The blocks of one head: q, k, v, the output's gradient, the key gates, and the two columns. -/
structure Blk (F : FTy → Type) where
  q : S4096x128.Idx → F .bf16
  k : S4096x128.Idx → F .bf16
  v : S4096x128.Idx → F .bf16
  g : S4096x128.Idx → F .bf16
  fk : S4x16x1024.Idx → F .f32
  lse : S4096x1.Idx → F .f32
  delta : S4096x1.Idx → F .f32

namespace Blk

variable (i : grid0.Coords) (B : Blk F) (t : Fin k0_t2_loop.trips)

/-- The column tile's keys. -/
def tk : Vec F S1024x128 .bf16 := VecWindow.window B.k (k0_off3 t) S1024x128.size (k0_off3_inb t)
/-- The column tile's values. -/
def tv : Vec F S1024x128 .bf16 := VecWindow.window B.v (k0_off3 t) S1024x128.size (k0_off3_inb t)
/-- The column tile's key gates. -/
def tf : Vec F S1x1x1024 .f32 := VecWindow.window B.fk (k0_off4 i t) S1x1x1024.size (k0_off4_inb i t)

/-- The first strip's queries: all 1024 rows of the diagonal tile. -/
def q0 : Vec F S1024x128 .bf16 := VecWindow.window B.q (k0_off5 t) S1024x128.size (k0_off5_inb t)
def g0 : Vec F S1024x128 .bf16 := VecWindow.window B.g (k0_off5 t) S1024x128.size (k0_off5_inb t)
def l0 : Vec F S1024x1 .f32 := VecWindow.window B.lse (k0_off6 t) S1024x1.size (k0_off6_inb t)
def d0 : Vec F S1024x1 .f32 := VecWindow.window B.delta (k0_off6 t) S1024x1.size (k0_off6_inb t)

/-- The second strip's queries: the last 512 rows of the diagonal tile. -/
def q1 : Vec F S512x128 .bf16 := VecWindow.window B.q (k0_off7 t) S512x128.size (k0_off7_inb t)
def g1 : Vec F S512x128 .bf16 := VecWindow.window B.g (k0_off7 t) S512x128.size (k0_off7_inb t)
def l1 : Vec F S512x1 .f32 := VecWindow.window B.lse (k0_off8 t) S512x1.size (k0_off8_inb t)
def d1 : Vec F S512x1 .f32 := VecWindow.window B.delta (k0_off8 t) S512x1.size (k0_off8_inb t)

/-- The first strip's gradient of the scores. -/
def ds0 : FVec F S1024x512 .f32 := k0_pay34 (B.tk t) (B.tv t) (B.tf i t) (B.q0 t) (B.g0 t) (B.l0 t) (B.d0 t)
/-- The same, rounded. -/
def dsb0 : FVec F S1024x512 .bf16 := k0_pay35 (B.tk t) (B.tv t) (B.tf i t) (B.q0 t) (B.g0 t) (B.l0 t) (B.d0 t)
/-- The second strip's probabilities before the mask. -/
def p1 : FVec F S512x512 .f32 := k0_pay43 (B.tk t) (k0_pay31 (B.tf i t)) (B.q1 t) (B.l1 t)

/-- The sums carried over the row tiles: k's, v's and the key gates' gradients. -/
abbrev Carry (F : FTy → Type) : Type := FVec F S1024x128 .f32 × FVec F S1024x128 .f32 × FVec F S1x1024 .f32

/-- The sums after the diagonal tile. -/
def carry0 : Carry F :=
  (k0_pay50 (k0_pay37 (B.q0 t) (B.dsb0 i t)) (k0_pay42 (B.tv t)) (B.q1 t) (B.g1 t) (B.p1 i t) k0_pay44 (B.d1 t),
    k0_pay51 (k0_pay36 (B.tk t) (B.tf i t) (B.q0 t) (B.g0 t) (B.l0 t)) (B.g1 t) (B.p1 i t) k0_pay44,
    k0_pay52 (k0_pay40 (B.ds0 i t)) (k0_pay42 (B.tv t)) (B.g1 t) (B.p1 i t) k0_pay44 (B.d1 t))

/-- The accumulator of q's gradient after the first strip. -/
def dqA (A : S4096x128.Idx → F .f32) : S4096x128.Idx → F .f32 :=
  VecWindow.put A (k0_off5 t) S1024x128.size
    (k0_pay38 (k0_pay32 (B.tk t)) (B.dsb0 i t) (VecWindow.window A (k0_off5 t) S1024x128.size (k0_off5_inb t)))
/-- The accumulator of q's gradient after the second strip. -/
def dqB (A : S4096x128.Idx → F .f32) : S4096x128.Idx → F .f32 :=
  VecWindow.put A (k0_off7 t) S512x128.size
    (k0_pay48 (k0_pay41 (B.tk t)) (k0_pay42 (B.tv t)) (B.g1 t) (B.p1 i t) k0_pay44 (B.d1 t)
      (VecWindow.window A (k0_off7 t) S512x128.size (k0_off7_inb t)))
/-- The column of the query gates' gradient after the first strip. -/
def dfA (A : S4096x1.Idx → F .f32) : S4096x1.Idx → F .f32 :=
  VecWindow.put A (k0_off6 t) S1024x1.size
    (k0_pay39 (B.ds0 i t) (VecWindow.window A (k0_off6 t) S1024x1.size (k0_off6_inb t)))
/-- The column of the query gates' gradient after the second strip. -/
def dfB (A : S4096x1.Idx → F .f32) : S4096x1.Idx → F .f32 :=
  VecWindow.put A (k0_off8 t) S512x1.size
    (k0_pay49 (k0_pay42 (B.tv t)) (B.g1 t) (B.p1 i t) k0_pay44 (B.d1 t)
      (VecWindow.window A (k0_off8 t) S512x1.size (k0_off8_inb t)))

section Row
variable (j : Fin (k0_t3_loop t).trips)

/-- A row tile below the diagonal. -/
def qj : Vec F S1024x128 .bf16 := VecWindow.window B.q (k0_off9 t j) S1024x128.size (k0_off9_inb t j)
def gj : Vec F S1024x128 .bf16 := VecWindow.window B.g (k0_off9 t j) S1024x128.size (k0_off9_inb t j)
def lj : Vec F S1024x1 .f32 := VecWindow.window B.lse (k0_off10 t j) S1024x1.size (k0_off10_inb t j)
def dj : Vec F S1024x1 .f32 := VecWindow.window B.delta (k0_off10 t j) S1024x1.size (k0_off10_inb t j)

/-- What the row tile adds to the sums carried. -/
def carryS (a : Carry F) : Carry F :=
  (k0_pay54 a.1 (k0_pay21 (B.tk t) (B.tv t) (k0_pay31 (B.tf i t)) (B.qj t j) (B.gj t j) (B.lj t j) (B.dj t j)),
    k0_pay55 a.2.1 (k0_pay20 (B.tk t) (k0_pay31 (B.tf i t)) (B.qj t j) (B.gj t j) (B.lj t j)),
    k0_pay56 a.2.2 (k0_pay18 (B.tk t) (B.tv t) (k0_pay31 (B.tf i t)) (B.qj t j) (B.gj t j) (B.lj t j) (B.dj t j)))
/-- What it adds to the accumulator of q's gradient. -/
def dqS (A : S4096x128.Idx → F .f32) : S4096x128.Idx → F .f32 :=
  VecWindow.put A (k0_off9 t j) S1024x128.size
    (k0_pay22 (B.tk t) (B.tv t) (k0_pay31 (B.tf i t)) (B.qj t j) (B.gj t j) (B.lj t j) (B.dj t j)
      (VecWindow.window A (k0_off9 t j) S1024x128.size (k0_off9_inb t j)))
/-- What it adds to the column of the query gates' gradient. -/
def dfS (A : S4096x1.Idx → F .f32) : S4096x1.Idx → F .f32 :=
  VecWindow.put A (k0_off10 t j) S1024x1.size
    (k0_pay53 (k0_pay23 (B.tk t) (B.tv t) (k0_pay31 (B.tf i t)) (B.qj t j) (B.gj t j) (B.lj t j) (B.dj t j)
      (VecWindow.window A (k0_off10 t j) S1024x1.size (k0_off10_inb t j))))
end Row

/-- The sums before the `n`-th row tile. -/
def carryN (a : Carry F) : ℕ → Carry F := iter (fun j a => B.carryS i t j a) a
/-- The accumulator of q's gradient before the `n`-th row tile. -/
def dqN (A : S4096x128.Idx → F .f32) : ℕ → S4096x128.Idx → F .f32 := iter (fun j A => B.dqS i t j A) A
/-- The column of the query gates' gradient before the `n`-th row tile. -/
def dfN (A : S4096x1.Idx → F .f32) : ℕ → S4096x1.Idx → F .f32 := iter (fun j A => B.dfS i t j A) A

/-- A column tile's sums. -/
def carry : Carry F := B.carryN i t (B.carry0 i t) (k0_t3_loop t).trips
/-- What a column tile does to the accumulator of q's gradient. -/
def dq (A : S4096x128.Idx → F .f32) : S4096x128.Idx → F .f32 :=
  B.dqN i t (B.dqB i t (B.dqA i t A)) (k0_t3_loop t).trips
/-- What a column tile does to the column of the query gates' gradient. -/
def df (A : S4096x1.Idx → F .f32) : S4096x1.Idx → F .f32 :=
  B.dfN i t (B.dfB i t (B.dfA i t A)) (k0_t3_loop t).trips
/-- What a column tile writes into the block of the three gradients: the tile of k's and of v's. -/
def out (R : S3x4096x128.Idx → F .bf16) : S3x4096x128.Idx → F .bf16 :=
  VecWindow.put (VecWindow.put R (k0_off13 t) S1x1024x128.size (k0_pay12 (B.carry i t).1)) (k0_off14 t) S1x1024x128.size
    (k0_pay13 (B.carry i t).2.1)
/-- What a column tile writes into the key gates' gradient: its head's row of the tile. -/
def fkOut (R : S4x16x1024.Idx → F .f32) : S4x16x1024.Idx → F .f32 :=
  VecWindow.put R (k0_off4 i t) S1x1x1024.size (k0_pay14 (B.carry i t).2.2)

end Blk

/-- The column of the log-sum-exps of the head, from the block whose column `h` is head `h`'s. -/
def lseCol (i : grid0.Coords) (X : S4096x128.Idx → F .f32) (A : S4096x1.Idx → F .f32) : ℕ → S4096x1.Idx → F .f32 :=
  iter (fun (r : Fin k0_t1_loop.trips) A => VecWindow.put A (k0_off2 r) S1024x1.size
    (k0_pay6 i (VecWindow.window X (k0_off1 r) S1024x128.size (k0_off1_inb r)))) A
/-- The column of the row sums of gradient × output. -/
def deltaCol (O G : S4096x128.Idx → F .bf16) (A : S4096x1.Idx → F .f32) : ℕ → S4096x1.Idx → F .f32 :=
  iter (fun (r : Fin k0_t1_loop.trips) A => VecWindow.put A (k0_off2 r) S1024x1.size
    (k0_pay7 (VecWindow.window G (k0_off1 r) S1024x128.size (k0_off1_inb r))
      (VecWindow.window O (k0_off1 r) S1024x128.size (k0_off1_inb r)))) A

/-- The last loop's writes of q's gradient into the block of the three gradients. -/
def dqOut (D : S4096x128.Idx → F .f32) (R : S3x4096x128.Idx → F .bf16) : ℕ → S3x4096x128.Idx → F .bf16 :=
  iter (fun (r : Fin k0_t5_loop.trips) R => VecWindow.put R (k0_off16 r) S1x1024x128.size
    (k0_pay15 (VecWindow.window D (k0_off15 r) S1024x128.size (k0_off15_inb r)))) R
/-- The last loop's additions of the query gates' gradient, in the head's column. -/
def dfOut (i : grid0.Coords) (D : S4096x1.Idx → F .f32) (R : S4096x128.Idx → F .f32) : ℕ → S4096x128.Idx → F .f32 :=
  iter (fun (r : Fin k0_t5_loop.trips) R => VecWindow.put R (k0_off15 r) S1024x128.size
    (k0_pay16 i (VecWindow.window D (k0_off17 r) S1024x1.size (k0_off17_inb r))
      (VecWindow.window R (k0_off15 r) S1024x128.size (k0_off15_inb r)))) R

end Cert.Proof.AttnBwd

end
-- ==== Proof.Trip.lean ====
/-
  ONE COLUMN TILE of the attention backward: the body's loop over the column tiles `kj` (its counted loop over the
  keys), one trip at a symbolic tile. A trip goes through the two diagonal strips, then the row tiles below the
  diagonal by the inner loop's invariant, and leaves its pieces of the result's rows 1 and 2 (dk, dv), of dfk's row, of
  the dq accumulator and of dfq's column.
-/
module

public import proofs.«01_k».proof.Proof.Gen.KernelIdeal.Frame
public import proofs.«01_k».proof.Proof.Gen.KernelIdeal.Loops

@[expose] public section

set_option maxRecDepth 8192
set_option maxHeartbeats 4000000

noncomputable section

namespace Cert.Proof.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a trip over a column tile holds: the blocks it reads at their contents, what it writes at any. -/
abbrev Trip2 (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4x16x1024 .f32) (harg6 : arg6.IsWhole) (arg7 : Memref sig .tc .vmem S4096x128 .f32) (harg7 : arg7.IsWhole) (arg8 : Memref sig .tc .vmem S3x4096x128 .bf16) (harg8 : arg8.IsWhole) (arg9 : Memref sig .tc .vmem S4096x128 .f32) (harg9 : arg9.IsWhole) (arg10 : Memref sig .tc .vmem S4x16x1024 .f32) (harg10 : arg10.IsWhole) (arg11 : Memref sig .tc .vmem S4096x128 .f32) (harg11 : arg11.IsWhole) (arg12 : Memref sig .tc .vmem S4096x1 .f32) (harg12 : arg12.IsWhole) (arg13 : Memref sig .tc .vmem S4096x1 .f32) (harg13 : arg13.IsWhole) (arg14 : Memref sig .tc .vmem S4096x1 .f32) (harg14 : arg14.IsWhole)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X12 : BufTy.Contents (Elt F) arg12.view.ty) (X13 : BufTy.Contents (Elt F) arg13.view.ty)
    (f8 : BufTy.Contents (Elt F) arg8.view.ty) (f10 : BufTy.Contents (Elt F) arg10.view.ty) (f11 : BufTy.Contents (Elt F) arg11.view.ty) (f14 : BufTy.Contents (Elt F) arg14.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg12.view.loc (c : Thread nD τ) ↦[arg12.view.set]{fullShare} X12) ∗ (arg13.view.loc (c : Thread nD τ) ↦[arg13.view.set]{fullShare} X13)
    ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11) ∗ (arg14.view.loc (c : Thread nD τ) ↦[arg14.view.set]{fullShare} f14))

/-- One trip over a column tile, at a symbolic tile: the pieces it writes are what the run leaves. -/
@[irreducible] def trip2 (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4x16x1024 .f32) (harg6 : arg6.IsWhole) (arg7 : Memref sig .tc .vmem S4096x128 .f32) (harg7 : arg7.IsWhole) (arg8 : Memref sig .tc .vmem S3x4096x128 .bf16) (harg8 : arg8.IsWhole) (arg9 : Memref sig .tc .vmem S4096x128 .f32) (harg9 : arg9.IsWhole) (arg10 : Memref sig .tc .vmem S4x16x1024 .f32) (harg10 : arg10.IsWhole) (arg11 : Memref sig .tc .vmem S4096x128 .f32) (harg11 : arg11.IsWhole) (arg12 : Memref sig .tc .vmem S4096x1 .f32) (harg12 : arg12.IsWhole) (arg13 : Memref sig .tc .vmem S4096x1 .f32) (harg13 : arg13.IsWhole) (arg14 : Memref sig .tc .vmem S4096x1 .f32) (harg14 : arg14.IsWhole) (arg0 : BitVec 32)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X12 : BufTy.Contents (Elt F) arg12.view.ty) (X13 : BufTy.Contents (Elt F) arg13.view.ty)
    (k : Fin k0_t2_loop.trips) :
    Σ' (L8 : BufTy.Contents (Elt F) arg11.view.ty → BufTy.Contents (Elt F) arg14.view.ty → List (View.Piece (Elt F) S3x4096x128 .bf16)) (L10 : BufTy.Contents (Elt F) arg11.view.ty → BufTy.Contents (Elt F) arg14.view.ty → List (View.Piece (Elt F) S4x16x1024 .f32)) (L11 : BufTy.Contents (Elt F) arg11.view.ty → BufTy.Contents (Elt F) arg14.view.ty → List (View.Piece (Elt F) S4096x128 .f32)),
      { L14 : BufTy.Contents (Elt F) arg11.view.ty → BufTy.Contents (Elt F) arg14.view.ty → List (View.Piece (Elt F) S4096x1 .f32) // ∀ (E : Set ℕ) (f8 : BufTy.Contents (Elt F) arg8.view.ty) (f10 : BufTy.Contents (Elt F) arg10.view.ty) (f11 : BufTy.Contents (Elt F) arg11.view.ty) (f14 : BufTy.Contents (Elt F) arg14.view.ty),
        Trip2 (F := F) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X5 X6 X12 X13 f8 f10 f11 f14
        ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg0 k ())
            (fun _ => Trip2 (F := F) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X5 X6 X12 X13
              (arg8.view.writes (Elt F) f8 (L8 f11 f14)) (arg10.view.writes (Elt F) f10 (L10 f11 f14))
              (arg11.view.writes (Elt F) f11 (L11 f11 f14)) (arg14.view.writes (Elt F) f14 (L14 f11 f14))) } := by
  refine ⟨?_, ?_, ?_, ?_, fun E f8 f10 f11 f14 => ?run⟩
  case run =>
    unfold k0_t2_body
    iintro ⟨H1, H2, H3, H5, H6, H12, H13, H8, H10, H11, H14⟩
    sl_exec
    sl_step
    sl_close

end Cert.Proof.AttnBwd

end
-- ==== Proof.Row.lean ====
/-
  THE ROW TILES of one column tile, by values: what the run of the inner loop leaves, read through the memrefs, is the
  model's iteration (`Blk.carryN`, `Blk.dqN`, `Blk.dfN`) over what the memrefs read before.
-/
module

public import proofs.«01_k».proof.Proof.Model
public import proofs.«01_k».proof.Proof.Trip

@[expose] public section

set_option maxRecDepth 8192
set_option maxHeartbeats 4000000

noncomputable section

namespace Cert.Proof.AttnBwd

open Cert.KernelIdeal Cert.KernelIdeal.Gen
open Idealize.ShloMosaic Idealize.ShloMosaic.TcCoe Idealize.ShloMosaic.Tactic

variable {F : FTy → Type} [FloatOps F]

/-- The blocks read through the memrefs. -/
abbrev blk (arg1 : Memref sig .tc .vmem S4096x128 .bf16) (arg2 : Memref sig .tc .vmem S4096x128 .bf16) (arg3 : Memref sig .tc .vmem S4096x128 .bf16) (arg5 : Memref sig .tc .vmem S4096x128 .bf16) (arg6 : Memref sig .tc .vmem S4x16x1024 .f32) (arg12 : Memref sig .tc .vmem S4096x1 .f32) (arg13 : Memref sig .tc .vmem S4096x1 .f32)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X12 : BufTy.Contents (Elt F) arg12.view.ty) (X13 : BufTy.Contents (Elt F) arg13.view.ty) : Blk F where
  q := arg1.view.read (Elt F) X1
  k := arg2.view.read (Elt F) X2
  v := arg3.view.read (Elt F) X3
  g := arg5.view.read (Elt F) X5
  fk := arg6.view.read (Elt F) X6
  lse := arg12.view.read (Elt F) X12
  delta := arg13.view.read (Elt F) X13

section
variable (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4x16x1024 .f32) (harg6 : arg6.IsWhole) (arg7 : Memref sig .tc .vmem S4096x128 .f32) (harg7 : arg7.IsWhole) (arg8 : Memref sig .tc .vmem S3x4096x128 .bf16) (harg8 : arg8.IsWhole) (arg9 : Memref sig .tc .vmem S4096x128 .f32) (harg9 : arg9.IsWhole) (arg10 : Memref sig .tc .vmem S4x16x1024 .f32) (harg10 : arg10.IsWhole) (arg11 : Memref sig .tc .vmem S4096x128 .f32) (harg11 : arg11.IsWhole) (arg12 : Memref sig .tc .vmem S4096x1 .f32) (harg12 : arg12.IsWhole) (arg13 : Memref sig .tc .vmem S4096x1 .f32) (harg13 : arg13.IsWhole) (arg14 : Memref sig .tc .vmem S4096x1 .f32) (harg14 : arg14.IsWhole)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X12 : BufTy.Contents (Elt F) arg12.view.ty) (X13 : BufTy.Contents (Elt F) arg13.view.ty)
    (t : Fin k0_t2_loop.trips) (arg15 : BitVec 32) (v60 v61 : FVec F S512x128 .f32) (v80 : FVec F S1x512 .f32) (v83 : BitVec 32)
    (v84 v85 : FVec F S512x128 .bf16) (v88 v90 : Vec F S512x128 .bf16) (v100 : FVec F S512x512 .f32) (v103 : IVec S512x512 1) (v138 : BitVec 32)

/-- One row tile's yield is the model's. -/
theorem row_R (j : Fin (k0_t3_loop t).trips) (a : Blk.Carry F) (f11 : BufTy.Contents (Elt F) arg11.view.ty) (f14 : BufTy.Contents (Elt F) arg14.view.ty) :
    tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 t arg15 ((blk (F := F) arg1 arg2 arg3 arg5 arg6 arg12 arg13 X1 X2 X3 X5 X6 X12 X13).tk t) ((blk (F := F) arg1 arg2 arg3 arg5 arg6 arg12 arg13 X1 X2 X3 X5 X6 X12 X13).tv t) (k0_pay31 ((blk (F := F) arg1 arg2 arg3 arg5 arg6 arg12 arg13 X1 X2 X3 X5 X6 X12 X13).tf i t)) v60 v61 v80 v83 v84 v85 v88 v90 v100 v103 v138
      X1 X5 X12 X13 j a f11 f14 = (blk (F := F) arg1 arg2 arg3 arg5 arg6 arg12 arg13 X1 X2 X3 X5 X6 X12 X13).carryS i t j a := by
  unfold tripR_k0_t3 trip_k0_t3
  rfl

/-- One row tile's write of the accumulator is the model's. -/
theorem row_L11 (j : Fin (k0_t3_loop t).trips) (a : Blk.Carry F) (f11 : BufTy.Contents (Elt F) arg11.view.ty) (f14 : BufTy.Contents (Elt F) arg14.view.ty) :
    arg11.view.read (Elt F) (arg11.view.writes (Elt F) f11 (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 t arg15 ((blk (F := F) arg1 arg2 arg3 arg5 arg6 arg12 arg13 X1 X2 X3 X5 X6 X12 X13).tk t) ((blk (F := F) arg1 arg2 arg3 arg5 arg6 arg12 arg13 X1 X2 X3 X5 X6 X12 X13).tv t) (k0_pay31 ((blk (F := F) arg1 arg2 arg3 arg5 arg6 arg12 arg13 X1 X2 X3 X5 X6 X12 X13).tf i t)) v60 v61 v80 v83 v84 v85 v88 v90 v100 v103 v138
      X1 X5 X12 X13 j a f11 f14).1) = (blk (F := F) arg1 arg2 arg3 arg5 arg6 arg12 arg13 X1 X2 X3 X5 X6 X12 X13).dqS i t j (arg11.view.read (Elt F) f11) := by
  unfold tripL_k0_t3 trip_k0_t3
  exact View.read_writes_cons_put _ _ _ _ _ rfl

/-- One row tile's write of the column is the model's. -/
theorem row_L14 (j : Fin (k0_t3_loop t).trips) (a : Blk.Carry F) (f11 : BufTy.Contents (Elt F) arg11.view.ty) (f14 : BufTy.Contents (Elt F) arg14.view.ty) :
    arg14.view.read (Elt F) (arg14.view.writes (Elt F) f14 (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 t arg15 ((blk (F := F) arg1 arg2 arg3 arg5 arg6 arg12 arg13 X1 X2 X3 X5 X6 X12 X13).tk t) ((blk (F := F) arg1 arg2 arg3 arg5 arg6 arg12 arg13 X1 X2 X3 X5 X6 X12 X13).tv t) (k0_pay31 ((blk (F := F) arg1 arg2 arg3 arg5 arg6 arg12 arg13 X1 X2 X3 X5 X6 X12 X13).tf i t)) v60 v61 v80 v83 v84 v85 v88 v90 v100 v103 v138
      X1 X5 X12 X13 j a f11 f14).2) = (blk (F := F) arg1 arg2 arg3 arg5 arg6 arg12 arg13 X1 X2 X3 X5 X6 X12 X13).dfS i t j (arg14.view.read (Elt F) f14) := by
  unfold tripL_k0_t3 trip_k0_t3
  exact View.read_writes_cons_put _ _ _ _ _ rfl

/-- The row tiles before the `n`-th: the sums carried, the accumulator and the column. -/
theorem rows (f11 : BufTy.Contents (Elt F) arg11.view.ty) (f14 : BufTy.Contents (Elt F) arg14.view.ty) (a : Blk.Carry F) (n : ℕ) (hn : n ≤ (k0_t3_loop t).trips) :
    (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 t arg15 ((blk (F := F) arg1 arg2 arg3 arg5 arg6 arg12 arg13 X1 X2 X3 X5 X6 X12 X13).tk t) ((blk (F := F) arg1 arg2 arg3 arg5 arg6 arg12 arg13 X1 X2 X3 X5 X6 X12 X13).tv t) (k0_pay31 ((blk (F := F) arg1 arg2 arg3 arg5 arg6 arg12 arg13 X1 X2 X3 X5 X6 X12 X13).tf i t)) v60 v61 v80 v83 v84 v85 v88 v90 v100 v103 v138
      X1 X5 X12 X13 f11 f14 a n).1 = (blk (F := F) arg1 arg2 arg3 arg5 arg6 arg12 arg13 X1 X2 X3 X5 X6 X12 X13).carryN i t a n
    ∧ arg11.view.read (Elt F) (arg11.view.writes (Elt F) f11 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 t arg15 ((blk (F := F) arg1 arg2 arg3 arg5 arg6 arg12 arg13 X1 X2 X3 X5 X6 X12 X13).tk t) ((blk (F := F) arg1 arg2 arg3 arg5 arg6 arg12 arg13 X1 X2 X3 X5 X6 X12 X13).tv t) (k0_pay31 ((blk (F := F) arg1 arg2 arg3 arg5 arg6 arg12 arg13 X1 X2 X3 X5 X6 X12 X13).tf i t)) v60 v61 v80 v83 v84 v85 v88 v90 v100 v103 v138
      X1 X5 X12 X13 f11 f14 a n).2.1) = (blk (F := F) arg1 arg2 arg3 arg5 arg6 arg12 arg13 X1 X2 X3 X5 X6 X12 X13).dqN i t (arg11.view.read (Elt F) f11) n
    ∧ arg14.view.read (Elt F) (arg14.view.writes (Elt F) f14 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 t arg15 ((blk (F := F) arg1 arg2 arg3 arg5 arg6 arg12 arg13 X1 X2 X3 X5 X6 X12 X13).tk t) ((blk (F := F) arg1 arg2 arg3 arg5 arg6 arg12 arg13 X1 X2 X3 X5 X6 X12 X13).tv t) (k0_pay31 ((blk (F := F) arg1 arg2 arg3 arg5 arg6 arg12 arg13 X1 X2 X3 X5 X6 X12 X13).tf i t)) v60 v61 v80 v83 v84 v85 v88 v90 v100 v103 v138
      X1 X5 X12 X13 f11 f14 a n).2.2) = (blk (F := F) arg1 arg2 arg3 arg5 arg6 arg12 arg13 X1 X2 X3 X5 X6 X12 X13).dfN i t (arg14.view.read (Elt F) f14) n := by
  induction n with
  | zero => exact ⟨rfl, rfl, rfl⟩
  | succ n ih =>
    obtain ⟨h1, h2, h3⟩ := ih (by omega)
    have e := st_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 t arg15 ((blk (F := F) arg1 arg2 arg3 arg5 arg6 arg12 arg13 X1 X2 X3 X5 X6 X12 X13).tk t) ((blk (F := F) arg1 arg2 arg3 arg5 arg6 arg12 arg13 X1 X2 X3 X5 X6 X12 X13).tv t) (k0_pay31 ((blk (F := F) arg1 arg2 arg3 arg5 arg6 arg12 arg13 X1 X2 X3 X5 X6 X12 X13).tf i t)) v60 v61 v80 v83 v84 v85 v88 v90 v100 v103 v138
      X1 X5 X12 X13 f11 f14 a ⟨n, hn⟩
    rw [e]
    refine ⟨?_, ?_, ?_⟩
    · show tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 t arg15 ((blk (F := F) arg1 arg2 arg3 arg5 arg6 arg12 arg13 X1 X2 X3 X5 X6 X12 X13).tk t) ((blk (F := F) arg1 arg2 arg3 arg5 arg6 arg12 arg13 X1 X2 X3 X5 X6 X12 X13).tv t) (k0_pay31 ((blk (F := F) arg1 arg2 arg3 arg5 arg6 arg12 arg13 X1 X2 X3 X5 X6 X12 X13).tf i t)) v60 v61 v80 v83 v84 v85 v88 v90 v100 v103 v138
        X1 X5 X12 X13 ⟨n, hn⟩ _ _ _ = _
      rw [row_R, h1]
      exact (iter_succ _ _ (⟨n, hn⟩ : Fin (k0_t3_loop t).trips)).symm
    · rw [View.writes_append, row_L11, h2]
      exact (iter_succ _ _ (⟨n, hn⟩ : Fin (k0_t3_loop t).trips)).symm
    · rw [View.writes_append, row_L14, h3]
      exact (iter_succ _ _ (⟨n, hn⟩ : Fin (k0_t3_loop t).trips)).symm

end

end Cert.Proof.AttnBwd

end
-- ==== Proof.Col.lean ====
/-
  ONE COLUMN TILE by values: what the trip over a column tile leaves, read through the memrefs, is the model's
  (`Blk.out`, `Blk.fkOut`, `Blk.dq`, `Blk.df`) over what they read before.
-/
module

public import proofs.«01_k».proof.Proof.Row

@[expose] public section

set_option maxRecDepth 8192
set_option maxHeartbeats 800000

noncomputable section

namespace Cert.Proof.AttnBwd

open Cert.KernelIdeal Cert.KernelIdeal.Gen
open Idealize.ShloMosaic Idealize.ShloMosaic.TcCoe Idealize.ShloMosaic.Tactic

variable {F : FTy → Type} [FloatOps F]

/-- A load inside a window just stored reads that store, over any values under it. -/
theorem readCov_inside {sp : Space} {s : Shape} {e : EltTy} (v : View sig .tc sp s e) {off size off' size' : Fin s.rank → ℕ}
    (inb : ∀ a, off a + size a ≤ s.size a) (inb' : ∀ a, off' a + size' a ≤ s.size a) (w : (Rect.unit off size inb).shape.Idx → Elt F e)
    (A : s.Idx → Elt F e) (h : ∀ a, off a ≤ off' a ∧ off' a + size' a ≤ off a + size a) :
    v.readCov [⟨Rect.unit off size inb, w⟩] (Rect.unit off' size' inb').toLoadRect
      = VecWindow.window (VecWindow.put A off size w) off' size' inb' := by
  have e1 : v.readCov [⟨Rect.unit off size inb, w⟩] (Rect.unit off' size' inb').toLoadRect
      = VecWindow.window (v.read (Elt F) (v.writes (Elt F) v.junk [⟨Rect.unit off size inb, w⟩])) off' size' inb' := rfl
  rw [e1, View.read_writes_cons_put _ _ _ _ _ rfl, VecWindow.window_put_of_inside _ _ _ _ _ _ _ h, VecWindow.window_put_of_inside _ _ _ _ _ _ _ h]

theorem off7_in_off5 (t : Fin k0_t2_loop.trips) : ∀ a, k0_off5 t a ≤ k0_off7 t a ∧ k0_off7 t a + S512x128.size a ≤ k0_off5 t a + S1024x128.size a := by
  rw [k0_off5_eq, k0_off7_eq]
  exact Fin.forall_fin_two.2 ⟨⟨Nat.le_add_right _ _, Nat.le_of_eq (Nat.add_assoc _ _ _)⟩, ⟨le_rfl, le_rfl⟩⟩
theorem off8_in_off6 (t : Fin k0_t2_loop.trips) : ∀ a, k0_off6 t a ≤ k0_off8 t a ∧ k0_off8 t a + S512x1.size a ≤ k0_off6 t a + S1024x1.size a := by
  rw [k0_off6_eq, k0_off8_eq]
  exact Fin.forall_fin_two.2 ⟨⟨Nat.le_add_right _ _, Nat.le_of_eq (Nat.add_assoc _ _ _)⟩, ⟨le_rfl, le_rfl⟩⟩

section
variable (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4x16x1024 .f32) (harg6 : arg6.IsWhole) (arg7 : Memref sig .tc .vmem S4096x128 .f32) (harg7 : arg7.IsWhole) (arg8 : Memref sig .tc .vmem S3x4096x128 .bf16) (harg8 : arg8.IsWhole) (arg9 : Memref sig .tc .vmem S4096x128 .f32) (harg9 : arg9.IsWhole) (arg10 : Memref sig .tc .vmem S4x16x1024 .f32) (harg10 : arg10.IsWhole) (arg11 : Memref sig .tc .vmem S4096x128 .f32) (harg11 : arg11.IsWhole) (arg12 : Memref sig .tc .vmem S4096x1 .f32) (harg12 : arg12.IsWhole) (arg13 : Memref sig .tc .vmem S4096x1 .f32) (harg13 : arg13.IsWhole) (arg14 : Memref sig .tc .vmem S4096x1 .f32) (harg14 : arg14.IsWhole)

/-- The loop over the remainder of the row tiles takes no trip. -/
theorem rest_none (t : Fin k0_t2_loop.trips) (v20 v22 : Vec F S1024x128 .bf16) (v26 : FVec F S1x1024 .f32) (v143 c1 : BitVec 32)
    (X1 : BufTy.Contents (Elt F) arg1.view.ty) (X5 : BufTy.Contents (Elt F) arg5.view.ty) (X12 : BufTy.Contents (Elt F) arg12.view.ty) (X13 : BufTy.Contents (Elt F) arg13.view.ty) (G11 : BufTy.Contents (Elt F) arg11.view.ty) (G14 : BufTy.Contents (Elt F) arg14.view.ty) (a : Blk.Carry F) (n : ℕ) :
    st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 t v20 v22 v26 v143 c1 X1 X5 X12 X13 G11 G14 a n = (a, [], []) := by
  induction n with
  | zero => rfl
  | succ n ih =>
    have h : ¬ n < (k0_t4_loop t).trips := fun h => absurd h (Nat.not_lt.2 (Nat.le_trans (k0_t4_abs t).2.1 (Nat.zero_le _)))
    rw [st_k0_t4.eq_2]
    unfold st_k0_t4Step
    rw [dif_neg h, ih]

variable (arg0 : BitVec 32)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X12 : BufTy.Contents (Elt F) arg12.view.ty) (X13 : BufTy.Contents (Elt F) arg13.view.ty)
    (t : Fin k0_t2_loop.trips) (f8 : BufTy.Contents (Elt F) arg8.view.ty) (f10 : BufTy.Contents (Elt F) arg10.view.ty) (f11 : BufTy.Contents (Elt F) arg11.view.ty) (f14 : BufTy.Contents (Elt F) arg14.view.ty)

/-- What the second strip loads of the accumulator. -/
theorem strip_v117 : trip2.sl.v117 i arg1 arg2 arg3 arg5 arg6 arg11 arg12 arg13 X1 X2 X3 X5 X6 X12 X13 t f11
    = VecWindow.window (((blk (F := F) arg1 arg2 arg3 arg5 arg6 arg12 arg13 X1 X2 X3 X5 X6 X12 X13)).dqA i t (arg11.view.read (Elt F) f11)) (k0_off7 t) S512x128.size (k0_off7_inb t) :=
  readCov_inside arg11.view (k0_off5_inb t) (k0_off7_inb t) _ _ (off7_in_off5 t)
/-- What it loads of the column. -/
theorem strip_v125 : trip2.sl.v125 i arg1 arg2 arg3 arg5 arg6 arg12 arg13 arg14 X1 X2 X3 X5 X6 X12 X13 t f14
    = VecWindow.window (((blk (F := F) arg1 arg2 arg3 arg5 arg6 arg12 arg13 X1 X2 X3 X5 X6 X12 X13)).dfA i t (arg14.view.read (Elt F) f14)) (k0_off8 t) S512x1.size (k0_off8_inb t) :=
  readCov_inside arg14.view (k0_off6_inb t) (k0_off8_inb t) _ _ (off8_in_off6 t)
/-- The accumulator after the first strip. -/
theorem strip_H11 : arg11.view.read (Elt F) (arg11.view.writes (Elt F) f11 (trip2.sl.H11_1 i arg1 arg2 arg3 arg5 arg6 arg11 arg12 arg13 X1 X2 X3 X5 X6 X12 X13 t f11))
    = ((blk (F := F) arg1 arg2 arg3 arg5 arg6 arg12 arg13 X1 X2 X3 X5 X6 X12 X13)).dqA i t (arg11.view.read (Elt F) f11) := View.read_writes_cons_put _ _ _ _ _ rfl
/-- The column after the first strip. -/
theorem strip_H14 : arg14.view.read (Elt F) (arg14.view.writes (Elt F) f14 (trip2.sl.H14_1 i arg1 arg2 arg3 arg5 arg6 arg12 arg13 arg14 X1 X2 X3 X5 X6 X12 X13 t f14))
    = ((blk (F := F) arg1 arg2 arg3 arg5 arg6 arg12 arg13 X1 X2 X3 X5 X6 X12 X13)).dfA i t (arg14.view.read (Elt F) f14) := View.read_writes_cons_put _ _ _ _ _ rfl

theorem col_L11 :
    arg11.view.read (Elt F) (arg11.view.writes (Elt F) f11 ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 t).2.2.1 f11 f14))
      = ((blk (F := F) arg1 arg2 arg3 arg5 arg6 arg12 arg13 X1 X2 X3 X5 X6 X12 X13)).dq i t (arg11.view.read (Elt F) f11) := by
  unfold trip2
  dsimp only
  rw [rest_none, List.nil_append, View.writes_append]
  refine (rows (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X5 X6 X12 X13 t _ _ _ _ _ _ _ _ _ _ _ _ _ _ _ (k0_t3_loop t).trips le_rfl).2.1.trans ?_
  refine congrArg (fun A => ((blk (F := F) arg1 arg2 arg3 arg5 arg6 arg12 arg13 X1 X2 X3 X5 X6 X12 X13)).dqN i t A (k0_t3_loop t).trips) ?_
  refine (View.read_writes_cons_put _ _ _ _ _ rfl).trans ?_
  rw [strip_H11, strip_v117]
  rfl

theorem col_L14 :
    arg14.view.read (Elt F) (arg14.view.writes (Elt F) f14 ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 t).2.2.2.1 f11 f14))
      = ((blk (F := F) arg1 arg2 arg3 arg5 arg6 arg12 arg13 X1 X2 X3 X5 X6 X12 X13)).df i t (arg14.view.read (Elt F) f14) := by
  unfold trip2
  dsimp only
  rw [rest_none, List.nil_append, View.writes_append]
  refine (rows (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X5 X6 X12 X13 t _ _ _ _ _ _ _ _ _ _ _ _ _ _ _ (k0_t3_loop t).trips le_rfl).2.2.trans ?_
  refine congrArg (fun A => ((blk (F := F) arg1 arg2 arg3 arg5 arg6 arg12 arg13 X1 X2 X3 X5 X6 X12 X13)).dfN i t A (k0_t3_loop t).trips) ?_
  refine (View.read_writes_cons_put _ _ _ _ _ rfl).trans ?_
  rw [strip_H14, strip_v125]
  rfl

/-- The tile's sum for k's gradient. -/
theorem strip_r15 : trip2.sl.r_15 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X5 X6 X12 X13 t f11 f14 = (((blk (F := F) arg1 arg2 arg3 arg5 arg6 arg12 arg13 X1 X2 X3 X5 X6 X12 X13)).carry i t).1 := by
  unfold trip2.sl.r_15
  exact congrArg (fun a : Blk.Carry F => a.1) (rows (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X5 X6 X12 X13 t _ _ _ _ _ _ _ _ _ _ _ _ _ _ _ (k0_t3_loop t).trips le_rfl).1

/-- The tile's sum for v's gradient. -/
theorem strip_r16 : trip2.sl.r_16 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X5 X6 X12 X13 t f11 f14 = (((blk (F := F) arg1 arg2 arg3 arg5 arg6 arg12 arg13 X1 X2 X3 X5 X6 X12 X13)).carry i t).2.1 := by
  unfold trip2.sl.r_16
  exact congrArg (fun a : Blk.Carry F => a.2.1) (rows (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X5 X6 X12 X13 t _ _ _ _ _ _ _ _ _ _ _ _ _ _ _ (k0_t3_loop t).trips le_rfl).1

/-- The tile's sum for the key gates' gradient. -/
theorem strip_r17 : trip2.sl.r_17 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X5 X6 X12 X13 t f11 f14 = (((blk (F := F) arg1 arg2 arg3 arg5 arg6 arg12 arg13 X1 X2 X3 X5 X6 X12 X13)).carry i t).2.2 := by
  unfold trip2.sl.r_17
  exact congrArg (fun a : Blk.Carry F => a.2.2) (rows (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X2 X3 X5 X6 X12 X13 t _ _ _ _ _ _ _ _ _ _ _ _ _ _ _ (k0_t3_loop t).trips le_rfl).1

theorem col_L8 :
    arg8.view.read (Elt F) (arg8.view.writes (Elt F) f8 ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 t).1 f11 f14))
      = ((blk (F := F) arg1 arg2 arg3 arg5 arg6 arg12 arg13 X1 X2 X3 X5 X6 X12 X13)).out i t (arg8.view.read (Elt F) f8) := by
  unfold trip2
  dsimp only
  simp only [rest_none]
  refine (View.read_writes_cons_put _ _ _ _ _ rfl).trans ?_
  refine (congrArg (fun R => VecWindow.put R _ _ _) (View.read_writes_cons_put _ _ _ _ _ rfl)).trans ?_
  rw [strip_r15, strip_r16]
  rfl

theorem col_L10 :
    arg10.view.read (Elt F) (arg10.view.writes (Elt F) f10 ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 t).2.1 f11 f14))
      = ((blk (F := F) arg1 arg2 arg3 arg5 arg6 arg12 arg13 X1 X2 X3 X5 X6 X12 X13)).fkOut i t (arg10.view.read (Elt F) f10) := by
  unfold trip2
  dsimp only
  simp only [rest_none]
  refine (View.read_writes_cons_put _ _ _ _ _ rfl).trans ?_
  rw [strip_r17]
  rfl

end

end Cert.Proof.AttnBwd

end
-- ==== Proof.Tiles.lean ====
/-
  THE LOOP OVER THE COLUMN TILES by its invariant: before tile `n` the blocks read hold what they held, and the four
  buffers written hold what the trips before left, one after the other.
-/
module

public import proofs.«01_k».proof.Proof.Col

@[expose] public section

set_option maxRecDepth 8192
set_option maxHeartbeats 800000

noncomputable section

namespace Cert.Proof.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4x16x1024 .f32) (harg6 : arg6.IsWhole) (arg7 : Memref sig .tc .vmem S4096x128 .f32) (harg7 : arg7.IsWhole) (arg8 : Memref sig .tc .vmem S3x4096x128 .bf16) (harg8 : arg8.IsWhole) (arg9 : Memref sig .tc .vmem S4096x128 .f32) (harg9 : arg9.IsWhole) (arg10 : Memref sig .tc .vmem S4x16x1024 .f32) (harg10 : arg10.IsWhole) (arg11 : Memref sig .tc .vmem S4096x128 .f32) (harg11 : arg11.IsWhole) (arg12 : Memref sig .tc .vmem S4096x1 .f32) (harg12 : arg12.IsWhole) (arg13 : Memref sig .tc .vmem S4096x1 .f32) (harg13 : arg13.IsWhole) (arg14 : Memref sig .tc .vmem S4096x1 .f32) (harg14 : arg14.IsWhole) (arg0 : BitVec 32)
    (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X12 : BufTy.Contents (Elt F) arg12.view.ty) (X13 : BufTy.Contents (Elt F) arg13.view.ty)
    (G8 : BufTy.Contents (Elt F) arg8.view.ty) (G10 : BufTy.Contents (Elt F) arg10.view.ty) (G11 : BufTy.Contents (Elt F) arg11.view.ty) (G14 : BufTy.Contents (Elt F) arg14.view.ty)

/-- What one trip leaves in the four buffers it writes. -/
@[irreducible] def tileStep (t : Fin k0_t2_loop.trips) (s : BufTy.Contents (Elt F) arg8.view.ty × BufTy.Contents (Elt F) arg10.view.ty × BufTy.Contents (Elt F) arg11.view.ty × BufTy.Contents (Elt F) arg14.view.ty) : BufTy.Contents (Elt F) arg8.view.ty × BufTy.Contents (Elt F) arg10.view.ty × BufTy.Contents (Elt F) arg11.view.ty × BufTy.Contents (Elt F) arg14.view.ty :=
  (arg8.view.writes (Elt F) s.1 ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 t).1 s.2.2.1 s.2.2.2),
    arg10.view.writes (Elt F) s.2.1 ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 t).2.1 s.2.2.1 s.2.2.2),
    arg11.view.writes (Elt F) s.2.2.1 ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 t).2.2.1 s.2.2.1 s.2.2.2),
    arg14.view.writes (Elt F) s.2.2.2 ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 t).2.2.2.1 s.2.2.1 s.2.2.2))

/-- The four buffers before tile `n`. -/
def tiles (n : ℕ) : BufTy.Contents (Elt F) arg8.view.ty × BufTy.Contents (Elt F) arg10.view.ty × BufTy.Contents (Elt F) arg11.view.ty × BufTy.Contents (Elt F) arg14.view.ty :=
  iter (tileStep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13) (G8, G10, G11, G14) n

theorem tiles_succ (k : Fin k0_t2_loop.trips) :
    tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 (k.val + 1)
      = tileStep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 k (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 k.val) :=
  iter_succ _ _ k

/-- A sequence given by its start and its later terms is the sequence. -/
theorem nat_rec_eq {α : Type} (h : ℕ → α) (a : α) (ha : h 0 = a) (n : ℕ) :
    Nat.rec (motive := fun _ => α) a (fun m _ => h (m + 1)) n = h n := by
  cases n with
  | zero => exact ha.symm
  | succ n => rfl

/-- The invariant before tile `n` (the start written apart, so that it is found at the loop's entry). -/
abbrev tilesInv (n : ℕ) (_u : PUnit) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg12.view.loc (c : Thread nD τ) ↦[arg12.view.set]{fullShare} X12) ∗ (arg13.view.loc (c : Thread nD τ) ↦[arg13.view.set]{fullShare} X13)
    ∗ (∃ f, (arg8.view.loc (c : Thread nD τ) ↦[arg8.view.set]{fullShare} f) ∗ ⌜f = Nat.rec (motive := fun _ => BufTy.Contents (Elt F) arg8.view.ty) G8 (fun m _ => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 (m + 1)).1) n⌝)
    ∗ (∃ f, (arg10.view.loc (c : Thread nD τ) ↦[arg10.view.set]{fullShare} f) ∗ ⌜f = Nat.rec (motive := fun _ => BufTy.Contents (Elt F) arg10.view.ty) G10 (fun m _ => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 (m + 1)).2.1) n⌝)
    ∗ (∃ f, (arg11.view.loc (c : Thread nD τ) ↦[arg11.view.set]{fullShare} f) ∗ ⌜f = Nat.rec (motive := fun _ => BufTy.Contents (Elt F) arg11.view.ty) G11 (fun m _ => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 (m + 1)).2.2.1) n⌝)
    ∗ (∃ f, (arg14.view.loc (c : Thread nD τ) ↦[arg14.view.set]{fullShare} f) ∗ ⌜f = Nat.rec (motive := fun _ => BufTy.Contents (Elt F) arg14.view.ty) G14 (fun m _ => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 (m + 1)).2.2.2) n⌝))

set_option warn.classDefReducibility false in
/-- The loop over the column tiles by its invariant. -/
@[sl_loop] def tilesLoop (E : Set ℕ) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg0 where
  inv := tilesInv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14
  step k acc := by
    iintro ⟨H1, H2, H3, H5, H6, H12, H13, ⟨%f8, H8, %h8⟩, ⟨%f10, H10, %h10⟩, ⟨%f11, H11, %h11⟩, ⟨%f14, H14, %h14⟩⟩
    replace h8 := h8.trans (nat_rec_eq (fun n => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).1) G8 rfl k.val)
    replace h10 := h10.trans (nat_rec_eq (fun n => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).2.1) G10 rfl k.val)
    replace h11 := h11.trans (nat_rec_eq (fun n => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).2.2.1) G11 rfl k.val)
    replace h14 := h14.trans (nat_rec_eq (fun n => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).2.2.2) G14 rfl k.val)
    iapply (wp_wand_r Idealize.ShloMosaic.frame (wpE (defs₀ (F := F)) 𝒱 (c : Thread nD τ) bd) E)
    isplitl [H1 H2 H3 H5 H6 H12 H13 H8 H10 H11 H14]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 k).2.2.2.2 E f8 f10 f11 f14)
      isplitl [H1]; · iexact H1
      isplitl [H2]; · iexact H2
      isplitl [H3]; · iexact H3
      isplitl [H5]; · iexact H5
      isplitl [H6]; · iexact H6
      isplitl [H12]; · iexact H12
      isplitl [H13]; · iexact H13
      isplitl [H8]; · iexact H8
      isplitl [H10]; · iexact H10
      isplitl [H11]; · iexact H11
      iexact H14
    · iintro %_ ⟨H1, H2, H3, H5, H6, H12, H13, H8, H10, H11, H14⟩
      isplitl [H1]; · iexact H1
      isplitl [H2]; · iexact H2
      isplitl [H3]; · iexact H3
      isplitl [H5]; · iexact H5
      isplitl [H6]; · iexact H6
      isplitl [H12]; · iexact H12
      isplitl [H13]; · iexact H13
      isplitl [H8]
      · iexists _; isplitl [H8]; · iexact H8
        ipureintro; dsimp only; rw [tiles_succ]; unfold tileStep; rw [h8, h11, h14]
      isplitl [H10]
      · iexists _; isplitl [H10]; · iexact H10
        ipureintro; dsimp only; rw [tiles_succ]; unfold tileStep; rw [h10, h11, h14]
      isplitl [H11]
      · iexists _; isplitl [H11]; · iexact H11
        ipureintro; dsimp only; rw [tiles_succ]; unfold tileStep; rw [h11, h14]
      iexists _; isplitl [H14]; · iexact H14
      ipureintro; dsimp only; rw [tiles_succ]; unfold tileStep; rw [h11, h14]

/-- Read by values, the four buffers before tile `n` are the model's. -/
theorem tiles_read (n : ℕ) :
    arg8.view.read (Elt F) (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).1
        = iter (fun t R => ((blk (F := F) arg1 arg2 arg3 arg5 arg6 arg12 arg13 X1 X2 X3 X5 X6 X12 X13)).out i t R) (arg8.view.read (Elt F) G8) n
      ∧ arg10.view.read (Elt F) (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).2.1
        = iter (fun t R => ((blk (F := F) arg1 arg2 arg3 arg5 arg6 arg12 arg13 X1 X2 X3 X5 X6 X12 X13)).fkOut i t R) (arg10.view.read (Elt F) G10) n
      ∧ arg11.view.read (Elt F) (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).2.2.1
        = iter (fun t R => ((blk (F := F) arg1 arg2 arg3 arg5 arg6 arg12 arg13 X1 X2 X3 X5 X6 X12 X13)).dq i t R) (arg11.view.read (Elt F) G11) n
      ∧ arg14.view.read (Elt F) (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).2.2.2
        = iter (fun t R => ((blk (F := F) arg1 arg2 arg3 arg5 arg6 arg12 arg13 X1 X2 X3 X5 X6 X12 X13)).df i t R) (arg14.view.read (Elt F) G14) n := by
  induction n with
  | zero => exact ⟨rfl, rfl, rfl, rfl⟩
  | succ n ih =>
    by_cases h : n < k0_t2_loop.trips
    · obtain ⟨i8, i10, i11, i14⟩ := ih
      rw [show n + 1 = (⟨n, h⟩ : Fin k0_t2_loop.trips).val + 1 from rfl, tiles_succ, iter_succ, iter_succ, iter_succ, iter_succ]
      unfold tileStep
      dsimp only
      rw [col_L8, col_L10, col_L11, col_L14, i8, i10, i11, i14]
      exact ⟨rfl, rfl, rfl, rfl⟩
    · rw [show tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 (n + 1)
          = tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n from iter_past _ _ h,
        iter_past _ _ h, iter_past _ _ h, iter_past _ _ h, iter_past _ _ h]
      exact ih

theorem tiles_read8 (n : ℕ) :
    arg8.view.read (Elt F) (Nat.rec (motive := fun _ => BufTy.Contents (Elt F) arg8.view.ty) G8 (fun m _ => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 (m + 1)).1) n)
      = iter (fun t R => ((blk (F := F) arg1 arg2 arg3 arg5 arg6 arg12 arg13 X1 X2 X3 X5 X6 X12 X13)).out i t R) (arg8.view.read (Elt F) G8) n :=
  (congrArg (arg8.view.read (Elt F)) (nat_rec_eq (fun n => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).1) G8 rfl n)).trans
    (tiles_read (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).1

theorem tiles_read10 (n : ℕ) :
    arg10.view.read (Elt F) (Nat.rec (motive := fun _ => BufTy.Contents (Elt F) arg10.view.ty) G10 (fun m _ => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 (m + 1)).2.1) n)
      = iter (fun t R => ((blk (F := F) arg1 arg2 arg3 arg5 arg6 arg12 arg13 X1 X2 X3 X5 X6 X12 X13)).fkOut i t R) (arg10.view.read (Elt F) G10) n :=
  (congrArg (arg10.view.read (Elt F)) (nat_rec_eq (fun n => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).2.1) G10 rfl n)).trans
    (tiles_read (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).2.1

theorem tiles_read11 (n : ℕ) :
    arg11.view.read (Elt F) (Nat.rec (motive := fun _ => BufTy.Contents (Elt F) arg11.view.ty) G11 (fun m _ => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 (m + 1)).2.2.1) n)
      = iter (fun t R => ((blk (F := F) arg1 arg2 arg3 arg5 arg6 arg12 arg13 X1 X2 X3 X5 X6 X12 X13)).dq i t R) (arg11.view.read (Elt F) G11) n :=
  (congrArg (arg11.view.read (Elt F)) (nat_rec_eq (fun n => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).2.2.1) G11 rfl n)).trans
    (tiles_read (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).2.2.1

theorem tiles_read14 (n : ℕ) :
    arg14.view.read (Elt F) (Nat.rec (motive := fun _ => BufTy.Contents (Elt F) arg14.view.ty) G14 (fun m _ => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 (m + 1)).2.2.2) n)
      = iter (fun t R => ((blk (F := F) arg1 arg2 arg3 arg5 arg6 arg12 arg13 X1 X2 X3 X5 X6 X12 X13)).df i t R) (arg14.view.read (Elt F) G14) n :=
  (congrArg (arg14.view.read (Elt F)) (nat_rec_eq (fun n => (tiles (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).2.2.2) G14 rfl n)).trans
    (tiles_read (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X3 X5 X6 X12 X13 G8 G10 G11 G14 n).2.2.2

end

end Cert.Proof.AttnBwd

end
-- ==== Proof.Ends.lean ====
/-
  THE LOOPS BEFORE AND AFTER the column tiles, by values: the first fills the two columns (log-sum-exps, row sums of
  gradient × output), the last writes q's gradient and adds the query gates' gradient.
-/
module

public import proofs.«01_k».proof.Proof.Model

@[expose] public section

set_option maxRecDepth 8192
set_option maxHeartbeats 800000

noncomputable section

namespace Cert.Proof.AttnBwd

open Cert.KernelIdeal Cert.KernelIdeal.Gen
open Idealize.ShloMosaic Idealize.ShloMosaic.TcCoe Idealize.ShloMosaic.Tactic

variable {F : FTy → Type} [FloatOps F]

section
variable (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4x16x1024 .f32) (harg6 : arg6.IsWhole) (arg7 : Memref sig .tc .vmem S4096x128 .f32) (harg7 : arg7.IsWhole) (arg8 : Memref sig .tc .vmem S3x4096x128 .bf16) (harg8 : arg8.IsWhole) (arg9 : Memref sig .tc .vmem S4096x128 .f32) (harg9 : arg9.IsWhole) (arg10 : Memref sig .tc .vmem S4x16x1024 .f32) (harg10 : arg10.IsWhole) (arg11 : Memref sig .tc .vmem S4096x128 .f32) (harg11 : arg11.IsWhole) (arg12 : Memref sig .tc .vmem S4096x1 .f32) (harg12 : arg12.IsWhole) (arg13 : Memref sig .tc .vmem S4096x1 .f32) (harg13 : arg13.IsWhole) (arg14 : Memref sig .tc .vmem S4096x1 .f32) (harg14 : arg14.IsWhole)

/-- The first loop's two columns. -/
theorem cols_read (X4 : BufTy.Contents (Elt F) arg4.view.ty) (X5 : BufTy.Contents (Elt F) arg5.view.ty) (X7 : BufTy.Contents (Elt F) arg7.view.ty) (G12 : BufTy.Contents (Elt F) arg12.view.ty) (G13 : BufTy.Contents (Elt F) arg13.view.ty) (n : ℕ) :
    arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X7 n).1)
        = lseCol i (arg7.view.read (Elt F) X7) (arg12.view.read (Elt F) G12) n
      ∧ arg13.view.read (Elt F) (arg13.view.writes (Elt F) G13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X7 n).2)
        = deltaCol (arg4.view.read (Elt F) X4) (arg5.view.read (Elt F) X5) (arg13.view.read (Elt F) G13) n := by
  induction n with
  | zero => exact ⟨rfl, rfl⟩
  | succ n ih =>
    by_cases h : n < k0_t1_loop.trips
    · obtain ⟨i12, i13⟩ := ih
      rw [show n + 1 = (⟨n, h⟩ : Fin k0_t1_loop.trips).val + 1 from rfl, pb_k0_t1_succ]
      unfold lseCol deltaCol at *
      rw [iter_succ, iter_succ]
      dsimp only [tripL_k0_t1]
      unfold trip_k0_t1
      dsimp only
      rw [View.writes_append, View.writes_append, View.read_writes_cons_put _ _ _ _ _ rfl, View.read_writes_cons_put _ _ _ _ _ rfl,
        View.writes_nil, View.writes_nil, i12, i13]
      exact ⟨rfl, rfl⟩
    · rw [pb_k0_t1.eq_2]
      unfold pb_k0_t1Step
      rw [dif_neg h]
      unfold lseCol deltaCol at *
      rw [iter_past _ _ h, iter_past _ _ h]
      exact ih

/-- The last loop's two results. -/
theorem ends_read (X11 : BufTy.Contents (Elt F) arg11.view.ty) (X14 : BufTy.Contents (Elt F) arg14.view.ty) (G8 : BufTy.Contents (Elt F) arg8.view.ty) (G9 : BufTy.Contents (Elt F) arg9.view.ty) (n : ℕ) :
    arg8.view.read (Elt F) (arg8.view.writes (Elt F) G8 (pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X11 X14 G8 G9 n).1)
        = dqOut (arg11.view.read (Elt F) X11) (arg8.view.read (Elt F) G8) n
      ∧ arg9.view.read (Elt F) (arg9.view.writes (Elt F) G9 (pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X11 X14 G8 G9 n).2)
        = dfOut i (arg14.view.read (Elt F) X14) (arg9.view.read (Elt F) G9) n := by
  induction n with
  | zero => exact ⟨rfl, rfl⟩
  | succ n ih =>
    by_cases h : n < k0_t5_loop.trips
    · obtain ⟨i8, i9⟩ := ih
      rw [show n + 1 = (⟨n, h⟩ : Fin k0_t5_loop.trips).val + 1 from rfl, pb_k0_t5_succ]
      unfold dqOut dfOut at *
      rw [iter_succ, iter_succ]
      dsimp only [tripL_k0_t5]
      unfold trip_k0_t5
      dsimp only
      rw [View.writes_append, View.writes_append, View.read_writes_cons_put _ _ _ _ _ rfl, View.read_writes_cons_put _ _ _ _ _ rfl,
        View.writes_nil, View.writes_nil, i8, ← i9]
      exact ⟨rfl, rfl⟩
    · rw [pb_k0_t5.eq_2]
      unfold pb_k0_t5Step
      rw [dif_neg h]
      unfold dqOut dfOut at *
      rw [iter_past _ _ h, iter_past _ _ h]
      exact ih

end

end Cert.Proof.AttnBwd

end
-- ==== Proof.Head.lean ====
/-
  ONE HEAD, with no memory in it: the three results a body leaves, from the blocks it reads, from what its two scratch
  columns held before and from what the results' buffers held before.
-/
module

public import proofs.«01_k».proof.Proof.Model

@[expose] public section

noncomputable section

namespace Cert.Proof.AttnBwd

open Cert.KernelIdeal Cert.KernelIdeal.Gen
open Idealize.ShloMosaic

variable {F : FTy → Type} [FloatOps F]

/-- The blocks a body reads: q, k, v, the attention's output, the output's gradient, the key gates, the log-sum-exps. -/
structure Inp (F : FTy → Type) where
  q : S4096x128.Idx → F .bf16
  k : S4096x128.Idx → F .bf16
  v : S4096x128.Idx → F .bf16
  o : S4096x128.Idx → F .bf16
  g : S4096x128.Idx → F .bf16
  fk : S4x16x1024.Idx → F .f32
  lse : S4096x128.Idx → F .f32

/-- The body's test for the first head. -/
def first (i : grid0.Coords) : Prop :=
  Scalar.cmpi .ne (Scalar.extui (Scalar.cmpi .eq (BitVec.ofNat 32 (i 0).val) 0#32)) 0#32 = 1#1

instance (i : grid0.Coords) : Decidable (first i) := by unfold first; infer_instance

namespace Inp

variable (I : Inp F) (i : grid0.Coords) (A12 A13 : S4096x1.Idx → F .f32)

/-- The head's blocks with the two columns filled by the first loop. -/
def blk : Blk F :=
  ⟨I.q, I.k, I.v, I.g, I.fk, lseCol i I.lse A12 k0_t1_loop.trips, deltaCol I.o I.g A13 k0_t1_loop.trips⟩
/-- The accumulator of q's gradient after the column tiles. -/
def acc : S4096x128.Idx → F .f32 := iter (fun t A => (I.blk i A12 A13).dq i t A) k0_pay4 k0_t2_loop.trips
/-- The column of the query gates' gradient after the column tiles. -/
def col : S4096x1.Idx → F .f32 := iter (fun t A => (I.blk i A12 A13).df i t A) k0_pay5 k0_t2_loop.trips
/-- The block of the three gradients. -/
def dqkv (R : S3x4096x128.Idx → F .bf16) : S3x4096x128.Idx → F .bf16 :=
  dqOut (I.acc i A12 A13) (iter (fun t R => (I.blk i A12 A13).out i t R) R k0_t2_loop.trips) k0_t5_loop.trips
/-- The query gates' gradient. -/
def dfq (R : S4096x128.Idx → F .f32) : S4096x128.Idx → F .f32 := dfOut i (I.col i A12 A13) R k0_t5_loop.trips
/-- The key gates' gradient. -/
def dfk (R : S4x16x1024.Idx → F .f32) : S4x16x1024.Idx → F .f32 :=
  iter (fun t R => (I.blk i A12 A13).fkOut i t R) R k0_t2_loop.trips

end Inp

end Cert.Proof.AttnBwd

end
-- ==== Proof.Body.lean ====
/-
  ONE BODY by values: what a run of the kernel's body on one head leaves in its three results, as the model's functions
  of the blocks it reads.
-/
module

public import proofs.«01_k».proof.Proof.Tiles
public import proofs.«01_k».proof.Proof.Ends
public import proofs.«01_k».proof.Proof.Head

@[expose] public section

set_option maxRecDepth 8192
set_option maxHeartbeats 800000

noncomputable section

namespace Cert.Proof.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4x16x1024 .f32) (harg6 : arg6.IsWhole) (arg7 : Memref sig .tc .vmem S4096x128 .f32) (harg7 : arg7.IsWhole) (arg8 : Memref sig .tc .vmem S3x4096x128 .bf16) (harg8 : arg8.IsWhole) (arg9 : Memref sig .tc .vmem S4096x128 .f32) (harg9 : arg9.IsWhole) (arg10 : Memref sig .tc .vmem S4x16x1024 .f32) (harg10 : arg10.IsWhole) (arg11 : Memref sig .tc .vmem S4096x128 .f32) (harg11 : arg11.IsWhole) (arg12 : Memref sig .tc .vmem S4096x1 .f32) (harg12 : arg12.IsWhole) (arg13 : Memref sig .tc .vmem S4096x1 .f32) (harg13 : arg13.IsWhole) (arg14 : Memref sig .tc .vmem S4096x1 .f32) (harg14 : arg14.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)

/-- The blocks of a body, read. -/
abbrev inp : Inp F := ⟨arg1.view.read (Elt F) X1, arg2.view.read (Elt F) X2, arg3.view.read (Elt F) X3, arg4.view.read (Elt F) X4,
  arg5.view.read (Elt F) X5, arg6.view.read (Elt F) X6, arg7.view.read (Elt F) X7⟩

/-- The columns filled, the head's blocks are the model's. -/
theorem blk_eq : blk (F := F) arg1 arg2 arg3 arg5 arg6 arg12 arg13 X1 X2 X3 X5 X6
      (arg12.view.writes (Elt F) f12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X7 k0_t1_loop.trips).1)
      (arg13.view.writes (Elt F) f13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X7 k0_t1_loop.trips).2)
    = (inp arg1 arg2 arg3 arg4 arg5 arg6 arg7 X1 X2 X3 X4 X5 X6 X7).blk i (arg12.view.read (Elt F) f12) (arg13.view.read (Elt F) f13) := by
  unfold blk Inp.blk
  rw [(cols_read (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X7 f12 f13 _).1, (cols_read (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X4 X5 X7 f12 f13 _).2]

/-- A body run. -/
theorem body_run (E : Set ℕ) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
      ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
    ⊢ wp frame (wpE (defs₀ (F := F)) 𝒱 (c : Thread nD τ) bd) E (cc0_attn_bwd (F := F) i arg1 harg1 arg2 harg2 arg3 harg3 arg4 harg4 arg5 harg5 arg6 harg6 arg7 harg7 arg8 harg8 arg9 harg9 arg10 harg10 arg11 harg11 arg12 harg12 arg13 harg13 arg14 harg14)
        (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
          ∗ (∃ g, (arg8.view.loc (c : Thread nD τ) ↦[arg8.view.set]{fullShare} g) ∗ ⌜arg8.view.read (Elt F) g
              = (inp arg1 arg2 arg3 arg4 arg5 arg6 arg7 X1 X2 X3 X4 X5 X6 X7).dqkv i (arg12.view.read (Elt F) f12) (arg13.view.read (Elt F) f13) (arg8.view.read (Elt F) f8)⌝)
          ∗ (∃ g, (arg9.view.loc (c : Thread nD τ) ↦[arg9.view.set]{fullShare} g) ∗ ⌜arg9.view.read (Elt F) g
              = (inp arg1 arg2 arg3 arg4 arg5 arg6 arg7 X1 X2 X3 X4 X5 X6 X7).dfq i (arg12.view.read (Elt F) f12) (arg13.view.read (Elt F) f13)
                  (if first i then k0_pay1 else arg9.view.read (Elt F) f9)⌝)
          ∗ (∃ g, (arg10.view.loc (c : Thread nD τ) ↦[arg10.view.set]{fullShare} g) ∗ ⌜arg10.view.read (Elt F) g
              = (inp arg1 arg2 arg3 arg4 arg5 arg6 arg7 X1 X2 X3 X4 X5 X6 X7).dfk i (arg12.view.read (Elt F) f12) (arg13.view.read (Elt F) f13)
                  (if first i then k0_pay2 else arg10.view.read (Elt F) f10)⌝)
          ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)))) := by
  by_cases h0 : first i
  · rw [if_pos h0, if_pos h0]
    unfold first at h0
    rw [cc0_attn_bwd_eq_skeleton]; unfold cc0_attn_bwd_skel
    iintro ⟨H1, H2, H3, H4, H5, H6, H7, H8, H9, H10, H11, H12, H13, H14⟩
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitl [H8]; · iexact H8
      ipureintro
      refine (ends_read (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 _ _ _ _ _).1.trans ?_
      rw [tiles_read8, tiles_read11]
      refine congrArg₂ (fun D R => dqOut D R k0_t5_loop.trips) ?_ ?_
      · refine (congrArg (fun B : Blk F => iter (fun t A => B.dq i t A) _ k0_t2_loop.trips) (blk_eq ..)).trans ?_
        exact congrArg (fun A => iter _ A k0_t2_loop.trips) (View.read_writes_full _ _ _ _ _)
      · exact congrArg (fun B : Blk F => iter (fun t A => B.out i t A) _ k0_t2_loop.trips) (blk_eq ..)
    isplitl [H9]
    · iexists _; isplitl [H9]; · iexact H9
      ipureintro
      rw [View.writes_append]
      refine (ends_read (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 _ _ _ _ _).2.trans ?_
      rw [tiles_read14]
      refine congrArg₂ (fun D R => dfOut i D R k0_t5_loop.trips) ?_ ?_
      · refine (congrArg (fun B : Blk F => iter (fun t A => B.df i t A) _ k0_t2_loop.trips) (blk_eq ..)).trans ?_
        exact congrArg (fun A => iter _ A k0_t2_loop.trips) (View.read_writes_full _ _ _ _ _)
      · exact View.read_writes_full _ _ _ _ _
    isplitl [H10]
    · iexists _; isplitl [H10]; · iexact H10
      ipureintro
      rw [tiles_read10]
      refine (congrArg (fun B : Blk F => iter (fun t A => B.fkOut i t A) _ k0_t2_loop.trips) (blk_eq ..)).trans ?_
      exact congrArg (fun A => iter _ A k0_t2_loop.trips) (View.read_writes_full _ _ _ _ _)
    isplitl [H11]; · iexists _; iexact H11
    isplitl [H12]; · iexists _; iexact H12
    isplitl [H13]; · iexists _; iexact H13
    iexists _; iexact H14
  · rw [if_neg h0, if_neg h0]
    unfold first at h0
    rw [cc0_attn_bwd_eq_skeleton]; unfold cc0_attn_bwd_skel
    iintro ⟨H1, H2, H3, H4, H5, H6, H7, H8, H9, H10, H11, H12, H13, H14⟩
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitl [H8]; · iexact H8
      ipureintro
      refine (ends_read (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 _ _ _ _ _).1.trans ?_
      rw [tiles_read8, tiles_read11]
      refine congrArg₂ (fun D R => dqOut D R k0_t5_loop.trips) ?_ ?_
      · refine (congrArg (fun B : Blk F => iter (fun t A => B.dq i t A) _ k0_t2_loop.trips) (blk_eq ..)).trans ?_
        exact congrArg (fun A => iter _ A k0_t2_loop.trips) (View.read_writes_full _ _ _ _ _)
      · exact congrArg (fun B : Blk F => iter (fun t A => B.out i t A) _ k0_t2_loop.trips) (blk_eq ..)
    isplitl [H9]
    · iexists _; isplitl [H9]; · iexact H9
      ipureintro
      skip
      refine (ends_read (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 _ _ _ _ _).2.trans ?_
      rw [tiles_read14]
      refine congrArg₂ (fun D R => dfOut i D R k0_t5_loop.trips) ?_ ?_
      · refine (congrArg (fun B : Blk F => iter (fun t A => B.df i t A) _ k0_t2_loop.trips) (blk_eq ..)).trans ?_
        exact congrArg (fun A => iter _ A k0_t2_loop.trips) (View.read_writes_full _ _ _ _ _)
      · exact rfl
    isplitl [H10]
    · iexists _; isplitl [H10]; · iexact H10
      ipureintro
      rw [tiles_read10]
      refine (congrArg (fun B : Blk F => iter (fun t A => B.fkOut i t A) _ k0_t2_loop.trips) (blk_eq ..)).trans ?_
      exact congrArg (fun A => iter _ A k0_t2_loop.trips) (rfl)
    isplitl [H11]; · iexists _; iexact H11
    isplitl [H12]; · iexists _; iexact H12
    isplitl [H13]; · iexists _; iexact H13
    iexists _; iexact H14

end

end Cert.Proof.AttnBwd

end
-- ==== Proof.Cover.lean ====
/-
  A COUNTED LOOP OF PUTS, seen window by window: where the trips' windows lie apart, each window of the result is its
  trip's payload. The head's columns and its block of the three gradients are covered by such windows, so they do not
  depend on what the buffers held before.
-/
module

public import proofs.«01_k».proof.Proof.Head

@[expose] public section

noncomputable section

namespace Cert.Proof.AttnBwd

open Cert.KernelIdeal Cert.KernelIdeal.Gen
open Idealize.ShloMosaic

variable {F : FTy → Type} [FloatOps F]

section Obs
variable {α β : Type} {T : ℕ} (s : Fin T → α → α) (obs : α → β) (a : α)

/-- What no trip changes is as before the loop. -/
theorem iter_obs_keep (n : ℕ) (h : ∀ r : Fin T, r.val < n → ∀ R, obs (s r R) = obs R) : obs (iter s a n) = obs a := by
  induction n with
  | zero => rfl
  | succ n ih =>
    have ih' := ih fun r hr => h r (Nat.lt_succ_of_lt hr)
    by_cases hn : n < T
    · exact (congrArg obs (iter_succ s a ⟨n, hn⟩)).trans ((h ⟨n, hn⟩ (Nat.lt_succ_self n) _).trans ih')
    · rw [iter_past _ _ hn]; exact ih'

/-- What one trip alone changes is what that trip makes it. -/
theorem iter_obs (r₀ : Fin T) (v : α → β) (h : ∀ R, obs (s r₀ R) = v R) (h' : ∀ r, r ≠ r₀ → ∀ R, obs (s r R) = obs R)
    (n : ℕ) (hn : r₀.val < n) : obs (iter s a n) = v (iter s a r₀.val) := by
  induction n with
  | zero => exact absurd hn (Nat.not_lt_zero _)
  | succ n ih =>
    by_cases hT : n < T
    · refine (congrArg obs (iter_succ s a ⟨n, hT⟩)).trans ?_
      by_cases e : r₀.val = n
      · obtain rfl : r₀ = ⟨n, hT⟩ := Fin.ext e
        exact h _
      · refine (h' _ (fun e' => e (by rw [← e'])) _).trans (ih (by omega))
    · rw [iter_past _ _ hT]
      exact ih (by have := r₀.isLt; omega)

end Obs

theorem t1_trips : k0_t1_loop.trips = 4 := by decide
theorem t2_trips : k0_t2_loop.trips = 4 := by decide
theorem t5_trips : k0_t5_loop.trips = 4 := by decide

/-- Two windows of 1024 rows at different multiples of 1024 lie apart. -/
theorem apart {a b : ℕ} (h : a ≠ b) : 1024 * a + 1024 ≤ 1024 * b ∨ 1024 * b + 1024 ≤ 1024 * a := by omega

theorem off2_apart {r r' : Fin k0_t1_loop.trips} (h : r ≠ r') :
    k0_off2 r 0 + S1024x1.size 0 ≤ k0_off2 r' 0 ∨ k0_off2 r' 0 + S1024x1.size 0 ≤ k0_off2 r 0 := by
  rw [k0_off2_eq, k0_off2_eq]; exact apart fun e => h (Fin.ext e)
theorem off13_apart {r r' : Fin k0_t2_loop.trips} (h : r ≠ r') :
    k0_off13 r 1 + S1x1024x128.size 1 ≤ k0_off13 r' 1 ∨ k0_off13 r' 1 + S1x1024x128.size 1 ≤ k0_off13 r 1 := by
  rw [k0_off13_eq, k0_off13_eq]; exact apart fun e => h (Fin.ext e)
theorem off14_apart {r r' : Fin k0_t2_loop.trips} (h : r ≠ r') :
    k0_off14 r 1 + S1x1024x128.size 1 ≤ k0_off14 r' 1 ∨ k0_off14 r' 1 + S1x1024x128.size 1 ≤ k0_off14 r 1 := by
  rw [k0_off14_eq, k0_off14_eq]; exact apart fun e => h (Fin.ext e)
theorem off16_apart {r r' : Fin k0_t5_loop.trips} (h : r ≠ r') :
    k0_off16 r 1 + S1x1024x128.size 1 ≤ k0_off16 r' 1 ∨ k0_off16 r' 1 + S1x1024x128.size 1 ≤ k0_off16 r 1 := by
  rw [k0_off16_eq, k0_off16_eq]; exact apart fun e => h (Fin.ext e)
theorem off15_apart {r r' : Fin k0_t5_loop.trips} (h : r ≠ r') :
    k0_off15 r 0 + S1024x128.size 0 ≤ k0_off15 r' 0 ∨ k0_off15 r' 0 + S1024x128.size 0 ≤ k0_off15 r 0 := by
  rw [k0_off15_eq, k0_off15_eq]; exact apart fun e => h (Fin.ext e)
theorem off13_14_apart (r r' : Fin k0_t2_loop.trips) :
    k0_off13 r 0 + S1x1024x128.size 0 ≤ k0_off14 r' 0 := by
  rw [k0_off13_eq, k0_off14_eq]; exact (by decide : 1 + 1 ≤ 2)
theorem off16_13_apart (r : Fin k0_t5_loop.trips) (r' : Fin k0_t2_loop.trips) :
    k0_off16 r 0 + S1x1024x128.size 0 ≤ k0_off13 r' 0 := by
  rw [k0_off16_eq, k0_off13_eq]; exact (by decide : 0 + 1 ≤ 1)
theorem off16_14_apart (r : Fin k0_t5_loop.trips) (r' : Fin k0_t2_loop.trips) :
    k0_off16 r 0 + S1x1024x128.size 0 ≤ k0_off14 r' 0 := by
  rw [k0_off16_eq, k0_off14_eq]; exact (by decide : 0 + 1 ≤ 2)

/-- A tile of the column of log-sum-exps. -/
theorem lseCol_win (i : grid0.Coords) (X : S4096x128.Idx → F .f32) (A : S4096x1.Idx → F .f32) (r : Fin k0_t1_loop.trips) :
    VecWindow.window (lseCol i X A k0_t1_loop.trips) (k0_off2 r) S1024x1.size (k0_off2_inb r)
      = k0_pay6 i (VecWindow.window X (k0_off1 r) S1024x128.size (k0_off1_inb r)) :=
  iter_obs _ (fun R : S4096x1.Idx → F .f32 => VecWindow.window R (k0_off2 r) S1024x1.size (k0_off2_inb r)) A r (fun _ => _)
    (fun R => VecWindow.window_put_same _ _ _ _ _)
    (fun r' h R => VecWindow.window_put_of_disjoint _ _ _ _ _ _ _ 0 (off2_apart h.symm)) _ r.isLt

/-- A tile of the column of row sums. -/
theorem deltaCol_win (O G : S4096x128.Idx → F .bf16) (A : S4096x1.Idx → F .f32) (r : Fin k0_t1_loop.trips) :
    VecWindow.window (deltaCol O G A k0_t1_loop.trips) (k0_off2 r) S1024x1.size (k0_off2_inb r)
      = k0_pay7 (VecWindow.window G (k0_off1 r) S1024x128.size (k0_off1_inb r))
          (VecWindow.window O (k0_off1 r) S1024x128.size (k0_off1_inb r)) :=
  iter_obs _ (fun R : S4096x1.Idx → F .f32 => VecWindow.window R (k0_off2 r) S1024x1.size (k0_off2_inb r)) A r (fun _ => _)
    (fun R => VecWindow.window_put_same _ _ _ _ _)
    (fun r' h R => VecWindow.window_put_of_disjoint _ _ _ _ _ _ _ 0 (off2_apart h.symm)) _ r.isLt

/-- A tile of the query gates' gradient. -/
theorem dfOut_win (i : grid0.Coords) (D : S4096x1.Idx → F .f32) (R : S4096x128.Idx → F .f32) (r : Fin k0_t5_loop.trips) :
    VecWindow.window (dfOut i D R k0_t5_loop.trips) (k0_off15 r) S1024x128.size (k0_off15_inb r)
      = k0_pay16 i (VecWindow.window D (k0_off17 r) S1024x1.size (k0_off17_inb r))
          (VecWindow.window R (k0_off15 r) S1024x128.size (k0_off15_inb r)) :=
  (iter_obs _ (fun R : S4096x128.Idx → F .f32 => VecWindow.window R (k0_off15 r) S1024x128.size (k0_off15_inb r)) R r
    (fun R => k0_pay16 i (VecWindow.window D (k0_off17 r) S1024x1.size (k0_off17_inb r))
          (VecWindow.window R (k0_off15 r) S1024x128.size (k0_off15_inb r)))
    (fun R => VecWindow.window_put_same _ _ _ _ _)
    (fun r' h R => VecWindow.window_put_of_disjoint _ _ _ _ _ _ _ 0 (off15_apart h.symm)) _ r.isLt).trans
    (congrArg _ (iter_obs_keep _ (fun R : S4096x128.Idx → F .f32 => VecWindow.window R (k0_off15 r) S1024x128.size (k0_off15_inb r)) R r.val
      (fun r' h R => VecWindow.window_put_of_disjoint _ _ _ _ _ _ _ 0 (off15_apart (fun e => absurd (congrArg Fin.val e) (Nat.ne_of_gt h))))))

section
variable (I : Inp F) (i : grid0.Coords) (A12 A13 : S4096x1.Idx → F .f32) (R : S3x4096x128.Idx → F .bf16)

/-- A tile of q's gradient. -/
theorem dq_win (r : Fin k0_t5_loop.trips) :
    VecWindow.window (I.dqkv i A12 A13 R) (k0_off16 r) S1x1024x128.size (k0_off16_inb r)
      = k0_pay15 (VecWindow.window (I.acc i A12 A13) (k0_off15 r) S1024x128.size (k0_off15_inb r)) :=
  iter_obs _ (fun R : S3x4096x128.Idx → F .bf16 => VecWindow.window R (k0_off16 r) S1x1024x128.size (k0_off16_inb r)) _ r (fun _ => _)
    (fun R => VecWindow.window_put_same _ _ _ _ _)
    (fun r' h R => VecWindow.window_put_of_disjoint _ _ _ _ _ _ _ 1 (off16_apart h.symm)) _ r.isLt

/-- A tile of k's gradient. -/
theorem dk_win (t : Fin k0_t2_loop.trips) :
    VecWindow.window (I.dqkv i A12 A13 R) (k0_off13 t) S1x1024x128.size (k0_off13_inb t)
      = k0_pay12 ((I.blk i A12 A13).carry i t).1 :=
  (iter_obs_keep _ (fun R : S3x4096x128.Idx → F .bf16 => VecWindow.window R (k0_off13 t) S1x1024x128.size (k0_off13_inb t)) _ _
    (fun r _ R => VecWindow.window_put_of_disjoint _ _ _ _ _ _ _ 0 (.inr (off16_13_apart r t)))).trans
  (iter_obs _ (fun R : S3x4096x128.Idx → F .bf16 => VecWindow.window R (k0_off13 t) S1x1024x128.size (k0_off13_inb t)) _ t (fun _ => _)
    (fun R => (VecWindow.window_put_of_disjoint _ _ _ _ _ _ _ 0 (.inl (off13_14_apart t t))).trans (VecWindow.window_put_same _ _ _ _ _))
    (fun r' h R => (VecWindow.window_put_of_disjoint _ _ _ _ _ _ _ 0 (.inl (off13_14_apart t r'))).trans
      (VecWindow.window_put_of_disjoint _ _ _ _ _ _ _ 1 (off13_apart h.symm))) _ t.isLt)

/-- A tile of v's gradient. -/
theorem dv_win (t : Fin k0_t2_loop.trips) :
    VecWindow.window (I.dqkv i A12 A13 R) (k0_off14 t) S1x1024x128.size (k0_off14_inb t)
      = k0_pay13 ((I.blk i A12 A13).carry i t).2.1 :=
  (iter_obs_keep _ (fun R : S3x4096x128.Idx → F .bf16 => VecWindow.window R (k0_off14 t) S1x1024x128.size (k0_off14_inb t)) _ _
    (fun r _ R => VecWindow.window_put_of_disjoint _ _ _ _ _ _ _ 0 (.inr (off16_14_apart r t)))).trans
  (iter_obs _ (fun R : S3x4096x128.Idx → F .bf16 => VecWindow.window R (k0_off14 t) S1x1024x128.size (k0_off14_inb t)) _ t (fun _ => _)
    (fun R => VecWindow.window_put_same _ _ _ _ _)
    (fun r' h R => (VecWindow.window_put_of_disjoint _ _ _ _ _ _ _ 1 (off14_apart h.symm)).trans
      (VecWindow.window_put_of_disjoint _ _ _ _ _ _ _ 0 (.inr (off13_14_apart r' t)))) _ t.isLt)

end

/-- Two columns with the same four tiles are the same. -/
theorem col_ext {α : Type} (A A' : S4096x1.Idx → α)
    (h : ∀ r : Fin k0_t1_loop.trips, VecWindow.window A (k0_off2 r) S1024x1.size (k0_off2_inb r)
      = VecWindow.window A' (k0_off2 r) S1024x1.size (k0_off2_inb r)) : A = A' := by
  funext y
  have hy : (y 0).val < 4096 := (y 0).isLt
  have hr : (y 0).val / 1024 < k0_t1_loop.trips := by rw [t1_trips]; omega
  let r : Fin k0_t1_loop.trips := ⟨(y 0).val / 1024, hr⟩
  let z : S1024x1.Idx := fun | 0 => ⟨(y 0).val % 1024, Nat.mod_lt _ (by decide)⟩ | 1 => ⟨(y 1).val, (y 1).isLt⟩
  have e : (Rect.unit (s := S4096x1) (k0_off2 r) S1024x1.size (k0_off2_inb r)).emb z = y := by
    funext a
    apply Fin.ext
    show k0_off2 r a + 1 * (z a).val = (y a).val
    rw [k0_off2_eq]
    match a with
    | 0 => show 1024 * ((y 0).val / 1024) + 1 * ((y 0).val % 1024) = (y 0).val; omega
    | 1 => show 0 + 1 * (y 1).val = (y 1).val; omega
  have := congrFun (h r) z
  rw [← e]
  exact this

/-- Two blocks of three gradients with the same tiles are the same. -/
theorem dqkv_ext {α : Type} (A A' : S3x4096x128.Idx → α)
    (h0 : ∀ r : Fin k0_t5_loop.trips, VecWindow.window A (k0_off16 r) S1x1024x128.size (k0_off16_inb r)
      = VecWindow.window A' (k0_off16 r) S1x1024x128.size (k0_off16_inb r))
    (h1 : ∀ r : Fin k0_t2_loop.trips, VecWindow.window A (k0_off13 r) S1x1024x128.size (k0_off13_inb r)
      = VecWindow.window A' (k0_off13 r) S1x1024x128.size (k0_off13_inb r))
    (h2 : ∀ r : Fin k0_t2_loop.trips, VecWindow.window A (k0_off14 r) S1x1024x128.size (k0_off14_inb r)
      = VecWindow.window A' (k0_off14 r) S1x1024x128.size (k0_off14_inb r)) : A = A' := by
  funext y
  have hy : (y 1).val < 4096 := (y 1).isLt
  have hp : (y 0).val < 3 := (y 0).isLt
  have hr5 : (y 1).val / 1024 < k0_t5_loop.trips := by rw [t5_trips]; omega
  have hr2 : (y 1).val / 1024 < k0_t2_loop.trips := by rw [t2_trips]; omega
  let z : S1x1024x128.Idx := fun | 0 => ⟨0, Nat.one_pos⟩ | 1 => ⟨(y 1).val % 1024, Nat.mod_lt _ (by decide)⟩ | 2 => ⟨(y 2).val, (y 2).isLt⟩
  have key : ∀ (off : Fin 3 → ℕ) (inb) (p : ℕ), off = ![p, 1024 * ((y 1).val / 1024), 0] → (y 0).val = p →
      (Rect.unit (s := S3x4096x128) off S1x1024x128.size inb).emb z = y := by
    intro off inb p ho hp
    funext a
    apply Fin.ext
    show off a + 1 * (z a).val = (y a).val
    rw [ho]
    match a with
    | 0 => show p + 1 * 0 = (y 0).val; omega
    | 1 => show 1024 * ((y 1).val / 1024) + 1 * ((y 1).val % 1024) = (y 1).val; omega
    | 2 => show 0 + 1 * (y 2).val = (y 2).val; omega
  obtain hp | hp | hp : (y 0).val = 0 ∨ (y 0).val = 1 ∨ (y 0).val = 2 := by omega
  · have := congrFun (h0 ⟨_, hr5⟩) z
    rw [← key _ (k0_off16_inb ⟨_, hr5⟩) 0 (k0_off16_eq _) hp]; exact this
  · have := congrFun (h1 ⟨_, hr2⟩) z
    rw [← key _ (k0_off13_inb ⟨_, hr2⟩) 1 (k0_off13_eq _) hp]; exact this
  · have := congrFun (h2 ⟨_, hr2⟩) z
    rw [← key _ (k0_off14_inb ⟨_, hr2⟩) 2 (k0_off14_eq _) hp]; exact this

section
variable (I : Inp F) (i : grid0.Coords) (A12 A13 A12' A13' : S4096x1.Idx → F .f32) (R R' : S3x4096x128.Idx → F .bf16)

/-- The head's blocks do not depend on what the columns held. -/
theorem blk_indep : I.blk i A12 A13 = I.blk i A12' A13' := by
  unfold Inp.blk
  rw [col_ext (lseCol i I.lse A12 k0_t1_loop.trips) (lseCol i I.lse A12' k0_t1_loop.trips) fun r => by rw [lseCol_win, lseCol_win],
    col_ext (deltaCol I.o I.g A13 k0_t1_loop.trips) (deltaCol I.o I.g A13' k0_t1_loop.trips) fun r => by rw [deltaCol_win, deltaCol_win]]

theorem acc_indep : I.acc i A12 A13 = I.acc i A12' A13' := by unfold Inp.acc; rw [blk_indep I i A12 A13 A12' A13']
theorem col_indep : I.col i A12 A13 = I.col i A12' A13' := by unfold Inp.col; rw [blk_indep I i A12 A13 A12' A13']

/-- Nor do the three gradients, nor on what their buffer held. -/
theorem dqkv_indep : I.dqkv i A12 A13 R = I.dqkv i A12' A13' R' :=
  dqkv_ext _ _ (fun r => by rw [dq_win, dq_win, acc_indep I i A12 A13 A12' A13'])
    (fun r => by rw [dk_win, dk_win, blk_indep I i A12 A13 A12' A13'])
    (fun r => by rw [dv_win, dv_win, blk_indep I i A12 A13 A12' A13'])

theorem dfq_indep (Q : S4096x128.Idx → F .f32) : I.dfq i A12 A13 Q = I.dfq i A12' A13' Q := by
  unfold Inp.dfq; rw [col_indep I i A12 A13 A12' A13']
theorem dfk_indep (Q : S4x16x1024.Idx → F .f32) : I.dfk i A12 A13 Q = I.dfk i A12' A13' Q := by
  unfold Inp.dfk; rw [blk_indep I i A12 A13 A12' A13']

end

end Cert.Proof.AttnBwd

end
-- ==== Proof.Run.lean ====
/-
  THE RUN of the whole program: the pipeline's proof data — each input's buffer at its block, the three results' at the
  model's values —, the body's obligation from the body's run, and the launch.
-/
module

public import proofs.«01_k».proof.Proof.Body
public import proofs.«01_k».proof.Proof.Cover
public import proofs.«01_k».proof.Proof.Gen.KernelIdeal.Points
public import proofs.«01_k».proof.Proof.Gen.KernelIdeal.Launch

@[expose] public section

set_option maxRecDepth 8192
set_option maxHeartbeats 800000

noncomputable section

namespace Cert.Proof.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks of the head of point `t`. -/
def inpAt (c : Dev nD) (t : Fin cfg0.N) : Inp F :=
  ⟨iblk m c 0 t, iblk m c 1 t, iblk m c 2 t, iblk m c 3 t, iblk m c 4 t, iblk m c 5 t, iblk m c 6 t⟩

/-- Columns and a block to start from, where nothing depends on it. -/
abbrev zcol : S4096x1.Idx → F .f32 := k0_pay5
abbrev zblk : S3x4096x128.Idx → F .bf16 := fun _ => Scalar.ofBits .bf16 0x0000#16

section
variable (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4x16x1024 .f32) (harg6 : arg6.IsWhole) (arg7 : Memref sig .tc .vmem S4096x128 .f32) (harg7 : arg7.IsWhole) (arg8 : Memref sig .tc .vmem S3x4096x128 .bf16) (harg8 : arg8.IsWhole) (arg9 : Memref sig .tc .vmem S4096x128 .f32) (harg9 : arg9.IsWhole) (arg10 : Memref sig .tc .vmem S4x16x1024 .f32) (harg10 : arg10.IsWhole) (arg11 : Memref sig .tc .vmem S4096x128 .f32) (harg11 : arg11.IsWhole) (arg12 : Memref sig .tc .vmem S4096x1 .f32) (harg12 : arg12.IsWhole) (arg13 : Memref sig .tc .vmem S4096x1 .f32) (harg13 : arg13.IsWhole) (arg14 : Memref sig .tc .vmem S4096x1 .f32) (harg14 : arg14.IsWhole) (J : Inp F) (R8 : S3x4096x128.Idx → F .bf16) (R9 : S4096x128.Idx → F .f32) (R10 : S4x16x1024.Idx → F .f32)

/-- A body run, from what its memrefs read to what they read after it. -/
theorem body_owns (E : Set ℕ) (Q : sProp 𝕄) :
    (iprop(owns (c : Thread nD τ) arg1 fullShare J.q ∗ owns (c : Thread nD τ) arg2 fullShare J.k ∗ owns (c : Thread nD τ) arg3 fullShare J.v
      ∗ owns (c : Thread nD τ) arg4 fullShare J.o ∗ owns (c : Thread nD τ) arg5 fullShare J.g ∗ owns (c : Thread nD τ) arg6 fullShare J.fk
      ∗ owns (c : Thread nD τ) arg7 fullShare J.lse ∗ owns (c : Thread nD τ) arg8 fullShare R8 ∗ owns (c : Thread nD τ) arg9 fullShare R9
      ∗ owns (c : Thread nD τ) arg10 fullShare R10
      ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g))
      ∗ ((owns (c : Thread nD τ) arg1 fullShare J.q ∗ owns (c : Thread nD τ) arg2 fullShare J.k ∗ owns (c : Thread nD τ) arg3 fullShare J.v
      ∗ owns (c : Thread nD τ) arg4 fullShare J.o ∗ owns (c : Thread nD τ) arg5 fullShare J.g ∗ owns (c : Thread nD τ) arg6 fullShare J.fk
      ∗ owns (c : Thread nD τ) arg7 fullShare J.lse ∗ owns (c : Thread nD τ) arg8 fullShare (J.dqkv i zcol zcol zblk)
      ∗ owns (c : Thread nD τ) arg9 fullShare (J.dfq i zcol zcol (if first i then k0_pay1 else R9))
      ∗ owns (c : Thread nD τ) arg10 fullShare (J.dfk i zcol zcol (if first i then k0_pay2 else R10))
      ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g))) -∗ Q)) : sProp 𝕄)
    ⊢ wp frame (wpE (defs₀ (F := F)) 𝒱 (c : Thread nD τ) bd) E (cc0_attn_bwd (F := F) i arg1 harg1 arg2 harg2 arg3 harg3 arg4 harg4 arg5 harg5 arg6 harg6 arg7 harg7 arg8 harg8 arg9 harg9 arg10 harg10 arg11 harg11 arg12 harg12 arg13 harg13 arg14 harg14) (fun _ => Q) := by
  unfold owns
  iintro ⟨⟨%g1, %h1, H1⟩, ⟨%g2, %h2, H2⟩, ⟨%g3, %h3, H3⟩, ⟨%g4, %h4, H4⟩, ⟨%g5, %h5, H5⟩, ⟨%g6, %h6, H6⟩, ⟨%g7, %h7, H7⟩, ⟨%g8, %h8, H8⟩,
    ⟨%g9, %h9, H9⟩, ⟨%g10, %h10, H10⟩, ⟨%g11, H11⟩, ⟨%g12, H12⟩, ⟨%g13, H13⟩, ⟨%g14, H14⟩, HQ⟩
  have hJ : inp arg1 arg2 arg3 arg4 arg5 arg6 arg7 g1 g2 g3 g4 g5 g6 g7 = J := by
    unfold inp; rw [h1, h2, h3, h4, h5, h6, h7]
  iapply (wp_wand_r frame (wpE (defs₀ (F := F)) 𝒱 (c : Thread nD τ) bd) E)
  isplitr [HQ]
  · iapply (body_run 𝒱 c bd i arg1 harg1 arg2 harg2 arg3 harg3 arg4 harg4 arg5 harg5 arg6 harg6 arg7 harg7 arg8 harg8 arg9 harg9 arg10 harg10 arg11 harg11 arg12 harg12 arg13 harg13 arg14 harg14 g1 g2 g3 g4 g5 g6 g7 g8 g9 g10 g11 g12 g13 g14 E)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  rw [hJ, h8, h9, h10]
  iintro %u ⟨H1, H2, H3, H4, H5, H6, H7, ⟨%k8, H8, %e8⟩, ⟨%k9, H9, %e9⟩, ⟨%k10, H10, %e10⟩, H11, H12, H13, H14⟩
  iapply HQ
  isplitl [H1]; · iexists g1; isplitr [H1]; · ipureintro; exact h1
                  iexact H1
  isplitl [H2]; · iexists g2; isplitr [H2]; · ipureintro; exact h2
                  iexact H2
  isplitl [H3]; · iexists g3; isplitr [H3]; · ipureintro; exact h3
                  iexact H3
  isplitl [H4]; · iexists g4; isplitr [H4]; · ipureintro; exact h4
                  iexact H4
  isplitl [H5]; · iexists g5; isplitr [H5]; · ipureintro; exact h5
                  iexact H5
  isplitl [H6]; · iexists g6; isplitr [H6]; · ipureintro; exact h6
                  iexact H6
  isplitl [H7]; · iexists g7; isplitr [H7]; · ipureintro; exact h7
                  iexact H7
  isplitl [H8]; · iexists k8; isplitr [H8]; · ipureintro; exact e8.trans (Cert.Proof.AttnBwd.dqkv_indep J i _ _ zcol zcol _ zblk)
                  iexact H8
  isplitl [H9]; · iexists k9; isplitr [H9]; · ipureintro; exact e9.trans (Cert.Proof.AttnBwd.dfq_indep J i _ _ zcol zcol _)
                  iexact H9
  isplitl [H10]; · iexists k10; isplitr [H10]; · ipureintro; exact e10.trans (Cert.Proof.AttnBwd.dfk_indep J i _ _ zcol zcol _)
                   iexact H10
  isplitl [H11]; · iexact H11
  isplitl [H12]; · iexact H12
  isplitl [H13]; · iexact H13
  iexact H14
end

/-- A scratch buffer, as the body's memref names it. -/
theorem scr_eq (c : Dev nD) (b : Ref sig .tc) (g : Buf (Elt F) ((c : Thread nD τ).loc b)) :
    (((c : Thread nD τ).loc b ↦{fullShare} g : sProp 𝕄))
      = ((Memref.whole b).view.loc (c : Thread nD τ) ↦[(Memref.whole b).view.set]{fullShare} g) := by
  have h : (Memref.whole b).view.set = Finset.univ := View.set_whole b
  rw [h]

theorem scr_to (c : Dev nD) (b : Ref sig .tc) (g : Buf (Elt F) ((c : Thread nD τ).loc b)) :
    (((c : Thread nD τ).loc b ↦{fullShare} g : sProp 𝕄))
      ⊢ ((Memref.whole b).view.loc (c : Thread nD τ) ↦[(Memref.whole b).view.set]{fullShare} g) := le_of_eq (scr_eq c b g)
theorem scr_from (c : Dev nD) (b : Ref sig .tc) (g : Buf (Elt F) ((c : Thread nD τ).loc b)) :
    ((Memref.whole b).view.loc (c : Thread nD τ) ↦[(Memref.whole b).view.set]{fullShare} g)
      ⊢ (((c : Thread nD τ).loc b ↦{fullShare} g : sProp 𝕄)) := le_of_eq (scr_eq c b g).symm

/-- The three results' buffers after point `t`. -/
def dqkvAt (c : Dev nD) (t : Fin cfg0.N) : S3x4096x128.Idx → F .bf16 :=
  (inpAt m c t).dqkv (grid0.coords t) zcol zcol zblk
def dfqStep (c : Dev nD) (t : Fin cfg0.N) (R : S4096x128.Idx → F .f32) : S4096x128.Idx → F .f32 :=
  (inpAt m c t).dfq (grid0.coords t) zcol zcol R
def dfkStep (c : Dev nD) (t : Fin cfg0.N) (R : S4x16x1024.Idx → F .f32) : S4x16x1024.Idx → F .f32 :=
  (inpAt m c t).dfk (grid0.coords t) zcol zcol R
def dfqAt (c : Dev nD) : ℕ → S4096x128.Idx → F .f32 := iter (dfqStep m c) k0_pay1
def dfkAt (c : Dev nD) : ℕ → S4x16x1024.Idx → F .f32 := iter (dfkStep m c) k0_pay2

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqkvAt m c t
    | ⟨8, _⟩ => dfqAt m c (t.val + 1)
    | ⟨9, _⟩ => dfkAt m c (t.val + 1)
  Φ _ := Pipeline.ΦA spec0 c
  q w := Pipeline.shareOf spec0 w
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = dqkvAt m c t := by dsimp only [dats]
theorem after_8 (c : Dev nD) (t : Fin cfg0.N) : (dats m 0 c).after 8 t = dfqAt m c (t.val + 1) := by dsimp only [dats]
theorem after_9 (c : Dev nD) (t : Fin cfg0.N) : (dats m 0 c).after 9 t = dfkAt m c (t.val + 1) := by dsimp only [dats]

/-- Each input's staging buffer holds its block when the body runs. -/
theorem before_0 (c : Dev nD) (t : Fin cfg0.N) (d) : (dats m 0 c).before 0 t d = iblk m c 0 t := before0_0_of m (dats m 0 c) rfl (after_0 m c) t d
theorem before_1 (c : Dev nD) (t : Fin cfg0.N) (d) : (dats m 0 c).before 1 t d = iblk m c 1 t := before0_1_of m (dats m 0 c) rfl (after_1 m c) t d
theorem before_2 (c : Dev nD) (t : Fin cfg0.N) (d) : (dats m 0 c).before 2 t d = iblk m c 2 t := before0_2_of m (dats m 0 c) rfl (after_2 m c) t d
theorem before_3 (c : Dev nD) (t : Fin cfg0.N) (d) : (dats m 0 c).before 3 t d = iblk m c 3 t := before0_3_of m (dats m 0 c) rfl (after_3 m c) t d
theorem before_4 (c : Dev nD) (t : Fin cfg0.N) (d) : (dats m 0 c).before 4 t d = iblk m c 4 t := before0_4_of m (dats m 0 c) rfl (after_4 m c) t d
theorem before_5 (c : Dev nD) (t : Fin cfg0.N) (d) : (dats m 0 c).before 5 t d = iblk m c 5 t := before0_5_of m (dats m 0 c) rfl (after_5 m c) t d
theorem before_6 (c : Dev nD) (t : Fin cfg0.N) (d) : (dats m 0 c).before 6 t d = iblk m c 6 t := before0_6_of m (dats m 0 c) rfl (after_6 m c) t d

/-- The body's test holds at the first point only. -/
theorem first_iff : ∀ t : Fin grid0.N, first (grid0.coords t) ↔ t.val = 0 := by decide

theorem noflush {t : Fin cfg0.N} (h : t.val ≠ 0) : ¬ (t.val - 1) % 16 = 15 := by
  have := t.isLt; have e : cfg0.N = 16 := N_0; omega

/-- What the body adds the query gates' gradient to: zeros at the first point, elsewhere what the point before left. -/
theorem before_8 (c : Dev nD) (t : Fin cfg0.N) (d) :
    (if first (grid0.coords t) then k0_pay1 else (dats m 0 c).before 8 t d) = dfqAt m c t.val := by
  by_cases h : t.val = 0
  · rw [if_pos ((first_iff t).2 h), h]; rfl
  · rw [if_neg (fun hf => h ((first_iff t).1 hf)),
      (dats m 0 c).before_out_kept 8 rfl t h (Bool.eq_false_iff.2 fun hf => noflush h ((flush0_8 _).1 hf)) (fun _ => rfl) (fun _ _ => rfl) d, after_8]
    show dfqAt m c (t.val - 1 + 1) = _
    rw [Nat.sub_add_cancel (Nat.pos_of_ne_zero h)]
theorem before_9 (c : Dev nD) (t : Fin cfg0.N) (d) :
    (if first (grid0.coords t) then k0_pay2 else (dats m 0 c).before 9 t d) = dfkAt m c t.val := by
  by_cases h : t.val = 0
  · rw [if_pos ((first_iff t).2 h), h]; rfl
  · rw [if_neg (fun hf => h ((first_iff t).1 hf)),
      (dats m 0 c).before_out_kept 9 rfl t h (Bool.eq_false_iff.2 fun hf => noflush h ((flush0_9 _).1 hf)) (fun _ => rfl) (fun _ _ => rfl) d, after_9]
    show dfkAt m c (t.val - 1 + 1) = _
    rw [Nat.sub_add_cancel (Nat.pos_of_ne_zero h)]

theorem dfqAt_succ (c : Dev nD) (t : Fin cfg0.N) :
    (inpAt m c t).dfq (grid0.coords t) zcol zcol (dfqAt m c t.val) = dfqAt m c (t.val + 1) := (iter_succ (dfqStep m c) k0_pay1 t).symm
theorem dfkAt_succ (c : Dev nD) (t : Fin cfg0.N) :
    (inpAt m c t).dfk (grid0.coords t) zcol zcol (dfkAt m c t.val) = dfkAt m c (t.val + 1) := (iter_succ (dfkStep m c) k0_pay2 t).symm

/-- The body's obligation at every point. -/
theorem body_obligation (c : Dev nD) : BodyObligation (dats (F := F) m 0 c) (defs₀ (F := F)) Variants.none () Set.univ := fun t => by
  rw [bigSep_W0, bigSep_W0]
  sl_whnfR [defs₀, Defs.onTc]
  simp only [before_0, before_1, before_2, before_3, before_4, before_5, before_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_0, after_1, after_2, after_3, after_4, after_5,
    after_6, after_7, after_8, after_9]
  unfold Pipeline.ΦA
  rw [scopedRest0_eq]
  iintro ⟨⟨⟨⟨%f11, S11⟩, ⟨%f12, S12⟩, ⟨%f13, S13⟩, ⟨%f14, S14⟩⟩, HP⟩, Ho, ⟨%d0, H0⟩, ⟨%d1, H1⟩, ⟨%d2, H2⟩, ⟨%d3, H3⟩, ⟨%d4, H4⟩,
    ⟨%d5, H5⟩, ⟨%d6, H6⟩, ⟨%d7, H7⟩, ⟨%d8, H8⟩, ⟨%d9, H9⟩⟩
  iapply (body_owns Variants.none c none _ _ _ _ _ _ _ _ _ _ _ _ _ _ _ _ _ _ _ _ _ _ _ _ _ _ _ _ _ (inpAt m c t)
    ((dats m 0 c).before 7 t d7) ((dats m 0 c).before 8 t d8) ((dats m 0 c).before 9 t d9) Set.univ _)
  rw [before_8, before_9, dfqAt_succ, dfkAt_succ]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S11]; · iexists f11; iapply (scr_to c cc0_scratch0 f11); iexact S11
  isplitl [S12]; · iexists f12; iapply (scr_to c cc0_scratch1 f12); iexact S12
  isplitl [S13]; · iexists f13; iapply (scr_to c cc0_scratch2 f13); iexact S13
  isplitl [S14]; · iexists f14; iapply (scr_to c cc0_scratch3 f14); iexact S14
  iintro ⟨H0, H1, H2, H3, H4, H5, H6, H7, H8, H9, S11, S12, S13, S14⟩
  isplitl [S11 S12 S13 S14 HP]
  · isplitl [S11 S12 S13 S14]
    · isplitl [S11]
      · icases S11 with ⟨%k, S⟩; iexists k; iapply (scr_from c cc0_scratch0 k); iexact S
      isplitl [S12]
      · icases S12 with ⟨%k, S⟩; iexists k; iapply (scr_from c cc0_scratch1 k); iexact S
      isplitl [S13]
      · icases S13 with ⟨%k, S⟩; iexists k; iapply (scr_from c cc0_scratch2 k); iexact S
      icases S14 with ⟨%k, S⟩; iexists k; iapply (scr_from c cc0_scratch3 k); iexact S
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

-- the launch theorem's implicit arguments are found by unifying its conclusion, which unfolds plain definitions
set_option backward.isDefEq.respectTransparency.types false in
/-- Every weakly fair execution of the program from a memory with zero counters terminates; every final state holds each
    array of the pipeline at what the proof data say, and every counter is zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := fun _ _ => rfl) (hΦ := fun _ _ => rfl)

end Cert.Proof.AttnBwd

end
-- ==== Proof.Same.lean ====
/-
  The kernel and its idealization have the same text: one body, one table, one program.
-/
module

public import proofs.«01_k».proof.Kernel
public import proofs.«01_k».proof.KernelIdeal
public import proofs.«01_k».proof.Proof.Gen.Kernel
public import proofs.«01_k».proof.Proof.Gen.KernelIdeal
public import Idealize.ShloMosaic.Adequacy

@[expose] public section

set_option maxHeartbeats 800000

namespace Cert.Proof

open Idealize.ShloMosaic Idealize.SL.Sem

variable {F : FTy → Type} [FloatOps F]

/-- One body. -/
theorem body_same (i a1 h1 a2 h2 a3 h3 a4 h4 a5 h5 a6 h6 a7 h7 a8 h8 a9 h9 a10 h10 a11 h11 a12 h12 a13 h13 a14 h14) :
    Cert.Kernel.cc0_attn_bwd (F := F) i a1 h1 a2 h2 a3 h3 a4 h4 a5 h5 a6 h6 a7 h7 a8 h8 a9 h9 a10 h10 a11 h11 a12 h12 a13 h13 a14 h14
      = Cert.KernelIdeal.cc0_attn_bwd (F := F) i a1 h1 a2 h2 a3 h3 a4 h4 a5 h5 a6 h6 a7 h7 a8 h8 a9 h9 a10 h10 a11 h11 a12 h12 a13 h13 a14 h14 := rfl

/-- One table of bodies. -/
theorem bodies_same : Cert.Kernel.defs₀ (F := F) = Cert.KernelIdeal.defs₀ (F := F) := by
  unfold Cert.Kernel.defs₀ Cert.KernelIdeal.defs₀
  congr 1
  funext x
  match x with
  | (0 : Fin 1) =>
    funext y
    obtain ⟨t, s⟩ := y
    exact body_same _ _ _ _ _ _ _ _ _ _ _ _ _ _ _ _ _ _ _ _ _ _ _ _ _ _ _ _ _

/-- One table of bodies and regions. -/
theorem table_same : Cert.Kernel.defs (F := F) = Cert.KernelIdeal.defs (F := F) := by
  unfold Cert.Kernel.defs Cert.KernelIdeal.defs
  rw [bodies_same]
  rfl

/-- One program. -/
theorem main_same : Cert.Kernel.main (F := F) = Cert.KernelIdeal.main (F := F) := rfl

/-- One run: what ends every run of the idealization ends every run of the kernel. -/
theorem run_same (s) (Q) (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [table_same, main_same]; exact h

end Cert.Proof

end
-- ==== Proof.Finite.lean ====
/-
  THE PRECONDITION, READ: arguments it holds of have real entries.
-/
module

public import proofs.«01_k».proof.Pre_finite
public import Idealize.ShloMosaic.Lib.Pointwise
public import Idealize.ShloMosaic.Lib.ReduceAll

@[expose] public section

set_option maxRecDepth 16384
set_option maxHeartbeats 800000

noncomputable section

namespace Cert.Proof.AttnFinite

open Cert.Pre_finite Idealize.ShloMosaic

/-- An extended real whose absolute value is below infinity is a real. -/
theorem real_of_lt {x : EReal} (h : max x (-x) < ⊤) : x = (x.toReal : EReal) := by
  rw [max_lt_iff] at h
  refine (EReal.coe_toReal h.1.ne fun e => ?_).symm
  rw [e, EReal.neg_bot] at h
  exact lt_irrefl _ h.2

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

theorem cat_0 (a b c : IVec S1 1) (H : Shape.Concatenates [S1, S1, S1] S3 0) :
    (concatenate S3 0 [⟨S1, a⟩, ⟨S1, b⟩, ⟨S1, c⟩] H : IVec S3 1) (ix1 0) = a (ix1 0) := by pointwise
theorem cat_1 (a b c : IVec S1 1) (H : Shape.Concatenates [S1, S1, S1] S3 0) :
    (concatenate S3 0 [⟨S1, a⟩, ⟨S1, b⟩, ⟨S1, c⟩] H : IVec S3 1) (ix1 1) = b (ix1 0) := by pointwise
theorem cat_2 (a b c : IVec S1 1) (H : Shape.Concatenates [S1, S1, S1] S3 0) :
    (concatenate S3 0 [⟨S1, a⟩, ⟨S1, b⟩, ⟨S1, c⟩] H : IVec S3 1) (ix1 2) = c (ix1 0) := by pointwise

theorem one (hb : S_.BroadcastsInDim S1 (![] : Fin 0 → Fin S1.rank)) (x : IVec S_ 1) : broadcastInDim S1 ![] hb x (ix1 0) = x ix0 := by
  pointwise

instance : Subsingleton S_.Idx := ⟨fun a b => funext fun i => i.elim0⟩

theorem entry_bf16 {s : Shape} (X : FVec Ideal s .bf16) (hb : S_.BroadcastsInDim s (![] : Fin 0 → Fin s.rank)) (i : s.Idx)
    (e : cmpf .olt (Host.absf X) (broadcastInDim s ![] hb (constant (F := Ideal) S_ .bf16 0x7F80#16)) i = 1#1) :
    X i = ((X i).toReal : EReal) := by
  refine real_of_lt ((Ideal.cmp_olt_eq_one _ _).1 (Eq.trans ?_ e))
  rw [← inf_bf16]
  rfl

theorem entry_f32 {s : Shape} (X : FVec Ideal s .f32) (hb : S_.BroadcastsInDim s (![] : Fin 0 → Fin s.rank)) (i : s.Idx)
    (e : cmpf .olt (Host.absf X) (broadcastInDim s ![] hb (constant (F := Ideal) S_ .f32 0x7F800000#32)) i = 1#1) :
    X i = ((X i).toReal : EReal) := by
  refine real_of_lt ((Ideal.cmp_olt_eq_one _ _).1 (Eq.trans ?_ e))
  rw [← inf_f32]
  rfl

variable [Facts] {X0 : FVec Ideal S4096x6144 .bf16} {X1 : FVec Ideal S4096x16 .f32} {X2 : FVec Ideal S4096x2048 .bf16}

theorem real_0 (h : fn (F := Ideal) X0 X1 X2 = fun _ => 1#1) (i : S4096x6144.Idx) : X0 i = ((X0 i).toReal : EReal) := by
  have e := congrFun h (ix1 0)
  unfold fn at e
  dsimp only at e
  rw [cat_0, one] at e
  exact entry_bf16 X0 _ i (Host.reduce_andi_all _ _ _ _ _ e i)

theorem real_1 (h : fn (F := Ideal) X0 X1 X2 = fun _ => 1#1) (i : S4096x16.Idx) : X1 i = ((X1 i).toReal : EReal) := by
  have e := congrFun h (ix1 1)
  unfold fn at e
  dsimp only at e
  rw [cat_1, one] at e
  exact entry_f32 X1 _ i (Host.reduce_andi_all _ _ _ _ _ e i)

theorem real_2 (h : fn (F := Ideal) X0 X1 X2 = fun _ => 1#1) (i : S4096x2048.Idx) : X2 i = ((X2 i).toReal : EReal) := by
  have e := congrFun h (ix1 2)
  unfold fn at e
  dsimp only at e
  rw [cat_2, one] at e
  exact entry_bf16 X2 _ i (Host.reduce_andi_all _ _ _ _ _ e i)

end Cert.Proof.AttnFinite

end
-- ==== Proof.Blocks.lean ====
/-
  WHAT THE BLOCKS READ: the blocks of the head of a point, entry by entry, from the arrays the launch finds.
-/
module

public import Idealize.ShloMosaic.Lib.Pipeline.ValueKit
public import proofs.«01_k».proof.Proof.Run

@[expose] public section

set_option maxHeartbeats 800000
set_option maxRecDepth 16384

noncomputable section

namespace Cert.Proof.AttnBwd

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (c : Dev nD) (t : Fin cfg0.N)

theorem coord : ∀ t : Fin grid0.N, (grid0.coords t 0).val = t.val := by decide +kernel

theorem t_lt : t.val < 16 := lt_of_lt_of_eq t.isLt N_0

theorem idx : ∀ t : Fin grid0.N, win0_0.index t = ![0, t.val] ∧ win0_1.index t = ![0, t.val + 16] ∧ win0_2.index t = ![0, t.val + 32]
    ∧ win0_3.index t = ![0, t.val] ∧ win0_4.index t = ![0, t.val] ∧ win0_5.index t = ![0, 0, 0] ∧ win0_6.index t = ![0, 0]
    ∧ win0_7.index t = ![0, 0, t.val] ∧ win0_8.index t = ![0, 0] ∧ win0_9.index t = ![0, 0, 0] := by decide +kernel

/-- Column `d` of head `h` in an array of all heads' columns. -/
abbrev hc (h : ℕ) (hh : h < 16) (d : Fin 128) : Fin 2048 := ⟨128 * h + d.val, by omega⟩
/-- Column `d` of part `p` (q, k, v) of head `h` in the array of the three. -/
abbrev pc (p : Fin 3) (h : ℕ) (hh : h < 16) (d : Fin 128) : Fin 6144 := ⟨2048 * p.val + 128 * h + d.val, by omega⟩

theorem read_3 (X : Buf (Elt F) ((c : Thread nD τ).loc main_v43)) (n : Fin 4096) (d : Fin 128) :
    (((cfg0.win 3).blk t).view.read (Elt F) X : S4096x128.Idx → F .bf16) (ix2 n d) = (X : S4096x2048.Idx → F .bf16) (ix2 n (hc t.val (t_lt t) d)) := by
  blk_ext [idx t]

theorem read_5 (X : Buf (Elt F) ((c : Thread nD τ).loc main_v51)) (a : Fin 4) (h : Fin 16) (x : Fin 1024) :
    (((cfg0.win 5).blk t).view.read (Elt F) X : S4x16x1024.Idx → F .f32) (ix3 a h x) = (X : S4x16x1024.Idx → F .f32) (ix3 a h x) := by
  blk_ext [idx t]

theorem read_6 (X : Buf (Elt F) ((c : Thread nD τ).loc main_v48)) (n : Fin 4096) (d : Fin 128) :
    (((cfg0.win 6).blk t).view.read (Elt F) X : S4096x128.Idx → F .f32) (ix2 n d) = (X : S4096x128.Idx → F .f32) (ix2 n d) := by
  blk_ext [idx t]

theorem q_blk (n : Fin 4096) (d : Fin 128) : (inpAt m c t).q (ix2 n d)
    = (m ((c : Thread nD τ).loc main_arg0) : S4096x6144.Idx → F .bf16) (ix2 n (pc 0 t.val (t_lt t) d)) := by
  show iblk m c 0 t (ix2 n d) = _
  have := idx t
  blk_ext [iblk, V_main_arg0, idx t]

theorem k_blk (n : Fin 4096) (d : Fin 128) : (inpAt m c t).k (ix2 n d)
    = (m ((c : Thread nD τ).loc main_arg0) : S4096x6144.Idx → F .bf16) (ix2 n (pc 1 t.val (t_lt t) d)) := by
  show iblk m c 1 t (ix2 n d) = _
  blk_ext [iblk, V_main_arg0, idx t]

theorem v_blk (n : Fin 4096) (d : Fin 128) : (inpAt m c t).v (ix2 n d)
    = (m ((c : Thread nD τ).loc main_arg0) : S4096x6144.Idx → F .bf16) (ix2 n (pc 2 t.val (t_lt t) d)) := by
  show iblk m c 2 t (ix2 n d) = _
  blk_ext [iblk, V_main_arg0, idx t]

theorem o_blk (n : Fin 4096) (d : Fin 128) : (inpAt m c t).o (ix2 n d)
    = (V m c main_v43 : S4096x2048.Idx → F .bf16) (ix2 n (hc t.val (t_lt t) d)) := by
  show iblk m c 3 t (ix2 n d) = _
  exact read_3 c t (V m c main_v43) _ _

theorem g_blk (n : Fin 4096) (d : Fin 128) : (inpAt m c t).g (ix2 n d)
    = (m ((c : Thread nD τ).loc main_arg2) : S4096x2048.Idx → F .bf16) (ix2 n (hc t.val (t_lt t) d)) := by
  show iblk m c 4 t (ix2 n d) = _
  blk_ext [iblk, V_main_arg2, idx t]

theorem fk_blk (a : Fin 4) (h : Fin 16) (x : Fin 1024) : (inpAt m c t).fk (ix3 a h x)
    = (V m c main_v51 : S4x16x1024.Idx → F .f32) (ix3 a h x) := by
  show iblk m c 5 t (ix3 a h x) = _
  exact read_5 c t (V m c main_v51) _ _ _

theorem lse_blk (n : Fin 4096) (d : Fin 128) : (inpAt m c t).lse (ix2 n d)
    = (V m c main_v48 : S4096x128.Idx → F .f32) (ix2 n d) := by
  show iblk m c 6 t (ix2 n d) = _
  exact read_6 c t (V m c main_v48) _ _

/-- The last point. -/
abbrev tlast : Fin cfg0.N := ⟨15, by decide⟩

/-- The array of the three gradients, after the run. -/
theorem arr7 (p : Fin 3) (n : Fin 4096) (d : Fin 128) : ((dats m 0 c).arrAt 7 cfg0.N : S3x4096x2048.Idx → F .bf16) (ix3 p n (hc t.val (t_lt t) d))
    = dqkvAt m c t (ix3 p n d) := by
  have h := (dats m 0 c).arrAt_emb_eq_flushed 7 (Pipeline.Window.hdisj_of_index_inj _ (by decide +kernel)) t (flush0_7 t) (ix3 p n d)
  have e : (((cfg0.win 7).blk t).view.emb (ix3 p n d) : S3x4096x2048.Idx) = ix3 p n (hc t.val (t_lt t) d) := by
    blk_ext [idx t]
  rw [e] at h
  refine h.trans ?_
  blk_simp
  rw [after_7]

theorem arr8 : ((dats m 0 c).arrAt 8 cfg0.N : S4096x128.Idx → F .f32) = dfqAt m c 16 := by
  refine (dats m 0 c).arrAt_eq_of_after_last 8 tlast (by decide +kernel) _ fun j => ?_
  blk_simp
  rw [after_8]

theorem arr9 : ((dats m 0 c).arrAt 9 cfg0.N : S4x16x1024.Idx → F .f32) = dfkAt m c 16 := by
  refine (dats m 0 c).arrAt_eq_of_after_last 9 tlast (by decide +kernel) _ fun j => ?_
  blk_simp
  rw [after_9]

end Cert.Proof.AttnBwd

end
-- ==== Proof.Stages.lean ====
/-
  THE REFERENCE IN STAGES: its results' composed terms cut at the arrays its lines name — the heads, the mask, the scores, their
  maxima, the exponentials, the totals, the gradients —, at the ideal float values.
-/
module

public import proofs.«01_k».proof.Proof.Gen.ReferenceIdeal.Run
public import Idealize.ShloMosaic.Lib.Pointwise

@[expose] public section

set_option maxRecDepth 16384
set_option maxHeartbeats 4000000

noncomputable section

namespace Cert.Proof.AttnRef

open Cert.ReferenceIdeal Cert.ReferenceIdeal.Gen Cert.ReferenceIdeal.Value
open Idealize.ShloMosaic Idealize.ShloMosaic.TcCoe Idealize.SL.Sem Idealize.ShloMosaic.StableHlo

/-- The heads' rows of q. -/
def qh (X : S4096x6144.Idx → Ideal .bf16) : S16x4096x128.Idx → Ideal .f32 :=
  (transpose S16x4096x128 [1, 0, 2] (shapeCast _ (extf .f32 (extractStridedSlice S4096x2048 ![0, 0] X slices_S4096x6144_S4096x2048_0_0) bitsLt_bf16_f32) shapeCasts_S4096x2048_S4096x16x128) transposes_S4096x16x128_S16x4096x128_1_0_2)

/-- The heads' rows of k. -/
def kh (X : S4096x6144.Idx → Ideal .bf16) : S16x4096x128.Idx → Ideal .f32 :=
  (transpose S16x4096x128 [1, 0, 2] (shapeCast _ (extf .f32 (extractStridedSlice S4096x2048 ![0, 2048] X slices_S4096x6144_S4096x2048_0_2048) bitsLt_bf16_f32) shapeCasts_S4096x2048_S4096x16x128) transposes_S4096x16x128_S16x4096x128_1_0_2)

/-- The heads' rows of v. -/
def vh (X : S4096x6144.Idx → Ideal .bf16) : S16x4096x128.Idx → Ideal .f32 :=
  (transpose S16x4096x128 [1, 0, 2] (shapeCast _ (extf .f32 (extractStridedSlice S4096x2048 ![0, 4096] X slices_S4096x6144_S4096x2048_0_4096) bitsLt_bf16_f32) shapeCasts_S4096x2048_S4096x16x128) transposes_S4096x16x128_S16x4096x128_1_0_2)

/-- The heads' rows of the output's gradient. -/
def gh (X : S4096x2048.Idx → Ideal .bf16) : S16x4096x128.Idx → Ideal .f32 :=
  (transpose S16x4096x128 [1, 0, 2] (shapeCast _ (extf .f32 X bitsLt_bf16_f32) shapeCasts_S4096x2048_S4096x16x128) transposes_S4096x16x128_S16x4096x128_1_0_2)

/-- The heads' gates. -/
def fh (X : S4096x16.Idx → Ideal .f32) : S16x4096.Idx → Ideal .f32 :=
  (transpose S16x4096 [1, 0] X transposes_S4096x16_S16x4096_1_0)

/-- Which keys a query sees. -/
def mask  : S16x4096x4096.Idx → BitVec 1 :=
  (broadcastInDim S16x4096x4096 ![1, 2] bcast_S4096x4096_S16x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

/-- The masked scores. -/
def sc (q k : S16x4096x128.Idx → Ideal .f32) (f : S16x4096.Idx → Ideal .f32) : S16x4096x4096.Idx → Ideal .f32 :=
  (select mask (subf (addf (mulf (Host.dotGeneral dot_S16x4096x128_S16x4096x128_S16x4096x4096_2_2_1_1_0_0 none q k) (broadcastInDim S16x4096x4096 ![] bcast_S_S16x4096x4096 (constant S_ .f32 0x3DB504F3#32))) (broadcastInDim S16x4096x4096 ![0, 1, 2] bcast_S16x4096x1_S16x4096x4096_0_1_2 (broadcastInDim S16x4096x1 ![0, 1] bcast_S16x4096_S16x4096x1_0_1 f))) (broadcastInDim S16x4096x4096 ![0, 1, 2] bcast_S16x1x4096_S16x4096x4096_0_1_2 (broadcastInDim S16x1x4096 ![0, 2] bcast_S16x4096_S16x1x4096_0_2 f))) (broadcastInDim S16x4096x4096 ![] bcast_S_S16x4096x4096 (id (constant S_ .f32 0xFF800000#32))))

/-- A row's greatest score. -/
def mxo (s : S16x4096x4096.Idx → Ideal .f32) : S16x4096.Idx → Ideal .f32 :=
  (maximumf (broadcastInDim S16x4096 ![] bcast_S_S16x4096 (constant S_ .f32 0xFF800000#32)) (Host.reduce FloatOps.maximumf s (constant S_ .f32 0xFF800000#32) reducesTo_S16x4096x4096_S16x4096_d2 h_S_))

/-- The exponentials. -/
def ex (s : S16x4096x4096.Idx → Ideal .f32) (mx : S16x4096.Idx → Ideal .f32) : S16x4096x4096.Idx → Ideal .f32 :=
  (Host.exp (subf s (broadcastInDim S16x4096x4096 ![0, 1, 2] bcast_S16x4096x1_S16x4096x4096_0_1_2 (broadcastInDim S16x4096x1 ![0, 1] bcast_S16x4096_S16x4096x1_0_1 mx))))

/-- A row's total. -/
def tot (e : S16x4096x4096.Idx → Ideal .f32) : S16x4096.Idx → Ideal .f32 :=
  (Host.reduceAdd e (constant S_ .f32 0x00000000#32) reducesTo_S16x4096x4096_S16x4096_d2 h_S_)

/-- The weights' gradients. -/
def dpo (g v : S16x4096x128.Idx → Ideal .f32) : S16x4096x4096.Idx → Ideal .f32 :=
  (Host.dotGeneral dot_S16x4096x128_S16x4096x128_S16x4096x4096_2_2_1_1_0_0 none g v)

/-- The scores' gradients. -/
def dso (dp : S16x4096x4096.Idx → Ideal .f32) (l : S16x4096.Idx → Ideal .f32) (e : S16x4096x4096.Idx → Ideal .f32) : S16x4096x4096.Idx → Ideal .f32 :=
  (select mask (mulf (addf (Host.divf dp (broadcastInDim S16x4096x4096 ![0, 1, 2] bcast_S16x4096x1_S16x4096x4096_0_1_2 (broadcastInDim S16x4096x1 ![0, 1] bcast_S16x4096_S16x4096x1_0_1 l))) (broadcastInDim S16x4096x4096 ![0, 1] bcast_S16x4096_S16x4096x4096_0_1 (Host.reduceAdd (Host.negf (shapeCast _ (Host.reduceAdd (mulf (mulf dp (broadcastInDim S16x4096x4096 ![0, 1, 2] bcast_S16x4096x1_S16x4096x4096_0_1_2 (Host.divf (broadcastInDim S16x4096x1 ![] bcast_S_S16x4096x1 (constant S_ .f32 0x3F800000#32)) (mulf (broadcastInDim S16x4096x1 ![0, 1] bcast_S16x4096_S16x4096x1_0_1 l) (broadcastInDim S16x4096x1 ![0, 1] bcast_S16x4096_S16x4096x1_0_1 l))))) e) (constant S_ .f32 0x00000000#32) reducesTo_S16x4096x4096_S16x4096_d2 h_S_) shapeCasts_S16x4096_S16x4096x1)) (constant S_ .f32 0x00000000#32) reducesTo_S16x4096x1_S16x4096_d2 h_S_))) e) (broadcastInDim S16x4096x4096 ![] bcast_S_S16x4096x4096 (constant S_ .f32 0x00000000#32)))

/-- The gradient of q. -/
def dqo (ds : S16x4096x4096.Idx → Ideal .f32) (k : S16x4096x128.Idx → Ideal .f32) : S16x4096x128.Idx → Ideal .f32 :=
  (Host.dotGeneral dot_S16x4096x4096_S16x4096x128_S16x4096x128_2_1_1_2_0_0 none (mulf ds (broadcastInDim S16x4096x4096 ![] bcast_S_S16x4096x4096 (constant S_ .f32 0x3DB504F3#32))) k)

/-- The gradient of k. -/
def dko (ds : S16x4096x4096.Idx → Ideal .f32) (q : S16x4096x128.Idx → Ideal .f32) : S16x4096x128.Idx → Ideal .f32 :=
  (Host.dotGeneral dot_S16x4096x4096_S16x4096x128_S16x4096x128_1_1_2_2_0_0 none (mulf ds (broadcastInDim S16x4096x4096 ![] bcast_S_S16x4096x4096 (constant S_ .f32 0x3DB504F3#32))) q)

/-- The gradient of v. -/
def dvo (g : S16x4096x128.Idx → Ideal .f32) (e : S16x4096x4096.Idx → Ideal .f32) (l : S16x4096.Idx → Ideal .f32) : S16x4096x128.Idx → Ideal .f32 :=
  (transpose S16x4096x128 [0, 2, 1] (Host.dotGeneral dot_S16x4096x128_S16x4096x4096_S16x128x4096_1_1_2_2_0_0 none g (Host.divf e (broadcastInDim S16x4096x4096 ![0, 1, 2] bcast_S16x4096x1_S16x4096x4096_0_1_2 (broadcastInDim S16x4096x1 ![0, 1] bcast_S16x4096_S16x4096x1_0_1 l)))) transposes_S16x128x4096_S16x4096x128_0_2_1)

/-- The three gradients, packed. -/
def packo (a b cc : S16x4096x128.Idx → Ideal .f32) : S3x4096x2048.Idx → Ideal .bf16 :=
  truncf .bf16 ((concatenate S3x4096x2048 0 [⟨S1x4096x2048, ((broadcastInDim S1x4096x2048 ![1, 2] bcast_S4096x2048_S1x4096x2048_1_2 (shapeCast _ (transpose S4096x16x128 [1, 0, 2] a transposes_S16x4096x128_S4096x16x128_1_0_2) shapeCasts_S4096x16x128_S4096x2048)) : (⟨S1x4096x2048, .f32⟩ : BufTy).Contents (Elt Ideal))⟩, ⟨S1x4096x2048, ((broadcastInDim S1x4096x2048 ![1, 2] bcast_S4096x2048_S1x4096x2048_1_2 (shapeCast _ (transpose S4096x16x128 [1, 0, 2] b transposes_S16x4096x128_S4096x16x128_1_0_2) shapeCasts_S4096x16x128_S4096x2048)) : (⟨S1x4096x2048, .f32⟩ : BufTy).Contents (Elt Ideal))⟩, ⟨S1x4096x2048, ((broadcastInDim S1x4096x2048 ![1, 2] bcast_S4096x2048_S1x4096x2048_1_2 (shapeCast _ (transpose S4096x16x128 [1, 0, 2] cc transposes_S16x4096x128_S4096x16x128_1_0_2) shapeCasts_S4096x16x128_S4096x2048)) : (⟨S1x4096x2048, .f32⟩ : BufTy).Contents (Elt Ideal))⟩] concatenates_S1x4096x2048_S1x4096x2048_S1x4096x2048_S3x4096x2048_d0 : (⟨S3x4096x2048, .f32⟩ : BufTy).Contents (Elt Ideal))) bitsLt_bf16_f32

/-- The queries' gradients of the gates. -/
def rowso (ds : S16x4096x4096.Idx → Ideal .f32) : S4096x128.Idx → Ideal .f32 :=
  pad S4096x128 ![0, 0] ![0, 112] ![0, 0] (transpose S4096x16 [1, 0] (Host.reduceAdd (shapeCast _ (Host.reduceAdd ds (constant S_ .f32 0x00000000#32) reducesTo_S16x4096x4096_S16x4096_d2 h_S_) shapeCasts_S16x4096_S16x4096x1) (constant S_ .f32 0x00000000#32) reducesTo_S16x4096x1_S16x4096_d2 h_S_) transposes_S16x4096_S4096x16_1_0) (sitofp .f32 (constantI S_ 32 0#32)) pads_S4096x16_S4096x128_000_01120 h_S_

/-- The keys' gradients of the gates. -/
def colso (ds : S16x4096x4096.Idx → Ideal .f32) : S4x16x1024.Idx → Ideal .f32 :=
  Host.negf (transpose S4x16x1024 [1, 0, 2] (shapeCast _ (Host.reduceAdd (shapeCast _ (Host.reduceAdd (Host.negf ds) (constant S_ .f32 0x00000000#32) reducesTo_S16x4096x4096_S16x4096_d1 h_S_) shapeCasts_S16x4096_S16x1x4096) (constant S_ .f32 0x00000000#32) reducesTo_S16x1x4096_S16x4096_d1 h_S_) shapeCasts_S16x4096_S16x4x1024) transposes_S16x4x1024_S4x16x1024_1_0_2)

section
variable (X0 : S4096x6144.Idx → Ideal .bf16) (X1 : S4096x16.Idx → Ideal .f32) (X2 : S4096x2048.Idx → Ideal .bf16)

/-- The scores of the arguments. -/
def SC : S16x4096x4096.Idx → Ideal .f32 := sc (qh X0) (kh X0) (fh X1)
/-- The exponentials of the arguments. -/
def EX : S16x4096x4096.Idx → Ideal .f32 := ex (SC X0 X1) (mxo (SC X0 X1))
/-- The totals of the arguments. -/
def TOT : S16x4096.Idx → Ideal .f32 := tot (EX X0 X1)
/-- The scores' gradients of the arguments. -/
def DSO : S16x4096x4096.Idx → Ideal .f32 := dso (dpo (gh X2) (vh X0)) (TOT X0 X1) (EX X0 X1)

end

variable (m : (ℓ : Loc nD τ sig) → Buf (Elt Ideal) ℓ) (c : Dev nD)

theorem out_1 : res_main_v102 m c = rowso (DSO (m ((c.tc : Thread nD τ).loc main_arg0)) (m ((c.tc : Thread nD τ).loc main_arg1)) (m ((c.tc : Thread nD τ).loc main_arg2))) := by
  unfold res_main_v102 rowso DSO TOT EX SC dso dpo tot ex mxo sc mask qh kh vh gh fh
  rfl

theorem out_2 : res_main_v105 m c = colso (DSO (m ((c.tc : Thread nD τ).loc main_arg0)) (m ((c.tc : Thread nD τ).loc main_arg1)) (m ((c.tc : Thread nD τ).loc main_arg2))) := by
  unfold res_main_v105 colso DSO TOT EX SC dso dpo tot ex mxo sc mask qh kh vh gh fh
  rfl

theorem out_0 : res_main_v100 m c = packo
    (dqo (DSO (m ((c.tc : Thread nD τ).loc main_arg0)) (m ((c.tc : Thread nD τ).loc main_arg1)) (m ((c.tc : Thread nD τ).loc main_arg2))) (kh (m ((c.tc : Thread nD τ).loc main_arg0))))
    (dko (DSO (m ((c.tc : Thread nD τ).loc main_arg0)) (m ((c.tc : Thread nD τ).loc main_arg1)) (m ((c.tc : Thread nD τ).loc main_arg2))) (qh (m ((c.tc : Thread nD τ).loc main_arg0))))
    (dvo (gh (m ((c.tc : Thread nD τ).loc main_arg2))) (EX (m ((c.tc : Thread nD τ).loc main_arg0)) (m ((c.tc : Thread nD τ).loc main_arg1))) (TOT (m ((c.tc : Thread nD τ).loc main_arg0)) (m ((c.tc : Thread nD τ).loc main_arg1)))) := by
  unfold res_main_v100 packo dqo dko dvo DSO TOT EX SC dso dpo tot ex mxo sc mask qh kh vh gh fh
  rfl

end Cert.Proof.AttnRef

end
-- ==== Proof.StageEntries.lean ====
/-
  THE STAGES, ENTRY BY ENTRY: each stage of the reference at an index, as the ideal values' arithmetic.
-/
module

public import proofs.«01_k».proof.Proof.Stages
public import Idealize.ShloMosaic.Lib.StableHlo.ReadAt
public import Idealize.ShloMosaic.Lib.WordCmp

@[expose] public section

set_option maxRecDepth 16384
set_option maxHeartbeats 4000000

noncomputable section

namespace Cert.Proof.AttnRef

open Cert.ReferenceIdeal Cert.ReferenceIdeal.Gen
open Idealize.ShloMosaic Idealize.ShloMosaic.TcCoe Idealize.SL.Sem

/-- The word of 1/√128 as the programs spell it. -/
abbrev scale : EReal := Ideal.ofBits .f32 0x3DB504F3#32

/-- The word of minus infinity. -/
theorem bits_bot : Ideal.ofBits .f32 0xFF800000#32 = ⊥ := by simp [Ideal.ofBits, Ideal.ieee]

/-- Column `d` of head `h` in an array of all heads' columns. -/
abbrev hcol (h : Fin 16) (d : Fin 128) : Fin 2048 := ⟨128 * h.val + d.val, by omega⟩
/-- Column `d` of part `p` (q, k, v) of head `h` in the array of the three. -/
abbrev pcol (p : Fin 3) (h : Fin 16) (d : Fin 128) : Fin 6144 := ⟨2048 * p.val + 128 * h.val + d.val, by omega⟩

theorem sel_le (a b : Fin 4096) (x y : EReal) :
    Scalar.select (IntOp.cmpi .sle (BitVec.ofNat 32 a.val) (BitVec.ofNat 32 b.val)) x y = if a ≤ b then x else y := by
  rw [WordCmp.cmpi_sle_ofNat (by have := a.isLt; simp; omega) (by have := b.isLt; simp; omega), Scalar.select_ofBool]
  simp

theorem qh_at (X : S4096x6144.Idx → Ideal .bf16) (h : Fin 16) (n : Fin 4096) (d : Fin 128) : qh X (ix3 h n d) = X (ix2 n (pcol 0 h d)) := by
  unfold qh
  clean_types
  pointwise
  refine congrArg X (congrArg (ix2 n) (Fin.ext ?_))
  simp only [Fin.val_zero, Fin.val_one, Fin.val_two]
  omega

theorem kh_at (X : S4096x6144.Idx → Ideal .bf16) (h : Fin 16) (n : Fin 4096) (d : Fin 128) : kh X (ix3 h n d) = X (ix2 n (pcol 1 h d)) := by
  unfold kh
  clean_types
  pointwise
  refine congrArg X (congrArg (ix2 n) (Fin.ext ?_))
  simp only [Fin.val_zero, Fin.val_one, Fin.val_two]
  omega

theorem vh_at (X : S4096x6144.Idx → Ideal .bf16) (h : Fin 16) (n : Fin 4096) (d : Fin 128) : vh X (ix3 h n d) = X (ix2 n (pcol 2 h d)) := by
  unfold vh
  clean_types
  pointwise
  refine congrArg X (congrArg (ix2 n) (Fin.ext ?_))
  simp only [Fin.val_zero, Fin.val_one, Fin.val_two]
  omega

theorem gh_at (X : S4096x2048.Idx → Ideal .bf16) (h : Fin 16) (n : Fin 4096) (d : Fin 128) : gh X (ix3 h n d) = X (ix2 n (hcol h d)) := by
  unfold gh
  clean_types
  pointwise
  refine congrArg X (congrArg (ix2 n) (Fin.ext ?_))
  simp only [Fin.val_zero, Fin.val_one, Fin.val_two]
  omega

theorem fh_at (X : S4096x16.Idx → Ideal .f32) (h : Fin 16) (n : Fin 4096) : fh X (ix2 h n) = X (ix2 n h) := by
  unfold fh
  clean_types
  pointwise

theorem sc_at (q k : S16x4096x128.Idx → Ideal .f32) (f : S16x4096.Idx → Ideal .f32) (h : Fin 16) (n j : Fin 4096) : sc q k f (ix3 h n j) =
    if j ≤ n then (∑ x, q (ix3 h n x) * k (ix3 h j x)) * scale + f (ix2 h n) - f (ix2 h j) else ⊥ := by
  unfold sc mask
  clean_types
  pointwise
  rw [sel_le, ← bits_bot]
  rfl

theorem max_at (s : S16x4096x4096.Idx → Ideal .f32) (h : Fin 16) (n : Fin 4096) :
    (Host.reduce FloatOps.maximumf s (constant S_ .f32 0xFF800000#32) reducesTo_S16x4096x4096_S16x4096_d2 h_S_ : S16x4096.Idx → Ideal .f32) (ix2 h n)
      = Finset.fold max (⊥ : EReal) (fun x => s (ix3 h n x)) Finset.univ := by
  pointwise
  rw [bits_bot]

theorem max_bot (M : S16x4096.Idx → Ideal .f32) (h : Fin 16) (n : Fin 4096) :
    (maximumf (broadcastInDim S16x4096 ![] bcast_S_S16x4096 (constant S_ .f32 0xFF800000#32)) M : S16x4096.Idx → Ideal .f32) (ix2 h n) = M (ix2 h n) := by
  pointwise
  rw [bits_bot]
  exact max_eq_right bot_le

theorem mxo_at (s : S16x4096x4096.Idx → Ideal .f32) (h : Fin 16) (n : Fin 4096) : mxo s (ix2 h n) =
    Finset.fold max (⊥ : EReal) (fun x => s (ix3 h n x)) Finset.univ := by
  unfold mxo
  rw [max_bot]
  exact max_at s h n

theorem ex_at (s : S16x4096x4096.Idx → Ideal .f32) (l : S16x4096.Idx → Ideal .f32) (h : Fin 16) (n j : Fin 4096) : ex s l (ix3 h n j) = Ideal.exp (s (ix3 h n j) - l (ix2 h n)) := by
  unfold ex
  clean_types
  pointwise

theorem tot_at (s : S16x4096x4096.Idx → Ideal .f32) (h : Fin 16) (n : Fin 4096) : tot s (ix2 h n) = ∑ x, s (ix3 h n x) := by
  unfold tot
  clean_types
  pointwise

theorem dpo_at (q k : S16x4096x128.Idx → Ideal .f32) (h : Fin 16) (n j : Fin 4096) : dpo q k (ix3 h n j) = ∑ x, q (ix3 h n x) * k (ix3 h j x) := by
  unfold dpo
  clean_types
  pointwise

theorem dso_at (dp : S16x4096x4096.Idx → Ideal .f32) (l : S16x4096.Idx → Ideal .f32) (e : S16x4096x4096.Idx → Ideal .f32) (h : Fin 16) (n j : Fin 4096) : dso dp l e (ix3 h n j) =
    if j ≤ n then (Ideal.div (dp (ix3 h n j)) (l (ix2 h n)) +
      -∑ x, dp (ix3 h n x) * Ideal.div 1 (l (ix2 h n) * l (ix2 h n)) * e (ix3 h n x)) * e (ix3 h n j) else 0 := by
  unfold dso mask
  clean_types
  pointwise
  rw [sel_le, Fin.sum_univ_one]

theorem dqo_at (ds : S16x4096x4096.Idx → Ideal .f32) (k : S16x4096x128.Idx → Ideal .f32) (h : Fin 16) (n : Fin 4096) (d : Fin 128) : dqo ds k (ix3 h n d) =
    ∑ x, ds (ix3 h n x) * scale * k (ix3 h x d) := by
  unfold dqo
  clean_types
  pointwise

theorem dko_at (ds : S16x4096x4096.Idx → Ideal .f32) (k : S16x4096x128.Idx → Ideal .f32) (h : Fin 16) (n : Fin 4096) (d : Fin 128) : dko ds k (ix3 h n d) =
    ∑ x, ds (ix3 h x n) * scale * k (ix3 h x d) := by
  unfold dko
  clean_types
  pointwise

theorem dvo_at (g : S16x4096x128.Idx → Ideal .f32) (e : S16x4096x4096.Idx → Ideal .f32) (l : S16x4096.Idx → Ideal .f32) (h : Fin 16) (n : Fin 4096) (d : Fin 128) : dvo g e l (ix3 h n d) =
    ∑ x, g (ix3 h x d) * Ideal.div (e (ix3 h x n)) (l (ix2 h x)) := by
  unfold dvo
  clean_types
  pointwise

theorem packo_at (a b cc : S16x4096x128.Idx → Ideal .f32) (p : Fin 3) (n : Fin 4096) (h : Fin 16) (d : Fin 128) : packo a b cc (ix3 p n (hcol h d)) =
    if p = 0 then a (ix3 h n d) else if p = 1 then b (ix3 h n d) else cc (ix3 h n d) := by
  have e1 : ∀ hh, (⟨(hcol h d).val / 128, hh⟩ : Fin 16) = h := fun hh => Fin.ext (by show (128 * h.val + d.val) / 128 = h.val; omega)
  have e2 : ∀ hh, (⟨(hcol h d).val % 128, hh⟩ : Fin 128) = d := fun hh => Fin.ext (by show (128 * h.val + d.val) % 128 = d.val; omega)
  generalize hcol h d = z at *
  unfold packo
  clean_types
  pointwise
  rw [e1, e2]
  fin_cases p
  · rfl
  · rfl
  · rfl

theorem rowso_at (ds : S16x4096x4096.Idx → Ideal .f32) (n : Fin 4096) (x : Fin 128) : rowso ds (ix2 n x) =
    if h : x.val < 16 then ∑ j, ds (ix3 ⟨x.val, h⟩ n j) else 0 := by
  unfold rowso
  clean_types
  pointwise
  simp only [Fin.sum_univ_one]
  split
  · rfl
  · show (((0#32 : BitVec 32).toInt : ℝ) : EReal) = 0
    simp

theorem colso_at (ds : S16x4096x4096.Idx → Ideal .f32) (t : Fin 4) (h : Fin 16) (x : Fin 1024) : colso ds (ix3 t h x) =
    -∑ j, -ds (ix3 h j ⟨1024 * t.val + x.val, by omega⟩) := by
  have e : ∀ hh, (⟨t.val * 1024 + x.val, hh⟩ : Fin 4096) = ⟨1024 * t.val + x.val, by omega⟩ := fun hh => Fin.ext (by show t.val * 1024 + x.val = 1024 * t.val + x.val; omega)
  unfold colso
  clean_types
  pointwise
  simp only [Fin.sum_univ_one, e]

end Cert.Proof.AttnRef

end
-- ==== Proof.Before.lean ====
/-
  THE OPERATIONS BEFORE THE LAUNCH: the attention's output, its rows' logarithms of totals and the keys' gates, as the
  launch finds them, in stages.
-/
module

public import proofs.«01_k».proof.Proof.Blocks
public import proofs.«01_k».proof.Proof.StageEntries

@[expose] public section

set_option maxRecDepth 16384
set_option maxHeartbeats 8000000

noncomputable section

namespace Cert.Proof.AttnBwd

open Cert.KernelIdeal Cert.KernelIdeal.Gen
open Idealize.ShloMosaic Idealize.ShloMosaic.TcCoe Idealize.SL.Sem

/-- The masked scores, without the query's own gate. -/
def sck (q k : S16x4096x128.Idx → Ideal .f32) (f : S16x4096.Idx → Ideal .f32) : S16x4096x4096.Idx → Ideal .f32 :=
  select AttnRef.mask (subf (addf (mulf (Host.dotGeneral dot_S16x4096x128_S16x4096x128_S16x4096x4096_2_2_1_1_0_0 none q k) (broadcastInDim S16x4096x4096 ![] bcast_S_S16x4096x4096 (constant S_ .f32 0x3DB504F3#32))) (broadcastInDim S16x4096x4096 ![0, 1, 2] bcast_S16x4096x1_S16x4096x4096_0_1_2 (broadcastInDim S16x4096x1 ![0, 1] bcast_S16x4096_S16x4096x1_0_1 (broadcastInDim S16x4096 ![] bcast_S_S16x4096 (constant S_ .f32 0x00000000#32))))) (broadcastInDim S16x4096x4096 ![0, 1, 2] bcast_S16x1x4096_S16x4096x4096_0_1_2 (broadcastInDim S16x1x4096 ![0, 2] bcast_S16x4096_S16x1x4096_0_2 f))) (broadcastInDim S16x4096x4096 ![] bcast_S_S16x4096x4096 (id (constant S_ .f32 0xFF800000#32)))

/-- A row's greatest score. -/
def mxk (s : S16x4096x4096.Idx → Ideal .f32) : S16x4096.Idx → Ideal .f32 := Host.reduce FloatOps.maximumf s (constant S_ .f32 0xFF800000#32) reducesTo_S16x4096x4096_S16x4096_d2 h_S_

/-- The heads' outputs. -/
def ok (e : S16x4096x4096.Idx → Ideal .f32) (l : S16x4096.Idx → Ideal .f32) (v : S16x4096x128.Idx → Ideal .f32) : S16x4096x128.Idx → Ideal .f32 :=
  Host.dotGeneral dot_S16x4096x4096_S16x4096x128_S16x4096x128_2_1_1_2_0_0 none (Host.divf e (broadcastInDim S16x4096x4096 ![0, 1, 2] bcast_S16x4096x1_S16x4096x4096_0_1_2 (broadcastInDim S16x4096x1 ![0, 1] bcast_S16x4096_S16x4096x1_0_1 l))) v

/-- The outputs as the launch takes them. -/
def opack (o : S16x4096x128.Idx → Ideal .f32) : S4096x2048.Idx → Ideal .bf16 :=
  truncf .bf16 (shapeCast S4096x2048 (transpose S4096x16x128 [1, 0, 2] o transposes_S16x4096x128_S4096x16x128_1_0_2) shapeCasts_S4096x16x128_S4096x2048) bitsLt_bf16_f32

/-- The rows' logarithms as the launch takes them. -/
def lsek (mx l : S16x4096.Idx → Ideal .f32) : S4096x128.Idx → Ideal .f32 :=
  pad S4096x128 ![0, 0] ![0, 112] ![0, 0] (transpose S4096x16 [1, 0] (shapeCast S16x4096 (addf (broadcastInDim S16x4096x1 ![0, 1] bcast_S16x4096_S16x4096x1_0_1 mx) (Host.log (broadcastInDim S16x4096x1 ![0, 1] bcast_S16x4096_S16x4096x1_0_1 l))) shapeCasts_S16x4096x1_S16x4096) transposes_S16x4096_S4096x16_1_0) (sitofp .f32 (constantI S_ 32 0#32)) pads_S4096x16_S4096x128_000_01120 h_S_

theorem sck_at (q k : S16x4096x128.Idx → Ideal .f32) (f : S16x4096.Idx → Ideal .f32) (h : Fin 16) (n j : Fin 4096) : sck q k f (ix3 h n j) =
    if j ≤ n then (∑ x, q (ix3 h n x) * k (ix3 h j x)) * AttnRef.scale - f (ix2 h j) else ⊥ := by
  unfold sck AttnRef.mask
  clean_types
  pointwise
  rw [AttnRef.sel_le, ← AttnRef.bits_bot]
  rfl

theorem mxk_at (s : S16x4096x4096.Idx → Ideal .f32) (h : Fin 16) (n : Fin 4096) : mxk s (ix2 h n) =
    Finset.fold max (⊥ : EReal) (fun x => s (ix3 h n x)) Finset.univ := AttnRef.max_at s h n

theorem ok_at (e : S16x4096x4096.Idx → Ideal .f32) (l : S16x4096.Idx → Ideal .f32) (v : S16x4096x128.Idx → Ideal .f32) (h : Fin 16) (n : Fin 4096) (d : Fin 128) : ok e l v (ix3 h n d) =
    ∑ x, Ideal.div (e (ix3 h n x)) (l (ix2 h n)) * v (ix3 h x d) := by
  unfold ok
  clean_types
  pointwise

theorem opack_at (o : S16x4096x128.Idx → Ideal .f32) (n : Fin 4096) (h : Fin 16) (d : Fin 128) : opack o (ix2 n (AttnRef.hcol h d)) = o (ix3 h n d) := by
  have e1 : ∀ hh, (⟨(AttnRef.hcol h d).val / 128, hh⟩ : Fin 16) = h := fun hh => Fin.ext (by show (128 * h.val + d.val) / 128 = h.val; omega)
  have e2 : ∀ hh, (⟨(AttnRef.hcol h d).val % 128, hh⟩ : Fin 128) = d := fun hh => Fin.ext (by show (128 * h.val + d.val) % 128 = d.val; omega)
  generalize AttnRef.hcol h d = z at *
  unfold opack
  clean_types
  pointwise
  rw [e1, e2]

theorem lsek_at (mx l : S16x4096.Idx → Ideal .f32) (n : Fin 4096) (h : Fin 16) : lsek mx l (ix2 n ⟨h.val, by omega⟩) = mx (ix2 h n) + Ideal.log (l (ix2 h n)) := by
  unfold lsek
  clean_types
  pointwise

section
variable (X0 : S4096x6144.Idx → Ideal .bf16) (X1 : S4096x16.Idx → Ideal .f32)

/-- The scores of the arguments. -/
def SK : S16x4096x4096.Idx → Ideal .f32 := sck (AttnRef.qh X0) (AttnRef.kh X0) (AttnRef.fh X1)
/-- The exponentials of the arguments. -/
def EK : S16x4096x4096.Idx → Ideal .f32 := AttnRef.ex (SK X0 X1) (mxk (SK X0 X1))
/-- The totals of the arguments. -/
def LK : S16x4096.Idx → Ideal .f32 := AttnRef.tot (EK X0 X1)

end

variable (m : (ℓ : Loc nD τ sig) → Buf (Elt Ideal) ℓ) (c : Dev nD)

theorem V_43 : (V m c main_v43 : S4096x2048.Idx → Ideal .bf16)
    = opack (ok (EK (m ((c : Thread nD τ).loc main_arg0)) (m ((c : Thread nD τ).loc main_arg1))) (LK (m ((c : Thread nD τ).loc main_arg0)) (m ((c : Thread nD τ).loc main_arg1))) (AttnRef.vh (m ((c : Thread nD τ).loc main_arg0)))) := by
  unfold V
  simp only [hostOps0, hostOps0_1, hostOps0_2, hostOps0_3, hostOps0_4]
  after_reads_simp
  simp -implicitDefEqProofs only [StableHlo.TRef.toBuf, StableHlo.TRef.ofBuf, cast_cast, cast_eq]
  unfold opack ok LK EK SK sck mxk AttnRef.tot AttnRef.ex AttnRef.qh AttnRef.kh AttnRef.vh AttnRef.fh AttnRef.mask
  rfl

theorem V_48 : (V m c main_v48 : S4096x128.Idx → Ideal .f32)
    = lsek (mxk (SK (m ((c : Thread nD τ).loc main_arg0)) (m ((c : Thread nD τ).loc main_arg1)))) (LK (m ((c : Thread nD τ).loc main_arg0)) (m ((c : Thread nD τ).loc main_arg1))) := by
  unfold V
  simp only [hostOps0, hostOps0_1, hostOps0_2, hostOps0_3, hostOps0_4]
  after_reads_simp
  simp -implicitDefEqProofs only [StableHlo.TRef.toBuf, StableHlo.TRef.ofBuf, cast_cast, cast_eq]
  unfold lsek LK EK SK sck mxk AttnRef.tot AttnRef.ex AttnRef.qh AttnRef.kh AttnRef.fh AttnRef.mask
  rfl

theorem V_51 (a : Fin 4) (h : Fin 16) (x : Fin 1024) : (V m c main_v51 : S4x16x1024.Idx → Ideal .f32) (ix3 a h x)
    = (m ((c : Thread nD τ).loc main_arg1) : S4096x16.Idx → Ideal .f32) (ix2 ⟨1024 * a.val + x.val, by omega⟩ h) := by
  have e : ∀ hh, (⟨a.val * 1024 + x.val, hh⟩ : Fin 4096) = ⟨1024 * a.val + x.val, by omega⟩ := fun hh => Fin.ext (by show a.val * 1024 + x.val = 1024 * a.val + x.val; omega)
  unfold V
  simp only [hostOps0, hostOps0_1, hostOps0_2, hostOps0_3, hostOps0_4]
  after_reads_at
  rw [e]

end Cert.Proof.AttnBwd

end
-- ==== Proof.Head2.lean ====
/-
  ONE HEAD OVER THE REALS: the causal attention's weights and their gradients, and how the extended reals' arithmetic of a
  masked row — its greatest score, its exponentials, its total, its logarithm — reads as theirs.
-/
module

public import Idealize.ShloMosaic.Lib.IdealHost

@[expose] public section

set_option maxHeartbeats 800000

noncomputable section

namespace Cert.Proof.AttnReal

open Idealize.ShloMosaic
open scoped BigOperators

/-- The real inputs of a head: queries, keys, values, the output's gradient, the gates and the scale. -/
structure Hd (N D : ℕ) where
  q : Fin N → Fin D → ℝ
  k : Fin N → Fin D → ℝ
  v : Fin N → Fin D → ℝ
  g : Fin N → Fin D → ℝ
  f : Fin N → ℝ
  c : ℝ

variable {N D : ℕ} (A : Hd N D)

namespace Hd

/-- The score of key `j` for query `n`, without the query's own gate. -/
def x (n j : Fin N) : ℝ := (∑ d, A.q n d * A.k j d) * A.c - A.f j
/-- Its exponential, zero where the mask hides the key. -/
def w (n j : Fin N) : ℝ := if j ≤ n then Real.exp (A.x n j) else 0
/-- A row's total. -/
def W (n : Fin N) : ℝ := ∑ j, A.w n j
/-- The weights. -/
def p (n j : Fin N) : ℝ := A.w n j / A.W n
/-- The weights' gradients. -/
def dp (n j : Fin N) : ℝ := ∑ d, A.g n d * A.v j d
/-- A row's sum of weights times gradients. -/
def dl (n : Fin N) : ℝ := ∑ j, A.p n j * A.dp n j
/-- The scores' gradients. -/
def ds (n j : Fin N) : ℝ := A.p n j * (A.dp n j - A.dl n)
/-- The output. -/
def o (n : Fin N) (d : Fin D) : ℝ := ∑ j, A.p n j * A.v j d

theorem w_nonneg (n j : Fin N) : 0 ≤ A.w n j := by
  unfold w; split
  · exact (Real.exp_pos _).le
  · exact le_rfl

theorem W_pos (n : Fin N) : 0 < A.W n := by
  refine Finset.sum_pos' (fun j _ => A.w_nonneg n j) ⟨n, Finset.mem_univ _, ?_⟩
  unfold w; rw [if_pos le_rfl]; exact Real.exp_pos _

/-- A row's sum of weights times gradients is the output times its gradient. -/
theorem dl_eq (n : Fin N) : ∑ d, A.g n d * A.o n d = A.dl n := by
  simp only [o, dl, dp, Finset.mul_sum]
  rw [Finset.sum_comm]
  exact Finset.sum_congr rfl fun j _ => Finset.sum_congr rfl fun d _ => by ring

end Hd

/-- A sum of reals, summed as extended reals. -/
theorem sum_coe {ι : Type*} (s : Finset ι) (F : ι → ℝ) : ∑ i ∈ s, (F i : EReal) = ((∑ i ∈ s, F i : ℝ) : EReal) := by
  classical
  induction s using Finset.induction_on with
  | empty => simp
  | insert a s ha ih => rw [Finset.sum_insert ha, Finset.sum_insert ha, ih, EReal.coe_add]

theorem sum_of {ι : Type*} (s : Finset ι) (G : ι → EReal) (F : ι → ℝ) (h : ∀ i ∈ s, G i = (F i : EReal)) :
    ∑ i ∈ s, G i = ((∑ i ∈ s, F i : ℝ) : EReal) := (Finset.sum_congr rfl h).trans (sum_coe s F)

/-- The greatest of a masked row of reals is a real. -/
theorem max_real (S : Fin N → EReal) (y : Fin N → ℝ) (n : Fin N) (h : ∀ j, S j = if j ≤ n then (y j : EReal) else ⊥) :
    ∃ μ : ℝ, Finset.fold max (⊥ : EReal) S Finset.univ = (μ : EReal) := by
  have h1 : Finset.fold max (⊥ : EReal) S Finset.univ < ⊤ := by
    rw [Finset.fold_max_lt]
    refine ⟨bot_lt_top, fun j _ => ?_⟩
    rw [h j]; split
    · exact EReal.coe_lt_top _
    · exact bot_lt_top
  have h2 : (y n : EReal) ≤ Finset.fold max (⊥ : EReal) S Finset.univ := by
    rw [Finset.le_fold_max]
    exact Or.inr ⟨n, Finset.mem_univ _, by rw [h n, if_pos le_rfl]⟩
  refine ⟨(Finset.fold max (⊥ : EReal) S Finset.univ).toReal, (EReal.coe_toReal h1.ne ?_).symm⟩
  exact ((EReal.bot_lt_coe _).trans_le h2).ne'

/-- A masked row's exponentials. -/
theorem exp_row (s : EReal) (y μ : ℝ) (P : Prop) [Decidable P] (h : s = if P then (y : EReal) else ⊥) :
    Ideal.exp (s - (μ : EReal)) = ((if P then Real.exp (y - μ) else 0 : ℝ) : EReal) := by
  rw [h]; split
  · rw [← EReal.coe_sub, Ideal.exp_coe]
  · rw [EReal.bot_sub]; simp

theorem div_real (a : ℝ) {b : ℝ} (h : b ≠ 0) : Ideal.div (a : EReal) (b : EReal) = ((a / b : ℝ) : EReal) := by
  rw [Ideal.div_coe h, ← EReal.coe_mul]; congr 1; ring

theorem log_real {a : ℝ} (h : 0 < a) : Ideal.log (a : EReal) = ((Real.log a : ℝ) : EReal) := by
  rw [Ideal.log_coe, if_neg (not_le.mpr h)]

/-- The logarithm of a row's sum of exponentials, from the greatest score and the total of the exponentials less it. -/
theorem lse_real {W μ : ℝ} (h : 0 < W) : μ + Real.log (W * Real.exp (-μ)) = Real.log W := by
  rw [Real.log_mul h.ne' (Real.exp_pos _).ne', Real.log_exp]; ring

variable {A}

/-- The reference's row gradients: over a total scaled by `a`, the scale falls out. -/
theorem ds_real (n j : Fin N) {a : ℝ} (ha : 0 < a) :
    (A.dp n j / (A.W n * a) + -∑ j', A.dp n j' * (1 / ((A.W n * a) * (A.W n * a))) * (A.w n j' * a)) * (A.w n j * a)
      = A.ds n j := by
  have hW := (A.W_pos n).ne'
  have e : ∑ j', A.dp n j' * (1 / ((A.W n * a) * (A.W n * a))) * (A.w n j' * a) = A.dl n / (A.W n * a) := by
    unfold Hd.dl; rw [Finset.sum_div]
    refine Finset.sum_congr rfl fun j' _ => ?_
    unfold Hd.p; field_simp
  rw [e]; unfold Hd.ds Hd.p; field_simp; ring

end Cert.Proof.AttnReal

end
-- ==== Proof.Reference.lean ====
/-
  THE REFERENCE OVER THE REALS: from arguments whose entries are real, each stage's entries are the head's real values.
-/
module

public import proofs.«01_k».proof.Proof.StageEntries
public import proofs.«01_k».proof.Proof.Head2

@[expose] public section

set_option maxRecDepth 16384
set_option maxHeartbeats 800000

noncomputable section

namespace Cert.Proof.AttnRef

open Cert.ReferenceIdeal Cert.ReferenceIdeal.Gen
open Idealize.ShloMosaic Idealize.ShloMosaic.TcCoe Idealize.SL.Sem AttnReal

/-- The scale as a real. -/
def scaleR : ℝ := scale.toReal

theorem scale_real : scale = (scaleR : EReal) := by
  unfold scaleR
  refine (EReal.coe_toReal ?_ ?_).symm
  · simp [scale, Ideal.ofBits, Ideal.ieee, -EReal.coe_mul]
  · simp [scale, Ideal.ofBits, Ideal.ieee, -EReal.coe_mul]

/-- Head `h` of real arguments. -/
def head (x0 : Fin 4096 → Fin 6144 → ℝ) (x1 : Fin 4096 → Fin 16 → ℝ) (x2 : Fin 4096 → Fin 2048 → ℝ) (h : Fin 16) : Hd 4096 128 where
  q n d := x0 n (pcol 0 h d)
  k n d := x0 n (pcol 1 h d)
  v n d := x0 n (pcol 2 h d)
  g n d := x2 n (hcol h d)
  f n := x1 n h
  c := scaleR

/-- The three arguments are the real arrays. -/
structure Are (X0 : S4096x6144.Idx → Ideal .bf16) (X1 : S4096x16.Idx → Ideal .f32) (X2 : S4096x2048.Idx → Ideal .bf16)
    (x0 : Fin 4096 → Fin 6144 → ℝ) (x1 : Fin 4096 → Fin 16 → ℝ) (x2 : Fin 4096 → Fin 2048 → ℝ) : Prop where
  h0 : ∀ n j, X0 (ix2 n j) = (x0 n j : EReal)
  h1 : ∀ n j, X1 (ix2 n j) = (x1 n j : EReal)
  h2 : ∀ n j, X2 (ix2 n j) = (x2 n j : EReal)

variable {X0 : S4096x6144.Idx → Ideal .bf16} {X1 : S4096x16.Idx → Ideal .f32} {X2 : S4096x2048.Idx → Ideal .bf16}
    {x0 : Fin 4096 → Fin 6144 → ℝ} {x1 : Fin 4096 → Fin 16 → ℝ} {x2 : Fin 4096 → Fin 2048 → ℝ}

namespace Are

variable (R : Are X0 X1 X2 x0 x1 x2) (h : Fin 16)
include R

theorem q (n : Fin 4096) (d : Fin 128) : qh X0 (ix3 h n d) = ((head x0 x1 x2 h).q n d : EReal) := (qh_at X0 h n d).trans (R.h0 _ _)
theorem k (n : Fin 4096) (d : Fin 128) : kh X0 (ix3 h n d) = ((head x0 x1 x2 h).k n d : EReal) := (kh_at X0 h n d).trans (R.h0 _ _)
theorem v (n : Fin 4096) (d : Fin 128) : vh X0 (ix3 h n d) = ((head x0 x1 x2 h).v n d : EReal) := (vh_at X0 h n d).trans (R.h0 _ _)
theorem g (n : Fin 4096) (d : Fin 128) : gh X2 (ix3 h n d) = ((head x0 x1 x2 h).g n d : EReal) := (gh_at X2 h n d).trans (R.h2 _ _)
theorem f (n : Fin 4096) : fh X1 (ix2 h n) = ((head x0 x1 x2 h).f n : EReal) := (fh_at X1 h n).trans (R.h1 _ _)

/-- A query's product with a key. -/
theorem qk (n j : Fin 4096) : ∑ x, qh X0 (ix3 h n x) * kh X0 (ix3 h j x)
    = ((∑ d, (head x0 x1 x2 h).q n d * (head x0 x1 x2 h).k j d : ℝ) : EReal) :=
  sum_of _ _ _ fun d _ => by rw [R.q, R.k, EReal.coe_mul]

theorem score (n j : Fin 4096) : SC X0 X1 (ix3 h n j)
    = if j ≤ n then (((head x0 x1 x2 h).x n j + (head x0 x1 x2 h).f n : ℝ) : EReal) else ⊥ := by
  unfold SC
  rw [sc_at, R.qk, R.f, R.f, scale_real]
  refine congrArg (fun z : EReal => if j ≤ n then z else ⊥) ?_
  rw [← EReal.coe_mul, ← EReal.coe_add, ← EReal.coe_sub]
  refine congrArg _ ?_
  show (∑ d, (head x0 x1 x2 h).q n d * (head x0 x1 x2 h).k j d) * scaleR + (head x0 x1 x2 h).f n - (head x0 x1 x2 h).f j
    = (∑ d, (head x0 x1 x2 h).q n d * (head x0 x1 x2 h).k j d) * scaleR - (head x0 x1 x2 h).f j + (head x0 x1 x2 h).f n
  ring

/-- A row's exponentials and total: the head's, all scaled by one positive number. -/
theorem row (n : Fin 4096) : ∃ a : ℝ, 0 < a ∧ (∀ j, EX X0 X1 (ix3 h n j) = (((head x0 x1 x2 h).w n j * a : ℝ) : EReal))
    ∧ TOT X0 X1 (ix2 h n) = (((head x0 x1 x2 h).W n * a : ℝ) : EReal) := by
  obtain ⟨μ, hμ⟩ := max_real (fun j => SC X0 X1 (ix3 h n j)) _ n (fun j => R.score h n j)
  have he : ∀ j, EX X0 X1 (ix3 h n j) = (((head x0 x1 x2 h).w n j * Real.exp ((head x0 x1 x2 h).f n - μ) : ℝ) : EReal) := by
    intro j
    unfold EX
    rw [ex_at, mxo_at, hμ, exp_row _ _ _ _ (R.score h n j)]
    refine congrArg _ ?_
    unfold Hd.w
    split
    · rw [← Real.exp_add]; congr 1; ring
    · rw [zero_mul]
  refine ⟨_, Real.exp_pos _, he, ?_⟩
  unfold TOT
  rw [tot_at, sum_of _ _ _ fun j _ => he j, ← Finset.sum_mul]
  rfl

theorem weight (n j : Fin 4096) : Ideal.div (EX X0 X1 (ix3 h n j)) (TOT X0 X1 (ix2 h n)) = ((head x0 x1 x2 h).p n j : EReal) := by
  obtain ⟨a, ha, he, hl⟩ := R.row h n
  have hW := ((head x0 x1 x2 h).W_pos n).ne'
  rw [he, hl, div_real _ (mul_ne_zero hW ha.ne')]
  refine congrArg _ ?_
  unfold Hd.p
  field_simp

theorem dpw (n j : Fin 4096) : dpo (gh X2) (vh X0) (ix3 h n j) = ((head x0 x1 x2 h).dp n j : EReal) := by
  rw [dpo_at]
  exact sum_of _ _ _ fun d _ => by rw [R.g, R.v, EReal.coe_mul]

theorem dsw (n j : Fin 4096) : DSO X0 X1 X2 (ix3 h n j) = ((head x0 x1 x2 h).ds n j : EReal) := by
  obtain ⟨a, ha, he, hl⟩ := R.row h n
  have hW := ((head x0 x1 x2 h).W_pos n).ne'
  have hWa := mul_ne_zero hW ha.ne'
  unfold DSO
  rw [dso_at]
  split
  · rw [sum_of _ _ (fun j' => (head x0 x1 x2 h).dp n j' * (1 / (((head x0 x1 x2 h).W n * a) * ((head x0 x1 x2 h).W n * a))) * ((head x0 x1 x2 h).w n j' * a))
      fun j' _ => by rw [R.dpw, he, hl, ← EReal.coe_mul, ← EReal.coe_one, div_real _ (mul_ne_zero hWa hWa), ← EReal.coe_mul, ← EReal.coe_mul]]
    rw [R.dpw, he, hl, div_real _ hWa, ← EReal.coe_neg, ← EReal.coe_add, ← EReal.coe_mul, ds_real n j ha]
  · rename_i hj
    unfold Hd.ds Hd.p Hd.w
    rw [if_neg hj]
    simp

theorem dq (n : Fin 4096) (d : Fin 128) : dqo (DSO X0 X1 X2) (kh X0) (ix3 h n d)
    = ((∑ j, (head x0 x1 x2 h).ds n j * scaleR * (head x0 x1 x2 h).k j d : ℝ) : EReal) := by
  rw [dqo_at]
  exact sum_of _ _ _ fun j _ => by rw [R.dsw, R.k, scale_real, EReal.coe_mul, EReal.coe_mul]

theorem dk (n : Fin 4096) (d : Fin 128) : dko (DSO X0 X1 X2) (qh X0) (ix3 h n d)
    = ((∑ j, (head x0 x1 x2 h).ds j n * scaleR * (head x0 x1 x2 h).q j d : ℝ) : EReal) := by
  rw [dko_at]
  exact sum_of _ _ _ fun j _ => by rw [R.dsw, R.q, scale_real, EReal.coe_mul, EReal.coe_mul]

theorem dv (n : Fin 4096) (d : Fin 128) : dvo (gh X2) (EX X0 X1) (TOT X0 X1) (ix3 h n d)
    = ((∑ j, (head x0 x1 x2 h).g j d * (head x0 x1 x2 h).p j n : ℝ) : EReal) := by
  rw [dvo_at]
  exact sum_of _ _ _ fun j _ => by rw [R.g, R.weight, EReal.coe_mul]

theorem rows (n : Fin 4096) : ∑ j, DSO X0 X1 X2 (ix3 h n j) = ((∑ j, (head x0 x1 x2 h).ds n j : ℝ) : EReal) :=
  sum_of _ _ _ fun j _ => R.dsw h n j

theorem cols (n : Fin 4096) : -∑ j, -DSO X0 X1 X2 (ix3 h j n) = ((∑ j, (head x0 x1 x2 h).ds j n : ℝ) : EReal) := by
  rw [sum_of _ _ (fun j => -(head x0 x1 x2 h).ds j n) fun j _ => by rw [R.dsw, EReal.coe_neg], ← EReal.coe_neg, Finset.sum_neg_distrib, neg_neg]

end Are

end Cert.Proof.AttnRef

end
-- ==== Proof.Sums.lean ====
/-
  READING BY NUMBERS. A matrix of extended reals read at two natural numbers (zero outside), the windows and the puts of
  a tile of rows in these terms, and the sums the causal tiling needs: a row's (or a column's) sum over the tiles that the
  loops visit is its sum over everything, because what is not visited is above the diagonal and zero.
-/
module

public import Idealize.ShloMosaic.Lib.Pointwise
public import Idealize.ShloMosaic.Lib.VecWindow
public import proofs.«01_k».proof.Proof.Model

@[expose] public section

noncomputable section

namespace Cert.Proof.AttnBwd

open Idealize.ShloMosaic

/-- A matrix at two numbers, zero outside. -/
def rd {m n : ℕ} (A : (⟨2, ![m, n]⟩ : Shape).Idx → EReal) (a b : ℕ) : EReal :=
  if h : a < m ∧ b < n then A (ix2 ⟨a, h.1⟩ ⟨b, h.2⟩) else 0

theorem rd_ix {m n : ℕ} (A : (⟨2, ![m, n]⟩ : Shape).Idx → EReal) (a : Fin m) (b : Fin n) : A (ix2 a b) = rd A a.val b.val := by
  unfold rd; rw [dif_pos ⟨a.isLt, b.isLt⟩]

theorem rd_of {m n : ℕ} (A : (⟨2, ![m, n]⟩ : Shape).Idx → EReal) {a b : ℕ} (ha : a < m) (hb : b < n) : rd A a b = A (ix2 ⟨a, ha⟩ ⟨b, hb⟩) := by
  unfold rd; rw [dif_pos ⟨ha, hb⟩]

/-- A window of whole rows, read. -/
theorem window_at {m n p : ℕ} (A : (⟨2, ![m, n]⟩ : Shape).Idx → EReal) (off : Fin 2 → ℕ) (o : ℕ) (ho : off = ![o, 0])
    (inb : ∀ a : Fin 2, off a + (![p, n] : Fin 2 → ℕ) a ≤ (![m, n] : Fin 2 → ℕ) a) (r : Fin p) (d : Fin n) :
    VecWindow.window (s := ⟨2, ![m, n]⟩) A off ![p, n] inb (ix2 r d) = rd A (o + r.val) d.val := by
  subst ho
  have hr : o + r.val < m := by
    have := inb 0
    have h : o + p ≤ m := this
    have := r.isLt
    omega
  rw [rd_of A hr d.isLt]
  show A _ = A _
  congr 1
  funext a
  apply Fin.ext
  match a with
  | 0 => show o + 1 * r.val = o + r.val; omega
  | 1 => show 0 + 1 * d.val = d.val; omega

/-- A put of whole rows, read. -/
theorem put_at {m n p : ℕ} (A : (⟨2, ![m, n]⟩ : Shape).Idx → EReal) (off : Fin 2 → ℕ) (o : ℕ) (ho : off = ![o, 0])
    (w : (⟨2, ![p, n]⟩ : Shape).Idx → EReal) {a b : ℕ} (ha : a < m) (hb : b < n) :
    rd (VecWindow.put (s := ⟨2, ![m, n]⟩) A off ![p, n] w) a b = if o ≤ a ∧ a < o + p then rd w (a - o) b else rd A a b := by
  subst ho
  rw [rd_of _ ha hb]
  by_cases h : o ≤ a ∧ a < o + p
  · rw [if_pos h]
    have hc : ∀ x : Fin 2, (![o, 0] : Fin 2 → ℕ) x ≤ ((ix2 (⟨a, ha⟩ : Fin m) (⟨b, hb⟩ : Fin n)) x).val
        ∧ ((ix2 (⟨a, ha⟩ : Fin m) (⟨b, hb⟩ : Fin n)) x).val < (![o, 0] : Fin 2 → ℕ) x + (![p, n] : Fin 2 → ℕ) x := by
      intro x
      match x with
      | 0 => exact h
      | 1 => exact ⟨Nat.zero_le _, by show b < 0 + n; omega⟩
    have hx : a - o < p := by omega
    rw [rd_of w hx hb]
    unfold VecWindow.put
    rw [dif_pos hc]
    congr 1
    funext x
    apply Fin.ext
    match x with
    | 0 => rfl
    | 1 => rfl
  · rw [if_neg h, rd_of A ha hb]
    unfold VecWindow.put
    rw [dif_neg]
    intro hc
    exact h (hc 0)

/-- A put that adds to what its rows held, read: the sum, inside the rows. -/
theorem put_add {m n p : ℕ} (A : (⟨2, ![m, n]⟩ : Shape).Idx → EReal) (off : Fin 2 → ℕ) (o : ℕ) (ho : off = ![o, 0])
    (w : (⟨2, ![p, n]⟩ : Shape).Idx → EReal) (D : ℕ → ℕ → EReal)
    (hw : ∀ (r : Fin p) (d : Fin n), w (ix2 r d) = rd A (o + r.val) d.val + D (o + r.val) d.val) {a b : ℕ} (ha : a < m) (hb : b < n) :
    rd (VecWindow.put (s := ⟨2, ![m, n]⟩) A off ![p, n] w) a b = rd A a b + if o ≤ a ∧ a < o + p then D a b else 0 := by
  rw [put_at A off o ho w ha hb]
  by_cases h : o ≤ a ∧ a < o + p
  · rw [if_pos h, if_pos h]
    have hx : a - o < p := by omega
    rw [rd_of w hx hb, hw]
    show rd A (o + (a - o)) b + D (o + (a - o)) b = _
    have e : o + (a - o) = a := by omega
    rw [e]
  · rw [if_neg h, if_neg h, add_zero]

/-- A run of steps that each add, observed. -/
theorem iter_add {α : Type} {T : ℕ} (s : Fin T → α → α) (obs : α → EReal) (D : ℕ → EReal)
    (h : ∀ (k : Fin T) (a : α), obs (s k a) = obs a + D k.val) (a : α) :
    ∀ n, n ≤ T → obs (iter s a n) = obs a + ∑ k ∈ Finset.range n, D k
  | 0, _ => by simp [iter]
  | n + 1, hn => by
      rw [iter_succ s a ⟨n, hn⟩, h, iter_add s obs D h a n (by omega), Finset.sum_range_succ, add_assoc]

/-- A sum over `k` tiles of 1024. -/
theorem sum_blocks (F : ℕ → EReal) : ∀ k, ∑ x ∈ Finset.range (1024 * k), F x = ∑ t ∈ Finset.range k, ∑ c ∈ Finset.range 1024, F (1024 * t + c)
  | 0 => by simp
  | k + 1 => by rw [Nat.mul_succ, Finset.sum_range_add, sum_blocks F k, ← Finset.sum_range_succ (fun t => ∑ c ∈ Finset.range 1024, F (1024 * t + c))]

/-- A sum over 4096 is a sum of four sums over 1024. -/
theorem sum_four (F : ℕ → EReal) :
    ∑ t ∈ Finset.range 4, ∑ c ∈ Finset.range 1024, F (1024 * t + c) = ∑ x ∈ Finset.range 4096, F x :=
  (sum_blocks F 4).symm

/-- A sum over 1024 is a sum of two sums over 512. -/
theorem sum_two (F : ℕ → EReal) (o : ℕ) :
    ∑ c ∈ Finset.range 1024, F (o + c) = ∑ c ∈ Finset.range 512, F (o + c) + ∑ c ∈ Finset.range 512, F (o + 512 + c) := by
  have e : (1024 : ℕ) = 512 + 512 := rfl
  rw [e, Finset.sum_range_add]
  simp only [Nat.add_assoc]

/-- What one column tile adds at row `n`: the strips of the diagonal tile, then the row tiles below. -/
theorem tile_sum (F : ℕ → EReal) (n t : ℕ) (hn : n < 4096) (hF : ∀ x, n < x → F x = 0) :
    (if 1024 * t ≤ n ∧ n < 1024 * t + 1024 then ∑ c ∈ Finset.range 512, F (1024 * t + c) else 0)
      + (if 1024 * t + 512 ≤ n ∧ n < 1024 * t + 512 + 512 then ∑ c ∈ Finset.range 512, F (1024 * t + 512 + c) else 0)
      + (∑ j ∈ Finset.range (3 - t), if 1024 * t + 1024 * j + 1024 ≤ n ∧ n < 1024 * t + 1024 * j + 1024 + 1024
          then ∑ c ∈ Finset.range 1024, F (1024 * t + c) else 0)
      = ∑ c ∈ Finset.range 1024, F (1024 * t + c) := by
  by_cases h1 : n < 1024 * t
  · rw [if_neg (by omega), if_neg (by omega), Finset.sum_eq_zero, Finset.sum_eq_zero, add_zero, add_zero]
    · intro c _; exact hF _ (by omega)
    · intro j _; rw [if_neg (by omega)]
  · by_cases h2 : n < 1024 * t + 1024
    · have e3 : (∑ j ∈ Finset.range (3 - t), if 1024 * t + 1024 * j + 1024 ≤ n ∧ n < 1024 * t + 1024 * j + 1024 + 1024
          then ∑ c ∈ Finset.range 1024, F (1024 * t + c) else 0) = 0 :=
        Finset.sum_eq_zero fun j _ => by rw [if_neg (by omega)]
      rw [if_pos (by omega), e3, add_zero, sum_two]
      by_cases h3 : n < 1024 * t + 512
      · rw [if_neg (by omega), add_zero]
        have : ∑ c ∈ Finset.range 512, F (1024 * t + 512 + c) = 0 := Finset.sum_eq_zero fun c _ => hF _ (by omega)
        rw [this, add_zero]
      · rw [if_pos (by omega)]
    · rw [if_neg (by omega), if_neg (by omega), add_zero, zero_add]
      rw [Finset.sum_eq_single ((n - (1024 * t + 1024)) / 1024)]
      · rw [if_pos (by omega)]
      · intro j _ hj; rw [if_neg (by omega)]
      · intro h; exact absurd (Finset.mem_range.2 (by omega)) h

/-- What the rows add at column `1024 t + c`: the strip of the diagonal tile that holds it, then the row tiles below. -/
theorem col_sum (G : ℕ → EReal) (t c : ℕ) (ht : t < 4) (hc : c < 1024) (hG : ∀ r, r < 1024 * t + c → G r = 0) :
    (if c < 512 then ∑ r ∈ Finset.range 1024, G (1024 * t + r) else ∑ r ∈ Finset.range 512, G (1024 * t + 512 + r))
      + (∑ j ∈ Finset.range (3 - t), ∑ r ∈ Finset.range 1024, G (1024 * t + 1024 * j + 1024 + r))
      = ∑ r ∈ Finset.range 4096, G r := by
  have e1 : (if c < 512 then ∑ r ∈ Finset.range 1024, G (1024 * t + r) else ∑ r ∈ Finset.range 512, G (1024 * t + 512 + r))
      = ∑ r ∈ Finset.range 1024, G (1024 * t + r) := by
    by_cases h : c < 512
    · rw [if_pos h]
    · have : ∑ r ∈ Finset.range 512, G (1024 * t + r) = 0 := Finset.sum_eq_zero fun r hr => hG _ (by have := Finset.mem_range.1 hr; omega)
      rw [if_neg h, sum_two, this, zero_add]
  have e2 : ∑ r ∈ Finset.range 4096, G r = ∑ r ∈ Finset.range (4096 - 1024 * t), G (1024 * t + r) := by
    conv_lhs => rw [show (4096 : ℕ) = 1024 * t + (4096 - 1024 * t) by omega]
    rw [Finset.sum_range_add, Finset.sum_eq_zero, zero_add]
    intro r hr; exact hG _ (by have := Finset.mem_range.1 hr; omega)
  rw [e1, e2]
  rw [show 4096 - 1024 * t = 1024 * (3 - t + 1) by omega, sum_blocks (fun r => G (1024 * t + r)), Finset.sum_range_succ' (fun j => ∑ c ∈ Finset.range 1024, G (1024 * t + (1024 * j + c))), add_comm]
  refine congrArg₂ (· + ·) (Finset.sum_congr rfl fun j _ => Finset.sum_congr rfl fun r _ => congrArg G ?_) (Finset.sum_congr rfl fun r _ => congrArg G ?_)
  · omega
  · omega

end Cert.Proof.AttnBwd

end
-- ==== Proof.Entries.lean ====
/-
  THE TILES' ENTRIES at the ideal instance. With `P n j` the weight of key `j` for query `n` (zero above the diagonal) and
  `DS n j` the gradient of its logit, every tile the body forms holds these at its own rows and columns.
-/
module

public import proofs.«01_k».proof.Proof.Sums
public import Idealize.ShloMosaic.Lib.WordCmp

@[expose] public section

set_option maxHeartbeats 800000

noncomputable section

namespace Cert.Proof.AttnBwd

open Cert.KernelIdeal Cert.KernelIdeal.Gen
open Idealize.ShloMosaic

/-- The word of 1/√128 as the programs spell it. -/
abbrev cst : EReal := Ideal.ofBits .f32 0x3DB504F3#32

theorem sel_le {α : Type} {a b : ℕ} (ha : a < 2147483648) (hb : b < 2147483648) (x y : α) :
    Scalar.select (IntOp.cmpi .sle (BitVec.ofNat 32 a) (BitVec.ofNat 32 b)) x y = if a ≤ b then x else y := by
  rw [WordCmp.cmpi_sle_ofNat (by simpa using ha) (by simpa using hb), Scalar.select_ofBool]
  simp

theorem sel_eq {α : Type} {a b : ℕ} (ha : a < 4294967296) (hb : b < 4294967296) (x y : α) :
    Scalar.select (IntOp.cmpi .eq (BitVec.ofNat 32 a) (BitVec.ofNat 32 b)) x y = if a = b then x else y := by
  rw [WordCmp.cmpi_eq_eq, Scalar.select_ofBool]
  have : (BitVec.ofNat 32 a = BitVec.ofNat 32 b) ↔ a = b := WordCmp.ofNat_eq_ofNat_iff (by simpa using ha) (by simpa using hb)
  simp [this]

namespace Blk

variable (i : grid0.Coords) (B : Blk Ideal) (t : Fin k0_t2_loop.trips)

/-- The key gate of key `n`. -/
def rf (n : ℕ) : EReal := if h : n < 4096 then B.fk (ix3 ⟨n / 1024, by omega⟩ ⟨(i 0).val, (i 0).isLt⟩ ⟨n % 1024, Nat.mod_lt _ (by omega)⟩) else 0

/-- The logit less the log-sum-exp. -/
def sc (n j : ℕ) : EReal := (∑ d : Fin 128, rd B.q n d.val * rd B.k j d.val) * cst - B.rf i j - rd B.lse n 0
/-- The weight. -/
def P (n j : ℕ) : EReal := if j ≤ n then Ideal.exp (B.sc i n j) else 0
/-- The logit's gradient. -/
def DS (n j : ℕ) : EReal := B.P i n j * ((∑ d : Fin 128, rd B.g n d.val * rd B.v j d.val) - rd B.delta n 0)

theorem P_above {n j : ℕ} (h : n < j) : B.P i n j = 0 := if_neg (by omega)
theorem DS_above {n j : ℕ} (h : n < j) : B.DS i n j = 0 := by unfold DS; rw [P_above i B h, zero_mul]

theorem tk_at (c : Fin 1024) (d : Fin 128) : B.tk t (ix2 c d) = rd B.k (1024 * t.val + c.val) d.val := window_at _ _ _ (k0_off3_eq t) _ c d
theorem tv_at (c : Fin 1024) (d : Fin 128) : B.tv t (ix2 c d) = rd B.v (1024 * t.val + c.val) d.val := window_at _ _ _ (k0_off3_eq t) _ c d
theorem q0_at (c : Fin 1024) (d : Fin 128) : B.q0 t (ix2 c d) = rd B.q (1024 * t.val + c.val) d.val := window_at _ _ _ (k0_off5_eq t) _ c d
theorem g0_at (c : Fin 1024) (d : Fin 128) : B.g0 t (ix2 c d) = rd B.g (1024 * t.val + c.val) d.val := window_at _ _ _ (k0_off5_eq t) _ c d
theorem l0_at (c : Fin 1024) (d : Fin 1) : B.l0 t (ix2 c d) = rd B.lse (1024 * t.val + c.val) d.val := window_at _ _ _ (k0_off6_eq t) _ c d
theorem d0_at (c : Fin 1024) (d : Fin 1) : B.d0 t (ix2 c d) = rd B.delta (1024 * t.val + c.val) d.val := window_at _ _ _ (k0_off6_eq t) _ c d
theorem q1_at (c : Fin 512) (d : Fin 128) : B.q1 t (ix2 c d) = rd B.q (1024 * t.val + 512 + c.val) d.val := window_at _ _ _ (k0_off7_eq t) _ c d
theorem g1_at (c : Fin 512) (d : Fin 128) : B.g1 t (ix2 c d) = rd B.g (1024 * t.val + 512 + c.val) d.val := window_at _ _ _ (k0_off7_eq t) _ c d
theorem l1_at (c : Fin 512) (d : Fin 1) : B.l1 t (ix2 c d) = rd B.lse (1024 * t.val + 512 + c.val) d.val := window_at _ _ _ (k0_off8_eq t) _ c d
theorem d1_at (c : Fin 512) (d : Fin 1) : B.d1 t (ix2 c d) = rd B.delta (1024 * t.val + 512 + c.val) d.val := window_at _ _ _ (k0_off8_eq t) _ c d

theorem t2_lt : t.val < 4 := lt_of_lt_of_eq t.isLt (by decide)

theorem tf_at (c : Fin 1024) : B.tf i t (ix3 0 0 c) = B.rf i (1024 * t.val + c.val) := by
  have ht := t2_lt t
  have hc := c.isLt
  unfold rf
  rw [dif_pos (by omega)]
  show B.fk _ = B.fk _
  congr 1
  funext a
  apply Fin.ext
  have e : ∀ a : Fin 3, k0_off4 i t a = (![t.val, (i 0).val, 0] : Fin 3 → ℕ) a := fun a => congrFun (k0_off4_eq i t) a
  match a with
  | 0 => show k0_off4 i t 0 + 1 * 0 = (1024 * t.val + c.val) / 1024; rw [e]; show t.val + 1 * 0 = _; omega
  | 1 => show k0_off4 i t 1 + 1 * 0 = (i 0).val; rw [e]; show (i 0).val + 1 * 0 = _; omega
  | 2 => show k0_off4 i t 2 + 1 * c.val = (1024 * t.val + c.val) % 1024; rw [e]; show 0 + 1 * c.val = _; omega

/-- The first strip's weights. -/
theorem p0_at (r : Fin 1024) (c : Fin 512) :
    k0_pay33 (B.tk t) (B.tf i t) (B.q0 t) (B.l0 t) (ix2 r c) = B.P i (1024 * t.val + r.val) (1024 * t.val + c.val) := by
  pointwise [k0_pay33, k0_pay31, k0_pay32]
  rw [sel_le (by omega) (by omega)]
  simp only [tk_at, q0_at, l0_at, tf_at]
  unfold P sc
  by_cases h : c.val ≤ r.val
  · rw [if_pos h, if_pos (by omega)]; rfl
  · rw [if_neg h, if_neg (by omega)]

theorem ds0_at (r : Fin 1024) (c : Fin 512) : B.ds0 i t (ix2 r c) = B.DS i (1024 * t.val + r.val) (1024 * t.val + c.val) := by
  have h := B.p0_at i t r c
  unfold ds0 DS
  rw [← h]
  pointwise [k0_pay34]
  simp only [tv_at, g0_at, d0_at]
  rfl

theorem dsb0_at (r : Fin 1024) (c : Fin 512) : B.dsb0 i t (ix2 r c) = B.DS i (1024 * t.val + r.val) (1024 * t.val + c.val) := B.ds0_at i t r c

/-- The second strip's weights. -/
theorem p1_at (r : Fin 512) (c : Fin 512) :
    k0_pay45 (B.p1 i t) k0_pay44 (ix2 r c) = B.P i (1024 * t.val + 512 + r.val) (1024 * t.val + 512 + c.val) := by
  unfold p1
  pointwise [k0_pay45, k0_pay44, k0_pay43, k0_pay31, k0_pay41]
  rw [sel_le (by omega) (by omega)]
  simp only [tk_at, q1_at, l1_at, tf_at]
  unfold P sc
  by_cases h : c.val ≤ r.val
  · rw [if_pos h, if_pos (by omega)]; simp only [← Nat.add_assoc]; rfl
  · rw [if_neg h, if_neg (by omega)]

theorem ds1_at (r : Fin 512) (c : Fin 512) :
    k0_pay46 (k0_pay42 (B.tv t)) (B.g1 t) (B.p1 i t) k0_pay44 (B.d1 t) (ix2 r c) = B.DS i (1024 * t.val + 512 + r.val) (1024 * t.val + 512 + c.val) := by
  unfold DS
  rw [← B.p1_at i t r c]
  unfold k0_pay46
  generalize k0_pay45 (B.p1 i t) k0_pay44 = p
  pointwise [k0_pay42]
  simp only [tv_at, g1_at, d1_at, ← Nat.add_assoc]
  rfl

section Row
variable (j : Fin (k0_t3_loop t).trips)

theorem qj_at (c : Fin 1024) (d : Fin 128) : B.qj t j (ix2 c d) = rd B.q (1024 * t.val + 1024 * j.val + 1024 + c.val) d.val := window_at _ _ _ (k0_off9_eq t j) _ c d
theorem gj_at (c : Fin 1024) (d : Fin 128) : B.gj t j (ix2 c d) = rd B.g (1024 * t.val + 1024 * j.val + 1024 + c.val) d.val := window_at _ _ _ (k0_off9_eq t j) _ c d
theorem lj_at (c : Fin 1024) (d : Fin 1) : B.lj t j (ix2 c d) = rd B.lse (1024 * t.val + 1024 * j.val + 1024 + c.val) d.val := window_at _ _ _ (k0_off10_eq t j) _ c d
theorem dj_at (c : Fin 1024) (d : Fin 1) : B.dj t j (ix2 c d) = rd B.delta (1024 * t.val + 1024 * j.val + 1024 + c.val) d.val := window_at _ _ _ (k0_off10_eq t j) _ c d

/-- A row tile's weights. -/
theorem pj_at (r : Fin 1024) (c : Fin 1024) :
    k0_pay17 (B.tk t) (k0_pay31 (B.tf i t)) (B.qj t j) (B.lj t j) (ix2 r c)
      = B.P i (1024 * t.val + 1024 * j.val + 1024 + r.val) (1024 * t.val + c.val) := by
  pointwise [k0_pay17, k0_pay31]
  simp only [tk_at, qj_at, lj_at, tf_at]
  unfold P sc
  rw [if_pos (by omega)]; rfl

theorem dsj_at (r : Fin 1024) (c : Fin 1024) :
    k0_pay18 (B.tk t) (B.tv t) (k0_pay31 (B.tf i t)) (B.qj t j) (B.gj t j) (B.lj t j) (B.dj t j) (ix2 r c)
      = B.DS i (1024 * t.val + 1024 * j.val + 1024 + r.val) (1024 * t.val + c.val) := by
  unfold DS
  rw [← B.pj_at i t j r c]
  unfold k0_pay18
  generalize k0_pay17 (B.tk t) (k0_pay31 (B.tf i t)) (B.qj t j) (B.lj t j) = p
  pointwise []
  simp only [tv_at, gj_at, dj_at]
  rfl

end Row

end Blk

end Cert.Proof.AttnBwd

end
-- ==== Proof.Walk.lean ====
/-
  THE LOOPS' SUMS at the ideal instance: what a column tile adds to the accumulator of q's gradient and to the column of the
  query gates' gradient, and what it carries for k, v and the key gates — each a sum over all 4096 queries or keys of the
  head's weights `P` and logit gradients `DS`.
-/
module

public import proofs.«01_k».proof.Proof.Entries
public import proofs.«01_k».proof.Proof.Cover

@[expose] public section

set_option maxHeartbeats 800000

noncomputable section

namespace Cert.Proof.AttnBwd

open Cert.KernelIdeal Cert.KernelIdeal.Gen
open Idealize.ShloMosaic

theorem t3_trips : ∀ t : Fin k0_t2_loop.trips, (k0_t3_loop t).trips = 3 - t.val := by decide +kernel

theorem sum_fin (n : ℕ) (f : ℕ → EReal) : ∑ x : Fin n, f x.val = ∑ x ∈ Finset.range n, f x := Fin.sum_univ_eq_sum_range f n

namespace Blk

variable (i : grid0.Coords) (B : Blk Ideal) (t : Fin k0_t2_loop.trips)

theorem dqA_at (A : S4096x128.Idx → EReal) {n d : ℕ} (hn : n < 4096) (hd : d < 128) :
    rd (B.dqA i t A) n d = rd A n d + if 1024 * t.val ≤ n ∧ n < 1024 * t.val + 1024
      then ∑ c ∈ Finset.range 512, B.DS i n (1024 * t.val + c) * rd B.k (1024 * t.val + c) d else 0 := by
  refine put_add A _ (1024 * t.val) (k0_off5_eq t) _ (fun n d => ∑ c ∈ Finset.range 512, B.DS i n (1024 * t.val + c) * rd B.k (1024 * t.val + c) d) ?_ hn hd
  intro r d
  have hw := window_at A _ _ (k0_off5_eq t) (k0_off5_inb t) r d
  rw [← hw, ← sum_fin 512 fun c => B.DS i (1024 * t.val + r.val) (1024 * t.val + c) * rd B.k (1024 * t.val + c) d.val]
  generalize VecWindow.window A (k0_off5 t) _ _ = w
  pointwise [k0_pay38, k0_pay32]
  simp only [tk_at, dsb0_at]

theorem dqB_at (A : S4096x128.Idx → EReal) {n d : ℕ} (hn : n < 4096) (hd : d < 128) :
    rd (B.dqB i t A) n d = rd A n d + if 1024 * t.val + 512 ≤ n ∧ n < 1024 * t.val + 512 + 512
      then ∑ c ∈ Finset.range 512, B.DS i n (1024 * t.val + 512 + c) * rd B.k (1024 * t.val + 512 + c) d else 0 := by
  refine put_add A _ (1024 * t.val + 512) (k0_off7_eq t) _ (fun n d => ∑ c ∈ Finset.range 512, B.DS i n (1024 * t.val + 512 + c) * rd B.k (1024 * t.val + 512 + c) d) ?_ hn hd
  intro r d
  have hw := window_at A _ _ (k0_off7_eq t) (k0_off7_inb t) r d
  rw [← hw, ← sum_fin 512 fun c => B.DS i (1024 * t.val + 512 + r.val) (1024 * t.val + 512 + c) * rd B.k (1024 * t.val + 512 + c) d.val]
  generalize VecWindow.window A (k0_off7 t) _ _ = w
  have h := B.ds1_at i t
  unfold k0_pay48 k0_pay47
  generalize k0_pay46 (F := Ideal) _ _ _ _ _ = ds at h ⊢
  pointwise [k0_pay41]
  simp only [tk_at, h, ← Nat.add_assoc]

theorem dfA_at (A : S4096x1.Idx → EReal) {n : ℕ} (hn : n < 4096) :
    rd (B.dfA i t A) n 0 = rd A n 0 + if 1024 * t.val ≤ n ∧ n < 1024 * t.val + 1024
      then ∑ c ∈ Finset.range 512, B.DS i n (1024 * t.val + c) else 0 := by
  refine put_add A _ (1024 * t.val) (k0_off6_eq t) _ (fun n _ => ∑ c ∈ Finset.range 512, B.DS i n (1024 * t.val + c)) ?_ hn Nat.one_pos
  intro r d
  have hw := window_at A _ _ (k0_off6_eq t) (k0_off6_inb t) r d
  rw [← hw, ← sum_fin 512 fun c => B.DS i (1024 * t.val + r.val) (1024 * t.val + c)]
  generalize VecWindow.window A (k0_off6 t) _ _ = w
  pointwise [k0_pay39]
  simp only [ds0_at]

theorem dfB_at (A : S4096x1.Idx → EReal) {n : ℕ} (hn : n < 4096) :
    rd (B.dfB i t A) n 0 = rd A n 0 + if 1024 * t.val + 512 ≤ n ∧ n < 1024 * t.val + 512 + 512
      then ∑ c ∈ Finset.range 512, B.DS i n (1024 * t.val + 512 + c) else 0 := by
  refine put_add A _ (1024 * t.val + 512) (k0_off8_eq t) _ (fun n _ => ∑ c ∈ Finset.range 512, B.DS i n (1024 * t.val + 512 + c)) ?_ hn Nat.one_pos
  intro r d
  have hw := window_at A _ _ (k0_off8_eq t) (k0_off8_inb t) r d
  rw [← hw, ← sum_fin 512 fun c => B.DS i (1024 * t.val + 512 + r.val) (1024 * t.val + 512 + c)]
  generalize VecWindow.window A (k0_off8 t) _ _ = w
  have h := B.ds1_at i t
  unfold k0_pay49
  generalize k0_pay46 (F := Ideal) _ _ _ _ _ = ds at h ⊢
  pointwise []
  simp only [h]

theorem dqS_at (j : Fin (k0_t3_loop t).trips) (A : S4096x128.Idx → EReal) {n d : ℕ} (hn : n < 4096) (hd : d < 128) :
    rd (B.dqS i t j A) n d = rd A n d + if 1024 * t.val + 1024 * j.val + 1024 ≤ n ∧ n < 1024 * t.val + 1024 * j.val + 1024 + 1024
      then ∑ c ∈ Finset.range 1024, B.DS i n (1024 * t.val + c) * rd B.k (1024 * t.val + c) d else 0 := by
  refine put_add A _ (1024 * t.val + 1024 * j.val + 1024) (k0_off9_eq t j) _ (fun n d => ∑ c ∈ Finset.range 1024, B.DS i n (1024 * t.val + c) * rd B.k (1024 * t.val + c) d) ?_ hn hd
  intro r d
  have hw := window_at A _ _ (k0_off9_eq t j) (k0_off9_inb t j) r d
  rw [← hw, ← sum_fin 1024 fun c => B.DS i (1024 * t.val + 1024 * j.val + 1024 + r.val) (1024 * t.val + c) * rd B.k (1024 * t.val + c) d.val]
  generalize VecWindow.window A (k0_off9 t j) _ _ = w
  have h := B.dsj_at i t j
  unfold k0_pay22 k0_pay19
  generalize k0_pay18 (F := Ideal) _ _ _ _ _ _ _ = ds at h ⊢
  pointwise []
  simp only [tk_at, h]

theorem dfS_at (j : Fin (k0_t3_loop t).trips) (A : S4096x1.Idx → EReal) {n : ℕ} (hn : n < 4096) :
    rd (B.dfS i t j A) n 0 = rd A n 0 + if 1024 * t.val + 1024 * j.val + 1024 ≤ n ∧ n < 1024 * t.val + 1024 * j.val + 1024 + 1024
      then ∑ c ∈ Finset.range 1024, B.DS i n (1024 * t.val + c) else 0 := by
  refine put_add A _ (1024 * t.val + 1024 * j.val + 1024) (k0_off10_eq t j) _ (fun n _ => ∑ c ∈ Finset.range 1024, B.DS i n (1024 * t.val + c)) ?_ hn Nat.one_pos
  intro r d
  have hw := window_at A _ _ (k0_off10_eq t j) (k0_off10_inb t j) r d
  rw [← hw, ← sum_fin 1024 fun c => B.DS i (1024 * t.val + 1024 * j.val + 1024 + r.val) (1024 * t.val + c)]
  generalize VecWindow.window A (k0_off10 t j) _ _ = w
  have h := B.dsj_at i t j
  unfold k0_pay53 k0_pay23
  generalize k0_pay18 (F := Ideal) _ _ _ _ _ _ _ = ds at h ⊢
  pointwise []
  simp only [h]

/-- A column tile adds its part of the row's sum to the accumulator of q's gradient. -/
theorem dq_at (A : S4096x128.Idx → EReal) {n d : ℕ} (hn : n < 4096) (hd : d < 128) :
    rd (B.dq i t A) n d = rd A n d + ∑ c ∈ Finset.range 1024, B.DS i n (1024 * t.val + c) * rd B.k (1024 * t.val + c) d := by
  have h := iter_add (fun j A => B.dqS i t j A) (fun A : S4096x128.Idx → EReal => rd A n d)
    (fun j => if 1024 * t.val + 1024 * j + 1024 ≤ n ∧ n < 1024 * t.val + 1024 * j + 1024 + 1024
      then ∑ c ∈ Finset.range 1024, B.DS i n (1024 * t.val + c) * rd B.k (1024 * t.val + c) d else 0)
    (fun j A => B.dqS_at i t j A hn hd) (B.dqB i t (B.dqA i t A)) _ le_rfl
  refine h.trans ?_
  rw [t3_trips]
  show rd (B.dqB i t (B.dqA i t A)) n d + _ = _
  rw [B.dqB_at i t _ hn hd, B.dqA_at i t A hn hd, add_assoc (rd A n d), add_assoc (rd A n d)]
  exact congrArg (rd A n d + ·) (tile_sum (fun x => B.DS i n x * rd B.k x d) n t.val hn
    (fun x hx => by show B.DS i n x * _ = 0; rw [B.DS_above i hx, zero_mul]))

/-- A column tile adds its part of the row's sum to the column of the query gates' gradient. -/
theorem df_at (A : S4096x1.Idx → EReal) {n : ℕ} (hn : n < 4096) :
    rd (B.df i t A) n 0 = rd A n 0 + ∑ c ∈ Finset.range 1024, B.DS i n (1024 * t.val + c) := by
  have h := iter_add (fun j A => B.dfS i t j A) (fun A : S4096x1.Idx → EReal => rd A n 0)
    (fun j => if 1024 * t.val + 1024 * j + 1024 ≤ n ∧ n < 1024 * t.val + 1024 * j + 1024 + 1024
      then ∑ c ∈ Finset.range 1024, B.DS i n (1024 * t.val + c) else 0)
    (fun j A => B.dfS_at i t j A hn) (B.dfB i t (B.dfA i t A)) _ le_rfl
  refine h.trans ?_
  rw [t3_trips]
  show rd (B.dfB i t (B.dfA i t A)) n 0 + _ = _
  rw [B.dfB_at i t _ hn, B.dfA_at i t A hn, add_assoc (rd A n 0), add_assoc (rd A n 0)]
  exact congrArg (rd A n 0 + ·) (tile_sum (fun x => B.DS i n x) n t.val hn (fun x hx => B.DS_above i hx))

/-- The carried sums before the row tiles. -/
theorem carry0_dk (c : Fin 1024) (d : Fin 128) : (B.carry0 i t).1 (ix2 c d)
    = if c.val < 512 then ∑ r ∈ Finset.range 1024, B.DS i (1024 * t.val + r) (1024 * t.val + c.val) * rd B.q (1024 * t.val + r) d.val
      else ∑ r ∈ Finset.range 512, B.DS i (1024 * t.val + 512 + r) (1024 * t.val + c.val) * rd B.q (1024 * t.val + 512 + r) d.val := by
  rw [← sum_fin 1024 fun r => B.DS i (1024 * t.val + r) (1024 * t.val + c.val) * rd B.q (1024 * t.val + r) d.val,
    ← sum_fin 512 fun r => B.DS i (1024 * t.val + 512 + r) (1024 * t.val + c.val) * rd B.q (1024 * t.val + 512 + r) d.val]
  unfold carry0
  dsimp only
  have h := B.ds1_at i t
  unfold k0_pay50 k0_pay47
  generalize k0_pay46 (F := Ideal) _ _ _ _ _ = ds at h ⊢
  pointwise [k0_pay37]
  by_cases hc : c.val < 512
  · rw [dif_pos hc, if_pos hc]
    simp only [q0_at, dsb0_at]
  · rw [dif_neg hc, if_neg hc]
    have e : 1024 * t.val + 512 + (c.val - 512) = 1024 * t.val + c.val := by omega
    simp only [q1_at, h, e]

theorem carry0_dv (c : Fin 1024) (d : Fin 128) : (B.carry0 i t).2.1 (ix2 c d)
    = if c.val < 512 then ∑ r ∈ Finset.range 1024, B.P i (1024 * t.val + r) (1024 * t.val + c.val) * rd B.g (1024 * t.val + r) d.val
      else ∑ r ∈ Finset.range 512, B.P i (1024 * t.val + 512 + r) (1024 * t.val + c.val) * rd B.g (1024 * t.val + 512 + r) d.val := by
  rw [← sum_fin 1024 fun r => B.P i (1024 * t.val + r) (1024 * t.val + c.val) * rd B.g (1024 * t.val + r) d.val,
    ← sum_fin 512 fun r => B.P i (1024 * t.val + 512 + r) (1024 * t.val + c.val) * rd B.g (1024 * t.val + 512 + r) d.val]
  unfold carry0
  dsimp only
  have h := B.p1_at i t
  have h0 := B.p0_at i t
  unfold k0_pay51 k0_pay36
  generalize k0_pay45 (F := Ideal) _ _ = p1 at h ⊢
  generalize k0_pay33 (F := Ideal) _ _ _ _ = p0 at h0 ⊢
  pointwise []
  by_cases hc : c.val < 512
  · rw [dif_pos hc, if_pos hc]
    simp only [g0_at, h0]
  · rw [dif_neg hc, if_neg hc]
    have e : 1024 * t.val + 512 + (c.val - 512) = 1024 * t.val + c.val := by omega
    simp only [g1_at, h, e]

theorem carry0_df (z : Fin 1) (c : Fin 1024) : (B.carry0 i t).2.2 (ix2 z c)
    = if c.val < 512 then ∑ r ∈ Finset.range 1024, B.DS i (1024 * t.val + r) (1024 * t.val + c.val)
      else ∑ r ∈ Finset.range 512, B.DS i (1024 * t.val + 512 + r) (1024 * t.val + c.val) := by
  rw [← sum_fin 1024 fun r => B.DS i (1024 * t.val + r) (1024 * t.val + c.val),
    ← sum_fin 512 fun r => B.DS i (1024 * t.val + 512 + r) (1024 * t.val + c.val)]
  unfold carry0
  dsimp only
  have h := B.ds1_at i t
  unfold k0_pay52
  generalize k0_pay46 (F := Ideal) _ _ _ _ _ = ds at h ⊢
  pointwise [k0_pay40]
  by_cases hc : c.val < 512
  · rw [dif_pos hc, if_pos hc]
    simp only [ds0_at]
  · rw [dif_neg hc, if_neg hc]
    have e : 1024 * t.val + 512 + (c.val - 512) = 1024 * t.val + c.val := by omega
    simp only [h, e]

theorem carryS_dk (j : Fin (k0_t3_loop t).trips) (a : Carry Ideal) (c : Fin 1024) (d : Fin 128) : (B.carryS i t j a).1 (ix2 c d)
    = a.1 (ix2 c d) + ∑ r ∈ Finset.range 1024, B.DS i (1024 * t.val + 1024 * j.val + 1024 + r) (1024 * t.val + c.val) * rd B.q (1024 * t.val + 1024 * j.val + 1024 + r) d.val := by
  rw [← sum_fin 1024 fun r => B.DS i (1024 * t.val + 1024 * j.val + 1024 + r) (1024 * t.val + c.val) * rd B.q (1024 * t.val + 1024 * j.val + 1024 + r) d.val]
  unfold carryS
  dsimp only
  have h := B.dsj_at i t j
  unfold k0_pay54 k0_pay21 k0_pay19
  generalize k0_pay18 (F := Ideal) _ _ _ _ _ _ _ = ds at h ⊢
  pointwise []
  simp only [qj_at, h]

theorem carryS_dv (j : Fin (k0_t3_loop t).trips) (a : Carry Ideal) (c : Fin 1024) (d : Fin 128) : (B.carryS i t j a).2.1 (ix2 c d)
    = a.2.1 (ix2 c d) + ∑ r ∈ Finset.range 1024, B.P i (1024 * t.val + 1024 * j.val + 1024 + r) (1024 * t.val + c.val) * rd B.g (1024 * t.val + 1024 * j.val + 1024 + r) d.val := by
  rw [← sum_fin 1024 fun r => B.P i (1024 * t.val + 1024 * j.val + 1024 + r) (1024 * t.val + c.val) * rd B.g (1024 * t.val + 1024 * j.val + 1024 + r) d.val]
  unfold carryS
  dsimp only
  have h := B.pj_at i t j
  unfold k0_pay55 k0_pay20
  generalize k0_pay17 (F := Ideal) _ _ _ _ = p at h ⊢
  pointwise []
  simp only [gj_at, h]

theorem carryS_df (j : Fin (k0_t3_loop t).trips) (a : Carry Ideal) (z : Fin 1) (c : Fin 1024) : (B.carryS i t j a).2.2 (ix2 z c)
    = a.2.2 (ix2 z c) + ∑ r ∈ Finset.range 1024, B.DS i (1024 * t.val + 1024 * j.val + 1024 + r) (1024 * t.val + c.val) := by
  rw [← sum_fin 1024 fun r => B.DS i (1024 * t.val + 1024 * j.val + 1024 + r) (1024 * t.val + c.val)]
  unfold carryS
  dsimp only
  have h := B.dsj_at i t j
  unfold k0_pay56
  generalize k0_pay18 (F := Ideal) _ _ _ _ _ _ _ = ds at h ⊢
  pointwise []
  simp only [h]

/-- What a column tile carries for k: the column's sum over all queries. -/
theorem carry_dk (c : Fin 1024) (d : Fin 128) : (B.carry i t).1 (ix2 c d)
    = ∑ n ∈ Finset.range 4096, B.DS i n (1024 * t.val + c.val) * rd B.q n d.val := by
  have h := iter_add (fun j a => B.carryS i t j a) (fun a : Carry Ideal => a.1 (ix2 c d))
    (fun j => ∑ r ∈ Finset.range 1024, B.DS i (1024 * t.val + 1024 * j + 1024 + r) (1024 * t.val + c.val) * rd B.q (1024 * t.val + 1024 * j + 1024 + r) d.val)
    (fun j a => B.carryS_dk i t j a c d) (B.carry0 i t) _ le_rfl
  refine h.trans ?_
  rw [t3_trips]
  show (B.carry0 i t).1 (ix2 c d) + _ = _
  rw [B.carry0_dk i t c d, ← col_sum (fun n => B.DS i n (1024 * t.val + c.val) * rd B.q n d.val) t.val c.val (t2_lt t) c.isLt
    (fun r hr => by show B.DS i r _ * _ = 0; rw [B.DS_above i hr, zero_mul])]

theorem carry_dv (c : Fin 1024) (d : Fin 128) : (B.carry i t).2.1 (ix2 c d)
    = ∑ n ∈ Finset.range 4096, B.P i n (1024 * t.val + c.val) * rd B.g n d.val := by
  have h := iter_add (fun j a => B.carryS i t j a) (fun a : Carry Ideal => a.2.1 (ix2 c d))
    (fun j => ∑ r ∈ Finset.range 1024, B.P i (1024 * t.val + 1024 * j + 1024 + r) (1024 * t.val + c.val) * rd B.g (1024 * t.val + 1024 * j + 1024 + r) d.val)
    (fun j a => B.carryS_dv i t j a c d) (B.carry0 i t) _ le_rfl
  refine h.trans ?_
  rw [t3_trips]
  show (B.carry0 i t).2.1 (ix2 c d) + _ = _
  rw [B.carry0_dv i t c d, ← col_sum (fun n => B.P i n (1024 * t.val + c.val) * rd B.g n d.val) t.val c.val (t2_lt t) c.isLt
    (fun r hr => by show B.P i r _ * _ = 0; rw [B.P_above i hr, zero_mul])]

theorem carry_df (z : Fin 1) (c : Fin 1024) : (B.carry i t).2.2 (ix2 z c)
    = ∑ n ∈ Finset.range 4096, B.DS i n (1024 * t.val + c.val) := by
  have h := iter_add (fun j a => B.carryS i t j a) (fun a : Carry Ideal => a.2.2 (ix2 z c))
    (fun j => ∑ r ∈ Finset.range 1024, B.DS i (1024 * t.val + 1024 * j + 1024 + r) (1024 * t.val + c.val))
    (fun j a => B.carryS_df i t j a z c) (B.carry0 i t) _ le_rfl
  refine h.trans ?_
  rw [t3_trips]
  show (B.carry0 i t).2.2 (ix2 z c) + _ = _
  rw [B.carry0_df i t z c, ← col_sum (fun n => B.DS i n (1024 * t.val + c.val)) t.val c.val (t2_lt t) c.isLt (fun r hr => B.DS_above i hr)]

end Blk

end Cert.Proof.AttnBwd

end
-- ==== Proof.Totals.lean ====
/-
  A HEAD'S RESULTS, ENTRY BY ENTRY, at the ideal instance: the two columns the first loop fills, and the three results, as
  sums over all queries or keys of the head's weights and logit gradients.
-/
module

public import proofs.«01_k».proof.Proof.Walk

@[expose] public section

set_option maxHeartbeats 800000

noncomputable section

namespace Cert.Proof.AttnBwd

open Cert.KernelIdeal Cert.KernelIdeal.Gen
open Idealize.ShloMosaic

/-- Every row is in one of the four tiles. -/
theorem row_split {n T : ℕ} (hT : T = 4) (hn : n < 4096) : ∃ (r : Fin T) (x : Fin 1024), n = 1024 * r.val + x.val :=
  ⟨⟨n / 1024, by omega⟩, ⟨n % 1024, Nat.mod_lt _ (by decide)⟩, by show n = 1024 * (n / 1024) + n % 1024; omega⟩

/-- A window of a stack of matrices, read. -/
theorem window3_at {m n k p q : ℕ} (A : (⟨3, ![m, n, k]⟩ : Shape).Idx → EReal) (off : Fin 3 → ℕ) (a b : ℕ) (ho : off = ![a, b, 0])
    (inb : ∀ x : Fin 3, off x + (![p, q, k] : Fin 3 → ℕ) x ≤ (![m, n, k] : Fin 3 → ℕ) x) (z : Fin p) (r : Fin q) (d : Fin k)
    (a' : Fin m) (b' : Fin n) (ha : a'.val = a + z.val) (hb : b'.val = b + r.val) :
    VecWindow.window (s := ⟨3, ![m, n, k]⟩) A off ![p, q, k] inb (ix3 z r d) = A (ix3 a' b' d) := by
  subst ho
  show A _ = A _
  congr 1
  funext x
  apply Fin.ext
  match x with
  | 0 => show a + 1 * z.val = a'.val; omega
  | 1 => show b + 1 * r.val = b'.val; omega
  | 2 => show 0 + 1 * d.val = d.val; omega

theorem lse_at (i : grid0.Coords) (X : S4096x128.Idx → EReal) (A : S4096x1.Idx → EReal) {n : ℕ} (hn : n < 4096) :
    rd (lseCol (F := Ideal) i X A k0_t1_loop.trips) n 0 = rd X n (i 0).val := by
  obtain ⟨r, x, rfl⟩ := row_split t1_trips hn
  have h := congrFun (lseCol_win (F := Ideal) i X A r) (ix2 x 0)
  rw [window_at _ _ _ (k0_off2_eq r)] at h
  refine h.trans ?_
  have hi : (i 0).val < 16 := (i 0).isLt
  have hX := fun d : Fin 128 => window_at X _ _ (k0_off1_eq r) (k0_off1_inb r) x d
  generalize VecWindow.window X (k0_off1 r) _ _ = w at hX ⊢
  pointwise [k0_pay6, k0_pay3]
  have e : ∀ d : Fin 128, Scalar.select (IntOp.cmpi .eq (BitVec.ofNat 32 d.val) (BitVec.ofNat 32 (i 0).val)) (w (ix2 x d)) (0 : EReal)
      = if d = (⟨(i 0).val, by omega⟩ : Fin 128) then rd X (1024 * r.val + x.val) d.val else 0 := by
    intro d
    rw [sel_eq (by omega) (by omega), hX]
    by_cases hd : d.val = (i 0).val
    · rw [if_pos hd, if_pos (Fin.ext hd)]
    · rw [if_neg hd, if_neg (fun h => hd (congrArg Fin.val h))]
  refine (Finset.sum_congr rfl fun d _ => e d).trans ?_
  rw [Finset.sum_ite_eq' Finset.univ, if_pos (Finset.mem_univ _)]

theorem delta_at (O G : S4096x128.Idx → EReal) (A : S4096x1.Idx → EReal) {n : ℕ} (hn : n < 4096) :
    rd (deltaCol (F := Ideal) O G A k0_t1_loop.trips) n 0 = ∑ d : Fin 128, rd G n d.val * rd O n d.val := by
  obtain ⟨r, x, rfl⟩ := row_split t1_trips hn
  have h := congrFun (deltaCol_win (F := Ideal) O G A r) (ix2 x 0)
  rw [window_at _ _ _ (k0_off2_eq r)] at h
  refine h.trans ?_
  have hO := fun d : Fin 128 => window_at O _ _ (k0_off1_eq r) (k0_off1_inb r) x d
  have hG := fun d : Fin 128 => window_at G _ _ (k0_off1_eq r) (k0_off1_inb r) x d
  generalize VecWindow.window O (k0_off1 r) _ _ = wo at hO ⊢
  generalize VecWindow.window G (k0_off1 r) _ _ = wg at hG ⊢
  pointwise [k0_pay7]
  simp only [hO, hG]

namespace Inp

variable (I : Inp Ideal) (i : grid0.Coords) (A12 A13 : S4096x1.Idx → EReal)

theorem acc_at {n d : ℕ} (hn : n < 4096) (hd : d < 128) : rd (I.acc i A12 A13) n d
    = ∑ j ∈ Finset.range 4096, (I.blk i A12 A13).DS i n j * rd I.k j d := by
  have h := iter_add (fun t A => (I.blk i A12 A13).dq i t A) (fun A : S4096x128.Idx → EReal => rd A n d)
    (fun t => ∑ c ∈ Finset.range 1024, (I.blk i A12 A13).DS i n (1024 * t + c) * rd I.k (1024 * t + c) d)
    (fun t A => (I.blk i A12 A13).dq_at i t A hn hd) k0_pay4 k0_t2_loop.trips le_rfl
  refine h.trans ?_
  rw [t2_trips, sum_four fun j => (I.blk i A12 A13).DS i n j * rd I.k j d]
  have e : rd (k0_pay4 (F := Ideal)) n d = 0 := by rw [rd_of _ hn hd]; pointwise [k0_pay4]
  show rd (k0_pay4 (F := Ideal)) n d + _ = _
  rw [e, zero_add]

theorem col_at {n : ℕ} (hn : n < 4096) : rd (I.col i A12 A13) n 0
    = ∑ j ∈ Finset.range 4096, (I.blk i A12 A13).DS i n j := by
  have h := iter_add (fun t A => (I.blk i A12 A13).df i t A) (fun A : S4096x1.Idx → EReal => rd A n 0)
    (fun t => ∑ c ∈ Finset.range 1024, (I.blk i A12 A13).DS i n (1024 * t + c))
    (fun t A => (I.blk i A12 A13).df_at i t A hn) k0_pay5 k0_t2_loop.trips le_rfl
  refine h.trans ?_
  rw [t2_trips, sum_four fun j => (I.blk i A12 A13).DS i n j]
  have e : rd (k0_pay5 (F := Ideal)) n 0 = 0 := by rw [rd_of _ hn Nat.one_pos]; pointwise [k0_pay5]
  show rd (k0_pay5 (F := Ideal)) n 0 + _ = _
  rw [e, zero_add]

/-- q's gradient. -/
theorem dq_entry (R : S3x4096x128.Idx → EReal) (n : Fin 4096) (d : Fin 128) : I.dqkv i A12 A13 R (ix3 0 n d)
    = (∑ j ∈ Finset.range 4096, (I.blk i A12 A13).DS i n.val j * rd I.k j d.val) * cst := by
  obtain ⟨r, x, hx⟩ := row_split t5_trips n.isLt
  have h := congrFun (dq_win (F := Ideal) I i A12 A13 R r) (ix3 0 x d)
  rw [window3_at _ _ _ _ (k0_off16_eq r) _ _ _ _ 0 n rfl hx] at h
  refine h.trans ?_
  have hw := window_at (I.acc i A12 A13) _ _ (k0_off15_eq r) (k0_off15_inb r) x d
  rw [← hx, I.acc_at i A12 A13 n.isLt d.isLt] at hw
  rw [← hw]
  generalize VecWindow.window _ _ _ _ = w
  pointwise [k0_pay15]

/-- k's gradient. -/
theorem dk_entry (R : S3x4096x128.Idx → EReal) (n : Fin 4096) (d : Fin 128) : I.dqkv i A12 A13 R (ix3 1 n d)
    = (∑ j ∈ Finset.range 4096, (I.blk i A12 A13).DS i j n.val * rd I.q j d.val) * cst := by
  obtain ⟨r, x, hx⟩ := row_split t2_trips n.isLt
  have h := congrFun (dk_win (F := Ideal) I i A12 A13 R r) (ix3 0 x d)
  rw [window3_at _ _ _ _ (k0_off13_eq r) _ _ _ _ 1 n rfl hx] at h
  refine h.trans ?_
  have hw := (I.blk i A12 A13).carry_dk i r x d
  rw [← hx] at hw
  rw [← show _ = ∑ j ∈ Finset.range 4096, (I.blk i A12 A13).DS i j n.val * rd I.q j d.val from hw]
  generalize ((I.blk i A12 A13).carry i r).1 = w
  pointwise [k0_pay12]

/-- v's gradient. -/
theorem dv_entry (R : S3x4096x128.Idx → EReal) (n : Fin 4096) (d : Fin 128) : I.dqkv i A12 A13 R (ix3 2 n d)
    = ∑ j ∈ Finset.range 4096, (I.blk i A12 A13).P i j n.val * rd I.g j d.val := by
  obtain ⟨r, x, hx⟩ := row_split t2_trips n.isLt
  have h := congrFun (dv_win (F := Ideal) I i A12 A13 R r) (ix3 0 x d)
  rw [window3_at _ _ _ _ (k0_off14_eq r) _ _ _ _ 2 n rfl hx] at h
  refine h.trans ?_
  have hw := (I.blk i A12 A13).carry_dv i r x d
  rw [← hx] at hw
  rw [← show _ = ∑ j ∈ Finset.range 4096, (I.blk i A12 A13).P i j n.val * rd I.g j d.val from hw]
  generalize ((I.blk i A12 A13).carry i r).2.1 = w
  pointwise [k0_pay13]

/-- The query gates' gradient: the head's column is written, the others are kept. -/
theorem dfq_entry (R : S4096x128.Idx → EReal) (n : Fin 4096) (x : Fin 128) : I.dfq i A12 A13 R (ix2 n x)
    = if x.val = (i 0).val then ∑ j ∈ Finset.range 4096, (I.blk i A12 A13).DS i n.val j else R (ix2 n x) := by
  obtain ⟨r, y, hy⟩ := row_split t5_trips n.isLt
  have h := congrFun (dfOut_win (F := Ideal) i (I.col i A12 A13) R r) (ix2 y x)
  have hi : (i 0).val < 16 := (i 0).isLt
  rw [window_at _ _ _ (k0_off15_eq r), ← hy, ← rd_ix] at h
  refine h.trans ?_
  have hw := window_at (I.col i A12 A13) _ _ (k0_off17_eq r) (k0_off17_inb r) y 0
  have hR := window_at R _ _ (k0_off15_eq r) (k0_off15_inb r) y x
  rw [← hy] at hw hR
  rw [← rd_ix] at hR
  have hw := hw.trans (I.col_at i A12 A13 n.isLt)
  rw [← hw, ← hR]
  generalize VecWindow.window (I.col i A12 A13) _ _ _ = w
  generalize VecWindow.window R _ _ _ = w'
  pointwise [k0_pay16, k0_pay3]
  rw [sel_eq (by omega) (by omega)]

/-- The key gates' gradient: the head's rows are written, the others are kept. -/
theorem dfk_entry (R : S4x16x1024.Idx → EReal) (t : Fin 4) (h : Fin 16) (c : Fin 1024) : I.dfk i A12 A13 R (ix3 t h c)
    = if h.val = (i 0).val then ∑ j ∈ Finset.range 4096, (I.blk i A12 A13).DS i j (1024 * t.val + c.val) else R (ix3 t h c) := by
  have ht : t.val < k0_t2_loop.trips := by rw [t2_trips]; exact t.isLt
  have off : ∀ r : Fin k0_t2_loop.trips, ∀ a : Fin 3, k0_off4 i r a = (![r.val, (i 0).val, 0] : Fin 3 → ℕ) a := fun r a => congrFun (k0_off4_eq i r) a
  have o0 : ∀ r : Fin k0_t2_loop.trips, k0_off4 i r 0 = r.val := fun r => off r 0
  have o1 : ∀ r : Fin k0_t2_loop.trips, k0_off4 i r 1 = (i 0).val := fun r => off r 1
  have o2 : ∀ r : Fin k0_t2_loop.trips, k0_off4 i r 2 = 0 := fun r => off r 2
  by_cases hh : h.val = (i 0).val
  · rw [if_pos hh]
    refine (iter_obs _ (fun R : S4x16x1024.Idx → EReal => R (ix3 t h c)) R ⟨t.val, ht⟩
      (fun _ => ((I.blk i A12 A13).carry i ⟨t.val, ht⟩).2.2 (ix2 0 c)) ?_ ?_ _ ht).trans
      ((I.blk i A12 A13).carry_df i ⟨t.val, ht⟩ 0 c)
    · intro R
      show VecWindow.put (s := S4x16x1024) _ _ _ _ _ = _
      generalize ((I.blk i A12 A13).carry i ⟨t.val, ht⟩).2.2 = w
      unfold VecWindow.put
      rw [dif_pos (by
        intro a
        match a with
        | 0 => rw [o0]; exact ⟨le_rfl, Nat.lt_succ_self _⟩
        | 1 => rw [o1]; exact ⟨hh.ge, Nat.lt_succ_of_le hh.le⟩
        | 2 => rw [o2]; exact ⟨Nat.zero_le _, by show c.val < 0 + 1024; omega⟩)]
      refine Eq.trans (congrArg (k0_pay14 w) (a₂ := ix3 0 0 c) ?_) ?_
      · funext a
        apply Fin.ext
        match a with
        | 0 => show t.val - k0_off4 i _ 0 = 0; rw [o0]; exact Nat.sub_self _
        | 1 => show h.val - k0_off4 i _ 1 = 0; rw [o1]; omega
        | 2 => show c.val - k0_off4 i _ 2 = c.val; rw [o2]; rfl
      · pointwise [k0_pay14]
    · intro r hr R
      show VecWindow.put (s := S4x16x1024) _ _ _ _ _ = _
      unfold VecWindow.put
      rw [dif_neg (by
        intro hc
        have h0 : k0_off4 i r 0 ≤ t.val ∧ t.val < k0_off4 i r 0 + 1 := hc 0
        rw [o0] at h0
        exact hr (Fin.ext (by show r.val = t.val; omega)))]
  · rw [if_neg hh]
    refine iter_obs_keep _ (fun R : S4x16x1024.Idx → EReal => R (ix3 t h c)) R _ ?_
    intro r _ R
    show VecWindow.put (s := S4x16x1024) _ _ _ _ _ = _
    unfold VecWindow.put
    rw [dif_neg (by
      intro hc
      have h1 : k0_off4 i r 1 ≤ h.val ∧ h.val < k0_off4 i r 1 + 1 := hc 1
      rw [o1] at h1
      exact hh (by omega))]

end Inp

end Cert.Proof.AttnBwd

end
-- ==== Proof.Values.lean ====
/-
  THE KERNEL'S RESULTS over the reals: from arguments whose entries are real, the three arrays after the run hold the heads'
  gradients.
-/
module

public import proofs.«01_k».proof.Proof.Before
public import proofs.«01_k».proof.Proof.Reference
public import proofs.«01_k».proof.Proof.Totals

@[expose] public section

set_option maxRecDepth 16384
set_option maxHeartbeats 800000

noncomputable section

namespace Cert.Proof.AttnBwd

open Cert.KernelIdeal Cert.KernelIdeal.Gen
open Idealize.ShloMosaic Idealize.ShloMosaic.TcCoe Idealize.SL.Sem AttnReal
open AttnRef (head hcol pcol scaleR)

section
variable {X0 : S4096x6144.Idx → Ideal .bf16} {X1 : S4096x16.Idx → Ideal .f32} {X2 : S4096x2048.Idx → Ideal .bf16}
    {x0 : Fin 4096 → Fin 6144 → ℝ} {x1 : Fin 4096 → Fin 16 → ℝ} {x2 : Fin 4096 → Fin 2048 → ℝ}
    (R : AttnRef.Are X0 X1 X2 x0 x1 x2) (h : Fin 16)
include R

theorem score (n j : Fin 4096) : SK X0 X1 (ix3 h n j) = if j ≤ n then ((head x0 x1 x2 h).x n j : EReal) else ⊥ := by
  unfold SK
  rw [sck_at, R.qk, R.f, AttnRef.scale_real, ← EReal.coe_mul, ← EReal.coe_sub]
  rfl

/-- A row's greatest score, exponentials and total. -/
theorem row (n : Fin 4096) : ∃ μ : ℝ, mxk (SK X0 X1) (ix2 h n) = (μ : EReal)
    ∧ (∀ j, EK X0 X1 (ix3 h n j) = (((head x0 x1 x2 h).w n j * Real.exp (-μ) : ℝ) : EReal))
    ∧ LK X0 X1 (ix2 h n) = (((head x0 x1 x2 h).W n * Real.exp (-μ) : ℝ) : EReal) := by
  obtain ⟨μ, hμ⟩ := max_real (fun j => SK X0 X1 (ix3 h n j)) _ n (fun j => score R h n j)
  have he : ∀ j, EK X0 X1 (ix3 h n j) = (((head x0 x1 x2 h).w n j * Real.exp (-μ) : ℝ) : EReal) := by
    intro j
    unfold EK
    rw [AttnRef.ex_at, mxk_at, hμ, exp_row _ _ _ _ (score R h n j)]
    refine congrArg _ ?_
    unfold Hd.w
    split
    · rw [← Real.exp_add]; congr 1
    · rw [zero_mul]
  refine ⟨μ, (mxk_at _ h n).trans hμ, he, ?_⟩
  unfold LK
  rw [AttnRef.tot_at, sum_of _ _ _ fun j _ => he j, ← Finset.sum_mul]
  rfl

theorem out (n : Fin 4096) (d : Fin 128) : ok (EK X0 X1) (LK X0 X1) (AttnRef.vh X0) (ix3 h n d) = ((head x0 x1 x2 h).o n d : EReal) := by
  obtain ⟨μ, -, he, hl⟩ := row R h n
  have hW := ((head x0 x1 x2 h).W_pos n).ne'
  have hx := (Real.exp_pos (-μ)).ne'
  rw [ok_at]
  refine sum_of _ _ _ fun j _ => ?_
  rw [he, hl, R.v, div_real _ (mul_ne_zero hW hx), ← EReal.coe_mul]
  refine congrArg _ ?_
  unfold Hd.p
  field_simp

theorem lse (n : Fin 4096) : mxk (SK X0 X1) (ix2 h n) + Ideal.log (LK X0 X1 (ix2 h n)) = (Real.log ((head x0 x1 x2 h).W n) : EReal) := by
  obtain ⟨μ, hμ, -, hl⟩ := row R h n
  have hW := (head x0 x1 x2 h).W_pos n
  rw [hμ, hl, log_real (mul_pos hW (Real.exp_pos _)), ← EReal.coe_add, lse_real hW]

end

section
variable (m : (ℓ : Loc nD τ sig) → Buf (Elt Ideal) ℓ) (c : Dev nD) (t : Fin cfg0.N)
    {x0 : Fin 4096 → Fin 6144 → ℝ} {x1 : Fin 4096 → Fin 16 → ℝ} {x2 : Fin 4096 → Fin 2048 → ℝ}
    (R : AttnRef.Are (m ((c : Thread nD τ).loc main_arg0)) (m ((c : Thread nD τ).loc main_arg1)) (m ((c : Thread nD τ).loc main_arg2)) x0 x1 x2)

/-- The head of point `t`. -/
abbrev hd : Fin 16 := ⟨t.val, t_lt t⟩
/-- What the loops of point `t` read. -/
abbrev bk : Blk Ideal := (inpAt m c t).blk (grid0.coords t) zcol zcol

include R

theorem rd_q (n : Fin 4096) (d : Fin 128) : rd (inpAt m c t).q n.val d.val = ((head x0 x1 x2 (hd t)).q n d : EReal) := by
  rw [← rd_ix, q_blk]; exact R.h0 _ _
theorem rd_k (n : Fin 4096) (d : Fin 128) : rd (inpAt m c t).k n.val d.val = ((head x0 x1 x2 (hd t)).k n d : EReal) := by
  rw [← rd_ix, k_blk]; exact R.h0 _ _
theorem rd_v (n : Fin 4096) (d : Fin 128) : rd (inpAt m c t).v n.val d.val = ((head x0 x1 x2 (hd t)).v n d : EReal) := by
  rw [← rd_ix, v_blk]; exact R.h0 _ _
theorem rd_g (n : Fin 4096) (d : Fin 128) : rd (inpAt m c t).g n.val d.val = ((head x0 x1 x2 (hd t)).g n d : EReal) := by
  rw [← rd_ix, g_blk]; exact R.h2 _ _
theorem rd_o (n : Fin 4096) (d : Fin 128) : rd (inpAt m c t).o n.val d.val = ((head x0 x1 x2 (hd t)).o n d : EReal) := by
  rw [← rd_ix, o_blk, V_43]
  exact (opack_at _ n (hd t) d).trans (out R (hd t) n d)
theorem rd_lse (n : Fin 4096) : rd (bk m c t).lse n.val 0 = (Real.log ((head x0 x1 x2 (hd t)).W n) : EReal) := by
  show rd (lseCol (F := Ideal) (grid0.coords t) (inpAt m c t).lse zcol k0_t1_loop.trips) n.val 0 = _
  rw [lse_at _ _ _ n.isLt, coord, rd_of _ n.isLt (by have := t_lt t; omega), lse_blk, V_48]
  exact (lsek_at _ _ n (hd t)).trans (lse R (hd t) n)
theorem rd_delta (n : Fin 4096) : rd (bk m c t).delta n.val 0 = ((head x0 x1 x2 (hd t)).dl n : EReal) := by
  show rd (deltaCol (F := Ideal) (inpAt m c t).o (inpAt m c t).g zcol k0_t1_loop.trips) n.val 0 = _
  rw [delta_at _ _ _ n.isLt, ← Hd.dl_eq]
  exact sum_of _ _ _ fun d _ => by rw [rd_g m c t R, rd_o m c t R, EReal.coe_mul]
theorem rd_f (n : Fin 4096) : (bk m c t).rf (grid0.coords t) n.val = ((head x0 x1 x2 (hd t)).f n : EReal) := by
  unfold Blk.rf
  rw [dif_pos n.isLt]
  show (inpAt m c t).fk _ = _
  rw [fk_blk, V_51]
  refine Eq.trans ?_ (R.h1 n (hd t))
  refine congrArg₂ (fun a b => (m ((c : Thread nD τ).loc main_arg1) : S4096x16.Idx → Ideal .f32) (ix2 a b)) (Fin.ext ?_) (Fin.ext (coord t))
  show 1024 * (n.val / 1024) + n.val % 1024 = n.val
  omega

theorem weight (n j : Fin 4096) : (bk m c t).P (grid0.coords t) n.val j.val = ((head x0 x1 x2 (hd t)).p n j : EReal) := by
  have hs : ∑ d : Fin 128, rd (bk m c t).q n.val d.val * rd (bk m c t).k j.val d.val
      = ((∑ d, (head x0 x1 x2 (hd t)).q n d * (head x0 x1 x2 (hd t)).k j d : ℝ) : EReal) :=
    sum_of _ _ _ fun d _ => by
      show rd (inpAt m c t).q n.val d.val * rd (inpAt m c t).k j.val d.val = _
      rw [rd_q m c t R, rd_k m c t R, EReal.coe_mul]
  have hx : (bk m c t).sc (grid0.coords t) n.val j.val
      = (((head x0 x1 x2 (hd t)).x n j - Real.log ((head x0 x1 x2 (hd t)).W n) : ℝ) : EReal) := by
    unfold Blk.sc
    rw [hs, rd_f m c t R, rd_lse m c t R]
    show _ * AttnRef.scale - _ - _ = _
    rw [AttnRef.scale_real, ← EReal.coe_mul, ← EReal.coe_sub, ← EReal.coe_sub]
    rfl
  unfold Blk.P
  rw [hx, Ideal.exp_coe]
  unfold Hd.p Hd.w
  by_cases hj : j ≤ n
  · rw [if_pos hj, if_pos (by exact hj), Real.exp_sub, Real.exp_log ((head x0 x1 x2 (hd t)).W_pos n)]
  · rw [if_neg hj, if_neg (by exact hj), zero_div, EReal.coe_zero]

theorem dscore (n j : Fin 4096) : (bk m c t).DS (grid0.coords t) n.val j.val = ((head x0 x1 x2 (hd t)).ds n j : EReal) := by
  have hs : ∑ d : Fin 128, rd (bk m c t).g n.val d.val * rd (bk m c t).v j.val d.val
      = ((head x0 x1 x2 (hd t)).dp n j : EReal) :=
    sum_of _ _ _ fun d _ => by
      show rd (inpAt m c t).g n.val d.val * rd (inpAt m c t).v j.val d.val = _
      rw [rd_g m c t R, rd_v m c t R, EReal.coe_mul]
  unfold Blk.DS
  rw [hs, weight m c t R, rd_delta m c t R, ← EReal.coe_sub, ← EReal.coe_mul]
  rfl

theorem dq_val (n : Fin 4096) (d : Fin 128) : dqkvAt m c t (ix3 0 n d)
    = ((∑ j, (head x0 x1 x2 (hd t)).ds n j * scaleR * (head x0 x1 x2 (hd t)).k j d : ℝ) : EReal) := by
  unfold dqkvAt
  rw [Inp.dq_entry, ← sum_fin, sum_of _ _ (fun j => (head x0 x1 x2 (hd t)).ds n j * (head x0 x1 x2 (hd t)).k j d)
    fun j _ => by rw [dscore m c t R, rd_k m c t R, EReal.coe_mul]]
  show _ * AttnRef.scale = _
  rw [AttnRef.scale_real, ← EReal.coe_mul, Finset.sum_mul]
  exact congrArg _ (Finset.sum_congr rfl fun j _ => by ring)

theorem dk_val (n : Fin 4096) (d : Fin 128) : dqkvAt m c t (ix3 1 n d)
    = ((∑ j, (head x0 x1 x2 (hd t)).ds j n * scaleR * (head x0 x1 x2 (hd t)).q j d : ℝ) : EReal) := by
  unfold dqkvAt
  rw [Inp.dk_entry, ← sum_fin, sum_of _ _ (fun j => (head x0 x1 x2 (hd t)).ds j n * (head x0 x1 x2 (hd t)).q j d)
    fun j _ => by rw [dscore m c t R, rd_q m c t R, EReal.coe_mul]]
  show _ * AttnRef.scale = _
  rw [AttnRef.scale_real, ← EReal.coe_mul, Finset.sum_mul]
  exact congrArg _ (Finset.sum_congr rfl fun j _ => by ring)

theorem dv_val (n : Fin 4096) (d : Fin 128) : dqkvAt m c t (ix3 2 n d)
    = ((∑ j, (head x0 x1 x2 (hd t)).g j d * (head x0 x1 x2 (hd t)).p j n : ℝ) : EReal) := by
  unfold dqkvAt
  rw [Inp.dv_entry, ← sum_fin]
  exact sum_of _ _ _ fun j _ => by rw [weight m c t R, rd_g m c t R, ← EReal.coe_mul, mul_comm]

theorem dfq_val (A : S4096x128.Idx → EReal) (n : Fin 4096) (x : Fin 128) : dfqStep m c t A (ix2 n x)
    = if x.val = t.val then ((∑ j, (head x0 x1 x2 (hd t)).ds n j : ℝ) : EReal) else A (ix2 n x) := by
  unfold dfqStep
  rw [Inp.dfq_entry, coord, ← sum_fin, sum_of _ _ _ fun j _ => dscore m c t R n j]

theorem dfk_val (A : S4x16x1024.Idx → EReal) (a : Fin 4) (h : Fin 16) (x : Fin 1024) : dfkStep m c t A (ix3 a h x)
    = if h.val = t.val then ((∑ j, (head x0 x1 x2 (hd t)).ds j ⟨1024 * a.val + x.val, by omega⟩ : ℝ) : EReal) else A (ix3 a h x) := by
  unfold dfkStep
  rw [Inp.dfk_entry, coord, ← sum_fin, sum_of _ _ _ fun j _ => dscore m c t R j ⟨1024 * a.val + x.val, by omega⟩]

omit t in
theorem dfq_all (n : Fin 4096) (x : Fin 128) : dfqAt m c 16 (ix2 n x)
    = if h : x.val < 16 then ((∑ j, (head x0 x1 x2 ⟨x.val, h⟩).ds n j : ℝ) : EReal) else 0 := by
  unfold dfqAt
  split
  · rename_i h
    have hN : x.val < cfg0.N := lt_of_lt_of_eq h N_0.symm
    refine iter_obs (obs := fun A : S4096x128.Idx → EReal => A (ix2 n x)) (s := dfqStep m c) (a := k0_pay1) ⟨x.val, hN⟩
      (fun _ => ((∑ j, (head x0 x1 x2 ⟨x.val, h⟩).ds n j : ℝ) : EReal)) (fun A => ?_) (fun r hr A => ?_) 16 h
    · exact (dfq_val m c ⟨x.val, hN⟩ R A n x).trans (if_pos rfl)
    · exact (dfq_val m c r R A n x).trans (if_neg fun e => hr (Fin.ext e.symm))
  · rename_i h
    refine (iter_obs_keep (obs := fun A : S4096x128.Idx → EReal => A (ix2 n x)) (s := dfqStep m c) (a := k0_pay1) 16 fun r hr A => ?_).trans ?_
    · exact (dfq_val m c r R A n x).trans (if_neg fun e : x.val = r.val => h (by rw [e]; exact t_lt r))
    · show k0_pay1 (F := Ideal) (ix2 n x) = 0
      pointwise [k0_pay1]

omit t in
theorem dfk_all (a : Fin 4) (h : Fin 16) (x : Fin 1024) : dfkAt m c 16 (ix3 a h x)
    = ((∑ j, (head x0 x1 x2 h).ds j ⟨1024 * a.val + x.val, by omega⟩ : ℝ) : EReal) := by
  unfold dfkAt
  have hN : h.val < cfg0.N := lt_of_lt_of_eq h.isLt N_0.symm
  refine iter_obs (obs := fun A : S4x16x1024.Idx → EReal => A (ix3 a h x)) (s := dfkStep m c) (a := k0_pay2) ⟨h.val, hN⟩
    (fun _ => ((∑ j, (head x0 x1 x2 h).ds j ⟨1024 * a.val + x.val, by omega⟩ : ℝ) : EReal)) (fun A => ?_) (fun r hr A => ?_) 16 h.isLt
  · exact (dfk_val m c ⟨h.val, hN⟩ R A a h x).trans (if_pos rfl)
  · exact (dfk_val m c r R A a h x).trans (if_neg fun e => hr (Fin.ext e.symm))

end

end Cert.Proof.AttnBwd

end
-- ==== Proof.Equal.lean ====
/-
  THE RESULTS AGREE: from equal arguments with real entries the kernel's three arrays are the reference's three results.
-/
module

public import proofs.«01_k».proof.Proof.Values

@[expose] public section

set_option maxRecDepth 16384
set_option maxHeartbeats 800000

noncomputable section

namespace Cert.Proof.AttnBwd

open Cert.KernelIdeal Cert.KernelIdeal.Gen
open Idealize.ShloMosaic Idealize.ShloMosaic.TcCoe Idealize.SL.Sem
open AttnRef (head hcol)

variable (m : (ℓ : Loc nD τ sig) → Buf (Elt Ideal) ℓ) (c : Dev nD)
    {x0 : Fin 4096 → Fin 6144 → ℝ} {x1 : Fin 4096 → Fin 16 → ℝ} {x2 : Fin 4096 → Fin 2048 → ℝ}
    (R : AttnRef.Are (m ((c : Thread nD τ).loc main_arg0)) (m ((c : Thread nD τ).loc main_arg1)) (m ((c : Thread nD τ).loc main_arg2)) x0 x1 x2)
include R

theorem equal_0 : ((dats m 0 c).arrAt 7 cfg0.N : S3x4096x2048.Idx → Ideal .bf16) = AttnRef.packo
    (AttnRef.dqo (AttnRef.DSO (m ((c : Thread nD τ).loc main_arg0)) (m ((c : Thread nD τ).loc main_arg1)) (m ((c : Thread nD τ).loc main_arg2))) (AttnRef.kh (m ((c : Thread nD τ).loc main_arg0))))
    (AttnRef.dko (AttnRef.DSO (m ((c : Thread nD τ).loc main_arg0)) (m ((c : Thread nD τ).loc main_arg1)) (m ((c : Thread nD τ).loc main_arg2))) (AttnRef.qh (m ((c : Thread nD τ).loc main_arg0))))
    (AttnRef.dvo (AttnRef.gh (m ((c : Thread nD τ).loc main_arg2))) (AttnRef.EX (m ((c : Thread nD τ).loc main_arg0)) (m ((c : Thread nD τ).loc main_arg1))) (AttnRef.TOT (m ((c : Thread nD τ).loc main_arg0)) (m ((c : Thread nD τ).loc main_arg1)))) := by
  funext i
  obtain ⟨p, n, y, rfl⟩ : ∃ (p : Fin 3) (n : Fin 4096) (y : Fin 2048), i = ix3 p n y := ⟨i 0, i 1, i 2, eq_ix3 i⟩
  obtain ⟨h, d, rfl⟩ : ∃ (h : Fin 16) (d : Fin 128), y = hcol h d :=
    ⟨⟨y.val / 128, by omega⟩, ⟨y.val % 128, Nat.mod_lt _ (by decide)⟩, Fin.ext (Nat.div_add_mod y.val 128).symm⟩
  have hN : h.val < cfg0.N := lt_of_lt_of_eq h.isLt N_0.symm
  rw [AttnRef.packo_at]
  refine (arr7 m c ⟨h.val, hN⟩ p n d).trans ?_
  fin_cases p
  · exact (dq_val m c ⟨h.val, hN⟩ R n d).trans (R.dq h n d).symm
  · exact (dk_val m c ⟨h.val, hN⟩ R n d).trans (R.dk h n d).symm
  · exact (dv_val m c ⟨h.val, hN⟩ R n d).trans (R.dv h n d).symm

theorem equal_1 : ((dats m 0 c).arrAt 8 cfg0.N : S4096x128.Idx → Ideal .f32) = AttnRef.rowso
    (AttnRef.DSO (m ((c : Thread nD τ).loc main_arg0)) (m ((c : Thread nD τ).loc main_arg1)) (m ((c : Thread nD τ).loc main_arg2))) := by
  rw [arr8]
  funext i
  obtain ⟨n, x, rfl⟩ : ∃ (n : Fin 4096) (x : Fin 128), i = ix2 n x := ⟨i 0, i 1, eq_ix2 i⟩
  rw [AttnRef.rowso_at, dfq_all m c R]
  split
  · exact (R.rows _ n).symm
  · rfl

theorem equal_2 : ((dats m 0 c).arrAt 9 cfg0.N : S4x16x1024.Idx → Ideal .f32) = AttnRef.colso
    (AttnRef.DSO (m ((c : Thread nD τ).loc main_arg0)) (m ((c : Thread nD τ).loc main_arg1)) (m ((c : Thread nD τ).loc main_arg2))) := by
  rw [arr9]
  funext i
  obtain ⟨a, h, x, rfl⟩ : ∃ (a : Fin 4) (h : Fin 16) (x : Fin 1024), i = ix3 a h x := ⟨i 0, i 1, i 2, eq_ix3 i⟩
  rw [AttnRef.colso_at, dfk_all m c R]
  exact (R.cols h _).symm

end Cert.Proof.AttnBwd

end
-- ==== Proof.DownDx.lean ====
/-
  THE GRADIENT OF THE MLP'S DOWN PRODUCT IN ITS INPUT, through the squared relu: what the call leaves, what the
  reference's lines compute, and that they are equal, entry by entry.
-/
module

public import Idealize.ShloMosaic.Lib.Pipeline.ValueKit
public import Idealize.ShloMosaic.Lib.Pointwise
public import proofs.«01_k».proof.Defs
public import proofs.«01_k».proof.Proof.Gen.DownDx
public import proofs.«01_k».proof.Proof.Gen.DownDxIdeal.Value
public import proofs.«01_k».proof.Proof.Gen.DownDxReferenceIdeal
public import proofs.«01_k».proof.Proof.Gen.DownDxReferenceIdeal.Run
public import Idealize.ShloMosaic.Adequacy
public import Idealize.ShloMosaic.Init

@[expose] public section

set_option maxHeartbeats 800000

noncomputable section

namespace Cert.Proof.DownDx

open Cert.DownDxIdeal Cert.DownDxIdeal.Gen
open Idealize.ShloMosaic Idealize.ShloMosaic.TcCoe Idealize.SL.Sem

/-- The gradient: the product with the transposed weights, times twice the relu of the forward value. -/
def grad (u : S4096x8192.Idx → EReal) (w : S8192x2048.Idx → EReal) (g : S4096x2048.Idx → EReal) : S4096x8192.Idx → EReal :=
  fun i => (∑ k : Fin 2048, g (ix2 (i 0) k) * w (ix2 (i 1) k)) * (Ideal.ofBits .f32 0x40000000#32 * max (u i) 0)

/-- A block of the result from the three blocks it is computed from. -/
theorem pay (x0 x1 : S1024x2048.Idx → EReal) (x2 : S1024x1024.Idx → EReal) (i j : Fin 1024) :
    k0_pay1 (F := Ideal) x0 x1 x2 (ix2 i j)
      = (∑ k : Fin 2048, x0 (ix2 i k) * x1 (ix2 j k)) * (Ideal.ofBits .f32 0x40000000#32 * max (x2 (ix2 i j)) 0) := by
  pointwise [k0_pay1]

variable (m : (ℓ : Loc nD τ sig) → Buf (Elt Ideal) ℓ) (c : Dev nD)

/-- Which blocks a point reads, by the block it writes. -/
theorem idx : ∀ t : Fin cfg0.N, win0_0.index t = ![win0_3.index t 0, 0] ∧ win0_1.index t = ![win0_3.index t 1, 0]
    ∧ win0_2.index t = ![win0_3.index t 0, win0_3.index t 1] := (by decide +kernel : ∀ t : Fin grid0.N, _)

/-- The array after the run. -/
theorem final : ((dats m 0 c).arrAt 3 cfg0.N : S4096x8192.Idx → EReal)
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨a, b, rfl⟩ : ∃ a b : Fin 1024, y = ix2 a b := ⟨y 0, y 1, eq_ix2 y⟩
  rw [pay]
  unfold grad
  congr 1
  · refine Finset.sum_congr rfl fun k _ => ?_
    congr 1
    · blk_ext [iblk, V_main_arg2, idx t]
    · blk_ext [iblk, V_main_arg1, idx t]

/-- Where the forward value is not positive its relu is zero, so the reference's choice of zero there changes nothing. -/
theorem choice (a b x : EReal) : (if 0 < x then a * (b * max x 0) else 0) = a * (b * max x 0) := by
  split
  · rfl
  · rename_i h
    rw [max_eq_right (not_lt.mp h), mul_zero, mul_zero]

/-- The call and its idealization have the same text: one body. -/
theorem body_same {F : FTy → Type} [FloatOps F] (i a1 h1 a2 h2 a3 h3 a4 h4) :
    Cert.DownDx.cc0_mlp_down_dx (F := F) i a1 h1 a2 h2 a3 h3 a4 h4 = cc0_mlp_down_dx (F := F) i a1 h1 a2 h2 a3 h3 a4 h4 := rfl

/-- One table of bodies and regions. -/
theorem table_same {F : FTy → Type} [FloatOps F] : Cert.DownDx.defs (F := F) = defs (F := F) := by
  have h : Cert.DownDx.defs₀ (F := F) = defs₀ (F := F) := by
    unfold Cert.DownDx.defs₀ defs₀
    congr 1
    funext x
    match x with
    | (0 : Fin 1) =>
      funext y
      obtain ⟨t, s⟩ := y
      exact body_same _ _ _ _ _ _ _ _ _
  unfold Cert.DownDx.defs defs
  rw [h]
  rfl

/-- One program. -/
theorem main_same {F : FTy → Type} [FloatOps F] : Cert.DownDx.main (F := F) = main (F := F) := rfl

theorem frame_kernel : Cert.quiescent_DownDx := fun m ρ _ => by
  rw [table_same, main_same]; exact frame m ρ

theorem frame_ideal : Cert.quiescent_DownDxIdeal := fun m ρ _ => frame m ρ

theorem frame_reference : Cert.quiescent_DownDxReferenceIdeal := fun m ρ _ =>
  (θ_run Cert.DownDxReferenceIdeal.defs _ _).mono (fun r h => ⟨fun c => (h c).2, sem_eq_zero_of_no_sems (by decide) r.2⟩)
    (Cert.DownDxReferenceIdeal.Value.run (F := Ideal) m ρ)

/-- The results are the reference's. -/
theorem values : Cert.algebraic_DownDxIdeal_DownDxReferenceIdeal := by
  intro m g m' g' _ hagree
  refine ⟨_, (θ_run defs _ _).mono (fun r h c => ⟨(h c).1.trans (final m c), (h c).2⟩) (Value.run_blocks m g),
    (θ_run Cert.DownDxReferenceIdeal.defs _ _).mono (fun r h c => ⟨(h c).1.trans ?_, (h c).2⟩) (Cert.DownDxReferenceIdeal.Value.run (F := Ideal) m' g')⟩
  obtain ⟨e0, e1, e2⟩ := hagree c
  rw [e0, e1, e2]
  funext i
  obtain ⟨a, b, rfl⟩ : ∃ (a : Fin 4096) (b : Fin 8192), i = ix2 a b := ⟨i 0, i 1, eq_ix2 i⟩
  unfold grad
  rw [← choice]
  pointwise

end Cert.Proof.DownDx

end
-- ==== Proof.DownDw.lean ====
/-
  THE GRADIENT OF THE MLP'S DOWN PRODUCT IN ITS WEIGHTS: what the call leaves, what the reference's lines compute, and that
  they are equal, entry by entry.
-/
module

public import Idealize.ShloMosaic.Lib.Pipeline.ValueKit
public import Idealize.ShloMosaic.Lib.Pointwise
public import proofs.«01_k».proof.Defs
public import proofs.«01_k».proof.Proof.Gen.DownDw
public import proofs.«01_k».proof.Proof.Gen.DownDwIdeal.Value
public import proofs.«01_k».proof.Proof.Gen.DownDwReferenceIdeal
public import proofs.«01_k».proof.Proof.Gen.DownDwReferenceIdeal.Run
public import Idealize.ShloMosaic.Adequacy
public import Idealize.ShloMosaic.Init
public import Idealize.ShloMosaic.Lib.StableHlo.ReadAt
public import Idealize.ShloMosaic.Lib.StableHlo.RunRead

@[expose] public section

set_option maxHeartbeats 800000

noncomputable section

namespace Cert.Proof.DownDw

open Cert.DownDwIdeal Cert.DownDwIdeal.Gen
open Idealize.ShloMosaic Idealize.ShloMosaic.TcCoe Idealize.SL.Sem

/-- The squared relu. -/
def sq (u : S4096x8192.Idx → EReal) : S4096x8192.Idx → EReal := fun i => max (u i) 0 * max (u i) 0

/-- The gradient: over the rows, the squared relu of the forward value times the gradient of the product. -/
def grad (u : S4096x8192.Idx → EReal) (g : S4096x2048.Idx → EReal) : S8192x2048.Idx → EReal :=
  fun i => ∑ n : Fin 4096, sq u (ix2 n (i 0)) * g (ix2 n (i 1))

/-- A block of the result from the two blocks it is computed from. -/
theorem pay (x0 x1 : S4096x1024.Idx → EReal) (i j : Fin 1024) :
    k0_pay1 (F := Ideal) x0 x1 (ix2 i j) = ∑ n : Fin 4096, x0 (ix2 n i) * x1 (ix2 n j) := by
  pointwise [k0_pay1]

variable (m : (ℓ : Loc nD τ sig) → Buf (Elt Ideal) ℓ) (c : Dev nD)

/-- Which blocks a point reads, by the block it writes. -/
theorem idx : ∀ t : Fin cfg0.N, win0_0.index t = ![0, win0_2.index t 0] ∧ win0_1.index t = ![0, win0_2.index t 1] :=
  (by decide +kernel : ∀ t : Fin grid0.N, _)

/-- The squared relu the host makes before the call. -/
theorem before (n : Fin 4096) (k : Fin 8192) : (V m c main_v3 : S4096x8192.Idx → EReal) (ix2 n k)
    = sq (m ((c : Thread nD τ).loc main_arg0)) (ix2 n k) := by
  unfold V sq
  simp only [hostOps0, hostOps0_1, hostOps0_2]
  after_reads_at

/-- The array after the run. -/
theorem final : ((dats m 0 c).arrAt 2 cfg0.N : S8192x2048.Idx → EReal)
    = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ a b : Fin 1024, y = ix2 a b := ⟨y 0, y 1, eq_ix2 y⟩
  rw [pay]
  unfold grad
  refine Finset.sum_congr (M := EReal) rfl fun n _ => ?_
  refine congrArg₂ (fun x y : EReal => x * y) ?_ ?_
  · refine Eq.trans ?_ (before m c n _)
    blk_ext [iblk, idx t]
  · blk_ext [iblk, V_main_arg1, idx t]

/-- The call and its idealization have the same text: one body. -/
theorem body_same {F : FTy → Type} [FloatOps F] (i a1 h1 a2 h2 a3 h3) :
    Cert.DownDw.cc0_mlp_down_dw (F := F) i a1 h1 a2 h2 a3 h3 = cc0_mlp_down_dw (F := F) i a1 h1 a2 h2 a3 h3 := rfl

/-- One table of bodies and regions. -/
theorem table_same {F : FTy → Type} [FloatOps F] : Cert.DownDw.defs (F := F) = defs (F := F) := by
  have h : Cert.DownDw.defs₀ (F := F) = defs₀ (F := F) := by
    unfold Cert.DownDw.defs₀ defs₀
    congr 1
    funext x
    match x with
    | (0 : Fin 1) =>
      funext y
      obtain ⟨t, s⟩ := y
      exact body_same _ _ _ _ _ _ _
  unfold Cert.DownDw.defs defs
  rw [h]
  rfl

/-- One program. -/
theorem main_same {F : FTy → Type} [FloatOps F] : Cert.DownDw.main (F := F) = main (F := F) := rfl

theorem frame_kernel : Cert.quiescent_DownDw := fun m ρ _ => by
  rw [table_same, main_same]; exact frame m ρ

theorem frame_ideal : Cert.quiescent_DownDwIdeal := fun m ρ _ => frame m ρ

theorem frame_reference : Cert.quiescent_DownDwReferenceIdeal := fun m ρ _ =>
  (θ_run Cert.DownDwReferenceIdeal.defs _ _).mono (fun r h => ⟨fun c => (h c).2, sem_eq_zero_of_no_sems (by decide) r.2⟩)
    (Cert.DownDwReferenceIdeal.Value.run (F := Ideal) m ρ)

/-- The results are the reference's. -/
theorem values : Cert.algebraic_DownDwIdeal_DownDwReferenceIdeal := by
  intro m g m' g' _ hagree
  refine ⟨_, (θ_run defs _ _).mono (fun r h c => ⟨(h c).1.trans (final m c), (h c).2⟩) (Value.run_blocks m g),
    (θ_run Cert.DownDwReferenceIdeal.defs _ _).mono (fun r h c => ⟨(h c).1.trans ?_, (h c).2⟩) (Cert.DownDwReferenceIdeal.Value.run (F := Ideal) m' g')⟩
  obtain ⟨e0, e1⟩ := hagree c
  rw [e0, e1]
  funext i
  obtain ⟨a, b, rfl⟩ : ∃ (a : Fin 8192) (b : Fin 2048), i = ix2 a b := ⟨i 0, i 1, eq_ix2 i⟩
  unfold grad
  simp only [mul_comm (sq _ _)]
  unfold sq
  pointwise

end Cert.Proof.DownDw

end
-- ==== Proof.UpDx.lean ====
/-
  THE GRADIENT OF THE MLP'S UP PRODUCT IN ITS INPUT, accumulated over two halves of the contraction: what the call leaves,
  what the reference's lines compute, and that they are equal, entry by entry.
-/
module

public import Idealize.ShloMosaic.Lib.Pipeline.ValueKit
public import Idealize.ShloMosaic.Lib.Pointwise
public import proofs.«01_k».proof.Defs
public import proofs.«01_k».proof.Proof.Gen.UpDx
public import proofs.«01_k».proof.Proof.Gen.UpDxIdeal.Value
public import proofs.«01_k».proof.Proof.Gen.UpDxReferenceIdeal
public import proofs.«01_k».proof.Proof.Gen.UpDxReferenceIdeal.Run
public import Idealize.ShloMosaic.Adequacy
public import Idealize.ShloMosaic.Init

@[expose] public section

set_option maxHeartbeats 800000

noncomputable section

namespace Cert.Proof.UpDx

open Cert.UpDxIdeal Cert.UpDxIdeal.Gen
open Idealize.ShloMosaic Idealize.ShloMosaic.TcCoe Idealize.SL.Sem

/-- The gradient: the product with the transposed weights. -/
def grad (g : S4096x8192.Idx → EReal) (w : S2048x8192.Idx → EReal) : S4096x2048.Idx → EReal :=
  fun i => ∑ k : Fin 8192, g (ix2 (i 0) k) * w (ix2 (i 1) k)

/-- The product of two blocks. -/
def blk (x0 x1 : S1024x4096.Idx → EReal) (i j : Fin 1024) : EReal := ∑ k : Fin 4096, x0 (ix2 i k) * x1 (ix2 j k)

/-- The first half of the contraction, stored. -/
theorem pay_first (x0 x1 : S1024x4096.Idx → EReal) (i j : Fin 1024) : k0_pay2 (F := Ideal) x0 x1 (ix2 i j) = blk x0 x1 i j := by
  unfold blk
  pointwise [k0_pay2, k0_pay1]

/-- The second half, added to it. -/
theorem pay_second (x0 x1 : S1024x4096.Idx → EReal) (s : S1024x1024.Idx → EReal) (i j : Fin 1024) :
    k0_pay4 (F := Ideal) (k0_pay3 (F := Ideal) x0 x1 s) (ix2 i j) = s (ix2 i j) + blk x0 x1 i j := by
  unfold blk
  pointwise [k0_pay4, k0_pay3, k0_pay1]

/-- A sum over the contraction as its two halves. -/
theorem halves (f : Fin 8192 → EReal) :
    ∑ k, f k = (∑ k : Fin 4096, f ⟨k.val, by omega⟩) + ∑ k : Fin 4096, f ⟨4096 + k.val, by omega⟩ :=
  Fin.sum_univ_add (a := 4096) (b := 4096) f

variable (m : (ℓ : Loc nD τ sig) → Buf (Elt Ideal) ℓ) (c : Dev nD)

/-- Which blocks a point reads, by the block it works on. -/
theorem idx : ∀ t : Fin cfg0.N, win0_0.index t = ![win0_2.index t 0, t.val % 2] ∧ win0_1.index t = ![win0_2.index t 1, t.val % 2] :=
  (by decide +kernel : ∀ t : Fin grid0.N, _)

/-- The two points of a block. -/
theorem pair : ∀ s t : Fin cfg0.N, s.val + 1 = t.val → t.val % 2 = 1 → win0_2.index s = win0_2.index t :=
  (by decide +kernel : ∀ s t : Fin grid0.N, s.val + 1 = t.val → t.val % 2 = 1 → win0_2.index s = win0_2.index t)

/-- The array after the run. -/
theorem final : ((dats m 0 c).arrAt 2 cfg0.N : S4096x2048.Idx → EReal)
    = grad (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hs : t.val - 1 < cfg0.N := lt_of_le_of_lt (Nat.sub_le _ _) t.isLt
  obtain ⟨a, b, rfl⟩ : ∃ a b : Fin 1024, y = ix2 a b := ⟨y 0, y 1, eq_ix2 y⟩
  blk_simp
  rw [after0_2, outsAt0_B m c t (by omega) ht ht]
  frame_out
  rw [pay_second]
  rw [outsAt0_A m c ⟨t.val - 1, hs⟩ (by show (t.val - 1) % 2 = 0; omega) (by show ¬ (t.val - 1) % 2 = 1; omega) (by show ¬ (t.val - 1) % 2 = 1; omega)]
  frame_out
  refine (congrArg (fun z : EReal => z + blk (iblk m c 0 t) (iblk m c 1 t) a b)
    ((congrFun ((Memref.isWhole_whole cc0_scratch0).read_unread _) (ix2 a b)).trans (pay_first _ _ a b))).trans ?_
  have e := pair ⟨t.val - 1, hs⟩ t (by show t.val - 1 + 1 = t.val; omega) ht
  have es := idx ⟨t.val - 1, hs⟩
  rw [e, show (t.val - 1) % 2 = 0 by omega] at es
  have et := idx t
  rw [ht] at et
  unfold grad blk
  rw [halves]
  refine congrArg₂ (fun x y : EReal => x + y) ?_ ?_ <;> refine Finset.sum_congr (M := EReal) rfl fun k _ => ?_ <;> refine congrArg₂ (fun x y : EReal => x * y) ?_ ?_
  · blk_ext [iblk, V_main_arg0, es]
  · blk_ext [iblk, V_main_arg1, es]
  · blk_ext [iblk, V_main_arg0, et]
  · blk_ext [iblk, V_main_arg1, et]

/-- The call and its idealization have the same text: one body. -/
theorem body_same {F : FTy → Type} [FloatOps F] (i a1 h1 a2 h2 a3 h3 a4 h4) :
    Cert.UpDx.cc0_mlp_up_dx (F := F) i a1 h1 a2 h2 a3 h3 a4 h4 = cc0_mlp_up_dx (F := F) i a1 h1 a2 h2 a3 h3 a4 h4 := rfl

/-- One table of bodies and regions. -/
theorem table_same {F : FTy → Type} [FloatOps F] : Cert.UpDx.defs (F := F) = defs (F := F) := by
  have h : Cert.UpDx.defs₀ (F := F) = defs₀ (F := F) := by
    unfold Cert.UpDx.defs₀ defs₀
    congr 1
    funext x
    match x with
    | (0 : Fin 1) =>
      funext y
      obtain ⟨t, s⟩ := y
      exact body_same _ _ _ _ _ _ _ _ _
  unfold Cert.UpDx.defs defs
  rw [h]
  rfl

/-- One program. -/
theorem main_same {F : FTy → Type} [FloatOps F] : Cert.UpDx.main (F := F) = main (F := F) := rfl

theorem frame_kernel : Cert.quiescent_UpDx := fun m ρ _ => by
  rw [table_same, main_same]; exact frame m ρ

theorem frame_ideal : Cert.quiescent_UpDxIdeal := fun m ρ _ => frame m ρ

theorem frame_reference : Cert.quiescent_UpDxReferenceIdeal := fun m ρ _ =>
  (θ_run Cert.UpDxReferenceIdeal.defs _ _).mono (fun r h => ⟨fun c => (h c).2, sem_eq_zero_of_no_sems (by decide) r.2⟩)
    (Cert.UpDxReferenceIdeal.Value.run (F := Ideal) m ρ)

/-- The results are the reference's. -/
theorem values : Cert.algebraic_UpDxIdeal_UpDxReferenceIdeal := by
  intro m g m' g' _ hagree
  refine ⟨_, (θ_run defs _ _).mono (fun r h c => ⟨(h c).1.trans (final m c), (h c).2⟩) (Value.run_blocks m g),
    (θ_run Cert.UpDxReferenceIdeal.defs _ _).mono (fun r h c => ⟨(h c).1.trans ?_, (h c).2⟩) (Cert.UpDxReferenceIdeal.Value.run (F := Ideal) m' g')⟩
  obtain ⟨e0, e1⟩ := hagree c
  rw [e0, e1]
  funext i
  obtain ⟨a, b, rfl⟩ : ∃ (a : Fin 4096) (b : Fin 2048), i = ix2 a b := ⟨i 0, i 1, eq_ix2 i⟩
  unfold grad
  pointwise

end Cert.Proof.UpDx

end
-- ==== Proof.UpDw.lean ====
/-
  THE GRADIENT OF THE MLP'S UP PRODUCT IN ITS WEIGHTS, in its four parts: what the call leaves, what the reference's lines
  compute, and that they are equal, entry by entry.
-/
module

public import Idealize.ShloMosaic.Lib.Pipeline.ValueKit
public import Idealize.ShloMosaic.Lib.Pointwise
public import proofs.«01_k».proof.Defs
public import proofs.«01_k».proof.Proof.Gen.UpDw
public import proofs.«01_k».proof.Proof.Gen.UpDwIdeal.Value
public import proofs.«01_k».proof.Proof.Gen.UpDwReferenceIdeal
public import proofs.«01_k».proof.Proof.Gen.UpDwReferenceIdeal.Run
public import Idealize.ShloMosaic.Adequacy
public import Idealize.ShloMosaic.Init

@[expose] public section

set_option maxHeartbeats 800000

noncomputable section

namespace Cert.Proof.UpDw

open Cert.UpDwIdeal Cert.UpDwIdeal.Gen
open Idealize.ShloMosaic Idealize.ShloMosaic.TcCoe Idealize.SL.Sem

/-- The gradient, part by part: over the rows, the input times the gradient of the product. -/
def grad (h : S4096x2048.Idx → EReal) (g : S4096x8192.Idx → EReal) : S4x2048x2048.Idx → EReal :=
  fun i => ∑ n : Fin 4096, h (ix2 n (i 1)) * g (ix2 n ⟨(i 0).val * 2048 + (i 2).val, by
    have h0 : (i 0).val < 4 := (i 0).isLt
    have h2 : (i 2).val < 2048 := (i 2).isLt
    omega⟩)

/-- A block of the result from the two blocks it is computed from. -/
theorem pay (x0 x1 : S4096x1024.Idx → EReal) (p : Fin 1) (i j : Fin 1024) :
    k0_pay1 (F := Ideal) x0 x1 (ix3 p i j) = ∑ n : Fin 4096, x0 (ix2 n i) * x1 (ix2 n j) := by
  pointwise [k0_pay1]

variable (m : (ℓ : Loc nD τ sig) → Buf (Elt Ideal) ℓ) (c : Dev nD)

/-- Which blocks a point reads, by the block it writes. -/
theorem idx : ∀ t : Fin cfg0.N, win0_0.index t = ![0, win0_2.index t 1] ∧ win0_1.index t = ![0, 2 * win0_2.index t 0 + win0_2.index t 2] :=
  (by decide +kernel : ∀ t : Fin grid0.N, _)

/-- The array after the run. -/
theorem final : ((dats m 0 c).arrAt 2 cfg0.N : S4x2048x2048.Idx → EReal)
    = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨p, a, b, rfl⟩ : ∃ (p : Fin 1) (a b : Fin 1024), y = ix3 p a b := ⟨y 0, y 1, y 2, eq_ix3 y⟩
  rw [pay]
  unfold grad
  refine Finset.sum_congr (M := EReal) rfl fun n _ => ?_
  congr 1
  · blk_ext [iblk, V_main_arg0, idx t]
  · blk_ext [iblk, V_main_arg1, idx t]

/-- The call and its idealization have the same text: one body. -/
theorem body_same {F : FTy → Type} [FloatOps F] (i a1 h1 a2 h2 a3 h3) :
    Cert.UpDw.cc0_mlp_up_dw (F := F) i a1 h1 a2 h2 a3 h3 = cc0_mlp_up_dw (F := F) i a1 h1 a2 h2 a3 h3 := rfl

/-- One table of bodies and regions. -/
theorem table_same {F : FTy → Type} [FloatOps F] : Cert.UpDw.defs (F := F) = defs (F := F) := by
  have h : Cert.UpDw.defs₀ (F := F) = defs₀ (F := F) := by
    unfold Cert.UpDw.defs₀ defs₀
    congr 1
    funext x
    match x with
    | (0 : Fin 1) =>
      funext y
      obtain ⟨t, s⟩ := y
      exact body_same _ _ _ _ _ _ _
  unfold Cert.UpDw.defs defs
  rw [h]
  rfl

/-- One program. -/
theorem main_same {F : FTy → Type} [FloatOps F] : Cert.UpDw.main (F := F) = main (F := F) := rfl

theorem frame_kernel : Cert.quiescent_UpDw := fun m ρ _ => by
  rw [table_same, main_same]; exact frame m ρ

theorem frame_ideal : Cert.quiescent_UpDwIdeal := fun m ρ _ => frame m ρ

theorem frame_reference : Cert.quiescent_UpDwReferenceIdeal := fun m ρ _ =>
  (θ_run Cert.UpDwReferenceIdeal.defs _ _).mono (fun r h => ⟨fun c => (h c).2, sem_eq_zero_of_no_sems (by decide) r.2⟩)
    (Cert.UpDwReferenceIdeal.Value.run (F := Ideal) m ρ)

/-- The results are the reference's. -/
theorem values : Cert.algebraic_UpDwIdeal_UpDwReferenceIdeal := by
  intro m g m' g' _ hagree
  refine ⟨_, (θ_run defs _ _).mono (fun r h c => ⟨(h c).1.trans (final m c), (h c).2⟩) (Value.run_blocks m g),
    (θ_run Cert.UpDwReferenceIdeal.defs _ _).mono (fun r h c => ⟨(h c).1.trans ?_, (h c).2⟩) (Cert.UpDwReferenceIdeal.Value.run (F := Ideal) m' g')⟩
  obtain ⟨e0, e1⟩ := hagree c
  rw [e0, e1]
  funext i
  obtain ⟨p, a, b, rfl⟩ : ∃ (p : Fin 4) (a b : Fin 2048), i = ix3 p a b := ⟨i 0, i 1, i 2, eq_ix3 i⟩
  pointwise
  exact Finset.sum_congr (M := EReal) rfl fun n _ => mul_comm (_ : EReal) _

end Cert.Proof.UpDw

end
-- ==== Proof.Up.lean ====
/-
  THE MLP'S UP PRODUCT AND ITS SQUARED RELU: what the call leaves, what the reference's lines compute, and that they are
  equal, entry by entry.
-/
module

public import Idealize.ShloMosaic.Lib.Pipeline.ValueKit
public import Idealize.ShloMosaic.Lib.Pointwise
public import proofs.«01_k».proof.Defs
public import proofs.«01_k».proof.Proof.Gen.Up
public import proofs.«01_k».proof.Proof.Gen.UpIdeal.Value
public import proofs.«01_k».proof.Proof.Gen.UpReferenceIdeal
public import proofs.«01_k».proof.Proof.Gen.UpReferenceIdeal.Run
public import Idealize.ShloMosaic.Adequacy
public import Idealize.ShloMosaic.Init
public import Idealize.ShloMosaic.Lib.StableHlo.ReadAt
public import Idealize.ShloMosaic.Lib.StableHlo.RunRead

@[expose] public section

set_option maxHeartbeats 800000

noncomputable section

namespace Cert.Proof.Up

open Cert.UpIdeal Cert.UpIdeal.Gen
open Idealize.ShloMosaic Idealize.ShloMosaic.TcCoe Idealize.SL.Sem

/-- The product. -/
def prod (h : S4096x2048.Idx → EReal) (w : S2048x8192.Idx → EReal) : S4096x8192.Idx → EReal :=
  fun i => ∑ k : Fin 2048, h (ix2 (i 0) k) * w (ix2 k (i 1))

/-- Its squared relu. -/
def act (h : S4096x2048.Idx → EReal) (w : S2048x8192.Idx → EReal) : S4096x8192.Idx → EReal :=
  fun i => max (prod h w i) 0 * max (prod h w i) 0

/-- A block of the product. -/
def blk (x0 : S1024x2048.Idx → EReal) (x1 : S1x2048x1024.Idx → EReal) (i j : Fin 1024) : EReal :=
  ∑ k : Fin 2048, x0 (ix2 i k) * x1 (ix3 0 k j)

/-- A block of the product from the two blocks it is computed from. -/
theorem pay (x0 : S1024x2048.Idx → EReal) (x1 : S1x2048x1024.Idx → EReal) (i j : Fin 1024) :
    k0_pay2 (F := Ideal) x0 x1 (ix2 i j) = blk x0 x1 i j := by
  unfold blk
  pointwise [k0_pay2, k0_pay1]

/-- A block of its squared relu. -/
theorem pay_act (x0 : S1024x2048.Idx → EReal) (x1 : S1x2048x1024.Idx → EReal) (i j : Fin 1024) :
    k0_pay3 (F := Ideal) x0 x1 (ix2 i j)
      = max (blk x0 x1 i j) 0 * max (blk x0 x1 i j) 0 := by
  unfold blk
  pointwise [k0_pay3, k0_pay1]

variable (m : (ℓ : Loc nD τ sig) → Buf (Elt Ideal) ℓ) (c : Dev nD)

/-- Which blocks a point reads and writes. -/
theorem idx : ∀ t : Fin cfg0.N, win0_0.index t = ![win0_2.index t 0, 0] ∧ win0_1.index t = ![win0_2.index t 1, 0, 0]
    ∧ win0_3.index t = ![win0_2.index t 0, win0_2.index t 1] ∧ win0_2.index t 1 < 8 := (by decide +kernel : ∀ t : Fin grid0.N, _)

/-- The weights in eight parts, as the host hands them to the call. -/
theorem before (q : Fin 8) (k : Fin 2048) (j : Fin 1024) : (V m c main_v1 : S8x2048x1024.Idx → EReal) (ix3 q k j)
    = (m ((c : Thread nD τ).loc main_arg1) : S2048x8192.Idx → EReal) (ix2 k ⟨q.val * 1024 + j.val, by omega⟩) := by
  unfold V
  simp only [hostOps0]
  after_reads_at

/-- The block of the product a point computes. -/
theorem block (t : Fin cfg0.N) (a b : Fin 1024) :
    blk (iblk m c 0 t) (iblk m c 1 t) a b
      = prod (m ((c : Thread nD τ).loc main_arg0)) (m ((c : Thread nD τ).loc main_arg1)) (((cfg0.win 2).blk t).view.emb (ix2 a b)) := by
  unfold prod blk
  refine Finset.sum_congr (M := EReal) rfl fun k _ => ?_
  have e : (iblk m c 1 t : S1x2048x1024.Idx → EReal) (ix3 0 k b) = (V m c main_v1 : S8x2048x1024.Idx → EReal) (ix3 ⟨win0_2.index t 1, (idx t).2.2.2⟩ k b) := by
    blk_ext [iblk, idx t]
  rw [e, before]
  congr 1
  · blk_ext [iblk, V_main_arg0, idx t]
  · blk_ext [idx t]

/-- The product's array after the run. -/
theorem final : ((dats m 0 c).arrAt 2 cfg0.N : S4096x8192.Idx → EReal)
    = prod (m ((c : Thread nD τ).loc main_arg0)) (m ((c : Thread nD τ).loc main_arg1)) := by
  refine (dats m 0 c).arrAt_eq_of_covers 2 _ (by decide +kernel) fun t hf y => ?_
  obtain ⟨a, b, rfl⟩ : ∃ a b : Fin 1024, y = ix2 a b := ⟨y 0, y 1, eq_ix2 y⟩
  rw [← block]
  blk_simp
  rw [after0_2]
  frame_out
  rw [pay]

/-- The squared relu's array after the run. -/
theorem final_act : ((dats m 0 c).arrAt 3 cfg0.N : S4096x8192.Idx → EReal)
    = act (m ((c : Thread nD τ).loc main_arg0)) (m ((c : Thread nD τ).loc main_arg1)) := by
  refine (dats m 0 c).arrAt_eq_of_covers 3 _ (by decide +kernel) fun t hf y => ?_
  obtain ⟨a, b, rfl⟩ : ∃ a b : Fin 1024, y = ix2 a b := ⟨y 0, y 1, eq_ix2 y⟩
  have e : (((cfg0.win 3).blk t).view.emb (ix2 a b) : S4096x8192.Idx) = ((cfg0.win 2).blk t).view.emb (ix2 a b) := by
    blk_ext [idx t]
  unfold act
  rw [e, ← block]
  blk_simp
  rw [after0_3]
  frame_out
  rw [pay_act]

/-- The call and its idealization have the same text: one body. -/
theorem body_same {F : FTy → Type} [FloatOps F] (i a1 h1 a2 h2 a3 h3 a4 h4) :
    Cert.Up.cc0_mlp_up (F := F) i a1 h1 a2 h2 a3 h3 a4 h4 = cc0_mlp_up (F := F) i a1 h1 a2 h2 a3 h3 a4 h4 := rfl

/-- One table of bodies and regions. -/
theorem table_same {F : FTy → Type} [FloatOps F] : Cert.Up.defs (F := F) = defs (F := F) := by
  have h : Cert.Up.defs₀ (F := F) = defs₀ (F := F) := by
    unfold Cert.Up.defs₀ defs₀
    congr 1
    funext x
    match x with
    | (0 : Fin 1) =>
      funext y
      obtain ⟨t, s⟩ := y
      exact body_same _ _ _ _ _ _ _ _ _
  unfold Cert.Up.defs defs
  rw [h]
  rfl

/-- One program. -/
theorem main_same {F : FTy → Type} [FloatOps F] : Cert.Up.main (F := F) = main (F := F) := rfl

theorem frame_kernel : Cert.quiescent_Up := fun m ρ _ => by
  rw [table_same, main_same]; exact frame m ρ

theorem frame_ideal : Cert.quiescent_UpIdeal := fun m ρ _ => frame m ρ

theorem frame_reference : Cert.quiescent_UpReferenceIdeal := fun m ρ _ =>
  (θ_run Cert.UpReferenceIdeal.defs _ _).mono (fun r h => ⟨fun c => (h c).2.2, sem_eq_zero_of_no_sems (by decide) r.2⟩)
    (Cert.UpReferenceIdeal.Value.run (F := Ideal) m ρ)

/-- The results are the reference's. -/
theorem values : Cert.algebraic_UpIdeal_UpReferenceIdeal := by
  intro m g m' g' _ hagree
  refine ⟨_, _, (θ_run defs _ _).mono (fun r h c => ⟨(h c).1.trans (final m c), (h c).2.1.trans (final_act m c), (h c).2.2⟩) (Value.run_blocks m g),
    (θ_run Cert.UpReferenceIdeal.defs _ _).mono (fun r h c => ⟨(h c).1.trans ?_, (h c).2.1.trans ?_, (h c).2.2⟩) (Cert.UpReferenceIdeal.Value.run (F := Ideal) m' g')⟩
  all_goals
    obtain ⟨e0, e1⟩ := hagree c
    rw [e0, e1]
    funext i
    obtain ⟨a, b, rfl⟩ : ∃ (a : Fin 4096) (b : Fin 8192), i = ix2 a b := ⟨i 0, i 1, eq_ix2 i⟩
  · unfold prod
    pointwise
  · unfold act prod
    pointwise

end Cert.Proof.Up

end
-- ==== Proof.OutDx.lean ====
/-
  THE GRADIENT OF A MIXER'S OUTPUT PROJECTION IN ITS INPUT: what the call leaves, what the reference's lines compute, and
  that they are equal, entry by entry.
-/
module

public import Idealize.ShloMosaic.Lib.Pipeline.ValueKit
public import Idealize.ShloMosaic.Lib.Pointwise
public import proofs.«01_k».proof.Defs
public import proofs.«01_k».proof.Proof.Gen.OutDx
public import proofs.«01_k».proof.Proof.Gen.OutDxIdeal.Value
public import proofs.«01_k».proof.Proof.Gen.OutDxReferenceIdeal
public import proofs.«01_k».proof.Proof.Gen.OutDxReferenceIdeal.Run
public import Idealize.ShloMosaic.Adequacy
public import Idealize.ShloMosaic.Init

@[expose] public section

set_option maxHeartbeats 800000

noncomputable section

namespace Cert.Proof.OutDx

open Cert.OutDxIdeal Cert.OutDxIdeal.Gen
open Idealize.ShloMosaic Idealize.ShloMosaic.TcCoe Idealize.SL.Sem

/-- The gradient: the product with the transposed weights. -/
def grad (w : S2048x2048.Idx → EReal) (g : S4096x2048.Idx → EReal) : S4096x2048.Idx → EReal :=
  fun i => ∑ k : Fin 2048, g (ix2 (i 0) k) * w (ix2 (i 1) k)

/-- A block of the result from the two blocks it is computed from. -/
theorem pay (x0 x1 : S1024x2048.Idx → EReal) (i j : Fin 1024) :
    k0_pay1 (F := Ideal) x0 x1 (ix2 i j) = ∑ k : Fin 2048, x0 (ix2 i k) * x1 (ix2 j k) := by
  pointwise [k0_pay1]

variable (m : (ℓ : Loc nD τ sig) → Buf (Elt Ideal) ℓ) (c : Dev nD)

/-- Which blocks a point reads, by the block it writes. -/
theorem idx : ∀ t : Fin cfg0.N, win0_0.index t = ![win0_2.index t 0, 0] ∧ win0_1.index t = ![win0_2.index t 1, 0] :=
  (by decide +kernel : ∀ t : Fin grid0.N, _)

/-- The array after the run. -/
theorem final : ((dats m 0 c).arrAt 2 cfg0.N : S4096x2048.Idx → EReal)
    = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ a b : Fin 1024, y = ix2 a b := ⟨y 0, y 1, eq_ix2 y⟩
  rw [pay]
  unfold grad
  refine Finset.sum_congr (M := EReal) rfl fun n _ => ?_
  refine congrArg₂ (fun x y : EReal => x * y) ?_ ?_
  · blk_ext [iblk, V_main_arg1, idx t]
  · blk_ext [iblk, V_main_arg0, idx t]

/-- The call and its idealization have the same text: one body. -/
theorem body_same {F : FTy → Type} [FloatOps F] (i a1 h1 a2 h2 a3 h3) :
    Cert.OutDx.cc0_mixer_out_dx (F := F) i a1 h1 a2 h2 a3 h3 = cc0_mixer_out_dx (F := F) i a1 h1 a2 h2 a3 h3 := rfl

/-- One table of bodies and regions. -/
theorem table_same {F : FTy → Type} [FloatOps F] : Cert.OutDx.defs (F := F) = defs (F := F) := by
  have h : Cert.OutDx.defs₀ (F := F) = defs₀ (F := F) := by
    unfold Cert.OutDx.defs₀ defs₀
    congr 1
    funext x
    match x with
    | (0 : Fin 1) =>
      funext y
      obtain ⟨t, s⟩ := y
      exact body_same _ _ _ _ _ _ _
  unfold Cert.OutDx.defs defs
  rw [h]
  rfl

/-- One program. -/
theorem main_same {F : FTy → Type} [FloatOps F] : Cert.OutDx.main (F := F) = main (F := F) := rfl

theorem frame_kernel : Cert.quiescent_OutDx := fun m ρ _ => by
  rw [table_same, main_same]; exact frame m ρ

theorem frame_ideal : Cert.quiescent_OutDxIdeal := fun m ρ _ => frame m ρ

theorem frame_reference : Cert.quiescent_OutDxReferenceIdeal := fun m ρ _ =>
  (θ_run Cert.OutDxReferenceIdeal.defs _ _).mono (fun r h => ⟨fun c => (h c).2, sem_eq_zero_of_no_sems (by decide) r.2⟩)
    (Cert.OutDxReferenceIdeal.Value.run (F := Ideal) m ρ)

/-- The results are the reference's. -/
theorem values : Cert.algebraic_OutDxIdeal_OutDxReferenceIdeal := by
  intro m g m' g' _ hagree
  refine ⟨_, (θ_run defs _ _).mono (fun r h c => ⟨(h c).1.trans (final m c), (h c).2⟩) (Value.run_blocks m g),
    (θ_run Cert.OutDxReferenceIdeal.defs _ _).mono (fun r h c => ⟨(h c).1.trans ?_, (h c).2⟩) (Cert.OutDxReferenceIdeal.Value.run (F := Ideal) m' g')⟩
  obtain ⟨e0, e1⟩ := hagree c
  rw [e0, e1]
  funext i
  obtain ⟨a, b, rfl⟩ : ∃ (a : Fin 4096) (b : Fin 2048), i = ix2 a b := ⟨i 0, i 1, eq_ix2 i⟩
  unfold grad
  pointwise

end Cert.Proof.OutDx

end
-- ==== Proof.OutDw.lean ====
/-
  THE GRADIENT OF A MIXER'S OUTPUT PROJECTION IN ITS WEIGHTS: what the call leaves, what the reference's lines compute,
  and that they are equal, entry by entry.
-/
module

public import Idealize.ShloMosaic.Lib.Pipeline.ValueKit
public import Idealize.ShloMosaic.Lib.Pointwise
public import proofs.«01_k».proof.Defs
public import proofs.«01_k».proof.Proof.Gen.OutDw
public import proofs.«01_k».proof.Proof.Gen.OutDwIdeal.Value
public import proofs.«01_k».proof.Proof.Gen.OutDwReferenceIdeal
public import proofs.«01_k».proof.Proof.Gen.OutDwReferenceIdeal.Run
public import Idealize.ShloMosaic.Adequacy
public import Idealize.ShloMosaic.Init

@[expose] public section

set_option maxHeartbeats 800000

noncomputable section

namespace Cert.Proof.OutDw

open Cert.OutDwIdeal Cert.OutDwIdeal.Gen
open Idealize.ShloMosaic Idealize.ShloMosaic.TcCoe Idealize.SL.Sem

/-- The gradient: over the rows, the projection's input times the gradient of its result. -/
def grad (z g : S4096x2048.Idx → EReal) : S2048x2048.Idx → EReal :=
  fun i => ∑ n : Fin 4096, z (ix2 n (i 0)) * g (ix2 n (i 1))

/-- A block of the result from the two blocks it is computed from. -/
theorem pay (x0 x1 : S4096x1024.Idx → EReal) (i j : Fin 1024) :
    k0_pay1 (F := Ideal) x0 x1 (ix2 i j) = ∑ n : Fin 4096, x0 (ix2 n i) * x1 (ix2 n j) := by
  pointwise [k0_pay1]

variable (m : (ℓ : Loc nD τ sig) → Buf (Elt Ideal) ℓ) (c : Dev nD)

/-- Which blocks a point reads, by the block it writes. -/
theorem idx : ∀ t : Fin cfg0.N, win0_0.index t = ![0, win0_2.index t 0] ∧ win0_1.index t = ![0, win0_2.index t 1] :=
  (by decide +kernel : ∀ t : Fin grid0.N, _)

/-- The array after the run. -/
theorem final : ((dats m 0 c).arrAt 2 cfg0.N : S2048x2048.Idx → EReal)
    = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ a b : Fin 1024, y = ix2 a b := ⟨y 0, y 1, eq_ix2 y⟩
  rw [pay]
  unfold grad
  refine Finset.sum_congr (M := EReal) rfl fun n _ => ?_
  refine congrArg₂ (fun x y : EReal => x * y) ?_ ?_
  · blk_ext [iblk, V_main_arg0, idx t]
  · blk_ext [iblk, V_main_arg1, idx t]

/-- The call and its idealization have the same text: one body. -/
theorem body_same {F : FTy → Type} [FloatOps F] (i a1 h1 a2 h2 a3 h3) :
    Cert.OutDw.cc0_mixer_out_dw (F := F) i a1 h1 a2 h2 a3 h3 = cc0_mixer_out_dw (F := F) i a1 h1 a2 h2 a3 h3 := rfl

/-- One table of bodies and regions. -/
theorem table_same {F : FTy → Type} [FloatOps F] : Cert.OutDw.defs (F := F) = defs (F := F) := by
  have h : Cert.OutDw.defs₀ (F := F) = defs₀ (F := F) := by
    unfold Cert.OutDw.defs₀ defs₀
    congr 1
    funext x
    match x with
    | (0 : Fin 1) =>
      funext y
      obtain ⟨t, s⟩ := y
      exact body_same _ _ _ _ _ _ _
  unfold Cert.OutDw.defs defs
  rw [h]
  rfl

/-- One program. -/
theorem main_same {F : FTy → Type} [FloatOps F] : Cert.OutDw.main (F := F) = main (F := F) := rfl

theorem frame_kernel : Cert.quiescent_OutDw := fun m ρ _ => by
  rw [table_same, main_same]; exact frame m ρ

theorem frame_ideal : Cert.quiescent_OutDwIdeal := fun m ρ _ => frame m ρ

theorem frame_reference : Cert.quiescent_OutDwReferenceIdeal := fun m ρ _ =>
  (θ_run Cert.OutDwReferenceIdeal.defs _ _).mono (fun r h => ⟨fun c => (h c).2, sem_eq_zero_of_no_sems (by decide) r.2⟩)
    (Cert.OutDwReferenceIdeal.Value.run (F := Ideal) m ρ)

/-- The results are the reference's. -/
theorem values : Cert.algebraic_OutDwIdeal_OutDwReferenceIdeal := by
  intro m g m' g' _ hagree
  refine ⟨_, (θ_run defs _ _).mono (fun r h c => ⟨(h c).1.trans (final m c), (h c).2⟩) (Value.run_blocks m g),
    (θ_run Cert.OutDwReferenceIdeal.defs _ _).mono (fun r h c => ⟨(h c).1.trans ?_, (h c).2⟩) (Cert.OutDwReferenceIdeal.Value.run (F := Ideal) m' g')⟩
  obtain ⟨e0, e1⟩ := hagree c
  rw [e0, e1]
  funext i
  obtain ⟨a, b, rfl⟩ : ∃ (a : Fin 2048) (b : Fin 2048), i = ix2 a b := ⟨i 0, i 1, eq_ix2 i⟩
  pointwise
  exact Finset.sum_congr (M := EReal) rfl fun n _ => mul_comm (_ : EReal) _

end Cert.Proof.OutDw

end
-- ==== Proof.Parts.lean ====
/-
  Three arrays side by side, as one of three times the width.
-/
module

public import Idealize.ShloMosaic.Lib.Pipeline.ValueKit

@[expose] public section

namespace Cert.Proof

/-- The column `x` of three arrays side by side is in the array `x / 2048` at the column `x % 2048`. -/
theorem side {M : Type*} (g : Fin 3 → Fin 2048 → M) (x : Nat) (hx : x < 6144) (q : Fin 3) (k : Fin 2048)
    (e : q.val * 2048 + k.val = x) :
    (if h : x < 2048 then g 0 ⟨x, h⟩ else if h : x - 2048 < 2048 then g 1 ⟨x - 2048, h⟩
      else g 2 ⟨x - 2048 - 2048, by omega⟩) = g q k := by
  obtain ⟨q, hq⟩ := q
  obtain ⟨k, hk⟩ := k
  have e : q * 2048 + k = x := e
  split
  · have : q = 0 := by omega
    subst this
    exact congrArg (g 0) (Fin.ext (by show x = k; omega))
  · split
    · have : q = 1 := by omega
      subst this
      exact congrArg (g 1) (Fin.ext (by show x - 2048 = k; omega))
    · have : q = 2 := by omega
      subst this
      exact congrArg (g 2) (Fin.ext (by show x - 2048 - 2048 = k; omega))

end Cert.Proof

end
-- ==== Proof.ConvInDw.lean ====
/-
  THE GRADIENT OF THE SHORT CONVOLUTION'S INPUT PROJECTION IN ITS WEIGHTS, in its four parts: what the call leaves, what the
  reference's lines compute, and that they are equal, entry by entry.
-/
module

public import Idealize.ShloMosaic.Lib.Pipeline.ValueKit
public import Idealize.ShloMosaic.Lib.Pointwise
public import proofs.«01_k».proof.Defs
public import proofs.«01_k».proof.Proof.Gen.ConvInDw
public import proofs.«01_k».proof.Proof.Gen.ConvInDwIdeal.Value
public import proofs.«01_k».proof.Proof.Gen.ConvInDwReferenceIdeal
public import proofs.«01_k».proof.Proof.Gen.ConvInDwReferenceIdeal.Run
public import Idealize.ShloMosaic.Adequacy
public import Idealize.ShloMosaic.Init
public import proofs.«01_k».proof.Proof.Parts

@[expose] public section

set_option maxHeartbeats 800000

noncomputable section

namespace Cert.Proof.ConvInDw

open Cert.ConvInDwIdeal Cert.ConvInDwIdeal.Gen
open Idealize.ShloMosaic Idealize.ShloMosaic.TcCoe Idealize.SL.Sem

/-- The gradient, part by part: over the rows, the input times the gradient of the product. -/
def grad (h : S4096x2048.Idx → EReal) (g : S3x4096x2048.Idx → EReal) : S4x2048x1536.Idx → EReal :=
  fun i => ∑ n : Fin 4096, h (ix2 n (i 1)) * g (ix3 ⟨((i 0).val * 1536 + (i 2).val) / 2048, by
    have h0 : (i 0).val < 4 := (i 0).isLt
    have h2 : (i 2).val < 1536 := (i 2).isLt
    omega⟩ n ⟨((i 0).val * 1536 + (i 2).val) % 2048, Nat.mod_lt _ (by decide)⟩)

/-- A block of the result from the two blocks it is computed from. -/
theorem pay (x0 : S4096x1024.Idx → EReal) (x1 : S1x4096x512.Idx → EReal) (p : Fin 1) (i : Fin 1024) (j : Fin 512) :
    k0_pay1 (F := Ideal) x0 x1 (ix3 p i j) = ∑ n : Fin 4096, x0 (ix2 n i) * x1 (ix3 0 n j) := by
  pointwise [k0_pay1]

variable (m : (ℓ : Loc nD τ sig) → Buf (Elt Ideal) ℓ) (c : Dev nD)

/-- Which blocks a point reads, by the block it writes. -/
theorem idx : ∀ t : Fin cfg0.N, win0_0.index t = ![0, win0_2.index t 1]
    ∧ win0_1.index t = ![(3 * win0_2.index t 0 + win0_2.index t 2) / 4, 0, (3 * win0_2.index t 0 + win0_2.index t 2) % 4] :=
  (by decide +kernel : ∀ t : Fin grid0.N, _)

/-- The array after the run. -/
theorem final : ((dats m 0 c).arrAt 2 cfg0.N : S4x2048x1536.Idx → EReal)
    = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨p, a, b, rfl⟩ : ∃ (p : Fin 1) (a : Fin 1024) (b : Fin 512), y = ix3 p a b := ⟨y 0, y 1, y 2, eq_ix3 y⟩
  rw [pay]
  unfold grad
  refine Finset.sum_congr (M := EReal) rfl fun n _ => ?_
  refine congrArg₂ (fun x y : EReal => x * y) ?_ ?_
  · blk_ext [iblk, V_main_arg0, idx t]
  · blk_ext [iblk, V_main_arg1, idx t]

/-- The call and its idealization have the same text: one body. -/
theorem body_same {F : FTy → Type} [FloatOps F] (i a1 h1 a2 h2 a3 h3) :
    Cert.ConvInDw.cc0_conv_in_dw (F := F) i a1 h1 a2 h2 a3 h3 = cc0_conv_in_dw (F := F) i a1 h1 a2 h2 a3 h3 := rfl

/-- One table of bodies and regions. -/
theorem table_same {F : FTy → Type} [FloatOps F] : Cert.ConvInDw.defs (F := F) = defs (F := F) := by
  have h : Cert.ConvInDw.defs₀ (F := F) = defs₀ (F := F) := by
    unfold Cert.ConvInDw.defs₀ defs₀
    congr 1
    funext x
    match x with
    | (0 : Fin 1) =>
      funext y
      obtain ⟨t, s⟩ := y
      exact body_same _ _ _ _ _ _ _
  unfold Cert.ConvInDw.defs defs
  rw [h]
  rfl

/-- One program. -/
theorem main_same {F : FTy → Type} [FloatOps F] : Cert.ConvInDw.main (F := F) = main (F := F) := rfl

theorem frame_kernel : Cert.quiescent_ConvInDw := fun m ρ _ => by
  rw [table_same, main_same]; exact frame m ρ

theorem frame_ideal : Cert.quiescent_ConvInDwIdeal := fun m ρ _ => frame m ρ

theorem frame_reference : Cert.quiescent_ConvInDwReferenceIdeal := fun m ρ _ =>
  (θ_run Cert.ConvInDwReferenceIdeal.defs _ _).mono (fun r h => ⟨fun c => (h c).2, sem_eq_zero_of_no_sems (by decide) r.2⟩)
    (Cert.ConvInDwReferenceIdeal.Value.run (F := Ideal) m ρ)

/-- The results are the reference's. -/
theorem values : Cert.algebraic_ConvInDwIdeal_ConvInDwReferenceIdeal := by
  intro m g m' g' _ hagree
  refine ⟨_, (θ_run defs _ _).mono (fun r h c => ⟨(h c).1.trans (final m c), (h c).2⟩) (Value.run_blocks m g),
    (θ_run Cert.ConvInDwReferenceIdeal.defs _ _).mono (fun r h c => ⟨(h c).1.trans ?_, (h c).2⟩) (Cert.ConvInDwReferenceIdeal.Value.run (F := Ideal) m' g')⟩
  obtain ⟨e0, e1⟩ := hagree c
  rw [e0, e1]
  funext i
  obtain ⟨p, a, b, rfl⟩ : ∃ (p : Fin 4) (a : Fin 2048) (b : Fin 1536), i = ix3 p a b := ⟨i 0, i 1, i 2, eq_ix3 i⟩
  unfold grad
  pointwise
  refine Finset.sum_congr (M := EReal) rfl fun n _ => ?_
  rw [mul_comm]
  exact congrArg (fun x : EReal => _ * x) (side (fun q k => (m ((c : Thread nD τ).loc main_arg1) : S3x4096x2048.Idx → EReal) (ix3 q n k)) _ (by omega) ⟨_, _⟩ ⟨_, _⟩ (Nat.div_add_mod' _ 2048))

end Cert.Proof.ConvInDw

end
-- ==== Proof.ConvInDx.lean ====
/-
  THE GRADIENT OF THE SHORT CONVOLUTION'S INPUT PROJECTION IN ITS INPUT, accumulated over the three parts of the contraction:
  what the call leaves, what the reference's lines compute, and that they are equal, entry by entry.
-/
module

public import Idealize.ShloMosaic.Lib.Pipeline.ValueKit
public import Idealize.ShloMosaic.Lib.Pointwise
public import proofs.«01_k».proof.Defs
public import proofs.«01_k».proof.Proof.Gen.ConvInDx
public import proofs.«01_k».proof.Proof.Gen.ConvInDxIdeal.Value
public import proofs.«01_k».proof.Proof.Gen.ConvInDxReferenceIdeal
public import proofs.«01_k».proof.Proof.Gen.ConvInDxReferenceIdeal.Run
public import Idealize.ShloMosaic.Adequacy
public import Idealize.ShloMosaic.Init
public import proofs.«01_k».proof.Proof.Parts

@[expose] public section

set_option maxHeartbeats 800000

noncomputable section

namespace Cert.Proof.ConvInDx

open Cert.ConvInDxIdeal Cert.ConvInDxIdeal.Gen
open Idealize.ShloMosaic Idealize.ShloMosaic.TcCoe Idealize.SL.Sem

/-- The gradient: the product with the transposed weights, part by part. -/
def grad (w : S2048x6144.Idx → EReal) (g : S3x4096x2048.Idx → EReal) : S4096x2048.Idx → EReal :=
  fun i => ∑ q : Fin 3, ∑ k : Fin 2048, g (ix3 q (i 0) k) * w (ix2 (i 1) ⟨q.val * 2048 + k.val, by omega⟩)

/-- The product of two blocks. -/
def blk (x0 : S1x1024x2048.Idx → EReal) (x1 : S1024x2048.Idx → EReal) (i j : Fin 1024) : EReal :=
  ∑ k : Fin 2048, x0 (ix3 0 i k) * x1 (ix2 j k)

/-- The first part of the contraction, stored. -/
theorem pay_first (x0 : S1x1024x2048.Idx → EReal) (x1 : S1024x2048.Idx → EReal) (i j : Fin 1024) :
    k0_pay2 (F := Ideal) x0 x1 (ix2 i j) = blk x0 x1 i j := by
  unfold blk
  pointwise [k0_pay2, k0_pay1]

/-- A later part, added to what is there. -/
theorem pay_next (x0 : S1x1024x2048.Idx → EReal) (x1 : S1024x2048.Idx → EReal) (s : S1024x1024.Idx → EReal) (i j : Fin 1024) :
    k0_pay3 (F := Ideal) x0 x1 s (ix2 i j) = s (ix2 i j) + blk x0 x1 i j := by
  unfold blk
  pointwise [k0_pay3, k0_pay1]

/-- The sum, written out. -/
theorem pay_last (s : S1024x1024.Idx → EReal) (i j : Fin 1024) : k0_pay4 (F := Ideal) s (ix2 i j) = s (ix2 i j) := by
  pointwise [k0_pay4]

variable (m : (ℓ : Loc nD τ sig) → Buf (Elt Ideal) ℓ) (c : Dev nD)

/-- Which blocks a point reads, by the block it works on. -/
theorem idx : ∀ t : Fin cfg0.N, win0_0.index t = ![t.val % 3, t.val / 6, 0] ∧ win0_1.index t = ![t.val / 3 % 2, t.val % 3]
    ∧ win0_2.index t = ![t.val / 6, t.val / 3 % 2] :=
  (by decide +kernel : ∀ t : Fin grid0.N, _)

/-- The scratch after a block's last point: the sum of its points' products. -/
theorem carry (t : Fin cfg0.N) (ht : t.val % 3 = 3 - 1) (i : S1024x1024.Idx) : ((outsAt0 m c t.val t.isLt).2 : S1024x1024.Idx → EReal) i
    = 0 + ∑ s : Fin 3, blk (iblk m c 0 ⟨3 * (t.val / 3) + s.val, Pipeline.run_point_lt_of_flush t ht s⟩)
      (iblk m c 1 ⟨3 * (t.val / 3) + s.val, Pipeline.run_point_lt_of_flush t ht s⟩) (i 0) (i 1) := by
  refine Pipeline.eq_sum_fin_of_reset_step_apply_of_flush (fun n h => ((outsAt0 m c n h).2 : S1024x1024.Idx → EReal)) 3 (fun _ => 0)
    (fun t i => blk (iblk m c 0 t) (iblk m c 1 t) (i 0) (i 1)) (fun t h i => ?_) (fun t h i => ?_) t ht i
  · obtain ⟨a, b, rfl⟩ : ∃ a b : Fin 1024, i = ix2 a b := ⟨i 0, i 1, eq_ix2 i⟩
    show ((outsAt0 m c t.val t.isLt).2 : S1024x1024.Idx → EReal) (ix2 a b) = _
    rw [outsAt0_A m c t h (by omega) (by omega)]
    frame_out
    rw [zero_add]
    exact pay_first _ _ a b
  · obtain ⟨a, b, rfl⟩ : ∃ a b : Fin 1024, i = ix2 a b := ⟨i 0, i 1, eq_ix2 i⟩
    show ((outsAt0 m c t.val t.isLt).2 : S1024x1024.Idx → EReal) (ix2 a b) = _
    by_cases hl : t.val % 3 = 2
    · rw [outsAt0_C m c t h (by omega) hl]
      frame_out
      exact (pay_next _ _ _ a b).trans (congrArg (fun z : EReal => z + _) (congrFun ((Memref.isWhole_whole cc0_scratch0).read_unread _) (ix2 a b)))
    · rw [outsAt0_B m c t h (by omega) hl]
      frame_out
      exact (pay_next _ _ _ a b).trans (congrArg (fun z : EReal => z + _) (congrFun ((Memref.isWhole_whole cc0_scratch0).read_unread _) (ix2 a b)))

/-- The array after the run. -/
theorem final : ((dats m 0 c).arrAt 2 cfg0.N : S4096x2048.Idx → EReal)
    = grad (m ((c : Thread nD τ).loc main_arg0)) (m ((c : Thread nD τ).loc main_arg1)) := by
  refine (dats m 0 c).arrAt_eq_of_covers 2 _ (by decide +kernel) fun t hf y => ?_
  have ht : t.val % 3 = 2 := (flush0_2 t).mp hf
  obtain ⟨a, b, rfl⟩ : ∃ a b : Fin 1024, y = ix2 a b := ⟨y 0, y 1, eq_ix2 y⟩
  blk_simp
  have e : (outsAt0 m c t.val t.isLt).1 = k0_pay4 (F := Ideal) (outsAt0 m c t.val t.isLt).2 := by
    rw [outsAt0_C m c t (by omega) (by omega) ht]
    frame_out
  rw [after0_2, e, pay_last, carry m c t ht, zero_add]
  unfold grad blk
  refine Finset.sum_congr (M := EReal) rfl fun q _ => Finset.sum_congr (M := EReal) rfl fun k _ => ?_
  have es := idx ⟨3 * (t.val / 3) + q.val, Pipeline.run_point_lt_of_flush t ht q⟩
  have et := (idx t).2.2
  have hq := q.isLt
  rw [show (3 * (t.val / 3) + q.val) % 3 = q.val by omega, show (3 * (t.val / 3) + q.val) / 6 = t.val / 6 by omega,
    show (3 * (t.val / 3) + q.val) / 3 = t.val / 3 by omega] at es
  refine congrArg₂ (fun x y : EReal => x * y) ?_ ?_
  · blk_ext [iblk, V_main_arg1, es, et]
  · blk_ext [iblk, V_main_arg0, es, et]

/-- The call and its idealization have the same text: one body. -/
theorem body_same {F : FTy → Type} [FloatOps F] (i a1 h1 a2 h2 a3 h3 a4 h4) :
    Cert.ConvInDx.cc0_conv_in_dx (F := F) i a1 h1 a2 h2 a3 h3 a4 h4 = cc0_conv_in_dx (F := F) i a1 h1 a2 h2 a3 h3 a4 h4 := rfl

/-- One table of bodies and regions. -/
theorem table_same {F : FTy → Type} [FloatOps F] : Cert.ConvInDx.defs (F := F) = defs (F := F) := by
  have h : Cert.ConvInDx.defs₀ (F := F) = defs₀ (F := F) := by
    unfold Cert.ConvInDx.defs₀ defs₀
    congr 1
    funext x
    match x with
    | (0 : Fin 1) =>
      funext y
      obtain ⟨t, s⟩ := y
      exact body_same _ _ _ _ _ _ _ _ _
  unfold Cert.ConvInDx.defs defs
  rw [h]
  rfl

/-- One program. -/
theorem main_same {F : FTy → Type} [FloatOps F] : Cert.ConvInDx.main (F := F) = main (F := F) := rfl

theorem frame_kernel : Cert.quiescent_ConvInDx := fun m ρ _ => by
  rw [table_same, main_same]; exact frame m ρ

theorem frame_ideal : Cert.quiescent_ConvInDxIdeal := fun m ρ _ => frame m ρ

theorem frame_reference : Cert.quiescent_ConvInDxReferenceIdeal := fun m ρ _ =>
  (θ_run Cert.ConvInDxReferenceIdeal.defs _ _).mono (fun r h => ⟨fun c => (h c).2, sem_eq_zero_of_no_sems (by decide) r.2⟩)
    (Cert.ConvInDxReferenceIdeal.Value.run (F := Ideal) m ρ)

/-- The results are the reference's. -/
theorem values : Cert.algebraic_ConvInDxIdeal_ConvInDxReferenceIdeal := by
  intro m g m' g' _ hagree
  refine ⟨_, (θ_run defs _ _).mono (fun r h c => ⟨(h c).1.trans (final m c), (h c).2⟩) (Value.run_blocks m g),
    (θ_run Cert.ConvInDxReferenceIdeal.defs _ _).mono (fun r h c => ⟨(h c).1.trans ?_, (h c).2⟩) (Cert.ConvInDxReferenceIdeal.Value.run (F := Ideal) m' g')⟩
  obtain ⟨e0, e1⟩ := hagree c
  rw [e0, e1]
  funext i
  obtain ⟨a, b, rfl⟩ : ∃ (a : Fin 4096) (b : Fin 2048), i = ix2 a b := ⟨i 0, i 1, eq_ix2 i⟩
  unfold grad
  pointwise
  refine (Fin.sum_mul_add_congr (M := EReal) fun q k hl => ?_).symm
  exact congrArg (fun x : EReal => x * _) (side (fun q k => (m ((c : Thread nD τ).loc main_arg1) : S3x4096x2048.Idx → EReal) (ix3 q a k)) _ hl q k rfl).symm

end Cert.Proof.ConvInDx

end
-- ==== Proof.FoxInDx.lean ====
/-
  THE GRADIENT OF THE ATTENTION'S INPUT PROJECTION IN ITS INPUT, accumulated over the queries', the keys' and the values'
  parts of the contraction, and added to the forget gates' part: what the call leaves, what the reference's lines compute,
  and that they are equal, entry by entry.
-/
module

public import Idealize.ShloMosaic.Lib.Pipeline.ValueKit
public import Idealize.ShloMosaic.Lib.Pointwise
public import proofs.«01_k».proof.Defs
public import proofs.«01_k».proof.Proof.Gen.FoxInDx
public import proofs.«01_k».proof.Proof.Gen.FoxInDxIdeal.Value
public import proofs.«01_k».proof.Proof.Gen.FoxInDxReferenceIdeal
public import proofs.«01_k».proof.Proof.Gen.FoxInDxReferenceIdeal.Run
public import Idealize.ShloMosaic.Adequacy
public import Idealize.ShloMosaic.Init
public import proofs.«01_k».proof.Proof.Parts

@[expose] public section

set_option maxHeartbeats 800000

noncomputable section

namespace Cert.Proof.FoxInDx

open Cert.FoxInDxIdeal Cert.FoxInDxIdeal.Gen
open Idealize.ShloMosaic Idealize.ShloMosaic.TcCoe Idealize.SL.Sem

/-- The gradient: the product with the weights, part by part, and the gates' part. -/
def grad (w : S6160x2048.Idx → EReal) (g : S3x4096x2048.Idx → EReal) (f : S4096x2048.Idx → EReal) : S4096x2048.Idx → EReal :=
  fun i => (∑ q : Fin 3, ∑ k : Fin 2048, g (ix3 q (i 0) k) * w (ix2 ⟨q.val * 2048 + k.val, by omega⟩ (i 1))) + f i

/-- The product of two blocks. -/
def blk (x0 : S1x1024x2048.Idx → EReal) (x1 : S2048x1024.Idx → EReal) (i j : Fin 1024) : EReal :=
  ∑ k : Fin 2048, x0 (ix3 0 i k) * x1 (ix2 k j)

/-- The first part of the contraction, stored. -/
theorem pay_first (x0 : S1x1024x2048.Idx → EReal) (x1 : S2048x1024.Idx → EReal) (i j : Fin 1024) :
    k0_pay2 (F := Ideal) x0 x1 (ix2 i j) = blk x0 x1 i j := by
  unfold blk
  pointwise [k0_pay2, k0_pay1]

/-- A later part, added to what is there. -/
theorem pay_next (x0 : S1x1024x2048.Idx → EReal) (x1 : S2048x1024.Idx → EReal) (s : S1024x1024.Idx → EReal) (i j : Fin 1024) :
    k0_pay3 (F := Ideal) x0 x1 s (ix2 i j) = s (ix2 i j) + blk x0 x1 i j := by
  unfold blk
  pointwise [k0_pay3, k0_pay1]

/-- The sum and the gates' part, written out. -/
theorem pay_last (s x2 : S1024x1024.Idx → EReal) (i j : Fin 1024) :
    k0_pay4 (F := Ideal) s x2 (ix2 i j) = s (ix2 i j) + x2 (ix2 i j) := by
  pointwise [k0_pay4]

variable (m : (ℓ : Loc nD τ sig) → Buf (Elt Ideal) ℓ) (c : Dev nD)

/-- Which blocks a point reads, by the block it works on. -/
theorem idx : ∀ t : Fin cfg0.N, win0_0.index t = ![t.val % 3, t.val / 6, 0] ∧ win0_1.index t = ![t.val % 3, t.val / 3 % 2]
    ∧ win0_2.index t = ![t.val / 6, t.val / 3 % 2] ∧ win0_3.index t = ![t.val / 6, t.val / 3 % 2] :=
  (by decide +kernel : ∀ t : Fin grid0.N, _)

/-- The scratch after a block's last point: the sum of its points' products. -/
theorem carry (t : Fin cfg0.N) (ht : t.val % 3 = 3 - 1) (i : S1024x1024.Idx) : ((outsAt0 m c t.val t.isLt).2 : S1024x1024.Idx → EReal) i
    = 0 + ∑ s : Fin 3, blk (iblk m c 0 ⟨3 * (t.val / 3) + s.val, Pipeline.run_point_lt_of_flush t ht s⟩)
      (X0_1 m c ⟨3 * (t.val / 3) + s.val, Pipeline.run_point_lt_of_flush t ht s⟩) (i 0) (i 1) := by
  refine Pipeline.eq_sum_fin_of_reset_step_apply_of_flush (fun n h => ((outsAt0 m c n h).2 : S1024x1024.Idx → EReal)) 3 (fun _ => 0)
    (fun t i => blk (iblk m c 0 t) (X0_1 m c t) (i 0) (i 1)) (fun t h i => ?_) (fun t h i => ?_) t ht i
  · obtain ⟨a, b, rfl⟩ : ∃ a b : Fin 1024, i = ix2 a b := ⟨i 0, i 1, eq_ix2 i⟩
    show ((outsAt0 m c t.val t.isLt).2 : S1024x1024.Idx → EReal) (ix2 a b) = _
    rw [outsAt0_A m c t h (by omega) (by omega)]
    frame_out
    rw [zero_add]
    exact pay_first _ _ a b
  · obtain ⟨a, b, rfl⟩ : ∃ a b : Fin 1024, i = ix2 a b := ⟨i 0, i 1, eq_ix2 i⟩
    show ((outsAt0 m c t.val t.isLt).2 : S1024x1024.Idx → EReal) (ix2 a b) = _
    by_cases hl : t.val % 3 = 2
    · rw [outsAt0_C m c t h (by omega) hl]
      frame_out
      exact (pay_next _ _ _ a b).trans (congrArg (fun z : EReal => z + _) (congrFun ((Memref.isWhole_whole cc0_scratch0).read_unread _) (ix2 a b)))
    · rw [outsAt0_B m c t h (by omega) hl]
      frame_out
      exact (pay_next _ _ _ a b).trans (congrArg (fun z : EReal => z + _) (congrFun ((Memref.isWhole_whole cc0_scratch0).read_unread _) (ix2 a b)))

/-- The array after the run. -/
theorem final : ((dats m 0 c).arrAt 3 cfg0.N : S4096x2048.Idx → EReal)
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val % 3 = 2 := (flush0_3 t).mp hf
  obtain ⟨a, b, rfl⟩ : ∃ a b : Fin 1024, y = ix2 a b := ⟨y 0, y 1, eq_ix2 y⟩
  blk_simp
  have e : (outsAt0 m c t.val t.isLt).1 = k0_pay4 (F := Ideal) (outsAt0 m c t.val t.isLt).2 (iblk m c 2 t) := by
    rw [outsAt0_C m c t (by omega) (by omega) ht]
    frame_out
  rw [after0_3, e, pay_last, carry m c t ht, zero_add]
  unfold grad blk
  have et := idx t
  refine congrArg₂ (fun x y : EReal => x + y) ?_ ?_
  · refine Finset.sum_congr (M := EReal) rfl fun q _ => Finset.sum_congr (M := EReal) rfl fun k _ => ?_
    have es := idx ⟨3 * (t.val / 3) + q.val, Pipeline.run_point_lt_of_flush t ht q⟩
    have hq := q.isLt
    rw [show (3 * (t.val / 3) + q.val) % 3 = q.val by omega, show (3 * (t.val / 3) + q.val) / 6 = t.val / 6 by omega,
      show (3 * (t.val / 3) + q.val) / 3 = t.val / 3 by omega] at es
    refine congrArg₂ (fun x y : EReal => x * y) ?_ ?_
    · blk_ext [iblk, V_main_arg1, es, et.2.2.2]
    · rw [X0_1, Pipeline.Window.fill, dif_pos (moved0_1 _ _)]
      blk_ext [iblk, V_main_arg0, es, et.2.2.2]
  · blk_ext [iblk, V_main_arg2, et]

/-- The call and its idealization have the same text: one body. -/
theorem body_same {F : FTy → Type} [FloatOps F] (i a1 h1 a2 h2 a3 h3 a4 h4 a5 h5) :
    Cert.FoxInDx.cc0_fox_in_dx (F := F) i a1 h1 a2 h2 a3 h3 a4 h4 a5 h5 = cc0_fox_in_dx (F := F) i a1 h1 a2 h2 a3 h3 a4 h4 a5 h5 := rfl

/-- One table of bodies and regions. -/
theorem table_same {F : FTy → Type} [FloatOps F] : Cert.FoxInDx.defs (F := F) = defs (F := F) := by
  have h : Cert.FoxInDx.defs₀ (F := F) = defs₀ (F := F) := by
    unfold Cert.FoxInDx.defs₀ defs₀
    congr 1
    funext x
    match x with
    | (0 : Fin 1) =>
      funext y
      obtain ⟨t, s⟩ := y
      exact body_same _ _ _ _ _ _ _ _ _ _ _
  unfold Cert.FoxInDx.defs defs
  rw [h]
  rfl

/-- One program. -/
theorem main_same {F : FTy → Type} [FloatOps F] : Cert.FoxInDx.main (F := F) = main (F := F) := rfl

theorem frame_kernel : Cert.quiescent_FoxInDx := fun m ρ _ => by
  rw [table_same, main_same]; exact frame m ρ

theorem frame_ideal : Cert.quiescent_FoxInDxIdeal := fun m ρ _ => frame m ρ

theorem frame_reference : Cert.quiescent_FoxInDxReferenceIdeal := fun m ρ _ =>
  (θ_run Cert.FoxInDxReferenceIdeal.defs _ _).mono (fun r h => ⟨fun c => (h c).2, sem_eq_zero_of_no_sems (by decide) r.2⟩)
    (Cert.FoxInDxReferenceIdeal.Value.run (F := Ideal) m ρ)

/-- The results are the reference's. -/
theorem values : Cert.algebraic_FoxInDxIdeal_FoxInDxReferenceIdeal := by
  intro m g m' g' _ hagree
  refine ⟨_, (θ_run defs _ _).mono (fun r h c => ⟨(h c).1.trans (final m c), (h c).2⟩) (Value.run_blocks m g),
    (θ_run Cert.FoxInDxReferenceIdeal.defs _ _).mono (fun r h c => ⟨(h c).1.trans ?_, (h c).2⟩) (Cert.FoxInDxReferenceIdeal.Value.run (F := Ideal) m' g')⟩
  obtain ⟨e0, e1, e2⟩ := hagree c
  rw [e0, e1, e2]
  funext i
  obtain ⟨a, b, rfl⟩ : ∃ (a : Fin 4096) (b : Fin 2048), i = ix2 a b := ⟨i 0, i 1, eq_ix2 i⟩
  unfold grad
  pointwise
  refine congrArg₂ (fun x y : EReal => x + y) ?_ ?_
  rotate_left
  · rfl
  refine (Fin.sum_mul_add_congr (M := EReal) fun q k hl => ?_).symm
  exact congrArg (fun x : EReal => x * _) (side (fun q k => (m ((c : Thread nD τ).loc main_arg1) : S3x4096x2048.Idx → EReal) (ix3 q a k)) _ hl q k rfl).symm

end Cert.Proof.FoxInDx

end
-- ==== Proof.FoxIn.lean ====
/-
  THE ATTENTION'S INPUT PROJECTION: what the call leaves, what the reference's lines compute, and that they are equal,
  entry by entry.
-/
module

public import Idealize.ShloMosaic.Lib.Pipeline.ValueKit
public import Idealize.ShloMosaic.Lib.Pointwise
public import proofs.«01_k».proof.Defs
public import proofs.«01_k».proof.Proof.Gen.FoxIn
public import proofs.«01_k».proof.Proof.Gen.FoxInIdeal.Value
public import proofs.«01_k».proof.Proof.Gen.FoxInReferenceIdeal
public import proofs.«01_k».proof.Proof.Gen.FoxInReferenceIdeal.Run
public import Idealize.ShloMosaic.Adequacy
public import Idealize.ShloMosaic.Init

@[expose] public section

set_option maxHeartbeats 800000

noncomputable section

namespace Cert.Proof.FoxIn

open Cert.FoxInIdeal Cert.FoxInIdeal.Gen
open Idealize.ShloMosaic Idealize.ShloMosaic.TcCoe Idealize.SL.Sem

/-- The product with the transposed weights, of the columns of the queries, keys and values. -/
def prod (h : S4096x2048.Idx → EReal) (w : S6160x2048.Idx → EReal) : S4096x6144.Idx → EReal :=
  fun i => ∑ k : Fin 2048, h (ix2 (i 0) k) * w (ix2 ⟨(i 1).val, lt_trans (i 1).isLt (by decide)⟩ k)

/-- A block of the result from the two blocks it is computed from. -/
theorem pay (x0 x1 : S1024x2048.Idx → EReal) (i j : Fin 1024) :
    k0_pay1 (F := Ideal) x0 x1 (ix2 i j) = ∑ k : Fin 2048, x0 (ix2 i k) * x1 (ix2 j k) := by
  pointwise [k0_pay1]

variable (m : (ℓ : Loc nD τ sig) → Buf (Elt Ideal) ℓ) (c : Dev nD)

/-- Which blocks a point reads, by the block it writes. -/
theorem idx : ∀ t : Fin cfg0.N, win0_0.index t = ![win0_2.index t 0, 0] ∧ win0_1.index t = ![win0_2.index t 1, 0] :=
  (by decide +kernel : ∀ t : Fin grid0.N, _)

/-- The array after the run. -/
theorem final : ((dats m 0 c).arrAt 2 cfg0.N : S4096x6144.Idx → EReal)
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  obtain ⟨a, b, rfl⟩ : ∃ a b : Fin 1024, y = ix2 a b := ⟨y 0, y 1, eq_ix2 y⟩
  rw [pay]
  unfold prod
  refine Finset.sum_congr (M := EReal) rfl fun n _ => ?_
  refine congrArg₂ (fun x y : EReal => x * y) ?_ ?_
  · blk_ext [iblk, V_main_arg0, idx t]
  · rw [X0_1, Pipeline.Window.fill, dif_pos (moved0_1 t _)]
    blk_ext [iblk, V_main_arg1, idx t]

/-- The call and its idealization have the same text: one body. -/
theorem body_same {F : FTy → Type} [FloatOps F] (i a1 h1 a2 h2 a3 h3) :
    Cert.FoxIn.cc0_fox_in (F := F) i a1 h1 a2 h2 a3 h3 = cc0_fox_in (F := F) i a1 h1 a2 h2 a3 h3 := rfl

/-- One table of bodies and regions. -/
theorem table_same {F : FTy → Type} [FloatOps F] : Cert.FoxIn.defs (F := F) = defs (F := F) := by
  have h : Cert.FoxIn.defs₀ (F := F) = defs₀ (F := F) := by
    unfold Cert.FoxIn.defs₀ defs₀
    congr 1
    funext x
    match x with
    | (0 : Fin 1) =>
      funext y
      obtain ⟨t, s⟩ := y
      exact body_same _ _ _ _ _ _ _
  unfold Cert.FoxIn.defs defs
  rw [h]
  rfl

/-- One program. -/
theorem main_same {F : FTy → Type} [FloatOps F] : Cert.FoxIn.main (F := F) = main (F := F) := rfl

theorem frame_kernel : Cert.quiescent_FoxIn := fun m ρ _ => by
  rw [table_same, main_same]; exact frame m ρ

theorem frame_ideal : Cert.quiescent_FoxInIdeal := fun m ρ _ => frame m ρ

theorem frame_reference : Cert.quiescent_FoxInReferenceIdeal := fun m ρ _ =>
  (θ_run Cert.FoxInReferenceIdeal.defs _ _).mono (fun r h => ⟨fun c => (h c).2, sem_eq_zero_of_no_sems (by decide) r.2⟩)
    (Cert.FoxInReferenceIdeal.Value.run (F := Ideal) m ρ)

/-- The results are the reference's. -/
theorem values : Cert.algebraic_FoxInIdeal_FoxInReferenceIdeal := by
  intro m g m' g' _ hagree
  refine ⟨_, (θ_run defs _ _).mono (fun r h c => ⟨(h c).1.trans (final m c), (h c).2⟩) (Value.run_blocks m g),
    (θ_run Cert.FoxInReferenceIdeal.defs _ _).mono (fun r h c => ⟨(h c).1.trans ?_, (h c).2⟩) (Cert.FoxInReferenceIdeal.Value.run (F := Ideal) m' g')⟩
  obtain ⟨e0, e1⟩ := hagree c
  rw [e0, e1]
  funext i
  obtain ⟨a, b, rfl⟩ : ∃ (a : Fin 4096) (b : Fin 6144), i = ix2 a b := ⟨i 0, i 1, eq_ix2 i⟩
  unfold prod
  pointwise

end Cert.Proof.FoxIn

end
-- ==== Proof.ConvIn.lean ====
/-
  THE SHORT CONVOLUTION'S INPUT PROJECTION: what the call leaves, what the reference's lines compute, and that they are
  equal, entry by entry.
-/
module

public import Idealize.ShloMosaic.Lib.Pipeline.ValueKit
public import Idealize.ShloMosaic.Lib.Pointwise
public import proofs.«01_k».proof.Defs
public import proofs.«01_k».proof.Proof.Gen.ConvIn
public import proofs.«01_k».proof.Proof.Gen.ConvInIdeal.Value
public import proofs.«01_k».proof.Proof.Gen.ConvInReferenceIdeal
public import proofs.«01_k».proof.Proof.Gen.ConvInReferenceIdeal.Run
public import Idealize.ShloMosaic.Adequacy
public import Idealize.ShloMosaic.Init
public import Idealize.ShloMosaic.Lib.StableHlo.ReadAt
public import Idealize.ShloMosaic.Lib.StableHlo.RunRead

@[expose] public section

set_option maxHeartbeats 800000

noncomputable section

namespace Cert.Proof.ConvIn

open Cert.ConvInIdeal Cert.ConvInIdeal.Gen
open Idealize.ShloMosaic Idealize.ShloMosaic.TcCoe Idealize.SL.Sem

/-- The product. -/
def prod (h : S4096x2048.Idx → EReal) (w : S2048x6144.Idx → EReal) : S4096x6144.Idx → EReal :=
  fun i => ∑ k : Fin 2048, h (ix2 (i 0) k) * w (ix2 k (i 1))

/-- A block of the result from the two blocks it is computed from. -/
theorem pay (x0 : S1024x2048.Idx → EReal) (x1 : S1x2048x768.Idx → EReal) (i : Fin 1024) (j : Fin 768) :
    k0_pay1 (F := Ideal) x0 x1 (ix2 i j) = ∑ k : Fin 2048, x0 (ix2 i k) * x1 (ix3 0 k j) := by
  pointwise [k0_pay1]

variable (m : (ℓ : Loc nD τ sig) → Buf (Elt Ideal) ℓ) (c : Dev nD)

/-- Which blocks a point reads, by the block it writes. -/
theorem idx : ∀ t : Fin cfg0.N, win0_0.index t = ![win0_2.index t 0, 0] ∧ win0_1.index t = ![win0_2.index t 1, 0, 0]
    ∧ win0_2.index t 1 < 8 := (by decide +kernel : ∀ t : Fin grid0.N, _)

/-- The weights in eight parts, as the host hands them to the call. -/
theorem before (q : Fin 8) (k : Fin 2048) (j : Fin 768) : (V m c main_v1 : S8x2048x768.Idx → EReal) (ix3 q k j)
    = (m ((c : Thread nD τ).loc main_arg1) : S2048x6144.Idx → EReal) (ix2 k ⟨q.val * 768 + j.val, by omega⟩) := by
  unfold V
  simp only [hostOps0]
  after_reads_at

/-- The array after the run. -/
theorem final : ((dats m 0 c).arrAt 2 cfg0.N : S4096x6144.Idx → EReal)
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 1024) (b : Fin 768), y = ix2 a b := ⟨y 0, y 1, eq_ix2 y⟩
  rw [pay]
  unfold prod
  refine Finset.sum_congr (M := EReal) rfl fun k _ => ?_
  have e : (iblk m c 1 t : S1x2048x768.Idx → EReal) (ix3 0 k b) = (V m c main_v1 : S8x2048x768.Idx → EReal) (ix3 ⟨win0_2.index t 1, (idx t).2.2⟩ k b) := by
    blk_ext [iblk, idx t]
  rw [e, before]
  refine congrArg₂ (fun x y : EReal => x * y) ?_ ?_
  · blk_ext [iblk, V_main_arg0, idx t]
  · blk_ext [idx t]

/-- The call and its idealization have the same text: one body. -/
theorem body_same {F : FTy → Type} [FloatOps F] (i a1 h1 a2 h2 a3 h3) :
    Cert.ConvIn.cc0_conv_in (F := F) i a1 h1 a2 h2 a3 h3 = cc0_conv_in (F := F) i a1 h1 a2 h2 a3 h3 := rfl

/-- One table of bodies and regions. -/
theorem table_same {F : FTy → Type} [FloatOps F] : Cert.ConvIn.defs (F := F) = defs (F := F) := by
  have h : Cert.ConvIn.defs₀ (F := F) = defs₀ (F := F) := by
    unfold Cert.ConvIn.defs₀ defs₀
    congr 1
    funext x
    match x with
    | (0 : Fin 1) =>
      funext y
      obtain ⟨t, s⟩ := y
      exact body_same _ _ _ _ _ _ _
  unfold Cert.ConvIn.defs defs
  rw [h]
  rfl

/-- One program. -/
theorem main_same {F : FTy → Type} [FloatOps F] : Cert.ConvIn.main (F := F) = main (F := F) := rfl

theorem frame_kernel : Cert.quiescent_ConvIn := fun m ρ _ => by
  rw [table_same, main_same]; exact frame m ρ

theorem frame_ideal : Cert.quiescent_ConvInIdeal := fun m ρ _ => frame m ρ

theorem frame_reference : Cert.quiescent_ConvInReferenceIdeal := fun m ρ _ =>
  (θ_run Cert.ConvInReferenceIdeal.defs _ _).mono (fun r h => ⟨fun c => (h c).2, sem_eq_zero_of_no_sems (by decide) r.2⟩)
    (Cert.ConvInReferenceIdeal.Value.run (F := Ideal) m ρ)

/-- The results are the reference's. -/
theorem values : Cert.algebraic_ConvInIdeal_ConvInReferenceIdeal := by
  intro m g m' g' _ hagree
  refine ⟨_, (θ_run defs _ _).mono (fun r h c => ⟨(h c).1.trans (final m c), (h c).2⟩) (Value.run_blocks m g),
    (θ_run Cert.ConvInReferenceIdeal.defs _ _).mono (fun r h c => ⟨(h c).1.trans ?_, (h c).2⟩) (Cert.ConvInReferenceIdeal.Value.run (F := Ideal) m' g')⟩
  obtain ⟨e0, e1⟩ := hagree c
  rw [e0, e1]
  funext i
  obtain ⟨a, b, rfl⟩ : ∃ (a : Fin 4096) (b : Fin 6144), i = ix2 a b := ⟨i 0, i 1, eq_ix2 i⟩
  unfold prod
  pointwise

end Cert.Proof.ConvIn

end
-- ==== Proof.Down.lean ====
/-
  THE MLP'S DOWN PRODUCT, accumulated over four parts of the contraction, and its sum into the residual stream through the
  gate: what the call leaves, what the reference's lines compute, and that they are equal, entry by entry.
-/
module

public import Idealize.ShloMosaic.Lib.Pipeline.ValueKit
public import Idealize.ShloMosaic.Lib.Pointwise
public import proofs.«01_k».proof.Defs
public import proofs.«01_k».proof.Proof.Gen.Down
public import proofs.«01_k».proof.Proof.Gen.DownIdeal.Value
public import proofs.«01_k».proof.Proof.Gen.DownReferenceIdeal
public import proofs.«01_k».proof.Proof.Gen.DownReferenceIdeal.Run
public import Idealize.ShloMosaic.Adequacy
public import Idealize.ShloMosaic.Init

@[expose] public section

set_option maxHeartbeats 800000

noncomputable section

namespace Cert.Proof.Down

open Cert.DownIdeal Cert.DownIdeal.Gen
open Idealize.ShloMosaic Idealize.ShloMosaic.TcCoe Idealize.SL.Sem

/-- The product. -/
def prod (a : S4096x8192.Idx → EReal) (w : S8192x2048.Idx → EReal) : S4096x2048.Idx → EReal :=
  fun i => ∑ k : Fin 8192, a (ix2 (i 0) k) * w (ix2 k (i 1))

/-- The residual stream after it. -/
def resid (a : S4096x8192.Idx → EReal) (w : S8192x2048.Idx → EReal) (x : S4096x2048.Idx → EReal) (g : S1x2048.Idx → EReal) :
    S4096x2048.Idx → EReal :=
  fun i => x i + g (ix2 0 (i 1)) * prod a w i

/-- The product of two blocks. -/
def blk (x0 : S1024x2048.Idx → EReal) (x1 : S2048x1024.Idx → EReal) (i j : Fin 1024) : EReal :=
  ∑ k : Fin 2048, x0 (ix2 i k) * x1 (ix2 k j)

/-- The first part of the contraction, stored. -/
theorem pay_first (x0 : S1024x2048.Idx → EReal) (x1 : S2048x1024.Idx → EReal) (i j : Fin 1024) :
    k0_pay2 (F := Ideal) x0 x1 (ix2 i j) = blk x0 x1 i j := by
  unfold blk
  pointwise [k0_pay2, k0_pay1]

/-- A later part, added to what is there. -/
theorem pay_next (x0 : S1024x2048.Idx → EReal) (x1 : S2048x1024.Idx → EReal) (s : S1024x1024.Idx → EReal) (i j : Fin 1024) :
    k0_pay3 (F := Ideal) x0 x1 s (ix2 i j) = s (ix2 i j) + blk x0 x1 i j := by
  unfold blk
  pointwise [k0_pay3, k0_pay1]

/-- The sum into the residual stream. -/
theorem pay_resid (s x2 : S1024x1024.Idx → EReal) (x3 : S1x1024.Idx → EReal) (i j : Fin 1024) :
    k0_pay4 (F := Ideal) s x2 x3 (ix2 i j) = x2 (ix2 i j) + x3 (ix2 0 j) * s (ix2 i j) := by
  pointwise [k0_pay4]

/-- The product, written out. -/
theorem pay_last (s : S1024x1024.Idx → EReal) (i j : Fin 1024) : k0_pay5 (F := Ideal) s (ix2 i j) = s (ix2 i j) := by
  pointwise [k0_pay5]

variable (m : (ℓ : Loc nD τ sig) → Buf (Elt Ideal) ℓ) (c : Dev nD)

/-- Which blocks a point reads, by the block it works on. -/
theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![0, t.val / 4 % 2]
    ∧ win0_4.index t = ![t.val / 8, t.val / 4 % 2] ∧ win0_5.index t = ![t.val / 8, t.val / 4 % 2] :=
  (by decide +kernel : ∀ t : Fin grid0.N, _)

/-- The scratch after a block's last point: the sum of its points' products. -/
theorem carry (t : Fin cfg0.N) (ht : t.val % 4 = 4 - 1) (i : S1024x1024.Idx) : ((outsAt0 m c t.val t.isLt).2.2 : S1024x1024.Idx → EReal) i
    = 0 + ∑ s : Fin 4, blk (iblk m c 0 ⟨4 * (t.val / 4) + s.val, Pipeline.run_point_lt_of_flush t ht s⟩)
      (iblk m c 1 ⟨4 * (t.val / 4) + s.val, Pipeline.run_point_lt_of_flush t ht s⟩) (i 0) (i 1) := by
  refine Pipeline.eq_sum_fin_of_reset_step_apply_of_flush (fun n h => ((outsAt0 m c n h).2.2 : S1024x1024.Idx → EReal)) 4 (fun _ => 0)
    (fun t i => blk (iblk m c 0 t) (iblk m c 1 t) (i 0) (i 1)) (fun t h i => ?_) (fun t h i => ?_) t ht i
  · obtain ⟨a, b, rfl⟩ : ∃ a b : Fin 1024, i = ix2 a b := ⟨i 0, i 1, eq_ix2 i⟩
    show ((outsAt0 m c t.val t.isLt).2.2 : S1024x1024.Idx → EReal) (ix2 a b) = _
    rw [outsAt0_A m c t h (by omega) (by omega)]
    frame_out
    rw [zero_add]
    exact pay_first _ _ a b
  · obtain ⟨a, b, rfl⟩ : ∃ a b : Fin 1024, i = ix2 a b := ⟨i 0, i 1, eq_ix2 i⟩
    show ((outsAt0 m c t.val t.isLt).2.2 : S1024x1024.Idx → EReal) (ix2 a b) = _
    by_cases hl : t.val % 4 = 3
    · rw [outsAt0_C m c t h (by omega) hl]
      frame_out
      exact (pay_next _ _ _ a b).trans (congrArg (fun z : EReal => z + _) (congrFun ((Memref.isWhole_whole cc0_scratch0).read_unread _) (ix2 a b)))
    · rw [outsAt0_B m c t h (by omega) hl]
      frame_out
      exact (pay_next _ _ _ a b).trans (congrArg (fun z : EReal => z + _) (congrFun ((Memref.isWhole_whole cc0_scratch0).read_unread _) (ix2 a b)))

/-- The scratch after a block's last point, in the arrays. -/
theorem block (t : Fin cfg0.N) (ht : t.val % 4 = 3) (a b : Fin 1024) : ((outsAt0 m c t.val t.isLt).2.2 : S1024x1024.Idx → EReal) (ix2 a b)
    = prod (m ((c : Thread nD τ).loc main_arg0)) (m ((c : Thread nD τ).loc main_arg1)) (((cfg0.win 4).blk t).view.emb (ix2 a b)) := by
  rw [carry m c t ht, zero_add]
  unfold prod blk
  refine Fin.sum_mul_add_congr (M := EReal) fun q k hl => ?_
  have es := idx ⟨4 * (t.val / 4) + q.val, Pipeline.run_point_lt_of_flush t ht q⟩
  have et := (idx t).2.2.2.2.1
  have hq := q.isLt
  rw [show (4 * (t.val / 4) + q.val) % 4 = q.val by omega, show (4 * (t.val / 4) + q.val) / 8 = t.val / 8 by omega,
    show (4 * (t.val / 4) + q.val) / 4 = t.val / 4 by omega] at es
  refine congrArg₂ (fun x y : EReal => x * y) ?_ ?_
  · blk_ext [iblk, V_main_arg0, es, et]
  · blk_ext [iblk, V_main_arg1, es, et]

/-- The product's array after the run. -/
theorem final_prod : ((dats m 0 c).arrAt 5 cfg0.N : S4096x2048.Idx → EReal)
    = prod (m ((c : Thread nD τ).loc main_arg0)) (m ((c : Thread nD τ).loc main_arg1)) := by
  refine (dats m 0 c).arrAt_eq_of_covers 5 _ (by decide +kernel) fun t hf y => ?_
  have ht : t.val % 4 = 3 := (flush0_5 t).mp hf
  obtain ⟨a, b, rfl⟩ : ∃ a b : Fin 1024, y = ix2 a b := ⟨y 0, y 1, eq_ix2 y⟩
  have e4 : (((cfg0.win 5).blk t).view.emb (ix2 a b) : S4096x2048.Idx) = ((cfg0.win 4).blk t).view.emb (ix2 a b) := by
    blk_ext [idx t]
  rw [e4, ← block m c t ht]
  blk_simp
  have e : (outsAt0 m c t.val t.isLt).2.1 = k0_pay5 (F := Ideal) (outsAt0 m c t.val t.isLt).2.2 := by
    rw [outsAt0_C m c t (by omega) (by omega) ht]
    frame_out
  rw [after0_5, e, pay_last]

/-- The residual stream's array after the run. -/
theorem final : ((dats m 0 c).arrAt 4 cfg0.N : S4096x2048.Idx → EReal)
    = resid (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  have ht : t.val % 4 = 3 := (flush0_4 t).mp hf
  obtain ⟨a, b, rfl⟩ : ∃ a b : Fin 1024, y = ix2 a b := ⟨y 0, y 1, eq_ix2 y⟩
  unfold resid
  rw [← block m c t ht]
  blk_simp
  have e : (outsAt0 m c t.val t.isLt).1 = k0_pay4 (F := Ideal) (outsAt0 m c t.val t.isLt).2.2 (iblk m c 2 t) (iblk m c 3 t) := by
    rw [outsAt0_C m c t (by omega) (by omega) ht]
    frame_out
  rw [after0_4, e, pay_resid]
  refine congrArg₂ (fun x y : EReal => x + y) ?_ (congrArg (fun x : EReal => x * _) ?_)
  · blk_ext [iblk, V_main_arg2, idx t]
  · blk_ext [iblk, V_main_arg3, idx t]

/-- The call and its idealization have the same text: one body. -/
theorem body_same {F : FTy → Type} [FloatOps F] (i a1 h1 a2 h2 a3 h3 a4 h4 a5 h5 a6 h6 a7 h7) :
    Cert.Down.cc0_mlp_down (F := F) i a1 h1 a2 h2 a3 h3 a4 h4 a5 h5 a6 h6 a7 h7 = cc0_mlp_down (F := F) i a1 h1 a2 h2 a3 h3 a4 h4 a5 h5 a6 h6 a7 h7 := rfl

/-- One table of bodies and regions. -/
theorem table_same {F : FTy → Type} [FloatOps F] : Cert.Down.defs (F := F) = defs (F := F) := by
  have h : Cert.Down.defs₀ (F := F) = defs₀ (F := F) := by
    unfold Cert.Down.defs₀ defs₀
    congr 1
    funext x
    match x with
    | (0 : Fin 1) =>
      funext y
      obtain ⟨t, s⟩ := y
      exact body_same _ _ _ _ _ _ _ _ _ _ _ _ _ _ _
  unfold Cert.Down.defs defs
  rw [h]
  rfl

/-- One program. -/
theorem main_same {F : FTy → Type} [FloatOps F] : Cert.Down.main (F := F) = main (F := F) := rfl

theorem frame_kernel : Cert.quiescent_Down := fun m ρ _ => by
  rw [table_same, main_same]; exact frame m ρ

theorem frame_ideal : Cert.quiescent_DownIdeal := fun m ρ _ => frame m ρ

theorem frame_reference : Cert.quiescent_DownReferenceIdeal := fun m ρ _ =>
  (θ_run Cert.DownReferenceIdeal.defs _ _).mono (fun r h => ⟨fun c => (h c).2.2, sem_eq_zero_of_no_sems (by decide) r.2⟩)
    (Cert.DownReferenceIdeal.Value.run (F := Ideal) m ρ)

/-- The results are the reference's. -/
theorem values : Cert.algebraic_DownIdeal_DownReferenceIdeal := by
  intro m g m' g' _ hagree
  refine ⟨_, _, (θ_run defs _ _).mono (fun r h c => ⟨(h c).1.trans (final m c), (h c).2.1.trans (final_prod m c), (h c).2.2⟩) (Value.run_blocks m g),
    (θ_run Cert.DownReferenceIdeal.defs _ _).mono (fun r h c => ⟨(h c).1.trans ?_, (h c).2.1.trans ?_, (h c).2.2⟩) (Cert.DownReferenceIdeal.Value.run (F := Ideal) m' g')⟩
  all_goals
    obtain ⟨e0, e1, e2, e3⟩ := hagree c
    rw [e0, e1]
    try rw [e2, e3]
    funext i
    obtain ⟨a, b, rfl⟩ : ∃ (a : Fin 4096) (b : Fin 2048), i = ix2 a b := ⟨i 0, i 1, eq_ix2 i⟩
  · unfold resid prod
    pointwise
  · unfold prod
    pointwise

end Cert.Proof.Down

end
-- ==== Proof.FoxInDw.lean ====
/-
  THE GRADIENT OF THE ATTENTION LAYER'S INPUT PROJECTION IN ITS WEIGHTS: what the call leaves in the rows it writes, what the
  reference's lines compute, and that they are equal, entry by entry.
-/
module

public import Idealize.ShloMosaic.Lib.Pipeline.ValueKit
public import Idealize.ShloMosaic.Lib.Pointwise
public import proofs.«01_k».proof.Defs
public import proofs.«01_k».proof.Proof.Gen.FoxInDw
public import proofs.«01_k».proof.Proof.Gen.FoxInDwIdeal.Frame
public import proofs.«01_k».proof.Proof.Gen.FoxInDwReferenceIdeal
public import proofs.«01_k».proof.Proof.Gen.FoxInDwReferenceIdeal.Run
public import Idealize.ShloMosaic.Adequacy
public import Idealize.ShloMosaic.Init
public import proofs.«01_k».proof.Proof.Parts
public import Idealize.ShloMosaic.Lib.Pipeline.ValueKit.Partial

@[expose] public section

set_option maxHeartbeats 800000

noncomputable section

namespace Cert.Proof.FoxInDw

open Cert.FoxInDwIdeal Cert.FoxInDwIdeal.Gen
open Idealize.ShloMosaic Idealize.ShloMosaic.TcCoe Idealize.SL.Sem

/-- The gradient, transposed, for the columns of the three parts: over the rows, the gradient of the product times the input. -/
def grad (h : S4096x2048.Idx → EReal) (g : S3x4096x2048.Idx → EReal) (r : Fin 6144) (k : Fin 2048) : EReal :=
  ∑ n : Fin 4096, g (ix3 ⟨r.val / 2048, by omega⟩ n ⟨r.val % 2048, Nat.mod_lt _ (by decide)⟩) * h (ix2 n k)

/-- A block of the result from the two blocks it is computed from. -/
theorem pay (x0 : S1x4096x1024.Idx → EReal) (x1 : S4096x1024.Idx → EReal) (y : S1024x1024.Idx) :
    k0_pay1 (F := Ideal) x0 x1 y = ∑ n : Fin 4096, x0 (ix3 0 n (y 0)) * x1 (ix2 n (y 1)) := by
  obtain ⟨i, j, rfl⟩ : ∃ i j : Fin 1024, y = ix2 i j := ⟨y 0, y 1, eq_ix2 y⟩
  pointwise [k0_pay1]

variable (m : (ℓ : Loc nD τ sig) → Buf (Elt Ideal) ℓ) (c : Dev nD)

/-- Which blocks a point reads, by the block it writes. -/
theorem idx : ∀ t : Fin cfg0.N, win0_0.index t = ![win0_2.index t 0 / 2, 0, win0_2.index t 0 % 2]
    ∧ win0_1.index t = ![0, win0_2.index t 1] ∧ win0_2.index t 0 < 6 := (by decide +kernel : ∀ t : Fin grid0.N, _)

/-- The array after the run: the gradient in the rows the call writes, what was there in the others. -/
theorem final (i : S6160x2048.Idx) (hi : (i 0).val < 6144) : ((dats m 0 c).arrAt 2 cfg0.N : S6160x2048.Idx → EReal) i
    = grad (m ((c : Thread nD τ).loc main_arg0)) (m ((c : Thread nD τ).loc main_arg1)) ⟨(i 0).val, hi⟩ (i 1) := by
  have key := (dats m 0 c).arrAt_apply_of_coversWhere 2
    (fun i : S6160x2048.Idx => if h : (i 0).val < 6144 then
      grad (m ((c : Thread nD τ).loc main_arg0)) (m ((c : Thread nD τ).loc main_arg1)) ⟨(i 0).val, h⟩ (i 1) else (0 : EReal))
    (P := fun i : S6160x2048.Idx => (i 0).val / 1024 < 6)
    (fun β => β (0 : Fin 2) < 6) (by decide +kernel) (fun t hf y => ?_) (fun j => Iff.rfl) i
  · refine key.trans ?_
    rw [if_pos (by omega : (i 0).val / 1024 < 6)]
    exact dif_pos hi
  · blk_simp
    rw [after0_2]
    frame_out
    rw [pay]
    have hlt := (idx t).2.2
    have hy : (y 0).val < 1024 := ((win0 2).xinj (grid0.coords t) y 0).isLt
    rw [dif_pos (by omega)]
    unfold grad
    refine Finset.sum_congr (M := EReal) rfl fun n _ => ?_
    refine congrArg₂ (fun x y : EReal => x * y) ?_ ?_
    · blk_ext [iblk, V_main_arg1, idx t]
    · blk_ext [iblk, V_main_arg0, idx t]

/-- The result after the operations that follow the call: the rows the call writes. -/
theorem result : Pipeline.afterTail₀ cfgs (dats m) 0 (V0 m) [hostOps1] c main_v1
    = (fun i => grad (m ((c : Thread nD τ).loc main_arg0)) (m ((c : Thread nD τ).loc main_arg1)) (i 0) (i 1) : S6144x2048.Idx → EReal) := by
  have e : Pipeline.afterTail₀ cfgs (dats m) 0 (V0 m) [hostOps1] c main_v1
      = extractStridedSlice S6144x2048 ![0, 0] ((dats m 0 c).arrAt 2 cfg0.N : S6160x2048.Idx → EReal) slices_S6160x2048_S6144x2048_0_0 := by
    unfold Pipeline.afterTail₀
    simp only [hostOps1, List.flatten_cons, List.flatten_nil, List.append_nil]
    after_results
    exact congrArg (fun A : S6160x2048.Idx → EReal => extractStridedSlice S6144x2048 ![0, 0] A slices_S6160x2048_S6144x2048_0_0)
      (Pipeline.withArrays_arr spec0 launch0.win.arr_inj c (V0 m c) _ 2)
  rw [e]
  funext i
  obtain ⟨a, b, rfl⟩ : ∃ (a : Fin 6144) (b : Fin 2048), i = ix2 a b := ⟨i 0, i 1, eq_ix2 i⟩
  pointwise
  exact final m c _ _

/-- The run: the result, the arguments unchanged. -/
theorem run (g : Dev nD → PrngReg) : θ_run defs (onTc (τ := τ) (main (F := Ideal))) ⟨m, fun _ => 0, g⟩ fun r => ∀ c : Dev nD,
      r.2.mem ((c : Thread nD τ).loc main_v1)
        = (fun i => grad (m ((c : Thread nD τ).loc main_arg0)) (m ((c : Thread nD τ).loc main_arg1)) (i 0) (i 1) : S6144x2048.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (Pipeline.mem_restRefs_of main_v1 (by decide) (by decide))).trans (result m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩) (run_main m g)

/-- The call and its idealization have the same text: one body. -/
theorem body_same {F : FTy → Type} [FloatOps F] (i a1 h1 a2 h2 a3 h3) :
    Cert.FoxInDw.cc0_fox_in_dw (F := F) i a1 h1 a2 h2 a3 h3 = cc0_fox_in_dw (F := F) i a1 h1 a2 h2 a3 h3 := rfl

/-- One table of bodies and regions. -/
theorem table_same {F : FTy → Type} [FloatOps F] : Cert.FoxInDw.defs (F := F) = defs (F := F) := by
  have h : Cert.FoxInDw.defs₀ (F := F) = defs₀ (F := F) := by
    unfold Cert.FoxInDw.defs₀ defs₀
    congr 1
    funext x
    match x with
    | (0 : Fin 1) =>
      funext y
      obtain ⟨t, s⟩ := y
      exact body_same _ _ _ _ _ _ _
  unfold Cert.FoxInDw.defs defs
  rw [h]
  rfl

/-- One program. -/
theorem main_same {F : FTy → Type} [FloatOps F] : Cert.FoxInDw.main (F := F) = main (F := F) := rfl

theorem frame_kernel : Cert.quiescent_FoxInDw := fun m ρ _ => by
  rw [table_same, main_same]; exact frame m ρ

theorem frame_ideal : Cert.quiescent_FoxInDwIdeal := fun m ρ _ => frame m ρ

theorem frame_reference : Cert.quiescent_FoxInDwReferenceIdeal := fun m ρ _ =>
  (θ_run Cert.FoxInDwReferenceIdeal.defs _ _).mono (fun r h => ⟨fun c => (h c).2, sem_eq_zero_of_no_sems (by decide) r.2⟩)
    (Cert.FoxInDwReferenceIdeal.Value.run (F := Ideal) m ρ)

/-- The results are the reference's. -/
theorem values : Cert.algebraic_FoxInDwIdeal_FoxInDwReferenceIdeal := by
  intro m g m' g' _ hagree
  refine ⟨_, run m g,
    (θ_run Cert.FoxInDwReferenceIdeal.defs _ _).mono (fun r h c => ⟨(h c).1.trans ?_, (h c).2⟩) (Cert.FoxInDwReferenceIdeal.Value.run (F := Ideal) m' g')⟩
  obtain ⟨e0, e1⟩ := hagree c
  rw [e0, e1]
  funext i
  obtain ⟨a, b, rfl⟩ : ∃ (a : Fin 6144) (b : Fin 2048), i = ix2 a b := ⟨i 0, i 1, eq_ix2 i⟩
  unfold grad
  pointwise
  refine Finset.sum_congr (M := EReal) rfl fun n _ => ?_
  exact congrArg (fun x : EReal => x * _) (side (fun q k => (m ((c : Thread nD τ).loc main_arg1) : S3x4096x2048.Idx → EReal) (ix3 q n k)) _ (by omega) ⟨_, _⟩ ⟨_, _⟩ (Nat.div_add_mod' _ 2048))

end Cert.Proof.FoxInDw

end
-- ==== Proof.NormRow.lean ====
/-
  A row's norm: the row over the root of its mean square, times the gain, scaled and shifted.
-/
module

public import Idealize.ShloMosaic.Lib.Pipeline.ValueKit
public import Idealize.ShloMosaic.Lib.Pointwise

@[expose] public section

noncomputable section

namespace Cert.Proof

open Idealize.ShloMosaic

/-- One over the root of a row's mean square (and the constant the norm adds to it). -/
def inv (x : Fin 2048 → EReal) : EReal :=
  Ideal.rsqrt (Ideal.div (∑ k : Fin 2048, x k * x k) (Ideal.ofBits FTy.f32 1157627904#32) + Ideal.ofBits FTy.f32 897988541#32)

/-- An entry of a row's norm, from the row and the entries of the gain, the scale and the shift in its column. -/
def norm (x : Fin 2048 → EReal) (j : Fin 2048) (gain scale shift : EReal) : EReal :=
  x j * inv x * gain * (1 + scale) + shift

end Cert.Proof

end
-- ==== Proof.Out.lean ====
/-
  A MIXER'S OUTPUT PROJECTION, the residual sum and the norm that follows it: what the call leaves, what the reference's lines
  compute, and that they are equal, entry by entry.
-/
module

public import Idealize.ShloMosaic.Lib.Pipeline.ValueKit
public import Idealize.ShloMosaic.Lib.Pointwise
public import proofs.«01_k».proof.Defs
public import proofs.«01_k».proof.Proof.Gen.Out
public import proofs.«01_k».proof.Proof.Gen.OutIdeal.Value
public import proofs.«01_k».proof.Proof.Gen.OutReferenceIdeal
public import proofs.«01_k».proof.Proof.Gen.OutReferenceIdeal.Run
public import Idealize.ShloMosaic.Adequacy
public import Idealize.ShloMosaic.Init
public import proofs.«01_k».proof.Proof.NormRow

@[expose] public section

set_option maxHeartbeats 800000

noncomputable section

namespace Cert.Proof.Out

open Cert.OutIdeal Cert.OutIdeal.Gen
open Idealize.ShloMosaic Idealize.ShloMosaic.TcCoe Idealize.SL.Sem

/-- The product. -/
def mix (z : S4096x2048.Idx → EReal) (w : S2048x2048.Idx → EReal) : S4096x2048.Idx → EReal :=
  fun i => ∑ k : Fin 2048, z (ix2 (i 0) k) * w (ix2 k (i 1))

/-- The residual sum. -/
def resid (z : S4096x2048.Idx → EReal) (w : S2048x2048.Idx → EReal) (x : S4096x2048.Idx → EReal) (gate : S1x2048.Idx → EReal) :
    S4096x2048.Idx → EReal := fun i => x i + gate (ix2 0 (i 1)) * mix z w i

/-- The modulated norm of the residual sum. -/
def normed (z : S4096x2048.Idx → EReal) (w : S2048x2048.Idx → EReal) (x : S4096x2048.Idx → EReal)
    (gate gain scale shift : S1x2048.Idx → EReal) : S4096x2048.Idx → EReal :=
  fun i => norm (fun k => resid z w x gate (ix2 (i 0) k)) (i 1) (gain (ix2 0 (i 1))) (scale (ix2 0 (i 1))) (shift (ix2 0 (i 1)))

/-- A block of the product. -/
theorem pay_mix (x0 : S512x2048.Idx → EReal) (x1 : S2048x2048.Idx → EReal) (i : Fin 512) (j : Fin 2048) :
    k0_pay4 (F := Ideal) x0 x1 (ix2 i j) = ∑ k : Fin 2048, x0 (ix2 i k) * x1 (ix2 k j) := by
  pointwise [k0_pay4, k0_pay2]

/-- A block of the residual sum. -/
theorem pay_resid (x0 : S512x2048.Idx → EReal) (x1 : S2048x2048.Idx → EReal) (x2 : S512x2048.Idx → EReal) (x3 : S1x2048.Idx → EReal)
    (i : Fin 512) (j : Fin 2048) :
    k0_pay3 (F := Ideal) x0 x1 x2 x3 (ix2 i j) = x2 (ix2 i j) + x3 (ix2 0 j) * ∑ k : Fin 2048, x0 (ix2 i k) * x1 (ix2 k j) := by
  pointwise [k0_pay3, k0_pay2]

/-- A block of the norm. -/
theorem pay_norm (x0 : S512x2048.Idx → EReal) (x1 : S2048x2048.Idx → EReal) (x2 : S512x2048.Idx → EReal) (x3 x4 x5 x6 : S1x2048.Idx → EReal)
    (i : Fin 512) (j : Fin 2048) :
    k0_pay1 (F := Ideal) (k0_pay5 (F := Ideal) x0 x1 x2 x3 x4 x5 x6) (ix2 i j)
      = norm (fun l => k0_pay3 (F := Ideal) x0 x1 x2 x3 (ix2 i l)) j (x4 (ix2 0 j)) (x5 (ix2 0 j)) (x6 (ix2 0 j)) := by
  unfold norm inv
  pointwise [k0_pay1, k0_pay5]

variable (m : (ℓ : Loc nD τ sig) → Buf (Elt Ideal) ℓ) (c : Dev nD)

/-- Which blocks a point reads and writes. -/
theorem idx : ∀ t : Fin cfg0.N, win0_0.index t = ![win0_7.index t 0, 0] ∧ win0_1.index t = ![0, 0]
    ∧ win0_2.index t = ![win0_7.index t 0, 0] ∧ win0_3.index t = ![0, 0] ∧ win0_4.index t = ![0, 0] ∧ win0_5.index t = ![0, 0]
    ∧ win0_6.index t = ![0, 0] ∧ win0_7.index t 1 = 0 ∧ win0_8.index t = ![win0_7.index t 0, 0]
    ∧ win0_9.index t = ![win0_7.index t 0, 0] ∧ win0_7.index t 0 < 8 := (by decide +kernel : ∀ t : Fin grid0.N, _)

/-- The row of the whole arrays that a point's row is. -/
def row (t : Fin cfg0.N) (a : Fin 512) : Fin 4096 :=
  ⟨win0_7.index t 0 * 512 + a.val, by have h : win0_7.index t 0 < 8 := (idx t).2.2.2.2.2.2.2.2.2.2; omega⟩

/-- The product of the blocks a point reads. -/
theorem blk_mix (t : Fin cfg0.N) (a : Fin 512) (b : Fin 2048) :
    k0_pay4 (F := Ideal) (iblk m c 0 t) (iblk m c 1 t) (ix2 a b)
      = mix (m ((c : Thread nD τ).loc main_arg0)) (m ((c : Thread nD τ).loc main_arg1)) (ix2 (row t a) b) := by
  refine (pay_mix _ _ a b).trans ?_
  unfold mix
  refine Finset.sum_congr (M := EReal) rfl fun k _ => ?_
  refine congrArg₂ (fun x y : EReal => x * y) ?_ ?_
  · blk_ext [iblk, V_main_arg0, row, idx t]
  · blk_ext [iblk, V_main_arg1, idx t]

/-- The residual sum of the blocks a point reads. -/
theorem blk_resid (t : Fin cfg0.N) (a : Fin 512) (b : Fin 2048) :
    k0_pay3 (F := Ideal) (iblk m c 0 t) (iblk m c 1 t) (iblk m c 2 t) (iblk m c 3 t) (ix2 a b)
      = resid (m ((c : Thread nD τ).loc main_arg0)) (m ((c : Thread nD τ).loc main_arg1)) (m ((c : Thread nD τ).loc main_arg2))
          (m ((c : Thread nD τ).loc main_arg3)) (ix2 (row t a) b) := by
  refine (pay_resid _ _ _ _ a b).trans ?_
  refine congrArg₂ (fun x y : EReal => x + y) ?_ (congrArg₂ (fun x y : EReal => x * y) ?_ ((pay_mix _ _ a b).symm.trans (blk_mix m c t a b)))
  · blk_ext [iblk, V_main_arg2, row, idx t]
  · blk_ext [iblk, V_main_arg3, idx t]

/-- The residual sum after the run. -/
theorem final_resid : ((dats m 0 c).arrAt 7 cfg0.N : S4096x2048.Idx → EReal)
    = resid (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t hf y => ?_
  obtain ⟨a, b, rfl⟩ : ∃ (a : Fin 512) (b : Fin 2048), y = ix2 a b := ⟨y 0, y 1, eq_ix2 y⟩
  have e : (((cfg0.win 7).blk t).view.emb (ix2 a b) : S4096x2048.Idx) = ix2 (row t a) b := by
    blk_ext [row, idx t]
  rw [e, ← blk_resid]
  blk_simp
  rw [after0_7]
  frame_out

/-- The product after the run. -/
theorem final_mix : ((dats m 0 c).arrAt 8 cfg0.N : S4096x2048.Idx → EReal)
    = mix (m ((c : Thread nD τ).loc main_arg0)) (m ((c : Thread nD τ).loc main_arg1)) := by
  refine (dats m 0 c).arrAt_eq_of_covers 8 _ (by decide +kernel) fun t hf y => ?_
  obtain ⟨a, b, rfl⟩ : ∃ (a : Fin 512) (b : Fin 2048), y = ix2 a b := ⟨y 0, y 1, eq_ix2 y⟩
  have e : (((cfg0.win 8).blk t).view.emb (ix2 a b) : S4096x2048.Idx) = ix2 (row t a) b := by
    blk_ext [row, idx t]
  rw [e, ← blk_mix]
  blk_simp
  rw [after0_8]
  frame_out

/-- The norm after the run. -/
theorem final_norm : ((dats m 0 c).arrAt 9 cfg0.N : S4096x2048.Idx → EReal)
    = normed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 9 _ (by decide +kernel) fun t hf y => ?_
  obtain ⟨a, b, rfl⟩ : ∃ (a : Fin 512) (b : Fin 2048), y = ix2 a b := ⟨y 0, y 1, eq_ix2 y⟩
  have e : (((cfg0.win 9).blk t).view.emb (ix2 a b) : S4096x2048.Idx) = ix2 (row t a) b := by
    blk_ext [row, idx t]
  rw [e]
  blk_simp
  rw [after0_9]
  frame_out
  rw [pay_norm]
  have e4 : (iblk m c 4 t : S1x2048.Idx → EReal) (ix2 0 b) = (m ((c : Thread nD τ).loc main_arg4) : S1x2048.Idx → EReal) (ix2 0 b) := by
    blk_ext [iblk, V_main_arg4, idx t]
  have e5 : (iblk m c 5 t : S1x2048.Idx → EReal) (ix2 0 b) = (m ((c : Thread nD τ).loc main_arg5) : S1x2048.Idx → EReal) (ix2 0 b) := by
    blk_ext [iblk, V_main_arg5, idx t]
  have e6 : (iblk m c 6 t : S1x2048.Idx → EReal) (ix2 0 b) = (m ((c : Thread nD τ).loc main_arg6) : S1x2048.Idx → EReal) (ix2 0 b) := by
    blk_ext [iblk, V_main_arg6, idx t]
  rw [funext (blk_resid m c t a), e4, e5, e6]
  rfl

/-- The call and its idealization have the same text: one body. -/
theorem body_same {F : FTy → Type} [FloatOps F] (i a1 h1 a2 h2 a3 h3 a4 h4 a5 h5 a6 h6 a7 h7 a8 h8 a9 h9 a10 h10) :
    Cert.Out.cc0_mixer_out (F := F) i a1 h1 a2 h2 a3 h3 a4 h4 a5 h5 a6 h6 a7 h7 a8 h8 a9 h9 a10 h10 = cc0_mixer_out (F := F) i a1 h1 a2 h2 a3 h3 a4 h4 a5 h5 a6 h6 a7 h7 a8 h8 a9 h9 a10 h10 := rfl

/-- One table of bodies and regions. -/
theorem table_same {F : FTy → Type} [FloatOps F] : Cert.Out.defs (F := F) = defs (F := F) := by
  have h : Cert.Out.defs₀ (F := F) = defs₀ (F := F) := by
    unfold Cert.Out.defs₀ defs₀
    congr 1
    funext x
    match x with
    | (0 : Fin 1) =>
      funext y
      obtain ⟨t, s⟩ := y
      exact body_same _ _ _ _ _ _ _ _ _ _ _ _ _ _ _ _ _ _ _ _ _
  unfold Cert.Out.defs defs
  rw [h]
  rfl

/-- One program. -/
theorem main_same {F : FTy → Type} [FloatOps F] : Cert.Out.main (F := F) = main (F := F) := rfl

theorem frame_kernel : Cert.quiescent_Out := fun m ρ _ => by
  rw [table_same, main_same]; exact frame m ρ

theorem frame_ideal : Cert.quiescent_OutIdeal := fun m ρ _ => frame m ρ

theorem frame_reference : Cert.quiescent_OutReferenceIdeal := fun m ρ _ =>
  (θ_run Cert.OutReferenceIdeal.defs _ _).mono (fun r h => ⟨fun c => (h c).2.2.2, sem_eq_zero_of_no_sems (by decide) r.2⟩)
    (Cert.OutReferenceIdeal.Value.run (F := Ideal) m ρ)

/-- The results are the reference's. -/
theorem values : Cert.algebraic_OutIdeal_OutReferenceIdeal := by
  intro m g m' g' _ hagree
  refine ⟨_, _, _, (θ_run defs _ _).mono (fun r h c => ⟨(h c).1.trans (final_resid m c), (h c).2.1.trans (final_mix m c),
      (h c).2.2.1.trans (final_norm m c), (h c).2.2.2⟩) (Value.run_blocks m g),
    (θ_run Cert.OutReferenceIdeal.defs _ _).mono (fun r h c => ⟨(h c).1.trans ?_, (h c).2.1.trans ?_, (h c).2.2.1.trans ?_, (h c).2.2.2⟩)
      (Cert.OutReferenceIdeal.Value.run (F := Ideal) m' g')⟩
  all_goals
    obtain ⟨e0, e1, e2, e3, e4, e5, e6⟩ := hagree c
    simp only [e0, e1, e2, e3, e4, e5, e6]
    funext i
    obtain ⟨a, b, rfl⟩ : ∃ (a : Fin 4096) (b : Fin 2048), i = ix2 a b := ⟨i 0, i 1, eq_ix2 i⟩
  · unfold resid mix
    pointwise
  · unfold mix
    pointwise
  · unfold normed norm inv resid mix
    pointwise

end Cert.Proof.Out

end
-- ==== Proof.Norm.lean ====
/-
  A LAYER'S NORM before its mixer: what the call leaves, what the reference's lines compute, and that they are equal, entry
  by entry.
-/
module

public import Idealize.ShloMosaic.Lib.Pipeline.ValueKit
public import Idealize.ShloMosaic.Lib.Pointwise
public import proofs.«01_k».proof.Defs
public import proofs.«01_k».proof.Proof.Gen.Norm
public import proofs.«01_k».proof.Proof.Gen.NormIdeal.Value
public import proofs.«01_k».proof.Proof.Gen.NormReferenceIdeal
public import proofs.«01_k».proof.Proof.Gen.NormReferenceIdeal.Run
public import Idealize.ShloMosaic.Adequacy
public import Idealize.ShloMosaic.Init
public import proofs.«01_k».proof.Proof.NormRow

@[expose] public section

set_option maxHeartbeats 800000

noncomputable section

namespace Cert.Proof.Norm

open Cert.NormIdeal Cert.NormIdeal.Gen
open Idealize.ShloMosaic Idealize.ShloMosaic.TcCoe Idealize.SL.Sem

/-- The modulated norm. -/
def normed (x : S4096x2048.Idx → EReal) (gain scale shift : S1x2048.Idx → EReal) : S4096x2048.Idx → EReal :=
  fun i => norm (fun k => x (ix2 (i 0) k)) (i 1) (gain (ix2 0 (i 1))) (scale (ix2 0 (i 1))) (shift (ix2 0 (i 1)))

/-- A block of the norm. -/
theorem pay (x0 : S512x2048.Idx → EReal) (x1 x2 x3 : S1x2048.Idx → EReal) (i : Fin 512) (j : Fin 2048) :
    k0_pay1 (F := Ideal) x0 x1 x2 x3 (ix2 i j)
      = norm (fun l => x0 (ix2 i l)) j (x1 (ix2 0 j)) (x2 (ix2 0 j)) (x3 (ix2 0 j)) := by
  unfold norm inv
  pointwise [k0_pay1]

variable (m : (ℓ : Loc nD τ sig) → Buf (Elt Ideal) ℓ) (c : Dev nD)

/-- Which blocks a point reads and writes. -/
theorem idx : ∀ t : Fin cfg0.N, win0_0.index t = ![win0_4.index t 0, 0] ∧ win0_1.index t = ![0, 0] ∧ win0_2.index t = ![0, 0]
    ∧ win0_3.index t = ![0, 0] ∧ win0_4.index t 1 = 0 ∧ win0_4.index t 0 < 8 := (by decide +kernel : ∀ t : Fin grid0.N, _)

/-- The row of the whole arrays that a point's row is. -/
def row (t : Fin cfg0.N) (a : Fin 512) : Fin 4096 :=
  ⟨win0_4.index t 0 * 512 + a.val, by have h : win0_4.index t 0 < 8 := (idx t).2.2.2.2.2; omega⟩

/-- The norm after the run. -/
theorem final : ((dats m 0 c).arrAt 4 cfg0.N : S4096x2048.Idx → EReal)
    = normed (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  obtain ⟨a, b, rfl⟩ : ∃ (a : Fin 512) (b : Fin 2048), y = ix2 a b := ⟨y 0, y 1, eq_ix2 y⟩
  have e : (((cfg0.win 4).blk t).view.emb (ix2 a b) : S4096x2048.Idx) = ix2 (row t a) b := by
    blk_ext [row, idx t]
  rw [e]
  blk_simp
  rw [after0_4]
  frame_out
  rw [pay]
  have e0 (l : Fin 2048) : (iblk m c 0 t : S512x2048.Idx → EReal) (ix2 a l)
      = (m ((c : Thread nD τ).loc main_arg0) : S4096x2048.Idx → EReal) (ix2 (row t a) l) := by
    blk_ext [iblk, V_main_arg0, row, idx t]
  have e1 : (iblk m c 1 t : S1x2048.Idx → EReal) (ix2 0 b) = (m ((c : Thread nD τ).loc main_arg1) : S1x2048.Idx → EReal) (ix2 0 b) := by
    blk_ext [iblk, V_main_arg1, idx t]
  have e2 : (iblk m c 2 t : S1x2048.Idx → EReal) (ix2 0 b) = (m ((c : Thread nD τ).loc main_arg2) : S1x2048.Idx → EReal) (ix2 0 b) := by
    blk_ext [iblk, V_main_arg2, idx t]
  have e3 : (iblk m c 3 t : S1x2048.Idx → EReal) (ix2 0 b) = (m ((c : Thread nD τ).loc main_arg3) : S1x2048.Idx → EReal) (ix2 0 b) := by
    blk_ext [iblk, V_main_arg3, idx t]
  rw [funext e0, e1, e2, e3]
  rfl

/-- The call and its idealization have the same text: one body. -/
theorem body_same {F : FTy → Type} [FloatOps F] (i a1 h1 a2 h2 a3 h3 a4 h4 a5 h5) :
    Cert.Norm.cc0_norm_mix (F := F) i a1 h1 a2 h2 a3 h3 a4 h4 a5 h5 = cc0_norm_mix (F := F) i a1 h1 a2 h2 a3 h3 a4 h4 a5 h5 := rfl

/-- One table of bodies and regions. -/
theorem table_same {F : FTy → Type} [FloatOps F] : Cert.Norm.defs (F := F) = defs (F := F) := by
  have h : Cert.Norm.defs₀ (F := F) = defs₀ (F := F) := by
    unfold Cert.Norm.defs₀ defs₀
    congr 1
    funext x
    match x with
    | (0 : Fin 1) =>
      funext y
      obtain ⟨t, s⟩ := y
      exact body_same _ _ _ _ _ _ _ _ _ _ _
  unfold Cert.Norm.defs defs
  rw [h]
  rfl

/-- One program. -/
theorem main_same {F : FTy → Type} [FloatOps F] : Cert.Norm.main (F := F) = main (F := F) := rfl

theorem frame_kernel : Cert.quiescent_Norm := fun m ρ _ => by
  rw [table_same, main_same]; exact frame m ρ

theorem frame_ideal : Cert.quiescent_NormIdeal := fun m ρ _ => frame m ρ

theorem frame_reference : Cert.quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run (F := Ideal) m ρ)

/-- The results are the reference's. -/
theorem values : Cert.algebraic_NormIdeal_NormReferenceIdeal := by
  intro m g m' g' _ hagree
  refine ⟨_, (θ_run defs _ _).mono (fun r h c => ⟨(h c).1.trans (final m c), (h c).2⟩) (Value.run_blocks m g),
    (θ_run Cert.NormReferenceIdeal.defs _ _).mono (fun r h c => ⟨(h c).1.trans ?_, (h c).2⟩) (Cert.NormReferenceIdeal.Value.run (F := Ideal) m' g')⟩
  obtain ⟨e0, e1, e2, e3⟩ := hagree c
  rw [e0, e1, e2, e3]
  funext i
  obtain ⟨a, b, rfl⟩ : ∃ (a : Fin 4096) (b : Fin 2048), i = ix2 a b := ⟨i 0, i 1, eq_ix2 i⟩
  unfold normed norm inv
  pointwise

end Cert.Proof.Norm

end
-- ==== Proof.Shift.lean ====
/-
  Columns moved by some rows, the rows left free filled with zeros: what the comparisons of row numbers select.
-/
module

public import Idealize.ShloMosaic.Lib.Pipeline.ValueKit
public import Idealize.ShloMosaic.Lib.Pointwise
public import Idealize.ShloMosaic.Lib.WordCmp

@[expose] public section

noncomputable section

namespace Cert.Proof

open Idealize.ShloMosaic

/-- A column moved down by `k` rows. -/
def down (k : Nat) (f : Fin 4096 → EReal) (a : Fin 4096) : EReal :=
  if h : a.val < k then 0 else f ⟨a.val - k, by omega⟩

/-- A column moved up by `k` rows. -/
def up (k : Nat) (f : Fin 4096 → EReal) (a : Fin 4096) : EReal :=
  if h : a.val + k < 4096 then f ⟨a.val + k, h⟩ else 0

/-- The rows turned by `k` and the first `k` zeroed: moved down. -/
theorem select_down (k : Nat) (hk : k < 4096) (a : Fin 4096) (f : Fin 4096 → EReal) (w : EReal) (n : Fin 4096)
    (hn : n.val = (a.val + 4096 - k) % 4096) :
    Scalar.select (IntOp.cmpi .sge (BitVec.ofNat 32 a.val) (BitVec.ofNat 32 k)) (w * f n) 0 = w * down k f a := by
  have ha := a.isLt
  rw [WordCmp.cmpi_sge_ofNat (by simp; omega) (by simp; omega), Scalar.select_ofBool]
  unfold down
  by_cases h : a.val < k
  · rw [dif_pos h, mul_zero, if_neg (by simpa using h)]
  · rw [dif_neg h, if_pos (by simpa using h)]
    refine congrArg (fun i => w * f i) (Fin.ext ?_)
    rw [hn]
    show (a.val + 4096 - k) % 4096 = a.val - k
    omega

/-- The rows turned by `4096 - k` and the last `k` zeroed: moved up. -/
theorem select_up (k : Nat) (hk : 0 < k) (hk' : k < 4096) (a : Fin 4096) (f : Fin 4096 → EReal) (w : EReal) (n : Fin 4096)
    (hn : n.val = (a.val + 4096 - (4096 - k)) % 4096) :
    Scalar.select (IntOp.cmpi .slt (BitVec.ofNat 32 a.val) (BitVec.ofNat 32 (4096 - k))) (w * f n) 0 = w * up k f a := by
  have ha := a.isLt
  rw [WordCmp.cmpi_slt_ofNat (by simp; omega) (by simp; omega), Scalar.select_ofBool]
  unfold up
  by_cases h : a.val + k < 4096
  · rw [dif_pos h, if_pos (by simp; omega)]
    refine congrArg (fun i => w * f i) (Fin.ext ?_)
    rw [hn]
    show (a.val + 4096 - (4096 - k)) % 4096 = a.val + k
    omega
  · rw [dif_neg h, mul_zero, if_neg (by simp; omega)]

end Cert.Proof

end
-- ==== Proof.ConvFwd.lean ====
/-
  THE SHORT CONVOLUTION: what the call leaves, what the reference's lines compute, and that they are equal, entry by entry.
-/
module

public import Idealize.ShloMosaic.Lib.Pipeline.ValueKit
public import Idealize.ShloMosaic.Lib.Pointwise
public import proofs.«01_k».proof.Defs
public import proofs.«01_k».proof.Proof.Gen.ConvFwd
public import proofs.«01_k».proof.Proof.Gen.ConvFwdIdeal.Value
public import proofs.«01_k».proof.Proof.Gen.ConvFwdReferenceIdeal
public import proofs.«01_k».proof.Proof.Gen.ConvFwdReferenceIdeal.Run
public import Idealize.ShloMosaic.Adequacy
public import Idealize.ShloMosaic.Init
public import proofs.«01_k».proof.Proof.Shift

@[expose] public section

set_option maxHeartbeats 800000

noncomputable section

namespace Cert.Proof.ConvFwd

open Cert.ConvFwdIdeal Cert.ConvFwdIdeal.Gen
open Idealize.ShloMosaic Idealize.ShloMosaic.TcCoe Idealize.SL.Sem

/-- The product of the projection's last two parts, column by column. -/
def col (p : S4096x6144.Idx → EReal) (b : Fin 2048) (n : Fin 4096) : EReal :=
  p (ix2 n ⟨2048 + b.val, by omega⟩) * p (ix2 n ⟨4096 + b.val, by omega⟩)

/-- The convolution over three rows, times the projection's first part. -/
def conv (p : S4096x6144.Idx → EReal) (w : S3x2048.Idx → EReal) (a : Fin 4096) (b : Fin 2048) : EReal :=
  p (ix2 a ⟨b.val, by omega⟩) * (w (ix2 0 b) * down 2 (col p b) a + w (ix2 1 b) * down 1 (col p b) a + w (ix2 2 b) * col p b a)

/-- A block of the result from the four blocks it is computed from. -/
theorem pay (x0 x1 : S4096x128.Idx → EReal) (x2 : S3x128.Idx → EReal) (x3 : S4096x128.Idx → EReal) (i : Fin 4096) (j : Fin 128) :
    k0_pay1 (F := Ideal) x0 x1 x2 x3 (ix2 i j)
      = x3 (ix2 i j) * (x2 (ix2 0 j) * down 2 (fun n => x0 (ix2 n j) * x1 (ix2 n j)) i
          + x2 (ix2 1 j) * down 1 (fun n => x0 (ix2 n j) * x1 (ix2 n j)) i + x2 (ix2 2 j) * (x0 (ix2 i j) * x1 (ix2 i j))) := by
  pointwise [k0_pay1]
  refine congrArg (fun x : EReal => x3 (ix2 i j) * x) ?_
  refine (congrArg₂ (fun x y : EReal => x2 (ix2 2 j) * (x0 (ix2 i j) * x1 (ix2 i j)) + x + y)
    (select_down 1 (by decide) i (fun n => x0 (ix2 n j) * x1 (ix2 n j)) (x2 (ix2 1 j)) ⟨_, _⟩ rfl)
    (select_down 2 (by decide) i (fun n => x0 (ix2 n j) * x1 (ix2 n j)) (x2 (ix2 0 j)) ⟨_, _⟩ rfl)).trans ?_
  rw [add_assoc, add_comm, add_comm (x2 (ix2 1 j) * _)]

variable (m : (ℓ : Loc nD τ sig) → Buf (Elt Ideal) ℓ) (c : Dev nD)

/-- Which blocks a point reads and writes. -/
theorem idx : ∀ t : Fin cfg0.N, win0_0.index t = ![0, win0_4.index t 1] ∧ win0_1.index t = ![0, win0_4.index t 1 + 16]
    ∧ win0_2.index t = ![0, win0_4.index t 1 + 32] ∧ win0_3.index t = ![0, win0_4.index t 1] ∧ win0_4.index t 0 = 0
    ∧ win0_4.index t 1 < 16 := (by decide +kernel : ∀ t : Fin grid0.N, _)

/-- The column of the whole arrays that a point's column is. -/
def at_ (t : Fin cfg0.N) (b : Fin 128) : Fin 2048 :=
  ⟨win0_4.index t 1 * 128 + b.val, by have h : win0_4.index t 1 < 16 := (idx t).2.2.2.2.2; omega⟩

/-- The array after the run. -/
theorem final : ((dats m 0 c).arrAt 4 cfg0.N : S4096x2048.Idx → EReal)
    = fun i => conv (m ((c : Thread nD τ).loc main_arg0)) (m ((c : Thread nD τ).loc main_arg1)) (i 0) (i 1) := by
  refine (dats m 0 c).arrAt_eq_of_covers 4 _ (by decide +kernel) fun t hf y => ?_
  obtain ⟨a, b, rfl⟩ : ∃ (a : Fin 4096) (b : Fin 128), y = ix2 a b := ⟨y 0, y 1, eq_ix2 y⟩
  have e : (((cfg0.win 4).blk t).view.emb (ix2 a b) : S4096x2048.Idx) = ix2 a (at_ t b) := by
    blk_ext [at_, idx t]
  rw [e]
  blk_simp
  rw [after0_4]
  frame_out
  rw [pay]
  have e0 (n : Fin 4096) : (iblk m c 0 t : S4096x128.Idx → EReal) (ix2 n b)
      = (m ((c : Thread nD τ).loc main_arg0) : S4096x6144.Idx → EReal) (ix2 n ⟨(at_ t b).val, by omega⟩) := by
    blk_ext [iblk, V_main_arg0, at_, idx t]
  have e1 (n : Fin 4096) : (iblk m c 1 t : S4096x128.Idx → EReal) (ix2 n b)
      = (m ((c : Thread nD τ).loc main_arg0) : S4096x6144.Idx → EReal) (ix2 n ⟨2048 + (at_ t b).val, by omega⟩) := by
    blk_ext [iblk, V_main_arg0, at_, idx t]
  have e2 (n : Fin 4096) : (iblk m c 2 t : S4096x128.Idx → EReal) (ix2 n b)
      = (m ((c : Thread nD τ).loc main_arg0) : S4096x6144.Idx → EReal) (ix2 n ⟨4096 + (at_ t b).val, by omega⟩) := by
    blk_ext [iblk, V_main_arg0, at_, idx t]
  have e3 (q : Fin 3) : (iblk m c 3 t : S3x128.Idx → EReal) (ix2 q b)
      = (m ((c : Thread nD τ).loc main_arg1) : S3x2048.Idx → EReal) (ix2 q (at_ t b)) := by
    blk_ext [iblk, V_main_arg1, at_, idx t]
  simp only [e0, e1, e2, e3]
  rfl

/-- The call and its idealization have the same text: one body. -/
theorem body_same {F : FTy → Type} [FloatOps F] (i a1 h1 a2 h2 a3 h3 a4 h4 a5 h5) :
    Cert.ConvFwd.cc0_conv_fwd (F := F) i a1 h1 a2 h2 a3 h3 a4 h4 a5 h5 = cc0_conv_fwd (F := F) i a1 h1 a2 h2 a3 h3 a4 h4 a5 h5 := rfl

/-- One table of bodies and regions. -/
theorem table_same {F : FTy → Type} [FloatOps F] : Cert.ConvFwd.defs (F := F) = defs (F := F) := by
  have h : Cert.ConvFwd.defs₀ (F := F) = defs₀ (F := F) := by
    unfold Cert.ConvFwd.defs₀ defs₀
    congr 1
    funext x
    match x with
    | (0 : Fin 1) =>
      funext y
      obtain ⟨t, s⟩ := y
      exact body_same _ _ _ _ _ _ _ _ _ _ _
  unfold Cert.ConvFwd.defs defs
  rw [h]
  rfl

/-- One program. -/
theorem main_same {F : FTy → Type} [FloatOps F] : Cert.ConvFwd.main (F := F) = main (F := F) := rfl

theorem frame_kernel : Cert.quiescent_ConvFwd := fun m ρ _ => by
  rw [table_same, main_same]; exact frame m ρ

theorem frame_ideal : Cert.quiescent_ConvFwdIdeal := fun m ρ _ => frame m ρ

theorem frame_reference : Cert.quiescent_ConvFwdReferenceIdeal := fun m ρ _ =>
  (θ_run Cert.ConvFwdReferenceIdeal.defs _ _).mono (fun r h => ⟨fun c => (h c).2, sem_eq_zero_of_no_sems (by decide) r.2⟩)
    (Cert.ConvFwdReferenceIdeal.Value.run (F := Ideal) m ρ)

/-- The results are the reference's. -/
theorem values : Cert.algebraic_ConvFwdIdeal_ConvFwdReferenceIdeal := by
  intro m g m' g' _ hagree
  refine ⟨_, (θ_run defs _ _).mono (fun r h c => ⟨(h c).1.trans (final m c), (h c).2⟩) (Value.run_blocks m g),
    (θ_run Cert.ConvFwdReferenceIdeal.defs _ _).mono (fun r h c => ⟨(h c).1.trans ?_, (h c).2⟩) (Cert.ConvFwdReferenceIdeal.Value.run (F := Ideal) m' g')⟩
  obtain ⟨e0, e1⟩ := hagree c
  rw [e0, e1]
  funext i
  obtain ⟨a, b, rfl⟩ : ∃ (a : Fin 4096) (b : Fin 2048), i = ix2 a b := ⟨i 0, i 1, eq_ix2 i⟩
  unfold conv
  pointwise
  refine congrArg (fun x : EReal => _ * x) (congrArg₂ (fun x y : EReal => x + y) (congrArg₂ (fun x y : EReal => x + y) rfl ?_) rfl)
  refine congrArg (fun x : EReal => _ * x) ?_
  unfold down
  by_cases h : a.val < 1
  · rw [dif_pos h, dif_pos (by omega)]
  · rw [dif_neg h, dif_neg (by omega)]
    unfold col
    simp only [show 1 + a.val - 2 = a.val - 1 by omega]

end Cert.Proof.ConvFwd

end
-- ==== Proof.ConvBwd.lean ====
/-
  THE SHORT CONVOLUTION'S BACKWARD: what the call leaves, what the reference's lines compute, and that they are equal, entry by entry.
-/
module

public import Idealize.ShloMosaic.Lib.Pipeline.ValueKit
public import Idealize.ShloMosaic.Lib.Pointwise
public import proofs.«01_k».proof.Defs
public import proofs.«01_k».proof.Proof.Gen.ConvBwd
public import proofs.«01_k».proof.Proof.Gen.ConvBwdIdeal.Value
public import proofs.«01_k».proof.Proof.Gen.ConvBwdReferenceIdeal
public import proofs.«01_k».proof.Proof.Gen.ConvBwdReferenceIdeal.Run
public import Idealize.ShloMosaic.Adequacy
public import Idealize.ShloMosaic.Init
public import proofs.«01_k».proof.Proof.Shift

@[expose] public section

set_option maxHeartbeats 800000

noncomputable section

namespace Cert.Proof.ConvBwd

open Cert.ConvBwdIdeal Cert.ConvBwdIdeal.Gen
open Idealize.ShloMosaic Idealize.ShloMosaic.TcCoe Idealize.SL.Sem

/-- The convolution over three rows of one column. -/
def conv (w : Fin 3 → EReal) (f : Fin 4096 → EReal) (a : Fin 4096) : EReal := w 0 * down 2 f a + w 1 * down 1 f a + w 2 * f a

/-- The same, backward: the rows moved up. -/
def convUp (w : Fin 3 → EReal) (f : Fin 4096 → EReal) (a : Fin 4096) : EReal := w 2 * f a + w 1 * up 1 f a + w 0 * up 2 f a

/-- One column of the gradient at the projection's three parts `b`, `c`, `u`, for the incoming gradient `z`. -/
def dproj (b c u z : Fin 4096 → EReal) (w : Fin 3 → EReal) (q : Fin 3) (a : Fin 4096) : EReal :=
  if q.val = 0 then z a * conv w (fun n => c n * u n) a
  else if q.val = 1 then convUp w (fun n => z n * b n) a * u a
  else convUp w (fun n => z n * b n) a * c a

/-- One column of the gradient at the weights, with its rows of zeros. -/
def dweight (b c u z : Fin 4096 → EReal) (q : Fin 8) : EReal :=
  if q.val = 0 then ∑ n, z n * b n * down 2 (fun n => c n * u n) n
  else if q.val = 1 then ∑ n, z n * b n * down 1 (fun n => c n * u n) n
  else if q.val = 2 then ∑ n, z n * b n * (c n * u n)
  else 0

/-- A sum against a column moved down by two rows, the first two rows apart. -/
theorem sum_down2 (f g : Fin 4096 → EReal) :
    (∑ x : Fin 2, f ⟨x.val, by omega⟩ * 0) + (∑ x : Fin 4094, f ⟨2 + x.val, by omega⟩ * g ⟨x.val, by omega⟩) = ∑ n, f n * down 2 g n := by
  refine Eq.symm ((Fin.sum_univ_add (a := 2) (b := 4094) fun n => f n * down 2 g n).trans
    (congrArg₂ (fun x y : EReal => x + y) (Finset.sum_congr rfl fun x _ => ?_) (Finset.sum_congr rfl fun x _ => ?_)))
  · refine congrArg₂ (fun x y : EReal => x * y) rfl ?_
    unfold down
    exact dif_pos x.isLt
  · refine congrArg₂ (fun x y : EReal => x * y) rfl ?_
    unfold down
    refine (dif_neg (by show ¬ 2 + x.val < 2; omega)).trans (congrArg g (Fin.ext ?_))
    show 2 + x.val - 2 = x.val
    omega

/-- A column moved down by one row, as a slice of the column under two rows of zeros. -/
theorem down1 (f : Fin 4096 → EReal) (a : Fin 4096) :
    (if h : 1 + a.val < 2 then 0 else f ⟨1 + a.val - 2, by omega⟩) = down 1 f a := by
  unfold down
  by_cases h : a.val < 1
  · rw [dif_pos h, dif_pos (by omega)]
  · rw [dif_neg h, dif_neg (by omega)]
    exact congrArg f (Fin.ext (by show 1 + a.val - 2 = a.val - 1; omega))

/-- A column moved up by one row, and by two, as slices of the column over two rows of zeros. -/
theorem up1 (w : EReal) (f : Fin 4096 → EReal) (a : Fin 4096) :
    (if h : 1 ≤ 2 + a.val ∧ 2 + a.val - 1 < 4096 then w * f ⟨2 + a.val - 1, h.2⟩ else 0) = w * up 1 f a := by
  unfold up
  by_cases h : a.val + 1 < 4096
  · rw [dif_pos h, dif_pos (by omega)]
    exact congrArg (fun i => w * f i) (Fin.ext (by show 2 + a.val - 1 = a.val + 1; omega))
  · rw [dif_neg h, dif_neg (by omega), mul_zero]

theorem up2 (w : EReal) (f : Fin 4096 → EReal) (a : Fin 4096) :
    (if h : 2 + a.val < 4096 then w * f ⟨2 + a.val, h⟩ else 0) = w * up 2 f a := by
  unfold up
  by_cases h : a.val + 2 < 4096
  · rw [dif_pos h, dif_pos (by omega)]
    exact congrArg (fun i => w * f i) (Fin.ext (by show 2 + a.val = a.val + 2; omega))
  · rw [dif_neg h, dif_neg (by omega), mul_zero]

/-- The first part of the gradient from the four blocks it is computed from. -/
theorem pay9 (x0 x1 : S4096x128.Idx → EReal) (x2 : S3x128.Idx → EReal) (x3 : S4096x128.Idx → EReal) (q : Fin 1) (i : Fin 4096) (j : Fin 128) :
    k0_pay9 (F := Ideal) x0 x1 x2 x3 (ix3 q i j)
      = x3 (ix2 i j) * conv (fun k => x2 (ix2 k j)) (fun n => x0 (ix2 n j) * x1 (ix2 n j)) i := by
  pointwise [k0_pay9, k0_pay8, k0_pay7, k0_pay6, k0_pay5, k0_pay4, k0_pay3]
  refine congrArg (fun x : EReal => x3 (ix2 i j) * x) ?_
  refine (congrArg₂ (fun x y : EReal => x2 (ix2 2 j) * (x0 (ix2 i j) * x1 (ix2 i j)) + x + y)
    (select_down 1 (by decide) i (fun n => x0 (ix2 n j) * x1 (ix2 n j)) (x2 (ix2 1 j)) ⟨_, _⟩ rfl)
    (select_down 2 (by decide) i (fun n => x0 (ix2 n j) * x1 (ix2 n j)) (x2 (ix2 0 j)) ⟨_, _⟩ rfl)).trans ?_
  unfold conv
  rw [add_assoc, add_comm, add_comm (x2 (ix2 1 j) * _)]

set_option maxRecDepth 65536 in
/-- The backward convolution of a block. -/
theorem pay11 (x0 : S3x128.Idx → EReal) (x1 : S4096x128.Idx → EReal) (i : Fin 4096) (j : Fin 128) :
    k0_pay11 (F := Ideal) x0 x1 (ix2 i j) = convUp (fun k => x0 (ix2 k j)) (fun n => x1 (ix2 n j)) i := by
  pointwise [k0_pay11]
  exact congrArg₂ (fun x y : EReal => x0 (ix2 2 j) * x1 (ix2 i j) + x + y)
    (select_up 1 (by decide) (by decide) i (fun n => x1 (ix2 n j)) (x0 (ix2 1 j)) ⟨_, _⟩ rfl)
    (select_up 2 (by decide) (by decide) i (fun n => x1 (ix2 n j)) (x0 (ix2 0 j)) ⟨_, _⟩ rfl)

/-- The second and the third part, from the backward convolution. -/
theorem pay12 (x0 : S4096x128.Idx → EReal) (x1 : S3x128.Idx → EReal) (x2 : S4096x128.Idx → EReal) (q : Fin 1) (i : Fin 4096) (j : Fin 128) :
    k0_pay12 (F := Ideal) x0 x1 x2 (ix3 q i j) = convUp (fun k => x1 (ix2 k j)) (fun n => x2 (ix2 n j)) i * x0 (ix2 i j) := by
  rw [← pay11]
  pointwise [k0_pay12]

theorem pay13 (x0 : S4096x128.Idx → EReal) (x1 : S3x128.Idx → EReal) (x2 : S4096x128.Idx → EReal) (q : Fin 1) (i : Fin 4096) (j : Fin 128) :
    k0_pay13 (F := Ideal) x0 x1 x2 (ix3 q i j) = convUp (fun k => x1 (ix2 k j)) (fun n => x2 (ix2 n j)) i * x0 (ix2 i j) := by
  rw [← pay11]
  pointwise [k0_pay13]

/-- The product read by the sums. -/
theorem pay5 (x0 x1 : S4096x128.Idx → EReal) (i : Fin 4096) (j : Fin 128) :
    k0_pay5 (F := Ideal) x0 x1 (ix2 i j) = x0 (ix2 i j) * x1 (ix2 i j) := by
  pointwise [k0_pay5, k0_pay4, k0_pay3]

/-- Its rows moved down by one, and by two. -/
theorem pay6 (x0 x1 : S4096x128.Idx → EReal) (i : Fin 4096) (j : Fin 128) :
    k0_pay6 (F := Ideal) x0 x1 (ix2 i j) = down 1 (fun n => x0 (ix2 n j) * x1 (ix2 n j)) i := by
  pointwise [k0_pay6, k0_pay5, k0_pay4, k0_pay3]
  simpa only [one_mul] using select_down 1 (by decide) i (fun n => x0 (ix2 n j) * x1 (ix2 n j)) 1 ⟨_, Nat.mod_lt _ (by decide)⟩ rfl

theorem pay7 (x0 x1 : S4096x128.Idx → EReal) (i : Fin 4096) (j : Fin 128) :
    k0_pay7 (F := Ideal) x0 x1 (ix2 i j) = down 2 (fun n => x0 (ix2 n j) * x1 (ix2 n j)) i := by
  pointwise [k0_pay7, k0_pay5, k0_pay4, k0_pay3]
  simpa only [one_mul] using select_down 2 (by decide) i (fun n => x0 (ix2 n j) * x1 (ix2 n j)) 1 ⟨_, Nat.mod_lt _ (by decide)⟩ rfl

/-- The incoming gradient times the first part. -/
theorem pay10 (x0 x1 : S4096x128.Idx → EReal) (i : Fin 4096) (j : Fin 128) :
    k0_pay10 (F := Ideal) x0 x1 (ix2 i j) = x0 (ix2 i j) * x1 (ix2 i j) := by
  pointwise [k0_pay10, k0_pay8]

/-- The three sums over the rows. -/
theorem pay15 (x0 x1 : S4096x128.Idx → EReal) (q : Fin 1) (j : Fin 128) :
    k0_pay15 (F := Ideal) x0 x1 (ix2 q j) = ∑ n : Fin 4096, x1 (ix2 n j) * x0 (ix2 n j) := by
  pointwise [k0_pay15]

theorem pay1 (x0 x1 : S4096x128.Idx → EReal) (q : Fin 1) (j : Fin 128) :
    k0_pay1 (F := Ideal) x0 x1 (ix2 q j) = ∑ n : Fin 4096, x1 (ix2 n j) * x0 (ix2 n j) := by
  pointwise [k0_pay1]

theorem pay2 (x0 x1 : S4096x128.Idx → EReal) (q : Fin 1) (j : Fin 128) :
    k0_pay2 (F := Ideal) x0 x1 (ix2 q j) = ∑ n : Fin 4096, x1 (ix2 n j) * x0 (ix2 n j) := by
  pointwise [k0_pay2]

section Stores

variable {Val : EltTy → Type} {e : EltTy} [∀ e, Nonempty (Val e)]

/-- A store of one part of three, read in that part. -/
theorem hit3 (k : Nat) (hk : k < 3) (inb) (w : S1x4096x128.Idx → Val e) (L : List (View.Piece Val S3x4096x128 e)) (a : Fin 4096) (b : Fin 128) :
    View.canon (⟨Rect.unit ![k, 0, 0] ![1, 4096, 128] inb, w⟩ :: L) (ix3 ⟨k, hk⟩ a b) = w (ix3 0 a b) := by
  have e : (ix3 ⟨k, hk⟩ a b : S3x4096x128.Idx)
      = (Rect.unit (s := S3x4096x128) ![k, 0, 0] ![1, 4096, 128] inb).emb (ix3 0 a b : S1x4096x128.Idx) := by
    funext d
    fin_cases d <;> refine Fin.ext ?_ <;> simp [ix3, Rect.emb, Rect.unit]
  rw [e]
  exact View.canon_cons_emb _ _ _ _

/-- The same store, read in another part. -/
theorem miss3 (k : Nat) (q : Fin 3) (hq : q.val ≠ k) (inb) (w : S1x4096x128.Idx → Val e) (L : List (View.Piece Val S3x4096x128 e))
    (a : Fin 4096) (b : Fin 128) :
    View.canon (⟨Rect.unit ![k, 0, 0] ![1, 4096, 128] inb, w⟩ :: L) (ix3 q a b) = View.canon L (ix3 q a b) := by
  refine View.canon_cons_of_not_mem _ _ fun h => hq ?_
  have h0 := (Rect.mem_set_unit (inb := inb)).mp h 0
  have h1 : k ≤ q.val ∧ q.val < k + 1 := h0
  omega

/-- A store of one row of eight, read in that row. -/
theorem hit8 (k : Nat) (hk : k < 8) (inb) (w : S1x128.Idx → Val e) (L : List (View.Piece Val S8x128 e)) (b : Fin 128) :
    View.canon (⟨Rect.unit ![k, 0] ![1, 128] inb, w⟩ :: L) (ix2 ⟨k, hk⟩ b) = w (ix2 0 b) := by
  have e : (ix2 ⟨k, hk⟩ b : S8x128.Idx) = (Rect.unit (s := S8x128) ![k, 0] ![1, 128] inb).emb (ix2 0 b : S1x128.Idx) := by
    funext d
    fin_cases d <;> refine Fin.ext ?_ <;> simp [ix2, Rect.emb, Rect.unit]
  rw [e]
  exact View.canon_cons_emb _ _ _ _

/-- The same store, read in another row. -/
theorem miss8 (k : Nat) (q : Fin 8) (hq : q.val ≠ k) (inb) (w : S1x128.Idx → Val e) (L : List (View.Piece Val S8x128 e)) (b : Fin 128) :
    View.canon (⟨Rect.unit ![k, 0] ![1, 128] inb, w⟩ :: L) (ix2 q b) = View.canon L (ix2 q b) := by
  refine View.canon_cons_of_not_mem _ _ fun h => hq ?_
  have h0 := (Rect.mem_set_unit (inb := inb)).mp h 0
  have h1 : k ≤ q.val ∧ q.val < k + 1 := h0
  omega

/-- A store of the whole, read anywhere. -/
theorem hitAll (inb) (w : S8x128.Idx → Val e) (q : Fin 8) (b : Fin 128) :
    View.canon [(⟨Rect.unit ![0, 0] ![8, 128] inb, w⟩ : View.Piece Val S8x128 e)] (ix2 q b) = w (ix2 q b) :=
  congrFun (View.canon_cons_unit_lit (S := S8x128) inb w [] (by decide)) _

end Stores

variable (m : (ℓ : Loc nD τ sig) → Buf (Elt Ideal) ℓ) (c : Dev nD)

/-- What a point leaves in the projection's gradient. -/
theorem block5 (t : Fin cfg0.N) (q : Fin 3) (a : Fin 4096) (b : Fin 128) :
    (outsAt0 m c t).1 (ix3 q a b) = dproj (fun n => (iblk m c 0 t : S4096x128.Idx → EReal) (ix2 n b))
      (fun n => (iblk m c 1 t : S4096x128.Idx → EReal) (ix2 n b)) (fun n => (iblk m c 2 t : S4096x128.Idx → EReal) (ix2 n b))
      (fun n => (iblk m c 4 t : S4096x128.Idx → EReal) (ix2 n b)) (fun k => (iblk m c 3 t : S3x128.Idx → EReal) (ix2 k b)) q a := by
  simp only [outsAt0]
  frame_out
  match q with
  | 0 =>
    refine (miss3 2 0 (by decide) _ _ _ a b).trans ((miss3 1 0 (by decide) _ _ _ a b).trans ((hit3 0 (by decide) _ _ _ a b).trans ?_))
    exact pay9 _ _ _ _ _ _ _
  | 1 =>
    refine (miss3 2 1 (by decide) _ _ _ a b).trans ((hit3 1 (by decide) _ _ _ a b).trans ?_)
    rw [pay12]
    simp only [pay10]
    pointwise [k0_pay4]
    rfl
  | 2 =>
    refine (hit3 2 (by decide) _ _ _ a b).trans ?_
    rw [pay13]
    simp only [pay10]
    pointwise [k0_pay3]
    rfl

/-- What it leaves in the weights' gradient. -/
theorem block6 (t : Fin cfg0.N) (q : Fin 8) (b : Fin 128) :
    (outsAt0 m c t).2 (ix2 q b) = dweight (fun n => (iblk m c 0 t : S4096x128.Idx → EReal) (ix2 n b))
      (fun n => (iblk m c 1 t : S4096x128.Idx → EReal) (ix2 n b)) (fun n => (iblk m c 2 t : S4096x128.Idx → EReal) (ix2 n b))
      (fun n => (iblk m c 4 t : S4096x128.Idx → EReal) (ix2 n b)) q := by
  simp only [outsAt0]
  frame_out
  by_cases h2 : q.val = 2
  · obtain rfl : q = 2 := Fin.ext h2
    refine (hit8 2 (by decide) _ _ _ b).trans ?_
    rw [pay2]
    simp only [pay10, pay5]
    rfl
  refine (miss8 2 q h2 _ _ _ b).trans ?_
  by_cases h1 : q.val = 1
  · obtain rfl : q = 1 := Fin.ext h1
    refine (hit8 1 (by decide) _ _ _ b).trans ?_
    rw [pay1]
    simp only [pay10, pay6]
    rfl
  refine (miss8 1 q h1 _ _ _ b).trans ?_
  by_cases h0 : q.val = 0
  · obtain rfl : q = 0 := Fin.ext h0
    refine (hit8 0 (by decide) _ _ _ b).trans ?_
    rw [pay15]
    simp only [pay10, pay7]
    rfl
  refine (miss8 0 q h0 _ _ _ b).trans ((hitAll _ _ q b).trans ?_)
  unfold dweight
  rw [if_neg h0, if_neg h1, if_neg h2]
  pointwise [k0_pay14]

/-- Which blocks a point reads and writes. -/
theorem idx : ∀ t : Fin cfg0.N, win0_0.index t = ![0, win0_4.index t 1] ∧ win0_1.index t = ![0, win0_4.index t 1 + 16]
    ∧ win0_2.index t = ![0, win0_4.index t 1 + 32] ∧ win0_3.index t = ![0, win0_4.index t 1] ∧ win0_4.index t 0 = 0
    ∧ win0_5.index t = ![0, 0, win0_4.index t 1] ∧ win0_6.index t = ![0, win0_4.index t 1]
    ∧ win0_4.index t 1 < 16 := (by decide +kernel : ∀ t : Fin grid0.N, _)

/-- The column of the whole arrays that a point's column is. -/
def at_ (t : Fin cfg0.N) (b : Fin 128) : Fin 2048 :=
  ⟨win0_4.index t 1 * 128 + b.val, by have h : win0_4.index t 1 < 16 := (idx t).2.2.2.2.2.2.2; omega⟩

/-- A point's blocks are columns of the arguments. -/
theorem e0 (t : Fin cfg0.N) (n : Fin 4096) (b : Fin 128) : (iblk m c 0 t : S4096x128.Idx → EReal) (ix2 n b)
    = (m ((c : Thread nD τ).loc main_arg0) : S4096x6144.Idx → EReal) (ix2 n ⟨(at_ t b).val, by omega⟩) := by
  blk_ext [iblk, V_main_arg0, at_, idx t]

theorem e1 (t : Fin cfg0.N) (n : Fin 4096) (b : Fin 128) : (iblk m c 1 t : S4096x128.Idx → EReal) (ix2 n b)
    = (m ((c : Thread nD τ).loc main_arg0) : S4096x6144.Idx → EReal) (ix2 n ⟨2048 + (at_ t b).val, by omega⟩) := by
  blk_ext [iblk, V_main_arg0, at_, idx t]

theorem e2 (t : Fin cfg0.N) (n : Fin 4096) (b : Fin 128) : (iblk m c 2 t : S4096x128.Idx → EReal) (ix2 n b)
    = (m ((c : Thread nD τ).loc main_arg0) : S4096x6144.Idx → EReal) (ix2 n ⟨4096 + (at_ t b).val, by omega⟩) := by
  blk_ext [iblk, V_main_arg0, at_, idx t]

theorem e3 (t : Fin cfg0.N) (q : Fin 3) (b : Fin 128) : (iblk m c 3 t : S3x128.Idx → EReal) (ix2 q b)
    = (m ((c : Thread nD τ).loc main_arg1) : S3x2048.Idx → EReal) (ix2 q (at_ t b)) := by
  blk_ext [iblk, V_main_arg1, at_, idx t]

theorem e4 (t : Fin cfg0.N) (n : Fin 4096) (b : Fin 128) : (iblk m c 4 t : S4096x128.Idx → EReal) (ix2 n b)
    = (m ((c : Thread nD τ).loc main_arg2) : S4096x2048.Idx → EReal) (ix2 n (at_ t b)) := by
  blk_ext [iblk, V_main_arg2, at_, idx t]

/-- The gradient at the projection, of the whole arrays. -/
def gradP (p : S4096x6144.Idx → EReal) (w : S3x2048.Idx → EReal) (z : S4096x2048.Idx → EReal) (q : Fin 3) (a : Fin 4096) (b : Fin 2048) : EReal :=
  dproj (fun n => p (ix2 n ⟨b.val, by omega⟩)) (fun n => p (ix2 n ⟨2048 + b.val, by omega⟩))
    (fun n => p (ix2 n ⟨4096 + b.val, by omega⟩)) (fun n => z (ix2 n b)) (fun k => w (ix2 k b)) q a

/-- The gradient at the weights, of the whole arrays. -/
def gradW (p : S4096x6144.Idx → EReal) (z : S4096x2048.Idx → EReal) (q : Fin 8) (b : Fin 2048) : EReal :=
  dweight (fun n => p (ix2 n ⟨b.val, by omega⟩)) (fun n => p (ix2 n ⟨2048 + b.val, by omega⟩))
    (fun n => p (ix2 n ⟨4096 + b.val, by omega⟩)) (fun n => z (ix2 n b)) q

/-- The two arrays after the run. -/
theorem final5 : ((dats m 0 c).arrAt 5 cfg0.N : S3x4096x2048.Idx → EReal)
    = fun i => gradP (m ((c : Thread nD τ).loc main_arg0)) (m ((c : Thread nD τ).loc main_arg1)) (m ((c : Thread nD τ).loc main_arg2))
        (i 0) (i 1) (i 2) := by
  refine (dats m 0 c).arrAt_eq_of_covers 5 _ (by decide +kernel) fun t hf y => ?_
  obtain ⟨q, a, b, rfl⟩ : ∃ (q : Fin 3) (a : Fin 4096) (b : Fin 128), y = ix3 q a b := ⟨y 0, y 1, y 2, eq_ix3 y⟩
  have e : (((cfg0.win 5).blk t).view.emb (ix3 q a b) : S3x4096x2048.Idx) = ix3 q a (at_ t b) := by
    blk_ext [at_, idx t]
  rw [e]
  blk_simp
  rw [after0_5, block5]
  simp only [e0, e1, e2, e3, e4]
  rfl

theorem final6 : ((dats m 0 c).arrAt 6 cfg0.N : S8x2048.Idx → EReal)
    = fun i => gradW (m ((c : Thread nD τ).loc main_arg0)) (m ((c : Thread nD τ).loc main_arg2)) (i 0) (i 1) := by
  refine (dats m 0 c).arrAt_eq_of_covers 6 _ (by decide +kernel) fun t hf y => ?_
  obtain ⟨q, b, rfl⟩ : ∃ (q : Fin 8) (b : Fin 128), y = ix2 q b := ⟨y 0, y 1, eq_ix2 y⟩
  have e : (((cfg0.win 6).blk t).view.emb (ix2 q b) : S8x2048.Idx) = ix2 q (at_ t b) := by
    blk_ext [at_, idx t]
  rw [e]
  blk_simp
  rw [after0_6, block6]
  simp only [e0, e1, e2, e4]
  rfl

/-- The call and its idealization have the same text: one body. -/
theorem body_same {F : FTy → Type} [FloatOps F] (i a1 h1 a2 h2 a3 h3 a4 h4 a5 h5 a6 h6 a7 h7) :
    Cert.ConvBwd.cc0_conv_bwd (F := F) i a1 h1 a2 h2 a3 h3 a4 h4 a5 h5 a6 h6 a7 h7 = cc0_conv_bwd (F := F) i a1 h1 a2 h2 a3 h3 a4 h4 a5 h5 a6 h6 a7 h7 := rfl

/-- One table of bodies and regions. -/
theorem table_same {F : FTy → Type} [FloatOps F] : Cert.ConvBwd.defs (F := F) = defs (F := F) := by
  have h : Cert.ConvBwd.defs₀ (F := F) = defs₀ (F := F) := by
    unfold Cert.ConvBwd.defs₀ defs₀
    congr 1
    funext x
    match x with
    | (0 : Fin 1) =>
      funext y
      obtain ⟨t, s⟩ := y
      exact body_same _ _ _ _ _ _ _ _ _ _ _ _ _ _ _
  unfold Cert.ConvBwd.defs defs
  rw [h]
  rfl

/-- One program. -/
theorem main_same {F : FTy → Type} [FloatOps F] : Cert.ConvBwd.main (F := F) = main (F := F) := rfl

theorem frame_kernel : Cert.quiescent_ConvBwd := fun m ρ _ => by
  rw [table_same, main_same]; exact frame m ρ

theorem frame_ideal : Cert.quiescent_ConvBwdIdeal := fun m ρ _ => frame m ρ

theorem frame_reference : Cert.quiescent_ConvBwdReferenceIdeal := fun m ρ _ =>
  (θ_run Cert.ConvBwdReferenceIdeal.defs _ _).mono (fun r h => ⟨fun c => (h c).2.2, sem_eq_zero_of_no_sems (by decide) r.2⟩)
    (Cert.ConvBwdReferenceIdeal.Value.run (F := Ideal) m ρ)

section Reference

variable (m' : (ℓ : Loc Cert.ConvBwdReferenceIdeal.nD Cert.ConvBwdReferenceIdeal.τ Cert.ConvBwdReferenceIdeal.sig) → Buf (Elt Ideal) ℓ) (c' : Dev Cert.ConvBwdReferenceIdeal.nD) (a : Fin 4096) (b : Fin 2048)

/-- The reference's gradient at the projection's first part. -/
theorem ref5_0 : (Cert.ConvBwdReferenceIdeal.Value.res_main_v77 m' c' : S3x4096x2048.Idx → EReal) (ix3 0 a b)
    = gradP (m' (c'.tc.loc Cert.ConvBwdReferenceIdeal.main_arg0)) (m' (c'.tc.loc Cert.ConvBwdReferenceIdeal.main_arg1)) (m' (c'.tc.loc Cert.ConvBwdReferenceIdeal.main_arg2)) 0 a b := by
  unfold Cert.ConvBwdReferenceIdeal.Value.res_main_v77
  pointwise
  unfold gradP dproj
  generalize hp : (m' (c'.tc.loc Cert.ConvBwdReferenceIdeal.main_arg0)) = p
  generalize hw : (m' (c'.tc.loc Cert.ConvBwdReferenceIdeal.main_arg1)) = w
  generalize hz : (m' (c'.tc.loc Cert.ConvBwdReferenceIdeal.main_arg2)) = z
  clear hp hw hz
  change S4096x6144.Idx → EReal at p
  change S3x2048.Idx → EReal at w
  change S4096x2048.Idx → EReal at z
  refine congrArg (fun x : EReal => z (ix2 a b) * x) (congrArg₂ (fun x y : EReal => x + y) (congrArg₂ (fun x y : EReal => x + y) rfl ?_) rfl)
  exact congrArg (fun x : EReal => w (ix2 1 b) * x) (down1 (fun n => p (ix2 n ⟨2048 + b.val, by omega⟩) * p (ix2 n ⟨4096 + b.val, by omega⟩)) a)

/-- At the second. -/
theorem ref5_1 : (Cert.ConvBwdReferenceIdeal.Value.res_main_v77 m' c' : S3x4096x2048.Idx → EReal) (ix3 1 a b)
    = gradP (m' (c'.tc.loc Cert.ConvBwdReferenceIdeal.main_arg0)) (m' (c'.tc.loc Cert.ConvBwdReferenceIdeal.main_arg1)) (m' (c'.tc.loc Cert.ConvBwdReferenceIdeal.main_arg2)) 1 a b := by
  unfold Cert.ConvBwdReferenceIdeal.Value.res_main_v77
  pointwise
  unfold gradP dproj
  generalize hp : (m' (c'.tc.loc Cert.ConvBwdReferenceIdeal.main_arg0)) = p
  generalize hw : (m' (c'.tc.loc Cert.ConvBwdReferenceIdeal.main_arg1)) = w
  generalize hz : (m' (c'.tc.loc Cert.ConvBwdReferenceIdeal.main_arg2)) = z
  clear hp hw hz
  change S4096x6144.Idx → EReal at p
  change S3x2048.Idx → EReal at w
  change S4096x2048.Idx → EReal at z
  rw [show (fun n => z (ix2 n b) * p (ix2 n ⟨b.val, by omega⟩)) = (fun n => p (ix2 n ⟨b.val, by omega⟩) * z (ix2 n b)) from funext fun n => mul_comm _ _]
  exact congrArg (fun x : EReal => x * p (ix2 a ⟨4096 + b.val, by omega⟩)) (congrArg₂ (fun x y : EReal => x + y)
    (congrArg₂ (fun x y : EReal => x + y) rfl (up1 (w (ix2 1 b)) (fun n => p (ix2 n ⟨b.val, by omega⟩) * z (ix2 n b)) a)) (up2 (w (ix2 0 b)) (fun n => p (ix2 n ⟨b.val, by omega⟩) * z (ix2 n b)) a))

/-- The third part's column: the sums of the slices are the backward convolution. -/
theorem third (w : Fin 3 → EReal) (f g : Fin 4096 → EReal) (x : EReal) (a : Fin 4096) :
    x * (w 2 * (f a * g a) + (if h : 1 ≤ 2 + a.val ∧ 2 + a.val - 1 < 4096 then w 1 * (f ⟨2 + a.val - 1, h.2⟩ * g ⟨2 + a.val - 1, h.2⟩) else 0)
        + (if h : 2 + a.val < 4096 then w 0 * (f ⟨2 + a.val, h⟩ * g ⟨2 + a.val, h⟩) else 0))
      = convUp w (fun n => g n * f n) a * x := by
  have e : (fun n => g n * f n) = fun n => f n * g n := funext fun n => mul_comm _ _
  rw [e, mul_comm x]
  unfold convUp
  rw [← up1 (w 1) (fun n => f n * g n) a, ← up2 (w 0) (fun n => f n * g n) a]

/-- At the third. -/
theorem ref5_2 : (Cert.ConvBwdReferenceIdeal.Value.res_main_v77 m' c' : S3x4096x2048.Idx → EReal) (ix3 2 a b)
    = gradP (m' (c'.tc.loc Cert.ConvBwdReferenceIdeal.main_arg0)) (m' (c'.tc.loc Cert.ConvBwdReferenceIdeal.main_arg1)) (m' (c'.tc.loc Cert.ConvBwdReferenceIdeal.main_arg2)) 2 a b := by
  unfold Cert.ConvBwdReferenceIdeal.Value.res_main_v77
  unfold gradP dproj
  generalize hp : (m' (c'.tc.loc Cert.ConvBwdReferenceIdeal.main_arg0)) = p
  generalize hw : (m' (c'.tc.loc Cert.ConvBwdReferenceIdeal.main_arg1)) = w
  generalize hz : (m' (c'.tc.loc Cert.ConvBwdReferenceIdeal.main_arg2)) = z
  clear hp hw hz
  change S4096x6144.Idx → EReal at p
  change S3x2048.Idx → EReal at w
  change S4096x2048.Idx → EReal at z
  pointwise
  simp only [show ¬ 4096 + b.val < 2048 by omega, show ¬ 4096 + b.val - 2048 < 2048 by omega, dite_false,
    show 4096 + b.val - 2048 - 2048 = b.val by omega, b.isLt, and_true, dif_pos, Fin.eta]
  exact third (fun k => w (ix2 k b)) (fun n => p (ix2 n ⟨b.val, by omega⟩)) (fun n => z (ix2 n b)) _ a

end Reference

/-- The results are the reference's. -/
theorem values : Cert.algebraic_ConvBwdIdeal_ConvBwdReferenceIdeal := by
  intro m g m' g' _ hagree
  refine ⟨_, _, (θ_run defs _ _).mono (fun r h c => ⟨(h c).1.trans (final5 m c), (h c).2.1.trans (final6 m c), (h c).2.2⟩) (Value.run_blocks m g),
    (θ_run Cert.ConvBwdReferenceIdeal.defs _ _).mono (fun r h c => ⟨(h c).1.trans ?_, (h c).2.1.trans ?_, (h c).2.2⟩) (Cert.ConvBwdReferenceIdeal.Value.run (F := Ideal) m' g')⟩
  · obtain ⟨e0, e1, e2⟩ := hagree c
    clear h
    funext i
    obtain ⟨q, a, b, rfl⟩ : ∃ (q : Fin 3) (a : Fin 4096) (b : Fin 2048), i = ix3 q a b := ⟨i 0, i 1, i 2, eq_ix3 i⟩
    match q with
    | 0 => exact (ref5_0 m' c a b).trans (by rw [e0, e1, e2]; rfl)
    | 1 => exact (ref5_1 m' c a b).trans (by rw [e0, e1, e2]; rfl)
    | 2 => exact (ref5_2 m' c a b).trans (by rw [e0, e1, e2]; rfl)
  · obtain ⟨e0, e1, e2⟩ := hagree c
    clear h
    rw [e0, e2]
    clear e0 e1 e2 hagree
    funext i
    obtain ⟨a, b, rfl⟩ : ∃ (a : Fin 8) (b : Fin 2048), i = ix2 a b := ⟨i 0, i 1, eq_ix2 i⟩
    pointwise
    unfold gradW
    generalize hp : (m (c.tc.loc main_arg0)) = p
    generalize hz : (m (c.tc.loc main_arg2)) = z
    clear hp hz
    change S4096x6144.Idx → EReal at p
    change S4096x2048.Idx → EReal at z
    unfold dweight
    by_cases h0 : a.val = 0
    · rw [if_pos h0, dif_pos (by omega), dif_neg (by omega), dif_neg (by omega), dif_pos (by omega), zero_add, zero_add,
        ← sum_down2]
      refine (Fin.sum_univ_one _).trans ?_
      refine congrArg₂ (fun x y : EReal => x + y) (Finset.sum_congr rfl fun n _ => ?_) (Finset.sum_congr rfl fun n _ => ?_)
      · exact congrArg (fun x : EReal => x * 0) (mul_comm _ _)
      · exact congrArg₂ (fun x y : EReal => x * y) (mul_comm _ _) rfl
    rw [if_neg h0]
    by_cases h1 : a.val = 1
    · rw [if_pos h1, dif_pos (by omega), dif_neg (by omega), dif_pos (by omega), dif_neg (by omega), zero_add, add_zero]
      refine (Fin.sum_univ_one _).trans (Finset.sum_congr rfl fun n _ => ?_)
      exact congrArg₂ (fun x y : EReal => x * y) (mul_comm _ _) (down1 (fun n => p (ix2 n ⟨2048 + b.val, by omega⟩) * p (ix2 n ⟨4096 + b.val, by omega⟩)) n)
    rw [if_neg h1]
    by_cases h2 : a.val = 2
    · rw [if_pos h2, dif_pos (by omega), dif_pos (by omega), dif_neg (by omega), dif_neg (by omega), add_zero, add_zero]
      refine (Fin.sum_univ_one _).trans (Finset.sum_congr rfl fun n _ => ?_)
      exact congrArg₂ (fun x y : EReal => x * y) (mul_comm _ _) rfl
    rw [if_neg h2, dif_neg (by omega)]
    show ((((0#32 : BitVec 32).toInt : ℤ) : ℝ) : EReal) = 0
    simp

end Cert.Proof.ConvBwd

end
-- ==== Proof.NormGrad.lean ====
/-
  THE GRADIENT OF A ROW'S NORM, in two forms: as the reference's lines compute it, through the gradient of the one over
  the root, and with the mean of the products taken out; and that the two are equal whatever the row holds.
-/
module

public import proofs.«01_k».proof.Proof.NormRow
public import Idealize.ShloMosaic.Lib.Pipeline.ValueKit
public import Idealize.ShloMosaic.Lib.Pointwise

@[expose] public section

noncomputable section

namespace Cert.Proof

open Idealize.ShloMosaic

/-- What a row's norm takes the root of. -/
def square (x : Fin 2048 → EReal) : EReal :=
  Ideal.div (∑ k : Fin 2048, x k * x k) (Ideal.ofBits FTy.f32 1157627904#32) + Ideal.ofBits FTy.f32 897988541#32

/-- The gradient of a row's norm in the row, from the gradient of the norm. -/
def dnorm (x d : Fin 2048 → EReal) (j : Fin 2048) : EReal :=
  inv x * (d j - x j * inv x * Ideal.div (∑ k : Fin 2048, d k * (x k * inv x)) (Ideal.ofBits FTy.f32 1157627904#32))

/-- The part of it that comes through the root. -/
def through (x d : Fin 2048 → EReal) : EReal :=
  Ideal.div ((∑ k : Fin 2048, x k * d k) * (Ideal.ofBits FTy.f32 3204448256#32 * Ideal.div (inv x) (square x))) (Ideal.ofBits FTy.f32 1157627904#32)

theorem bits_2048 : Ideal.ofBits FTy.f32 1157627904#32 = ((2048 : ℝ) : EReal) := by
  simp [Ideal.ofBits, Ideal.ieee, -EReal.coe_mul]
  norm_num

theorem bits_neg_half : Ideal.ofBits FTy.f32 3204448256#32 = ((-(1 / 2) : ℝ) : EReal) := by
  simp [Ideal.ofBits, Ideal.ieee, -EReal.coe_mul]
  norm_num

theorem bits_small : ∃ e : ℝ, 0 < e ∧ Ideal.ofBits FTy.f32 897988541#32 = (e : EReal) := by
  refine ⟨_, ?_, by simp [Ideal.ofBits, Ideal.ieee, -EReal.coe_mul]; rfl⟩
  norm_num

/-- Division by the length of a row. -/
theorem div_2048 (y : EReal) : Ideal.div y (Ideal.ofBits FTy.f32 1157627904#32) = y * ((1 / 2048 : ℝ) : EReal) := by
  rw [bits_2048]
  unfold Ideal.div
  rw [if_neg (by simp), ← EReal.coe_inv]
  norm_num

theorem mul_self_nonneg' (y : EReal) : 0 ≤ y * y := by
  induction y using EReal.rec with
  | bot => simp
  | top => simp
  | coe r => rw [← EReal.coe_mul]; exact_mod_cast mul_self_nonneg r

/-- A real and nonnegative factor comes out of a sum. -/
theorem sum_mul_real {ι : Type} (s : Finset ι) (f : ι → EReal) (r : ℝ) (hr : 0 ≤ r) : ∑ k ∈ s, f k * (r : EReal) = (∑ k ∈ s, f k) * (r : EReal) := by
  classical
  induction s using Finset.induction_on with
  | empty => simp
  | insert a s ha ih =>
    rw [Finset.sum_insert ha, Finset.sum_insert ha, ih, mul_comm (_ + _), EReal.left_distrib_of_nonneg_of_ne_top (by exact_mod_cast hr) (EReal.coe_ne_top r),
      mul_comm (r : EReal), mul_comm (r : EReal)]

theorem double (y : EReal) : y + y = y * ((2 : ℝ) : EReal) := by
  induction y using EReal.rec with
  | bot => rw [EReal.bot_mul_coe_of_pos (by norm_num)]; rfl
  | top => rw [EReal.top_mul_coe_of_pos (by norm_num)]; rfl
  | coe r => rw [← EReal.coe_mul, ← EReal.coe_add]; congr 1; ring

/-- One over the root is a nonnegative real, and over what it is the root of it is the cube: zero where the row has an infinite entry. -/
theorem inv_real (x : Fin 2048 → EReal) : ∃ r : ℝ, 0 ≤ r ∧ inv x = (r : EReal) ∧ Ideal.div (inv x) (square x) = ((r * r * r : ℝ) : EReal) := by
  have hi : inv x = Ideal.rsqrt (square x) := rfl
  have hs : 0 ≤ ∑ k : Fin 2048, x k * x k := Finset.sum_nonneg fun k _ => mul_self_nonneg' (x k)
  obtain ⟨e, he, hb⟩ := bits_small
  have hq : square x = (∑ k : Fin 2048, x k * x k) * ((1 / 2048 : ℝ) : EReal) + (e : EReal) := by
    unfold square
    rw [div_2048, hb]
  rw [hi, hq]
  generalize (∑ k : Fin 2048, x k * x k) = s at hs
  induction s using EReal.rec with
  | bot => exact absurd hs (by simp)
  | top =>
    refine ⟨0, le_refl _, ?_, ?_⟩
    · rw [EReal.top_mul_coe_of_pos (by norm_num), EReal.top_add_coe]
      exact (EReal.coe_zero).symm
    · rw [EReal.top_mul_coe_of_pos (by norm_num), EReal.top_add_coe]
      simp [Ideal.rsqrt, Ideal.div]
  | coe s =>
    have hs' : 0 ≤ s := by exact_mod_cast hs
    have hu : 0 < s * (1 / 2048) + e := by positivity
    rw [← EReal.coe_mul, ← EReal.coe_add]
    generalize s * (1 / 2048) + e = u at hu
    have hr : Ideal.rsqrt (u : EReal) = ((Real.sqrt u)⁻¹ : ℝ) := by
      show (if u < 0 then ⊥ else if u = 0 then ⊤ else (((Real.sqrt u)⁻¹ : ℝ) : EReal)) = _
      rw [if_neg (by linarith), if_neg (by linarith)]
    refine ⟨(Real.sqrt u)⁻¹, by positivity, hr, ?_⟩
    rw [hr]
    unfold Ideal.div
    rw [if_neg (by exact_mod_cast hu.ne'), ← EReal.coe_inv, ← EReal.coe_mul]
    congr 1
    rw [mul_assoc]
    congr 1
    rw [← mul_inv, Real.mul_self_sqrt hu.le]

/-- The two forms are equal. -/
theorem dnorm_eq (x d : Fin 2048 → EReal) (j : Fin 2048) : d j * inv x + (x j * through x d + through x d * x j) = dnorm x d j := by
  obtain ⟨r, hr, hi, hc⟩ := inv_real x
  have hp : ∑ k : Fin 2048, d k * (x k * inv x) = (∑ k : Fin 2048, x k * d k) * (r : EReal) := by
    rw [← sum_mul_real _ _ _ hr]
    refine Finset.sum_congr rfl fun k _ => ?_
    rw [hi, ← mul_assoc, mul_comm (d k)]
  unfold dnorm through
  rw [hp, hc, div_2048, div_2048, bits_neg_half, hi]
  generalize (∑ k : Fin 2048, x k * d k) = p
  rw [sub_eq_add_neg, EReal.left_distrib_of_nonneg_of_ne_top (by exact_mod_cast hr) (EReal.coe_ne_top r), mul_comm (r : EReal) (d j),
    mul_comm _ (x j), double]
  refine congrArg (fun z => d j * (r : EReal) + z) ?_
  have h1 : x j * (p * (((-(1 / 2) : ℝ) : EReal) * ((r * r * r : ℝ) : EReal)) * ((1 / 2048 : ℝ) : EReal)) * ((2 : ℝ) : EReal)
      = (x j * p) * ((-(r * r * r / 2048) : ℝ) : EReal) := by
    rw [← EReal.coe_mul, mul_assoc p, ← EReal.coe_mul, ← mul_assoc, mul_assoc, ← EReal.coe_mul]
    congr 2
    ring
  have h2 : (r : EReal) * -(x j * (r : EReal) * (p * (r : EReal) * ((1 / 2048 : ℝ) : EReal))) = (x j * p) * ((-(r * r * r / 2048) : ℝ) : EReal) := by
    rw [EReal.coe_neg, mul_neg, mul_neg]
    congr 1
    have : ((r * r * r / 2048 : ℝ) : EReal) = (r : EReal) * (r : EReal) * (r : EReal) * ((1 / 2048 : ℝ) : EReal) := by
      rw [← EReal.coe_mul, ← EReal.coe_mul, ← EReal.coe_mul]
      congr 1
      ring
    rw [this]
    ac_rfl
  rw [h1, h2]

end Cert.Proof

end
-- ==== Proof.Rows.lean ====
/-
  EIGHT ROWS WRITTEN ONE BY ONE: what a list of stores of single rows leaves in each row, over what was there before.
-/
module

public import Idealize.ShloMosaic.Lib.Pipeline.ValueKit
public import Idealize.ShloMosaic.Lib.Pointwise
public import Idealize.ShloMosaic.Lib.Pipeline.ReadBack

@[expose] public section

noncomputable section

namespace Cert.Proof

open Idealize.ShloMosaic

/-- Eight rows, and one. -/
abbrev Eight : Shape := ⟨2, ![8, 2048]⟩
abbrev One : Shape := ⟨2, ![1, 2048]⟩

variable {Val : EltTy → Type} {e : EltTy}

theorem place (k : Nat) (hk : k < 8) (inb) (b : Fin 2048) :
    (ix2 ⟨k, hk⟩ b : Eight.Idx) = (Rect.unit (s := Eight) ![k, 0] ![1, 2048] inb).emb (ix2 0 b : One.Idx) := by
  funext d
  fin_cases d <;> refine Fin.ext ?_ <;> simp [ix2, Rect.emb, Rect.unit]

theorem apart (k : Nat) (q : Fin 8) (hq : q.val ≠ k) (inb) (b : Fin 2048) :
    (ix2 q b : Eight.Idx) ∉ (Rect.unit (s := Eight) ![k, 0] ![1, 2048] inb).set := fun h => hq <| by
  have h0 := (Rect.mem_set_unit (inb := inb)).mp h 0
  have h1 : k ≤ q.val ∧ q.val < k + 1 := h0
  omega

/-- A load of a row. -/
theorem ldRow (k : Nat) (hk : k < 8) (inb) (X : Eight.Idx → Val e) (b : Fin 2048) :
    View.ld X (Rect.unit ![k, 0] ![1, 2048] inb) (ix2 0 b : One.Idx) = X (ix2 ⟨k, hk⟩ b) :=
  congrArg X (place k hk inb b).symm

section Canon

variable [∀ e, Nonempty (Val e)]

/-- A store of a row, read in that row, and in another. -/
theorem hitRow (k : Nat) (hk : k < 8) (inb) (w : One.Idx → Val e) (L : List (View.Piece Val Eight e)) (b : Fin 2048) :
    View.canon (⟨Rect.unit ![k, 0] ![1, 2048] inb, w⟩ :: L) (ix2 ⟨k, hk⟩ b) = w (ix2 0 b) := by
  rw [place k hk inb b]
  exact View.canon_cons_emb _ _ _ _

theorem missRow (k : Nat) (q : Fin 8) (hq : q.val ≠ k) (inb) (w : One.Idx → Val e) (L : List (View.Piece Val Eight e)) (b : Fin 2048) :
    View.canon (⟨Rect.unit ![k, 0] ![1, 2048] inb, w⟩ :: L) (ix2 q b) = View.canon L (ix2 q b) :=
  View.canon_cons_of_not_mem _ _ (apart k q hq inb b)

/-- A store of all the rows, read anywhere. -/
theorem hitAllRows (inb) (w : Eight.Idx → Val e) (q : Fin 8) (b : Fin 2048) :
    View.canon [(⟨Rect.unit ![0, 0] ![8, 2048] inb, w⟩ : View.Piece Val Eight e)] (ix2 q b) = w (ix2 q b) :=
  congrFun (View.canon_cons_unit_lit (S := Eight) inb w [] (by decide)) _

/-- A load of a row, after stores. -/
theorem readRow {sig : RefSig} {κ : Kind} {sp : Space} (v : View sig κ sp Eight e) (k : Nat) (hk : k < 8) (inb)
    (L : List (View.Piece Val Eight e)) (b : Fin 2048) :
    v.readCov L (Rect.unit (s := Eight) ![k, 0] ![1, 2048] inb).toLoadRect (ix2 0 b : One.Idx) = View.canon L (ix2 ⟨k, hk⟩ b) :=
  (congrFun (View.readCov_eq_canon' v L _) _).trans (congrArg (View.canon L) (place k hk inb b).symm)

end Canon

variable {sig : RefSig} {κ : Kind} {sp : Space}

/-- The same, over contents that are not all rewritten. -/
theorem readHit (v : View sig κ sp Eight e) (f : v.ty.Contents Val) (k : Nat) (hk : k < 8) (inb) (w : One.Idx → Val e)
    (L : List (View.Piece Val Eight e)) (b : Fin 2048) :
    v.read Val (v.writes Val f (⟨Rect.unit ![k, 0] ![1, 2048] inb, w⟩ :: L)) (ix2 ⟨k, hk⟩ b) = w (ix2 0 b) := by
  rw [place k hk inb b]
  exact View.read_writes_cons_emb v f _ _ _ _

theorem readMiss (v : View sig κ sp Eight e) (f : v.ty.Contents Val) (k : Nat) (q : Fin 8) (hq : q.val ≠ k) (inb) (w : One.Idx → Val e)
    (L : List (View.Piece Val Eight e)) (b : Fin 2048) :
    v.read Val (v.writes Val f (⟨Rect.unit ![k, 0] ![1, 2048] inb, w⟩ :: L)) (ix2 q b) = v.read Val (v.writes Val f L) (ix2 q b) :=
  View.read_writes_cons_miss v f _ _ _ (apart k q hq inb b)

end Cert.Proof

end
-- ==== Proof.NormBwd.lean ====
/-
  The gradient of a norm with its modulation: at its input, at the layer before, and the sums over the rows.
-/
module

public import Idealize.ShloMosaic.Lib.Pipeline.ValueKit
public import Idealize.ShloMosaic.Lib.Pointwise
public import proofs.«01_k».proof.Defs
public import proofs.«01_k».proof.Proof.Gen.NormBwd
public import proofs.«01_k».proof.Proof.Gen.NormBwdIdeal.Value
public import proofs.«01_k».proof.Proof.Gen.NormBwdReferenceIdeal
public import proofs.«01_k».proof.Proof.Gen.NormBwdReferenceIdeal.Run
public import Idealize.ShloMosaic.Adequacy
public import Idealize.ShloMosaic.Init
public import Idealize.ShloMosaic.Lib.Pipeline.ReadBack
public import proofs.«01_k».proof.Proof.NormGrad
public import proofs.«01_k».proof.Proof.Rows

@[expose] public section

set_option maxHeartbeats 800000

noncomputable section

namespace Cert.Proof.NormBwd

open Cert.NormBwdIdeal Cert.NormBwdIdeal.Gen
open Idealize.ShloMosaic Idealize.ShloMosaic.TcCoe Idealize.SL.Sem

/-- The gradient at the layer's input, a row and a column: what comes past the norm, and what comes through it. -/
def dx (x dh dxp : Fin 2048 → EReal) (gain sc : Fin 2048 → EReal) (j : Fin 2048) : EReal :=
  dxp j + dnorm x (fun k => dh k * (1 + sc k) * gain k) j

/-- What a row adds to the sums: at the shift, the scale, the gain and the gate, and nothing in the last four. -/
def term (x dh dxp mix : Fin 2048 → EReal) (gain sc : Fin 2048 → EReal) (q : Fin 8) (j : Fin 2048) : EReal :=
  if q.val = 0 then dh j
  else if q.val = 1 then dh j * (x j * inv x * gain j)
  else if q.val = 2 then dh j * (1 + sc j) * (x j * inv x)
  else if q.val = 3 then dxp j * mix j
  else 0

/-- The payloads: the normed row, with its gain, the gradient at the norm, and the gradient through it. -/
theorem pay3 (dh : S256x2048.Idx → EReal) (i : Fin 256) (j : Fin 2048) : k0_pay3 (F := Ideal) dh (ix2 i j) = dh (ix2 i j) := by
  pointwise [k0_pay3]

theorem pay5 (x : S256x2048.Idx → EReal) (i : Fin 256) (j : Fin 2048) :
    k0_pay5 (F := Ideal) x (ix2 i j) = x (ix2 i j) * inv (fun k => x (ix2 i k)) := by
  unfold inv
  pointwise [k0_pay5, k0_pay4]

theorem pay6 (x : S256x2048.Idx → EReal) (gain : S1x2048.Idx → EReal) (i : Fin 256) (j : Fin 2048) :
    k0_pay6 (F := Ideal) x gain (ix2 i j) = x (ix2 i j) * inv (fun k => x (ix2 i k)) * gain (ix2 0 j) := by
  rw [← pay5]
  pointwise [k0_pay6]

theorem pay7 (dh : S256x2048.Idx → EReal) (sc : S1x2048.Idx → EReal) (i : Fin 256) (j : Fin 2048) :
    k0_pay7 (F := Ideal) dh sc (ix2 i j) = dh (ix2 i j) * (1 + sc (ix2 0 j)) := by
  pointwise [k0_pay7, k0_pay3]

theorem pay8 (x dh : S256x2048.Idx → EReal) (sc gain : S1x2048.Idx → EReal) (i : Fin 256) (j : Fin 2048) :
    k0_pay8 (F := Ideal) x dh sc gain (ix2 i j)
      = dnorm (fun k => x (ix2 i k)) (fun k => dh (ix2 i k) * (1 + sc (ix2 0 k)) * gain (ix2 0 k)) j := by
  unfold dnorm inv
  pointwise [k0_pay8, k0_pay7, k0_pay5, k0_pay4, k0_pay3]

theorem pay9 (a b : S256x2048.Idx → EReal) (i : Fin 256) (j : Fin 2048) :
    k0_pay9 (F := Ideal) a b (ix2 i j) = a (ix2 i j) + b (ix2 i j) := by
  pointwise [k0_pay9]

theorem pay10 (a b : S256x2048.Idx → EReal) (g : S1x2048.Idx → EReal) (i : Fin 256) (j : Fin 2048) :
    k0_pay10 (F := Ideal) a b g (ix2 i j) = g (ix2 0 j) * (a (ix2 i j) + b (ix2 i j)) := by
  pointwise [k0_pay10, k0_pay9]

/-- The sums' payloads: what is there, and a block's rows. -/
theorem pay11 (a : S256x2048.Idx → EReal) (s : S1x2048.Idx → EReal) (j : Fin 2048) :
    k0_pay11 (F := Ideal) a s (ix2 0 j) = s (ix2 0 j) + ∑ n : Fin 256, a (ix2 n j) := by
  pointwise [k0_pay11]

theorem pay12 (a b : S256x2048.Idx → EReal) (s : S1x2048.Idx → EReal) (j : Fin 2048) :
    k0_pay12 (F := Ideal) a b s (ix2 0 j) = s (ix2 0 j) + ∑ n : Fin 256, a (ix2 n j) * b (ix2 n j) := by
  pointwise [k0_pay12]

theorem pay13 (a b : S256x2048.Idx → EReal) (s : S1x2048.Idx → EReal) (j : Fin 2048) :
    k0_pay13 (F := Ideal) a b s (ix2 0 j) = s (ix2 0 j) + ∑ n : Fin 256, b (ix2 n j) * a (ix2 n j) := by
  pointwise [k0_pay13]

theorem pay1 (a b : S256x2048.Idx → EReal) (s : S1x2048.Idx → EReal) (j : Fin 2048) :
    k0_pay1 (F := Ideal) a (k0_pay14 (F := Ideal) s) b (ix2 0 j) = s (ix2 0 j) + ∑ n : Fin 256, a (ix2 n j) * b (ix2 n j) := by
  pointwise [k0_pay1, k0_pay14]

theorem pay2 (q : Fin 8) (j : Fin 2048) : k0_pay2 (F := Ideal) (ix2 q j) = 0 := by
  pointwise [k0_pay2]

variable (m : (ℓ : Loc nD τ sig) → Buf (Elt Ideal) ℓ) (c : Dev nD)

/-- A row of one of a point's blocks. -/
abbrev blockRow (f : S256x2048.Idx → EReal) (n : Fin 256) : Fin 2048 → EReal := fun k => f (ix2 n k)

/-- The row of a vector. -/
abbrev vec (f : S1x2048.Idx → EReal) : Fin 2048 → EReal := fun k => f (ix2 0 k)

/-- What a point leaves in the gradient at the input, and in its product with the layer's gate before. -/
theorem block7 (t : Fin cfg0.N) (a : Fin 256) (b : Fin 2048) : (outsAt0 m c t.val t.isLt).1 (ix2 a b)
    = dx (blockRow (iblk m c 0 t) a) (blockRow (iblk m c 1 t) a) (blockRow (iblk m c 2 t) a) (vec (iblk m c 4 t)) (vec (iblk m c 5 t)) b := by
  unfold dx
  by_cases h : t.val % 16 = 0
  · rw [outsAt0_A m c t h]
    frame_out
    rw [pay9, pay8]
  · rw [outsAt0_B m c t h]
    frame_out
    rw [pay9, pay8]

theorem block8 (t : Fin cfg0.N) (a : Fin 256) (b : Fin 2048) : (outsAt0 m c t.val t.isLt).2.1 (ix2 a b)
    = vec (iblk m c 6 t) b * dx (blockRow (iblk m c 0 t) a) (blockRow (iblk m c 1 t) a) (blockRow (iblk m c 2 t) a) (vec (iblk m c 4 t)) (vec (iblk m c 5 t)) b := by
  unfold dx
  by_cases h : t.val % 16 = 0
  · rw [outsAt0_A m c t h]
    frame_out
    rw [pay10, pay8]
  · rw [outsAt0_B m c t h]
    frame_out
    rw [pay10, pay8]

/-- What a point adds to the sums. -/
def adds (t : Fin cfg0.N) (q : Fin 8) (b : Fin 2048) : EReal :=
  ∑ n : Fin 256, term (blockRow (iblk m c 0 t) n) (blockRow (iblk m c 1 t) n) (blockRow (iblk m c 2 t) n) (blockRow (iblk m c 3 t) n)
    (vec (iblk m c 4 t)) (vec (iblk m c 5 t)) q b

/-- The sums after a first point, and after a later one. -/
theorem first (t : Fin cfg0.N) (h : t.val % 16 = 0) (q : Fin 8) (b : Fin 2048) :
    (outsAt0 m c t.val t.isLt).2.2 (ix2 q b) = 0 + adds m c t q b := by
  rw [outsAt0_A m c t h]
  frame_out
  by_cases h3 : q.val = 3
  · obtain rfl : q = 3 := Fin.ext h3
    refine (hitRow 3 (by decide) _ _ _ b).trans ?_
    rw [pay1, readRow _ 3 (by decide), missRow 2 _ (by decide), missRow 1 _ (by decide), missRow 0 _ (by decide), hitAllRows, pay2]
    rfl
  refine (missRow 3 q h3 _ _ _ b).trans ?_
  by_cases h2 : q.val = 2
  · obtain rfl : q = 2 := Fin.ext h2
    refine (hitRow 2 (by decide) _ _ _ b).trans ?_
    rw [pay13, readRow _ 2 (by decide), missRow 1 _ (by decide), missRow 0 _ (by decide), hitAllRows, pay2]
    simp only [pay5, pay7]
    rfl
  refine (missRow 2 q h2 _ _ _ b).trans ?_
  by_cases h1 : q.val = 1
  · obtain rfl : q = 1 := Fin.ext h1
    refine (hitRow 1 (by decide) _ _ _ b).trans ?_
    rw [pay12, readRow _ 1 (by decide), missRow 0 _ (by decide), hitAllRows, pay2]
    simp only [pay3, pay6]
    rfl
  refine (missRow 1 q h1 _ _ _ b).trans ?_
  by_cases h0 : q.val = 0
  · obtain rfl : q = 0 := Fin.ext h0
    refine (hitRow 0 (by decide) _ _ _ b).trans ?_
    rw [pay11, readRow _ 0 (by decide), hitAllRows, pay2]
    simp only [pay3]
    rfl
  refine (missRow 0 q h0 _ _ _ b).trans ((hitAllRows _ _ q b).trans ?_)
  rw [pay2]
  unfold adds term
  simp only [if_neg h0, if_neg h1, if_neg h2, if_neg h3, Finset.sum_const_zero, add_zero]

theorem later (t : Fin cfg0.N) (h : ¬ t.val % 16 = 0) (q : Fin 8) (b : Fin 2048) :
    (outsAt0 m c t.val t.isLt).2.2 (ix2 q b)
      = (outsAt0 m c (t.val - 1) (Nat.lt_of_le_of_lt (Nat.sub_le _ _) t.isLt)).2.2 (ix2 q b) + adds m c t q b := by
  rw [outsAt0_B m c t h]
  frame_out
  by_cases h3 : q.val = 3
  · obtain rfl : q = 3 := Fin.ext h3
    refine (readHit _ _ 3 (by decide) _ _ _ b).trans ?_
    rw [pay1, ldRow 3 (by decide)]
    rfl
  refine (readMiss _ _ 3 q h3 _ _ _ b).trans ?_
  by_cases h2 : q.val = 2
  · obtain rfl : q = 2 := Fin.ext h2
    refine (readHit _ _ 2 (by decide) _ _ _ b).trans ?_
    rw [pay13, ldRow 2 (by decide)]
    simp only [pay5, pay7]
    rfl
  refine (readMiss _ _ 2 q h2 _ _ _ b).trans ?_
  by_cases h1 : q.val = 1
  · obtain rfl : q = 1 := Fin.ext h1
    refine (readHit _ _ 1 (by decide) _ _ _ b).trans ?_
    rw [pay12, ldRow 1 (by decide)]
    simp only [pay3, pay6]
    rfl
  refine (readMiss _ _ 1 q h1 _ _ _ b).trans ?_
  by_cases h0 : q.val = 0
  · obtain rfl : q = 0 := Fin.ext h0
    refine (readHit _ _ 0 (by decide) _ _ _ b).trans ?_
    rw [pay11, ldRow 0 (by decide)]
    simp only [pay3]
    rfl
  refine (readMiss _ _ 0 q h0 _ _ _ b).trans ((congrFun (Memref.IsWhole.read_unread _ _) (ix2 q b)).trans ?_)
  unfold adds term
  simp only [if_neg h0, if_neg h1, if_neg h2, if_neg h3, Finset.sum_const_zero, add_zero]

/-- Which blocks a point reads and writes. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![0, 0] ∧ t.val < 16 :=
  (by decide +kernel : ∀ t : Fin grid0.N, _)

/-- The row of the whole arrays that a point's row is. -/
def row (t : Fin cfg0.N) (a : Fin 256) : Fin 4096 :=
  ⟨t.val * 256 + a.val, by have h : t.val < 16 := (idx t).2.2.2.2.2.2.2.2.2.2; omega⟩

/-- A point's blocks are rows of the arguments. -/
theorem e0 (t : Fin cfg0.N) (a : Fin 256) (k : Fin 2048) : (iblk m c 0 t : S256x2048.Idx → EReal) (ix2 a k)
    = (m ((c : Thread nD τ).loc main_arg0) : S4096x2048.Idx → EReal) (ix2 (row t a) k) := by
  blk_ext [iblk, V_main_arg0, row, idx t]

theorem e1 (t : Fin cfg0.N) (a : Fin 256) (k : Fin 2048) : (iblk m c 1 t : S256x2048.Idx → EReal) (ix2 a k)
    = (m ((c : Thread nD τ).loc main_arg1) : S4096x2048.Idx → EReal) (ix2 (row t a) k) := by
  blk_ext [iblk, V_main_arg1, row, idx t]

theorem e2 (t : Fin cfg0.N) (a : Fin 256) (k : Fin 2048) : (iblk m c 2 t : S256x2048.Idx → EReal) (ix2 a k)
    = (m ((c : Thread nD τ).loc main_arg2) : S4096x2048.Idx → EReal) (ix2 (row t a) k) := by
  blk_ext [iblk, V_main_arg2, row, idx t]

theorem e3 (t : Fin cfg0.N) (a : Fin 256) (k : Fin 2048) : (iblk m c 3 t : S256x2048.Idx → EReal) (ix2 a k)
    = (m ((c : Thread nD τ).loc main_arg3) : S4096x2048.Idx → EReal) (ix2 (row t a) k) := by
  blk_ext [iblk, V_main_arg3, row, idx t]

theorem e4 (t : Fin cfg0.N) (k : Fin 2048) : (iblk m c 4 t : S1x2048.Idx → EReal) (ix2 0 k)
    = (m ((c : Thread nD τ).loc main_arg4) : S1x2048.Idx → EReal) (ix2 0 k) := by
  blk_ext [iblk, V_main_arg4, idx t]

theorem e5 (t : Fin cfg0.N) (k : Fin 2048) : (iblk m c 5 t : S1x2048.Idx → EReal) (ix2 0 k)
    = (m ((c : Thread nD τ).loc main_arg5) : S1x2048.Idx → EReal) (ix2 0 k) := by
  blk_ext [iblk, V_main_arg5, idx t]

theorem e6 (t : Fin cfg0.N) (k : Fin 2048) : (iblk m c 6 t : S1x2048.Idx → EReal) (ix2 0 k)
    = (m ((c : Thread nD τ).loc main_arg6) : S1x2048.Idx → EReal) (ix2 0 k) := by
  blk_ext [iblk, V_main_arg6, idx t]

/-- A row of a whole array. -/
abbrev arrRow (f : S4096x2048.Idx → EReal) (n : Fin 4096) : Fin 2048 → EReal := fun k => f (ix2 n k)

/-- The gradient at the layer's input, of the whole arrays. -/
def grad (x dh dxp : S4096x2048.Idx → EReal) (gain sc : S1x2048.Idx → EReal) (a : Fin 4096) (b : Fin 2048) : EReal :=
  dx (arrRow x a) (arrRow dh a) (arrRow dxp a) (vec gain) (vec sc) b

/-- The sums over the rows, of the whole arrays. -/
def sums (x dh dxp mix : S4096x2048.Idx → EReal) (gain sc : S1x2048.Idx → EReal) (q : Fin 8) (b : Fin 2048) : EReal :=
  ∑ n : Fin 4096, term (arrRow x n) (arrRow dh n) (arrRow dxp n) (arrRow mix n) (vec gain) (vec sc) q b

/-- A point's rows are rows of the whole arrays. -/
theorem r0 (t : Fin cfg0.N) (a : Fin 256) : blockRow (iblk m c 0 t) a = arrRow (m ((c : Thread nD τ).loc main_arg0)) (row t a) := funext (e0 m c t a)
theorem r1 (t : Fin cfg0.N) (a : Fin 256) : blockRow (iblk m c 1 t) a = arrRow (m ((c : Thread nD τ).loc main_arg1)) (row t a) := funext (e1 m c t a)
theorem r2 (t : Fin cfg0.N) (a : Fin 256) : blockRow (iblk m c 2 t) a = arrRow (m ((c : Thread nD τ).loc main_arg2)) (row t a) := funext (e2 m c t a)
theorem r3 (t : Fin cfg0.N) (a : Fin 256) : blockRow (iblk m c 3 t) a = arrRow (m ((c : Thread nD τ).loc main_arg3)) (row t a) := funext (e3 m c t a)
theorem r4 (t : Fin cfg0.N) : vec (iblk m c 4 t) = vec (m ((c : Thread nD τ).loc main_arg4)) := funext (e4 m c t)
theorem r5 (t : Fin cfg0.N) : vec (iblk m c 5 t) = vec (m ((c : Thread nD τ).loc main_arg5)) := funext (e5 m c t)
theorem r6 (t : Fin cfg0.N) : vec (iblk m c 6 t) = vec (m ((c : Thread nD τ).loc main_arg6)) := funext (e6 m c t)

/-- The three arrays after the run. -/
theorem final7 : ((dats m 0 c).arrAt 7 cfg0.N : S4096x2048.Idx → EReal)
    = fun i => grad (m ((c : Thread nD τ).loc main_arg0)) (m ((c : Thread nD τ).loc main_arg1)) (m ((c : Thread nD τ).loc main_arg2))
        (m ((c : Thread nD τ).loc main_arg4)) (m ((c : Thread nD τ).loc main_arg5)) (i 0) (i 1) := by
  refine (dats m 0 c).arrAt_eq_of_covers 7 _ (by decide +kernel) fun t hf y => ?_
  obtain ⟨a, b, rfl⟩ : ∃ (a : Fin 256) (b : Fin 2048), y = ix2 a b := ⟨y 0, y 1, eq_ix2 y⟩
  have e : (((cfg0.win 7).blk t).view.emb (ix2 a b) : S4096x2048.Idx) = ix2 (row t a) b := by
    blk_ext [row, idx t]
  rw [e]
  blk_simp
  rw [after0_7, block7]
  rw [r0, r1, r2, r4, r5]
  rfl

theorem final8 : ((dats m 0 c).arrAt 8 cfg0.N : S4096x2048.Idx → EReal)
    = fun i => vec (m ((c : Thread nD τ).loc main_arg6)) (i 1)
        * grad (m ((c : Thread nD τ).loc main_arg0)) (m ((c : Thread nD τ).loc main_arg1)) (m ((c : Thread nD τ).loc main_arg2))
          (m ((c : Thread nD τ).loc main_arg4)) (m ((c : Thread nD τ).loc main_arg5)) (i 0) (i 1) := by
  refine (dats m 0 c).arrAt_eq_of_covers 8 _ (by decide +kernel) fun t hf y => ?_
  obtain ⟨a, b, rfl⟩ : ∃ (a : Fin 256) (b : Fin 2048), y = ix2 a b := ⟨y 0, y 1, eq_ix2 y⟩
  have e : (((cfg0.win 8).blk t).view.emb (ix2 a b) : S4096x2048.Idx) = ix2 (row t a) b := by
    blk_ext [row, idx t]
  rw [e]
  blk_simp
  rw [after0_8, block8]
  rw [r0, r1, r2, r4, r5, r6]
  rfl

/-- The sums after the last point. -/
theorem carry (t : Fin cfg0.N) (ht : t.val % 16 = 16 - 1) (i : S8x2048.Idx) : ((outsAt0 m c t.val t.isLt).2.2 : S8x2048.Idx → EReal) i
    = 0 + ∑ s : Fin 16, adds m c ⟨16 * (t.val / 16) + s.val, Pipeline.run_point_lt_of_flush t ht s⟩ (i 0) (i 1) := by
  refine Pipeline.eq_sum_fin_of_reset_step_apply_of_flush (fun n h => ((outsAt0 m c n h).2.2 : S8x2048.Idx → EReal)) 16 (fun _ => 0)
    (fun t i => adds m c t (i 0) (i 1)) (fun t h i => ?_) (fun t h i => ?_) t ht i
  · obtain ⟨a, b, rfl⟩ : ∃ (a : Fin 8) (b : Fin 2048), i = ix2 a b := ⟨i 0, i 1, eq_ix2 i⟩
    exact first m c t h a b
  · obtain ⟨a, b, rfl⟩ : ∃ (a : Fin 8) (b : Fin 2048), i = ix2 a b := ⟨i 0, i 1, eq_ix2 i⟩
    exact later m c t h a b

theorem final9 : ((dats m 0 c).arrAt 9 cfg0.N : S8x2048.Idx → EReal)
    = fun i => sums (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) := by
  refine (dats m 0 c).arrAt_eq_of_covers 9 _ (by decide +kernel) fun t hf y => ?_
  have ht : t.val % 16 = 15 := (flush0_9 t).mp hf
  obtain ⟨q, b, rfl⟩ : ∃ (q : Fin 8) (b : Fin 2048), y = ix2 q b := ⟨y 0, y 1, eq_ix2 y⟩
  have e : (((cfg0.win 9).blk t).view.emb (ix2 q b) : S8x2048.Idx) = ix2 q b := by
    blk_ext [idx t]
  rw [e]
  blk_simp
  rw [after0_9, carry m c t ht, zero_add]
  unfold sums adds
  have h16 : t.val < 16 := (idx t).2.2.2.2.2.2.2.2.2.2
  refine Fin.sum_mul_add_congr (M := EReal) fun s n hl => ?_
  rw [r0, r1, r2, r3, r4, r5]
  have er : row ⟨16 * (t.val / 16) + s.val, Pipeline.run_point_lt_of_flush t ht s⟩ n = ⟨_, hl⟩ := by
    refine Fin.ext ?_
    show (16 * (t.val / 16) + s.val) * 256 + n.val = s.val * 256 + n.val
    omega
  rw [er]

/-- The call and its idealization have the same text: one body. -/
theorem body_same {F : FTy → Type} [FloatOps F] (i a1 h1 a2 h2 a3 h3 a4 h4 a5 h5 a6 h6 a7 h7 a8 h8 a9 h9 a10 h10) :
    Cert.NormBwd.cc0_norm_bwd (F := F) i a1 h1 a2 h2 a3 h3 a4 h4 a5 h5 a6 h6 a7 h7 a8 h8 a9 h9 a10 h10 = cc0_norm_bwd (F := F) i a1 h1 a2 h2 a3 h3 a4 h4 a5 h5 a6 h6 a7 h7 a8 h8 a9 h9 a10 h10 := rfl

/-- One table of bodies and regions. -/
theorem table_same {F : FTy → Type} [FloatOps F] : Cert.NormBwd.defs (F := F) = defs (F := F) := by
  have h : Cert.NormBwd.defs₀ (F := F) = defs₀ (F := F) := by
    unfold Cert.NormBwd.defs₀ defs₀
    congr 1
    funext x
    match x with
    | (0 : Fin 1) =>
      funext y
      obtain ⟨t, s⟩ := y
      exact body_same _ _ _ _ _ _ _ _ _ _ _ _ _ _ _ _ _ _ _ _ _
  unfold Cert.NormBwd.defs defs
  rw [h]
  rfl

/-- One program. -/
theorem main_same {F : FTy → Type} [FloatOps F] : Cert.NormBwd.main (F := F) = main (F := F) := rfl

theorem frame_kernel : Cert.quiescent_NormBwd := fun m ρ _ => by
  rw [table_same, main_same]; exact frame m ρ

theorem frame_ideal : Cert.quiescent_NormBwdIdeal := fun m ρ _ => frame m ρ

theorem frame_reference : Cert.quiescent_NormBwdReferenceIdeal := fun m ρ _ =>
  (θ_run Cert.NormBwdReferenceIdeal.defs _ _).mono (fun r h => ⟨fun c => (h c).2.2.2, sem_eq_zero_of_no_sems (by decide) r.2⟩)
    (Cert.NormBwdReferenceIdeal.Value.run (F := Ideal) m ρ)

/-- The reference's sum over an axis of one row, and its order of adding. -/
theorem gather (p q x T : EReal) : p + q + x * (∑ _ : Fin 1, T) + (∑ _ : Fin 1, T) * x = p + (q + (x * T + T * x)) := by
  rw [Fin.sum_univ_one, add_assoc, add_assoc]

section Reference

variable (m' : (ℓ : Loc Cert.NormBwdReferenceIdeal.nD Cert.NormBwdReferenceIdeal.τ Cert.NormBwdReferenceIdeal.sig) → Buf (Elt Ideal) ℓ)
  (c' : Dev Cert.NormBwdReferenceIdeal.nD) (a : Fin 4096) (b : Fin 2048)

/-- The reference's gradient at the input, at a row and a column. -/
theorem ref7 : (Cert.NormBwdReferenceIdeal.Value.res_main_v57 m' c' : S4096x2048.Idx → EReal) (ix2 a b)
    = grad (m' (c'.tc.loc Cert.NormBwdReferenceIdeal.main_arg0)) (m' (c'.tc.loc Cert.NormBwdReferenceIdeal.main_arg1))
        (m' (c'.tc.loc Cert.NormBwdReferenceIdeal.main_arg2)) (m' (c'.tc.loc Cert.NormBwdReferenceIdeal.main_arg4))
        (m' (c'.tc.loc Cert.NormBwdReferenceIdeal.main_arg5)) a b := by
  unfold Cert.NormBwdReferenceIdeal.Value.res_main_v57
  unfold grad dx
  rw [← dnorm_eq]
  unfold through inv
  generalize hx : (m' (c'.tc.loc Cert.NormBwdReferenceIdeal.main_arg0)) = x
  generalize hd : (m' (c'.tc.loc Cert.NormBwdReferenceIdeal.main_arg1)) = d
  generalize hp : (m' (c'.tc.loc Cert.NormBwdReferenceIdeal.main_arg2)) = p
  generalize hg : (m' (c'.tc.loc Cert.NormBwdReferenceIdeal.main_arg4)) = gain
  generalize hs : (m' (c'.tc.loc Cert.NormBwdReferenceIdeal.main_arg5)) = sc
  clear hx hd hp hg hs
  change S4096x2048.Idx → EReal at x
  change S4096x2048.Idx → EReal at d
  change S4096x2048.Idx → EReal at p
  change S1x2048.Idx → EReal at gain
  change S1x2048.Idx → EReal at sc
  pointwise
  exact gather _ _ _ _

/-- The reference's product of that with the gate before. -/
theorem ref8 : (Cert.NormBwdReferenceIdeal.Value.res_main_v63 m' c' : S4096x2048.Idx → EReal) (ix2 a b)
    = vec (m' (c'.tc.loc Cert.NormBwdReferenceIdeal.main_arg6)) b
      * grad (m' (c'.tc.loc Cert.NormBwdReferenceIdeal.main_arg0)) (m' (c'.tc.loc Cert.NormBwdReferenceIdeal.main_arg1))
        (m' (c'.tc.loc Cert.NormBwdReferenceIdeal.main_arg2)) (m' (c'.tc.loc Cert.NormBwdReferenceIdeal.main_arg4))
        (m' (c'.tc.loc Cert.NormBwdReferenceIdeal.main_arg5)) a b := by
  unfold Cert.NormBwdReferenceIdeal.Value.res_main_v63
  unfold grad dx
  rw [← dnorm_eq]
  unfold through inv
  generalize hx : (m' (c'.tc.loc Cert.NormBwdReferenceIdeal.main_arg0)) = x
  generalize hd : (m' (c'.tc.loc Cert.NormBwdReferenceIdeal.main_arg1)) = d
  generalize hp : (m' (c'.tc.loc Cert.NormBwdReferenceIdeal.main_arg2)) = p
  generalize hg : (m' (c'.tc.loc Cert.NormBwdReferenceIdeal.main_arg4)) = gain
  generalize hs : (m' (c'.tc.loc Cert.NormBwdReferenceIdeal.main_arg5)) = sc
  generalize hw : (m' (c'.tc.loc Cert.NormBwdReferenceIdeal.main_arg6)) = w
  clear hw hx hd hp hg hs
  change S4096x2048.Idx → EReal at x
  change S4096x2048.Idx → EReal at d
  change S4096x2048.Idx → EReal at p
  change S1x2048.Idx → EReal at gain
  change S1x2048.Idx → EReal at sc
  change S1x2048.Idx → EReal at w
  pointwise
  exact congrArg₂ (fun u v : EReal => u * v) rfl (gather _ _ _ _)

end Reference

/-- The results are the reference's. -/
theorem values : Cert.algebraic_NormBwdIdeal_NormBwdReferenceIdeal := by
  intro m g m' g' _ hagree
  refine ⟨_, _, _, (θ_run defs _ _).mono (fun r h c => ⟨(h c).1.trans (final7 m c), (h c).2.1.trans (final8 m c), (h c).2.2.1.trans (final9 m c), (h c).2.2.2⟩) (Value.run_blocks m g),
    (θ_run Cert.NormBwdReferenceIdeal.defs _ _).mono (fun r h c => ⟨(h c).1.trans ?_, (h c).2.1.trans ?_, (h c).2.2.1.trans ?_, (h c).2.2.2⟩) (Cert.NormBwdReferenceIdeal.Value.run (F := Ideal) m' g')⟩
  · obtain ⟨e0, e1, e2, e3, e4, e5, e6⟩ := hagree c
    clear h
    funext i
    obtain ⟨a, b, rfl⟩ : ∃ (a : Fin 4096) (b : Fin 2048), i = ix2 a b := ⟨i 0, i 1, eq_ix2 i⟩
    exact (ref7 m' c a b).trans (by rw [e0, e1, e2, e4, e5]; rfl)
  · obtain ⟨e0, e1, e2, e3, e4, e5, e6⟩ := hagree c
    clear h
    funext i
    obtain ⟨a, b, rfl⟩ : ∃ (a : Fin 4096) (b : Fin 2048), i = ix2 a b := ⟨i 0, i 1, eq_ix2 i⟩
    exact (ref8 m' c a b).trans (by rw [e0, e1, e2, e4, e5, e6]; rfl)
  · obtain ⟨e0, e1, e2, e3, e4, e5, e6⟩ := hagree c
    clear h
    rw [e0, e1, e2, e3, e4, e5]
    clear e0 e1 e2 e3 e4 e5 e6 hagree
    funext i
    obtain ⟨a, b, rfl⟩ : ∃ (a : Fin 8) (b : Fin 2048), i = ix2 a b := ⟨i 0, i 1, eq_ix2 i⟩
    pointwise
    unfold sums term inv
    generalize hx : (m (c.tc.loc main_arg0)) = x
    generalize hd : (m (c.tc.loc main_arg1)) = d
    generalize hp : (m (c.tc.loc main_arg2)) = p
    generalize hq : (m (c.tc.loc main_arg3)) = q
    generalize hg : (m (c.tc.loc main_arg4)) = gain
    generalize hs : (m (c.tc.loc main_arg5)) = sc
    clear hx hd hp hq hg hs
    change S4096x2048.Idx → EReal at x
    change S4096x2048.Idx → EReal at d
    change S4096x2048.Idx → EReal at p
    change S4096x2048.Idx → EReal at q
    change S1x2048.Idx → EReal at gain
    change S1x2048.Idx → EReal at sc
    simp only [arrRow, vec]
    by_cases h0 : a.val = 0
    · simp only [if_pos h0]
      rw [dif_pos (by omega)]
    simp only [if_neg h0]
    rw [dif_neg (by omega)]
    by_cases h1 : a.val = 1
    · simp only [if_pos h1]
      rw [dif_pos (by omega)]
      exact Finset.sum_congr rfl fun n _ => mul_comm _ _
    simp only [if_neg h1]
    rw [dif_neg (by omega)]
    by_cases h2 : a.val = 2
    · simp only [if_pos h2]
      rw [dif_pos (by omega)]
      exact Finset.sum_congr rfl fun n _ => mul_comm _ _
    simp only [if_neg h2]
    rw [dif_neg (by omega)]
    by_cases h3 : a.val = 3
    · simp only [if_pos h3]
      rw [dif_pos (by omega)]
    simp only [if_neg h3]
    rw [dif_neg (by omega), Finset.sum_const_zero]

end Cert.Proof.NormBwd

end
-- ==== Proof.LossBwd.lean ====
/-
  The gradient of the loss through the last norm: at the trunk, at the last layer, and the sums over the rows.
-/
module

public import Idealize.ShloMosaic.Lib.Pipeline.ValueKit
public import Idealize.ShloMosaic.Lib.Pointwise
public import proofs.«01_k».proof.Defs
public import proofs.«01_k».proof.Proof.Gen.LossBwd
public import proofs.«01_k».proof.Proof.Gen.LossBwdIdeal.Value
public import proofs.«01_k».proof.Proof.Gen.LossBwdReferenceIdeal
public import proofs.«01_k».proof.Proof.Gen.LossBwdReferenceIdeal.Run
public import Idealize.ShloMosaic.Adequacy
public import Idealize.ShloMosaic.Init
public import Idealize.ShloMosaic.Lib.Pipeline.ReadBack
public import proofs.«01_k».proof.Proof.NormGrad
public import proofs.«01_k».proof.Proof.Rows

@[expose] public section

set_option maxHeartbeats 800000

noncomputable section

namespace Cert.Proof.LossBwd

open Cert.LossBwdIdeal Cert.LossBwdIdeal.Gen
open Idealize.ShloMosaic Idealize.ShloMosaic.TcCoe Idealize.SL.Sem

/-- The constants: a half, two, and one over the number of columns. -/
theorem bits_half : Ideal.ofBits FTy.f32 1056964608#32 = ((1 / 2 : ℝ) : EReal) := by
  simp [Ideal.ofBits, Ideal.ieee, -EReal.coe_mul]
  norm_num

theorem bits_two : Ideal.ofBits FTy.f32 1073741824#32 = ((2 : ℝ) : EReal) := by
  simp [Ideal.ofBits, Ideal.ieee, -EReal.coe_mul]
  norm_num

theorem bits_part : Ideal.ofBits FTy.f32 973078528#32 = ((1 / 2048 : ℝ) : EReal) := by
  simp [Ideal.ofBits, Ideal.ieee, -EReal.coe_mul]
  norm_num

/-- A half of a sum of rows is the sum of the rows' halves. -/
theorem half_sum {N : Nat} (f : Fin N → EReal) :
    ∑ n, f n * Ideal.ofBits .f32 1056964608#32 = Ideal.ofBits .f32 1056964608#32 * ∑ n, f n := by
  rw [bits_half, sum_mul_real _ _ _ (by norm_num), mul_comm]

/-- The gradient of a half of a mean square is the error over the number of columns. -/
theorem scaled (e : EReal) : Ideal.div (Ideal.ofBits .f32 1056964608#32) (Ideal.ofBits .f32 1157627904#32) * (Ideal.ofBits .f32 1073741824#32 * e)
    = e * Ideal.ofBits .f32 973078528#32 := by
  rw [bits_half, bits_two, bits_part, div_2048, ← mul_assoc, ← EReal.coe_mul, ← EReal.coe_mul, mul_comm e]
  norm_num

/-- The reference's sum over an axis of one row, and its order of adding. -/
theorem gather (q x T : EReal) : q + x * (∑ _ : Fin 1, T) + (∑ _ : Fin 1, T) * x = q + (x * T + T * x) := by
  rw [Fin.sum_univ_one, add_assoc]

/-- The error, its gradient, and the gradient at the trunk, a row and a column. -/
def err (x y gain : Fin 2048 → EReal) (j : Fin 2048) : EReal := x j * inv x * gain j - y j

def dy (x y gain : Fin 2048 → EReal) (j : Fin 2048) : EReal := err x y gain j * Ideal.ofBits .f32 973078528#32

def dx (x y gain : Fin 2048 → EReal) (j : Fin 2048) : EReal := dnorm x (fun k => dy x y gain k * gain k) j

/-- A row's mean square error. -/
def mean (x y gain : Fin 2048 → EReal) : EReal := Ideal.div (∑ k, err x y gain k * err x y gain k) (Ideal.ofBits .f32 1157627904#32)

/-- What a row adds to the sums: at the gain, to the loss, and nothing in the last six. -/
def term (x y gain : Fin 2048 → EReal) (q : Fin 8) (j : Fin 2048) : EReal :=
  if q.val = 0 then dy x y gain j * (x j * inv x)
  else if q.val = 1 then mean x y gain * Ideal.ofBits .f32 1056964608#32
  else 0

/-- The payloads: the normed row, the error, the gradients. -/
theorem pay6 (x : S256x2048.Idx → EReal) (i : Fin 256) (j : Fin 1) : k0_pay6 (F := Ideal) x (ix2 i j) = inv (fun k => x (ix2 i k)) := by
  unfold inv
  pointwise [k0_pay6]

theorem pay7 (x : S256x2048.Idx → EReal) (i : Fin 256) (j : Fin 2048) :
    k0_pay7 (F := Ideal) x (ix2 i j) = x (ix2 i j) * inv (fun k => x (ix2 i k)) := by
  rw [← pay6 x i 0]
  pointwise [k0_pay7]

theorem pay8 (x y : S256x2048.Idx → EReal) (gain : S1x2048.Idx → EReal) (i : Fin 256) (j : Fin 2048) :
    k0_pay8 (F := Ideal) x gain y (ix2 i j) = err (fun k => x (ix2 i k)) (fun k => y (ix2 i k)) (fun k => gain (ix2 0 k)) j := by
  unfold err
  rw [← pay7]
  pointwise [k0_pay8]

theorem pay10 (x y : S256x2048.Idx → EReal) (gain : S1x2048.Idx → EReal) (i : Fin 256) (j : Fin 2048) :
    k0_pay10 (F := Ideal) x gain y (ix2 i j) = dy (fun k => x (ix2 i k)) (fun k => y (ix2 i k)) (fun k => gain (ix2 0 k)) j := by
  unfold dy
  rw [← pay8]
  pointwise [k0_pay10]

theorem pay11 (x y : S256x2048.Idx → EReal) (gain : S1x2048.Idx → EReal) (i : Fin 256) (j : Fin 2048) :
    k0_pay11 (F := Ideal) x gain y gain (ix2 i j)
      = dy (fun k => x (ix2 i k)) (fun k => y (ix2 i k)) (fun k => gain (ix2 0 k)) j * gain (ix2 0 j) := by
  rw [← pay10]
  pointwise [k0_pay11]

theorem pay12 (x y : S256x2048.Idx → EReal) (gain : S1x2048.Idx → EReal) (i : Fin 256) (j : Fin 1) :
    k0_pay12 (F := Ideal) x gain y gain (ix2 i j)
      = Ideal.div (∑ k, (dy (fun k => x (ix2 i k)) (fun k => y (ix2 i k)) (fun k => gain (ix2 0 k)) k * gain (ix2 0 k))
          * (x (ix2 i k) * inv (fun k => x (ix2 i k)))) (Ideal.ofBits .f32 1157627904#32) := by
  simp only [← pay11, ← pay7]
  pointwise [k0_pay12]

theorem pay1 (r : S256x1.Idx → EReal) (xn d : S256x2048.Idx → EReal) (u : S256x1.Idx → EReal) (i : Fin 256) (j : Fin 2048) :
    k0_pay1 (F := Ideal) r xn d u (ix2 i j) = r (ix2 i 0) * (d (ix2 i j) - xn (ix2 i j) * u (ix2 i 0)) := by
  pointwise [k0_pay1]

theorem pay2 (r : S256x1.Idx → EReal) (xn d : S256x2048.Idx → EReal) (u : S256x1.Idx → EReal) (g : S1x2048.Idx → EReal) (i : Fin 256) (j : Fin 2048) :
    k0_pay2 (F := Ideal) r xn d u g (ix2 i j) = g (ix2 0 j) * (r (ix2 i 0) * (d (ix2 i j) - xn (ix2 i j) * u (ix2 i 0))) := by
  pointwise [k0_pay2, k0_pay1]

/-- The sums' payloads: what is there, and a block's rows. -/
theorem pay3 (a b : S256x2048.Idx → EReal) (s : S1x2048.Idx → EReal) (j : Fin 2048) :
    k0_pay3 (F := Ideal) a b s (ix2 0 j) = s (ix2 0 j) + ∑ n : Fin 256, b (ix2 n j) * a (ix2 n j) := by
  pointwise [k0_pay3]

theorem pay9 (x y : S256x2048.Idx → EReal) (gain : S1x2048.Idx → EReal) : k0_pay9 (F := Ideal) x gain y (ix2 0 0)
      = ∑ n : Fin 256, mean (fun k => x (ix2 n k)) (fun k => y (ix2 n k)) (fun k => gain (ix2 0 k)) * Ideal.ofBits .f32 1056964608#32 := by
  rw [half_sum]
  unfold mean
  simp only [← pay8]
  pointwise [k0_pay9]

theorem pay4 (u : S1x1.Idx → EReal) (s : S1x2048.Idx → EReal) (j : Fin 2048) :
    k0_pay4 (F := Ideal) u s (ix2 0 j) = s (ix2 0 j) + u (ix2 0 0) := by
  pointwise [k0_pay4]

theorem pay5 (q : Fin 8) (j : Fin 2048) : k0_pay5 (F := Ideal) (ix2 q j) = 0 := by
  pointwise [k0_pay5]

variable (m : (ℓ : Loc nD τ sig) → Buf (Elt Ideal) ℓ) (c : Dev nD)

/-- A row of one of a point's blocks. -/
abbrev blockRow (f : S256x2048.Idx → EReal) (n : Fin 256) : Fin 2048 → EReal := fun k => f (ix2 n k)

/-- The row of a vector. -/
abbrev vec (f : S1x2048.Idx → EReal) : Fin 2048 → EReal := fun k => f (ix2 0 k)

/-- What a point leaves in the gradient at the trunk, and in its product with the last gate. -/
theorem block4 (t : Fin cfg0.N) (a : Fin 256) (b : Fin 2048) : (outsAt0 m c t.val t.isLt).1 (ix2 a b)
    = dx (blockRow (iblk m c 0 t) a) (blockRow (iblk m c 1 t) a) (vec (iblk m c 2 t)) b := by
  unfold dx dnorm
  by_cases h : t.val % 16 = 0
  · rw [outsAt0_A m c t h]
    frame_out
    rw [pay1, pay6, pay7, pay11, pay12]
  · rw [outsAt0_B m c t h]
    frame_out
    rw [pay1, pay6, pay7, pay11, pay12]

theorem block5 (t : Fin cfg0.N) (a : Fin 256) (b : Fin 2048) : (outsAt0 m c t.val t.isLt).2.1 (ix2 a b)
    = vec (iblk m c 3 t) b * dx (blockRow (iblk m c 0 t) a) (blockRow (iblk m c 1 t) a) (vec (iblk m c 2 t)) b := by
  unfold dx dnorm
  by_cases h : t.val % 16 = 0
  · rw [outsAt0_A m c t h]
    frame_out
    rw [pay2, pay6, pay7, pay11, pay12]
  · rw [outsAt0_B m c t h]
    frame_out
    rw [pay2, pay6, pay7, pay11, pay12]

/-- What a point adds to the sums. -/
def adds (t : Fin cfg0.N) (q : Fin 8) (b : Fin 2048) : EReal :=
  ∑ n : Fin 256, term (blockRow (iblk m c 0 t) n) (blockRow (iblk m c 1 t) n) (vec (iblk m c 2 t)) q b

/-- The sums after a first point, and after a later one. -/
theorem first (t : Fin cfg0.N) (h : t.val % 16 = 0) (q : Fin 8) (b : Fin 2048) :
    (outsAt0 m c t.val t.isLt).2.2 (ix2 q b) = 0 + adds m c t q b := by
  rw [outsAt0_A m c t h]
  frame_out
  by_cases h1 : q.val = 1
  · obtain rfl : q = 1 := Fin.ext h1
    refine (hitRow 1 (by decide) _ _ _ b).trans ?_
    rw [pay4, readRow _ 1 (by decide), missRow 0 _ (by decide), hitAllRows, pay5, pay9]
    rfl
  refine (missRow 1 q h1 _ _ _ b).trans ?_
  by_cases h0 : q.val = 0
  · obtain rfl : q = 0 := Fin.ext h0
    refine (hitRow 0 (by decide) _ _ _ b).trans ?_
    rw [pay3, readRow _ 0 (by decide), hitAllRows, pay5]
    simp only [pay7, pay10]
    rfl
  refine (missRow 0 q h0 _ _ _ b).trans ((hitAllRows _ _ q b).trans ?_)
  rw [pay5]
  unfold adds term
  simp only [if_neg h0, if_neg h1, Finset.sum_const_zero, add_zero]

theorem later (t : Fin cfg0.N) (h : ¬ t.val % 16 = 0) (q : Fin 8) (b : Fin 2048) :
    (outsAt0 m c t.val t.isLt).2.2 (ix2 q b)
      = (outsAt0 m c (t.val - 1) (Nat.lt_of_le_of_lt (Nat.sub_le _ _) t.isLt)).2.2 (ix2 q b) + adds m c t q b := by
  rw [outsAt0_B m c t h]
  frame_out
  by_cases h1 : q.val = 1
  · obtain rfl : q = 1 := Fin.ext h1
    refine (readHit _ _ 1 (by decide) _ _ _ b).trans ?_
    rw [pay4, ldRow 1 (by decide), pay9]
    rfl
  refine (readMiss _ _ 1 q h1 _ _ _ b).trans ?_
  by_cases h0 : q.val = 0
  · obtain rfl : q = 0 := Fin.ext h0
    refine (readHit _ _ 0 (by decide) _ _ _ b).trans ?_
    rw [pay3, ldRow 0 (by decide)]
    simp only [pay7, pay10]
    rfl
  refine (readMiss _ _ 0 q h0 _ _ _ b).trans ((congrFun (Memref.IsWhole.read_unread _ _) (ix2 q b)).trans ?_)
  unfold adds term
  simp only [if_neg h0, if_neg h1, Finset.sum_const_zero, add_zero]

/-- Which blocks a point reads and writes. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0] ∧ t.val < 16 :=
  (by decide +kernel : ∀ t : Fin grid0.N, _)

/-- The row of the whole arrays that a point's row is. -/
def row (t : Fin cfg0.N) (a : Fin 256) : Fin 4096 :=
  ⟨t.val * 256 + a.val, by have h : t.val < 16 := (idx t).2.2.2.2.2.2.2; omega⟩

/-- A point's blocks are rows of the arguments. -/
theorem e0 (t : Fin cfg0.N) (a : Fin 256) (k : Fin 2048) : (iblk m c 0 t : S256x2048.Idx → EReal) (ix2 a k)
    = (m ((c : Thread nD τ).loc main_arg0) : S4096x2048.Idx → EReal) (ix2 (row t a) k) := by
  blk_ext [iblk, V_main_arg0, row, idx t]

theorem e1 (t : Fin cfg0.N) (a : Fin 256) (k : Fin 2048) : (iblk m c 1 t : S256x2048.Idx → EReal) (ix2 a k)
    = (m ((c : Thread nD τ).loc main_arg1) : S4096x2048.Idx → EReal) (ix2 (row t a) k) := by
  blk_ext [iblk, V_main_arg1, row, idx t]

theorem e2 (t : Fin cfg0.N) (k : Fin 2048) : (iblk m c 2 t : S1x2048.Idx → EReal) (ix2 0 k)
    = (m ((c : Thread nD τ).loc main_arg2) : S1x2048.Idx → EReal) (ix2 0 k) := by
  blk_ext [iblk, V_main_arg2, idx t]

theorem e3 (t : Fin cfg0.N) (k : Fin 2048) : (iblk m c 3 t : S1x2048.Idx → EReal) (ix2 0 k)
    = (m ((c : Thread nD τ).loc main_arg3) : S1x2048.Idx → EReal) (ix2 0 k) := by
  blk_ext [iblk, V_main_arg3, idx t]

/-- A row of a whole array. -/
abbrev arrRow (f : S4096x2048.Idx → EReal) (n : Fin 4096) : Fin 2048 → EReal := fun k => f (ix2 n k)

/-- The gradient at the trunk, of the whole arrays. -/
def grad (x y : S4096x2048.Idx → EReal) (gain : S1x2048.Idx → EReal) (a : Fin 4096) (b : Fin 2048) : EReal :=
  dx (arrRow x a) (arrRow y a) (vec gain) b

/-- The sums over the rows, of the whole arrays. -/
def sums (x y : S4096x2048.Idx → EReal) (gain : S1x2048.Idx → EReal) (q : Fin 8) (b : Fin 2048) : EReal :=
  ∑ n : Fin 4096, term (arrRow x n) (arrRow y n) (vec gain) q b

/-- A point's rows are rows of the whole arrays. -/
theorem r0 (t : Fin cfg0.N) (a : Fin 256) : blockRow (iblk m c 0 t) a = arrRow (m ((c : Thread nD τ).loc main_arg0)) (row t a) := funext (e0 m c t a)
theorem r1 (t : Fin cfg0.N) (a : Fin 256) : blockRow (iblk m c 1 t) a = arrRow (m ((c : Thread nD τ).loc main_arg1)) (row t a) := funext (e1 m c t a)
theorem r2 (t : Fin cfg0.N) : vec (iblk m c 2 t) = vec (m ((c : Thread nD τ).loc main_arg2)) := funext (e2 m c t)
theorem r3 (t : Fin cfg0.N) : vec (iblk m c 3 t) = vec (m ((c : Thread nD τ).loc main_arg3)) := funext (e3 m c t)

/-- The three arrays after the run. -/
theorem final4 : ((dats m 0 c).arrAt 4 cfg0.N : S4096x2048.Idx → EReal)
    = fun i => grad (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  obtain ⟨a, b, rfl⟩ : ∃ (a : Fin 256) (b : Fin 2048), y = ix2 a b := ⟨y 0, y 1, eq_ix2 y⟩
  have e : (((cfg0.win 4).blk t).view.emb (ix2 a b) : S4096x2048.Idx) = ix2 (row t a) b := by
    blk_ext [row, idx t]
  rw [e]
  blk_simp
  rw [after0_4, block4]
  rw [r0, r1, r2]
  rfl

theorem final5 : ((dats m 0 c).arrAt 5 cfg0.N : S4096x2048.Idx → EReal)
    = fun i => vec (m ((c : Thread nD τ).loc main_arg3)) (i 1) * grad (m ((c : Thread nD τ).loc main_arg0)) (m ((c : Thread nD τ).loc main_arg1)) (m ((c : Thread nD τ).loc main_arg2)) (i 0) (i 1) := by
  refine (dats m 0 c).arrAt_eq_of_covers 5 _ (by decide +kernel) fun t hf y => ?_
  obtain ⟨a, b, rfl⟩ : ∃ (a : Fin 256) (b : Fin 2048), y = ix2 a b := ⟨y 0, y 1, eq_ix2 y⟩
  have e : (((cfg0.win 5).blk t).view.emb (ix2 a b) : S4096x2048.Idx) = ix2 (row t a) b := by
    blk_ext [row, idx t]
  rw [e]
  blk_simp
  rw [after0_5, block5]
  rw [r0, r1, r2, r3]
  rfl

/-- The sums after the last point. -/
theorem carry (t : Fin cfg0.N) (ht : t.val % 16 = 16 - 1) (i : S8x2048.Idx) : ((outsAt0 m c t.val t.isLt).2.2 : S8x2048.Idx → EReal) i
    = 0 + ∑ s : Fin 16, adds m c ⟨16 * (t.val / 16) + s.val, Pipeline.run_point_lt_of_flush t ht s⟩ (i 0) (i 1) := by
  refine Pipeline.eq_sum_fin_of_reset_step_apply_of_flush (fun n h => ((outsAt0 m c n h).2.2 : S8x2048.Idx → EReal)) 16 (fun _ => 0)
    (fun t i => adds m c t (i 0) (i 1)) (fun t h i => ?_) (fun t h i => ?_) t ht i
  · obtain ⟨a, b, rfl⟩ : ∃ (a : Fin 8) (b : Fin 2048), i = ix2 a b := ⟨i 0, i 1, eq_ix2 i⟩
    exact first m c t h a b
  · obtain ⟨a, b, rfl⟩ : ∃ (a : Fin 8) (b : Fin 2048), i = ix2 a b := ⟨i 0, i 1, eq_ix2 i⟩
    exact later m c t h a b

theorem final6 : ((dats m 0 c).arrAt 6 cfg0.N : S8x2048.Idx → EReal)
    = fun i => sums (m ((c : Thread nD τ).loc main_arg0)) (m ((c : Thread nD τ).loc main_arg1)) (m ((c : Thread nD τ).loc main_arg2)) (i 0) (i 1) := by
  refine (dats m 0 c).arrAt_eq_of_covers 6 _ (by decide +kernel) fun t hf y => ?_
  have ht : t.val % 16 = 15 := (flush0_6 t).mp hf
  obtain ⟨q, b, rfl⟩ : ∃ (q : Fin 8) (b : Fin 2048), y = ix2 q b := ⟨y 0, y 1, eq_ix2 y⟩
  have e : (((cfg0.win 6).blk t).view.emb (ix2 q b) : S8x2048.Idx) = ix2 q b := by
    blk_ext [idx t]
  rw [e]
  blk_simp
  rw [after0_6, carry m c t ht, zero_add]
  unfold sums adds
  have h16 : t.val < 16 := (idx t).2.2.2.2.2.2.2
  refine Fin.sum_mul_add_congr (M := EReal) fun s n hl => ?_
  rw [r0, r1, r2]
  have er : row ⟨16 * (t.val / 16) + s.val, Pipeline.run_point_lt_of_flush t ht s⟩ n = ⟨_, hl⟩ := by
    refine Fin.ext ?_
    show (16 * (t.val / 16) + s.val) * 256 + n.val = s.val * 256 + n.val
    omega
  rw [er]

/-- The call and its idealization have the same text: one body. -/
theorem body_same {F : FTy → Type} [FloatOps F] (i a1 h1 a2 h2 a3 h3 a4 h4 a5 h5 a6 h6 a7 h7) :
    Cert.LossBwd.cc0_loss_bwd (F := F) i a1 h1 a2 h2 a3 h3 a4 h4 a5 h5 a6 h6 a7 h7 = cc0_loss_bwd (F := F) i a1 h1 a2 h2 a3 h3 a4 h4 a5 h5 a6 h6 a7 h7 := rfl

/-- One table of bodies and regions. -/
theorem table_same {F : FTy → Type} [FloatOps F] : Cert.LossBwd.defs (F := F) = defs (F := F) := by
  have h : Cert.LossBwd.defs₀ (F := F) = defs₀ (F := F) := by
    unfold Cert.LossBwd.defs₀ defs₀
    congr 1
    funext x
    match x with
    | (0 : Fin 1) =>
      funext y
      obtain ⟨t, s⟩ := y
      exact body_same _ _ _ _ _ _ _ _ _ _ _ _ _ _ _
  unfold Cert.LossBwd.defs defs
  rw [h]
  rfl

/-- One program. -/
theorem main_same {F : FTy → Type} [FloatOps F] : Cert.LossBwd.main (F := F) = main (F := F) := rfl

theorem frame_kernel : Cert.quiescent_LossBwd := fun m ρ _ => by
  rw [table_same, main_same]; exact frame m ρ

theorem frame_ideal : Cert.quiescent_LossBwdIdeal := fun m ρ _ => frame m ρ

theorem frame_reference : Cert.quiescent_LossBwdReferenceIdeal := fun m ρ _ =>
  (θ_run Cert.LossBwdReferenceIdeal.defs _ _).mono (fun r h => ⟨fun c => (h c).2.2.2, sem_eq_zero_of_no_sems (by decide) r.2⟩)
    (Cert.LossBwdReferenceIdeal.Value.run (F := Ideal) m ρ)

section Reference

variable (m' : (ℓ : Loc Cert.LossBwdReferenceIdeal.nD Cert.LossBwdReferenceIdeal.τ Cert.LossBwdReferenceIdeal.sig) → Buf (Elt Ideal) ℓ)
  (c' : Dev Cert.LossBwdReferenceIdeal.nD) (a : Fin 4096) (b : Fin 2048)

/-- The reference's gradient at the trunk, at a row and a column. -/
theorem ref4 : (Cert.LossBwdReferenceIdeal.Value.res_main_v48 m' c' : S4096x2048.Idx → EReal) (ix2 a b)
    = grad (m' (c'.tc.loc Cert.LossBwdReferenceIdeal.main_arg0)) (m' (c'.tc.loc Cert.LossBwdReferenceIdeal.main_arg1)) (m' (c'.tc.loc Cert.LossBwdReferenceIdeal.main_arg2)) a b := by
  unfold Cert.LossBwdReferenceIdeal.Value.res_main_v48
  unfold grad dx
  rw [← dnorm_eq]
  unfold through dy err inv
  generalize hx : (m' (c'.tc.loc Cert.LossBwdReferenceIdeal.main_arg0)) = x
  generalize hy : (m' (c'.tc.loc Cert.LossBwdReferenceIdeal.main_arg1)) = y
  generalize hgain : (m' (c'.tc.loc Cert.LossBwdReferenceIdeal.main_arg2)) = gain
  clear hx hy hgain
  change S4096x2048.Idx → EReal at x
  change S4096x2048.Idx → EReal at y
  change S1x2048.Idx → EReal at gain
  pointwise
  simp only [scaled]
  exact gather _ _ _

/-- The reference's product of that with the last gate. -/
theorem ref5 : (Cert.LossBwdReferenceIdeal.Value.res_main_v54 m' c' : S4096x2048.Idx → EReal) (ix2 a b)
    = vec (m' (c'.tc.loc Cert.LossBwdReferenceIdeal.main_arg3)) b * grad (m' (c'.tc.loc Cert.LossBwdReferenceIdeal.main_arg0)) (m' (c'.tc.loc Cert.LossBwdReferenceIdeal.main_arg1)) (m' (c'.tc.loc Cert.LossBwdReferenceIdeal.main_arg2)) a b := by
  unfold Cert.LossBwdReferenceIdeal.Value.res_main_v54
  unfold grad dx
  rw [← dnorm_eq]
  unfold through dy err inv
  generalize hx : (m' (c'.tc.loc Cert.LossBwdReferenceIdeal.main_arg0)) = x
  generalize hy : (m' (c'.tc.loc Cert.LossBwdReferenceIdeal.main_arg1)) = y
  generalize hgain : (m' (c'.tc.loc Cert.LossBwdReferenceIdeal.main_arg2)) = gain
  generalize hw : (m' (c'.tc.loc Cert.LossBwdReferenceIdeal.main_arg3)) = w
  clear hx hy hgain hw
  change S4096x2048.Idx → EReal at x
  change S4096x2048.Idx → EReal at y
  change S1x2048.Idx → EReal at gain
  change S1x2048.Idx → EReal at w
  pointwise
  simp only [scaled]
  exact congrArg₂ (fun u v : EReal => u * v) rfl (gather _ _ _)

end Reference

/-- The results are the reference's. -/
theorem values : Cert.algebraic_LossBwdIdeal_LossBwdReferenceIdeal := by
  intro m g m' g' _ hagree
  refine ⟨_, _, _, (θ_run defs _ _).mono (fun r h c => ⟨(h c).1.trans (final4 m c), (h c).2.1.trans (final5 m c), (h c).2.2.1.trans (final6 m c), (h c).2.2.2⟩) (Value.run_blocks m g),
    (θ_run Cert.LossBwdReferenceIdeal.defs _ _).mono (fun r h c => ⟨(h c).1.trans ?_, (h c).2.1.trans ?_, (h c).2.2.1.trans ?_, (h c).2.2.2⟩) (Cert.LossBwdReferenceIdeal.Value.run (F := Ideal) m' g')⟩
  · obtain ⟨e0, e1, e2, e3⟩ := hagree c
    clear h
    funext i
    obtain ⟨a, b, rfl⟩ : ∃ (a : Fin 4096) (b : Fin 2048), i = ix2 a b := ⟨i 0, i 1, eq_ix2 i⟩
    exact (ref4 m' c a b).trans (by rw [e0, e1, e2]; rfl)
  · obtain ⟨e0, e1, e2, e3⟩ := hagree c
    clear h
    funext i
    obtain ⟨a, b, rfl⟩ : ∃ (a : Fin 4096) (b : Fin 2048), i = ix2 a b := ⟨i 0, i 1, eq_ix2 i⟩
    exact (ref5 m' c a b).trans (by rw [e0, e1, e2, e3]; rfl)
  · obtain ⟨e0, e1, e2, e3⟩ := hagree c
    clear h
    rw [e0, e1, e2]
    clear e0 e1 e2 e3 hagree
    funext i
    obtain ⟨a, b, rfl⟩ : ∃ (a : Fin 8) (b : Fin 2048), i = ix2 a b := ⟨i 0, i 1, eq_ix2 i⟩
    pointwise
    unfold sums term mean dy err inv
    generalize hx : (m (c.tc.loc main_arg0)) = x
    generalize hy : (m (c.tc.loc main_arg1)) = y
    generalize hgain : (m (c.tc.loc main_arg2)) = gain
    clear hx hy hgain
    change S4096x2048.Idx → EReal at x
    change S4096x2048.Idx → EReal at y
    change S1x2048.Idx → EReal at gain
    simp only [scaled, arrRow, vec]
    by_cases h0 : a.val = 0
    · simp only [if_pos h0]
      rw [dif_pos (by omega)]
      exact Finset.sum_congr rfl fun n _ => mul_comm _ _
    simp only [if_neg h0]
    rw [dif_neg (by omega)]
    by_cases h1 : a.val = 1
    · simp only [if_pos h1]
      rw [dif_pos (by omega), half_sum]
    simp only [if_neg h1]
    rw [dif_neg (by omega), Finset.sum_const_zero]

end Cert.Proof.LossBwd

end
-- ==== Proof.GateDw.lean ====
/-
  THE GRADIENT OF THE FORGET GATES' PROJECTION IN ITS WEIGHTS: what the call leaves, what the reference's lines compute,
  and that they are equal, entry by entry.
-/
module

public import Idealize.ShloMosaic.Lib.Pipeline.ValueKit
public import Idealize.ShloMosaic.Lib.Pointwise
public import proofs.«01_k».proof.Defs
public import proofs.«01_k».proof.Proof.Gen.GateDw
public import proofs.«01_k».proof.Proof.Gen.GateDwIdeal.Value
public import proofs.«01_k».proof.Proof.Gen.GateDwReferenceIdeal
public import proofs.«01_k».proof.Proof.Gen.GateDwReferenceIdeal.Run
public import Idealize.ShloMosaic.Adequacy
public import Idealize.ShloMosaic.Init

@[expose] public section

set_option maxHeartbeats 800000

noncomputable section

namespace Cert.Proof.GateDw

open Cert.GateDwIdeal Cert.GateDwIdeal.Gen
open Idealize.ShloMosaic Idealize.ShloMosaic.TcCoe Idealize.SL.Sem

/-- The gradient: over the rows, the gradient of the projection's result times its input. -/
def grad (z : S4096x128.Idx → EReal) (g : S4096x2048.Idx → EReal) : S128x2048.Idx → EReal :=
  fun i => ∑ n : Fin 4096, z (ix2 n (i 0)) * g (ix2 n (i 1))

/-- A block of the result from the two blocks it is computed from. -/
theorem pay (x0 : S4096x128.Idx → EReal) (x1 : S4096x1024.Idx → EReal) (i : Fin 128) (j : Fin 1024) :
    k0_pay1 (F := Ideal) x0 x1 (ix2 i j) = ∑ n : Fin 4096, x0 (ix2 n i) * x1 (ix2 n j) := by
  pointwise [k0_pay1]

variable (m : (ℓ : Loc nD τ sig) → Buf (Elt Ideal) ℓ) (c : Dev nD)

/-- Which blocks a point reads, by the block it writes. -/
theorem idx : ∀ t : Fin cfg0.N, win0_0.index t = ![0, win0_2.index t 0] ∧ win0_1.index t = ![0, win0_2.index t 1] :=
  (by decide +kernel : ∀ t : Fin grid0.N, _)

/-- The array after the run. -/
theorem final : ((dats m 0 c).arrAt 2 cfg0.N : S128x2048.Idx → EReal)
    = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 128) (b : Fin 1024), y = ix2 a b := ⟨y 0, y 1, eq_ix2 y⟩
  rw [pay]
  unfold grad
  refine Finset.sum_congr (M := EReal) rfl fun n _ => ?_
  refine congrArg₂ (fun x y : EReal => x * y) ?_ ?_
  · blk_ext [iblk, V_main_arg0, idx t]
  · blk_ext [iblk, V_main_arg1, idx t]

/-- The call and its idealization have the same text: one body. -/
theorem body_same {F : FTy → Type} [FloatOps F] (i a1 h1 a2 h2 a3 h3) :
    Cert.GateDw.cc0_fox_gate_dw (F := F) i a1 h1 a2 h2 a3 h3 = cc0_fox_gate_dw (F := F) i a1 h1 a2 h2 a3 h3 := rfl

/-- One table of bodies and regions. -/
theorem table_same {F : FTy → Type} [FloatOps F] : Cert.GateDw.defs (F := F) = defs (F := F) := by
  have h : Cert.GateDw.defs₀ (F := F) = defs₀ (F := F) := by
    unfold Cert.GateDw.defs₀ defs₀
    congr 1
    funext x
    match x with
    | (0 : Fin 1) =>
      funext y
      obtain ⟨t, s⟩ := y
      exact body_same _ _ _ _ _ _ _
  unfold Cert.GateDw.defs defs
  rw [h]
  rfl

/-- One program. -/
theorem main_same {F : FTy → Type} [FloatOps F] : Cert.GateDw.main (F := F) = main (F := F) := rfl

theorem frame_kernel : Cert.quiescent_GateDw := fun m ρ _ => by
  rw [table_same, main_same]; exact frame m ρ

theorem frame_ideal : Cert.quiescent_GateDwIdeal := fun m ρ _ => frame m ρ

theorem frame_reference : Cert.quiescent_GateDwReferenceIdeal := fun m ρ _ =>
  (θ_run Cert.GateDwReferenceIdeal.defs _ _).mono (fun r h => ⟨fun c => (h c).2, sem_eq_zero_of_no_sems (by decide) r.2⟩)
    (Cert.GateDwReferenceIdeal.Value.run (F := Ideal) m ρ)

/-- The results are the reference's. -/
theorem values : Cert.algebraic_GateDwIdeal_GateDwReferenceIdeal := by
  intro m g m' g' _ hagree
  refine ⟨_, (θ_run defs _ _).mono (fun r h c => ⟨(h c).1.trans (final m c), (h c).2⟩) (Value.run_blocks m g),
    (θ_run Cert.GateDwReferenceIdeal.defs _ _).mono (fun r h c => ⟨(h c).1.trans ?_, (h c).2⟩) (Cert.GateDwReferenceIdeal.Value.run (F := Ideal) m' g')⟩
  obtain ⟨e0, e1⟩ := hagree c
  rw [e0, e1]
  funext i
  obtain ⟨a, b, rfl⟩ : ∃ (a : Fin 128) (b : Fin 2048), i = ix2 a b := ⟨i 0, i 1, eq_ix2 i⟩
  pointwise
  rfl

end Cert.Proof.GateDw

end
-- ==== Proof.GateDx.lean ====
/-
  THE GRADIENT OF THE FORGET GATES' PROJECTION IN ITS INPUT: what the call leaves, what the reference's lines compute, and
  that they are equal, entry by entry.
-/
module

public import Idealize.ShloMosaic.Lib.Pipeline.ValueKit
public import Idealize.ShloMosaic.Lib.Pointwise
public import proofs.«01_k».proof.Defs
public import proofs.«01_k».proof.Proof.Gen.GateDx
public import proofs.«01_k».proof.Proof.Gen.GateDxIdeal.Value
public import proofs.«01_k».proof.Proof.Gen.GateDxReferenceIdeal
public import proofs.«01_k».proof.Proof.Gen.GateDxReferenceIdeal.Run
public import Idealize.ShloMosaic.Adequacy
public import Idealize.ShloMosaic.Init

@[expose] public section

set_option maxHeartbeats 800000

noncomputable section

namespace Cert.Proof.GateDx

open Cert.GateDxIdeal Cert.GateDxIdeal.Gen
open Idealize.ShloMosaic Idealize.ShloMosaic.TcCoe Idealize.SL.Sem

/-- The gradient: the product of the gradient of the projection's result and its weights. -/
def grad (g : S4096x128.Idx → EReal) (w : S128x2048.Idx → EReal) : S4096x2048.Idx → EReal :=
  fun i => ∑ k : Fin 128, g (ix2 (i 0) k) * w (ix2 k (i 1))

/-- A block of the result from the two blocks it is computed from. -/
theorem pay (x0 : S1024x128.Idx → EReal) (x1 : S128x1024.Idx → EReal) (i j : Fin 1024) :
    k0_pay1 (F := Ideal) x0 x1 (ix2 i j) = ∑ k : Fin 128, x0 (ix2 i k) * x1 (ix2 k j) := by
  pointwise [k0_pay1]

variable (m : (ℓ : Loc nD τ sig) → Buf (Elt Ideal) ℓ) (c : Dev nD)

/-- Which blocks a point reads, by the block it writes. -/
theorem idx : ∀ t : Fin cfg0.N, win0_0.index t = ![win0_2.index t 0, 0] ∧ win0_1.index t = ![0, win0_2.index t 1] :=
  (by decide +kernel : ∀ t : Fin grid0.N, _)

/-- The array after the run. -/
theorem final : ((dats m 0 c).arrAt 2 cfg0.N : S4096x2048.Idx → EReal)
    = grad (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ a b : Fin 1024, y = ix2 a b := ⟨y 0, y 1, eq_ix2 y⟩
  rw [pay]
  unfold grad
  refine Finset.sum_congr (M := EReal) rfl fun n _ => ?_
  refine congrArg₂ (fun x y : EReal => x * y) ?_ ?_
  · blk_ext [iblk, V_main_arg0, idx t]
  · blk_ext [iblk, V_main_arg1, idx t]

/-- The call and its idealization have the same text: one body. -/
theorem body_same {F : FTy → Type} [FloatOps F] (i a1 h1 a2 h2 a3 h3) :
    Cert.GateDx.cc0_fox_gate_dx (F := F) i a1 h1 a2 h2 a3 h3 = cc0_fox_gate_dx (F := F) i a1 h1 a2 h2 a3 h3 := rfl

/-- One table of bodies and regions. -/
theorem table_same {F : FTy → Type} [FloatOps F] : Cert.GateDx.defs (F := F) = defs (F := F) := by
  have h : Cert.GateDx.defs₀ (F := F) = defs₀ (F := F) := by
    unfold Cert.GateDx.defs₀ defs₀
    congr 1
    funext x
    match x with
    | (0 : Fin 1) =>
      funext y
      obtain ⟨t, s⟩ := y
      exact body_same _ _ _ _ _ _ _
  unfold Cert.GateDx.defs defs
  rw [h]
  rfl

/-- One program. -/
theorem main_same {F : FTy → Type} [FloatOps F] : Cert.GateDx.main (F := F) = main (F := F) := rfl

theorem frame_kernel : Cert.quiescent_GateDx := fun m ρ _ => by
  rw [table_same, main_same]; exact frame m ρ

theorem frame_ideal : Cert.quiescent_GateDxIdeal := fun m ρ _ => frame m ρ

theorem frame_reference : Cert.quiescent_GateDxReferenceIdeal := fun m ρ _ =>
  (θ_run Cert.GateDxReferenceIdeal.defs _ _).mono (fun r h => ⟨fun c => (h c).2, sem_eq_zero_of_no_sems (by decide) r.2⟩)
    (Cert.GateDxReferenceIdeal.Value.run (F := Ideal) m ρ)

/-- The results are the reference's. -/
theorem values : Cert.algebraic_GateDxIdeal_GateDxReferenceIdeal := by
  intro m g m' g' _ hagree
  refine ⟨_, (θ_run defs _ _).mono (fun r h c => ⟨(h c).1.trans (final m c), (h c).2⟩) (Value.run_blocks m g),
    (θ_run Cert.GateDxReferenceIdeal.defs _ _).mono (fun r h c => ⟨(h c).1.trans ?_, (h c).2⟩) (Cert.GateDxReferenceIdeal.Value.run (F := Ideal) m' g')⟩
  obtain ⟨e0, e1⟩ := hagree c
  rw [e0, e1]
  funext i
  obtain ⟨a, b, rfl⟩ : ∃ (a : Fin 4096) (b : Fin 2048), i = ix2 a b := ⟨i 0, i 1, eq_ix2 i⟩
  unfold grad
  pointwise

end Cert.Proof.GateDx

end
-- ==== Proof.NormBwdFirst.lean ====
/-
  The gradient of the first layer's norm with its modulation: at the input of the whole model, and the sums over the rows.
-/
module

public import Idealize.ShloMosaic.Lib.Pipeline.ValueKit
public import Idealize.ShloMosaic.Lib.Pointwise
public import proofs.«01_k».proof.Defs
public import proofs.«01_k».proof.Proof.Gen.NormBwdFirst
public import proofs.«01_k».proof.Proof.Gen.NormBwdFirstIdeal.Value
public import proofs.«01_k».proof.Proof.Gen.NormBwdFirstReferenceIdeal
public import proofs.«01_k».proof.Proof.Gen.NormBwdFirstReferenceIdeal.Run
public import Idealize.ShloMosaic.Adequacy
public import Idealize.ShloMosaic.Init
public import Idealize.ShloMosaic.Lib.Pipeline.ReadBack
public import proofs.«01_k».proof.Proof.NormBwd
public import proofs.«01_k».proof.Proof.NormGrad
public import proofs.«01_k».proof.Proof.Rows

@[expose] public section

set_option maxHeartbeats 800000

noncomputable section

namespace Cert.Proof.NormBwdFirst

open Cert.NormBwdFirstIdeal Cert.NormBwdFirstIdeal.Gen
open Idealize.ShloMosaic Idealize.ShloMosaic.TcCoe Idealize.SL.Sem

open NormBwd (dx term gather)

/-- The payloads: the normed row, with its gain, the gradient at the norm, and the gradient through it. -/
theorem pay2 (dh : S256x2048.Idx → EReal) (i : Fin 256) (j : Fin 2048) : k0_pay2 (F := Ideal) dh (ix2 i j) = dh (ix2 i j) := by
  pointwise [k0_pay2]

theorem pay4 (x : S256x2048.Idx → EReal) (i : Fin 256) (j : Fin 2048) :
    k0_pay4 (F := Ideal) x (ix2 i j) = x (ix2 i j) * inv (fun k => x (ix2 i k)) := by
  unfold inv
  pointwise [k0_pay4, k0_pay3]

theorem pay5 (x : S256x2048.Idx → EReal) (gain : S1x2048.Idx → EReal) (i : Fin 256) (j : Fin 2048) :
    k0_pay5 (F := Ideal) x gain (ix2 i j) = x (ix2 i j) * inv (fun k => x (ix2 i k)) * gain (ix2 0 j) := by
  rw [← pay4]
  pointwise [k0_pay5]

theorem pay6 (dh : S256x2048.Idx → EReal) (sc : S1x2048.Idx → EReal) (i : Fin 256) (j : Fin 2048) :
    k0_pay6 (F := Ideal) dh sc (ix2 i j) = dh (ix2 i j) * (1 + sc (ix2 0 j)) := by
  pointwise [k0_pay6, k0_pay2]

theorem pay7 (x dh : S256x2048.Idx → EReal) (sc gain : S1x2048.Idx → EReal) (i : Fin 256) (j : Fin 2048) :
    k0_pay7 (F := Ideal) x dh sc gain (ix2 i j)
      = dnorm (fun k => x (ix2 i k)) (fun k => dh (ix2 i k) * (1 + sc (ix2 0 k)) * gain (ix2 0 k)) j := by
  unfold dnorm inv
  pointwise [k0_pay7, k0_pay6, k0_pay4, k0_pay3, k0_pay2]

theorem pay8 (a b : S256x2048.Idx → EReal) (i : Fin 256) (j : Fin 2048) :
    k0_pay8 (F := Ideal) a b (ix2 i j) = a (ix2 i j) + b (ix2 i j) := by
  pointwise [k0_pay8]

/-- The sums' payloads: what is there, and a block's rows. -/
theorem pay9 (a : S256x2048.Idx → EReal) (s : S1x2048.Idx → EReal) (j : Fin 2048) :
    k0_pay9 (F := Ideal) a s (ix2 0 j) = s (ix2 0 j) + ∑ n : Fin 256, a (ix2 n j) := by
  pointwise [k0_pay9]

theorem pay10 (a b : S256x2048.Idx → EReal) (s : S1x2048.Idx → EReal) (j : Fin 2048) :
    k0_pay10 (F := Ideal) a b s (ix2 0 j) = s (ix2 0 j) + ∑ n : Fin 256, a (ix2 n j) * b (ix2 n j) := by
  pointwise [k0_pay10]

theorem pay11 (a b : S256x2048.Idx → EReal) (s : S1x2048.Idx → EReal) (j : Fin 2048) :
    k0_pay11 (F := Ideal) a b s (ix2 0 j) = s (ix2 0 j) + ∑ n : Fin 256, b (ix2 n j) * a (ix2 n j) := by
  pointwise [k0_pay11]

theorem pay12 (a b : S256x2048.Idx → EReal) (s : S1x2048.Idx → EReal) (j : Fin 2048) :
    k0_pay12 (F := Ideal) a s b (ix2 0 j) = s (ix2 0 j) + ∑ n : Fin 256, a (ix2 n j) * b (ix2 n j) := by
  pointwise [k0_pay12]

theorem pay1 (q : Fin 8) (j : Fin 2048) : k0_pay1 (F := Ideal) (ix2 q j) = 0 := by
  pointwise [k0_pay1]

variable (m : (ℓ : Loc nD τ sig) → Buf (Elt Ideal) ℓ) (c : Dev nD)

/-- A row of one of a point's blocks. -/
abbrev blockRow (f : S256x2048.Idx → EReal) (n : Fin 256) : Fin 2048 → EReal := fun k => f (ix2 n k)

/-- The row of a vector. -/
abbrev vec (f : S1x2048.Idx → EReal) : Fin 2048 → EReal := fun k => f (ix2 0 k)

/-- What a point leaves in the gradient at the input. -/
theorem block6 (t : Fin cfg0.N) (a : Fin 256) (b : Fin 2048) : (outsAt0 m c t.val t.isLt).1 (ix2 a b)
    = dx (blockRow (iblk m c 0 t) a) (blockRow (iblk m c 1 t) a) (blockRow (iblk m c 2 t) a) (vec (iblk m c 4 t)) (vec (iblk m c 5 t)) b := by
  unfold dx
  by_cases h : t.val % 16 = 0
  · rw [outsAt0_A m c t h]
    frame_out
    rw [pay8, pay7]
  · rw [outsAt0_B m c t h]
    frame_out
    rw [pay8, pay7]

/-- What a point adds to the sums. -/
def adds (t : Fin cfg0.N) (q : Fin 8) (b : Fin 2048) : EReal :=
  ∑ n : Fin 256, term (blockRow (iblk m c 0 t) n) (blockRow (iblk m c 1 t) n) (blockRow (iblk m c 2 t) n) (blockRow (iblk m c 3 t) n)
    (vec (iblk m c 4 t)) (vec (iblk m c 5 t)) q b

/-- The sums after a first point, and after a later one. -/
theorem first (t : Fin cfg0.N) (h : t.val % 16 = 0) (q : Fin 8) (b : Fin 2048) :
    (outsAt0 m c t.val t.isLt).2 (ix2 q b) = 0 + adds m c t q b := by
  rw [outsAt0_A m c t h]
  frame_out
  by_cases h3 : q.val = 3
  · obtain rfl : q = 3 := Fin.ext h3
    refine (hitRow 3 (by decide) _ _ _ b).trans ?_
    rw [pay12, readRow _ 3 (by decide), missRow 2 _ (by decide), missRow 1 _ (by decide), missRow 0 _ (by decide), hitAllRows, pay1]
    rfl
  refine (missRow 3 q h3 _ _ _ b).trans ?_
  by_cases h2 : q.val = 2
  · obtain rfl : q = 2 := Fin.ext h2
    refine (hitRow 2 (by decide) _ _ _ b).trans ?_
    rw [pay11, readRow _ 2 (by decide), missRow 1 _ (by decide), missRow 0 _ (by decide), hitAllRows, pay1]
    simp only [pay4, pay6]
    rfl
  refine (missRow 2 q h2 _ _ _ b).trans ?_
  by_cases h1 : q.val = 1
  · obtain rfl : q = 1 := Fin.ext h1
    refine (hitRow 1 (by decide) _ _ _ b).trans ?_
    rw [pay10, readRow _ 1 (by decide), missRow 0 _ (by decide), hitAllRows, pay1]
    simp only [pay2, pay5]
    rfl
  refine (missRow 1 q h1 _ _ _ b).trans ?_
  by_cases h0 : q.val = 0
  · obtain rfl : q = 0 := Fin.ext h0
    refine (hitRow 0 (by decide) _ _ _ b).trans ?_
    rw [pay9, readRow _ 0 (by decide), hitAllRows, pay1]
    simp only [pay2]
    rfl
  refine (missRow 0 q h0 _ _ _ b).trans ((hitAllRows _ _ q b).trans ?_)
  rw [pay1]
  unfold adds term
  simp only [if_neg h0, if_neg h1, if_neg h2, if_neg h3, Finset.sum_const_zero, add_zero]

theorem later (t : Fin cfg0.N) (h : ¬ t.val % 16 = 0) (q : Fin 8) (b : Fin 2048) :
    (outsAt0 m c t.val t.isLt).2 (ix2 q b)
      = (outsAt0 m c (t.val - 1) (Nat.lt_of_le_of_lt (Nat.sub_le _ _) t.isLt)).2 (ix2 q b) + adds m c t q b := by
  rw [outsAt0_B m c t h]
  frame_out
  by_cases h3 : q.val = 3
  · obtain rfl : q = 3 := Fin.ext h3
    refine (readHit _ _ 3 (by decide) _ _ _ b).trans ?_
    rw [pay12, ldRow 3 (by decide)]
    rfl
  refine (readMiss _ _ 3 q h3 _ _ _ b).trans ?_
  by_cases h2 : q.val = 2
  · obtain rfl : q = 2 := Fin.ext h2
    refine (readHit _ _ 2 (by decide) _ _ _ b).trans ?_
    rw [pay11, ldRow 2 (by decide)]
    simp only [pay4, pay6]
    rfl
  refine (readMiss _ _ 2 q h2 _ _ _ b).trans ?_
  by_cases h1 : q.val = 1
  · obtain rfl : q = 1 := Fin.ext h1
    refine (readHit _ _ 1 (by decide) _ _ _ b).trans ?_
    rw [pay10, ldRow 1 (by decide)]
    simp only [pay2, pay5]
    rfl
  refine (readMiss _ _ 1 q h1 _ _ _ b).trans ?_
  by_cases h0 : q.val = 0
  · obtain rfl : q = 0 := Fin.ext h0
    refine (readHit _ _ 0 (by decide) _ _ _ b).trans ?_
    rw [pay9, ldRow 0 (by decide)]
    simp only [pay2]
    rfl
  refine (readMiss _ _ 0 q h0 _ _ _ b).trans ((congrFun (Memref.IsWhole.read_unread _ _) (ix2 q b)).trans ?_)
  unfold adds term
  simp only [if_neg h0, if_neg h1, if_neg h2, if_neg h3, Finset.sum_const_zero, add_zero]

/-- Which blocks a point reads and writes. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ t.val < 16 :=
  (by decide +kernel : ∀ t : Fin grid0.N, _)

/-- The row of the whole arrays that a point's row is. -/
def row (t : Fin cfg0.N) (a : Fin 256) : Fin 4096 :=
  ⟨t.val * 256 + a.val, by have h : t.val < 16 := (idx t).2.2.2.2.2.2.2.2; omega⟩

/-- A point's blocks are rows of the arguments. -/
theorem e0 (t : Fin cfg0.N) (a : Fin 256) (k : Fin 2048) : (iblk m c 0 t : S256x2048.Idx → EReal) (ix2 a k)
    = (m ((c : Thread nD τ).loc main_arg0) : S4096x2048.Idx → EReal) (ix2 (row t a) k) := by
  blk_ext [iblk, V_main_arg0, row, idx t]

theorem e1 (t : Fin cfg0.N) (a : Fin 256) (k : Fin 2048) : (iblk m c 1 t : S256x2048.Idx → EReal) (ix2 a k)
    = (m ((c : Thread nD τ).loc main_arg1) : S4096x2048.Idx → EReal) (ix2 (row t a) k) := by
  blk_ext [iblk, V_main_arg1, row, idx t]

theorem e2 (t : Fin cfg0.N) (a : Fin 256) (k : Fin 2048) : (iblk m c 2 t : S256x2048.Idx → EReal) (ix2 a k)
    = (m ((c : Thread nD τ).loc main_arg2) : S4096x2048.Idx → EReal) (ix2 (row t a) k) := by
  blk_ext [iblk, V_main_arg2, row, idx t]

theorem e3 (t : Fin cfg0.N) (a : Fin 256) (k : Fin 2048) : (iblk m c 3 t : S256x2048.Idx → EReal) (ix2 a k)
    = (m ((c : Thread nD τ).loc main_arg3) : S4096x2048.Idx → EReal) (ix2 (row t a) k) := by
  blk_ext [iblk, V_main_arg3, row, idx t]

theorem e4 (t : Fin cfg0.N) (k : Fin 2048) : (iblk m c 4 t : S1x2048.Idx → EReal) (ix2 0 k)
    = (m ((c : Thread nD τ).loc main_arg4) : S1x2048.Idx → EReal) (ix2 0 k) := by
  blk_ext [iblk, V_main_arg4, idx t]

theorem e5 (t : Fin cfg0.N) (k : Fin 2048) : (iblk m c 5 t : S1x2048.Idx → EReal) (ix2 0 k)
    = (m ((c : Thread nD τ).loc main_arg5) : S1x2048.Idx → EReal) (ix2 0 k) := by
  blk_ext [iblk, V_main_arg5, idx t]

/-- A row of a whole array. -/
abbrev arrRow (f : S4096x2048.Idx → EReal) (n : Fin 4096) : Fin 2048 → EReal := fun k => f (ix2 n k)

/-- The gradient at the layer's input, of the whole arrays. -/
def grad (x dh dxp : S4096x2048.Idx → EReal) (gain sc : S1x2048.Idx → EReal) (a : Fin 4096) (b : Fin 2048) : EReal :=
  dx (arrRow x a) (arrRow dh a) (arrRow dxp a) (vec gain) (vec sc) b

/-- The sums over the rows, of the whole arrays. -/
def sums (x dh dxp mix : S4096x2048.Idx → EReal) (gain sc : S1x2048.Idx → EReal) (q : Fin 8) (b : Fin 2048) : EReal :=
  ∑ n : Fin 4096, term (arrRow x n) (arrRow dh n) (arrRow dxp n) (arrRow mix n) (vec gain) (vec sc) q b

/-- A point's rows are rows of the whole arrays. -/
theorem r0 (t : Fin cfg0.N) (a : Fin 256) : blockRow (iblk m c 0 t) a = arrRow (m ((c : Thread nD τ).loc main_arg0)) (row t a) := funext (e0 m c t a)
theorem r1 (t : Fin cfg0.N) (a : Fin 256) : blockRow (iblk m c 1 t) a = arrRow (m ((c : Thread nD τ).loc main_arg1)) (row t a) := funext (e1 m c t a)
theorem r2 (t : Fin cfg0.N) (a : Fin 256) : blockRow (iblk m c 2 t) a = arrRow (m ((c : Thread nD τ).loc main_arg2)) (row t a) := funext (e2 m c t a)
theorem r3 (t : Fin cfg0.N) (a : Fin 256) : blockRow (iblk m c 3 t) a = arrRow (m ((c : Thread nD τ).loc main_arg3)) (row t a) := funext (e3 m c t a)
theorem r4 (t : Fin cfg0.N) : vec (iblk m c 4 t) = vec (m ((c : Thread nD τ).loc main_arg4)) := funext (e4 m c t)
theorem r5 (t : Fin cfg0.N) : vec (iblk m c 5 t) = vec (m ((c : Thread nD τ).loc main_arg5)) := funext (e5 m c t)
/-- The two arrays after the run. -/
theorem final6 : ((dats m 0 c).arrAt 6 cfg0.N : S4096x2048.Idx → EReal)
    = fun i => grad (m ((c : Thread nD τ).loc main_arg0)) (m ((c : Thread nD τ).loc main_arg1)) (m ((c : Thread nD τ).loc main_arg2))
        (m ((c : Thread nD τ).loc main_arg4)) (m ((c : Thread nD τ).loc main_arg5)) (i 0) (i 1) := by
  refine (dats m 0 c).arrAt_eq_of_covers 6 _ (by decide +kernel) fun t hf y => ?_
  obtain ⟨a, b, rfl⟩ : ∃ (a : Fin 256) (b : Fin 2048), y = ix2 a b := ⟨y 0, y 1, eq_ix2 y⟩
  have e : (((cfg0.win 6).blk t).view.emb (ix2 a b) : S4096x2048.Idx) = ix2 (row t a) b := by
    blk_ext [row, idx t]
  rw [e]
  blk_simp
  rw [after0_6, block6]
  rw [r0, r1, r2, r4, r5]
  rfl

/-- The sums after the last point. -/
theorem carry (t : Fin cfg0.N) (ht : t.val % 16 = 16 - 1) (i : S8x2048.Idx) : ((outsAt0 m c t.val t.isLt).2 : S8x2048.Idx → EReal) i
    = 0 + ∑ s : Fin 16, adds m c ⟨16 * (t.val / 16) + s.val, Pipeline.run_point_lt_of_flush t ht s⟩ (i 0) (i 1) := by
  refine Pipeline.eq_sum_fin_of_reset_step_apply_of_flush (fun n h => ((outsAt0 m c n h).2 : S8x2048.Idx → EReal)) 16 (fun _ => 0)
    (fun t i => adds m c t (i 0) (i 1)) (fun t h i => ?_) (fun t h i => ?_) t ht i
  · obtain ⟨a, b, rfl⟩ : ∃ (a : Fin 8) (b : Fin 2048), i = ix2 a b := ⟨i 0, i 1, eq_ix2 i⟩
    exact first m c t h a b
  · obtain ⟨a, b, rfl⟩ : ∃ (a : Fin 8) (b : Fin 2048), i = ix2 a b := ⟨i 0, i 1, eq_ix2 i⟩
    exact later m c t h a b

theorem final7 : ((dats m 0 c).arrAt 7 cfg0.N : S8x2048.Idx → EReal)
    = fun i => sums (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) := by
  refine (dats m 0 c).arrAt_eq_of_covers 7 _ (by decide +kernel) fun t hf y => ?_
  have ht : t.val % 16 = 15 := (flush0_7 t).mp hf
  obtain ⟨q, b, rfl⟩ : ∃ (q : Fin 8) (b : Fin 2048), y = ix2 q b := ⟨y 0, y 1, eq_ix2 y⟩
  have e : (((cfg0.win 7).blk t).view.emb (ix2 q b) : S8x2048.Idx) = ix2 q b := by
    blk_ext [idx t]
  rw [e]
  blk_simp
  rw [after0_7, carry m c t ht, zero_add]
  unfold sums adds
  have h16 : t.val < 16 := (idx t).2.2.2.2.2.2.2.2
  refine Fin.sum_mul_add_congr (M := EReal) fun s n hl => ?_
  rw [r0, r1, r2, r3, r4, r5]
  have er : row ⟨16 * (t.val / 16) + s.val, Pipeline.run_point_lt_of_flush t ht s⟩ n = ⟨_, hl⟩ := by
    refine Fin.ext ?_
    show (16 * (t.val / 16) + s.val) * 256 + n.val = s.val * 256 + n.val
    omega
  rw [er]

/-- The call and its idealization have the same text: one body. -/
theorem body_same {F : FTy → Type} [FloatOps F] (i a1 h1 a2 h2 a3 h3 a4 h4 a5 h5 a6 h6 a7 h7 a8 h8) :
    Cert.NormBwdFirst.cc0_norm_mix0_bwd (F := F) i a1 h1 a2 h2 a3 h3 a4 h4 a5 h5 a6 h6 a7 h7 a8 h8 = cc0_norm_mix0_bwd (F := F) i a1 h1 a2 h2 a3 h3 a4 h4 a5 h5 a6 h6 a7 h7 a8 h8 := rfl

/-- One table of bodies and regions. -/
theorem table_same {F : FTy → Type} [FloatOps F] : Cert.NormBwdFirst.defs (F := F) = defs (F := F) := by
  have h : Cert.NormBwdFirst.defs₀ (F := F) = defs₀ (F := F) := by
    unfold Cert.NormBwdFirst.defs₀ defs₀
    congr 1
    funext x
    match x with
    | (0 : Fin 1) =>
      funext y
      obtain ⟨t, s⟩ := y
      exact body_same _ _ _ _ _ _ _ _ _ _ _ _ _ _ _ _ _
  unfold Cert.NormBwdFirst.defs defs
  rw [h]
  rfl

/-- One program. -/
theorem main_same {F : FTy → Type} [FloatOps F] : Cert.NormBwdFirst.main (F := F) = main (F := F) := rfl

theorem frame_kernel : Cert.quiescent_NormBwdFirst := fun m ρ _ => by
  rw [table_same, main_same]; exact frame m ρ

theorem frame_ideal : Cert.quiescent_NormBwdFirstIdeal := fun m ρ _ => frame m ρ

theorem frame_reference : Cert.quiescent_NormBwdFirstReferenceIdeal := fun m ρ _ =>
  (θ_run Cert.NormBwdFirstReferenceIdeal.defs _ _).mono (fun r h => ⟨fun c => (h c).2.2, sem_eq_zero_of_no_sems (by decide) r.2⟩)
    (Cert.NormBwdFirstReferenceIdeal.Value.run (F := Ideal) m ρ)
section Reference

variable (m' : (ℓ : Loc Cert.NormBwdFirstReferenceIdeal.nD Cert.NormBwdFirstReferenceIdeal.τ Cert.NormBwdFirstReferenceIdeal.sig) → Buf (Elt Ideal) ℓ)
  (c' : Dev Cert.NormBwdFirstReferenceIdeal.nD) (a : Fin 4096) (b : Fin 2048)

/-- The reference's gradient at the input, at a row and a column. -/
theorem ref6 : (Cert.NormBwdFirstReferenceIdeal.Value.res_main_v57 m' c' : S4096x2048.Idx → EReal) (ix2 a b)
    = grad (m' (c'.tc.loc Cert.NormBwdFirstReferenceIdeal.main_arg0)) (m' (c'.tc.loc Cert.NormBwdFirstReferenceIdeal.main_arg1))
        (m' (c'.tc.loc Cert.NormBwdFirstReferenceIdeal.main_arg2)) (m' (c'.tc.loc Cert.NormBwdFirstReferenceIdeal.main_arg4))
        (m' (c'.tc.loc Cert.NormBwdFirstReferenceIdeal.main_arg5)) a b := by
  unfold Cert.NormBwdFirstReferenceIdeal.Value.res_main_v57
  unfold grad dx
  rw [← dnorm_eq]
  unfold through inv
  generalize hx : (m' (c'.tc.loc Cert.NormBwdFirstReferenceIdeal.main_arg0)) = x
  generalize hd : (m' (c'.tc.loc Cert.NormBwdFirstReferenceIdeal.main_arg1)) = d
  generalize hp : (m' (c'.tc.loc Cert.NormBwdFirstReferenceIdeal.main_arg2)) = p
  generalize hg : (m' (c'.tc.loc Cert.NormBwdFirstReferenceIdeal.main_arg4)) = gain
  generalize hs : (m' (c'.tc.loc Cert.NormBwdFirstReferenceIdeal.main_arg5)) = sc
  clear hx hd hp hg hs
  change S4096x2048.Idx → EReal at x
  change S4096x2048.Idx → EReal at d
  change S4096x2048.Idx → EReal at p
  change S1x2048.Idx → EReal at gain
  change S1x2048.Idx → EReal at sc
  pointwise
  exact gather _ _ _ _

end Reference

/-- The results are the reference's. -/
theorem values : Cert.algebraic_NormBwdFirstIdeal_NormBwdFirstReferenceIdeal := by
  intro m g m' g' _ hagree
  refine ⟨_, _, (θ_run defs _ _).mono (fun r h c => ⟨(h c).1.trans (final6 m c), (h c).2.1.trans (final7 m c), (h c).2.2⟩) (Value.run_blocks m g),
    (θ_run Cert.NormBwdFirstReferenceIdeal.defs _ _).mono (fun r h c => ⟨(h c).1.trans ?_, (h c).2.1.trans ?_, (h c).2.2⟩) (Cert.NormBwdFirstReferenceIdeal.Value.run (F := Ideal) m' g')⟩
  · obtain ⟨e0, e1, e2, e3, e4, e5⟩ := hagree c
    clear h
    funext i
    obtain ⟨a, b, rfl⟩ : ∃ (a : Fin 4096) (b : Fin 2048), i = ix2 a b := ⟨i 0, i 1, eq_ix2 i⟩
    exact (ref6 m' c a b).trans (by rw [e0, e1, e2, e4, e5]; rfl)
  · obtain ⟨e0, e1, e2, e3, e4, e5⟩ := hagree c
    clear h
    rw [e0, e1, e2, e3, e4, e5]
    clear e0 e1 e2 e3 e4 e5 hagree
    funext i
    obtain ⟨a, b, rfl⟩ : ∃ (a : Fin 8) (b : Fin 2048), i = ix2 a b := ⟨i 0, i 1, eq_ix2 i⟩
    pointwise
    unfold sums term inv
    generalize hx : (m (c.tc.loc main_arg0)) = x
    generalize hd : (m (c.tc.loc main_arg1)) = d
    generalize hp : (m (c.tc.loc main_arg2)) = p
    generalize hq : (m (c.tc.loc main_arg3)) = q
    generalize hg : (m (c.tc.loc main_arg4)) = gain
    generalize hs : (m (c.tc.loc main_arg5)) = sc
    clear hx hd hp hq hg hs
    change S4096x2048.Idx → EReal at x
    change S4096x2048.Idx → EReal at d
    change S4096x2048.Idx → EReal at p
    change S4096x2048.Idx → EReal at q
    change S1x2048.Idx → EReal at gain
    change S1x2048.Idx → EReal at sc
    simp only [arrRow, vec]
    by_cases h0 : a.val = 0
    · simp only [if_pos h0]
      rw [dif_pos (by omega)]
    simp only [if_neg h0]
    rw [dif_neg (by omega)]
    by_cases h1 : a.val = 1
    · simp only [if_pos h1]
      rw [dif_pos (by omega)]
      exact Finset.sum_congr rfl fun n _ => mul_comm _ _
    simp only [if_neg h1]
    rw [dif_neg (by omega)]
    by_cases h2 : a.val = 2
    · simp only [if_pos h2]
      rw [dif_pos (by omega)]
      exact Finset.sum_congr rfl fun n _ => mul_comm _ _
    simp only [if_neg h2]
    rw [dif_neg (by omega)]
    by_cases h3 : a.val = 3
    · simp only [if_pos h3]
      rw [dif_pos (by omega)]
    simp only [if_neg h3]
    rw [dif_neg (by omega), Finset.sum_const_zero]

end Cert.Proof.NormBwdFirst

end
-- ==== Proof.AdamwSmall.lean ====
/-
  The optimiser on the small weights: the sum of the gradients over the devices, the step, and the moments.
-/
module

public import Idealize.ShloMosaic.Lib.Pipeline.ValueKit
public import Idealize.ShloMosaic.Lib.Pointwise
public import proofs.«01_k».proof.Defs
public import proofs.«01_k».proof.Proof.Gen.AdamwSmall
public import proofs.«01_k».proof.Proof.Gen.AdamwSmallIdeal.Value
public import proofs.«01_k».proof.Proof.Gen.AdamwSmallReferenceIdeal
public import proofs.«01_k».proof.Proof.Gen.AdamwSmallReferenceIdeal.Run
public import Idealize.ShloMosaic.Adequacy
public import Idealize.ShloMosaic.Init
public import Idealize.ShloMosaic.Lib.Pipeline.ReadBack

@[expose] public section

set_option maxHeartbeats 800000

noncomputable section

namespace Cert.Proof.AdamwSmall

open Cert.AdamwSmallIdeal Cert.AdamwSmallIdeal.Gen
open Idealize.ShloMosaic Idealize.ShloMosaic.TcCoe Idealize.SL.Sem

/-- The row of the gathered gradients that a row of the small weights has: the shared ones of the twelve, and the last norm's six times. -/
def src (r : Fin 24) : Fin 24 :=
  ⟨if r.val < 5 then r.val else if r.val = 5 then 6 else if r.val < 18 then r.val + 2 else 7, by split_ifs <;> omega⟩

/-- The gradients: the sum over the devices. -/
def grad (X : S8x24x2048.Idx → EReal) (y : S24x2048.Idx) : EReal := ∑ d : Fin 8, X (ix3 d (src (y 0)) (y 1))

/-- A load of a device's row. -/
theorem ld (k s : Nat) (hk : k < 8) (hs : s < 24) (inb) (X : S8x24x2048.Idx → EReal) (j : Fin 2048) :
    View.ld (Val := fun _ => EReal) (e' := .f32) X (Rect.unit (s := S8x24x2048) ![k, s, 0] ![1, 1, 2048] inb) (ix3 0 0 j) = X (ix3 ⟨k, hk⟩ ⟨s, hs⟩ j) := by
  refine congrArg X (funext fun d => ?_)
  fin_cases d <;> refine Fin.ext ?_ <;> simp [ix3, Rect.emb, Rect.unit]

/-- The eight devices' rows, added one after another. -/
theorem eight (s : Nat) (hs : s < 24) (X : S8x24x2048.Idx → EReal) (i0 i1 i2 i3 i4 i5 i6 i7) (j : Fin 2048) :
    View.ld (Val := fun _ => EReal) (e' := .f32) X (Rect.unit (s := S8x24x2048) ![0, s, 0] ![1, 1, 2048] i0) (ix3 0 0 j)
      + View.ld (Val := fun _ => EReal) (e' := .f32) X (Rect.unit (s := S8x24x2048) ![1, s, 0] ![1, 1, 2048] i1) (ix3 0 0 j)
      + View.ld (Val := fun _ => EReal) (e' := .f32) X (Rect.unit (s := S8x24x2048) ![2, s, 0] ![1, 1, 2048] i2) (ix3 0 0 j)
      + View.ld (Val := fun _ => EReal) (e' := .f32) X (Rect.unit (s := S8x24x2048) ![3, s, 0] ![1, 1, 2048] i3) (ix3 0 0 j)
      + View.ld (Val := fun _ => EReal) (e' := .f32) X (Rect.unit (s := S8x24x2048) ![4, s, 0] ![1, 1, 2048] i4) (ix3 0 0 j)
      + View.ld (Val := fun _ => EReal) (e' := .f32) X (Rect.unit (s := S8x24x2048) ![5, s, 0] ![1, 1, 2048] i5) (ix3 0 0 j)
      + View.ld (Val := fun _ => EReal) (e' := .f32) X (Rect.unit (s := S8x24x2048) ![6, s, 0] ![1, 1, 2048] i6) (ix3 0 0 j)
      + View.ld (Val := fun _ => EReal) (e' := .f32) X (Rect.unit (s := S8x24x2048) ![7, s, 0] ![1, 1, 2048] i7) (ix3 0 0 j)
      = ∑ d : Fin 8, X (ix3 d ⟨s, hs⟩ j) := by
  rw [Fin.sum_univ_eight, ld 0 s (by decide) hs, ld 1 s (by decide) hs, ld 2 s (by decide) hs, ld 3 s (by decide) hs, ld 4 s (by decide) hs,
    ld 5 s (by decide) hs, ld 6 s (by decide) hs, ld 7 s (by decide) hs]
  rfl

/-- A store of a row of the gradients is a block of them. -/
theorem store (r : Nat) (hr : r < 24) (s : Nat) (hs : s < 24) (e : (src ⟨r, hr⟩).val = s) (inb) (X : S8x24x2048.Idx → EReal) (w : S1x2048.Idx → EReal)
    (hw : ∀ b, w (ix2 0 b) = ∑ d : Fin 8, X (ix3 d ⟨s, hs⟩ b)) :
    ∀ x, w x = grad X ((Rect.unit (s := S24x2048) ![r, 0] ![1, 2048] inb).emb x) := by
  intro x
  obtain ⟨b, rfl⟩ : ∃ (b : Fin 2048), x = ix2 0 b := ⟨x 1, (eq_ix2 x).trans (congrArg (fun z => ix2 z (x 1)) (Fin.fin_one_eq_zero (x 0)))⟩
  have hx : (Rect.unit (s := S24x2048) ![r, 0] ![1, 2048] inb).emb (ix2 0 b : S1x2048.Idx) = (ix2 ⟨r, hr⟩ b : S24x2048.Idx) := by
    funext d
    fin_cases d <;> refine Fin.ext ?_ <;> simp [ix2, Rect.emb, Rect.unit]
  rw [hw, hx]
  have h : src ⟨r, hr⟩ = ⟨s, hs⟩ := Fin.ext e
  unfold grad
  refine Finset.sum_congr (M := EReal) rfl fun d _ => ?_
  rw [← h]
  rfl

/-- The rows' payloads: the eight devices' rows, added one after another. -/
theorem pay0 (a b d e f g h l : S1x1x2048.Idx → EReal) (j : Fin 2048) : k0_pay2 (F := Ideal) a b d e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay2]

theorem pay1 (a b d e f g h l : S1x1x2048.Idx → EReal) (j : Fin 2048) : k0_pay4 (F := Ideal) (k0_pay3 (F := Ideal) a) b d e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay3, k0_pay4]

theorem pay2 (a b d e f g h l : S1x1x2048.Idx → EReal) (j : Fin 2048) : k0_pay6 (F := Ideal) (k0_pay5 (F := Ideal) a b d) e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay5, k0_pay6]

theorem pay3 (a b d e f g h l : S1x1x2048.Idx → EReal) (j : Fin 2048) : k0_pay8 (F := Ideal) (k0_pay7 (F := Ideal) a b d e) f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay7, k0_pay8]

theorem pay4 (a b d e f g h l : S1x1x2048.Idx → EReal) (j : Fin 2048) : k0_pay10 (F := Ideal) (k0_pay9 (F := Ideal) a b d e f g) h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay9, k0_pay10]

theorem pay5 (a b d e f g h l : S1x1x2048.Idx → EReal) (j : Fin 2048) : k0_pay12 (F := Ideal) (k0_pay11 (F := Ideal) a b d e f g h) l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay11, k0_pay12]

theorem pay6 (a b d e f g h l : S1x1x2048.Idx → EReal) (j : Fin 2048) : k0_pay13 (F := Ideal) a b d e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay13]

theorem pay7 (a b d e f g h l : S1x1x2048.Idx → EReal) (j : Fin 2048) : k0_pay14 (F := Ideal) a b d e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay14]

theorem pay8 (a b d e f g h l : S1x1x2048.Idx → EReal) (j : Fin 2048) : k0_pay16 (F := Ideal) (k0_pay15 (F := Ideal) a b) d e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay15, k0_pay16]

theorem pay9 (a b d e f g h l : S1x1x2048.Idx → EReal) (j : Fin 2048) : k0_pay18 (F := Ideal) (k0_pay17 (F := Ideal) a b d) e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay17, k0_pay18]

theorem pay10 (a b d e f g h l : S1x1x2048.Idx → EReal) (j : Fin 2048) : k0_pay20 (F := Ideal) (k0_pay19 (F := Ideal) a b d e f) g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay19, k0_pay20]

theorem pay11 (a b d e f g h l : S1x1x2048.Idx → EReal) (j : Fin 2048) : k0_pay22 (F := Ideal) (k0_pay21 (F := Ideal) a b d e f g) h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay21, k0_pay22]

theorem pay12 (a b d e f g h l : S1x1x2048.Idx → EReal) (j : Fin 2048) : k0_pay23 (F := Ideal) a b d e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay23]

theorem pay13 (a b d e f g h l : S1x1x2048.Idx → EReal) (j : Fin 2048) : k0_pay24 (F := Ideal) a b d e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay24]

theorem pay14 (a b d e f g h l : S1x1x2048.Idx → EReal) (j : Fin 2048) : k0_pay26 (F := Ideal) (k0_pay25 (F := Ideal) a) b d e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay25, k0_pay26]

theorem pay15 (a b d e f g h l : S1x1x2048.Idx → EReal) (j : Fin 2048) : k0_pay28 (F := Ideal) (k0_pay27 (F := Ideal) a b) d e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay27, k0_pay28]

theorem pay16 (a b d e f g h l : S1x1x2048.Idx → EReal) (j : Fin 2048) : k0_pay30 (F := Ideal) (k0_pay29 (F := Ideal) a b d e) f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay29, k0_pay30]

theorem pay17 (a b d e f g h l : S1x1x2048.Idx → EReal) (j : Fin 2048) : k0_pay32 (F := Ideal) (k0_pay31 (F := Ideal) a b d e f) g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay31, k0_pay32]

theorem pay18 (a b d e f g h l : S1x1x2048.Idx → EReal) (j : Fin 2048) : k0_pay34 (F := Ideal) (k0_pay33 (F := Ideal) a b d e f g h) l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay33, k0_pay34]

theorem pay19 (a b d e f g h l : S1x1x2048.Idx → EReal) (j : Fin 2048) : k0_pay35 (F := Ideal) a b d e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay35]

theorem pay20 (a b d e f g h l : S1x1x2048.Idx → EReal) (j : Fin 2048) : k0_pay36 (F := Ideal) a b d e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay36]

theorem pay21 (a b d e f g h l : S1x1x2048.Idx → EReal) (j : Fin 2048) : k0_pay38 (F := Ideal) (k0_pay37 (F := Ideal) a) b d e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay37, k0_pay38]

theorem pay22 (a b d e f g h l : S1x1x2048.Idx → EReal) (j : Fin 2048) : k0_pay40 (F := Ideal) (k0_pay39 (F := Ideal) a b d) e f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay39, k0_pay40]

theorem pay23 (a b d e f g h l : S1x1x2048.Idx → EReal) (j : Fin 2048) : k0_pay42 (F := Ideal) (k0_pay41 (F := Ideal) a b d e) f g h l (ix2 0 j)
    = a (ix3 0 0 j) + b (ix3 0 0 j) + d (ix3 0 0 j) + e (ix3 0 0 j) + f (ix3 0 0 j) + g (ix3 0 0 j) + h (ix3 0 0 j) + l (ix3 0 0 j) := by
  pointwise [k0_pay41, k0_pay42]

variable (m : (ℓ : Loc nD τ sig) → Buf (Elt Ideal) ℓ) (c : Dev nD)

/-- What the twenty-four stores leave. -/
theorem block4 (t : Fin cfg0.N) (y : S24x2048.Idx) : (outsAt0 m c t).1 y = grad (iblk m c 3 t) y := by
  unfold outsAt0
  generalize hX : (iblk m c 3 t : S8x24x2048.Idx → EReal) = X
  frame_out
  simp only [read_unread_whole]
  refine View.canon_apply_of_pieces (Val := Elt Ideal) (e := .f32) (grad X) _ (View.PiecesOf.mem ?_) y (View.cover_of_tiledL (s := S24x2048) _ S1x2048.size (by sl_kernel_rfl) y)
  refine ⟨?_, ?_, ?_, ?_, ?_, ?_, ?_, ?_, ?_, ?_, ?_, ?_, ?_, ?_, ?_, ?_, ?_, ?_, ?_, ?_, ?_, ?_, ?_, ?_, trivial⟩
  · exact store 23 (by decide) 7 (by decide) (by decide) inb_S24x2048_S1x2048_23_0 X _ fun b => (pay23 _ _ _ _ _ _ _ _ b).trans (eight 7 (by decide) X _ _ _ _ _ _ _ _ b)
  · exact store 22 (by decide) 7 (by decide) (by decide) inb_S24x2048_S1x2048_22_0 X _ fun b => (pay22 _ _ _ _ _ _ _ _ b).trans (eight 7 (by decide) X _ _ _ _ _ _ _ _ b)
  · exact store 21 (by decide) 7 (by decide) (by decide) inb_S24x2048_S1x2048_21_0 X _ fun b => (pay21 _ _ _ _ _ _ _ _ b).trans (eight 7 (by decide) X _ _ _ _ _ _ _ _ b)
  · exact store 20 (by decide) 7 (by decide) (by decide) inb_S24x2048_S1x2048_20_0 X _ fun b => (pay20 _ _ _ _ _ _ _ _ b).trans (eight 7 (by decide) X _ _ _ _ _ _ _ _ b)
  · exact store 19 (by decide) 7 (by decide) (by decide) inb_S24x2048_S1x2048_19_0 X _ fun b => (pay19 _ _ _ _ _ _ _ _ b).trans (eight 7 (by decide) X _ _ _ _ _ _ _ _ b)
  · exact store 18 (by decide) 7 (by decide) (by decide) inb_S24x2048_S1x2048_18_0 X _ fun b => (pay18 _ _ _ _ _ _ _ _ b).trans (eight 7 (by decide) X _ _ _ _ _ _ _ _ b)
  · exact store 17 (by decide) 19 (by decide) (by decide) inb_S24x2048_S1x2048_17_0 X _ fun b => (pay17 _ _ _ _ _ _ _ _ b).trans (eight 19 (by decide) X _ _ _ _ _ _ _ _ b)
  · exact store 16 (by decide) 18 (by decide) (by decide) inb_S24x2048_S1x2048_16_0 X _ fun b => (pay16 _ _ _ _ _ _ _ _ b).trans (eight 18 (by decide) X _ _ _ _ _ _ _ _ b)
  · exact store 15 (by decide) 17 (by decide) (by decide) inb_S24x2048_S1x2048_15_0 X _ fun b => (pay15 _ _ _ _ _ _ _ _ b).trans (eight 17 (by decide) X _ _ _ _ _ _ _ _ b)
  · exact store 14 (by decide) 16 (by decide) (by decide) inb_S24x2048_S1x2048_14_0 X _ fun b => (pay14 _ _ _ _ _ _ _ _ b).trans (eight 16 (by decide) X _ _ _ _ _ _ _ _ b)
  · exact store 13 (by decide) 15 (by decide) (by decide) inb_S24x2048_S1x2048_13_0 X _ fun b => (pay13 _ _ _ _ _ _ _ _ b).trans (eight 15 (by decide) X _ _ _ _ _ _ _ _ b)
  · exact store 12 (by decide) 14 (by decide) (by decide) inb_S24x2048_S1x2048_12_0 X _ fun b => (pay12 _ _ _ _ _ _ _ _ b).trans (eight 14 (by decide) X _ _ _ _ _ _ _ _ b)
  · exact store 11 (by decide) 13 (by decide) (by decide) inb_S24x2048_S1x2048_11_0 X _ fun b => (pay11 _ _ _ _ _ _ _ _ b).trans (eight 13 (by decide) X _ _ _ _ _ _ _ _ b)
  · exact store 10 (by decide) 12 (by decide) (by decide) inb_S24x2048_S1x2048_10_0 X _ fun b => (pay10 _ _ _ _ _ _ _ _ b).trans (eight 12 (by decide) X _ _ _ _ _ _ _ _ b)
  · exact store 9 (by decide) 11 (by decide) (by decide) inb_S24x2048_S1x2048_9_0 X _ fun b => (pay9 _ _ _ _ _ _ _ _ b).trans (eight 11 (by decide) X _ _ _ _ _ _ _ _ b)
  · exact store 8 (by decide) 10 (by decide) (by decide) inb_S24x2048_S1x2048_8_0 X _ fun b => (pay8 _ _ _ _ _ _ _ _ b).trans (eight 10 (by decide) X _ _ _ _ _ _ _ _ b)
  · exact store 7 (by decide) 9 (by decide) (by decide) inb_S24x2048_S1x2048_7_0 X _ fun b => (pay7 _ _ _ _ _ _ _ _ b).trans (eight 9 (by decide) X _ _ _ _ _ _ _ _ b)
  · exact store 6 (by decide) 8 (by decide) (by decide) inb_S24x2048_S1x2048_6_0 X _ fun b => (pay6 _ _ _ _ _ _ _ _ b).trans (eight 8 (by decide) X _ _ _ _ _ _ _ _ b)
  · exact store 5 (by decide) 6 (by decide) (by decide) inb_S24x2048_S1x2048_5_0 X _ fun b => (pay5 _ _ _ _ _ _ _ _ b).trans (eight 6 (by decide) X _ _ _ _ _ _ _ _ b)
  · exact store 4 (by decide) 4 (by decide) (by decide) inb_S24x2048_S1x2048_4_0 X _ fun b => (pay4 _ _ _ _ _ _ _ _ b).trans (eight 4 (by decide) X _ _ _ _ _ _ _ _ b)
  · exact store 3 (by decide) 3 (by decide) (by decide) inb_S24x2048_S1x2048_3_0 X _ fun b => (pay3 _ _ _ _ _ _ _ _ b).trans (eight 3 (by decide) X _ _ _ _ _ _ _ _ b)
  · exact store 2 (by decide) 2 (by decide) (by decide) inb_S24x2048_S1x2048_2_0 X _ fun b => (pay2 _ _ _ _ _ _ _ _ b).trans (eight 2 (by decide) X _ _ _ _ _ _ _ _ b)
  · exact store 1 (by decide) 1 (by decide) (by decide) inb_S24x2048_S1x2048_1_0 X _ fun b => (pay1 _ _ _ _ _ _ _ _ b).trans (eight 1 (by decide) X _ _ _ _ _ _ _ _ b)
  · exact store 0 (by decide) 0 (by decide) (by decide) inb_S24x2048_S1x2048_0_0 X _ fun b => (pay0 _ _ _ _ _ _ _ _ b).trans (eight 0 (by decide) X _ _ _ _ _ _ _ _ b)

/-- The second half of the step: the moments, and what the weight gains. -/
def mom1 (g m : EReal) : EReal := Ideal.ofBits .f32 0x3F666666#32 * m + Ideal.ofBits .f32 0x3DCCCCCD#32 * g

def mom2 (g v : EReal) : EReal := Ideal.ofBits .f32 0x3F7FBE77#32 * v + Ideal.ofBits .f32 0x3A83126F#32 * (g * g)

def step (w g m v : EReal) : EReal :=
  Ideal.ofBits .f32 0xBA83126F#32
    * (Ideal.div (Ideal.div (mom1 g m) (Ideal.ofBits .f32 0x3F26BD02#32))
        (Ideal.sqrt (Ideal.div (mom2 g v) (Ideal.ofBits .f32 0x3C231ACC#32)) + Ideal.ofBits .f32 0x322BCC77#32)
      + Ideal.ofBits .f32 0x3C23D70A#32 * w)

/-- The step's payloads. -/
theorem payStep (w g m v : S24x2048.Idx → EReal) (y : S24x2048.Idx) :
    k0_pay1 (F := Ideal) w (k0_pay46 (F := Ideal) g m) (k0_pay47 (F := Ideal) g v) (FloatOps.ofBits .f32 0x322BCC77#32) y = step (w y) (g y) (m y) (v y) := by
  obtain ⟨a, b, rfl⟩ : ∃ (a : Fin 24) (b : Fin 2048), y = ix2 a b := ⟨y 0, y 1, eq_ix2 y⟩
  unfold step mom1 mom2
  pointwise [k0_pay1, k0_pay46, k0_pay47, k0_pay45, k0_pay44, k0_pay43]

theorem payMom1 (g m : S24x2048.Idx → EReal) (y : S24x2048.Idx) : k0_pay44 (F := Ideal) g m y = mom1 (g y) (m y) := by
  obtain ⟨a, b, rfl⟩ : ∃ (a : Fin 24) (b : Fin 2048), y = ix2 a b := ⟨y 0, y 1, eq_ix2 y⟩
  unfold mom1
  pointwise [k0_pay44, k0_pay43]

theorem payMom2 (g v : S24x2048.Idx → EReal) (y : S24x2048.Idx) : k0_pay45 (F := Ideal) g v y = mom2 (g y) (v y) := by
  obtain ⟨a, b, rfl⟩ : ∃ (a : Fin 24) (b : Fin 2048), y = ix2 a b := ⟨y 0, y 1, eq_ix2 y⟩
  unfold mom2
  pointwise [k0_pay45, k0_pay43]

/-- A load of the whole of an array. -/
theorem idx_all (inb) (G : S24x2048.Idx → EReal) : (fun j : S24x2048.Idx => G ((Rect.unit (s := S24x2048) ![0, 0] ![24, 2048] inb).idx j)) = G := by
  funext j
  refine congrArg G (funext fun d => ?_)
  fin_cases d <;> refine Fin.ext ?_ <;> simp [Rect.unit]

/-- The step and the moments, of the gradients the stores leave. -/
theorem block5 (t : Fin cfg0.N) (y : S24x2048.Idx) : (outsAt0 m c t).2.1 y = step (iblk m c 0 t y) (grad (iblk m c 3 t) y) (iblk m c 1 t y) (iblk m c 2 t y) := by
  have h4 : ∀ y, _ := fun y => block4 m c t y
  unfold outsAt0 at h4 ⊢
  frame_out at h4 ⊢
  have h5 := funext h4
  clear h4
  rw [View.readCov_eq_canon']
  erw [h5]
  clear h5
  simp only [read_unread_whole]
  erw [idx_all]
  exact payStep _ _ _ _ y

theorem block6 (t : Fin cfg0.N) (y : S24x2048.Idx) : (outsAt0 m c t).2.2.1 y = mom1 (grad (iblk m c 3 t) y) (iblk m c 1 t y) := by
  have h4 : ∀ y, _ := fun y => block4 m c t y
  unfold outsAt0 at h4 ⊢
  frame_out at h4 ⊢
  have h5 := funext h4
  clear h4
  rw [View.readCov_eq_canon']
  erw [h5]
  clear h5
  simp only [read_unread_whole]
  erw [idx_all]
  exact payMom1  _ _ y

theorem block7 (t : Fin cfg0.N) (y : S24x2048.Idx) : (outsAt0 m c t).2.2.2 y = mom2 (grad (iblk m c 3 t) y) (iblk m c 2 t y) := by
  have h4 : ∀ y, _ := fun y => block4 m c t y
  unfold outsAt0 at h4 ⊢
  frame_out at h4 ⊢
  have h5 := funext h4
  clear h4
  rw [View.readCov_eq_canon']
  erw [h5]
  clear h5
  simp only [read_unread_whole]
  erw [idx_all]
  exact payMom2  _ _ y

/-- The one point's blocks are the arrays. -/
theorem idx : ∀ t : Fin cfg0.N, win0_0.index t = ![0, 0] ∧ win0_1.index t = ![0, 0] ∧ win0_2.index t = ![0, 0] ∧ win0_3.index t = ![0, 0, 0]
    ∧ win0_4.index t = ![0, 0] ∧ win0_5.index t = ![0, 0] ∧ win0_6.index t = ![0, 0] ∧ win0_7.index t = ![0, 0] :=
  (by decide +kernel : ∀ t : Fin grid0.N, _)

theorem e0 (t : Fin cfg0.N) : (iblk m c 0 t : S24x2048.Idx → EReal) = m ((c : Thread nD τ).loc main_arg0) := by
  funext y
  obtain ⟨a, b, rfl⟩ : ∃ (a : Fin 24) (b : Fin 2048), y = ix2 a b := ⟨y 0, y 1, eq_ix2 y⟩
  blk_ext [iblk, V_main_arg0, idx t]

theorem e1 (t : Fin cfg0.N) : (iblk m c 1 t : S24x2048.Idx → EReal) = m ((c : Thread nD τ).loc main_arg1) := by
  funext y
  obtain ⟨a, b, rfl⟩ : ∃ (a : Fin 24) (b : Fin 2048), y = ix2 a b := ⟨y 0, y 1, eq_ix2 y⟩
  blk_ext [iblk, V_main_arg1, idx t]

theorem e2 (t : Fin cfg0.N) : (iblk m c 2 t : S24x2048.Idx → EReal) = m ((c : Thread nD τ).loc main_arg2) := by
  funext y
  obtain ⟨a, b, rfl⟩ : ∃ (a : Fin 24) (b : Fin 2048), y = ix2 a b := ⟨y 0, y 1, eq_ix2 y⟩
  blk_ext [iblk, V_main_arg2, idx t]

theorem e3 (t : Fin cfg0.N) : (iblk m c 3 t : S8x24x2048.Idx → EReal) = m ((c : Thread nD τ).loc main_arg3) := by
  funext y
  obtain ⟨a, b, d, rfl⟩ : ∃ (a : Fin 8) (b : Fin 24) (d : Fin 2048), y = ix3 a b d := ⟨y 0, y 1, y 2, eq_ix3 y⟩
  blk_ext [iblk, V_main_arg3, idx t]

/-- The four arrays after the run. -/
theorem final4 : ((dats m 0 c).arrAt 4 cfg0.N : S24x2048.Idx → EReal) = fun i => grad (m ((c : Thread nD τ).loc main_arg3)) i := by
  refine (dats m 0 c).arrAt_eq_of_covers 4 _ (by decide +kernel) fun t hf y => ?_
  obtain ⟨a, b, rfl⟩ : ∃ (a : Fin 24) (b : Fin 2048), y = ix2 a b := ⟨y 0, y 1, eq_ix2 y⟩
  have e : (((cfg0.win 4).blk t).view.emb (ix2 a b) : S24x2048.Idx) = ix2 a b := by
    blk_ext [idx t]
  rw [e]
  blk_simp
  rw [after0_4, block4, e3]

theorem final5 : ((dats m 0 c).arrAt 5 cfg0.N : S24x2048.Idx → EReal) = fun i => step ((m ((c : Thread nD τ).loc main_arg0) : S24x2048.Idx → EReal) i) (grad (m ((c : Thread nD τ).loc main_arg3)) i) ((m ((c : Thread nD τ).loc main_arg1) : S24x2048.Idx → EReal) i) ((m ((c : Thread nD τ).loc main_arg2) : S24x2048.Idx → EReal) i) := by
  refine (dats m 0 c).arrAt_eq_of_covers 5 _ (by decide +kernel) fun t hf y => ?_
  obtain ⟨a, b, rfl⟩ : ∃ (a : Fin 24) (b : Fin 2048), y = ix2 a b := ⟨y 0, y 1, eq_ix2 y⟩
  have e : (((cfg0.win 5).blk t).view.emb (ix2 a b) : S24x2048.Idx) = ix2 a b := by
    blk_ext [idx t]
  rw [e]
  blk_simp
  rw [after0_5, block5, e0, e1, e2, e3]

theorem final6 : ((dats m 0 c).arrAt 6 cfg0.N : S24x2048.Idx → EReal) = fun i => mom1 (grad (m ((c : Thread nD τ).loc main_arg3)) i) ((m ((c : Thread nD τ).loc main_arg1) : S24x2048.Idx → EReal) i) := by
  refine (dats m 0 c).arrAt_eq_of_covers 6 _ (by decide +kernel) fun t hf y => ?_
  obtain ⟨a, b, rfl⟩ : ∃ (a : Fin 24) (b : Fin 2048), y = ix2 a b := ⟨y 0, y 1, eq_ix2 y⟩
  have e : (((cfg0.win 6).blk t).view.emb (ix2 a b) : S24x2048.Idx) = ix2 a b := by
    blk_ext [idx t]
  rw [e]
  blk_simp
  rw [after0_6, block6, e1, e3]

theorem final7 : ((dats m 0 c).arrAt 7 cfg0.N : S24x2048.Idx → EReal) = fun i => mom2 (grad (m ((c : Thread nD τ).loc main_arg3)) i) ((m ((c : Thread nD τ).loc main_arg2) : S24x2048.Idx → EReal) i) := by
  refine (dats m 0 c).arrAt_eq_of_covers 7 _ (by decide +kernel) fun t hf y => ?_
  obtain ⟨a, b, rfl⟩ : ∃ (a : Fin 24) (b : Fin 2048), y = ix2 a b := ⟨y 0, y 1, eq_ix2 y⟩
  have e : (((cfg0.win 7).blk t).view.emb (ix2 a b) : S24x2048.Idx) = ix2 a b := by
    blk_ext [idx t]
  rw [e]
  blk_simp
  rw [after0_7, block7, e2, e3]

/-- The reference's gradients: the rows of the sum over the devices, one part after another. -/
theorem parts (T : Cert.AdamwSmallReferenceIdeal.S24x2048.Idx → EReal) :
    (concatenate Cert.AdamwSmallReferenceIdeal.S24x2048 0 [⟨Cert.AdamwSmallReferenceIdeal.S5x2048, ((extractStridedSlice (s := Cert.AdamwSmallReferenceIdeal.S24x2048) Cert.AdamwSmallReferenceIdeal.S5x2048 ![0, 0] T Cert.AdamwSmallReferenceIdeal.Gen.slices_S24x2048_S5x2048_0_0) : Cert.AdamwSmallReferenceIdeal.S5x2048.Idx → EReal)⟩, ⟨Cert.AdamwSmallReferenceIdeal.S1x2048, ((extractStridedSlice (s := Cert.AdamwSmallReferenceIdeal.S24x2048) Cert.AdamwSmallReferenceIdeal.S1x2048 ![6, 0] T Cert.AdamwSmallReferenceIdeal.Gen.slices_S24x2048_S1x2048_6_0) : Cert.AdamwSmallReferenceIdeal.S1x2048.Idx → EReal)⟩, ⟨Cert.AdamwSmallReferenceIdeal.S12x2048, ((extractStridedSlice (s := Cert.AdamwSmallReferenceIdeal.S24x2048) Cert.AdamwSmallReferenceIdeal.S12x2048 ![8, 0] T Cert.AdamwSmallReferenceIdeal.Gen.slices_S24x2048_S12x2048_8_0) : Cert.AdamwSmallReferenceIdeal.S12x2048.Idx → EReal)⟩, ⟨Cert.AdamwSmallReferenceIdeal.S6x2048, ((broadcastInDim Cert.AdamwSmallReferenceIdeal.S6x2048 ![0, 1] Cert.AdamwSmallReferenceIdeal.Gen.bcast_S1x2048_S6x2048_0_1 (extractStridedSlice (s := Cert.AdamwSmallReferenceIdeal.S24x2048) Cert.AdamwSmallReferenceIdeal.S1x2048 ![7, 0] T Cert.AdamwSmallReferenceIdeal.Gen.slices_S24x2048_S1x2048_7_0)) : Cert.AdamwSmallReferenceIdeal.S6x2048.Idx → EReal)⟩] Cert.AdamwSmallReferenceIdeal.Gen.concatenates_S5x2048_S1x2048_S12x2048_S6x2048_S24x2048_d0) = fun i => T (ix2 (src (i 0)) (i 1)) := by
  funext i
  obtain ⟨a, b, rfl⟩ : ∃ (a : Fin 24) (b : Fin 2048), i = ix2 a b := ⟨i 0, i 1, eq_ix2 i⟩
  pointwise
  have hs : (src a).val = if a.val < 5 then a.val else if a.val = 5 then 6 else if a.val < 18 then a.val + 2 else 7 := rfl
  by_cases h0 : a.val < 5
  · rw [dif_pos h0]
    refine congrArg (fun r => T (ix2 r b)) (Fin.ext ?_)
    rw [hs, if_pos h0]
  rw [dif_neg h0]
  rw [if_neg h0] at hs
  by_cases h1 : a.val = 5
  · rw [dif_pos (by omega)]
    refine congrArg (fun r => T (ix2 r b)) (Fin.ext ?_)
    rw [hs, if_pos h1]
    show 6 + (a.val - 5) = 6
    omega
  rw [dif_neg (by omega)]
  rw [if_neg h1] at hs
  by_cases h2 : a.val < 18
  · rw [dif_pos (by omega)]
    refine congrArg (fun r => T (ix2 r b)) (Fin.ext ?_)
    rw [hs, if_pos h2]
    show 8 + (a.val - 5 - 1) = a.val + 2
    omega
  rw [dif_neg (by omega)]
  refine congrArg (fun r => T (ix2 r b)) (Fin.ext ?_)
  rw [hs, if_neg h2]
  rfl

/-- The call and its idealization have the same text: one body. -/
theorem body_same {F : FTy → Type} [FloatOps F] (a1 h1 a2 h2 a3 h3 a4 h4 a5 h5 a6 h6 a7 h7 a8 h8) :
    Cert.AdamwSmall.cc0_adamw_small (F := F) a1 h1 a2 h2 a3 h3 a4 h4 a5 h5 a6 h6 a7 h7 a8 h8 = cc0_adamw_small (F := F) a1 h1 a2 h2 a3 h3 a4 h4 a5 h5 a6 h6 a7 h7 a8 h8 := rfl

/-- One table of bodies and regions. -/
theorem table_same {F : FTy → Type} [FloatOps F] : Cert.AdamwSmall.defs (F := F) = defs (F := F) := by
  have h : Cert.AdamwSmall.defs₀ (F := F) = defs₀ (F := F) := by
    unfold Cert.AdamwSmall.defs₀ defs₀
    congr 1
    funext x
    match x with
    | (0 : Fin 1) =>
      funext y
      obtain ⟨t, s⟩ := y
      exact body_same _ _ _ _ _ _ _ _ _ _ _ _ _ _ _ _
  unfold Cert.AdamwSmall.defs defs
  rw [h]
  rfl

/-- One program. -/
theorem main_same {F : FTy → Type} [FloatOps F] : Cert.AdamwSmall.main (F := F) = main (F := F) := rfl

theorem frame_kernel : Cert.quiescent_AdamwSmall := fun m ρ _ => by
  rw [table_same, main_same]; exact frame m ρ

theorem frame_ideal : Cert.quiescent_AdamwSmallIdeal := fun m ρ _ => frame m ρ

theorem frame_reference : Cert.quiescent_AdamwSmallReferenceIdeal := fun m ρ _ =>
  (θ_run Cert.AdamwSmallReferenceIdeal.defs _ _).mono (fun r h => ⟨fun c => (h c).2.2.2.2, sem_eq_zero_of_no_sems (by decide) r.2⟩)
    (Cert.AdamwSmallReferenceIdeal.Value.run (F := Ideal) m ρ)

/-- The results are the reference's. -/
theorem values : Cert.algebraic_AdamwSmallIdeal_AdamwSmallReferenceIdeal := by
  intro m g m' g' _ hagree
  refine ⟨_, _, _, _, (θ_run defs _ _).mono (fun r h c => ⟨(h c).1.trans (final4 m c), (h c).2.1.trans (final5 m c), (h c).2.2.1.trans (final6 m c), (h c).2.2.2.1.trans (final7 m c), (h c).2.2.2.2⟩) (Value.run_blocks m g),
    (θ_run Cert.AdamwSmallReferenceIdeal.defs _ _).mono (fun r h c => ⟨(h c).1.trans ?_, (h c).2.1.trans ?_, (h c).2.2.1.trans ?_, (h c).2.2.2.1.trans ?_, (h c).2.2.2.2⟩) (Cert.AdamwSmallReferenceIdeal.Value.run (F := Ideal) m' g')⟩
  · obtain ⟨e0, e1, e2, e3⟩ := hagree c
    clear h
    rw [e3, parts]
    clear e0 e1 e2 e3 hagree
    funext i
    obtain ⟨a, b, rfl⟩ : ∃ (a : Fin 24) (b : Fin 2048), i = ix2 a b := ⟨i 0, i 1, eq_ix2 i⟩
    unfold grad
    pointwise
  · obtain ⟨e0, e1, e2, e3⟩ := hagree c
    clear h
    unfold Cert.AdamwSmallReferenceIdeal.Value.res_main_v30
    rw [e0, e1, e2, e3, parts]
    clear e0 e1 e2 e3 hagree
    funext i
    obtain ⟨a, b, rfl⟩ : ∃ (a : Fin 24) (b : Fin 2048), i = ix2 a b := ⟨i 0, i 1, eq_ix2 i⟩
    unfold step mom1 mom2 grad
    pointwise
  · obtain ⟨e0, e1, e2, e3⟩ := hagree c
    clear h
    rw [e1, e3, parts]
    clear e0 e1 e2 e3 hagree
    funext i
    obtain ⟨a, b, rfl⟩ : ∃ (a : Fin 24) (b : Fin 2048), i = ix2 a b := ⟨i 0, i 1, eq_ix2 i⟩
    unfold mom1 grad
    pointwise
  · obtain ⟨e0, e1, e2, e3⟩ := hagree c
    clear h
    rw [e2, e3, parts]
    clear e0 e1 e2 e3 hagree
    funext i
    obtain ⟨a, b, rfl⟩ : ∃ (a : Fin 24) (b : Fin 2048), i = ix2 a b := ⟨i 0, i 1, eq_ix2 i⟩
    unfold mom2 grad
    pointwise

end Cert.Proof.AdamwSmall

end
-- ==== Proof.LossSum.lean ====
/-
  The sum of the loss over the devices.
-/
module

public import Idealize.ShloMosaic.Lib.Pipeline.ValueKit
public import Idealize.ShloMosaic.Lib.Pointwise
public import proofs.«01_k».proof.Defs
public import proofs.«01_k».proof.Proof.Gen.LossSum
public import proofs.«01_k».proof.Proof.Gen.LossSumIdeal.Value
public import proofs.«01_k».proof.Proof.Gen.LossSumReferenceIdeal
public import proofs.«01_k».proof.Proof.Gen.LossSumReferenceIdeal.Run
public import Idealize.ShloMosaic.Adequacy
public import Idealize.ShloMosaic.Init

@[expose] public section

set_option maxHeartbeats 800000

noncomputable section

namespace Cert.Proof.LossSum

open Cert.LossSumIdeal Cert.LossSumIdeal.Gen
open Idealize.ShloMosaic Idealize.ShloMosaic.TcCoe Idealize.SL.Sem

/-- The eight devices' rows, added one after another. -/
theorem pay (a b d e f g h l : S1x1x2048.Idx → EReal) (i : Fin 8) (j : Fin 2048) : k0_pay1 (F := Ideal) a b d e f g h l (ix2 i j)
    = a (ix3 0 0 j) + b (ix3 0 0 j) + d (ix3 0 0 j) + e (ix3 0 0 j) + f (ix3 0 0 j) + g (ix3 0 0 j) + h (ix3 0 0 j) + l (ix3 0 0 j) := by
  pointwise [k0_pay1]

/-- A load of a device's row. -/
theorem ld (k : Nat) (hk : k < 8) (inb) (X : S8x24x2048.Idx → EReal) (j : Fin 2048) :
    View.ld (Val := fun _ => EReal) (e' := .f32) X (Rect.unit (s := S8x24x2048) ![k, 5, 0] S1x1x2048.size inb) (ix3 0 0 j) = X (ix3 ⟨k, hk⟩ 5 j) := by
  refine congrArg X (funext fun d => ?_)
  fin_cases d <;> refine Fin.ext ?_ <;> simp [ix3, Rect.emb, Rect.unit]

/-- What the call leaves: the sum over the devices, in each of the eight rows. -/
theorem total (X : S8x24x2048.Idx → EReal) (i : Fin 8) (j : Fin 2048) :
    Value.G1 (F := Ideal) X (ix2 i j) = ∑ d : Fin 8, X (ix3 d 5 j) := by
  unfold Value.G1
  rw [pay, Fin.sum_univ_eight]
  rw [ld 0 (by decide), ld 1 (by decide), ld 2 (by decide), ld 3 (by decide), ld 4 (by decide), ld 5 (by decide), ld 6 (by decide), ld 7 (by decide)]
  rfl

/-- The call and its idealization have the same text: one body. -/
theorem body_same {F : FTy → Type} [FloatOps F] (a1 h1 a2 h2) :
    Cert.LossSum.cc0_loss_sum (F := F) a1 h1 a2 h2 = cc0_loss_sum (F := F) a1 h1 a2 h2 := rfl

/-- One table of bodies and regions. -/
theorem table_same {F : FTy → Type} [FloatOps F] : Cert.LossSum.defs (F := F) = defs (F := F) := by
  have h : Cert.LossSum.defs₀ (F := F) = defs₀ (F := F) := by
    unfold Cert.LossSum.defs₀ defs₀
    congr 1
    funext x
    match x with
    | (0 : Fin 1) =>
      funext y
      obtain ⟨t, s⟩ := y
      exact body_same _ _ _ _
  unfold Cert.LossSum.defs defs
  rw [h]
  rfl

/-- One program. -/
theorem main_same {F : FTy → Type} [FloatOps F] : Cert.LossSum.main (F := F) = main (F := F) := rfl

theorem frame_kernel : Cert.quiescent_LossSum := fun m ρ _ => by
  rw [table_same, main_same]; exact frame m ρ

theorem frame_ideal : Cert.quiescent_LossSumIdeal := fun m ρ _ => frame m ρ

theorem frame_reference : Cert.quiescent_LossSumReferenceIdeal := fun m ρ _ =>
  (θ_run Cert.LossSumReferenceIdeal.defs _ _).mono (fun r h => ⟨fun c => (h c).2, sem_eq_zero_of_no_sems (by decide) r.2⟩)
    (Cert.LossSumReferenceIdeal.Value.run (F := Ideal) m ρ)

/-- The results are the reference's. -/
theorem values : Cert.algebraic_LossSumIdeal_LossSumReferenceIdeal := by
  intro m g m' g' _ hagree
  refine ⟨_, Value.run m g,
    (θ_run Cert.LossSumReferenceIdeal.defs _ _).mono (fun r h c => ⟨(h c).1.trans ?_, (h c).2⟩) (Cert.LossSumReferenceIdeal.Value.run (F := Ideal) m' g')⟩
  have e0 := hagree c
  rw [e0]
  funext i
  obtain ⟨a, b, rfl⟩ : ∃ (a : Fin 8) (b : Fin 2048), i = ix2 a b := ⟨i 0, i 1, eq_ix2 i⟩
  refine Eq.trans ?_ (total _ a b).symm
  pointwise

end Cert.Proof.LossSum

end
-- ==== Proof.lean ====
/-
  The claims, from the modules: the runs of the kernel and of its idealization, the reference's run, and the values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Finite
public import proofs.«01_k».proof.Proof.Equal
public import proofs.«01_k».proof.Proof.DownDx
public import proofs.«01_k».proof.Proof.DownDw
public import proofs.«01_k».proof.Proof.UpDx
public import proofs.«01_k».proof.Proof.UpDw
public import proofs.«01_k».proof.Proof.Up
public import proofs.«01_k».proof.Proof.OutDx
public import proofs.«01_k».proof.Proof.OutDw
public import proofs.«01_k».proof.Proof.ConvInDw
public import proofs.«01_k».proof.Proof.ConvInDx
public import proofs.«01_k».proof.Proof.FoxInDx
public import proofs.«01_k».proof.Proof.FoxIn
public import proofs.«01_k».proof.Proof.ConvIn
public import proofs.«01_k».proof.Proof.Down
public import proofs.«01_k».proof.Proof.FoxInDw
public import proofs.«01_k».proof.Proof.Out
public import proofs.«01_k».proof.Proof.Norm
public import proofs.«01_k».proof.Proof.ConvFwd
public import proofs.«01_k».proof.Proof.ConvBwd
public import proofs.«01_k».proof.Proof.NormBwd
public import proofs.«01_k».proof.Proof.LossBwd
public import proofs.«01_k».proof.Proof.GateDw
public import proofs.«01_k».proof.Proof.GateDx
public import proofs.«01_k».proof.Proof.NormBwdFirst
public import proofs.«01_k».proof.Proof.AdamwSmall
public import proofs.«01_k».proof.Proof.LossSum
public import Idealize.ShloMosaic.Adequacy
public import Idealize.ShloMosaic.Init

@[expose] public section

noncomputable section

namespace Cert.Proof

open Idealize.ShloMosaic Idealize.SL.Sem

section
open Cert.KernelIdeal Cert.KernelIdeal.Gen AttnBwd

/-- The kernel's run at any float values: the arguments as they were, every counter at zero. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end

theorem frame_ideal : Cert.quiescent_KernelIdeal := fun m ρ _ => frame_any m ρ

theorem frame_kernel : Cert.quiescent_Kernel := fun m ρ _ => run_same _ _ (frame_any m ρ)

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The precondition's side conditions. -/
theorem pre_facts : Cert.Pre_finite.Facts where
  bcast_S_S4096x6144 := by decide
  reducesTo_S4096x6144_S_d0_1 := by decide
  h_S_ := by decide
  bcast_S_S4096x16 := by decide
  reducesTo_S4096x16_S_d0_1 := by decide
  bcast_S_S4096x2048 := by decide
  reducesTo_S4096x2048_S_d0_1 := by decide
  bcast_S_S1 := by decide
  concatenates_S1_S1_S1_S3_d0 := by decide

instance : Cert.Pre_finite.Facts := pre_facts

theorem frame_ideal_finite : Cert.quiescent_KernelIdeal_pre_finite := fun m ρ _ => frame_any m ρ

theorem frame_reference_finite : Cert.quiescent_ReferenceIdeal_pre_finite := fun m ρ _ => frame_reference m ρ trivial

section
open Cert.KernelIdeal Cert.KernelIdeal.Gen AttnBwd

/-- Arguments the precondition holds of are real arrays. -/
theorem reals (m : (ℓ : Loc nD τ sig) → Buf (Elt Ideal) ℓ) (h : Cert.Pre_KernelIdeal_finite m) (c : Dev nD) :
    AttnRef.Are (m ((c.tc : Thread nD τ).loc main_arg0)) (m ((c.tc : Thread nD τ).loc main_arg1)) (m ((c.tc : Thread nD τ).loc main_arg2))
      (fun n j => ((m ((c.tc : Thread nD τ).loc main_arg0) : S4096x6144.Idx → EReal) (ix2 n j)).toReal)
      (fun n j => ((m ((c.tc : Thread nD τ).loc main_arg1) : S4096x16.Idx → EReal) (ix2 n j)).toReal)
      (fun n j => ((m ((c.tc : Thread nD τ).loc main_arg2) : S4096x2048.Idx → EReal) (ix2 n j)).toReal) where
  h0 n j := AttnFinite.real_0 (h c) (ix2 n j)
  h1 n j := AttnFinite.real_1 (h c) (ix2 n j)
  h2 n j := AttnFinite.real_2 (h c) (ix2 n j)

/-- The ideal kernel's run with its results: the three arrays after the run, the arguments as they were. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v52_0) = (dats m 0 c).arrAt 7 cfg0.N
      ∧ r.2.mem ((c.tc : Thread nD τ).loc main_v52_1) = (dats m 0 c).arrAt 8 cfg0.N
      ∧ r.2.mem ((c.tc : Thread nD τ).loc main_v52_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h.1.1.out_eq c 7, h.1.1.out_eq c 8, h.1.1.out_eq c 9, h.2.1 c⟩)
    (θ_run_and (run_main m ρ) (frame_any m ρ))

end

/-- From arguments with finite entries the kernel's results are the reference's. -/
theorem values : Cert.algebraic_KernelIdeal_ReferenceIdeal_pre_finite := by
  intro m g m' g' hpre hagree
  refine ⟨_, _, _, run_values m g, (θ_run Cert.ReferenceIdeal.defs _ _).mono (fun r h c => ?_) (Cert.ReferenceIdeal.Value.run (F := Ideal) m' g')⟩
  obtain ⟨e0, e1, e2⟩ := hagree c
  have R := reals m hpre c
  refine ⟨(h c).1.trans ?_, (h c).2.1.trans ?_, (h c).2.2.1.trans ?_, (h c).2.2.2⟩
  · rw [AttnRef.out_0, e0, e1, e2]; exact (AttnBwd.equal_0 m c R).symm
  · rw [AttnRef.out_1, e0, e1, e2]; exact (AttnBwd.equal_1 m c R).symm
  · rw [AttnRef.out_2, e0, e1, e2]; exact (AttnBwd.equal_2 m c R).symm

theorem claim : Cert.Claim := ⟨
  Cert.Kernel.Gen.facts, Cert.KernelIdeal.Gen.facts, Cert.ReferenceIdeal.Gen.facts, Cert.DownDx.Gen.facts,
  Cert.DownDxIdeal.Gen.facts, Cert.DownDxReferenceIdeal.Gen.facts, Cert.DownDw.Gen.facts, Cert.DownDwIdeal.Gen.facts,
  Cert.DownDwReferenceIdeal.Gen.facts, Cert.UpDx.Gen.facts, Cert.UpDxIdeal.Gen.facts,
  Cert.UpDxReferenceIdeal.Gen.facts, Cert.UpDw.Gen.facts, Cert.UpDwIdeal.Gen.facts, Cert.UpDwReferenceIdeal.Gen.facts,
  Cert.Up.Gen.facts, Cert.UpIdeal.Gen.facts, Cert.UpReferenceIdeal.Gen.facts, Cert.OutDx.Gen.facts,
  Cert.OutDxIdeal.Gen.facts, Cert.OutDxReferenceIdeal.Gen.facts, Cert.OutDw.Gen.facts, Cert.OutDwIdeal.Gen.facts,
  Cert.OutDwReferenceIdeal.Gen.facts, Cert.ConvInDw.Gen.facts, Cert.ConvInDwIdeal.Gen.facts,
  Cert.ConvInDwReferenceIdeal.Gen.facts, Cert.ConvInDx.Gen.facts, Cert.ConvInDxIdeal.Gen.facts,
  Cert.ConvInDxReferenceIdeal.Gen.facts, Cert.FoxInDx.Gen.facts, Cert.FoxInDxIdeal.Gen.facts,
  Cert.FoxInDxReferenceIdeal.Gen.facts, Cert.FoxIn.Gen.facts, Cert.FoxInIdeal.Gen.facts,
  Cert.FoxInReferenceIdeal.Gen.facts, Cert.ConvIn.Gen.facts, Cert.ConvInIdeal.Gen.facts,
  Cert.ConvInReferenceIdeal.Gen.facts, Cert.Down.Gen.facts, Cert.DownIdeal.Gen.facts,
  Cert.DownReferenceIdeal.Gen.facts, Cert.FoxInDw.Gen.facts, Cert.FoxInDwIdeal.Gen.facts,
  Cert.FoxInDwReferenceIdeal.Gen.facts, Cert.Out.Gen.facts, Cert.OutIdeal.Gen.facts, Cert.OutReferenceIdeal.Gen.facts,
  Cert.Norm.Gen.facts, Cert.NormIdeal.Gen.facts, Cert.NormReferenceIdeal.Gen.facts, Cert.ConvFwd.Gen.facts,
  Cert.ConvFwdIdeal.Gen.facts, Cert.ConvFwdReferenceIdeal.Gen.facts, Cert.ConvBwd.Gen.facts,
  Cert.ConvBwdIdeal.Gen.facts, Cert.ConvBwdReferenceIdeal.Gen.facts, Cert.NormBwd.Gen.facts,
  Cert.NormBwdIdeal.Gen.facts, Cert.NormBwdReferenceIdeal.Gen.facts, Cert.LossBwd.Gen.facts,
  Cert.LossBwdIdeal.Gen.facts, Cert.LossBwdReferenceIdeal.Gen.facts, Cert.GateDw.Gen.facts, Cert.GateDwIdeal.Gen.facts,
  Cert.GateDwReferenceIdeal.Gen.facts, Cert.GateDx.Gen.facts, Cert.GateDxIdeal.Gen.facts,
  Cert.GateDxReferenceIdeal.Gen.facts, Cert.NormBwdFirst.Gen.facts, Cert.NormBwdFirstIdeal.Gen.facts,
  Cert.NormBwdFirstReferenceIdeal.Gen.facts, Cert.AdamwSmall.Gen.facts, Cert.AdamwSmallIdeal.Gen.facts,
  Cert.AdamwSmallReferenceIdeal.Gen.facts, Cert.LossSum.Gen.facts, Cert.LossSumIdeal.Gen.facts,
  Cert.LossSumReferenceIdeal.Gen.facts, pre_facts,
  frame_kernel, frame_ideal, frame_ideal_finite, frame_reference, frame_reference_finite, DownDx.frame_kernel,
  DownDx.frame_ideal, DownDx.frame_reference, DownDw.frame_kernel, DownDw.frame_ideal, DownDw.frame_reference,
  UpDx.frame_kernel, UpDx.frame_ideal, UpDx.frame_reference, UpDw.frame_kernel, UpDw.frame_ideal, UpDw.frame_reference,
  Up.frame_kernel, Up.frame_ideal, Up.frame_reference, OutDx.frame_kernel, OutDx.frame_ideal, OutDx.frame_reference,
  OutDw.frame_kernel, OutDw.frame_ideal, OutDw.frame_reference, ConvInDw.frame_kernel, ConvInDw.frame_ideal,
  ConvInDw.frame_reference, ConvInDx.frame_kernel, ConvInDx.frame_ideal, ConvInDx.frame_reference,
  FoxInDx.frame_kernel, FoxInDx.frame_ideal, FoxInDx.frame_reference, FoxIn.frame_kernel, FoxIn.frame_ideal,
  FoxIn.frame_reference, ConvIn.frame_kernel, ConvIn.frame_ideal, ConvIn.frame_reference, Down.frame_kernel,
  Down.frame_ideal, Down.frame_reference, FoxInDw.frame_kernel, FoxInDw.frame_ideal, FoxInDw.frame_reference,
  Out.frame_kernel, Out.frame_ideal, Out.frame_reference, Norm.frame_kernel, Norm.frame_ideal, Norm.frame_reference,
  ConvFwd.frame_kernel, ConvFwd.frame_ideal, ConvFwd.frame_reference, ConvBwd.frame_kernel, ConvBwd.frame_ideal,
  ConvBwd.frame_reference, NormBwd.frame_kernel, NormBwd.frame_ideal, NormBwd.frame_reference, LossBwd.frame_kernel,
  LossBwd.frame_ideal, LossBwd.frame_reference, GateDw.frame_kernel, GateDw.frame_ideal, GateDw.frame_reference,
  GateDx.frame_kernel, GateDx.frame_ideal, GateDx.frame_reference, NormBwdFirst.frame_kernel, NormBwdFirst.frame_ideal,
  NormBwdFirst.frame_reference, AdamwSmall.frame_kernel, AdamwSmall.frame_ideal, AdamwSmall.frame_reference,
  LossSum.frame_kernel, LossSum.frame_ideal, LossSum.frame_reference,
  trivial, values, trivial, DownDx.values, trivial, DownDw.values, trivial, UpDx.values, trivial, UpDw.values, trivial,
  Up.values, trivial, OutDx.values, trivial, OutDw.values, trivial, ConvInDw.values, trivial, ConvInDx.values, trivial,
  FoxInDx.values, trivial, FoxIn.values, trivial, ConvIn.values, trivial, Down.values, trivial, FoxInDw.values,
  trivial, Out.values, trivial, Norm.values, trivial, ConvFwd.values, trivial, ConvBwd.values, trivial, NormBwd.values,
  trivial, LossBwd.values, trivial, GateDw.values, trivial, GateDx.values, trivial, NormBwdFirst.values, trivial,
  AdamwSmall.values, trivial, LossSum.values⟩

end Cert.Proof

end
